-- ==== Defs.lean ====
def Pre_CmpProject [hPre_pages_in_range : Cert.Pre_pages_in_range.Facts] (m : (ℓ : Loc Cert.CmpProject.nD Cert.CmpProject.τ Cert.CmpProject.sig) → Buf (Elt Bits) ℓ) : Prop :=
  ∀ c : Dev Cert.CmpProject.nD,
    (Cert.Pre_pages_in_range.fn (F := Bits) (m ((c.tc : Thread Cert.CmpProject.nD Cert.CmpProject.τ).loc Cert.CmpProject.main_arg0)) (m ((c.tc : Thread Cert.CmpProject.nD Cert.CmpProject.τ).loc Cert.CmpProject.main_arg1)) (m ((c.tc : Thread Cert.CmpProject.nD Cert.CmpProject.τ).loc Cert.CmpProject.main_arg2))) = (fun _ => 1#1)

def Pre_CmpProjectIdeal [hPre_pages_in_range : Cert.Pre_pages_in_range.Facts] (m : (ℓ : Loc Cert.CmpProjectIdeal.nD Cert.CmpProjectIdeal.τ Cert.CmpProjectIdeal.sig) → Buf (Elt Ideal) ℓ) : Prop :=
  ∀ c : Dev Cert.CmpProjectIdeal.nD,
    (Cert.Pre_pages_in_range.fn (F := Ideal) (m ((c.tc : Thread Cert.CmpProjectIdeal.nD Cert.CmpProjectIdeal.τ).loc Cert.CmpProjectIdeal.main_arg0)) (m ((c.tc : Thread Cert.CmpProjectIdeal.nD Cert.CmpProjectIdeal.τ).loc Cert.CmpProjectIdeal.main_arg1)) (m ((c.tc : Thread Cert.CmpProjectIdeal.nD Cert.CmpProjectIdeal.τ).loc Cert.CmpProjectIdeal.main_arg2))) = (fun _ => 1#1)

def Pre_CmpProjectRefIdeal [hPre_pages_in_range : Cert.Pre_pages_in_range.Facts] (m : (ℓ : Loc Cert.CmpProjectRefIdeal.nD Cert.CmpProjectRefIdeal.τ Cert.CmpProjectRefIdeal.sig) → Buf (Elt Ideal) ℓ) : Prop :=
  ∀ c : Dev Cert.CmpProjectRefIdeal.nD,
    (Cert.Pre_pages_in_range.fn (F := Ideal) (m ((c.tc : Thread Cert.CmpProjectRefIdeal.nD Cert.CmpProjectRefIdeal.τ).loc Cert.CmpProjectRefIdeal.main_arg0)) (m ((c.tc : Thread Cert.CmpProjectRefIdeal.nD Cert.CmpProjectRefIdeal.τ).loc Cert.CmpProjectRefIdeal.main_arg1)) (m ((c.tc : Thread Cert.CmpProjectRefIdeal.nD Cert.CmpProjectRefIdeal.τ).loc Cert.CmpProjectRefIdeal.main_arg2))) = (fun _ => 1#1)

def Pre_MlpUp (m : (ℓ : Loc Cert.MlpUp.nD Cert.MlpUp.τ Cert.MlpUp.sig) → Buf (Elt Bits) ℓ) : Prop :=
  True

def Pre_MlpUpIdeal (m : (ℓ : Loc Cert.MlpUpIdeal.nD Cert.MlpUpIdeal.τ Cert.MlpUpIdeal.sig) → Buf (Elt Ideal) ℓ) : Prop :=
  True

def Pre_MlpUpRefIdeal (m : (ℓ : Loc Cert.MlpUpRefIdeal.nD Cert.MlpUpRefIdeal.τ Cert.MlpUpRefIdeal.sig) → Buf (Elt Ideal) ℓ) : Prop :=
  True

def Pre_MlpDown (m : (ℓ : Loc Cert.MlpDown.nD Cert.MlpDown.τ Cert.MlpDown.sig) → Buf (Elt Bits) ℓ) : Prop :=
  True

def Pre_MlpDownIdeal (m : (ℓ : Loc Cert.MlpDownIdeal.nD Cert.MlpDownIdeal.τ Cert.MlpDownIdeal.sig) → Buf (Elt Ideal) ℓ) : Prop :=
  True

def Pre_MlpDownRefIdeal (m : (ℓ : Loc Cert.MlpDownRefIdeal.nD Cert.MlpDownRefIdeal.τ Cert.MlpDownRefIdeal.sig) → Buf (Elt Ideal) ℓ) : Prop :=
  True

def Pre_MlpDownFin (m : (ℓ : Loc Cert.MlpDownFin.nD Cert.MlpDownFin.τ Cert.MlpDownFin.sig) → Buf (Elt Bits) ℓ) : Prop :=
  True

def Pre_MlpDownFinIdeal (m : (ℓ : Loc Cert.MlpDownFinIdeal.nD Cert.MlpDownFinIdeal.τ Cert.MlpDownFinIdeal.sig) → Buf (Elt Ideal) ℓ) : Prop :=
  True

def Pre_MlpDownFinRefIdeal (m : (ℓ : Loc Cert.MlpDownFinRefIdeal.nD Cert.MlpDownFinRefIdeal.τ Cert.MlpDownFinRefIdeal.sig) → Buf (Elt Ideal) ℓ) : Prop :=
  True

def Pre_MlpDownFinS (m : (ℓ : Loc Cert.MlpDownFinS.nD Cert.MlpDownFinS.τ Cert.MlpDownFinS.sig) → Buf (Elt Bits) ℓ) : Prop :=
  True

def Pre_MlpDownFinSIdeal (m : (ℓ : Loc Cert.MlpDownFinSIdeal.nD Cert.MlpDownFinSIdeal.τ Cert.MlpDownFinSIdeal.sig) → Buf (Elt Ideal) ℓ) : Prop :=
  True

def Pre_MlpDownFinSRefIdeal (m : (ℓ : Loc Cert.MlpDownFinSRefIdeal.nD Cert.MlpDownFinSRefIdeal.τ Cert.MlpDownFinSRefIdeal.sig) → Buf (Elt Ideal) ℓ) : Prop :=
  True

def Pre_SsmIn (m : (ℓ : Loc Cert.SsmIn.nD Cert.SsmIn.τ Cert.SsmIn.sig) → Buf (Elt Bits) ℓ) : Prop :=
  True

def Pre_SsmInIdeal (m : (ℓ : Loc Cert.SsmInIdeal.nD Cert.SsmInIdeal.τ Cert.SsmInIdeal.sig) → Buf (Elt Ideal) ℓ) : Prop :=
  True

def Pre_SsmInRefIdeal (m : (ℓ : Loc Cert.SsmInRefIdeal.nD Cert.SsmInRefIdeal.τ Cert.SsmInRefIdeal.sig) → Buf (Elt Ideal) ℓ) : Prop :=
  True

def Pre_SsmInS (m : (ℓ : Loc Cert.SsmInS.nD Cert.SsmInS.τ Cert.SsmInS.sig) → Buf (Elt Bits) ℓ) : Prop :=
  True

def Pre_SsmInSIdeal (m : (ℓ : Loc Cert.SsmInSIdeal.nD Cert.SsmInSIdeal.τ Cert.SsmInSIdeal.sig) → Buf (Elt Ideal) ℓ) : Prop :=
  True

def Pre_SsmInSRefIdeal (m : (ℓ : Loc Cert.SsmInSRefIdeal.nD Cert.SsmInSRefIdeal.τ Cert.SsmInSRefIdeal.sig) → Buf (Elt Ideal) ℓ) : Prop :=
  True

def Pre_SsmOut (m : (ℓ : Loc Cert.SsmOut.nD Cert.SsmOut.τ Cert.SsmOut.sig) → Buf (Elt Bits) ℓ) : Prop :=
  True

def Pre_SsmOutIdeal (m : (ℓ : Loc Cert.SsmOutIdeal.nD Cert.SsmOutIdeal.τ Cert.SsmOutIdeal.sig) → Buf (Elt Ideal) ℓ) : Prop :=
  True

def Pre_SsmOutRefIdeal (m : (ℓ : Loc Cert.SsmOutRefIdeal.nD Cert.SsmOutRefIdeal.τ Cert.SsmOutRefIdeal.sig) → Buf (Elt Ideal) ℓ) : Prop :=
  True

def Pre_AttIn (m : (ℓ : Loc Cert.AttIn.nD Cert.AttIn.τ Cert.AttIn.sig) → Buf (Elt Bits) ℓ) : Prop :=
  True

def Pre_AttInIdeal (m : (ℓ : Loc Cert.AttInIdeal.nD Cert.AttInIdeal.τ Cert.AttInIdeal.sig) → Buf (Elt Ideal) ℓ) : Prop :=
  True

def Pre_AttInRefIdeal (m : (ℓ : Loc Cert.AttInRefIdeal.nD Cert.AttInRefIdeal.τ Cert.AttInRefIdeal.sig) → Buf (Elt Ideal) ℓ) : Prop :=
  True

def Pre_AttInS (m : (ℓ : Loc Cert.AttInS.nD Cert.AttInS.τ Cert.AttInS.sig) → Buf (Elt Bits) ℓ) : Prop :=
  True

def Pre_AttInSIdeal (m : (ℓ : Loc Cert.AttInSIdeal.nD Cert.AttInSIdeal.τ Cert.AttInSIdeal.sig) → Buf (Elt Ideal) ℓ) : Prop :=
  True

def Pre_AttInSRefIdeal (m : (ℓ : Loc Cert.AttInSRefIdeal.nD Cert.AttInSRefIdeal.τ Cert.AttInSRefIdeal.sig) → Buf (Elt Ideal) ℓ) : Prop :=
  True

def Pre_AttOut (m : (ℓ : Loc Cert.AttOut.nD Cert.AttOut.τ Cert.AttOut.sig) → Buf (Elt Bits) ℓ) : Prop :=
  True

def Pre_AttOutIdeal (m : (ℓ : Loc Cert.AttOutIdeal.nD Cert.AttOutIdeal.τ Cert.AttOutIdeal.sig) → Buf (Elt Ideal) ℓ) : Prop :=
  True

def Pre_AttOutRefIdeal (m : (ℓ : Loc Cert.AttOutRefIdeal.nD Cert.AttOutRefIdeal.τ Cert.AttOutRefIdeal.sig) → Buf (Elt Ideal) ℓ) : Prop :=
  True

def Pre_KvS (m : (ℓ : Loc Cert.KvS.nD Cert.KvS.τ Cert.KvS.sig) → Buf (Elt Bits) ℓ) : Prop :=
  True

def Pre_KvSIdeal (m : (ℓ : Loc Cert.KvSIdeal.nD Cert.KvSIdeal.τ Cert.KvSIdeal.sig) → Buf (Elt Ideal) ℓ) : Prop :=
  True

def Pre_KvSRefIdeal (m : (ℓ : Loc Cert.KvSRefIdeal.nD Cert.KvSRefIdeal.τ Cert.KvSRefIdeal.sig) → Buf (Elt Ideal) ℓ) : Prop :=
  True

def Pre_CmpFinish (m : (ℓ : Loc Cert.CmpFinish.nD Cert.CmpFinish.τ Cert.CmpFinish.sig) → Buf (Elt Bits) ℓ) : Prop :=
  True

def Pre_CmpFinishIdeal (m : (ℓ : Loc Cert.CmpFinishIdeal.nD Cert.CmpFinishIdeal.τ Cert.CmpFinishIdeal.sig) → Buf (Elt Ideal) ℓ) : Prop :=
  True

def Pre_CmpFinishRefIdeal (m : (ℓ : Loc Cert.CmpFinishRefIdeal.nD Cert.CmpFinishRefIdeal.τ Cert.CmpFinishRefIdeal.sig) → Buf (Elt Ideal) ℓ) : Prop :=
  True

def Pre_SsdState [hPre_steps_finite : Cert.Pre_steps_finite.Facts] (m : (ℓ : Loc Cert.SsdState.nD Cert.SsdState.τ Cert.SsdState.sig) → Buf (Elt Bits) ℓ) : Prop :=
  ∀ c : Dev Cert.SsdState.nD,
    (Cert.Pre_steps_finite.fn (F := Bits) (m ((c.tc : Thread Cert.SsdState.nD Cert.SsdState.τ).loc Cert.SsdState.main_arg0)) (m ((c.tc : Thread Cert.SsdState.nD Cert.SsdState.τ).loc Cert.SsdState.main_arg1)) (m ((c.tc : Thread Cert.SsdState.nD Cert.SsdState.τ).loc Cert.SsdState.main_arg2)) (m ((c.tc : Thread Cert.SsdState.nD Cert.SsdState.τ).loc Cert.SsdState.main_arg3)) (m ((c.tc : Thread Cert.SsdState.nD Cert.SsdState.τ).loc Cert.SsdState.main_arg4)) (m ((c.tc : Thread Cert.SsdState.nD Cert.SsdState.τ).loc Cert.SsdState.main_arg5)) (m ((c.tc : Thread Cert.SsdState.nD Cert.SsdState.τ).loc Cert.SsdState.main_arg6)) (m ((c.tc : Thread Cert.SsdState.nD Cert.SsdState.τ).loc Cert.SsdState.main_arg7)) (m ((c.tc : Thread Cert.SsdState.nD Cert.SsdState.τ).loc Cert.SsdState.main_arg8))) = (fun _ => 1#1)

def Pre_SsdStateIdeal [hPre_steps_finite : Cert.Pre_steps_finite.Facts] (m : (ℓ : Loc Cert.SsdStateIdeal.nD Cert.SsdStateIdeal.τ Cert.SsdStateIdeal.sig) → Buf (Elt Ideal) ℓ) : Prop :=
  ∀ c : Dev Cert.SsdStateIdeal.nD,
    (Cert.Pre_steps_finite.fn (F := Ideal) (m ((c.tc : Thread Cert.SsdStateIdeal.nD Cert.SsdStateIdeal.τ).loc Cert.SsdStateIdeal.main_arg0)) (m ((c.tc : Thread Cert.SsdStateIdeal.nD Cert.SsdStateIdeal.τ).loc Cert.SsdStateIdeal.main_arg1)) (m ((c.tc : Thread Cert.SsdStateIdeal.nD Cert.SsdStateIdeal.τ).loc Cert.SsdStateIdeal.main_arg2)) (m ((c.tc : Thread Cert.SsdStateIdeal.nD Cert.SsdStateIdeal.τ).loc Cert.SsdStateIdeal.main_arg3)) (m ((c.tc : Thread Cert.SsdStateIdeal.nD Cert.SsdStateIdeal.τ).loc Cert.SsdStateIdeal.main_arg4)) (m ((c.tc : Thread Cert.SsdStateIdeal.nD Cert.SsdStateIdeal.τ).loc Cert.SsdStateIdeal.main_arg5)) (m ((c.tc : Thread Cert.SsdStateIdeal.nD Cert.SsdStateIdeal.τ).loc Cert.SsdStateIdeal.main_arg6)) (m ((c.tc : Thread Cert.SsdStateIdeal.nD Cert.SsdStateIdeal.τ).loc Cert.SsdStateIdeal.main_arg7)) (m ((c.tc : Thread Cert.SsdStateIdeal.nD Cert.SsdStateIdeal.τ).loc Cert.SsdStateIdeal.main_arg8))) = (fun _ => 1#1)

def Pre_SsdStateRefIdeal [hPre_steps_finite : Cert.Pre_steps_finite.Facts] (m : (ℓ : Loc Cert.SsdStateRefIdeal.nD Cert.SsdStateRefIdeal.τ Cert.SsdStateRefIdeal.sig) → Buf (Elt Ideal) ℓ) : Prop :=
  ∀ c : Dev Cert.SsdStateRefIdeal.nD,
    (Cert.Pre_steps_finite.fn (F := Ideal) (m ((c.tc : Thread Cert.SsdStateRefIdeal.nD Cert.SsdStateRefIdeal.τ).loc Cert.SsdStateRefIdeal.main_arg0)) (m ((c.tc : Thread Cert.SsdStateRefIdeal.nD Cert.SsdStateRefIdeal.τ).loc Cert.SsdStateRefIdeal.main_arg1)) (m ((c.tc : Thread Cert.SsdStateRefIdeal.nD Cert.SsdStateRefIdeal.τ).loc Cert.SsdStateRefIdeal.main_arg2)) (m ((c.tc : Thread Cert.SsdStateRefIdeal.nD Cert.SsdStateRefIdeal.τ).loc Cert.SsdStateRefIdeal.main_arg3)) (m ((c.tc : Thread Cert.SsdStateRefIdeal.nD Cert.SsdStateRefIdeal.τ).loc Cert.SsdStateRefIdeal.main_arg4)) (m ((c.tc : Thread Cert.SsdStateRefIdeal.nD Cert.SsdStateRefIdeal.τ).loc Cert.SsdStateRefIdeal.main_arg5)) (m ((c.tc : Thread Cert.SsdStateRefIdeal.nD Cert.SsdStateRefIdeal.τ).loc Cert.SsdStateRefIdeal.main_arg6)) (m ((c.tc : Thread Cert.SsdStateRefIdeal.nD Cert.SsdStateRefIdeal.τ).loc Cert.SsdStateRefIdeal.main_arg7)) (m ((c.tc : Thread Cert.SsdStateRefIdeal.nD Cert.SsdStateRefIdeal.τ).loc Cert.SsdStateRefIdeal.main_arg8))) = (fun _ => 1#1)

def quiescent_CmpProject [hCmpProject : Cert.CmpProject.Facts] [hPre_pages_in_range : Cert.Pre_pages_in_range.Facts] : Prop :=
  ∀ (m : (ℓ : Loc Cert.CmpProject.nD Cert.CmpProject.τ Cert.CmpProject.sig) → Buf (Elt Bits) ℓ) (g : Dev Cert.CmpProject.nD → PrngReg), Pre_CmpProject m →
    θ_run (Cert.CmpProject.defs (F := Bits)) (onTc (τ := Cert.CmpProject.τ) (Cert.CmpProject.main (F := Bits))) ⟨m, fun _ => 0, g⟩ (fun r => (∀ c : Dev Cert.CmpProject.nD,
      r.2.mem ((c.tc : Thread Cert.CmpProject.nD Cert.CmpProject.τ).loc Cert.CmpProject.main_arg0) = m ((c.tc : Thread Cert.CmpProject.nD Cert.CmpProject.τ).loc Cert.CmpProject.main_arg0)
      ∧ r.2.mem ((c.tc : Thread Cert.CmpProject.nD Cert.CmpProject.τ).loc Cert.CmpProject.main_arg1) = m ((c.tc : Thread Cert.CmpProject.nD Cert.CmpProject.τ).loc Cert.CmpProject.main_arg1)
      ∧ r.2.mem ((c.tc : Thread Cert.CmpProject.nD Cert.CmpProject.τ).loc Cert.CmpProject.main_arg2) = m ((c.tc : Thread Cert.CmpProject.nD Cert.CmpProject.τ).loc Cert.CmpProject.main_arg2))
      ∧ r.2.sem = fun _ => 0)

def quiescent_CmpProjectIdeal [hCmpProjectIdeal : Cert.CmpProjectIdeal.Facts] [hPre_pages_in_range : Cert.Pre_pages_in_range.Facts] : Prop :=
  ∀ (m : (ℓ : Loc Cert.CmpProjectIdeal.nD Cert.CmpProjectIdeal.τ Cert.CmpProjectIdeal.sig) → Buf (Elt Ideal) ℓ) (g : Dev Cert.CmpProjectIdeal.nD → PrngReg), Pre_CmpProjectIdeal m →
    θ_run (Cert.CmpProjectIdeal.defs (F := Ideal)) (onTc (τ := Cert.CmpProjectIdeal.τ) (Cert.CmpProjectIdeal.main (F := Ideal))) ⟨m, fun _ => 0, g⟩ (fun r => (∀ c : Dev Cert.CmpProjectIdeal.nD,
      r.2.mem ((c.tc : Thread Cert.CmpProjectIdeal.nD Cert.CmpProjectIdeal.τ).loc Cert.CmpProjectIdeal.main_arg0) = m ((c.tc : Thread Cert.CmpProjectIdeal.nD Cert.CmpProjectIdeal.τ).loc Cert.CmpProjectIdeal.main_arg0)
      ∧ r.2.mem ((c.tc : Thread Cert.CmpProjectIdeal.nD Cert.CmpProjectIdeal.τ).loc Cert.CmpProjectIdeal.main_arg1) = m ((c.tc : Thread Cert.CmpProjectIdeal.nD Cert.CmpProjectIdeal.τ).loc Cert.CmpProjectIdeal.main_arg1)
      ∧ r.2.mem ((c.tc : Thread Cert.CmpProjectIdeal.nD Cert.CmpProjectIdeal.τ).loc Cert.CmpProjectIdeal.main_arg2) = m ((c.tc : Thread Cert.CmpProjectIdeal.nD Cert.CmpProjectIdeal.τ).loc Cert.CmpProjectIdeal.main_arg2))
      ∧ r.2.sem = fun _ => 0)

def quiescent_CmpProjectRefIdeal [hCmpProjectRefIdeal : Cert.CmpProjectRefIdeal.Facts] [hPre_pages_in_range : Cert.Pre_pages_in_range.Facts] : Prop :=
  ∀ (m : (ℓ : Loc Cert.CmpProjectRefIdeal.nD Cert.CmpProjectRefIdeal.τ Cert.CmpProjectRefIdeal.sig) → Buf (Elt Ideal) ℓ) (g : Dev Cert.CmpProjectRefIdeal.nD → PrngReg), Pre_CmpProjectRefIdeal m →
    θ_run (Cert.CmpProjectRefIdeal.defs (F := Ideal)) (onTc (τ := Cert.CmpProjectRefIdeal.τ) (Cert.CmpProjectRefIdeal.main (F := Ideal))) ⟨m, fun _ => 0, g⟩ (fun r => (∀ c : Dev Cert.CmpProjectRefIdeal.nD,
      r.2.mem ((c.tc : Thread Cert.CmpProjectRefIdeal.nD Cert.CmpProjectRefIdeal.τ).loc Cert.CmpProjectRefIdeal.main_arg0) = m ((c.tc : Thread Cert.CmpProjectRefIdeal.nD Cert.CmpProjectRefIdeal.τ).loc Cert.CmpProjectRefIdeal.main_arg0)
      ∧ r.2.mem ((c.tc : Thread Cert.CmpProjectRefIdeal.nD Cert.CmpProjectRefIdeal.τ).loc Cert.CmpProjectRefIdeal.main_arg1) = m ((c.tc : Thread Cert.CmpProjectRefIdeal.nD Cert.CmpProjectRefIdeal.τ).loc Cert.CmpProjectRefIdeal.main_arg1)
      ∧ r.2.mem ((c.tc : Thread Cert.CmpProjectRefIdeal.nD Cert.CmpProjectRefIdeal.τ).loc Cert.CmpProjectRefIdeal.main_arg2) = m ((c.tc : Thread Cert.CmpProjectRefIdeal.nD Cert.CmpProjectRefIdeal.τ).loc Cert.CmpProjectRefIdeal.main_arg2))
      ∧ r.2.sem = fun _ => 0)

def quiescent_MlpUp [hMlpUp : Cert.MlpUp.Facts] : Prop :=
  ∀ (m : (ℓ : Loc Cert.MlpUp.nD Cert.MlpUp.τ Cert.MlpUp.sig) → Buf (Elt Bits) ℓ) (g : Dev Cert.MlpUp.nD → PrngReg), Pre_MlpUp m →
    θ_run (Cert.MlpUp.defs (F := Bits)) (onTc (τ := Cert.MlpUp.τ) (Cert.MlpUp.main (F := Bits))) ⟨m, fun _ => 0, g⟩ (fun r => (∀ c : Dev Cert.MlpUp.nD,
      r.2.mem ((c.tc : Thread Cert.MlpUp.nD Cert.MlpUp.τ).loc Cert.MlpUp.main_arg0) = m ((c.tc : Thread Cert.MlpUp.nD Cert.MlpUp.τ).loc Cert.MlpUp.main_arg0)
      ∧ r.2.mem ((c.tc : Thread Cert.MlpUp.nD Cert.MlpUp.τ).loc Cert.MlpUp.main_arg1) = m ((c.tc : Thread Cert.MlpUp.nD Cert.MlpUp.τ).loc Cert.MlpUp.main_arg1)
      ∧ r.2.mem ((c.tc : Thread Cert.MlpUp.nD Cert.MlpUp.τ).loc Cert.MlpUp.main_arg2) = m ((c.tc : Thread Cert.MlpUp.nD Cert.MlpUp.τ).loc Cert.MlpUp.main_arg2))
      ∧ r.2.sem = fun _ => 0)

def quiescent_MlpUpIdeal [hMlpUpIdeal : Cert.MlpUpIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg), Pre_MlpUpIdeal m →
    θ_run (Cert.MlpUpIdeal.defs (F := Ideal)) (onTc (τ := Cert.MlpUpIdeal.τ) (Cert.MlpUpIdeal.main (F := Ideal))) ⟨m, fun _ => 0, g⟩ (fun r => (∀ c : Dev Cert.MlpUpIdeal.nD,
      r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
      ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1)
      ∧ r.2.mem ((c.tc : Thread Cert.MlpUpIdeal.nD Cert.MlpUpIdeal.τ).loc Cert.MlpUpIdeal.main_arg2) = m ((c.tc : Thread Cert.MlpUpIdeal.nD Cert.MlpUpIdeal.τ).loc Cert.MlpUpIdeal.main_arg2))
      ∧ r.2.sem = fun _ => 0)

def quiescent_MlpUpRefIdeal [hMlpUpRefIdeal : Cert.MlpUpRefIdeal.Facts] : Prop :=
  ∀ (m : (ℓ : Loc Cert.MlpUpRefIdeal.nD Cert.MlpUpRefIdeal.τ Cert.MlpUpRefIdeal.sig) → Buf (Elt Ideal) ℓ) (g : Dev Cert.MlpUpRefIdeal.nD → PrngReg), Pre_MlpUpRefIdeal m →
    θ_run (Cert.MlpUpRefIdeal.defs (F := Ideal)) (onTc (τ := Cert.MlpUpRefIdeal.τ) (Cert.MlpUpRefIdeal.main (F := Ideal))) ⟨m, fun _ => 0, g⟩ (fun r => (∀ c : Dev Cert.MlpUpRefIdeal.nD,
      r.2.mem ((c.tc : Thread Cert.MlpUpRefIdeal.nD Cert.MlpUpRefIdeal.τ).loc Cert.MlpUpRefIdeal.main_arg0) = m ((c.tc : Thread Cert.MlpUpRefIdeal.nD Cert.MlpUpRefIdeal.τ).loc Cert.MlpUpRefIdeal.main_arg0)
      ∧ r.2.mem ((c.tc : Thread Cert.MlpUpRefIdeal.nD Cert.MlpUpRefIdeal.τ).loc Cert.MlpUpRefIdeal.main_arg1) = m ((c.tc : Thread Cert.MlpUpRefIdeal.nD Cert.MlpUpRefIdeal.τ).loc Cert.MlpUpRefIdeal.main_arg1)
      ∧ r.2.mem ((c.tc : Thread Cert.MlpUpRefIdeal.nD Cert.MlpUpRefIdeal.τ).loc Cert.MlpUpRefIdeal.main_arg2) = m ((c.tc : Thread Cert.MlpUpRefIdeal.nD Cert.MlpUpRefIdeal.τ).loc Cert.MlpUpRefIdeal.main_arg2))
      ∧ r.2.sem = fun _ => 0)

def quiescent_MlpDown [hMlpDown : Cert.MlpDown.Facts] : Prop :=
  ∀ (m : (ℓ : Loc Cert.MlpDown.nD Cert.MlpDown.τ Cert.MlpDown.sig) → Buf (Elt Bits) ℓ) (g : Dev Cert.MlpDown.nD → PrngReg), Pre_MlpDown m →
    θ_run (Cert.MlpDown.defs (F := Bits)) (onTc (τ := Cert.MlpDown.τ) (Cert.MlpDown.main (F := Bits))) ⟨m, fun _ => 0, g⟩ (fun r => (∀ c : Dev Cert.MlpDown.nD,
      r.2.mem ((c.tc : Thread Cert.MlpDown.nD Cert.MlpDown.τ).loc Cert.MlpDown.main_arg0) = m ((c.tc : Thread Cert.MlpDown.nD Cert.MlpDown.τ).loc Cert.MlpDown.main_arg0)
      ∧ r.2.mem ((c.tc : Thread Cert.MlpDown.nD Cert.MlpDown.τ).loc Cert.MlpDown.main_arg1) = m ((c.tc : Thread Cert.MlpDown.nD Cert.MlpDown.τ).loc Cert.MlpDown.main_arg1)
      ∧ r.2.mem ((c.tc : Thread Cert.MlpDown.nD Cert.MlpDown.τ).loc Cert.MlpDown.main_arg2) = m ((c.tc : Thread Cert.MlpDown.nD Cert.MlpDown.τ).loc Cert.MlpDown.main_arg2))
      ∧ r.2.sem = fun _ => 0)

def quiescent_MlpDownIdeal [hMlpDownIdeal : Cert.MlpDownIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg), Pre_MlpDownIdeal m →
    θ_run (Cert.MlpDownIdeal.defs (F := Ideal)) (onTc (τ := Cert.MlpDownIdeal.τ) (Cert.MlpDownIdeal.main (F := Ideal))) ⟨m, fun _ => 0, g⟩ (fun r => (∀ c : Dev Cert.MlpDownIdeal.nD,
      r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
      ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
      ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2))
      ∧ r.2.sem = fun _ => 0)

def quiescent_MlpDownRefIdeal [hMlpDownRefIdeal : Cert.MlpDownRefIdeal.Facts] : Prop :=
  ∀ (m : (ℓ : Loc Cert.MlpDownRefIdeal.nD Cert.MlpDownRefIdeal.τ Cert.MlpDownRefIdeal.sig) → Buf (Elt Ideal) ℓ) (g : Dev Cert.MlpDownRefIdeal.nD → PrngReg), Pre_MlpDownRefIdeal m →
    θ_run (Cert.MlpDownRefIdeal.defs (F := Ideal)) (onTc (τ := Cert.MlpDownRefIdeal.τ) (Cert.MlpDownRefIdeal.main (F := Ideal))) ⟨m, fun _ => 0, g⟩ (fun r => (∀ c : Dev Cert.MlpDownRefIdeal.nD,
      r.2.mem ((c.tc : Thread Cert.MlpDownRefIdeal.nD Cert.MlpDownRefIdeal.τ).loc Cert.MlpDownRefIdeal.main_arg0) = m ((c.tc : Thread Cert.MlpDownRefIdeal.nD Cert.MlpDownRefIdeal.τ).loc Cert.MlpDownRefIdeal.main_arg0)
      ∧ r.2.mem ((c.tc : Thread Cert.MlpDownRefIdeal.nD Cert.MlpDownRefIdeal.τ).loc Cert.MlpDownRefIdeal.main_arg1) = m ((c.tc : Thread Cert.MlpDownRefIdeal.nD Cert.MlpDownRefIdeal.τ).loc Cert.MlpDownRefIdeal.main_arg1)
      ∧ r.2.mem ((c.tc : Thread Cert.MlpDownRefIdeal.nD Cert.MlpDownRefIdeal.τ).loc Cert.MlpDownRefIdeal.main_arg2) = m ((c.tc : Thread Cert.MlpDownRefIdeal.nD Cert.MlpDownRefIdeal.τ).loc Cert.MlpDownRefIdeal.main_arg2))
      ∧ r.2.sem = fun _ => 0)

def quiescent_MlpDownFin [hMlpDownFin : Cert.MlpDownFin.Facts] : Prop :=
  ∀ (m : (ℓ : Loc Cert.MlpDownFin.nD Cert.MlpDownFin.τ Cert.MlpDownFin.sig) → Buf (Elt Bits) ℓ) (g : Dev Cert.MlpDownFin.nD → PrngReg), Pre_MlpDownFin m →
    θ_run (Cert.MlpDownFin.defs (F := Bits)) (onTc (τ := Cert.MlpDownFin.τ) (Cert.MlpDownFin.main (F := Bits))) ⟨m, fun _ => 0, g⟩ (fun r => (∀ c : Dev Cert.MlpDownFin.nD,
      r.2.mem ((c.tc : Thread Cert.MlpDownFin.nD Cert.MlpDownFin.τ).loc Cert.MlpDownFin.main_arg0) = m ((c.tc : Thread Cert.MlpDownFin.nD Cert.MlpDownFin.τ).loc Cert.MlpDownFin.main_arg0)
      ∧ r.2.mem ((c.tc : Thread Cert.MlpDownFin.nD Cert.MlpDownFin.τ).loc Cert.MlpDownFin.main_arg1) = m ((c.tc : Thread Cert.MlpDownFin.nD Cert.MlpDownFin.τ).loc Cert.MlpDownFin.main_arg1)
      ∧ r.2.mem ((c.tc : Thread Cert.MlpDownFin.nD Cert.MlpDownFin.τ).loc Cert.MlpDownFin.main_arg2) = m ((c.tc : Thread Cert.MlpDownFin.nD Cert.MlpDownFin.τ).loc Cert.MlpDownFin.main_arg2)
      ∧ r.2.mem ((c.tc : Thread Cert.MlpDownFin.nD Cert.MlpDownFin.τ).loc Cert.MlpDownFin.main_arg3) = m ((c.tc : Thread Cert.MlpDownFin.nD Cert.MlpDownFin.τ).loc Cert.MlpDownFin.main_arg3))
      ∧ r.2.sem = fun _ => 0)

def quiescent_MlpDownFinIdeal [hMlpDownFinIdeal : Cert.MlpDownFinIdeal.Facts] : Prop :=
  ∀ (m : (ℓ : Loc Cert.MlpDownFinIdeal.nD Cert.MlpDownFinIdeal.τ Cert.MlpDownFinIdeal.sig) → Buf (Elt Ideal) ℓ) (g : Dev Cert.MlpDownFinIdeal.nD → PrngReg), Pre_MlpDownFinIdeal m →
    θ_run (Cert.MlpDownFinIdeal.defs (F := Ideal)) (onTc (τ := Cert.MlpDownFinIdeal.τ) (Cert.MlpDownFinIdeal.main (F := Ideal))) ⟨m, fun _ => 0, g⟩ (fun r => (∀ c : Dev Cert.MlpDownFinIdeal.nD,
      r.2.mem ((c.tc : Thread Cert.MlpDownFinIdeal.nD Cert.MlpDownFinIdeal.τ).loc Cert.MlpDownFinIdeal.main_arg0) = m ((c.tc : Thread Cert.MlpDownFinIdeal.nD Cert.MlpDownFinIdeal.τ).loc Cert.MlpDownFinIdeal.main_arg0)
      ∧ r.2.mem ((c.tc : Thread Cert.MlpDownFinIdeal.nD Cert.MlpDownFinIdeal.τ).loc Cert.MlpDownFinIdeal.main_arg1) = m ((c.tc : Thread Cert.MlpDownFinIdeal.nD Cert.MlpDownFinIdeal.τ).loc Cert.MlpDownFinIdeal.main_arg1)
      ∧ r.2.mem ((c.tc : Thread Cert.MlpDownFinIdeal.nD Cert.MlpDownFinIdeal.τ).loc Cert.MlpDownFinIdeal.main_arg2) = m ((c.tc : Thread Cert.MlpDownFinIdeal.nD Cert.MlpDownFinIdeal.τ).loc Cert.MlpDownFinIdeal.main_arg2)
      ∧ r.2.mem ((c.tc : Thread Cert.MlpDownFinIdeal.nD Cert.MlpDownFinIdeal.τ).loc Cert.MlpDownFinIdeal.main_arg3) = m ((c.tc : Thread Cert.MlpDownFinIdeal.nD Cert.MlpDownFinIdeal.τ).loc Cert.MlpDownFinIdeal.main_arg3))
      ∧ r.2.sem = fun _ => 0)

def quiescent_MlpDownFinRefIdeal [hMlpDownFinRefIdeal : Cert.MlpDownFinRefIdeal.Facts] : Prop :=
  ∀ (m : (ℓ : Loc Cert.MlpDownFinRefIdeal.nD Cert.MlpDownFinRefIdeal.τ Cert.MlpDownFinRefIdeal.sig) → Buf (Elt Ideal) ℓ) (g : Dev Cert.MlpDownFinRefIdeal.nD → PrngReg), Pre_MlpDownFinRefIdeal m →
    θ_run (Cert.MlpDownFinRefIdeal.defs (F := Ideal)) (onTc (τ := Cert.MlpDownFinRefIdeal.τ) (Cert.MlpDownFinRefIdeal.main (F := Ideal))) ⟨m, fun _ => 0, g⟩ (fun r => (∀ c : Dev Cert.MlpDownFinRefIdeal.nD,
      r.2.mem ((c.tc : Thread Cert.MlpDownFinRefIdeal.nD Cert.MlpDownFinRefIdeal.τ).loc Cert.MlpDownFinRefIdeal.main_arg0) = m ((c.tc : Thread Cert.MlpDownFinRefIdeal.nD Cert.MlpDownFinRefIdeal.τ).loc Cert.MlpDownFinRefIdeal.main_arg0)
      ∧ r.2.mem ((c.tc : Thread Cert.MlpDownFinRefIdeal.nD Cert.MlpDownFinRefIdeal.τ).loc Cert.MlpDownFinRefIdeal.main_arg1) = m ((c.tc : Thread Cert.MlpDownFinRefIdeal.nD Cert.MlpDownFinRefIdeal.τ).loc Cert.MlpDownFinRefIdeal.main_arg1)
      ∧ r.2.mem ((c.tc : Thread Cert.MlpDownFinRefIdeal.nD Cert.MlpDownFinRefIdeal.τ).loc Cert.MlpDownFinRefIdeal.main_arg2) = m ((c.tc : Thread Cert.MlpDownFinRefIdeal.nD Cert.MlpDownFinRefIdeal.τ).loc Cert.MlpDownFinRefIdeal.main_arg2)
      ∧ r.2.mem ((c.tc : Thread Cert.MlpDownFinRefIdeal.nD Cert.MlpDownFinRefIdeal.τ).loc Cert.MlpDownFinRefIdeal.main_arg3) = m ((c.tc : Thread Cert.MlpDownFinRefIdeal.nD Cert.MlpDownFinRefIdeal.τ).loc Cert.MlpDownFinRefIdeal.main_arg3))
      ∧ r.2.sem = fun _ => 0)

def quiescent_MlpDownFinS [hMlpDownFinS : Cert.MlpDownFinS.Facts] : Prop :=
  ∀ (m : (ℓ : Loc Cert.MlpDownFinS.nD Cert.MlpDownFinS.τ Cert.MlpDownFinS.sig) → Buf (Elt Bits) ℓ) (g : Dev Cert.MlpDownFinS.nD → PrngReg), Pre_MlpDownFinS m →
    θ_run (Cert.MlpDownFinS.defs (F := Bits)) (onTc (τ := Cert.MlpDownFinS.τ) (Cert.MlpDownFinS.main (F := Bits))) ⟨m, fun _ => 0, g⟩ (fun r => (∀ c : Dev Cert.MlpDownFinS.nD,
      r.2.mem ((c.tc : Thread Cert.MlpDownFinS.nD Cert.MlpDownFinS.τ).loc Cert.MlpDownFinS.main_arg0) = m ((c.tc : Thread Cert.MlpDownFinS.nD Cert.MlpDownFinS.τ).loc Cert.MlpDownFinS.main_arg0)
      ∧ r.2.mem ((c.tc : Thread Cert.MlpDownFinS.nD Cert.MlpDownFinS.τ).loc Cert.MlpDownFinS.main_arg1) = m ((c.tc : Thread Cert.MlpDownFinS.nD Cert.MlpDownFinS.τ).loc Cert.MlpDownFinS.main_arg1)
      ∧ r.2.mem ((c.tc : Thread Cert.MlpDownFinS.nD Cert.MlpDownFinS.τ).loc Cert.MlpDownFinS.main_arg2) = m ((c.tc : Thread Cert.MlpDownFinS.nD Cert.MlpDownFinS.τ).loc Cert.MlpDownFinS.main_arg2)
      ∧ r.2.mem ((c.tc : Thread Cert.MlpDownFinS.nD Cert.MlpDownFinS.τ).loc Cert.MlpDownFinS.main_arg3) = m ((c.tc : Thread Cert.MlpDownFinS.nD Cert.MlpDownFinS.τ).loc Cert.MlpDownFinS.main_arg3))
      ∧ r.2.sem = fun _ => 0)

def quiescent_MlpDownFinSIdeal [hMlpDownFinSIdeal : Cert.MlpDownFinSIdeal.Facts] : Prop :=
  ∀ (m : (ℓ : Loc Cert.MlpDownFinSIdeal.nD Cert.MlpDownFinSIdeal.τ Cert.MlpDownFinSIdeal.sig) → Buf (Elt Ideal) ℓ) (g : Dev Cert.MlpDownFinSIdeal.nD → PrngReg), Pre_MlpDownFinSIdeal m →
    θ_run (Cert.MlpDownFinSIdeal.defs (F := Ideal)) (onTc (τ := Cert.MlpDownFinSIdeal.τ) (Cert.MlpDownFinSIdeal.main (F := Ideal))) ⟨m, fun _ => 0, g⟩ (fun r => (∀ c : Dev Cert.MlpDownFinSIdeal.nD,
      r.2.mem ((c.tc : Thread Cert.MlpDownFinSIdeal.nD Cert.MlpDownFinSIdeal.τ).loc Cert.MlpDownFinSIdeal.main_arg0) = m ((c.tc : Thread Cert.MlpDownFinSIdeal.nD Cert.MlpDownFinSIdeal.τ).loc Cert.MlpDownFinSIdeal.main_arg0)
      ∧ r.2.mem ((c.tc : Thread Cert.MlpDownFinSIdeal.nD Cert.MlpDownFinSIdeal.τ).loc Cert.MlpDownFinSIdeal.main_arg1) = m ((c.tc : Thread Cert.MlpDownFinSIdeal.nD Cert.MlpDownFinSIdeal.τ).loc Cert.MlpDownFinSIdeal.main_arg1)
      ∧ r.2.mem ((c.tc : Thread Cert.MlpDownFinSIdeal.nD Cert.MlpDownFinSIdeal.τ).loc Cert.MlpDownFinSIdeal.main_arg2) = m ((c.tc : Thread Cert.MlpDownFinSIdeal.nD Cert.MlpDownFinSIdeal.τ).loc Cert.MlpDownFinSIdeal.main_arg2)
      ∧ r.2.mem ((c.tc : Thread Cert.MlpDownFinSIdeal.nD Cert.MlpDownFinSIdeal.τ).loc Cert.MlpDownFinSIdeal.main_arg3) = m ((c.tc : Thread Cert.MlpDownFinSIdeal.nD Cert.MlpDownFinSIdeal.τ).loc Cert.MlpDownFinSIdeal.main_arg3))
      ∧ r.2.sem = fun _ => 0)

def quiescent_MlpDownFinSRefIdeal [hMlpDownFinSRefIdeal : Cert.MlpDownFinSRefIdeal.Facts] : Prop :=
  ∀ (m : (ℓ : Loc Cert.MlpDownFinSRefIdeal.nD Cert.MlpDownFinSRefIdeal.τ Cert.MlpDownFinSRefIdeal.sig) → Buf (Elt Ideal) ℓ) (g : Dev Cert.MlpDownFinSRefIdeal.nD → PrngReg), Pre_MlpDownFinSRefIdeal m →
    θ_run (Cert.MlpDownFinSRefIdeal.defs (F := Ideal)) (onTc (τ := Cert.MlpDownFinSRefIdeal.τ) (Cert.MlpDownFinSRefIdeal.main (F := Ideal))) ⟨m, fun _ => 0, g⟩ (fun r => (∀ c : Dev Cert.MlpDownFinSRefIdeal.nD,
      r.2.mem ((c.tc : Thread Cert.MlpDownFinSRefIdeal.nD Cert.MlpDownFinSRefIdeal.τ).loc Cert.MlpDownFinSRefIdeal.main_arg0) = m ((c.tc : Thread Cert.MlpDownFinSRefIdeal.nD Cert.MlpDownFinSRefIdeal.τ).loc Cert.MlpDownFinSRefIdeal.main_arg0)
      ∧ r.2.mem ((c.tc : Thread Cert.MlpDownFinSRefIdeal.nD Cert.MlpDownFinSRefIdeal.τ).loc Cert.MlpDownFinSRefIdeal.main_arg1) = m ((c.tc : Thread Cert.MlpDownFinSRefIdeal.nD Cert.MlpDownFinSRefIdeal.τ).loc Cert.MlpDownFinSRefIdeal.main_arg1)
      ∧ r.2.mem ((c.tc : Thread Cert.MlpDownFinSRefIdeal.nD Cert.MlpDownFinSRefIdeal.τ).loc Cert.MlpDownFinSRefIdeal.main_arg2) = m ((c.tc : Thread Cert.MlpDownFinSRefIdeal.nD Cert.MlpDownFinSRefIdeal.τ).loc Cert.MlpDownFinSRefIdeal.main_arg2)
      ∧ r.2.mem ((c.tc : Thread Cert.MlpDownFinSRefIdeal.nD Cert.MlpDownFinSRefIdeal.τ).loc Cert.MlpDownFinSRefIdeal.main_arg3) = m ((c.tc : Thread Cert.MlpDownFinSRefIdeal.nD Cert.MlpDownFinSRefIdeal.τ).loc Cert.MlpDownFinSRefIdeal.main_arg3))
      ∧ r.2.sem = fun _ => 0)

def quiescent_SsmIn [hSsmIn : Cert.SsmIn.Facts] : Prop :=
  ∀ (m : (ℓ : Loc Cert.SsmIn.nD Cert.SsmIn.τ Cert.SsmIn.sig) → Buf (Elt Bits) ℓ) (g : Dev Cert.SsmIn.nD → PrngReg), Pre_SsmIn m →
    θ_run (Cert.SsmIn.defs (F := Bits)) (onTc (τ := Cert.SsmIn.τ) (Cert.SsmIn.main (F := Bits))) ⟨m, fun _ => 0, g⟩ (fun r => (∀ c : Dev Cert.SsmIn.nD,
      r.2.mem ((c.tc : Thread Cert.SsmIn.nD Cert.SsmIn.τ).loc Cert.SsmIn.main_arg0) = m ((c.tc : Thread Cert.SsmIn.nD Cert.SsmIn.τ).loc Cert.SsmIn.main_arg0)
      ∧ r.2.mem ((c.tc : Thread Cert.SsmIn.nD Cert.SsmIn.τ).loc Cert.SsmIn.main_arg1) = m ((c.tc : Thread Cert.SsmIn.nD Cert.SsmIn.τ).loc Cert.SsmIn.main_arg1)
      ∧ r.2.mem ((c.tc : Thread Cert.SsmIn.nD Cert.SsmIn.τ).loc Cert.SsmIn.main_arg2) = m ((c.tc : Thread Cert.SsmIn.nD Cert.SsmIn.τ).loc Cert.SsmIn.main_arg2))
      ∧ r.2.sem = fun _ => 0)

def quiescent_SsmInIdeal [hSsmInIdeal : Cert.SsmInIdeal.Facts] : Prop :=
  ∀ (m : (ℓ : Loc Cert.SsmInIdeal.nD Cert.SsmInIdeal.τ Cert.SsmInIdeal.sig) → Buf (Elt Ideal) ℓ) (g : Dev Cert.SsmInIdeal.nD → PrngReg), Pre_SsmInIdeal m →
    θ_run (Cert.SsmInIdeal.defs (F := Ideal)) (onTc (τ := Cert.SsmInIdeal.τ) (Cert.SsmInIdeal.main (F := Ideal))) ⟨m, fun _ => 0, g⟩ (fun r => (∀ c : Dev Cert.SsmInIdeal.nD,
      r.2.mem ((c.tc : Thread Cert.SsmInIdeal.nD Cert.SsmInIdeal.τ).loc Cert.SsmInIdeal.main_arg0) = m ((c.tc : Thread Cert.SsmInIdeal.nD Cert.SsmInIdeal.τ).loc Cert.SsmInIdeal.main_arg0)
      ∧ r.2.mem ((c.tc : Thread Cert.SsmInIdeal.nD Cert.SsmInIdeal.τ).loc Cert.SsmInIdeal.main_arg1) = m ((c.tc : Thread Cert.SsmInIdeal.nD Cert.SsmInIdeal.τ).loc Cert.SsmInIdeal.main_arg1)
      ∧ r.2.mem ((c.tc : Thread Cert.SsmInIdeal.nD Cert.SsmInIdeal.τ).loc Cert.SsmInIdeal.main_arg2) = m ((c.tc : Thread Cert.SsmInIdeal.nD Cert.SsmInIdeal.τ).loc Cert.SsmInIdeal.main_arg2))
      ∧ r.2.sem = fun _ => 0)

def quiescent_SsmInRefIdeal [hSsmInRefIdeal : Cert.SsmInRefIdeal.Facts] : Prop :=
  ∀ (m : (ℓ : Loc Cert.SsmInRefIdeal.nD Cert.SsmInRefIdeal.τ Cert.SsmInRefIdeal.sig) → Buf (Elt Ideal) ℓ) (g : Dev Cert.SsmInRefIdeal.nD → PrngReg), Pre_SsmInRefIdeal m →
    θ_run (Cert.SsmInRefIdeal.defs (F := Ideal)) (onTc (τ := Cert.SsmInRefIdeal.τ) (Cert.SsmInRefIdeal.main (F := Ideal))) ⟨m, fun _ => 0, g⟩ (fun r => (∀ c : Dev Cert.SsmInRefIdeal.nD,
      r.2.mem ((c.tc : Thread Cert.SsmInRefIdeal.nD Cert.SsmInRefIdeal.τ).loc Cert.SsmInRefIdeal.main_arg0) = m ((c.tc : Thread Cert.SsmInRefIdeal.nD Cert.SsmInRefIdeal.τ).loc Cert.SsmInRefIdeal.main_arg0)
      ∧ r.2.mem ((c.tc : Thread Cert.SsmInRefIdeal.nD Cert.SsmInRefIdeal.τ).loc Cert.SsmInRefIdeal.main_arg1) = m ((c.tc : Thread Cert.SsmInRefIdeal.nD Cert.SsmInRefIdeal.τ).loc Cert.SsmInRefIdeal.main_arg1)
      ∧ r.2.mem ((c.tc : Thread Cert.SsmInRefIdeal.nD Cert.SsmInRefIdeal.τ).loc Cert.SsmInRefIdeal.main_arg2) = m ((c.tc : Thread Cert.SsmInRefIdeal.nD Cert.SsmInRefIdeal.τ).loc Cert.SsmInRefIdeal.main_arg2))
      ∧ r.2.sem = fun _ => 0)

def quiescent_SsmInS [hSsmInS : Cert.SsmInS.Facts] : Prop :=
  ∀ (m : (ℓ : Loc Cert.SsmInS.nD Cert.SsmInS.τ Cert.SsmInS.sig) → Buf (Elt Bits) ℓ) (g : Dev Cert.SsmInS.nD → PrngReg), Pre_SsmInS m →
    θ_run (Cert.SsmInS.defs (F := Bits)) (onTc (τ := Cert.SsmInS.τ) (Cert.SsmInS.main (F := Bits))) ⟨m, fun _ => 0, g⟩ (fun r => (∀ c : Dev Cert.SsmInS.nD,
      r.2.mem ((c.tc : Thread Cert.SsmInS.nD Cert.SsmInS.τ).loc Cert.SsmInS.main_arg0) = m ((c.tc : Thread Cert.SsmInS.nD Cert.SsmInS.τ).loc Cert.SsmInS.main_arg0)
      ∧ r.2.mem ((c.tc : Thread Cert.SsmInS.nD Cert.SsmInS.τ).loc Cert.SsmInS.main_arg1) = m ((c.tc : Thread Cert.SsmInS.nD Cert.SsmInS.τ).loc Cert.SsmInS.main_arg1)
      ∧ r.2.mem ((c.tc : Thread Cert.SsmInS.nD Cert.SsmInS.τ).loc Cert.SsmInS.main_arg2) = m ((c.tc : Thread Cert.SsmInS.nD Cert.SsmInS.τ).loc Cert.SsmInS.main_arg2))
      ∧ r.2.sem = fun _ => 0)

def quiescent_SsmInSIdeal [hSsmInSIdeal : Cert.SsmInSIdeal.Facts] : Prop :=
  ∀ (m : (ℓ : Loc Cert.SsmInSIdeal.nD Cert.SsmInSIdeal.τ Cert.SsmInSIdeal.sig) → Buf (Elt Ideal) ℓ) (g : Dev Cert.SsmInSIdeal.nD → PrngReg), Pre_SsmInSIdeal m →
    θ_run (Cert.SsmInSIdeal.defs (F := Ideal)) (onTc (τ := Cert.SsmInSIdeal.τ) (Cert.SsmInSIdeal.main (F := Ideal))) ⟨m, fun _ => 0, g⟩ (fun r => (∀ c : Dev Cert.SsmInSIdeal.nD,
      r.2.mem ((c.tc : Thread Cert.SsmInSIdeal.nD Cert.SsmInSIdeal.τ).loc Cert.SsmInSIdeal.main_arg0) = m ((c.tc : Thread Cert.SsmInSIdeal.nD Cert.SsmInSIdeal.τ).loc Cert.SsmInSIdeal.main_arg0)
      ∧ r.2.mem ((c.tc : Thread Cert.SsmInSIdeal.nD Cert.SsmInSIdeal.τ).loc Cert.SsmInSIdeal.main_arg1) = m ((c.tc : Thread Cert.SsmInSIdeal.nD Cert.SsmInSIdeal.τ).loc Cert.SsmInSIdeal.main_arg1)
      ∧ r.2.mem ((c.tc : Thread Cert.SsmInSIdeal.nD Cert.SsmInSIdeal.τ).loc Cert.SsmInSIdeal.main_arg2) = m ((c.tc : Thread Cert.SsmInSIdeal.nD Cert.SsmInSIdeal.τ).loc Cert.SsmInSIdeal.main_arg2))
      ∧ r.2.sem = fun _ => 0)

def quiescent_SsmInSRefIdeal [hSsmInSRefIdeal : Cert.SsmInSRefIdeal.Facts] : Prop :=
  ∀ (m : (ℓ : Loc Cert.SsmInSRefIdeal.nD Cert.SsmInSRefIdeal.τ Cert.SsmInSRefIdeal.sig) → Buf (Elt Ideal) ℓ) (g : Dev Cert.SsmInSRefIdeal.nD → PrngReg), Pre_SsmInSRefIdeal m →
    θ_run (Cert.SsmInSRefIdeal.defs (F := Ideal)) (onTc (τ := Cert.SsmInSRefIdeal.τ) (Cert.SsmInSRefIdeal.main (F := Ideal))) ⟨m, fun _ => 0, g⟩ (fun r => (∀ c : Dev Cert.SsmInSRefIdeal.nD,
      r.2.mem ((c.tc : Thread Cert.SsmInSRefIdeal.nD Cert.SsmInSRefIdeal.τ).loc Cert.SsmInSRefIdeal.main_arg0) = m ((c.tc : Thread Cert.SsmInSRefIdeal.nD Cert.SsmInSRefIdeal.τ).loc Cert.SsmInSRefIdeal.main_arg0)
      ∧ r.2.mem ((c.tc : Thread Cert.SsmInSRefIdeal.nD Cert.SsmInSRefIdeal.τ).loc Cert.SsmInSRefIdeal.main_arg1) = m ((c.tc : Thread Cert.SsmInSRefIdeal.nD Cert.SsmInSRefIdeal.τ).loc Cert.SsmInSRefIdeal.main_arg1)
      ∧ r.2.mem ((c.tc : Thread Cert.SsmInSRefIdeal.nD Cert.SsmInSRefIdeal.τ).loc Cert.SsmInSRefIdeal.main_arg2) = m ((c.tc : Thread Cert.SsmInSRefIdeal.nD Cert.SsmInSRefIdeal.τ).loc Cert.SsmInSRefIdeal.main_arg2))
      ∧ r.2.sem = fun _ => 0)

def quiescent_SsmOut [hSsmOut : Cert.SsmOut.Facts] : Prop :=
  ∀ (m : (ℓ : Loc Cert.SsmOut.nD Cert.SsmOut.τ Cert.SsmOut.sig) → Buf (Elt Bits) ℓ) (g : Dev Cert.SsmOut.nD → PrngReg), Pre_SsmOut m →
    θ_run (Cert.SsmOut.defs (F := Bits)) (onTc (τ := Cert.SsmOut.τ) (Cert.SsmOut.main (F := Bits))) ⟨m, fun _ => 0, g⟩ (fun r => (∀ c : Dev Cert.SsmOut.nD,
      r.2.mem ((c.tc : Thread Cert.SsmOut.nD Cert.SsmOut.τ).loc Cert.SsmOut.main_arg0) = m ((c.tc : Thread Cert.SsmOut.nD Cert.SsmOut.τ).loc Cert.SsmOut.main_arg0)
      ∧ r.2.mem ((c.tc : Thread Cert.SsmOut.nD Cert.SsmOut.τ).loc Cert.SsmOut.main_arg1) = m ((c.tc : Thread Cert.SsmOut.nD Cert.SsmOut.τ).loc Cert.SsmOut.main_arg1)
      ∧ r.2.mem ((c.tc : Thread Cert.SsmOut.nD Cert.SsmOut.τ).loc Cert.SsmOut.main_arg2) = m ((c.tc : Thread Cert.SsmOut.nD Cert.SsmOut.τ).loc Cert.SsmOut.main_arg2))
      ∧ r.2.sem = fun _ => 0)

def quiescent_SsmOutIdeal [hSsmOutIdeal : Cert.SsmOutIdeal.Facts] : Prop :=
  ∀ (m : (ℓ : Loc Cert.SsmOutIdeal.nD Cert.SsmOutIdeal.τ Cert.SsmOutIdeal.sig) → Buf (Elt Ideal) ℓ) (g : Dev Cert.SsmOutIdeal.nD → PrngReg), Pre_SsmOutIdeal m →
    θ_run (Cert.SsmOutIdeal.defs (F := Ideal)) (onTc (τ := Cert.SsmOutIdeal.τ) (Cert.SsmOutIdeal.main (F := Ideal))) ⟨m, fun _ => 0, g⟩ (fun r => (∀ c : Dev Cert.SsmOutIdeal.nD,
      r.2.mem ((c.tc : Thread Cert.SsmOutIdeal.nD Cert.SsmOutIdeal.τ).loc Cert.SsmOutIdeal.main_arg0) = m ((c.tc : Thread Cert.SsmOutIdeal.nD Cert.SsmOutIdeal.τ).loc Cert.SsmOutIdeal.main_arg0)
      ∧ r.2.mem ((c.tc : Thread Cert.SsmOutIdeal.nD Cert.SsmOutIdeal.τ).loc Cert.SsmOutIdeal.main_arg1) = m ((c.tc : Thread Cert.SsmOutIdeal.nD Cert.SsmOutIdeal.τ).loc Cert.SsmOutIdeal.main_arg1)
      ∧ r.2.mem ((c.tc : Thread Cert.SsmOutIdeal.nD Cert.SsmOutIdeal.τ).loc Cert.SsmOutIdeal.main_arg2) = m ((c.tc : Thread Cert.SsmOutIdeal.nD Cert.SsmOutIdeal.τ).loc Cert.SsmOutIdeal.main_arg2))
      ∧ r.2.sem = fun _ => 0)

def quiescent_SsmOutRefIdeal [hSsmOutRefIdeal : Cert.SsmOutRefIdeal.Facts] : Prop :=
  ∀ (m : (ℓ : Loc Cert.SsmOutRefIdeal.nD Cert.SsmOutRefIdeal.τ Cert.SsmOutRefIdeal.sig) → Buf (Elt Ideal) ℓ) (g : Dev Cert.SsmOutRefIdeal.nD → PrngReg), Pre_SsmOutRefIdeal m →
    θ_run (Cert.SsmOutRefIdeal.defs (F := Ideal)) (onTc (τ := Cert.SsmOutRefIdeal.τ) (Cert.SsmOutRefIdeal.main (F := Ideal))) ⟨m, fun _ => 0, g⟩ (fun r => (∀ c : Dev Cert.SsmOutRefIdeal.nD,
      r.2.mem ((c.tc : Thread Cert.SsmOutRefIdeal.nD Cert.SsmOutRefIdeal.τ).loc Cert.SsmOutRefIdeal.main_arg0) = m ((c.tc : Thread Cert.SsmOutRefIdeal.nD Cert.SsmOutRefIdeal.τ).loc Cert.SsmOutRefIdeal.main_arg0)
      ∧ r.2.mem ((c.tc : Thread Cert.SsmOutRefIdeal.nD Cert.SsmOutRefIdeal.τ).loc Cert.SsmOutRefIdeal.main_arg1) = m ((c.tc : Thread Cert.SsmOutRefIdeal.nD Cert.SsmOutRefIdeal.τ).loc Cert.SsmOutRefIdeal.main_arg1)
      ∧ r.2.mem ((c.tc : Thread Cert.SsmOutRefIdeal.nD Cert.SsmOutRefIdeal.τ).loc Cert.SsmOutRefIdeal.main_arg2) = m ((c.tc : Thread Cert.SsmOutRefIdeal.nD Cert.SsmOutRefIdeal.τ).loc Cert.SsmOutRefIdeal.main_arg2))
      ∧ r.2.sem = fun _ => 0)

def quiescent_AttIn [hAttIn : Cert.AttIn.Facts] : Prop :=
  ∀ (m : (ℓ : Loc Cert.AttIn.nD Cert.AttIn.τ Cert.AttIn.sig) → Buf (Elt Bits) ℓ) (g : Dev Cert.AttIn.nD → PrngReg), Pre_AttIn m →
    θ_run (Cert.AttIn.defs (F := Bits)) (onTc (τ := Cert.AttIn.τ) (Cert.AttIn.main (F := Bits))) ⟨m, fun _ => 0, g⟩ (fun r => (∀ c : Dev Cert.AttIn.nD,
      r.2.mem ((c.tc : Thread Cert.AttIn.nD Cert.AttIn.τ).loc Cert.AttIn.main_arg0) = m ((c.tc : Thread Cert.AttIn.nD Cert.AttIn.τ).loc Cert.AttIn.main_arg0)
      ∧ r.2.mem ((c.tc : Thread Cert.AttIn.nD Cert.AttIn.τ).loc Cert.AttIn.main_arg1) = m ((c.tc : Thread Cert.AttIn.nD Cert.AttIn.τ).loc Cert.AttIn.main_arg1)
      ∧ r.2.mem ((c.tc : Thread Cert.AttIn.nD Cert.AttIn.τ).loc Cert.AttIn.main_arg2) = m ((c.tc : Thread Cert.AttIn.nD Cert.AttIn.τ).loc Cert.AttIn.main_arg2))
      ∧ r.2.sem = fun _ => 0)

def quiescent_AttInIdeal [hAttInIdeal : Cert.AttInIdeal.Facts] : Prop :=
  ∀ (m : (ℓ : Loc Cert.AttInIdeal.nD Cert.AttInIdeal.τ Cert.AttInIdeal.sig) → Buf (Elt Ideal) ℓ) (g : Dev Cert.AttInIdeal.nD → PrngReg), Pre_AttInIdeal m →
    θ_run (Cert.AttInIdeal.defs (F := Ideal)) (onTc (τ := Cert.AttInIdeal.τ) (Cert.AttInIdeal.main (F := Ideal))) ⟨m, fun _ => 0, g⟩ (fun r => (∀ c : Dev Cert.AttInIdeal.nD,
      r.2.mem ((c.tc : Thread Cert.AttInIdeal.nD Cert.AttInIdeal.τ).loc Cert.AttInIdeal.main_arg0) = m ((c.tc : Thread Cert.AttInIdeal.nD Cert.AttInIdeal.τ).loc Cert.AttInIdeal.main_arg0)
      ∧ r.2.mem ((c.tc : Thread Cert.AttInIdeal.nD Cert.AttInIdeal.τ).loc Cert.AttInIdeal.main_arg1) = m ((c.tc : Thread Cert.AttInIdeal.nD Cert.AttInIdeal.τ).loc Cert.AttInIdeal.main_arg1)
      ∧ r.2.mem ((c.tc : Thread Cert.AttInIdeal.nD Cert.AttInIdeal.τ).loc Cert.AttInIdeal.main_arg2) = m ((c.tc : Thread Cert.AttInIdeal.nD Cert.AttInIdeal.τ).loc Cert.AttInIdeal.main_arg2))
      ∧ r.2.sem = fun _ => 0)

def quiescent_AttInRefIdeal [hAttInRefIdeal : Cert.AttInRefIdeal.Facts] : Prop :=
  ∀ (m : (ℓ : Loc Cert.AttInRefIdeal.nD Cert.AttInRefIdeal.τ Cert.AttInRefIdeal.sig) → Buf (Elt Ideal) ℓ) (g : Dev Cert.AttInRefIdeal.nD → PrngReg), Pre_AttInRefIdeal m →
    θ_run (Cert.AttInRefIdeal.defs (F := Ideal)) (onTc (τ := Cert.AttInRefIdeal.τ) (Cert.AttInRefIdeal.main (F := Ideal))) ⟨m, fun _ => 0, g⟩ (fun r => (∀ c : Dev Cert.AttInRefIdeal.nD,
      r.2.mem ((c.tc : Thread Cert.AttInRefIdeal.nD Cert.AttInRefIdeal.τ).loc Cert.AttInRefIdeal.main_arg0) = m ((c.tc : Thread Cert.AttInRefIdeal.nD Cert.AttInRefIdeal.τ).loc Cert.AttInRefIdeal.main_arg0)
      ∧ r.2.mem ((c.tc : Thread Cert.AttInRefIdeal.nD Cert.AttInRefIdeal.τ).loc Cert.AttInRefIdeal.main_arg1) = m ((c.tc : Thread Cert.AttInRefIdeal.nD Cert.AttInRefIdeal.τ).loc Cert.AttInRefIdeal.main_arg1)
      ∧ r.2.mem ((c.tc : Thread Cert.AttInRefIdeal.nD Cert.AttInRefIdeal.τ).loc Cert.AttInRefIdeal.main_arg2) = m ((c.tc : Thread Cert.AttInRefIdeal.nD Cert.AttInRefIdeal.τ).loc Cert.AttInRefIdeal.main_arg2))
      ∧ r.2.sem = fun _ => 0)

def quiescent_AttInS [hAttInS : Cert.AttInS.Facts] : Prop :=
  ∀ (m : (ℓ : Loc Cert.AttInS.nD Cert.AttInS.τ Cert.AttInS.sig) → Buf (Elt Bits) ℓ) (g : Dev Cert.AttInS.nD → PrngReg), Pre_AttInS m →
    θ_run (Cert.AttInS.defs (F := Bits)) (onTc (τ := Cert.AttInS.τ) (Cert.AttInS.main (F := Bits))) ⟨m, fun _ => 0, g⟩ (fun r => (∀ c : Dev Cert.AttInS.nD,
      r.2.mem ((c.tc : Thread Cert.AttInS.nD Cert.AttInS.τ).loc Cert.AttInS.main_arg0) = m ((c.tc : Thread Cert.AttInS.nD Cert.AttInS.τ).loc Cert.AttInS.main_arg0)
      ∧ r.2.mem ((c.tc : Thread Cert.AttInS.nD Cert.AttInS.τ).loc Cert.AttInS.main_arg1) = m ((c.tc : Thread Cert.AttInS.nD Cert.AttInS.τ).loc Cert.AttInS.main_arg1)
      ∧ r.2.mem ((c.tc : Thread Cert.AttInS.nD Cert.AttInS.τ).loc Cert.AttInS.main_arg2) = m ((c.tc : Thread Cert.AttInS.nD Cert.AttInS.τ).loc Cert.AttInS.main_arg2))
      ∧ r.2.sem = fun _ => 0)

def quiescent_AttInSIdeal [hAttInSIdeal : Cert.AttInSIdeal.Facts] : Prop :=
  ∀ (m : (ℓ : Loc Cert.AttInSIdeal.nD Cert.AttInSIdeal.τ Cert.AttInSIdeal.sig) → Buf (Elt Ideal) ℓ) (g : Dev Cert.AttInSIdeal.nD → PrngReg), Pre_AttInSIdeal m →
    θ_run (Cert.AttInSIdeal.defs (F := Ideal)) (onTc (τ := Cert.AttInSIdeal.τ) (Cert.AttInSIdeal.main (F := Ideal))) ⟨m, fun _ => 0, g⟩ (fun r => (∀ c : Dev Cert.AttInSIdeal.nD,
      r.2.mem ((c.tc : Thread Cert.AttInSIdeal.nD Cert.AttInSIdeal.τ).loc Cert.AttInSIdeal.main_arg0) = m ((c.tc : Thread Cert.AttInSIdeal.nD Cert.AttInSIdeal.τ).loc Cert.AttInSIdeal.main_arg0)
      ∧ r.2.mem ((c.tc : Thread Cert.AttInSIdeal.nD Cert.AttInSIdeal.τ).loc Cert.AttInSIdeal.main_arg1) = m ((c.tc : Thread Cert.AttInSIdeal.nD Cert.AttInSIdeal.τ).loc Cert.AttInSIdeal.main_arg1)
      ∧ r.2.mem ((c.tc : Thread Cert.AttInSIdeal.nD Cert.AttInSIdeal.τ).loc Cert.AttInSIdeal.main_arg2) = m ((c.tc : Thread Cert.AttInSIdeal.nD Cert.AttInSIdeal.τ).loc Cert.AttInSIdeal.main_arg2))
      ∧ r.2.sem = fun _ => 0)

def quiescent_AttInSRefIdeal [hAttInSRefIdeal : Cert.AttInSRefIdeal.Facts] : Prop :=
  ∀ (m : (ℓ : Loc Cert.AttInSRefIdeal.nD Cert.AttInSRefIdeal.τ Cert.AttInSRefIdeal.sig) → Buf (Elt Ideal) ℓ) (g : Dev Cert.AttInSRefIdeal.nD → PrngReg), Pre_AttInSRefIdeal m →
    θ_run (Cert.AttInSRefIdeal.defs (F := Ideal)) (onTc (τ := Cert.AttInSRefIdeal.τ) (Cert.AttInSRefIdeal.main (F := Ideal))) ⟨m, fun _ => 0, g⟩ (fun r => (∀ c : Dev Cert.AttInSRefIdeal.nD,
      r.2.mem ((c.tc : Thread Cert.AttInSRefIdeal.nD Cert.AttInSRefIdeal.τ).loc Cert.AttInSRefIdeal.main_arg0) = m ((c.tc : Thread Cert.AttInSRefIdeal.nD Cert.AttInSRefIdeal.τ).loc Cert.AttInSRefIdeal.main_arg0)
      ∧ r.2.mem ((c.tc : Thread Cert.AttInSRefIdeal.nD Cert.AttInSRefIdeal.τ).loc Cert.AttInSRefIdeal.main_arg1) = m ((c.tc : Thread Cert.AttInSRefIdeal.nD Cert.AttInSRefIdeal.τ).loc Cert.AttInSRefIdeal.main_arg1)
      ∧ r.2.mem ((c.tc : Thread Cert.AttInSRefIdeal.nD Cert.AttInSRefIdeal.τ).loc Cert.AttInSRefIdeal.main_arg2) = m ((c.tc : Thread Cert.AttInSRefIdeal.nD Cert.AttInSRefIdeal.τ).loc Cert.AttInSRefIdeal.main_arg2))
      ∧ r.2.sem = fun _ => 0)

def quiescent_AttOut [hAttOut : Cert.AttOut.Facts] : Prop :=
  ∀ (m : (ℓ : Loc Cert.AttOut.nD Cert.AttOut.τ Cert.AttOut.sig) → Buf (Elt Bits) ℓ) (g : Dev Cert.AttOut.nD → PrngReg), Pre_AttOut m →
    θ_run (Cert.AttOut.defs (F := Bits)) (onTc (τ := Cert.AttOut.τ) (Cert.AttOut.main (F := Bits))) ⟨m, fun _ => 0, g⟩ (fun r => (∀ c : Dev Cert.AttOut.nD,
      r.2.mem ((c.tc : Thread Cert.AttOut.nD Cert.AttOut.τ).loc Cert.AttOut.main_arg0) = m ((c.tc : Thread Cert.AttOut.nD Cert.AttOut.τ).loc Cert.AttOut.main_arg0)
      ∧ r.2.mem ((c.tc : Thread Cert.AttOut.nD Cert.AttOut.τ).loc Cert.AttOut.main_arg1) = m ((c.tc : Thread Cert.AttOut.nD Cert.AttOut.τ).loc Cert.AttOut.main_arg1)
      ∧ r.2.mem ((c.tc : Thread Cert.AttOut.nD Cert.AttOut.τ).loc Cert.AttOut.main_arg2) = m ((c.tc : Thread Cert.AttOut.nD Cert.AttOut.τ).loc Cert.AttOut.main_arg2))
      ∧ r.2.sem = fun _ => 0)

def quiescent_AttOutIdeal [hAttOutIdeal : Cert.AttOutIdeal.Facts] : Prop :=
  ∀ (m : (ℓ : Loc Cert.AttOutIdeal.nD Cert.AttOutIdeal.τ Cert.AttOutIdeal.sig) → Buf (Elt Ideal) ℓ) (g : Dev Cert.AttOutIdeal.nD → PrngReg), Pre_AttOutIdeal m →
    θ_run (Cert.AttOutIdeal.defs (F := Ideal)) (onTc (τ := Cert.AttOutIdeal.τ) (Cert.AttOutIdeal.main (F := Ideal))) ⟨m, fun _ => 0, g⟩ (fun r => (∀ c : Dev Cert.AttOutIdeal.nD,
      r.2.mem ((c.tc : Thread Cert.AttOutIdeal.nD Cert.AttOutIdeal.τ).loc Cert.AttOutIdeal.main_arg0) = m ((c.tc : Thread Cert.AttOutIdeal.nD Cert.AttOutIdeal.τ).loc Cert.AttOutIdeal.main_arg0)
      ∧ r.2.mem ((c.tc : Thread Cert.AttOutIdeal.nD Cert.AttOutIdeal.τ).loc Cert.AttOutIdeal.main_arg1) = m ((c.tc : Thread Cert.AttOutIdeal.nD Cert.AttOutIdeal.τ).loc Cert.AttOutIdeal.main_arg1)
      ∧ r.2.mem ((c.tc : Thread Cert.AttOutIdeal.nD Cert.AttOutIdeal.τ).loc Cert.AttOutIdeal.main_arg2) = m ((c.tc : Thread Cert.AttOutIdeal.nD Cert.AttOutIdeal.τ).loc Cert.AttOutIdeal.main_arg2))
      ∧ r.2.sem = fun _ => 0)

def quiescent_AttOutRefIdeal [hAttOutRefIdeal : Cert.AttOutRefIdeal.Facts] : Prop :=
  ∀ (m : (ℓ : Loc Cert.AttOutRefIdeal.nD Cert.AttOutRefIdeal.τ Cert.AttOutRefIdeal.sig) → Buf (Elt Ideal) ℓ) (g : Dev Cert.AttOutRefIdeal.nD → PrngReg), Pre_AttOutRefIdeal m →
    θ_run (Cert.AttOutRefIdeal.defs (F := Ideal)) (onTc (τ := Cert.AttOutRefIdeal.τ) (Cert.AttOutRefIdeal.main (F := Ideal))) ⟨m, fun _ => 0, g⟩ (fun r => (∀ c : Dev Cert.AttOutRefIdeal.nD,
      r.2.mem ((c.tc : Thread Cert.AttOutRefIdeal.nD Cert.AttOutRefIdeal.τ).loc Cert.AttOutRefIdeal.main_arg0) = m ((c.tc : Thread Cert.AttOutRefIdeal.nD Cert.AttOutRefIdeal.τ).loc Cert.AttOutRefIdeal.main_arg0)
      ∧ r.2.mem ((c.tc : Thread Cert.AttOutRefIdeal.nD Cert.AttOutRefIdeal.τ).loc Cert.AttOutRefIdeal.main_arg1) = m ((c.tc : Thread Cert.AttOutRefIdeal.nD Cert.AttOutRefIdeal.τ).loc Cert.AttOutRefIdeal.main_arg1)
      ∧ r.2.mem ((c.tc : Thread Cert.AttOutRefIdeal.nD Cert.AttOutRefIdeal.τ).loc Cert.AttOutRefIdeal.main_arg2) = m ((c.tc : Thread Cert.AttOutRefIdeal.nD Cert.AttOutRefIdeal.τ).loc Cert.AttOutRefIdeal.main_arg2))
      ∧ r.2.sem = fun _ => 0)

def quiescent_KvS [hKvS : Cert.KvS.Facts] : Prop :=
  ∀ (m : (ℓ : Loc Cert.KvS.nD Cert.KvS.τ Cert.KvS.sig) → Buf (Elt Bits) ℓ) (g : Dev Cert.KvS.nD → PrngReg), Pre_KvS m →
    θ_run (Cert.KvS.defs (F := Bits)) (onTc (τ := Cert.KvS.τ) (Cert.KvS.main (F := Bits))) ⟨m, fun _ => 0, g⟩ (fun r => (∀ c : Dev Cert.KvS.nD,
      r.2.mem ((c.tc : Thread Cert.KvS.nD Cert.KvS.τ).loc Cert.KvS.main_arg0) = m ((c.tc : Thread Cert.KvS.nD Cert.KvS.τ).loc Cert.KvS.main_arg0)
      ∧ r.2.mem ((c.tc : Thread Cert.KvS.nD Cert.KvS.τ).loc Cert.KvS.main_arg1) = m ((c.tc : Thread Cert.KvS.nD Cert.KvS.τ).loc Cert.KvS.main_arg1)
      ∧ r.2.mem ((c.tc : Thread Cert.KvS.nD Cert.KvS.τ).loc Cert.KvS.main_arg2) = m ((c.tc : Thread Cert.KvS.nD Cert.KvS.τ).loc Cert.KvS.main_arg2)
      ∧ r.2.mem ((c.tc : Thread Cert.KvS.nD Cert.KvS.τ).loc Cert.KvS.main_arg3) = m ((c.tc : Thread Cert.KvS.nD Cert.KvS.τ).loc Cert.KvS.main_arg3))
      ∧ r.2.sem = fun _ => 0)

def quiescent_KvSIdeal [hKvSIdeal : Cert.KvSIdeal.Facts] : Prop :=
  ∀ (m : (ℓ : Loc Cert.KvSIdeal.nD Cert.KvSIdeal.τ Cert.KvSIdeal.sig) → Buf (Elt Ideal) ℓ) (g : Dev Cert.KvSIdeal.nD → PrngReg), Pre_KvSIdeal m →
    θ_run (Cert.KvSIdeal.defs (F := Ideal)) (onTc (τ := Cert.KvSIdeal.τ) (Cert.KvSIdeal.main (F := Ideal))) ⟨m, fun _ => 0, g⟩ (fun r => (∀ c : Dev Cert.KvSIdeal.nD,
      r.2.mem ((c.tc : Thread Cert.KvSIdeal.nD Cert.KvSIdeal.τ).loc Cert.KvSIdeal.main_arg0) = m ((c.tc : Thread Cert.KvSIdeal.nD Cert.KvSIdeal.τ).loc Cert.KvSIdeal.main_arg0)
      ∧ r.2.mem ((c.tc : Thread Cert.KvSIdeal.nD Cert.KvSIdeal.τ).loc Cert.KvSIdeal.main_arg1) = m ((c.tc : Thread Cert.KvSIdeal.nD Cert.KvSIdeal.τ).loc Cert.KvSIdeal.main_arg1)
      ∧ r.2.mem ((c.tc : Thread Cert.KvSIdeal.nD Cert.KvSIdeal.τ).loc Cert.KvSIdeal.main_arg2) = m ((c.tc : Thread Cert.KvSIdeal.nD Cert.KvSIdeal.τ).loc Cert.KvSIdeal.main_arg2)
      ∧ r.2.mem ((c.tc : Thread Cert.KvSIdeal.nD Cert.KvSIdeal.τ).loc Cert.KvSIdeal.main_arg3) = m ((c.tc : Thread Cert.KvSIdeal.nD Cert.KvSIdeal.τ).loc Cert.KvSIdeal.main_arg3))
      ∧ r.2.sem = fun _ => 0)

def quiescent_KvSRefIdeal [hKvSRefIdeal : Cert.KvSRefIdeal.Facts] : Prop :=
  ∀ (m : (ℓ : Loc Cert.KvSRefIdeal.nD Cert.KvSRefIdeal.τ Cert.KvSRefIdeal.sig) → Buf (Elt Ideal) ℓ) (g : Dev Cert.KvSRefIdeal.nD → PrngReg), Pre_KvSRefIdeal m →
    θ_run (Cert.KvSRefIdeal.defs (F := Ideal)) (onTc (τ := Cert.KvSRefIdeal.τ) (Cert.KvSRefIdeal.main (F := Ideal))) ⟨m, fun _ => 0, g⟩ (fun r => (∀ c : Dev Cert.KvSRefIdeal.nD,
      r.2.mem ((c.tc : Thread Cert.KvSRefIdeal.nD Cert.KvSRefIdeal.τ).loc Cert.KvSRefIdeal.main_arg0) = m ((c.tc : Thread Cert.KvSRefIdeal.nD Cert.KvSRefIdeal.τ).loc Cert.KvSRefIdeal.main_arg0)
      ∧ r.2.mem ((c.tc : Thread Cert.KvSRefIdeal.nD Cert.KvSRefIdeal.τ).loc Cert.KvSRefIdeal.main_arg1) = m ((c.tc : Thread Cert.KvSRefIdeal.nD Cert.KvSRefIdeal.τ).loc Cert.KvSRefIdeal.main_arg1)
      ∧ r.2.mem ((c.tc : Thread Cert.KvSRefIdeal.nD Cert.KvSRefIdeal.τ).loc Cert.KvSRefIdeal.main_arg2) = m ((c.tc : Thread Cert.KvSRefIdeal.nD Cert.KvSRefIdeal.τ).loc Cert.KvSRefIdeal.main_arg2)
      ∧ r.2.mem ((c.tc : Thread Cert.KvSRefIdeal.nD Cert.KvSRefIdeal.τ).loc Cert.KvSRefIdeal.main_arg3) = m ((c.tc : Thread Cert.KvSRefIdeal.nD Cert.KvSRefIdeal.τ).loc Cert.KvSRefIdeal.main_arg3))
      ∧ r.2.sem = fun _ => 0)

def quiescent_CmpFinish [hCmpFinish : Cert.CmpFinish.Facts] : Prop :=
  ∀ (m : (ℓ : Loc Cert.CmpFinish.nD Cert.CmpFinish.τ Cert.CmpFinish.sig) → Buf (Elt Bits) ℓ) (g : Dev Cert.CmpFinish.nD → PrngReg), Pre_CmpFinish m →
    θ_run (Cert.CmpFinish.defs (F := Bits)) (onTc (τ := Cert.CmpFinish.τ) (Cert.CmpFinish.main (F := Bits))) ⟨m, fun _ => 0, g⟩ (fun r => (∀ c : Dev Cert.CmpFinish.nD,
      r.2.mem ((c.tc : Thread Cert.CmpFinish.nD Cert.CmpFinish.τ).loc Cert.CmpFinish.main_arg0) = m ((c.tc : Thread Cert.CmpFinish.nD Cert.CmpFinish.τ).loc Cert.CmpFinish.main_arg0)
      ∧ r.2.mem ((c.tc : Thread Cert.CmpFinish.nD Cert.CmpFinish.τ).loc Cert.CmpFinish.main_arg1) = m ((c.tc : Thread Cert.CmpFinish.nD Cert.CmpFinish.τ).loc Cert.CmpFinish.main_arg1)
      ∧ r.2.mem ((c.tc : Thread Cert.CmpFinish.nD Cert.CmpFinish.τ).loc Cert.CmpFinish.main_arg2) = m ((c.tc : Thread Cert.CmpFinish.nD Cert.CmpFinish.τ).loc Cert.CmpFinish.main_arg2)
      ∧ r.2.mem ((c.tc : Thread Cert.CmpFinish.nD Cert.CmpFinish.τ).loc Cert.CmpFinish.main_arg3) = m ((c.tc : Thread Cert.CmpFinish.nD Cert.CmpFinish.τ).loc Cert.CmpFinish.main_arg3)
      ∧ r.2.mem ((c.tc : Thread Cert.CmpFinish.nD Cert.CmpFinish.τ).loc Cert.CmpFinish.main_arg4) = m ((c.tc : Thread Cert.CmpFinish.nD Cert.CmpFinish.τ).loc Cert.CmpFinish.main_arg4))
      ∧ r.2.sem = fun _ => 0)

def quiescent_CmpFinishIdeal [hCmpFinishIdeal : Cert.CmpFinishIdeal.Facts] : Prop :=
  ∀ (m : (ℓ : Loc Cert.CmpFinishIdeal.nD Cert.CmpFinishIdeal.τ Cert.CmpFinishIdeal.sig) → Buf (Elt Ideal) ℓ) (g : Dev Cert.CmpFinishIdeal.nD → PrngReg), Pre_CmpFinishIdeal m →
    θ_run (Cert.CmpFinishIdeal.defs (F := Ideal)) (onTc (τ := Cert.CmpFinishIdeal.τ) (Cert.CmpFinishIdeal.main (F := Ideal))) ⟨m, fun _ => 0, g⟩ (fun r => (∀ c : Dev Cert.CmpFinishIdeal.nD,
      r.2.mem ((c.tc : Thread Cert.CmpFinishIdeal.nD Cert.CmpFinishIdeal.τ).loc Cert.CmpFinishIdeal.main_arg0) = m ((c.tc : Thread Cert.CmpFinishIdeal.nD Cert.CmpFinishIdeal.τ).loc Cert.CmpFinishIdeal.main_arg0)
      ∧ r.2.mem ((c.tc : Thread Cert.CmpFinishIdeal.nD Cert.CmpFinishIdeal.τ).loc Cert.CmpFinishIdeal.main_arg1) = m ((c.tc : Thread Cert.CmpFinishIdeal.nD Cert.CmpFinishIdeal.τ).loc Cert.CmpFinishIdeal.main_arg1)
      ∧ r.2.mem ((c.tc : Thread Cert.CmpFinishIdeal.nD Cert.CmpFinishIdeal.τ).loc Cert.CmpFinishIdeal.main_arg2) = m ((c.tc : Thread Cert.CmpFinishIdeal.nD Cert.CmpFinishIdeal.τ).loc Cert.CmpFinishIdeal.main_arg2)
      ∧ r.2.mem ((c.tc : Thread Cert.CmpFinishIdeal.nD Cert.CmpFinishIdeal.τ).loc Cert.CmpFinishIdeal.main_arg3) = m ((c.tc : Thread Cert.CmpFinishIdeal.nD Cert.CmpFinishIdeal.τ).loc Cert.CmpFinishIdeal.main_arg3)
      ∧ r.2.mem ((c.tc : Thread Cert.CmpFinishIdeal.nD Cert.CmpFinishIdeal.τ).loc Cert.CmpFinishIdeal.main_arg4) = m ((c.tc : Thread Cert.CmpFinishIdeal.nD Cert.CmpFinishIdeal.τ).loc Cert.CmpFinishIdeal.main_arg4))
      ∧ r.2.sem = fun _ => 0)

def quiescent_CmpFinishRefIdeal [hCmpFinishRefIdeal : Cert.CmpFinishRefIdeal.Facts] : Prop :=
  ∀ (m : (ℓ : Loc Cert.CmpFinishRefIdeal.nD Cert.CmpFinishRefIdeal.τ Cert.CmpFinishRefIdeal.sig) → Buf (Elt Ideal) ℓ) (g : Dev Cert.CmpFinishRefIdeal.nD → PrngReg), Pre_CmpFinishRefIdeal m →
    θ_run (Cert.CmpFinishRefIdeal.defs (F := Ideal)) (onTc (τ := Cert.CmpFinishRefIdeal.τ) (Cert.CmpFinishRefIdeal.main (F := Ideal))) ⟨m, fun _ => 0, g⟩ (fun r => (∀ c : Dev Cert.CmpFinishRefIdeal.nD,
      r.2.mem ((c.tc : Thread Cert.CmpFinishRefIdeal.nD Cert.CmpFinishRefIdeal.τ).loc Cert.CmpFinishRefIdeal.main_arg0) = m ((c.tc : Thread Cert.CmpFinishRefIdeal.nD Cert.CmpFinishRefIdeal.τ).loc Cert.CmpFinishRefIdeal.main_arg0)
      ∧ r.2.mem ((c.tc : Thread Cert.CmpFinishRefIdeal.nD Cert.CmpFinishRefIdeal.τ).loc Cert.CmpFinishRefIdeal.main_arg1) = m ((c.tc : Thread Cert.CmpFinishRefIdeal.nD Cert.CmpFinishRefIdeal.τ).loc Cert.CmpFinishRefIdeal.main_arg1)
      ∧ r.2.mem ((c.tc : Thread Cert.CmpFinishRefIdeal.nD Cert.CmpFinishRefIdeal.τ).loc Cert.CmpFinishRefIdeal.main_arg2) = m ((c.tc : Thread Cert.CmpFinishRefIdeal.nD Cert.CmpFinishRefIdeal.τ).loc Cert.CmpFinishRefIdeal.main_arg2)
      ∧ r.2.mem ((c.tc : Thread Cert.CmpFinishRefIdeal.nD Cert.CmpFinishRefIdeal.τ).loc Cert.CmpFinishRefIdeal.main_arg3) = m ((c.tc : Thread Cert.CmpFinishRefIdeal.nD Cert.CmpFinishRefIdeal.τ).loc Cert.CmpFinishRefIdeal.main_arg3)
      ∧ r.2.mem ((c.tc : Thread Cert.CmpFinishRefIdeal.nD Cert.CmpFinishRefIdeal.τ).loc Cert.CmpFinishRefIdeal.main_arg4) = m ((c.tc : Thread Cert.CmpFinishRefIdeal.nD Cert.CmpFinishRefIdeal.τ).loc Cert.CmpFinishRefIdeal.main_arg4))
      ∧ r.2.sem = fun _ => 0)

def quiescent_SsdState [hSsdState : Cert.SsdState.Facts] [hPre_steps_finite : Cert.Pre_steps_finite.Facts] : Prop :=
  ∀ (m : (ℓ : Loc Cert.SsdState.nD Cert.SsdState.τ Cert.SsdState.sig) → Buf (Elt Bits) ℓ) (g : Dev Cert.SsdState.nD → PrngReg), Pre_SsdState m →
    θ_run (Cert.SsdState.defs (F := Bits)) (onTc (τ := Cert.SsdState.τ) (Cert.SsdState.main (F := Bits))) ⟨m, fun _ => 0, g⟩ (fun r => (∀ c : Dev Cert.SsdState.nD,
      r.2.mem ((c.tc : Thread Cert.SsdState.nD Cert.SsdState.τ).loc Cert.SsdState.main_arg0) = m ((c.tc : Thread Cert.SsdState.nD Cert.SsdState.τ).loc Cert.SsdState.main_arg0)
      ∧ r.2.mem ((c.tc : Thread Cert.SsdState.nD Cert.SsdState.τ).loc Cert.SsdState.main_arg1) = m ((c.tc : Thread Cert.SsdState.nD Cert.SsdState.τ).loc Cert.SsdState.main_arg1)
      ∧ r.2.mem ((c.tc : Thread Cert.SsdState.nD Cert.SsdState.τ).loc Cert.SsdState.main_arg2) = m ((c.tc : Thread Cert.SsdState.nD Cert.SsdState.τ).loc Cert.SsdState.main_arg2)
      ∧ r.2.mem ((c.tc : Thread Cert.SsdState.nD Cert.SsdState.τ).loc Cert.SsdState.main_arg3) = m ((c.tc : Thread Cert.SsdState.nD Cert.SsdState.τ).loc Cert.SsdState.main_arg3)
      ∧ r.2.mem ((c.tc : Thread Cert.SsdState.nD Cert.SsdState.τ).loc Cert.SsdState.main_arg4) = m ((c.tc : Thread Cert.SsdState.nD Cert.SsdState.τ).loc Cert.SsdState.main_arg4)
      ∧ r.2.mem ((c.tc : Thread Cert.SsdState.nD Cert.SsdState.τ).loc Cert.SsdState.main_arg5) = m ((c.tc : Thread Cert.SsdState.nD Cert.SsdState.τ).loc Cert.SsdState.main_arg5)
      ∧ r.2.mem ((c.tc : Thread Cert.SsdState.nD Cert.SsdState.τ).loc Cert.SsdState.main_arg6) = m ((c.tc : Thread Cert.SsdState.nD Cert.SsdState.τ).loc Cert.SsdState.main_arg6)
      ∧ r.2.mem ((c.tc : Thread Cert.SsdState.nD Cert.SsdState.τ).loc Cert.SsdState.main_arg7) = m ((c.tc : Thread Cert.SsdState.nD Cert.SsdState.τ).loc Cert.SsdState.main_arg7)
      ∧ r.2.mem ((c.tc : Thread Cert.SsdState.nD Cert.SsdState.τ).loc Cert.SsdState.main_arg8) = m ((c.tc : Thread Cert.SsdState.nD Cert.SsdState.τ).loc Cert.SsdState.main_arg8))
      ∧ r.2.sem = fun _ => 0)

def quiescent_SsdStateIdeal [hSsdStateIdeal : Cert.SsdStateIdeal.Facts] [hPre_steps_finite : Cert.Pre_steps_finite.Facts] : Prop :=
  ∀ (m : (ℓ : Loc Cert.SsdStateIdeal.nD Cert.SsdStateIdeal.τ Cert.SsdStateIdeal.sig) → Buf (Elt Ideal) ℓ) (g : Dev Cert.SsdStateIdeal.nD → PrngReg), Pre_SsdStateIdeal m →
    θ_run (Cert.SsdStateIdeal.defs (F := Ideal)) (onTc (τ := Cert.SsdStateIdeal.τ) (Cert.SsdStateIdeal.main (F := Ideal))) ⟨m, fun _ => 0, g⟩ (fun r => (∀ c : Dev Cert.SsdStateIdeal.nD,
      r.2.mem ((c.tc : Thread Cert.SsdStateIdeal.nD Cert.SsdStateIdeal.τ).loc Cert.SsdStateIdeal.main_arg0) = m ((c.tc : Thread Cert.SsdStateIdeal.nD Cert.SsdStateIdeal.τ).loc Cert.SsdStateIdeal.main_arg0)
      ∧ r.2.mem ((c.tc : Thread Cert.SsdStateIdeal.nD Cert.SsdStateIdeal.τ).loc Cert.SsdStateIdeal.main_arg1) = m ((c.tc : Thread Cert.SsdStateIdeal.nD Cert.SsdStateIdeal.τ).loc Cert.SsdStateIdeal.main_arg1)
      ∧ r.2.mem ((c.tc : Thread Cert.SsdStateIdeal.nD Cert.SsdStateIdeal.τ).loc Cert.SsdStateIdeal.main_arg2) = m ((c.tc : Thread Cert.SsdStateIdeal.nD Cert.SsdStateIdeal.τ).loc Cert.SsdStateIdeal.main_arg2)
      ∧ r.2.mem ((c.tc : Thread Cert.SsdStateIdeal.nD Cert.SsdStateIdeal.τ).loc Cert.SsdStateIdeal.main_arg3) = m ((c.tc : Thread Cert.SsdStateIdeal.nD Cert.SsdStateIdeal.τ).loc Cert.SsdStateIdeal.main_arg3)
      ∧ r.2.mem ((c.tc : Thread Cert.SsdStateIdeal.nD Cert.SsdStateIdeal.τ).loc Cert.SsdStateIdeal.main_arg4) = m ((c.tc : Thread Cert.SsdStateIdeal.nD Cert.SsdStateIdeal.τ).loc Cert.SsdStateIdeal.main_arg4)
      ∧ r.2.mem ((c.tc : Thread Cert.SsdStateIdeal.nD Cert.SsdStateIdeal.τ).loc Cert.SsdStateIdeal.main_arg5) = m ((c.tc : Thread Cert.SsdStateIdeal.nD Cert.SsdStateIdeal.τ).loc Cert.SsdStateIdeal.main_arg5)
      ∧ r.2.mem ((c.tc : Thread Cert.SsdStateIdeal.nD Cert.SsdStateIdeal.τ).loc Cert.SsdStateIdeal.main_arg6) = m ((c.tc : Thread Cert.SsdStateIdeal.nD Cert.SsdStateIdeal.τ).loc Cert.SsdStateIdeal.main_arg6)
      ∧ r.2.mem ((c.tc : Thread Cert.SsdStateIdeal.nD Cert.SsdStateIdeal.τ).loc Cert.SsdStateIdeal.main_arg7) = m ((c.tc : Thread Cert.SsdStateIdeal.nD Cert.SsdStateIdeal.τ).loc Cert.SsdStateIdeal.main_arg7)
      ∧ r.2.mem ((c.tc : Thread Cert.SsdStateIdeal.nD Cert.SsdStateIdeal.τ).loc Cert.SsdStateIdeal.main_arg8) = m ((c.tc : Thread Cert.SsdStateIdeal.nD Cert.SsdStateIdeal.τ).loc Cert.SsdStateIdeal.main_arg8))
      ∧ r.2.sem = fun _ => 0)

def quiescent_SsdStateRefIdeal [hSsdStateRefIdeal : Cert.SsdStateRefIdeal.Facts] [hPre_steps_finite : Cert.Pre_steps_finite.Facts] : Prop :=
  ∀ (m : (ℓ : Loc Cert.SsdStateRefIdeal.nD Cert.SsdStateRefIdeal.τ Cert.SsdStateRefIdeal.sig) → Buf (Elt Ideal) ℓ) (g : Dev Cert.SsdStateRefIdeal.nD → PrngReg), Pre_SsdStateRefIdeal m →
    θ_run (Cert.SsdStateRefIdeal.defs (F := Ideal)) (onTc (τ := Cert.SsdStateRefIdeal.τ) (Cert.SsdStateRefIdeal.main (F := Ideal))) ⟨m, fun _ => 0, g⟩ (fun r => (∀ c : Dev Cert.SsdStateRefIdeal.nD,
      r.2.mem ((c.tc : Thread Cert.SsdStateRefIdeal.nD Cert.SsdStateRefIdeal.τ).loc Cert.SsdStateRefIdeal.main_arg0) = m ((c.tc : Thread Cert.SsdStateRefIdeal.nD Cert.SsdStateRefIdeal.τ).loc Cert.SsdStateRefIdeal.main_arg0)
      ∧ r.2.mem ((c.tc : Thread Cert.SsdStateRefIdeal.nD Cert.SsdStateRefIdeal.τ).loc Cert.SsdStateRefIdeal.main_arg1) = m ((c.tc : Thread Cert.SsdStateRefIdeal.nD Cert.SsdStateRefIdeal.τ).loc Cert.SsdStateRefIdeal.main_arg1)
      ∧ r.2.mem ((c.tc : Thread Cert.SsdStateRefIdeal.nD Cert.SsdStateRefIdeal.τ).loc Cert.SsdStateRefIdeal.main_arg2) = m ((c.tc : Thread Cert.SsdStateRefIdeal.nD Cert.SsdStateRefIdeal.τ).loc Cert.SsdStateRefIdeal.main_arg2)
      ∧ r.2.mem ((c.tc : Thread Cert.SsdStateRefIdeal.nD Cert.SsdStateRefIdeal.τ).loc Cert.SsdStateRefIdeal.main_arg3) = m ((c.tc : Thread Cert.SsdStateRefIdeal.nD Cert.SsdStateRefIdeal.τ).loc Cert.SsdStateRefIdeal.main_arg3)
      ∧ r.2.mem ((c.tc : Thread Cert.SsdStateRefIdeal.nD Cert.SsdStateRefIdeal.τ).loc Cert.SsdStateRefIdeal.main_arg4) = m ((c.tc : Thread Cert.SsdStateRefIdeal.nD Cert.SsdStateRefIdeal.τ).loc Cert.SsdStateRefIdeal.main_arg4)
      ∧ r.2.mem ((c.tc : Thread Cert.SsdStateRefIdeal.nD Cert.SsdStateRefIdeal.τ).loc Cert.SsdStateRefIdeal.main_arg5) = m ((c.tc : Thread Cert.SsdStateRefIdeal.nD Cert.SsdStateRefIdeal.τ).loc Cert.SsdStateRefIdeal.main_arg5)
      ∧ r.2.mem ((c.tc : Thread Cert.SsdStateRefIdeal.nD Cert.SsdStateRefIdeal.τ).loc Cert.SsdStateRefIdeal.main_arg6) = m ((c.tc : Thread Cert.SsdStateRefIdeal.nD Cert.SsdStateRefIdeal.τ).loc Cert.SsdStateRefIdeal.main_arg6)
      ∧ r.2.mem ((c.tc : Thread Cert.SsdStateRefIdeal.nD Cert.SsdStateRefIdeal.τ).loc Cert.SsdStateRefIdeal.main_arg7) = m ((c.tc : Thread Cert.SsdStateRefIdeal.nD Cert.SsdStateRefIdeal.τ).loc Cert.SsdStateRefIdeal.main_arg7)
      ∧ r.2.mem ((c.tc : Thread Cert.SsdStateRefIdeal.nD Cert.SsdStateRefIdeal.τ).loc Cert.SsdStateRefIdeal.main_arg8) = m ((c.tc : Thread Cert.SsdStateRefIdeal.nD Cert.SsdStateRefIdeal.τ).loc Cert.SsdStateRefIdeal.main_arg8))
      ∧ r.2.sem = fun _ => 0)

def preserves_CmpProject_CmpProjectIdeal : Prop :=
  True

def algebraic_CmpProjectIdeal_CmpProjectRefIdeal [hCmpProjectIdeal : Cert.CmpProjectIdeal.Facts] [hCmpProjectRefIdeal : Cert.CmpProjectRefIdeal.Facts] [hPre_pages_in_range : Cert.Pre_pages_in_range.Facts] : Prop :=
  ∀ (m : (ℓ : Loc Cert.CmpProjectIdeal.nD Cert.CmpProjectIdeal.τ Cert.CmpProjectIdeal.sig) → Buf (Elt Ideal) ℓ) (g : Dev Cert.CmpProjectIdeal.nD → PrngReg)
    (m' : (ℓ : Loc Cert.CmpProjectRefIdeal.nD Cert.CmpProjectRefIdeal.τ Cert.CmpProjectRefIdeal.sig) → Buf (Elt Ideal) ℓ) (g' : Dev Cert.CmpProjectRefIdeal.nD → PrngReg), Pre_CmpProjectIdeal m →
    (∀ c : Dev Cert.CmpProjectIdeal.nD,
      m' ((c.tc : Thread Cert.CmpProjectRefIdeal.nD Cert.CmpProjectRefIdeal.τ).loc Cert.CmpProjectRefIdeal.main_arg0) = m ((c.tc : Thread Cert.CmpProjectIdeal.nD Cert.CmpProjectIdeal.τ).loc Cert.CmpProjectIdeal.main_arg0)
      ∧ m' ((c.tc : Thread Cert.CmpProjectRefIdeal.nD Cert.CmpProjectRefIdeal.τ).loc Cert.CmpProjectRefIdeal.main_arg1) = m ((c.tc : Thread Cert.CmpProjectIdeal.nD Cert.CmpProjectIdeal.τ).loc Cert.CmpProjectIdeal.main_arg1)
      ∧ m' ((c.tc : Thread Cert.CmpProjectRefIdeal.nD Cert.CmpProjectRefIdeal.τ).loc Cert.CmpProjectRefIdeal.main_arg2) = m ((c.tc : Thread Cert.CmpProjectIdeal.nD Cert.CmpProjectIdeal.τ).loc Cert.CmpProjectIdeal.main_arg2)) →
    ∃ (v0 : (c : Dev Cert.CmpProjectIdeal.nD) → Buf (Elt Ideal) ((c.tc : Thread Cert.CmpProjectIdeal.nD Cert.CmpProjectIdeal.τ).loc Cert.CmpProjectIdeal.main_v8_0)) (v1 : (c : Dev Cert.CmpProjectIdeal.nD) → Buf (Elt Ideal) ((c.tc : Thread Cert.CmpProjectIdeal.nD Cert.CmpProjectIdeal.τ).loc Cert.CmpProjectIdeal.main_v8_1)),
      θ_run (Cert.CmpProjectIdeal.defs (F := Ideal)) (onTc (τ := Cert.CmpProjectIdeal.τ) (Cert.CmpProjectIdeal.main (F := Ideal))) ⟨m, fun _ => 0, g⟩ (fun r => ∀ c : Dev Cert.CmpProjectIdeal.nD,
          r.2.mem ((c.tc : Thread Cert.CmpProjectIdeal.nD Cert.CmpProjectIdeal.τ).loc Cert.CmpProjectIdeal.main_v8_0) = v0 c
          ∧ r.2.mem ((c.tc : Thread Cert.CmpProjectIdeal.nD Cert.CmpProjectIdeal.τ).loc Cert.CmpProjectIdeal.main_v8_1) = v1 c
          ∧ r.2.mem ((c.tc : Thread Cert.CmpProjectIdeal.nD Cert.CmpProjectIdeal.τ).loc Cert.CmpProjectIdeal.main_arg0) = m ((c.tc : Thread Cert.CmpProjectIdeal.nD Cert.CmpProjectIdeal.τ).loc Cert.CmpProjectIdeal.main_arg0)
          ∧ r.2.mem ((c.tc : Thread Cert.CmpProjectIdeal.nD Cert.CmpProjectIdeal.τ).loc Cert.CmpProjectIdeal.main_arg1) = m ((c.tc : Thread Cert.CmpProjectIdeal.nD Cert.CmpProjectIdeal.τ).loc Cert.CmpProjectIdeal.main_arg1)
          ∧ r.2.mem ((c.tc : Thread Cert.CmpProjectIdeal.nD Cert.CmpProjectIdeal.τ).loc Cert.CmpProjectIdeal.main_arg2) = m ((c.tc : Thread Cert.CmpProjectIdeal.nD Cert.CmpProjectIdeal.τ).loc Cert.CmpProjectIdeal.main_arg2))
      ∧ θ_run (Cert.CmpProjectRefIdeal.defs (F := Ideal)) (onTc (τ := Cert.CmpProjectRefIdeal.τ) (Cert.CmpProjectRefIdeal.main (F := Ideal))) ⟨m', fun _ => 0, g'⟩ (fun r => ∀ c : Dev Cert.CmpProjectRefIdeal.nD,
          r.2.mem ((c.tc : Thread Cert.CmpProjectRefIdeal.nD Cert.CmpProjectRefIdeal.τ).loc Cert.CmpProjectRefIdeal.main_v22) = v0 c
          ∧ r.2.mem ((c.tc : Thread Cert.CmpProjectRefIdeal.nD Cert.CmpProjectRefIdeal.τ).loc Cert.CmpProjectRefIdeal.main_v35) = v1 c
          ∧ r.2.mem ((c.tc : Thread Cert.CmpProjectRefIdeal.nD Cert.CmpProjectRefIdeal.τ).loc Cert.CmpProjectRefIdeal.main_arg0) = m' ((c.tc : Thread Cert.CmpProjectRefIdeal.nD Cert.CmpProjectRefIdeal.τ).loc Cert.CmpProjectRefIdeal.main_arg0)
          ∧ r.2.mem ((c.tc : Thread Cert.CmpProjectRefIdeal.nD Cert.CmpProjectRefIdeal.τ).loc Cert.CmpProjectRefIdeal.main_arg1) = m' ((c.tc : Thread Cert.CmpProjectRefIdeal.nD Cert.CmpProjectRefIdeal.τ).loc Cert.CmpProjectRefIdeal.main_arg1)
          ∧ r.2.mem ((c.tc : Thread Cert.CmpProjectRefIdeal.nD Cert.CmpProjectRefIdeal.τ).loc Cert.CmpProjectRefIdeal.main_arg2) = m' ((c.tc : Thread Cert.CmpProjectRefIdeal.nD Cert.CmpProjectRefIdeal.τ).loc Cert.CmpProjectRefIdeal.main_arg2))

def preserves_MlpUp_MlpUpIdeal : Prop :=
  True

def algebraic_MlpUpIdeal_MlpUpRefIdeal [hMlpUpIdeal : Cert.MlpUpIdeal.Facts] [hMlpUpRefIdeal : Cert.MlpUpRefIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg)
    (m' : (ℓ : Loc Cert.MlpUpRefIdeal.nD Cert.MlpUpRefIdeal.τ Cert.MlpUpRefIdeal.sig) → Buf (Elt Ideal) ℓ) (g' : Dev Cert.MlpUpRefIdeal.nD → PrngReg), Pre_MlpUpIdeal m →
    (∀ c : Dev Cert.MlpUpIdeal.nD,
      m' ((c.tc : Thread Cert.MlpUpRefIdeal.nD Cert.MlpUpRefIdeal.τ).loc Cert.MlpUpRefIdeal.main_arg0) = m ((c.tc : Thread Cert.MlpUpIdeal.nD Cert.MlpUpIdeal.τ).loc Cert.MlpUpIdeal.main_arg0)
      ∧ m' ((c.tc : Thread Cert.MlpUpRefIdeal.nD Cert.MlpUpRefIdeal.τ).loc Cert.MlpUpRefIdeal.main_arg1) = m ((c.tc : Thread Cert.MlpUpIdeal.nD Cert.MlpUpIdeal.τ).loc Cert.MlpUpIdeal.main_arg1)
      ∧ m' ((c.tc : Thread Cert.MlpUpRefIdeal.nD Cert.MlpUpRefIdeal.τ).loc Cert.MlpUpRefIdeal.main_arg2) = m ((c.tc : Thread Cert.MlpUpIdeal.nD Cert.MlpUpIdeal.τ).loc Cert.MlpUpIdeal.main_arg2)) →
    ∃ (v0 : (c : Dev Cert.MlpUpIdeal.nD) → Buf (Elt Ideal) ((c.tc : Thread Cert.MlpUpIdeal.nD Cert.MlpUpIdeal.τ).loc Cert.MlpUpIdeal.main_v2)),
      θ_run (Cert.MlpUpIdeal.defs (F := Ideal)) (onTc (τ := Cert.MlpUpIdeal.τ) (Cert.MlpUpIdeal.main (F := Ideal))) ⟨m, fun _ => 0, g⟩ (fun r => ∀ c : Dev Cert.MlpUpIdeal.nD,
          r.2.mem ((c.tc : Thread Cert.MlpUpIdeal.nD Cert.MlpUpIdeal.τ).loc Cert.MlpUpIdeal.main_v2) = v0 c
          ∧ r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
          ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1)
          ∧ r.2.mem ((c.tc : Thread Cert.MlpUpIdeal.nD Cert.MlpUpIdeal.τ).loc Cert.MlpUpIdeal.main_arg2) = m ((c.tc : Thread Cert.MlpUpIdeal.nD Cert.MlpUpIdeal.τ).loc Cert.MlpUpIdeal.main_arg2))
      ∧ θ_run (Cert.MlpUpRefIdeal.defs (F := Ideal)) (onTc (τ := Cert.MlpUpRefIdeal.τ) (Cert.MlpUpRefIdeal.main (F := Ideal))) ⟨m', fun _ => 0, g'⟩ (fun r => ∀ c : Dev Cert.MlpUpRefIdeal.nD,
          r.2.mem ((c.tc : Thread Cert.MlpUpRefIdeal.nD Cert.MlpUpRefIdeal.τ).loc Cert.MlpUpRefIdeal.main_v16) = v0 c
          ∧ r.2.mem ((c.tc : Thread Cert.MlpUpRefIdeal.nD Cert.MlpUpRefIdeal.τ).loc Cert.MlpUpRefIdeal.main_arg0) = m' ((c.tc : Thread Cert.MlpUpRefIdeal.nD Cert.MlpUpRefIdeal.τ).loc Cert.MlpUpRefIdeal.main_arg0)
          ∧ r.2.mem ((c.tc : Thread Cert.MlpUpRefIdeal.nD Cert.MlpUpRefIdeal.τ).loc Cert.MlpUpRefIdeal.main_arg1) = m' ((c.tc : Thread Cert.MlpUpRefIdeal.nD Cert.MlpUpRefIdeal.τ).loc Cert.MlpUpRefIdeal.main_arg1)
          ∧ r.2.mem ((c.tc : Thread Cert.MlpUpRefIdeal.nD Cert.MlpUpRefIdeal.τ).loc Cert.MlpUpRefIdeal.main_arg2) = m' ((c.tc : Thread Cert.MlpUpRefIdeal.nD Cert.MlpUpRefIdeal.τ).loc Cert.MlpUpRefIdeal.main_arg2))

def preserves_MlpDown_MlpDownIdeal : Prop :=
  True

def algebraic_MlpDownIdeal_MlpDownRefIdeal [hMlpDownIdeal : Cert.MlpDownIdeal.Facts] [hMlpDownRefIdeal : Cert.MlpDownRefIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg)
    (m' : (ℓ : Loc Cert.MlpDownRefIdeal.nD Cert.MlpDownRefIdeal.τ Cert.MlpDownRefIdeal.sig) → Buf (Elt Ideal) ℓ) (g' : Dev Cert.MlpDownRefIdeal.nD → PrngReg), Pre_MlpDownIdeal m →
    (∀ c : Dev Cert.MlpDownIdeal.nD,
      m' ((c.tc : Thread Cert.MlpDownRefIdeal.nD Cert.MlpDownRefIdeal.τ).loc Cert.MlpDownRefIdeal.main_arg0) = m ((c.tc : Thread Cert.MlpDownIdeal.nD Cert.MlpDownIdeal.τ).loc Cert.MlpDownIdeal.main_arg0)
      ∧ m' ((c.tc : Thread Cert.MlpDownRefIdeal.nD Cert.MlpDownRefIdeal.τ).loc Cert.MlpDownRefIdeal.main_arg1) = m ((c.tc : Thread Cert.MlpDownIdeal.nD Cert.MlpDownIdeal.τ).loc Cert.MlpDownIdeal.main_arg1)
      ∧ m' ((c.tc : Thread Cert.MlpDownRefIdeal.nD Cert.MlpDownRefIdeal.τ).loc Cert.MlpDownRefIdeal.main_arg2) = m ((c.tc : Thread Cert.MlpDownIdeal.nD Cert.MlpDownIdeal.τ).loc Cert.MlpDownIdeal.main_arg2)) →
    ∃ (v0 : (c : Dev Cert.MlpDownIdeal.nD) → Buf (Elt Ideal) ((c.tc : Thread Cert.MlpDownIdeal.nD Cert.MlpDownIdeal.τ).loc Cert.MlpDownIdeal.main_v1)),
      θ_run (Cert.MlpDownIdeal.defs (F := Ideal)) (onTc (τ := Cert.MlpDownIdeal.τ) (Cert.MlpDownIdeal.main (F := Ideal))) ⟨m, fun _ => 0, g⟩ (fun r => ∀ c : Dev Cert.MlpDownIdeal.nD,
          r.2.mem ((c.tc : Thread Cert.MlpDownIdeal.nD Cert.MlpDownIdeal.τ).loc Cert.MlpDownIdeal.main_v1) = v0 c
          ∧ r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
          ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
          ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2))
      ∧ θ_run (Cert.MlpDownRefIdeal.defs (F := Ideal)) (onTc (τ := Cert.MlpDownRefIdeal.τ) (Cert.MlpDownRefIdeal.main (F := Ideal))) ⟨m', fun _ => 0, g'⟩ (fun r => ∀ c : Dev Cert.MlpDownRefIdeal.nD,
          r.2.mem ((c.tc : Thread Cert.MlpDownRefIdeal.nD Cert.MlpDownRefIdeal.τ).loc Cert.MlpDownRefIdeal.main_v2) = v0 c
          ∧ r.2.mem ((c.tc : Thread Cert.MlpDownRefIdeal.nD Cert.MlpDownRefIdeal.τ).loc Cert.MlpDownRefIdeal.main_arg0) = m' ((c.tc : Thread Cert.MlpDownRefIdeal.nD Cert.MlpDownRefIdeal.τ).loc Cert.MlpDownRefIdeal.main_arg0)
          ∧ r.2.mem ((c.tc : Thread Cert.MlpDownRefIdeal.nD Cert.MlpDownRefIdeal.τ).loc Cert.MlpDownRefIdeal.main_arg1) = m' ((c.tc : Thread Cert.MlpDownRefIdeal.nD Cert.MlpDownRefIdeal.τ).loc Cert.MlpDownRefIdeal.main_arg1)
          ∧ r.2.mem ((c.tc : Thread Cert.MlpDownRefIdeal.nD Cert.MlpDownRefIdeal.τ).loc Cert.MlpDownRefIdeal.main_arg2) = m' ((c.tc : Thread Cert.MlpDownRefIdeal.nD Cert.MlpDownRefIdeal.τ).loc Cert.MlpDownRefIdeal.main_arg2))

def preserves_MlpDownFin_MlpDownFinIdeal : Prop :=
  True

def algebraic_MlpDownFinIdeal_MlpDownFinRefIdeal [hMlpDownFinIdeal : Cert.MlpDownFinIdeal.Facts] [hMlpDownFinRefIdeal : Cert.MlpDownFinRefIdeal.Facts] : Prop :=
  ∀ (m : (ℓ : Loc Cert.MlpDownFinIdeal.nD Cert.MlpDownFinIdeal.τ Cert.MlpDownFinIdeal.sig) → Buf (Elt Ideal) ℓ) (g : Dev Cert.MlpDownFinIdeal.nD → PrngReg)
    (m' : (ℓ : Loc Cert.MlpDownFinRefIdeal.nD Cert.MlpDownFinRefIdeal.τ Cert.MlpDownFinRefIdeal.sig) → Buf (Elt Ideal) ℓ) (g' : Dev Cert.MlpDownFinRefIdeal.nD → PrngReg), Pre_MlpDownFinIdeal m →
    (∀ c : Dev Cert.MlpDownFinIdeal.nD,
      m' ((c.tc : Thread Cert.MlpDownFinRefIdeal.nD Cert.MlpDownFinRefIdeal.τ).loc Cert.MlpDownFinRefIdeal.main_arg0) = m ((c.tc : Thread Cert.MlpDownFinIdeal.nD Cert.MlpDownFinIdeal.τ).loc Cert.MlpDownFinIdeal.main_arg0)
      ∧ m' ((c.tc : Thread Cert.MlpDownFinRefIdeal.nD Cert.MlpDownFinRefIdeal.τ).loc Cert.MlpDownFinRefIdeal.main_arg1) = m ((c.tc : Thread Cert.MlpDownFinIdeal.nD Cert.MlpDownFinIdeal.τ).loc Cert.MlpDownFinIdeal.main_arg1)
      ∧ m' ((c.tc : Thread Cert.MlpDownFinRefIdeal.nD Cert.MlpDownFinRefIdeal.τ).loc Cert.MlpDownFinRefIdeal.main_arg2) = m ((c.tc : Thread Cert.MlpDownFinIdeal.nD Cert.MlpDownFinIdeal.τ).loc Cert.MlpDownFinIdeal.main_arg2)
      ∧ m' ((c.tc : Thread Cert.MlpDownFinRefIdeal.nD Cert.MlpDownFinRefIdeal.τ).loc Cert.MlpDownFinRefIdeal.main_arg3) = m ((c.tc : Thread Cert.MlpDownFinIdeal.nD Cert.MlpDownFinIdeal.τ).loc Cert.MlpDownFinIdeal.main_arg3)) →
    ∃ (v0 : (c : Dev Cert.MlpDownFinIdeal.nD) → Buf (Elt Ideal) ((c.tc : Thread Cert.MlpDownFinIdeal.nD Cert.MlpDownFinIdeal.τ).loc Cert.MlpDownFinIdeal.main_v2)),
      θ_run (Cert.MlpDownFinIdeal.defs (F := Ideal)) (onTc (τ := Cert.MlpDownFinIdeal.τ) (Cert.MlpDownFinIdeal.main (F := Ideal))) ⟨m, fun _ => 0, g⟩ (fun r => ∀ c : Dev Cert.MlpDownFinIdeal.nD,
          r.2.mem ((c.tc : Thread Cert.MlpDownFinIdeal.nD Cert.MlpDownFinIdeal.τ).loc Cert.MlpDownFinIdeal.main_v2) = v0 c
          ∧ r.2.mem ((c.tc : Thread Cert.MlpDownFinIdeal.nD Cert.MlpDownFinIdeal.τ).loc Cert.MlpDownFinIdeal.main_arg0) = m ((c.tc : Thread Cert.MlpDownFinIdeal.nD Cert.MlpDownFinIdeal.τ).loc Cert.MlpDownFinIdeal.main_arg0)
          ∧ r.2.mem ((c.tc : Thread Cert.MlpDownFinIdeal.nD Cert.MlpDownFinIdeal.τ).loc Cert.MlpDownFinIdeal.main_arg1) = m ((c.tc : Thread Cert.MlpDownFinIdeal.nD Cert.MlpDownFinIdeal.τ).loc Cert.MlpDownFinIdeal.main_arg1)
          ∧ r.2.mem ((c.tc : Thread Cert.MlpDownFinIdeal.nD Cert.MlpDownFinIdeal.τ).loc Cert.MlpDownFinIdeal.main_arg2) = m ((c.tc : Thread Cert.MlpDownFinIdeal.nD Cert.MlpDownFinIdeal.τ).loc Cert.MlpDownFinIdeal.main_arg2)
          ∧ r.2.mem ((c.tc : Thread Cert.MlpDownFinIdeal.nD Cert.MlpDownFinIdeal.τ).loc Cert.MlpDownFinIdeal.main_arg3) = m ((c.tc : Thread Cert.MlpDownFinIdeal.nD Cert.MlpDownFinIdeal.τ).loc Cert.MlpDownFinIdeal.main_arg3))
      ∧ θ_run (Cert.MlpDownFinRefIdeal.defs (F := Ideal)) (onTc (τ := Cert.MlpDownFinRefIdeal.τ) (Cert.MlpDownFinRefIdeal.main (F := Ideal))) ⟨m', fun _ => 0, g'⟩ (fun r => ∀ c : Dev Cert.MlpDownFinRefIdeal.nD,
          r.2.mem ((c.tc : Thread Cert.MlpDownFinRefIdeal.nD Cert.MlpDownFinRefIdeal.τ).loc Cert.MlpDownFinRefIdeal.main_v15) = v0 c
          ∧ r.2.mem ((c.tc : Thread Cert.MlpDownFinRefIdeal.nD Cert.MlpDownFinRefIdeal.τ).loc Cert.MlpDownFinRefIdeal.main_arg0) = m' ((c.tc : Thread Cert.MlpDownFinRefIdeal.nD Cert.MlpDownFinRefIdeal.τ).loc Cert.MlpDownFinRefIdeal.main_arg0)
          ∧ r.2.mem ((c.tc : Thread Cert.MlpDownFinRefIdeal.nD Cert.MlpDownFinRefIdeal.τ).loc Cert.MlpDownFinRefIdeal.main_arg1) = m' ((c.tc : Thread Cert.MlpDownFinRefIdeal.nD Cert.MlpDownFinRefIdeal.τ).loc Cert.MlpDownFinRefIdeal.main_arg1)
          ∧ r.2.mem ((c.tc : Thread Cert.MlpDownFinRefIdeal.nD Cert.MlpDownFinRefIdeal.τ).loc Cert.MlpDownFinRefIdeal.main_arg2) = m' ((c.tc : Thread Cert.MlpDownFinRefIdeal.nD Cert.MlpDownFinRefIdeal.τ).loc Cert.MlpDownFinRefIdeal.main_arg2)
          ∧ r.2.mem ((c.tc : Thread Cert.MlpDownFinRefIdeal.nD Cert.MlpDownFinRefIdeal.τ).loc Cert.MlpDownFinRefIdeal.main_arg3) = m' ((c.tc : Thread Cert.MlpDownFinRefIdeal.nD Cert.MlpDownFinRefIdeal.τ).loc Cert.MlpDownFinRefIdeal.main_arg3))

def preserves_MlpDownFinS_MlpDownFinSIdeal : Prop :=
  True

def algebraic_MlpDownFinSIdeal_MlpDownFinSRefIdeal [hMlpDownFinSIdeal : Cert.MlpDownFinSIdeal.Facts] [hMlpDownFinSRefIdeal : Cert.MlpDownFinSRefIdeal.Facts] : Prop :=
  ∀ (m : (ℓ : Loc Cert.MlpDownFinSIdeal.nD Cert.MlpDownFinSIdeal.τ Cert.MlpDownFinSIdeal.sig) → Buf (Elt Ideal) ℓ) (g : Dev Cert.MlpDownFinSIdeal.nD → PrngReg)
    (m' : (ℓ : Loc Cert.MlpDownFinSRefIdeal.nD Cert.MlpDownFinSRefIdeal.τ Cert.MlpDownFinSRefIdeal.sig) → Buf (Elt Ideal) ℓ) (g' : Dev Cert.MlpDownFinSRefIdeal.nD → PrngReg), Pre_MlpDownFinSIdeal m →
    (∀ c : Dev Cert.MlpDownFinSIdeal.nD,
      m' ((c.tc : Thread Cert.MlpDownFinSRefIdeal.nD Cert.MlpDownFinSRefIdeal.τ).loc Cert.MlpDownFinSRefIdeal.main_arg0) = m ((c.tc : Thread Cert.MlpDownFinSIdeal.nD Cert.MlpDownFinSIdeal.τ).loc Cert.MlpDownFinSIdeal.main_arg0)
      ∧ m' ((c.tc : Thread Cert.MlpDownFinSRefIdeal.nD Cert.MlpDownFinSRefIdeal.τ).loc Cert.MlpDownFinSRefIdeal.main_arg1) = m ((c.tc : Thread Cert.MlpDownFinSIdeal.nD Cert.MlpDownFinSIdeal.τ).loc Cert.MlpDownFinSIdeal.main_arg1)
      ∧ m' ((c.tc : Thread Cert.MlpDownFinSRefIdeal.nD Cert.MlpDownFinSRefIdeal.τ).loc Cert.MlpDownFinSRefIdeal.main_arg2) = m ((c.tc : Thread Cert.MlpDownFinSIdeal.nD Cert.MlpDownFinSIdeal.τ).loc Cert.MlpDownFinSIdeal.main_arg2)
      ∧ m' ((c.tc : Thread Cert.MlpDownFinSRefIdeal.nD Cert.MlpDownFinSRefIdeal.τ).loc Cert.MlpDownFinSRefIdeal.main_arg3) = m ((c.tc : Thread Cert.MlpDownFinSIdeal.nD Cert.MlpDownFinSIdeal.τ).loc Cert.MlpDownFinSIdeal.main_arg3)) →
    ∃ (v0 : (c : Dev Cert.MlpDownFinSIdeal.nD) → Buf (Elt Ideal) ((c.tc : Thread Cert.MlpDownFinSIdeal.nD Cert.MlpDownFinSIdeal.τ).loc Cert.MlpDownFinSIdeal.main_v2)),
      θ_run (Cert.MlpDownFinSIdeal.defs (F := Ideal)) (onTc (τ := Cert.MlpDownFinSIdeal.τ) (Cert.MlpDownFinSIdeal.main (F := Ideal))) ⟨m, fun _ => 0, g⟩ (fun r => ∀ c : Dev Cert.MlpDownFinSIdeal.nD,
          r.2.mem ((c.tc : Thread Cert.MlpDownFinSIdeal.nD Cert.MlpDownFinSIdeal.τ).loc Cert.MlpDownFinSIdeal.main_v2) = v0 c
          ∧ r.2.mem ((c.tc : Thread Cert.MlpDownFinSIdeal.nD Cert.MlpDownFinSIdeal.τ).loc Cert.MlpDownFinSIdeal.main_arg0) = m ((c.tc : Thread Cert.MlpDownFinSIdeal.nD Cert.MlpDownFinSIdeal.τ).loc Cert.MlpDownFinSIdeal.main_arg0)
          ∧ r.2.mem ((c.tc : Thread Cert.MlpDownFinSIdeal.nD Cert.MlpDownFinSIdeal.τ).loc Cert.MlpDownFinSIdeal.main_arg1) = m ((c.tc : Thread Cert.MlpDownFinSIdeal.nD Cert.MlpDownFinSIdeal.τ).loc Cert.MlpDownFinSIdeal.main_arg1)
          ∧ r.2.mem ((c.tc : Thread Cert.MlpDownFinSIdeal.nD Cert.MlpDownFinSIdeal.τ).loc Cert.MlpDownFinSIdeal.main_arg2) = m ((c.tc : Thread Cert.MlpDownFinSIdeal.nD Cert.MlpDownFinSIdeal.τ).loc Cert.MlpDownFinSIdeal.main_arg2)
          ∧ r.2.mem ((c.tc : Thread Cert.MlpDownFinSIdeal.nD Cert.MlpDownFinSIdeal.τ).loc Cert.MlpDownFinSIdeal.main_arg3) = m ((c.tc : Thread Cert.MlpDownFinSIdeal.nD Cert.MlpDownFinSIdeal.τ).loc Cert.MlpDownFinSIdeal.main_arg3))
      ∧ θ_run (Cert.MlpDownFinSRefIdeal.defs (F := Ideal)) (onTc (τ := Cert.MlpDownFinSRefIdeal.τ) (Cert.MlpDownFinSRefIdeal.main (F := Ideal))) ⟨m', fun _ => 0, g'⟩ (fun r => ∀ c : Dev Cert.MlpDownFinSRefIdeal.nD,
          r.2.mem ((c.tc : Thread Cert.MlpDownFinSRefIdeal.nD Cert.MlpDownFinSRefIdeal.τ).loc Cert.MlpDownFinSRefIdeal.main_v15) = v0 c
          ∧ r.2.mem ((c.tc : Thread Cert.MlpDownFinSRefIdeal.nD Cert.MlpDownFinSRefIdeal.τ).loc Cert.MlpDownFinSRefIdeal.main_arg0) = m' ((c.tc : Thread Cert.MlpDownFinSRefIdeal.nD Cert.MlpDownFinSRefIdeal.τ).loc Cert.MlpDownFinSRefIdeal.main_arg0)
          ∧ r.2.mem ((c.tc : Thread Cert.MlpDownFinSRefIdeal.nD Cert.MlpDownFinSRefIdeal.τ).loc Cert.MlpDownFinSRefIdeal.main_arg1) = m' ((c.tc : Thread Cert.MlpDownFinSRefIdeal.nD Cert.MlpDownFinSRefIdeal.τ).loc Cert.MlpDownFinSRefIdeal.main_arg1)
          ∧ r.2.mem ((c.tc : Thread Cert.MlpDownFinSRefIdeal.nD Cert.MlpDownFinSRefIdeal.τ).loc Cert.MlpDownFinSRefIdeal.main_arg2) = m' ((c.tc : Thread Cert.MlpDownFinSRefIdeal.nD Cert.MlpDownFinSRefIdeal.τ).loc Cert.MlpDownFinSRefIdeal.main_arg2)
          ∧ r.2.mem ((c.tc : Thread Cert.MlpDownFinSRefIdeal.nD Cert.MlpDownFinSRefIdeal.τ).loc Cert.MlpDownFinSRefIdeal.main_arg3) = m' ((c.tc : Thread Cert.MlpDownFinSRefIdeal.nD Cert.MlpDownFinSRefIdeal.τ).loc Cert.MlpDownFinSRefIdeal.main_arg3))

def preserves_SsmIn_SsmInIdeal : Prop :=
  True

def algebraic_SsmInIdeal_SsmInRefIdeal [hSsmInIdeal : Cert.SsmInIdeal.Facts] [hSsmInRefIdeal : Cert.SsmInRefIdeal.Facts] : Prop :=
  ∀ (m : (ℓ : Loc Cert.SsmInIdeal.nD Cert.SsmInIdeal.τ Cert.SsmInIdeal.sig) → Buf (Elt Ideal) ℓ) (g : Dev Cert.SsmInIdeal.nD → PrngReg)
    (m' : (ℓ : Loc Cert.SsmInRefIdeal.nD Cert.SsmInRefIdeal.τ Cert.SsmInRefIdeal.sig) → Buf (Elt Ideal) ℓ) (g' : Dev Cert.SsmInRefIdeal.nD → PrngReg), Pre_SsmInIdeal m →
    (∀ c : Dev Cert.SsmInIdeal.nD,
      m' ((c.tc : Thread Cert.SsmInRefIdeal.nD Cert.SsmInRefIdeal.τ).loc Cert.SsmInRefIdeal.main_arg0) = m ((c.tc : Thread Cert.SsmInIdeal.nD Cert.SsmInIdeal.τ).loc Cert.SsmInIdeal.main_arg0)
      ∧ m' ((c.tc : Thread Cert.SsmInRefIdeal.nD Cert.SsmInRefIdeal.τ).loc Cert.SsmInRefIdeal.main_arg1) = m ((c.tc : Thread Cert.SsmInIdeal.nD Cert.SsmInIdeal.τ).loc Cert.SsmInIdeal.main_arg1)
      ∧ m' ((c.tc : Thread Cert.SsmInRefIdeal.nD Cert.SsmInRefIdeal.τ).loc Cert.SsmInRefIdeal.main_arg2) = m ((c.tc : Thread Cert.SsmInIdeal.nD Cert.SsmInIdeal.τ).loc Cert.SsmInIdeal.main_arg2)) →
    ∃ (v0 : (c : Dev Cert.SsmInIdeal.nD) → Buf (Elt Ideal) ((c.tc : Thread Cert.SsmInIdeal.nD Cert.SsmInIdeal.τ).loc Cert.SsmInIdeal.main_v4)),
      θ_run (Cert.SsmInIdeal.defs (F := Ideal)) (onTc (τ := Cert.SsmInIdeal.τ) (Cert.SsmInIdeal.main (F := Ideal))) ⟨m, fun _ => 0, g⟩ (fun r => ∀ c : Dev Cert.SsmInIdeal.nD,
          r.2.mem ((c.tc : Thread Cert.SsmInIdeal.nD Cert.SsmInIdeal.τ).loc Cert.SsmInIdeal.main_v4) = v0 c
          ∧ r.2.mem ((c.tc : Thread Cert.SsmInIdeal.nD Cert.SsmInIdeal.τ).loc Cert.SsmInIdeal.main_arg0) = m ((c.tc : Thread Cert.SsmInIdeal.nD Cert.SsmInIdeal.τ).loc Cert.SsmInIdeal.main_arg0)
          ∧ r.2.mem ((c.tc : Thread Cert.SsmInIdeal.nD Cert.SsmInIdeal.τ).loc Cert.SsmInIdeal.main_arg1) = m ((c.tc : Thread Cert.SsmInIdeal.nD Cert.SsmInIdeal.τ).loc Cert.SsmInIdeal.main_arg1)
          ∧ r.2.mem ((c.tc : Thread Cert.SsmInIdeal.nD Cert.SsmInIdeal.τ).loc Cert.SsmInIdeal.main_arg2) = m ((c.tc : Thread Cert.SsmInIdeal.nD Cert.SsmInIdeal.τ).loc Cert.SsmInIdeal.main_arg2))
      ∧ θ_run (Cert.SsmInRefIdeal.defs (F := Ideal)) (onTc (τ := Cert.SsmInRefIdeal.τ) (Cert.SsmInRefIdeal.main (F := Ideal))) ⟨m', fun _ => 0, g'⟩ (fun r => ∀ c : Dev Cert.SsmInRefIdeal.nD,
          r.2.mem ((c.tc : Thread Cert.SsmInRefIdeal.nD Cert.SsmInRefIdeal.τ).loc Cert.SsmInRefIdeal.main_v15) = v0 c
          ∧ r.2.mem ((c.tc : Thread Cert.SsmInRefIdeal.nD Cert.SsmInRefIdeal.τ).loc Cert.SsmInRefIdeal.main_arg0) = m' ((c.tc : Thread Cert.SsmInRefIdeal.nD Cert.SsmInRefIdeal.τ).loc Cert.SsmInRefIdeal.main_arg0)
          ∧ r.2.mem ((c.tc : Thread Cert.SsmInRefIdeal.nD Cert.SsmInRefIdeal.τ).loc Cert.SsmInRefIdeal.main_arg1) = m' ((c.tc : Thread Cert.SsmInRefIdeal.nD Cert.SsmInRefIdeal.τ).loc Cert.SsmInRefIdeal.main_arg1)
          ∧ r.2.mem ((c.tc : Thread Cert.SsmInRefIdeal.nD Cert.SsmInRefIdeal.τ).loc Cert.SsmInRefIdeal.main_arg2) = m' ((c.tc : Thread Cert.SsmInRefIdeal.nD Cert.SsmInRefIdeal.τ).loc Cert.SsmInRefIdeal.main_arg2))

def preserves_SsmInS_SsmInSIdeal : Prop :=
  True

def algebraic_SsmInSIdeal_SsmInSRefIdeal [hSsmInSIdeal : Cert.SsmInSIdeal.Facts] [hSsmInSRefIdeal : Cert.SsmInSRefIdeal.Facts] : Prop :=
  ∀ (m : (ℓ : Loc Cert.SsmInSIdeal.nD Cert.SsmInSIdeal.τ Cert.SsmInSIdeal.sig) → Buf (Elt Ideal) ℓ) (g : Dev Cert.SsmInSIdeal.nD → PrngReg)
    (m' : (ℓ : Loc Cert.SsmInSRefIdeal.nD Cert.SsmInSRefIdeal.τ Cert.SsmInSRefIdeal.sig) → Buf (Elt Ideal) ℓ) (g' : Dev Cert.SsmInSRefIdeal.nD → PrngReg), Pre_SsmInSIdeal m →
    (∀ c : Dev Cert.SsmInSIdeal.nD,
      m' ((c.tc : Thread Cert.SsmInSRefIdeal.nD Cert.SsmInSRefIdeal.τ).loc Cert.SsmInSRefIdeal.main_arg0) = m ((c.tc : Thread Cert.SsmInSIdeal.nD Cert.SsmInSIdeal.τ).loc Cert.SsmInSIdeal.main_arg0)
      ∧ m' ((c.tc : Thread Cert.SsmInSRefIdeal.nD Cert.SsmInSRefIdeal.τ).loc Cert.SsmInSRefIdeal.main_arg1) = m ((c.tc : Thread Cert.SsmInSIdeal.nD Cert.SsmInSIdeal.τ).loc Cert.SsmInSIdeal.main_arg1)
      ∧ m' ((c.tc : Thread Cert.SsmInSRefIdeal.nD Cert.SsmInSRefIdeal.τ).loc Cert.SsmInSRefIdeal.main_arg2) = m ((c.tc : Thread Cert.SsmInSIdeal.nD Cert.SsmInSIdeal.τ).loc Cert.SsmInSIdeal.main_arg2)) →
    ∃ (v0 : (c : Dev Cert.SsmInSIdeal.nD) → Buf (Elt Ideal) ((c.tc : Thread Cert.SsmInSIdeal.nD Cert.SsmInSIdeal.τ).loc Cert.SsmInSIdeal.main_v4)),
      θ_run (Cert.SsmInSIdeal.defs (F := Ideal)) (onTc (τ := Cert.SsmInSIdeal.τ) (Cert.SsmInSIdeal.main (F := Ideal))) ⟨m, fun _ => 0, g⟩ (fun r => ∀ c : Dev Cert.SsmInSIdeal.nD,
          r.2.mem ((c.tc : Thread Cert.SsmInSIdeal.nD Cert.SsmInSIdeal.τ).loc Cert.SsmInSIdeal.main_v4) = v0 c
          ∧ r.2.mem ((c.tc : Thread Cert.SsmInSIdeal.nD Cert.SsmInSIdeal.τ).loc Cert.SsmInSIdeal.main_arg0) = m ((c.tc : Thread Cert.SsmInSIdeal.nD Cert.SsmInSIdeal.τ).loc Cert.SsmInSIdeal.main_arg0)
          ∧ r.2.mem ((c.tc : Thread Cert.SsmInSIdeal.nD Cert.SsmInSIdeal.τ).loc Cert.SsmInSIdeal.main_arg1) = m ((c.tc : Thread Cert.SsmInSIdeal.nD Cert.SsmInSIdeal.τ).loc Cert.SsmInSIdeal.main_arg1)
          ∧ r.2.mem ((c.tc : Thread Cert.SsmInSIdeal.nD Cert.SsmInSIdeal.τ).loc Cert.SsmInSIdeal.main_arg2) = m ((c.tc : Thread Cert.SsmInSIdeal.nD Cert.SsmInSIdeal.τ).loc Cert.SsmInSIdeal.main_arg2))
      ∧ θ_run (Cert.SsmInSRefIdeal.defs (F := Ideal)) (onTc (τ := Cert.SsmInSRefIdeal.τ) (Cert.SsmInSRefIdeal.main (F := Ideal))) ⟨m', fun _ => 0, g'⟩ (fun r => ∀ c : Dev Cert.SsmInSRefIdeal.nD,
          r.2.mem ((c.tc : Thread Cert.SsmInSRefIdeal.nD Cert.SsmInSRefIdeal.τ).loc Cert.SsmInSRefIdeal.main_v15) = v0 c
          ∧ r.2.mem ((c.tc : Thread Cert.SsmInSRefIdeal.nD Cert.SsmInSRefIdeal.τ).loc Cert.SsmInSRefIdeal.main_arg0) = m' ((c.tc : Thread Cert.SsmInSRefIdeal.nD Cert.SsmInSRefIdeal.τ).loc Cert.SsmInSRefIdeal.main_arg0)
          ∧ r.2.mem ((c.tc : Thread Cert.SsmInSRefIdeal.nD Cert.SsmInSRefIdeal.τ).loc Cert.SsmInSRefIdeal.main_arg1) = m' ((c.tc : Thread Cert.SsmInSRefIdeal.nD Cert.SsmInSRefIdeal.τ).loc Cert.SsmInSRefIdeal.main_arg1)
          ∧ r.2.mem ((c.tc : Thread Cert.SsmInSRefIdeal.nD Cert.SsmInSRefIdeal.τ).loc Cert.SsmInSRefIdeal.main_arg2) = m' ((c.tc : Thread Cert.SsmInSRefIdeal.nD Cert.SsmInSRefIdeal.τ).loc Cert.SsmInSRefIdeal.main_arg2))

def preserves_SsmOut_SsmOutIdeal : Prop :=
  True

def algebraic_SsmOutIdeal_SsmOutRefIdeal [hSsmOutIdeal : Cert.SsmOutIdeal.Facts] [hSsmOutRefIdeal : Cert.SsmOutRefIdeal.Facts] : Prop :=
  ∀ (m : (ℓ : Loc Cert.SsmOutIdeal.nD Cert.SsmOutIdeal.τ Cert.SsmOutIdeal.sig) → Buf (Elt Ideal) ℓ) (g : Dev Cert.SsmOutIdeal.nD → PrngReg)
    (m' : (ℓ : Loc Cert.SsmOutRefIdeal.nD Cert.SsmOutRefIdeal.τ Cert.SsmOutRefIdeal.sig) → Buf (Elt Ideal) ℓ) (g' : Dev Cert.SsmOutRefIdeal.nD → PrngReg), Pre_SsmOutIdeal m →
    (∀ c : Dev Cert.SsmOutIdeal.nD,
      m' ((c.tc : Thread Cert.SsmOutRefIdeal.nD Cert.SsmOutRefIdeal.τ).loc Cert.SsmOutRefIdeal.main_arg0) = m ((c.tc : Thread Cert.SsmOutIdeal.nD Cert.SsmOutIdeal.τ).loc Cert.SsmOutIdeal.main_arg0)
      ∧ m' ((c.tc : Thread Cert.SsmOutRefIdeal.nD Cert.SsmOutRefIdeal.τ).loc Cert.SsmOutRefIdeal.main_arg1) = m ((c.tc : Thread Cert.SsmOutIdeal.nD Cert.SsmOutIdeal.τ).loc Cert.SsmOutIdeal.main_arg1)
      ∧ m' ((c.tc : Thread Cert.SsmOutRefIdeal.nD Cert.SsmOutRefIdeal.τ).loc Cert.SsmOutRefIdeal.main_arg2) = m ((c.tc : Thread Cert.SsmOutIdeal.nD Cert.SsmOutIdeal.τ).loc Cert.SsmOutIdeal.main_arg2)) →
    ∃ (v0 : (c : Dev Cert.SsmOutIdeal.nD) → Buf (Elt Ideal) ((c.tc : Thread Cert.SsmOutIdeal.nD Cert.SsmOutIdeal.τ).loc Cert.SsmOutIdeal.main_v1)),
      θ_run (Cert.SsmOutIdeal.defs (F := Ideal)) (onTc (τ := Cert.SsmOutIdeal.τ) (Cert.SsmOutIdeal.main (F := Ideal))) ⟨m, fun _ => 0, g⟩ (fun r => ∀ c : Dev Cert.SsmOutIdeal.nD,
          r.2.mem ((c.tc : Thread Cert.SsmOutIdeal.nD Cert.SsmOutIdeal.τ).loc Cert.SsmOutIdeal.main_v1) = v0 c
          ∧ r.2.mem ((c.tc : Thread Cert.SsmOutIdeal.nD Cert.SsmOutIdeal.τ).loc Cert.SsmOutIdeal.main_arg0) = m ((c.tc : Thread Cert.SsmOutIdeal.nD Cert.SsmOutIdeal.τ).loc Cert.SsmOutIdeal.main_arg0)
          ∧ r.2.mem ((c.tc : Thread Cert.SsmOutIdeal.nD Cert.SsmOutIdeal.τ).loc Cert.SsmOutIdeal.main_arg1) = m ((c.tc : Thread Cert.SsmOutIdeal.nD Cert.SsmOutIdeal.τ).loc Cert.SsmOutIdeal.main_arg1)
          ∧ r.2.mem ((c.tc : Thread Cert.SsmOutIdeal.nD Cert.SsmOutIdeal.τ).loc Cert.SsmOutIdeal.main_arg2) = m ((c.tc : Thread Cert.SsmOutIdeal.nD Cert.SsmOutIdeal.τ).loc Cert.SsmOutIdeal.main_arg2))
      ∧ θ_run (Cert.SsmOutRefIdeal.defs (F := Ideal)) (onTc (τ := Cert.SsmOutRefIdeal.τ) (Cert.SsmOutRefIdeal.main (F := Ideal))) ⟨m', fun _ => 0, g'⟩ (fun r => ∀ c : Dev Cert.SsmOutRefIdeal.nD,
          r.2.mem ((c.tc : Thread Cert.SsmOutRefIdeal.nD Cert.SsmOutRefIdeal.τ).loc Cert.SsmOutRefIdeal.main_v2) = v0 c
          ∧ r.2.mem ((c.tc : Thread Cert.SsmOutRefIdeal.nD Cert.SsmOutRefIdeal.τ).loc Cert.SsmOutRefIdeal.main_arg0) = m' ((c.tc : Thread Cert.SsmOutRefIdeal.nD Cert.SsmOutRefIdeal.τ).loc Cert.SsmOutRefIdeal.main_arg0)
          ∧ r.2.mem ((c.tc : Thread Cert.SsmOutRefIdeal.nD Cert.SsmOutRefIdeal.τ).loc Cert.SsmOutRefIdeal.main_arg1) = m' ((c.tc : Thread Cert.SsmOutRefIdeal.nD Cert.SsmOutRefIdeal.τ).loc Cert.SsmOutRefIdeal.main_arg1)
          ∧ r.2.mem ((c.tc : Thread Cert.SsmOutRefIdeal.nD Cert.SsmOutRefIdeal.τ).loc Cert.SsmOutRefIdeal.main_arg2) = m' ((c.tc : Thread Cert.SsmOutRefIdeal.nD Cert.SsmOutRefIdeal.τ).loc Cert.SsmOutRefIdeal.main_arg2))

def preserves_AttIn_AttInIdeal : Prop :=
  True

def algebraic_AttInIdeal_AttInRefIdeal [hAttInIdeal : Cert.AttInIdeal.Facts] [hAttInRefIdeal : Cert.AttInRefIdeal.Facts] : Prop :=
  ∀ (m : (ℓ : Loc Cert.AttInIdeal.nD Cert.AttInIdeal.τ Cert.AttInIdeal.sig) → Buf (Elt Ideal) ℓ) (g : Dev Cert.AttInIdeal.nD → PrngReg)
    (m' : (ℓ : Loc Cert.AttInRefIdeal.nD Cert.AttInRefIdeal.τ Cert.AttInRefIdeal.sig) → Buf (Elt Ideal) ℓ) (g' : Dev Cert.AttInRefIdeal.nD → PrngReg), Pre_AttInIdeal m →
    (∀ c : Dev Cert.AttInIdeal.nD,
      m' ((c.tc : Thread Cert.AttInRefIdeal.nD Cert.AttInRefIdeal.τ).loc Cert.AttInRefIdeal.main_arg0) = m ((c.tc : Thread Cert.AttInIdeal.nD Cert.AttInIdeal.τ).loc Cert.AttInIdeal.main_arg0)
      ∧ m' ((c.tc : Thread Cert.AttInRefIdeal.nD Cert.AttInRefIdeal.τ).loc Cert.AttInRefIdeal.main_arg1) = m ((c.tc : Thread Cert.AttInIdeal.nD Cert.AttInIdeal.τ).loc Cert.AttInIdeal.main_arg1)
      ∧ m' ((c.tc : Thread Cert.AttInRefIdeal.nD Cert.AttInRefIdeal.τ).loc Cert.AttInRefIdeal.main_arg2) = m ((c.tc : Thread Cert.AttInIdeal.nD Cert.AttInIdeal.τ).loc Cert.AttInIdeal.main_arg2)) →
    ∃ (v0 : (c : Dev Cert.AttInIdeal.nD) → Buf (Elt Ideal) ((c.tc : Thread Cert.AttInIdeal.nD Cert.AttInIdeal.τ).loc Cert.AttInIdeal.main_v3)),
      θ_run (Cert.AttInIdeal.defs (F := Ideal)) (onTc (τ := Cert.AttInIdeal.τ) (Cert.AttInIdeal.main (F := Ideal))) ⟨m, fun _ => 0, g⟩ (fun r => ∀ c : Dev Cert.AttInIdeal.nD,
          r.2.mem ((c.tc : Thread Cert.AttInIdeal.nD Cert.AttInIdeal.τ).loc Cert.AttInIdeal.main_v3) = v0 c
          ∧ r.2.mem ((c.tc : Thread Cert.AttInIdeal.nD Cert.AttInIdeal.τ).loc Cert.AttInIdeal.main_arg0) = m ((c.tc : Thread Cert.AttInIdeal.nD Cert.AttInIdeal.τ).loc Cert.AttInIdeal.main_arg0)
          ∧ r.2.mem ((c.tc : Thread Cert.AttInIdeal.nD Cert.AttInIdeal.τ).loc Cert.AttInIdeal.main_arg1) = m ((c.tc : Thread Cert.AttInIdeal.nD Cert.AttInIdeal.τ).loc Cert.AttInIdeal.main_arg1)
          ∧ r.2.mem ((c.tc : Thread Cert.AttInIdeal.nD Cert.AttInIdeal.τ).loc Cert.AttInIdeal.main_arg2) = m ((c.tc : Thread Cert.AttInIdeal.nD Cert.AttInIdeal.τ).loc Cert.AttInIdeal.main_arg2))
      ∧ θ_run (Cert.AttInRefIdeal.defs (F := Ideal)) (onTc (τ := Cert.AttInRefIdeal.τ) (Cert.AttInRefIdeal.main (F := Ideal))) ⟨m', fun _ => 0, g'⟩ (fun r => ∀ c : Dev Cert.AttInRefIdeal.nD,
          r.2.mem ((c.tc : Thread Cert.AttInRefIdeal.nD Cert.AttInRefIdeal.τ).loc Cert.AttInRefIdeal.main_v14) = v0 c
          ∧ r.2.mem ((c.tc : Thread Cert.AttInRefIdeal.nD Cert.AttInRefIdeal.τ).loc Cert.AttInRefIdeal.main_arg0) = m' ((c.tc : Thread Cert.AttInRefIdeal.nD Cert.AttInRefIdeal.τ).loc Cert.AttInRefIdeal.main_arg0)
          ∧ r.2.mem ((c.tc : Thread Cert.AttInRefIdeal.nD Cert.AttInRefIdeal.τ).loc Cert.AttInRefIdeal.main_arg1) = m' ((c.tc : Thread Cert.AttInRefIdeal.nD Cert.AttInRefIdeal.τ).loc Cert.AttInRefIdeal.main_arg1)
          ∧ r.2.mem ((c.tc : Thread Cert.AttInRefIdeal.nD Cert.AttInRefIdeal.τ).loc Cert.AttInRefIdeal.main_arg2) = m' ((c.tc : Thread Cert.AttInRefIdeal.nD Cert.AttInRefIdeal.τ).loc Cert.AttInRefIdeal.main_arg2))

def preserves_AttInS_AttInSIdeal : Prop :=
  True

def algebraic_AttInSIdeal_AttInSRefIdeal [hAttInSIdeal : Cert.AttInSIdeal.Facts] [hAttInSRefIdeal : Cert.AttInSRefIdeal.Facts] : Prop :=
  ∀ (m : (ℓ : Loc Cert.AttInSIdeal.nD Cert.AttInSIdeal.τ Cert.AttInSIdeal.sig) → Buf (Elt Ideal) ℓ) (g : Dev Cert.AttInSIdeal.nD → PrngReg)
    (m' : (ℓ : Loc Cert.AttInSRefIdeal.nD Cert.AttInSRefIdeal.τ Cert.AttInSRefIdeal.sig) → Buf (Elt Ideal) ℓ) (g' : Dev Cert.AttInSRefIdeal.nD → PrngReg), Pre_AttInSIdeal m →
    (∀ c : Dev Cert.AttInSIdeal.nD,
      m' ((c.tc : Thread Cert.AttInSRefIdeal.nD Cert.AttInSRefIdeal.τ).loc Cert.AttInSRefIdeal.main_arg0) = m ((c.tc : Thread Cert.AttInSIdeal.nD Cert.AttInSIdeal.τ).loc Cert.AttInSIdeal.main_arg0)
      ∧ m' ((c.tc : Thread Cert.AttInSRefIdeal.nD Cert.AttInSRefIdeal.τ).loc Cert.AttInSRefIdeal.main_arg1) = m ((c.tc : Thread Cert.AttInSIdeal.nD Cert.AttInSIdeal.τ).loc Cert.AttInSIdeal.main_arg1)
      ∧ m' ((c.tc : Thread Cert.AttInSRefIdeal.nD Cert.AttInSRefIdeal.τ).loc Cert.AttInSRefIdeal.main_arg2) = m ((c.tc : Thread Cert.AttInSIdeal.nD Cert.AttInSIdeal.τ).loc Cert.AttInSIdeal.main_arg2)) →
    ∃ (v0 : (c : Dev Cert.AttInSIdeal.nD) → Buf (Elt Ideal) ((c.tc : Thread Cert.AttInSIdeal.nD Cert.AttInSIdeal.τ).loc Cert.AttInSIdeal.main_v3)),
      θ_run (Cert.AttInSIdeal.defs (F := Ideal)) (onTc (τ := Cert.AttInSIdeal.τ) (Cert.AttInSIdeal.main (F := Ideal))) ⟨m, fun _ => 0, g⟩ (fun r => ∀ c : Dev Cert.AttInSIdeal.nD,
          r.2.mem ((c.tc : Thread Cert.AttInSIdeal.nD Cert.AttInSIdeal.τ).loc Cert.AttInSIdeal.main_v3) = v0 c
          ∧ r.2.mem ((c.tc : Thread Cert.AttInSIdeal.nD Cert.AttInSIdeal.τ).loc Cert.AttInSIdeal.main_arg0) = m ((c.tc : Thread Cert.AttInSIdeal.nD Cert.AttInSIdeal.τ).loc Cert.AttInSIdeal.main_arg0)
          ∧ r.2.mem ((c.tc : Thread Cert.AttInSIdeal.nD Cert.AttInSIdeal.τ).loc Cert.AttInSIdeal.main_arg1) = m ((c.tc : Thread Cert.AttInSIdeal.nD Cert.AttInSIdeal.τ).loc Cert.AttInSIdeal.main_arg1)
          ∧ r.2.mem ((c.tc : Thread Cert.AttInSIdeal.nD Cert.AttInSIdeal.τ).loc Cert.AttInSIdeal.main_arg2) = m ((c.tc : Thread Cert.AttInSIdeal.nD Cert.AttInSIdeal.τ).loc Cert.AttInSIdeal.main_arg2))
      ∧ θ_run (Cert.AttInSRefIdeal.defs (F := Ideal)) (onTc (τ := Cert.AttInSRefIdeal.τ) (Cert.AttInSRefIdeal.main (F := Ideal))) ⟨m', fun _ => 0, g'⟩ (fun r => ∀ c : Dev Cert.AttInSRefIdeal.nD,
          r.2.mem ((c.tc : Thread Cert.AttInSRefIdeal.nD Cert.AttInSRefIdeal.τ).loc Cert.AttInSRefIdeal.main_v14) = v0 c
          ∧ r.2.mem ((c.tc : Thread Cert.AttInSRefIdeal.nD Cert.AttInSRefIdeal.τ).loc Cert.AttInSRefIdeal.main_arg0) = m' ((c.tc : Thread Cert.AttInSRefIdeal.nD Cert.AttInSRefIdeal.τ).loc Cert.AttInSRefIdeal.main_arg0)
          ∧ r.2.mem ((c.tc : Thread Cert.AttInSRefIdeal.nD Cert.AttInSRefIdeal.τ).loc Cert.AttInSRefIdeal.main_arg1) = m' ((c.tc : Thread Cert.AttInSRefIdeal.nD Cert.AttInSRefIdeal.τ).loc Cert.AttInSRefIdeal.main_arg1)
          ∧ r.2.mem ((c.tc : Thread Cert.AttInSRefIdeal.nD Cert.AttInSRefIdeal.τ).loc Cert.AttInSRefIdeal.main_arg2) = m' ((c.tc : Thread Cert.AttInSRefIdeal.nD Cert.AttInSRefIdeal.τ).loc Cert.AttInSRefIdeal.main_arg2))

def preserves_AttOut_AttOutIdeal : Prop :=
  True

def algebraic_AttOutIdeal_AttOutRefIdeal [hAttOutIdeal : Cert.AttOutIdeal.Facts] [hAttOutRefIdeal : Cert.AttOutRefIdeal.Facts] : Prop :=
  ∀ (m : (ℓ : Loc Cert.AttOutIdeal.nD Cert.AttOutIdeal.τ Cert.AttOutIdeal.sig) → Buf (Elt Ideal) ℓ) (g : Dev Cert.AttOutIdeal.nD → PrngReg)
    (m' : (ℓ : Loc Cert.AttOutRefIdeal.nD Cert.AttOutRefIdeal.τ Cert.AttOutRefIdeal.sig) → Buf (Elt Ideal) ℓ) (g' : Dev Cert.AttOutRefIdeal.nD → PrngReg), Pre_AttOutIdeal m →
    (∀ c : Dev Cert.AttOutIdeal.nD,
      m' ((c.tc : Thread Cert.AttOutRefIdeal.nD Cert.AttOutRefIdeal.τ).loc Cert.AttOutRefIdeal.main_arg0) = m ((c.tc : Thread Cert.AttOutIdeal.nD Cert.AttOutIdeal.τ).loc Cert.AttOutIdeal.main_arg0)
      ∧ m' ((c.tc : Thread Cert.AttOutRefIdeal.nD Cert.AttOutRefIdeal.τ).loc Cert.AttOutRefIdeal.main_arg1) = m ((c.tc : Thread Cert.AttOutIdeal.nD Cert.AttOutIdeal.τ).loc Cert.AttOutIdeal.main_arg1)
      ∧ m' ((c.tc : Thread Cert.AttOutRefIdeal.nD Cert.AttOutRefIdeal.τ).loc Cert.AttOutRefIdeal.main_arg2) = m ((c.tc : Thread Cert.AttOutIdeal.nD Cert.AttOutIdeal.τ).loc Cert.AttOutIdeal.main_arg2)) →
    ∃ (v0 : (c : Dev Cert.AttOutIdeal.nD) → Buf (Elt Ideal) ((c.tc : Thread Cert.AttOutIdeal.nD Cert.AttOutIdeal.τ).loc Cert.AttOutIdeal.main_v1)),
      θ_run (Cert.AttOutIdeal.defs (F := Ideal)) (onTc (τ := Cert.AttOutIdeal.τ) (Cert.AttOutIdeal.main (F := Ideal))) ⟨m, fun _ => 0, g⟩ (fun r => ∀ c : Dev Cert.AttOutIdeal.nD,
          r.2.mem ((c.tc : Thread Cert.AttOutIdeal.nD Cert.AttOutIdeal.τ).loc Cert.AttOutIdeal.main_v1) = v0 c
          ∧ r.2.mem ((c.tc : Thread Cert.AttOutIdeal.nD Cert.AttOutIdeal.τ).loc Cert.AttOutIdeal.main_arg0) = m ((c.tc : Thread Cert.AttOutIdeal.nD Cert.AttOutIdeal.τ).loc Cert.AttOutIdeal.main_arg0)
          ∧ r.2.mem ((c.tc : Thread Cert.AttOutIdeal.nD Cert.AttOutIdeal.τ).loc Cert.AttOutIdeal.main_arg1) = m ((c.tc : Thread Cert.AttOutIdeal.nD Cert.AttOutIdeal.τ).loc Cert.AttOutIdeal.main_arg1)
          ∧ r.2.mem ((c.tc : Thread Cert.AttOutIdeal.nD Cert.AttOutIdeal.τ).loc Cert.AttOutIdeal.main_arg2) = m ((c.tc : Thread Cert.AttOutIdeal.nD Cert.AttOutIdeal.τ).loc Cert.AttOutIdeal.main_arg2))
      ∧ θ_run (Cert.AttOutRefIdeal.defs (F := Ideal)) (onTc (τ := Cert.AttOutRefIdeal.τ) (Cert.AttOutRefIdeal.main (F := Ideal))) ⟨m', fun _ => 0, g'⟩ (fun r => ∀ c : Dev Cert.AttOutRefIdeal.nD,
          r.2.mem ((c.tc : Thread Cert.AttOutRefIdeal.nD Cert.AttOutRefIdeal.τ).loc Cert.AttOutRefIdeal.main_v1) = v0 c
          ∧ r.2.mem ((c.tc : Thread Cert.AttOutRefIdeal.nD Cert.AttOutRefIdeal.τ).loc Cert.AttOutRefIdeal.main_arg0) = m' ((c.tc : Thread Cert.AttOutRefIdeal.nD Cert.AttOutRefIdeal.τ).loc Cert.AttOutRefIdeal.main_arg0)
          ∧ r.2.mem ((c.tc : Thread Cert.AttOutRefIdeal.nD Cert.AttOutRefIdeal.τ).loc Cert.AttOutRefIdeal.main_arg1) = m' ((c.tc : Thread Cert.AttOutRefIdeal.nD Cert.AttOutRefIdeal.τ).loc Cert.AttOutRefIdeal.main_arg1)
          ∧ r.2.mem ((c.tc : Thread Cert.AttOutRefIdeal.nD Cert.AttOutRefIdeal.τ).loc Cert.AttOutRefIdeal.main_arg2) = m' ((c.tc : Thread Cert.AttOutRefIdeal.nD Cert.AttOutRefIdeal.τ).loc Cert.AttOutRefIdeal.main_arg2))

def preserves_KvS_KvSIdeal : Prop :=
  True

def algebraic_KvSIdeal_KvSRefIdeal [hKvSIdeal : Cert.KvSIdeal.Facts] [hKvSRefIdeal : Cert.KvSRefIdeal.Facts] : Prop :=
  ∀ (m : (ℓ : Loc Cert.KvSIdeal.nD Cert.KvSIdeal.τ Cert.KvSIdeal.sig) → Buf (Elt Ideal) ℓ) (g : Dev Cert.KvSIdeal.nD → PrngReg)
    (m' : (ℓ : Loc Cert.KvSRefIdeal.nD Cert.KvSRefIdeal.τ Cert.KvSRefIdeal.sig) → Buf (Elt Ideal) ℓ) (g' : Dev Cert.KvSRefIdeal.nD → PrngReg), Pre_KvSIdeal m →
    (∀ c : Dev Cert.KvSIdeal.nD,
      m' ((c.tc : Thread Cert.KvSRefIdeal.nD Cert.KvSRefIdeal.τ).loc Cert.KvSRefIdeal.main_arg0) = m ((c.tc : Thread Cert.KvSIdeal.nD Cert.KvSIdeal.τ).loc Cert.KvSIdeal.main_arg0)
      ∧ m' ((c.tc : Thread Cert.KvSRefIdeal.nD Cert.KvSRefIdeal.τ).loc Cert.KvSRefIdeal.main_arg1) = m ((c.tc : Thread Cert.KvSIdeal.nD Cert.KvSIdeal.τ).loc Cert.KvSIdeal.main_arg1)
      ∧ m' ((c.tc : Thread Cert.KvSRefIdeal.nD Cert.KvSRefIdeal.τ).loc Cert.KvSRefIdeal.main_arg2) = m ((c.tc : Thread Cert.KvSIdeal.nD Cert.KvSIdeal.τ).loc Cert.KvSIdeal.main_arg2)
      ∧ m' ((c.tc : Thread Cert.KvSRefIdeal.nD Cert.KvSRefIdeal.τ).loc Cert.KvSRefIdeal.main_arg3) = m ((c.tc : Thread Cert.KvSIdeal.nD Cert.KvSIdeal.τ).loc Cert.KvSIdeal.main_arg3)) →
    ∃ (v0 : (c : Dev Cert.KvSIdeal.nD) → Buf (Elt Ideal) ((c.tc : Thread Cert.KvSIdeal.nD Cert.KvSIdeal.τ).loc Cert.KvSIdeal.main_v6)) (v1 : (c : Dev Cert.KvSIdeal.nD) → Buf (Elt Ideal) ((c.tc : Thread Cert.KvSIdeal.nD Cert.KvSIdeal.τ).loc Cert.KvSIdeal.main_v8)) (v2 : (c : Dev Cert.KvSIdeal.nD) → Buf (Elt Ideal) ((c.tc : Thread Cert.KvSIdeal.nD Cert.KvSIdeal.τ).loc Cert.KvSIdeal.main_v12)),
      θ_run (Cert.KvSIdeal.defs (F := Ideal)) (onTc (τ := Cert.KvSIdeal.τ) (Cert.KvSIdeal.main (F := Ideal))) ⟨m, fun _ => 0, g⟩ (fun r => ∀ c : Dev Cert.KvSIdeal.nD,
          r.2.mem ((c.tc : Thread Cert.KvSIdeal.nD Cert.KvSIdeal.τ).loc Cert.KvSIdeal.main_v6) = v0 c
          ∧ r.2.mem ((c.tc : Thread Cert.KvSIdeal.nD Cert.KvSIdeal.τ).loc Cert.KvSIdeal.main_v8) = v1 c
          ∧ r.2.mem ((c.tc : Thread Cert.KvSIdeal.nD Cert.KvSIdeal.τ).loc Cert.KvSIdeal.main_v12) = v2 c
          ∧ r.2.mem ((c.tc : Thread Cert.KvSIdeal.nD Cert.KvSIdeal.τ).loc Cert.KvSIdeal.main_arg0) = m ((c.tc : Thread Cert.KvSIdeal.nD Cert.KvSIdeal.τ).loc Cert.KvSIdeal.main_arg0)
          ∧ r.2.mem ((c.tc : Thread Cert.KvSIdeal.nD Cert.KvSIdeal.τ).loc Cert.KvSIdeal.main_arg1) = m ((c.tc : Thread Cert.KvSIdeal.nD Cert.KvSIdeal.τ).loc Cert.KvSIdeal.main_arg1)
          ∧ r.2.mem ((c.tc : Thread Cert.KvSIdeal.nD Cert.KvSIdeal.τ).loc Cert.KvSIdeal.main_arg2) = m ((c.tc : Thread Cert.KvSIdeal.nD Cert.KvSIdeal.τ).loc Cert.KvSIdeal.main_arg2)
          ∧ r.2.mem ((c.tc : Thread Cert.KvSIdeal.nD Cert.KvSIdeal.τ).loc Cert.KvSIdeal.main_arg3) = m ((c.tc : Thread Cert.KvSIdeal.nD Cert.KvSIdeal.τ).loc Cert.KvSIdeal.main_arg3))
      ∧ θ_run (Cert.KvSRefIdeal.defs (F := Ideal)) (onTc (τ := Cert.KvSRefIdeal.τ) (Cert.KvSRefIdeal.main (F := Ideal))) ⟨m', fun _ => 0, g'⟩ (fun r => ∀ c : Dev Cert.KvSRefIdeal.nD,
          r.2.mem ((c.tc : Thread Cert.KvSRefIdeal.nD Cert.KvSRefIdeal.τ).loc Cert.KvSRefIdeal.main_v26) = v0 c
          ∧ r.2.mem ((c.tc : Thread Cert.KvSRefIdeal.nD Cert.KvSRefIdeal.τ).loc Cert.KvSRefIdeal.main_v31) = v1 c
          ∧ r.2.mem ((c.tc : Thread Cert.KvSRefIdeal.nD Cert.KvSRefIdeal.τ).loc Cert.KvSRefIdeal.main_v38) = v2 c
          ∧ r.2.mem ((c.tc : Thread Cert.KvSRefIdeal.nD Cert.KvSRefIdeal.τ).loc Cert.KvSRefIdeal.main_arg0) = m' ((c.tc : Thread Cert.KvSRefIdeal.nD Cert.KvSRefIdeal.τ).loc Cert.KvSRefIdeal.main_arg0)
          ∧ r.2.mem ((c.tc : Thread Cert.KvSRefIdeal.nD Cert.KvSRefIdeal.τ).loc Cert.KvSRefIdeal.main_arg1) = m' ((c.tc : Thread Cert.KvSRefIdeal.nD Cert.KvSRefIdeal.τ).loc Cert.KvSRefIdeal.main_arg1)
          ∧ r.2.mem ((c.tc : Thread Cert.KvSRefIdeal.nD Cert.KvSRefIdeal.τ).loc Cert.KvSRefIdeal.main_arg2) = m' ((c.tc : Thread Cert.KvSRefIdeal.nD Cert.KvSRefIdeal.τ).loc Cert.KvSRefIdeal.main_arg2)
          ∧ r.2.mem ((c.tc : Thread Cert.KvSRefIdeal.nD Cert.KvSRefIdeal.τ).loc Cert.KvSRefIdeal.main_arg3) = m' ((c.tc : Thread Cert.KvSRefIdeal.nD Cert.KvSRefIdeal.τ).loc Cert.KvSRefIdeal.main_arg3))

def preserves_CmpFinish_CmpFinishIdeal : Prop :=
  True

def algebraic_CmpFinishIdeal_CmpFinishRefIdeal [hCmpFinishIdeal : Cert.CmpFinishIdeal.Facts] [hCmpFinishRefIdeal : Cert.CmpFinishRefIdeal.Facts] : Prop :=
  ∀ (m : (ℓ : Loc Cert.CmpFinishIdeal.nD Cert.CmpFinishIdeal.τ Cert.CmpFinishIdeal.sig) → Buf (Elt Ideal) ℓ) (g : Dev Cert.CmpFinishIdeal.nD → PrngReg)
    (m' : (ℓ : Loc Cert.CmpFinishRefIdeal.nD Cert.CmpFinishRefIdeal.τ Cert.CmpFinishRefIdeal.sig) → Buf (Elt Ideal) ℓ) (g' : Dev Cert.CmpFinishRefIdeal.nD → PrngReg), Pre_CmpFinishIdeal m →
    (∀ c : Dev Cert.CmpFinishIdeal.nD,
      m' ((c.tc : Thread Cert.CmpFinishRefIdeal.nD Cert.CmpFinishRefIdeal.τ).loc Cert.CmpFinishRefIdeal.main_arg0) = m ((c.tc : Thread Cert.CmpFinishIdeal.nD Cert.CmpFinishIdeal.τ).loc Cert.CmpFinishIdeal.main_arg0)
      ∧ m' ((c.tc : Thread Cert.CmpFinishRefIdeal.nD Cert.CmpFinishRefIdeal.τ).loc Cert.CmpFinishRefIdeal.main_arg1) = m ((c.tc : Thread Cert.CmpFinishIdeal.nD Cert.CmpFinishIdeal.τ).loc Cert.CmpFinishIdeal.main_arg1)
      ∧ m' ((c.tc : Thread Cert.CmpFinishRefIdeal.nD Cert.CmpFinishRefIdeal.τ).loc Cert.CmpFinishRefIdeal.main_arg2) = m ((c.tc : Thread Cert.CmpFinishIdeal.nD Cert.CmpFinishIdeal.τ).loc Cert.CmpFinishIdeal.main_arg2)
      ∧ m' ((c.tc : Thread Cert.CmpFinishRefIdeal.nD Cert.CmpFinishRefIdeal.τ).loc Cert.CmpFinishRefIdeal.main_arg3) = m ((c.tc : Thread Cert.CmpFinishIdeal.nD Cert.CmpFinishIdeal.τ).loc Cert.CmpFinishIdeal.main_arg3)
      ∧ m' ((c.tc : Thread Cert.CmpFinishRefIdeal.nD Cert.CmpFinishRefIdeal.τ).loc Cert.CmpFinishRefIdeal.main_arg4) = m ((c.tc : Thread Cert.CmpFinishIdeal.nD Cert.CmpFinishIdeal.τ).loc Cert.CmpFinishIdeal.main_arg4)) →
    ∃ (v0 : (c : Dev Cert.CmpFinishIdeal.nD) → Buf (Elt Ideal) ((c.tc : Thread Cert.CmpFinishIdeal.nD Cert.CmpFinishIdeal.τ).loc Cert.CmpFinishIdeal.main_v4)),
      θ_run (Cert.CmpFinishIdeal.defs (F := Ideal)) (onTc (τ := Cert.CmpFinishIdeal.τ) (Cert.CmpFinishIdeal.main (F := Ideal))) ⟨m, fun _ => 0, g⟩ (fun r => ∀ c : Dev Cert.CmpFinishIdeal.nD,
          r.2.mem ((c.tc : Thread Cert.CmpFinishIdeal.nD Cert.CmpFinishIdeal.τ).loc Cert.CmpFinishIdeal.main_v4) = v0 c
          ∧ r.2.mem ((c.tc : Thread Cert.CmpFinishIdeal.nD Cert.CmpFinishIdeal.τ).loc Cert.CmpFinishIdeal.main_arg0) = m ((c.tc : Thread Cert.CmpFinishIdeal.nD Cert.CmpFinishIdeal.τ).loc Cert.CmpFinishIdeal.main_arg0)
          ∧ r.2.mem ((c.tc : Thread Cert.CmpFinishIdeal.nD Cert.CmpFinishIdeal.τ).loc Cert.CmpFinishIdeal.main_arg1) = m ((c.tc : Thread Cert.CmpFinishIdeal.nD Cert.CmpFinishIdeal.τ).loc Cert.CmpFinishIdeal.main_arg1)
          ∧ r.2.mem ((c.tc : Thread Cert.CmpFinishIdeal.nD Cert.CmpFinishIdeal.τ).loc Cert.CmpFinishIdeal.main_arg2) = m ((c.tc : Thread Cert.CmpFinishIdeal.nD Cert.CmpFinishIdeal.τ).loc Cert.CmpFinishIdeal.main_arg2)
          ∧ r.2.mem ((c.tc : Thread Cert.CmpFinishIdeal.nD Cert.CmpFinishIdeal.τ).loc Cert.CmpFinishIdeal.main_arg3) = m ((c.tc : Thread Cert.CmpFinishIdeal.nD Cert.CmpFinishIdeal.τ).loc Cert.CmpFinishIdeal.main_arg3)
          ∧ r.2.mem ((c.tc : Thread Cert.CmpFinishIdeal.nD Cert.CmpFinishIdeal.τ).loc Cert.CmpFinishIdeal.main_arg4) = m ((c.tc : Thread Cert.CmpFinishIdeal.nD Cert.CmpFinishIdeal.τ).loc Cert.CmpFinishIdeal.main_arg4))
      ∧ θ_run (Cert.CmpFinishRefIdeal.defs (F := Ideal)) (onTc (τ := Cert.CmpFinishRefIdeal.τ) (Cert.CmpFinishRefIdeal.main (F := Ideal))) ⟨m', fun _ => 0, g'⟩ (fun r => ∀ c : Dev Cert.CmpFinishRefIdeal.nD,
          r.2.mem ((c.tc : Thread Cert.CmpFinishRefIdeal.nD Cert.CmpFinishRefIdeal.τ).loc Cert.CmpFinishRefIdeal.main_v28) = v0 c
          ∧ r.2.mem ((c.tc : Thread Cert.CmpFinishRefIdeal.nD Cert.CmpFinishRefIdeal.τ).loc Cert.CmpFinishRefIdeal.main_arg0) = m' ((c.tc : Thread Cert.CmpFinishRefIdeal.nD Cert.CmpFinishRefIdeal.τ).loc Cert.CmpFinishRefIdeal.main_arg0)
          ∧ r.2.mem ((c.tc : Thread Cert.CmpFinishRefIdeal.nD Cert.CmpFinishRefIdeal.τ).loc Cert.CmpFinishRefIdeal.main_arg1) = m' ((c.tc : Thread Cert.CmpFinishRefIdeal.nD Cert.CmpFinishRefIdeal.τ).loc Cert.CmpFinishRefIdeal.main_arg1)
          ∧ r.2.mem ((c.tc : Thread Cert.CmpFinishRefIdeal.nD Cert.CmpFinishRefIdeal.τ).loc Cert.CmpFinishRefIdeal.main_arg2) = m' ((c.tc : Thread Cert.CmpFinishRefIdeal.nD Cert.CmpFinishRefIdeal.τ).loc Cert.CmpFinishRefIdeal.main_arg2)
          ∧ r.2.mem ((c.tc : Thread Cert.CmpFinishRefIdeal.nD Cert.CmpFinishRefIdeal.τ).loc Cert.CmpFinishRefIdeal.main_arg3) = m' ((c.tc : Thread Cert.CmpFinishRefIdeal.nD Cert.CmpFinishRefIdeal.τ).loc Cert.CmpFinishRefIdeal.main_arg3)
          ∧ r.2.mem ((c.tc : Thread Cert.CmpFinishRefIdeal.nD Cert.CmpFinishRefIdeal.τ).loc Cert.CmpFinishRefIdeal.main_arg4) = m' ((c.tc : Thread Cert.CmpFinishRefIdeal.nD Cert.CmpFinishRefIdeal.τ).loc Cert.CmpFinishRefIdeal.main_arg4))

def preserves_SsdState_SsdStateIdeal : Prop :=
  True

def algebraic_SsdStateIdeal_SsdStateRefIdeal [hSsdStateIdeal : Cert.SsdStateIdeal.Facts] [hSsdStateRefIdeal : Cert.SsdStateRefIdeal.Facts] [hPre_steps_finite : Cert.Pre_steps_finite.Facts] : Prop :=
  ∀ (m : (ℓ : Loc Cert.SsdStateIdeal.nD Cert.SsdStateIdeal.τ Cert.SsdStateIdeal.sig) → Buf (Elt Ideal) ℓ) (g : Dev Cert.SsdStateIdeal.nD → PrngReg)
    (m' : (ℓ : Loc Cert.SsdStateRefIdeal.nD Cert.SsdStateRefIdeal.τ Cert.SsdStateRefIdeal.sig) → Buf (Elt Ideal) ℓ) (g' : Dev Cert.SsdStateRefIdeal.nD → PrngReg), Pre_SsdStateIdeal m →
    (∀ c : Dev Cert.SsdStateIdeal.nD,
      m' ((c.tc : Thread Cert.SsdStateRefIdeal.nD Cert.SsdStateRefIdeal.τ).loc Cert.SsdStateRefIdeal.main_arg0) = m ((c.tc : Thread Cert.SsdStateIdeal.nD Cert.SsdStateIdeal.τ).loc Cert.SsdStateIdeal.main_arg0)
      ∧ m' ((c.tc : Thread Cert.SsdStateRefIdeal.nD Cert.SsdStateRefIdeal.τ).loc Cert.SsdStateRefIdeal.main_arg1) = m ((c.tc : Thread Cert.SsdStateIdeal.nD Cert.SsdStateIdeal.τ).loc Cert.SsdStateIdeal.main_arg1)
      ∧ m' ((c.tc : Thread Cert.SsdStateRefIdeal.nD Cert.SsdStateRefIdeal.τ).loc Cert.SsdStateRefIdeal.main_arg2) = m ((c.tc : Thread Cert.SsdStateIdeal.nD Cert.SsdStateIdeal.τ).loc Cert.SsdStateIdeal.main_arg2)
      ∧ m' ((c.tc : Thread Cert.SsdStateRefIdeal.nD Cert.SsdStateRefIdeal.τ).loc Cert.SsdStateRefIdeal.main_arg3) = m ((c.tc : Thread Cert.SsdStateIdeal.nD Cert.SsdStateIdeal.τ).loc Cert.SsdStateIdeal.main_arg3)
      ∧ m' ((c.tc : Thread Cert.SsdStateRefIdeal.nD Cert.SsdStateRefIdeal.τ).loc Cert.SsdStateRefIdeal.main_arg4) = m ((c.tc : Thread Cert.SsdStateIdeal.nD Cert.SsdStateIdeal.τ).loc Cert.SsdStateIdeal.main_arg4)
      ∧ m' ((c.tc : Thread Cert.SsdStateRefIdeal.nD Cert.SsdStateRefIdeal.τ).loc Cert.SsdStateRefIdeal.main_arg5) = m ((c.tc : Thread Cert.SsdStateIdeal.nD Cert.SsdStateIdeal.τ).loc Cert.SsdStateIdeal.main_arg5)
      ∧ m' ((c.tc : Thread Cert.SsdStateRefIdeal.nD Cert.SsdStateRefIdeal.τ).loc Cert.SsdStateRefIdeal.main_arg6) = m ((c.tc : Thread Cert.SsdStateIdeal.nD Cert.SsdStateIdeal.τ).loc Cert.SsdStateIdeal.main_arg6)
      ∧ m' ((c.tc : Thread Cert.SsdStateRefIdeal.nD Cert.SsdStateRefIdeal.τ).loc Cert.SsdStateRefIdeal.main_arg7) = m ((c.tc : Thread Cert.SsdStateIdeal.nD Cert.SsdStateIdeal.τ).loc Cert.SsdStateIdeal.main_arg7)
      ∧ m' ((c.tc : Thread Cert.SsdStateRefIdeal.nD Cert.SsdStateRefIdeal.τ).loc Cert.SsdStateRefIdeal.main_arg8) = m ((c.tc : Thread Cert.SsdStateIdeal.nD Cert.SsdStateIdeal.τ).loc Cert.SsdStateIdeal.main_arg8)) →
    ∃ (v0 : (c : Dev Cert.SsdStateIdeal.nD) → Buf (Elt Ideal) ((c.tc : Thread Cert.SsdStateIdeal.nD Cert.SsdStateIdeal.τ).loc Cert.SsdStateIdeal.main_v26)),
      θ_run (Cert.SsdStateIdeal.defs (F := Ideal)) (onTc (τ := Cert.SsdStateIdeal.τ) (Cert.SsdStateIdeal.main (F := Ideal))) ⟨m, fun _ => 0, g⟩ (fun r => ∀ c : Dev Cert.SsdStateIdeal.nD,
          r.2.mem ((c.tc : Thread Cert.SsdStateIdeal.nD Cert.SsdStateIdeal.τ).loc Cert.SsdStateIdeal.main_v26) = v0 c
          ∧ r.2.mem ((c.tc : Thread Cert.SsdStateIdeal.nD Cert.SsdStateIdeal.τ).loc Cert.SsdStateIdeal.main_arg0) = m ((c.tc : Thread Cert.SsdStateIdeal.nD Cert.SsdStateIdeal.τ).loc Cert.SsdStateIdeal.main_arg0)
          ∧ r.2.mem ((c.tc : Thread Cert.SsdStateIdeal.nD Cert.SsdStateIdeal.τ).loc Cert.SsdStateIdeal.main_arg1) = m ((c.tc : Thread Cert.SsdStateIdeal.nD Cert.SsdStateIdeal.τ).loc Cert.SsdStateIdeal.main_arg1)
          ∧ r.2.mem ((c.tc : Thread Cert.SsdStateIdeal.nD Cert.SsdStateIdeal.τ).loc Cert.SsdStateIdeal.main_arg2) = m ((c.tc : Thread Cert.SsdStateIdeal.nD Cert.SsdStateIdeal.τ).loc Cert.SsdStateIdeal.main_arg2)
          ∧ r.2.mem ((c.tc : Thread Cert.SsdStateIdeal.nD Cert.SsdStateIdeal.τ).loc Cert.SsdStateIdeal.main_arg3) = m ((c.tc : Thread Cert.SsdStateIdeal.nD Cert.SsdStateIdeal.τ).loc Cert.SsdStateIdeal.main_arg3)
          ∧ r.2.mem ((c.tc : Thread Cert.SsdStateIdeal.nD Cert.SsdStateIdeal.τ).loc Cert.SsdStateIdeal.main_arg4) = m ((c.tc : Thread Cert.SsdStateIdeal.nD Cert.SsdStateIdeal.τ).loc Cert.SsdStateIdeal.main_arg4)
          ∧ r.2.mem ((c.tc : Thread Cert.SsdStateIdeal.nD Cert.SsdStateIdeal.τ).loc Cert.SsdStateIdeal.main_arg5) = m ((c.tc : Thread Cert.SsdStateIdeal.nD Cert.SsdStateIdeal.τ).loc Cert.SsdStateIdeal.main_arg5)
          ∧ r.2.mem ((c.tc : Thread Cert.SsdStateIdeal.nD Cert.SsdStateIdeal.τ).loc Cert.SsdStateIdeal.main_arg6) = m ((c.tc : Thread Cert.SsdStateIdeal.nD Cert.SsdStateIdeal.τ).loc Cert.SsdStateIdeal.main_arg6)
          ∧ r.2.mem ((c.tc : Thread Cert.SsdStateIdeal.nD Cert.SsdStateIdeal.τ).loc Cert.SsdStateIdeal.main_arg7) = m ((c.tc : Thread Cert.SsdStateIdeal.nD Cert.SsdStateIdeal.τ).loc Cert.SsdStateIdeal.main_arg7)
          ∧ r.2.mem ((c.tc : Thread Cert.SsdStateIdeal.nD Cert.SsdStateIdeal.τ).loc Cert.SsdStateIdeal.main_arg8) = m ((c.tc : Thread Cert.SsdStateIdeal.nD Cert.SsdStateIdeal.τ).loc Cert.SsdStateIdeal.main_arg8))
      ∧ θ_run (Cert.SsdStateRefIdeal.defs (F := Ideal)) (onTc (τ := Cert.SsdStateRefIdeal.τ) (Cert.SsdStateRefIdeal.main (F := Ideal))) ⟨m', fun _ => 0, g'⟩ (fun r => ∀ c : Dev Cert.SsdStateRefIdeal.nD,
          r.2.mem ((c.tc : Thread Cert.SsdStateRefIdeal.nD Cert.SsdStateRefIdeal.τ).loc Cert.SsdStateRefIdeal.main_v84) = v0 c
          ∧ r.2.mem ((c.tc : Thread Cert.SsdStateRefIdeal.nD Cert.SsdStateRefIdeal.τ).loc Cert.SsdStateRefIdeal.main_arg0) = m' ((c.tc : Thread Cert.SsdStateRefIdeal.nD Cert.SsdStateRefIdeal.τ).loc Cert.SsdStateRefIdeal.main_arg0)
          ∧ r.2.mem ((c.tc : Thread Cert.SsdStateRefIdeal.nD Cert.SsdStateRefIdeal.τ).loc Cert.SsdStateRefIdeal.main_arg1) = m' ((c.tc : Thread Cert.SsdStateRefIdeal.nD Cert.SsdStateRefIdeal.τ).loc Cert.SsdStateRefIdeal.main_arg1)
          ∧ r.2.mem ((c.tc : Thread Cert.SsdStateRefIdeal.nD Cert.SsdStateRefIdeal.τ).loc Cert.SsdStateRefIdeal.main_arg2) = m' ((c.tc : Thread Cert.SsdStateRefIdeal.nD Cert.SsdStateRefIdeal.τ).loc Cert.SsdStateRefIdeal.main_arg2)
          ∧ r.2.mem ((c.tc : Thread Cert.SsdStateRefIdeal.nD Cert.SsdStateRefIdeal.τ).loc Cert.SsdStateRefIdeal.main_arg3) = m' ((c.tc : Thread Cert.SsdStateRefIdeal.nD Cert.SsdStateRefIdeal.τ).loc Cert.SsdStateRefIdeal.main_arg3)
          ∧ r.2.mem ((c.tc : Thread Cert.SsdStateRefIdeal.nD Cert.SsdStateRefIdeal.τ).loc Cert.SsdStateRefIdeal.main_arg4) = m' ((c.tc : Thread Cert.SsdStateRefIdeal.nD Cert.SsdStateRefIdeal.τ).loc Cert.SsdStateRefIdeal.main_arg4)
          ∧ r.2.mem ((c.tc : Thread Cert.SsdStateRefIdeal.nD Cert.SsdStateRefIdeal.τ).loc Cert.SsdStateRefIdeal.main_arg5) = m' ((c.tc : Thread Cert.SsdStateRefIdeal.nD Cert.SsdStateRefIdeal.τ).loc Cert.SsdStateRefIdeal.main_arg5)
          ∧ r.2.mem ((c.tc : Thread Cert.SsdStateRefIdeal.nD Cert.SsdStateRefIdeal.τ).loc Cert.SsdStateRefIdeal.main_arg6) = m' ((c.tc : Thread Cert.SsdStateRefIdeal.nD Cert.SsdStateRefIdeal.τ).loc Cert.SsdStateRefIdeal.main_arg6)
          ∧ r.2.mem ((c.tc : Thread Cert.SsdStateRefIdeal.nD Cert.SsdStateRefIdeal.τ).loc Cert.SsdStateRefIdeal.main_arg7) = m' ((c.tc : Thread Cert.SsdStateRefIdeal.nD Cert.SsdStateRefIdeal.τ).loc Cert.SsdStateRefIdeal.main_arg7)
          ∧ r.2.mem ((c.tc : Thread Cert.SsdStateRefIdeal.nD Cert.SsdStateRefIdeal.τ).loc Cert.SsdStateRefIdeal.main_arg8) = m' ((c.tc : Thread Cert.SsdStateRefIdeal.nD Cert.SsdStateRefIdeal.τ).loc Cert.SsdStateRefIdeal.main_arg8))

def Claim : Prop :=
  ∃ (hCmpProject : Cert.CmpProject.Facts) (hCmpProjectIdeal : Cert.CmpProjectIdeal.Facts) (hCmpProjectRefIdeal : Cert.CmpProjectRefIdeal.Facts) (hMlpUp : Cert.MlpUp.Facts) (hMlpUpIdeal : Cert.MlpUpIdeal.Facts) (hMlpUpRefIdeal : Cert.MlpUpRefIdeal.Facts) (hMlpDown : Cert.MlpDown.Facts) (hMlpDownIdeal : Cert.MlpDownIdeal.Facts) (hMlpDownRefIdeal : Cert.MlpDownRefIdeal.Facts) (hMlpDownFin : Cert.MlpDownFin.Facts) (hMlpDownFinIdeal : Cert.MlpDownFinIdeal.Facts) (hMlpDownFinRefIdeal : Cert.MlpDownFinRefIdeal.Facts) (hMlpDownFinS : Cert.MlpDownFinS.Facts) (hMlpDownFinSIdeal : Cert.MlpDownFinSIdeal.Facts) (hMlpDownFinSRefIdeal : Cert.MlpDownFinSRefIdeal.Facts) (hSsmIn : Cert.SsmIn.Facts) (hSsmInIdeal : Cert.SsmInIdeal.Facts) (hSsmInRefIdeal : Cert.SsmInRefIdeal.Facts) (hSsmInS : Cert.SsmInS.Facts) (hSsmInSIdeal : Cert.SsmInSIdeal.Facts) (hSsmInSRefIdeal : Cert.SsmInSRefIdeal.Facts) (hSsmOut : Cert.SsmOut.Facts) (hSsmOutIdeal : Cert.SsmOutIdeal.Facts) (hSsmOutRefIdeal : Cert.SsmOutRefIdeal.Facts) (hAttIn : Cert.AttIn.Facts) (hAttInIdeal : Cert.AttInIdeal.Facts) (hAttInRefIdeal : Cert.AttInRefIdeal.Facts) (hAttInS : Cert.AttInS.Facts) (hAttInSIdeal : Cert.AttInSIdeal.Facts) (hAttInSRefIdeal : Cert.AttInSRefIdeal.Facts) (hAttOut : Cert.AttOut.Facts) (hAttOutIdeal : Cert.AttOutIdeal.Facts) (hAttOutRefIdeal : Cert.AttOutRefIdeal.Facts) (hKvS : Cert.KvS.Facts) (hKvSIdeal : Cert.KvSIdeal.Facts) (hKvSRefIdeal : Cert.KvSRefIdeal.Facts) (hCmpFinish : Cert.CmpFinish.Facts) (hCmpFinishIdeal : Cert.CmpFinishIdeal.Facts) (hCmpFinishRefIdeal : Cert.CmpFinishRefIdeal.Facts) (hSsdState : Cert.SsdState.Facts) (hSsdStateIdeal : Cert.SsdStateIdeal.Facts) (hSsdStateRefIdeal : Cert.SsdStateRefIdeal.Facts) (hPre_pages_in_range : Cert.Pre_pages_in_range.Facts) (hPre_steps_finite : Cert.Pre_steps_finite.Facts),
    quiescent_CmpProject (hCmpProject := hCmpProject) (hPre_pages_in_range := hPre_pages_in_range)
    ∧ quiescent_CmpProjectIdeal (hCmpProjectIdeal := hCmpProjectIdeal) (hPre_pages_in_range := hPre_pages_in_range)
    ∧ quiescent_CmpProjectRefIdeal (hCmpProjectRefIdeal := hCmpProjectRefIdeal) (hPre_pages_in_range := hPre_pages_in_range)
    ∧ quiescent_MlpUp (hMlpUp := hMlpUp)
    ∧ quiescent_MlpUpIdeal (hMlpUpIdeal := hMlpUpIdeal)
    ∧ quiescent_MlpUpRefIdeal (hMlpUpRefIdeal := hMlpUpRefIdeal)
    ∧ quiescent_MlpDown (hMlpDown := hMlpDown)
    ∧ quiescent_MlpDownIdeal (hMlpDownIdeal := hMlpDownIdeal)
    ∧ quiescent_MlpDownRefIdeal (hMlpDownRefIdeal := hMlpDownRefIdeal)
    ∧ quiescent_MlpDownFin (hMlpDownFin := hMlpDownFin)
    ∧ quiescent_MlpDownFinIdeal (hMlpDownFinIdeal := hMlpDownFinIdeal)
    ∧ quiescent_MlpDownFinRefIdeal (hMlpDownFinRefIdeal := hMlpDownFinRefIdeal)
    ∧ quiescent_MlpDownFinS (hMlpDownFinS := hMlpDownFinS)
    ∧ quiescent_MlpDownFinSIdeal (hMlpDownFinSIdeal := hMlpDownFinSIdeal)
    ∧ quiescent_MlpDownFinSRefIdeal (hMlpDownFinSRefIdeal := hMlpDownFinSRefIdeal)
    ∧ quiescent_SsmIn (hSsmIn := hSsmIn)
    ∧ quiescent_SsmInIdeal (hSsmInIdeal := hSsmInIdeal)
    ∧ quiescent_SsmInRefIdeal (hSsmInRefIdeal := hSsmInRefIdeal)
    ∧ quiescent_SsmInS (hSsmInS := hSsmInS)
    ∧ quiescent_SsmInSIdeal (hSsmInSIdeal := hSsmInSIdeal)
    ∧ quiescent_SsmInSRefIdeal (hSsmInSRefIdeal := hSsmInSRefIdeal)
    ∧ quiescent_SsmOut (hSsmOut := hSsmOut)
    ∧ quiescent_SsmOutIdeal (hSsmOutIdeal := hSsmOutIdeal)
    ∧ quiescent_SsmOutRefIdeal (hSsmOutRefIdeal := hSsmOutRefIdeal)
    ∧ quiescent_AttIn (hAttIn := hAttIn)
    ∧ quiescent_AttInIdeal (hAttInIdeal := hAttInIdeal)
    ∧ quiescent_AttInRefIdeal (hAttInRefIdeal := hAttInRefIdeal)
    ∧ quiescent_AttInS (hAttInS := hAttInS)
    ∧ quiescent_AttInSIdeal (hAttInSIdeal := hAttInSIdeal)
    ∧ quiescent_AttInSRefIdeal (hAttInSRefIdeal := hAttInSRefIdeal)
    ∧ quiescent_AttOut (hAttOut := hAttOut)
    ∧ quiescent_AttOutIdeal (hAttOutIdeal := hAttOutIdeal)
    ∧ quiescent_AttOutRefIdeal (hAttOutRefIdeal := hAttOutRefIdeal)
    ∧ quiescent_KvS (hKvS := hKvS)
    ∧ quiescent_KvSIdeal (hKvSIdeal := hKvSIdeal)
    ∧ quiescent_KvSRefIdeal (hKvSRefIdeal := hKvSRefIdeal)
    ∧ quiescent_CmpFinish (hCmpFinish := hCmpFinish)
    ∧ quiescent_CmpFinishIdeal (hCmpFinishIdeal := hCmpFinishIdeal)
    ∧ quiescent_CmpFinishRefIdeal (hCmpFinishRefIdeal := hCmpFinishRefIdeal)
    ∧ quiescent_SsdState (hSsdState := hSsdState) (hPre_steps_finite := hPre_steps_finite)
    ∧ quiescent_SsdStateIdeal (hSsdStateIdeal := hSsdStateIdeal) (hPre_steps_finite := hPre_steps_finite)
    ∧ quiescent_SsdStateRefIdeal (hSsdStateRefIdeal := hSsdStateRefIdeal) (hPre_steps_finite := hPre_steps_finite)
    ∧ preserves_CmpProject_CmpProjectIdeal
    ∧ algebraic_CmpProjectIdeal_CmpProjectRefIdeal (hCmpProjectIdeal := hCmpProjectIdeal) (hCmpProjectRefIdeal := hCmpProjectRefIdeal) (hPre_pages_in_range := hPre_pages_in_range)
    ∧ preserves_MlpUp_MlpUpIdeal
    ∧ algebraic_MlpUpIdeal_MlpUpRefIdeal (hMlpUpIdeal := hMlpUpIdeal) (hMlpUpRefIdeal := hMlpUpRefIdeal)
    ∧ preserves_MlpDown_MlpDownIdeal
    ∧ algebraic_MlpDownIdeal_MlpDownRefIdeal (hMlpDownIdeal := hMlpDownIdeal) (hMlpDownRefIdeal := hMlpDownRefIdeal)
    ∧ preserves_MlpDownFin_MlpDownFinIdeal
    ∧ algebraic_MlpDownFinIdeal_MlpDownFinRefIdeal (hMlpDownFinIdeal := hMlpDownFinIdeal) (hMlpDownFinRefIdeal := hMlpDownFinRefIdeal)
    ∧ preserves_MlpDownFinS_MlpDownFinSIdeal
    ∧ algebraic_MlpDownFinSIdeal_MlpDownFinSRefIdeal (hMlpDownFinSIdeal := hMlpDownFinSIdeal) (hMlpDownFinSRefIdeal := hMlpDownFinSRefIdeal)
    ∧ preserves_SsmIn_SsmInIdeal
    ∧ algebraic_SsmInIdeal_SsmInRefIdeal (hSsmInIdeal := hSsmInIdeal) (hSsmInRefIdeal := hSsmInRefIdeal)
    ∧ preserves_SsmInS_SsmInSIdeal
    ∧ algebraic_SsmInSIdeal_SsmInSRefIdeal (hSsmInSIdeal := hSsmInSIdeal) (hSsmInSRefIdeal := hSsmInSRefIdeal)
    ∧ preserves_SsmOut_SsmOutIdeal
    ∧ algebraic_SsmOutIdeal_SsmOutRefIdeal (hSsmOutIdeal := hSsmOutIdeal) (hSsmOutRefIdeal := hSsmOutRefIdeal)
    ∧ preserves_AttIn_AttInIdeal
    ∧ algebraic_AttInIdeal_AttInRefIdeal (hAttInIdeal := hAttInIdeal) (hAttInRefIdeal := hAttInRefIdeal)
    ∧ preserves_AttInS_AttInSIdeal
    ∧ algebraic_AttInSIdeal_AttInSRefIdeal (hAttInSIdeal := hAttInSIdeal) (hAttInSRefIdeal := hAttInSRefIdeal)
    ∧ preserves_AttOut_AttOutIdeal
    ∧ algebraic_AttOutIdeal_AttOutRefIdeal (hAttOutIdeal := hAttOutIdeal) (hAttOutRefIdeal := hAttOutRefIdeal)
    ∧ preserves_KvS_KvSIdeal
    ∧ algebraic_KvSIdeal_KvSRefIdeal (hKvSIdeal := hKvSIdeal) (hKvSRefIdeal := hKvSRefIdeal)
    ∧ preserves_CmpFinish_CmpFinishIdeal
    ∧ algebraic_CmpFinishIdeal_CmpFinishRefIdeal (hCmpFinishIdeal := hCmpFinishIdeal) (hCmpFinishRefIdeal := hCmpFinishRefIdeal)
    ∧ preserves_SsdState_SsdStateIdeal
    ∧ algebraic_SsdStateIdeal_SsdStateRefIdeal (hSsdStateIdeal := hSsdStateIdeal) (hSsdStateRefIdeal := hSsdStateRefIdeal) (hPre_steps_finite := hPre_steps_finite)
-- ==== Pre_pages_in_range.lean ====
abbrev S5120x128x2x4x64 : Shape := ⟨5, ![5120, 128, 2, 4, 64]⟩
abbrev S32x128 : Shape := ⟨2, ![32, 128]⟩
abbrev S2x2048x128 : Shape := ⟨3, ![2, 2048, 128]⟩
abbrev S_ : Shape := ⟨0, ![]⟩

class Facts : Prop where
  bcast_S_S32x128 : S_.BroadcastsInDim S32x128 (![] : Fin 0 → Fin S32x128.rank)
  reducesTo_S32x128_S_d0_1 : S32x128.ReducesTo [0, 1] S_
  h_S_ : 0 < S_.numel

variable [Facts]

def fn {F : FTy → Type} [FloatOps F] (main_arg0 : FVec F S5120x128x2x4x64 .f32) (main_arg1 : IVec S32x128 32) (main_arg2 : FVec F S2x2048x128 .f32) : IVec S_ 1 :=
  let main_c : IVec S_ 32 := constantI S_ 32 0#32
  let main_v0 : IVec S32x128 32 := broadcastInDim S32x128 ![] bcast_S_S32x128 main_c
  let main_v1 : IVec S32x128 1 := cmpi .sge main_arg1 main_v0
  let main_c_0 : IVec S_ 32 := constantI S_ 32 5120#32
  let main_v2 : IVec S32x128 32 := broadcastInDim S32x128 ![] bcast_S_S32x128 main_c_0
  let main_v3 : IVec S32x128 1 := cmpi .slt main_arg1 main_v2
  let main_v4 : IVec S32x128 1 := andi main_v1 main_v3
  let main_c_1 : IVec S_ 1 := constantI S_ 1 1#1
  let main_v5 : IVec S_ 1 := (fun x v => Host.reduce IntOp.andi x v reducesTo_S32x128_S_d0_1 h_S_) main_v4 main_c_1
  main_v5
-- ==== Pre_steps_finite.lean ====
abbrev S128x6400 : Shape := ⟨2, ![128, 6400]⟩
abbrev S32x3x4096 : Shape := ⟨3, ![32, 3, 4096]⟩
abbrev S32x32x64x128 : Shape := ⟨4, ![32, 32, 64, 128]⟩
abbrev S4096x4 : Shape := ⟨2, ![4096, 4]⟩
abbrev S4096 : Shape := ⟨1, ![4096]⟩
abbrev S32 : Shape := ⟨1, ![32]⟩
abbrev S2048 : Shape := ⟨1, ![2048]⟩
abbrev S128x32 : Shape := ⟨2, ![128, 32]⟩
abbrev S_ : Shape := ⟨0, ![]⟩

class Facts : Prop where
  slices_S128x6400_S128x32_0_6144 : S128x6400.Slices ![0, 6144] S128x32
  bcast_S_S128x32 : S_.BroadcastsInDim S128x32 (![] : Fin 0 → Fin S128x32.rank)
  reducesTo_S128x32_S_d0_1 : S128x32.ReducesTo [0, 1] S_
  h_S_ : 0 < S_.numel
  bcast_S_S32 : S_.BroadcastsInDim S32 (![] : Fin 0 → Fin S32.rank)
  reducesTo_S32_S_d0 : S32.ReducesTo [0] S_

variable [Facts]

def fn {F : FTy → Type} [FloatOps F] (main_arg0 : FVec F S128x6400 .f32) (main_arg1 : FVec F S32x3x4096 .f32) (main_arg2 : FVec F S32x32x64x128 .f32) (main_arg3 : FVec F S4096x4 .f32) (main_arg4 : FVec F S4096 .f32) (main_arg5 : FVec F S32 .f32) (main_arg6 : FVec F S32 .f32) (main_arg7 : FVec F S32 .f32) (main_arg8 : FVec F S2048 .f32) : IVec S_ 1 :=
  let main_v0 : FVec F S128x32 .f32 := (extractStridedSlice S128x32 ![0, 6144] · slices_S128x6400_S128x32_0_6144) main_arg0
  let main_v1 : FVec F S128x32 .f32 := Host.absf main_v0
  let main_cst : FVec F S_ .f32 := constant S_ .f32 0x7F800000#32
  let main_v2 : FVec F S128x32 .f32 := broadcastInDim S128x32 ![] bcast_S_S128x32 main_cst
  let main_v3 : IVec S128x32 1 := cmpf .olt main_v1 main_v2
  let main_c : IVec S_ 1 := constantI S_ 1 1#1
  let main_v4 : IVec S_ 1 := (fun x v => Host.reduce IntOp.andi x v reducesTo_S128x32_S_d0_1 h_S_) main_v3 main_c
  let main_v5 : FVec F S32 .f32 := Host.absf main_arg5
  let main_cst_0 : FVec F S_ .f32 := constant S_ .f32 0x7F800000#32
  let main_v6 : FVec F S32 .f32 := broadcastInDim S32 ![] bcast_S_S32 main_cst_0
  let main_v7 : IVec S32 1 := cmpf .olt main_v5 main_v6
  let main_c_1 : IVec S_ 1 := constantI S_ 1 1#1
  let main_v8 : IVec S_ 1 := (fun x v => Host.reduce IntOp.andi x v reducesTo_S32_S_d0 h_S_) main_v7 main_c_1
  let main_v9 : IVec S_ 1 := andi main_v4 main_v8
  main_v9
-- ==== CmpProject.lean ====
abbrev S5120x128x2x4x64 : Shape := ⟨5, ![5120, 128, 2, 4, 64]⟩
abbrev S32x128 : Shape := ⟨2, ![32, 128]⟩
abbrev S2x2048x128 : Shape := ⟨3, ![2, 2048, 128]⟩
abbrev S128x128 : Shape := ⟨2, ![128, 128]⟩
abbrev S5120x2x4x64x128 : Shape := ⟨5, ![5120, 2, 4, 64, 128]⟩
abbrev S2621440x128 : Shape := ⟨2, ![2621440, 128]⟩
abbrev S2x32x64x128 : Shape := ⟨4, ![2, 32, 64, 128]⟩
abbrev S2x16x64x128 : Shape := ⟨4, ![2, 16, 64, 128]⟩
abbrev S2x16x64x256 : Shape := ⟨4, ![2, 16, 64, 256]⟩
abbrev S2x4x256x256 : Shape := ⟨4, ![2, 4, 256, 256]⟩
abbrev S32x8x1024x128 : Shape := ⟨4, ![32, 8, 1024, 128]⟩
abbrev S512x128 : Shape := ⟨2, ![512, 128]⟩
abbrev S1x1 : Shape := ⟨2, ![1, 1]⟩
abbrev S1x8x128x128 : Shape := ⟨4, ![1, 8, 128, 128]⟩
abbrev S16x128x512 : Shape := ⟨3, ![16, 128, 512]⟩
abbrev S128x512 : Shape := ⟨2, ![128, 512]⟩
abbrev S8x512 : Shape := ⟨2, ![8, 512]⟩
abbrev S1x8x512 : Shape := ⟨3, ![1, 8, 512]⟩
abbrev S1x128x128 : Shape := ⟨3, ![1, 128, 128]⟩
abbrev S128x256 : Shape := ⟨2, ![128, 256]⟩
abbrev S1x1x256x256 : Shape := ⟨4, ![1, 1, 256, 256]⟩
abbrev S256x256 : Shape := ⟨2, ![256, 256]⟩
abbrev S1x1x128x128 : Shape := ⟨4, ![1, 1, 128, 128]⟩

abbrev nBuf : Space → Nat
  | .hbm => 13
  | .vmem => 39
  | .smem => 1
  | _ => 0

abbrev bufTy : (tb : Table) → Fin (tcTables nBuf tb) → BufTy
  | .hbm, ⟨0, _⟩ => ⟨S5120x128x2x4x64, .f32⟩
  | .hbm, ⟨1, _⟩ => ⟨S2x2048x128, .f32⟩
  | .hbm, ⟨2, _⟩ => ⟨S128x128, .bf16⟩
  | .hbm, ⟨3, _⟩ => ⟨S5120x2x4x64x128, .f32⟩
  | .hbm, ⟨4, _⟩ => ⟨S2621440x128, .f32⟩
  | .hbm, ⟨5, _⟩ => ⟨S2x32x64x128, .f32⟩
  | .hbm, ⟨6, _⟩ => ⟨S2x16x64x128, .f32⟩
  | .hbm, ⟨7, _⟩ => ⟨S2x16x64x128, .f32⟩
  | .hbm, ⟨8, _⟩ => ⟨S2x16x64x256, .f32⟩
  | .hbm, ⟨9, _⟩ => ⟨S2x4x256x256, .f32⟩
  | .hbm, ⟨10, _⟩ => ⟨S2x4x256x256, .bf16⟩
  | .hbm, ⟨11, _⟩ => ⟨S32x8x1024x128, .f32⟩
  | .hbm, ⟨12, _⟩ => ⟨S32x8x1024x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S512x128, .f32⟩
  | .local _ .vmem, ⟨23, _⟩ => ⟨S512x128, .f32⟩
  | .local _ .vmem, ⟨24, _⟩ => ⟨S512x128, .f32⟩
  | .local _ .vmem, ⟨25, _⟩ => ⟨S512x128, .f32⟩
  | .local _ .vmem, ⟨26, _⟩ => ⟨S512x128, .f32⟩
  | .local _ .vmem, ⟨27, _⟩ => ⟨S512x128, .f32⟩
  | .local _ .vmem, ⟨28, _⟩ => ⟨S512x128, .f32⟩
  | .local _ .vmem, ⟨29, _⟩ => ⟨S512x128, .f32⟩
  | .local _ .vmem, ⟨30, _⟩ => ⟨S512x128, .f32⟩
  | .local _ .vmem, ⟨31, _⟩ => ⟨S512x128, .f32⟩
  | .local _ .vmem, ⟨32, _⟩ => ⟨S128x128, .bf16⟩
  | .local _ .vmem, ⟨33, _⟩ => ⟨S2x4x256x256, .bf16⟩
  | .local _ .vmem, ⟨34, _⟩ => ⟨S1x8x128x128, .f32⟩
  | .local _ .vmem, ⟨35, _⟩ => ⟨S1x8x128x128, .f32⟩
  | .local _ .vmem, ⟨36, _⟩ => ⟨S1x8x128x128, .f32⟩
  | .local _ .vmem, ⟨37, _⟩ => ⟨S1x8x128x128, .f32⟩
  | .local _ .vmem, ⟨38, _⟩ => ⟨S16x128x512, .f32⟩
  | .local _ .smem, ⟨0, _⟩ => ⟨S32x128, .i32⟩
  | _, _ => ⟨S5120x128x2x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg17_0 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_scratch0 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem17_0 : DmaSem sig := 33
abbrev cc0_sem18_0 : DmaSem sig := 34
abbrev cc0_sem18_1 : DmaSem sig := 35
abbrev cc0_sem19_0 : DmaSem sig := 36
abbrev cc0_sem19_1 : DmaSem sig := 37

abbrev nD : Nat := 1
abbrev τ : Topo := Topo.v7x

variable {F : FTy → Type} [FloatOps F]

abbrev grid0 : Pipeline.Grid := ⟨2, ![32, 8], ![false, false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 2 → Nat :=
  let arg0 : BitVec 32 := BitVec.ofNat 32 (i 0).val
  let v2 : Index := Scalar.indexCast arg0
  let arg1 : BitVec 32 := BitVec.ofNat 32 (i 1).val
  let c16_i32 : BitVec 32 := 16#32
  let v0 : BitVec 32 := Scalar.muli arg1 c16_i32
  let v1 : BitVec 32 := Scalar.addi v0 c0_i32
  let v3 : Index := Scalar.indexCast v1
  ![v2.toNat, v3.toNat]
def cc0_transform_0 (k0_off1_inb : ∀ i : grid0.Coords, ∀ (r : Fin 16), ∀ a, (k0_off1 i (BitVec.ofNat 32 r.val)) a + S1x1.size a ≤ S32x128.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c0_i32 : BitVec 32 := 0#32
  let v1 : BitVec 32 := Scalar.addi v0 c0_i32
  let v2 : Index := Scalar.indexCast arg0
  let v3 : Index := Scalar.indexCast v1
  let v4 : BitVec 32 := pf.at 0 (Rect.unit (s := S32x128) ![v2.toNat, v3.toNat] S1x1.size (k0_off1_inb i 0)) numel1_S1x1
  let c0_i32_0 : BitVec 32 := 0#32
  let c0_i32_1 : BitVec 32 := 0#32
  ![v4.toNat, c0_i32_0.toNat]

def cc0_transform_1 (k0_off1_inb : ∀ i : grid0.Coords, ∀ (r : Fin 16), ∀ a, (k0_off1 i (BitVec.ofNat 32 r.val)) a + S1x1.size a ≤ S32x128.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.addi v0 c1_i32
  let v2 : Index := Scalar.indexCast arg0
  let v3 : Index := Scalar.indexCast v1
  let v4 : BitVec 32 := pf.at 0 (Rect.unit (s := S32x128) ![v2.toNat, v3.toNat] S1x1.size (k0_off1_inb i 1)) numel1_S1x1
  let c0_i32 : BitVec 32 := 0#32
  let c0_i32_0 : BitVec 32 := 0#32
  ![v4.toNat, c0_i32.toNat]

def cc0_transform_2 (k0_off1_inb : ∀ i : grid0.Coords, ∀ (r : Fin 16), ∀ a, (k0_off1 i (BitVec.ofNat 32 r.val)) a + S1x1.size a ≤ S32x128.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c2_i32 : BitVec 32 := 2#32
  let v1 : BitVec 32 := Scalar.addi v0 c2_i32
  let v2 : Index := Scalar.indexCast arg0
  let v3 : Index := Scalar.indexCast v1
  let v4 : BitVec 32 := pf.at 0 (Rect.unit (s := S32x128) ![v2.toNat, v3.toNat] S1x1.size (k0_off1_inb i 2)) numel1_S1x1
  let c0_i32 : BitVec 32 := 0#32
  let c0_i32_0 : BitVec 32 := 0#32
  ![v4.toNat, c0_i32.toNat]

def cc0_transform_3 (k0_off1_inb : ∀ i : grid0.Coords, ∀ (r : Fin 16), ∀ a, (k0_off1 i (BitVec.ofNat 32 r.val)) a + S1x1.size a ≤ S32x128.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c3_i32 : BitVec 32 := 3#32
  let v1 : BitVec 32 := Scalar.addi v0 c3_i32
  let v2 : Index := Scalar.indexCast arg0
  let v3 : Index := Scalar.indexCast v1
  let v4 : BitVec 32 := pf.at 0 (Rect.unit (s := S32x128) ![v2.toNat, v3.toNat] S1x1.size (k0_off1_inb i 3)) numel1_S1x1
  let c0_i32 : BitVec 32 := 0#32
  let c0_i32_0 : BitVec 32 := 0#32
  ![v4.toNat, c0_i32.toNat]

def cc0_transform_4 (k0_off1_inb : ∀ i : grid0.Coords, ∀ (r : Fin 16), ∀ a, (k0_off1 i (BitVec.ofNat 32 r.val)) a + S1x1.size a ≤ S32x128.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c4_i32 : BitVec 32 := 4#32
  let v1 : BitVec 32 := Scalar.addi v0 c4_i32
  let v2 : Index := Scalar.indexCast arg0
  let v3 : Index := Scalar.indexCast v1
  let v4 : BitVec 32 := pf.at 0 (Rect.unit (s := S32x128) ![v2.toNat, v3.toNat] S1x1.size (k0_off1_inb i 4)) numel1_S1x1
  let c0_i32 : BitVec 32 := 0#32
  let c0_i32_0 : BitVec 32 := 0#32
  ![v4.toNat, c0_i32.toNat]

def cc0_transform_5 (k0_off1_inb : ∀ i : grid0.Coords, ∀ (r : Fin 16), ∀ a, (k0_off1 i (BitVec.ofNat 32 r.val)) a + S1x1.size a ≤ S32x128.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c5_i32 : BitVec 32 := 5#32
  let v1 : BitVec 32 := Scalar.addi v0 c5_i32
  let v2 : Index := Scalar.indexCast arg0
  let v3 : Index := Scalar.indexCast v1
  let v4 : BitVec 32 := pf.at 0 (Rect.unit (s := S32x128) ![v2.toNat, v3.toNat] S1x1.size (k0_off1_inb i 5)) numel1_S1x1
  let c0_i32 : BitVec 32 := 0#32
  let c0_i32_0 : BitVec 32 := 0#32
  ![v4.toNat, c0_i32.toNat]

def cc0_transform_6 (k0_off1_inb : ∀ i : grid0.Coords, ∀ (r : Fin 16), ∀ a, (k0_off1 i (BitVec.ofNat 32 r.val)) a + S1x1.size a ≤ S32x128.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c6_i32 : BitVec 32 := 6#32
  let v1 : BitVec 32 := Scalar.addi v0 c6_i32
  let v2 : Index := Scalar.indexCast arg0
  let v3 : Index := Scalar.indexCast v1
  let v4 : BitVec 32 := pf.at 0 (Rect.unit (s := S32x128) ![v2.toNat, v3.toNat] S1x1.size (k0_off1_inb i 6)) numel1_S1x1
  let c0_i32 : BitVec 32 := 0#32
  let c0_i32_0 : BitVec 32 := 0#32
  ![v4.toNat, c0_i32.toNat]

def cc0_transform_7 (k0_off1_inb : ∀ i : grid0.Coords, ∀ (r : Fin 16), ∀ a, (k0_off1 i (BitVec.ofNat 32 r.val)) a + S1x1.size a ≤ S32x128.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c7_i32 : BitVec 32 := 7#32
  let v1 : BitVec 32 := Scalar.addi v0 c7_i32
  let v2 : Index := Scalar.indexCast arg0
  let v3 : Index := Scalar.indexCast v1
  let v4 : BitVec 32 := pf.at 0 (Rect.unit (s := S32x128) ![v2.toNat, v3.toNat] S1x1.size (k0_off1_inb i 7)) numel1_S1x1
  let c0_i32 : BitVec 32 := 0#32
  let c0_i32_0 : BitVec 32 := 0#32
  ![v4.toNat, c0_i32.toNat]

def cc0_transform_8 (k0_off1_inb : ∀ i : grid0.Coords, ∀ (r : Fin 16), ∀ a, (k0_off1 i (BitVec.ofNat 32 r.val)) a + S1x1.size a ≤ S32x128.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c8_i32 : BitVec 32 := 8#32
  let v1 : BitVec 32 := Scalar.addi v0 c8_i32
  let v2 : Index := Scalar.indexCast arg0
  let v3 : Index := Scalar.indexCast v1
  let v4 : BitVec 32 := pf.at 0 (Rect.unit (s := S32x128) ![v2.toNat, v3.toNat] S1x1.size (k0_off1_inb i 8)) numel1_S1x1
  let c0_i32 : BitVec 32 := 0#32
  let c0_i32_0 : BitVec 32 := 0#32
  ![v4.toNat, c0_i32.toNat]

def cc0_transform_9 (k0_off1_inb : ∀ i : grid0.Coords, ∀ (r : Fin 16), ∀ a, (k0_off1 i (BitVec.ofNat 32 r.val)) a + S1x1.size a ≤ S32x128.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c9_i32 : BitVec 32 := 9#32
  let v1 : BitVec 32 := Scalar.addi v0 c9_i32
  let v2 : Index := Scalar.indexCast arg0
  let v3 : Index := Scalar.indexCast v1
  let v4 : BitVec 32 := pf.at 0 (Rect.unit (s := S32x128) ![v2.toNat, v3.toNat] S1x1.size (k0_off1_inb i 9)) numel1_S1x1
  let c0_i32 : BitVec 32 := 0#32
  let c0_i32_0 : BitVec 32 := 0#32
  ![v4.toNat, c0_i32.toNat]

def cc0_transform_10 (k0_off1_inb : ∀ i : grid0.Coords, ∀ (r : Fin 16), ∀ a, (k0_off1 i (BitVec.ofNat 32 r.val)) a + S1x1.size a ≤ S32x128.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c10_i32 : BitVec 32 := 10#32
  let v1 : BitVec 32 := Scalar.addi v0 c10_i32
  let v2 : Index := Scalar.indexCast arg0
  let v3 : Index := Scalar.indexCast v1
  let v4 : BitVec 32 := pf.at 0 (Rect.unit (s := S32x128) ![v2.toNat, v3.toNat] S1x1.size (k0_off1_inb i 10)) numel1_S1x1
  let c0_i32 : BitVec 32 := 0#32
  let c0_i32_0 : BitVec 32 := 0#32
  ![v4.toNat, c0_i32.toNat]

def cc0_transform_11 (k0_off1_inb : ∀ i : grid0.Coords, ∀ (r : Fin 16), ∀ a, (k0_off1 i (BitVec.ofNat 32 r.val)) a + S1x1.size a ≤ S32x128.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c11_i32 : BitVec 32 := 11#32
  let v1 : BitVec 32 := Scalar.addi v0 c11_i32
  let v2 : Index := Scalar.indexCast arg0
  let v3 : Index := Scalar.indexCast v1
  let v4 : BitVec 32 := pf.at 0 (Rect.unit (s := S32x128) ![v2.toNat, v3.toNat] S1x1.size (k0_off1_inb i 11)) numel1_S1x1
  let c0_i32 : BitVec 32 := 0#32
  let c0_i32_0 : BitVec 32 := 0#32
  ![v4.toNat, c0_i32.toNat]

def cc0_transform_12 (k0_off1_inb : ∀ i : grid0.Coords, ∀ (r : Fin 16), ∀ a, (k0_off1 i (BitVec.ofNat 32 r.val)) a + S1x1.size a ≤ S32x128.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c12_i32 : BitVec 32 := 12#32
  let v1 : BitVec 32 := Scalar.addi v0 c12_i32
  let v2 : Index := Scalar.indexCast arg0
  let v3 : Index := Scalar.indexCast v1
  let v4 : BitVec 32 := pf.at 0 (Rect.unit (s := S32x128) ![v2.toNat, v3.toNat] S1x1.size (k0_off1_inb i 12)) numel1_S1x1
  let c0_i32 : BitVec 32 := 0#32
  let c0_i32_0 : BitVec 32 := 0#32
  ![v4.toNat, c0_i32.toNat]

def cc0_transform_13 (k0_off1_inb : ∀ i : grid0.Coords, ∀ (r : Fin 16), ∀ a, (k0_off1 i (BitVec.ofNat 32 r.val)) a + S1x1.size a ≤ S32x128.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c13_i32 : BitVec 32 := 13#32
  let v1 : BitVec 32 := Scalar.addi v0 c13_i32
  let v2 : Index := Scalar.indexCast arg0
  let v3 : Index := Scalar.indexCast v1
  let v4 : BitVec 32 := pf.at 0 (Rect.unit (s := S32x128) ![v2.toNat, v3.toNat] S1x1.size (k0_off1_inb i 13)) numel1_S1x1
  let c0_i32 : BitVec 32 := 0#32
  let c0_i32_0 : BitVec 32 := 0#32
  ![v4.toNat, c0_i32.toNat]

def cc0_transform_14 (k0_off1_inb : ∀ i : grid0.Coords, ∀ (r : Fin 16), ∀ a, (k0_off1 i (BitVec.ofNat 32 r.val)) a + S1x1.size a ≤ S32x128.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c14_i32 : BitVec 32 := 14#32
  let v1 : BitVec 32 := Scalar.addi v0 c14_i32
  let v2 : Index := Scalar.indexCast arg0
  let v3 : Index := Scalar.indexCast v1
  let v4 : BitVec 32 := pf.at 0 (Rect.unit (s := S32x128) ![v2.toNat, v3.toNat] S1x1.size (k0_off1_inb i 14)) numel1_S1x1
  let c0_i32 : BitVec 32 := 0#32
  let c0_i32_0 : BitVec 32 := 0#32
  ![v4.toNat, c0_i32.toNat]

def cc0_transform_15 (k0_off1_inb : ∀ i : grid0.Coords, ∀ (r : Fin 16), ∀ a, (k0_off1 i (BitVec.ofNat 32 r.val)) a + S1x1.size a ≤ S32x128.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c15_i32 : BitVec 32 := 15#32
  let v1 : BitVec 32 := Scalar.addi v0 c15_i32
  let v2 : Index := Scalar.indexCast arg0
  let v3 : Index := Scalar.indexCast v1
  let v4 : BitVec 32 := pf.at 0 (Rect.unit (s := S32x128) ![v2.toNat, v3.toNat] S1x1.size (k0_off1_inb i 15)) numel1_S1x1
  let c0_i32 : BitVec 32 := 0#32
  let c0_i32_0 : BitVec 32 := 0#32
  ![v4.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_19 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 1 → Memref sig .tc .vmem S128x128 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S2x4x256x256 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S1x8x128x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x8x128x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== CmpProjectRefIdeal.lean ====
abbrev S5120x128x2x4x64 : Shape := ⟨5, ![5120, 128, 2, 4, 64]⟩
abbrev S32x128 : Shape := ⟨2, ![32, 128]⟩
abbrev S2x2048x128 : Shape := ⟨3, ![2, 2048, 128]⟩
abbrev S_ : Shape := ⟨0, ![]⟩
abbrev S32x128x1 : Shape := ⟨3, ![32, 128, 1]⟩
abbrev S32x128x128x2x4x64 : Shape := ⟨6, ![32, 128, 128, 2, 4, 64]⟩
abbrev S32x16384x2x4x64 : Shape := ⟨5, ![32, 16384, 2, 4, 64]⟩
abbrev S32x1024x16x2x4x64 : Shape := ⟨6, ![32, 1024, 16, 2, 4, 64]⟩
abbrev S2x32x64x128 : Shape := ⟨4, ![2, 32, 64, 128]⟩
abbrev S32x1024x16x1x4x64 : Shape := ⟨6, ![32, 1024, 16, 1, 4, 64]⟩
abbrev S32x1024x16x4x64 : Shape := ⟨5, ![32, 1024, 16, 4, 64]⟩
abbrev S1x16x64x128 : Shape := ⟨4, ![1, 16, 64, 128]⟩
abbrev S16x64x128 : Shape := ⟨3, ![16, 64, 128]⟩
abbrev S128x32x1024x4 : Shape := ⟨4, ![128, 32, 1024, 4]⟩
abbrev S32x4x1024x128 : Shape := ⟨4, ![32, 4, 1024, 128]⟩
abbrev S32x8x1024x128 : Shape := ⟨4, ![32, 8, 1024, 128]⟩

abbrev nBuf : Space → Nat
  | .hbm => 41
  | .vmem => 0
  | .smem => 0
  | _ => 0

abbrev bufTy : (tb : Table) → Fin (tcTables nBuf tb) → BufTy
  | .hbm, ⟨0, _⟩ => ⟨S5120x128x2x4x64, .f32⟩
  | .hbm, ⟨1, _⟩ => ⟨S32x128, .i32⟩
  | .hbm, ⟨2, _⟩ => ⟨S2x2048x128, .f32⟩
  | .hbm, ⟨3, _⟩ => ⟨S_, .i32⟩
  | .hbm, ⟨4, _⟩ => ⟨S32x128, .i32⟩
  | .hbm, ⟨5, _⟩ => ⟨S32x128, .i1⟩
  | .hbm, ⟨6, _⟩ => ⟨S_, .i32⟩
  | .hbm, ⟨7, _⟩ => ⟨S32x128, .i32⟩
  | .hbm, ⟨8, _⟩ => ⟨S32x128, .i32⟩
  | .hbm, ⟨9, _⟩ => ⟨S32x128, .i32⟩
  | .hbm, ⟨10, _⟩ => ⟨S32x128x1, .i32⟩
  | .hbm, ⟨11, _⟩ => ⟨S32x128x128x2x4x64, .f32⟩
  | .hbm, ⟨12, _⟩ => ⟨S32x16384x2x4x64, .f32⟩
  | .hbm, ⟨13, _⟩ => ⟨S32x1024x16x2x4x64, .f32⟩
  | .hbm, ⟨14, _⟩ => ⟨S2x32x64x128, .f32⟩
  | .hbm, ⟨15, _⟩ => ⟨S32x1024x16x1x4x64, .f32⟩
  | .hbm, ⟨16, _⟩ => ⟨S32x1024x16x4x64, .f32⟩
  | .hbm, ⟨17, _⟩ => ⟨S1x16x64x128, .f32⟩
  | .hbm, ⟨18, _⟩ => ⟨S16x64x128, .f32⟩
  | .hbm, ⟨19, _⟩ => ⟨S128x32x1024x4, .f32⟩
  | .hbm, ⟨20, _⟩ => ⟨S32x4x1024x128, .f32⟩
  | .hbm, ⟨21, _⟩ => ⟨S32x1024x16x1x4x64, .f32⟩
  | .hbm, ⟨22, _⟩ => ⟨S32x1024x16x4x64, .f32⟩
  | .hbm, ⟨23, _⟩ => ⟨S1x16x64x128, .f32⟩
  | .hbm, ⟨24, _⟩ => ⟨S16x64x128, .f32⟩
  | .hbm, ⟨25, _⟩ => ⟨S128x32x1024x4, .f32⟩
  | .hbm, ⟨26, _⟩ => ⟨S32x4x1024x128, .f32⟩
  | .hbm, ⟨27, _⟩ => ⟨S32x8x1024x128, .f32⟩
  | .hbm, ⟨28, _⟩ => ⟨S32x1024x16x1x4x64, .f32⟩
  | .hbm, ⟨29, _⟩ => ⟨S32x1024x16x4x64, .f32⟩
  | .hbm, ⟨30, _⟩ => ⟨S1x16x64x128, .f32⟩
  | .hbm, ⟨31, _⟩ => ⟨S16x64x128, .f32⟩
  | .hbm, ⟨32, _⟩ => ⟨S128x32x1024x4, .f32⟩
  | .hbm, ⟨33, _⟩ => ⟨S32x4x1024x128, .f32⟩
  | .hbm, ⟨34, _⟩ => ⟨S32x1024x16x1x4x64, .f32⟩
  | .hbm, ⟨35, _⟩ => ⟨S32x1024x16x4x64, .f32⟩
  | .hbm, ⟨36, _⟩ => ⟨S1x16x64x128, .f32⟩
  | .hbm, ⟨37, _⟩ => ⟨S16x64x128, .f32⟩
  | .hbm, ⟨38, _⟩ => ⟨S128x32x1024x4, .f32⟩
  | .hbm, ⟨39, _⟩ => ⟨S32x4x1024x128, .f32⟩
  | .hbm, ⟨40, _⟩ => ⟨S32x8x1024x128, .f32⟩
  | _, _ => ⟨S5120x128x2x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩

abbrev nD : Nat := 1
abbrev τ : Topo := Topo.v7x

variable {F : FTy → Type} [FloatOps F]
-- ==== MlpUp.lean ====
abbrev S16384x1024 : Shape := ⟨2, ![16384, 1024]⟩
abbrev S1024 : Shape := ⟨1, ![1024]⟩
abbrev S1024x4096 : Shape := ⟨2, ![1024, 4096]⟩
abbrev S1x1024 : Shape := ⟨2, ![1, 1024]⟩
abbrev S16384x4096 : Shape := ⟨2, ![16384, 4096]⟩
abbrev S1024x1024 : Shape := ⟨2, ![1024, 1024]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S1024x4096, .bf16⟩
  | .hbm, ⟨4, _⟩ => ⟨S1x1024, .f32⟩
  | .hbm, ⟨5, _⟩ => ⟨S16384x4096, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MlpUpRefIdeal.lean ====
abbrev S16384x1024 : Shape := ⟨2, ![16384, 1024]⟩
abbrev S1024 : Shape := ⟨1, ![1024]⟩
abbrev S1024x4096 : Shape := ⟨2, ![1024, 4096]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 25
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x4096, .f32⟩
  | .hbm, ⟨20, _⟩ => ⟨S_, .f32⟩
  | .hbm, ⟨21, _⟩ => ⟨S16384x4096, .f32⟩
  | .hbm, ⟨22, _⟩ => ⟨S16384x4096, .f32⟩
  | .hbm, ⟨23, _⟩ => ⟨S16384x4096, .f32⟩
  | .hbm, ⟨24, _⟩ => ⟨S16384x4096, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_cst : Ref sig .tc := ⟨.hbm, 20, rfl⟩
abbrev main_call0_v0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== MlpDown.lean ====
abbrev S16384x4096 : Shape := ⟨2, ![16384, 4096]⟩
abbrev S4096x1024 : Shape := ⟨2, ![4096, 1024]⟩
abbrev S16384x1024 : Shape := ⟨2, ![16384, 1024]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 5
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S4096x1024, .f32⟩
  | .hbm, ⟨2, _⟩ => ⟨S16384x1024, .f32⟩
  | .hbm, ⟨3, _⟩ => ⟨S4096x1024, .bf16⟩
  | .hbm, ⟨4, _⟩ => ⟨S16384x1024, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MlpDownRefIdeal.lean ====
abbrev S16384x4096 : Shape := ⟨2, ![16384, 4096]⟩
abbrev S4096x1024 : Shape := ⟨2, ![4096, 1024]⟩
abbrev S16384x1024 : Shape := ⟨2, ![16384, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x1024, .f32⟩
  | .hbm, ⟨2, _⟩ => ⟨S16384x1024, .f32⟩
  | .hbm, ⟨3, _⟩ => ⟨S16384x4096, .f32⟩
  | .hbm, ⟨4, _⟩ => ⟨S16384x1024, .f32⟩
  | .hbm, ⟨5, _⟩ => ⟨S16384x1024, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== MlpDownFin.lean ====
abbrev S16384x4096 : Shape := ⟨2, ![16384, 4096]⟩
abbrev S4096x1024 : Shape := ⟨2, ![4096, 1024]⟩
abbrev S16384x1024 : Shape := ⟨2, ![16384, 1024]⟩
abbrev S1024 : Shape := ⟨1, ![1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S4096x1024, .f32⟩
  | .hbm, ⟨2, _⟩ => ⟨S16384x1024, .f32⟩
  | .hbm, ⟨3, _⟩ => ⟨S1024, .f32⟩
  | .hbm, ⟨4, _⟩ => ⟨S4096x1024, .bf16⟩
  | .hbm, ⟨5, _⟩ => ⟨S1x1024, .f32⟩
  | .hbm, ⟨6, _⟩ => ⟨S16384x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MlpDownFinIdeal.lean ====
abbrev S16384x4096 : Shape := ⟨2, ![16384, 4096]⟩
abbrev S4096x1024 : Shape := ⟨2, ![4096, 1024]⟩
abbrev S16384x1024 : Shape := ⟨2, ![16384, 1024]⟩
abbrev S1024 : Shape := ⟨1, ![1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S4096x1024, .f32⟩
  | .hbm, ⟨2, _⟩ => ⟨S16384x1024, .f32⟩
  | .hbm, ⟨3, _⟩ => ⟨S1024, .f32⟩
  | .hbm, ⟨4, _⟩ => ⟨S4096x1024, .bf16⟩
  | .hbm, ⟨5, _⟩ => ⟨S1x1024, .f32⟩
  | .hbm, ⟨6, _⟩ => ⟨S16384x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MlpDownFinRefIdeal.lean ====
abbrev S16384x4096 : Shape := ⟨2, ![16384, 4096]⟩
abbrev S4096x1024 : Shape := ⟨2, ![4096, 1024]⟩
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x1024, .f32⟩
  | .hbm, ⟨2, _⟩ => ⟨S16384x1024, .f32⟩
  | .hbm, ⟨3, _⟩ => ⟨S1024, .f32⟩
  | .hbm, ⟨4, _⟩ => ⟨S16384x4096, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== MlpDownFinS.lean ====
abbrev S128x4096 : Shape := ⟨2, ![128, 4096]⟩
abbrev S4096x1024 : Shape := ⟨2, ![4096, 1024]⟩
abbrev S128x1024 : Shape := ⟨2, ![128, 1024]⟩
abbrev S1024 : Shape := ⟨1, ![1024]⟩
abbrev S1x1024 : Shape := ⟨2, ![1, 1024]⟩
abbrev S128 : Shape := ⟨1, ![128]⟩
abbrev S128x1 : Shape := ⟨2, ![128, 1]⟩

abbrev nBuf : Space → Nat
  | .hbm => 7
  | .vmem => 5
  | .smem => 0
  | _ => 0

abbrev bufTy : (tb : Table) → Fin (tcTables nBuf tb) → BufTy
  | .hbm, ⟨0, _⟩ => ⟨S128x4096, .bf16⟩
  | .hbm, ⟨1, _⟩ => ⟨S4096x1024, .f32⟩
  | .hbm, ⟨2, _⟩ => ⟨S128x1024, .f32⟩
  | .hbm, ⟨3, _⟩ => ⟨S1024, .f32⟩
  | .hbm, ⟨4, _⟩ => ⟨S4096x1024, .bf16⟩
  | .hbm, ⟨5, _⟩ => ⟨S1x1024, .f32⟩
  | .hbm, ⟨6, _⟩ => ⟨S128x1024, .f32⟩
  | .local _ .vmem, ⟨0, _⟩ => ⟨S128x4096, .bf16⟩
  | .local _ .vmem, ⟨1, _⟩ => ⟨S4096x1024, .bf16⟩
  | .local _ .vmem, ⟨2, _⟩ => ⟨S128x1024, .f32⟩
  | .local _ .vmem, ⟨3, _⟩ => ⟨S1x1024, .f32⟩
  | .local _ .vmem, ⟨4, _⟩ => ⟨S128x1024, .f32⟩
  | _, _ => ⟨S128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]
-- ==== MlpDownFinSRefIdeal.lean ====
abbrev S128x4096 : Shape := ⟨2, ![128, 4096]⟩
abbrev S4096x1024 : Shape := ⟨2, ![4096, 1024]⟩
abbrev S128x1024 : Shape := ⟨2, ![128, 1024]⟩
abbrev S1024 : Shape := ⟨1, ![1024]⟩
abbrev S_ : Shape := ⟨0, ![]⟩
abbrev S128 : Shape := ⟨1, ![128]⟩
abbrev S128x1 : Shape := ⟨2, ![128, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S128x4096, .bf16⟩
  | .hbm, ⟨1, _⟩ => ⟨S4096x1024, .f32⟩
  | .hbm, ⟨2, _⟩ => ⟨S128x1024, .f32⟩
  | .hbm, ⟨3, _⟩ => ⟨S1024, .f32⟩
  | .hbm, ⟨4, _⟩ => ⟨S128x4096, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S_, .f32⟩
  | .hbm, ⟨9, _⟩ => ⟨S128, .f32⟩
  | .hbm, ⟨10, _⟩ => ⟨S128x1, .f32⟩
  | .hbm, ⟨11, _⟩ => ⟨S_, .f32⟩
  | .hbm, ⟨12, _⟩ => ⟨S128x1, .f32⟩
  | .hbm, ⟨13, _⟩ => ⟨S128x1, .f32⟩
  | .hbm, ⟨14, _⟩ => ⟨S_, .f32⟩
  | .hbm, ⟨15, _⟩ => ⟨S128x1, .f32⟩
  | .hbm, ⟨16, _⟩ => ⟨S128x1, .f32⟩
  | .hbm, ⟨17, _⟩ => ⟨S128x1, .f32⟩
  | .hbm, ⟨18, _⟩ => ⟨S128x1024, .f32⟩
  | .hbm, ⟨19, _⟩ => ⟨S128x1024, .f32⟩
  | .hbm, ⟨20, _⟩ => ⟨S1x1024, .f32⟩
  | .hbm, ⟨21, _⟩ => ⟨S128x1024, .f32⟩
  | .hbm, ⟨22, _⟩ => ⟨S128x1024, .f32⟩
  | _, _ => ⟨S128x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== SsmIn.lean ====
abbrev S2x8192x1024 : Shape := ⟨3, ![2, 8192, 1024]⟩
abbrev S1024 : Shape := ⟨1, ![1024]⟩
abbrev S1024x6176 : Shape := ⟨2, ![1024, 6176]⟩
abbrev S_ : Shape := ⟨0, ![]⟩
abbrev S1024x6400 : Shape := ⟨2, ![1024, 6400]⟩
abbrev S16384x1024 : Shape := ⟨2, ![16384, 1024]⟩
abbrev S1x1024 : Shape := ⟨2, ![1, 1024]⟩
abbrev S16384x6400 : Shape := ⟨2, ![16384, 6400]⟩
abbrev S1024x1024 : Shape := ⟨2, ![1024, 1024]⟩
abbrev S1024x1280 : Shape := ⟨2, ![1024, 1280]⟩
abbrev S1024x1 : Shape := ⟨2, ![1024, 1]⟩

abbrev nBuf : Space → Nat
  | .hbm => 10
  | .vmem => 8
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x6176, .f32⟩
  | .hbm, ⟨3, _⟩ => ⟨S_, .i32⟩
  | .hbm, ⟨4, _⟩ => ⟨S_, .f32⟩
  | .hbm, ⟨5, _⟩ => ⟨S1024x6400, .f32⟩
  | .hbm, ⟨6, _⟩ => ⟨S1024x6400, .bf16⟩
  | .hbm, ⟨7, _⟩ => ⟨S16384x1024, .f32⟩
  | .hbm, ⟨8, _⟩ => ⟨S1x1024, .f32⟩
  | .hbm, ⟨9, _⟩ => ⟨S16384x6400, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1280, .bf16⟩
  | .local _ .vmem, ⟨4, _⟩ => ⟨S1024x1280, .bf16⟩
  | .local _ .vmem, ⟨5, _⟩ => ⟨S1024x1280, .f32⟩
  | .local _ .vmem, ⟨6, _⟩ => ⟨S1024x1280, .f32⟩
  | .local _ .vmem, ⟨7, _⟩ => ⟨S1024x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SsmInIdeal.lean ====
abbrev S2x8192x1024 : Shape := ⟨3, ![2, 8192, 1024]⟩
abbrev S1024 : Shape := ⟨1, ![1024]⟩
abbrev S1024x6176 : Shape := ⟨2, ![1024, 6176]⟩
abbrev S_ : Shape := ⟨0, ![]⟩
abbrev S1024x6400 : Shape := ⟨2, ![1024, 6400]⟩
abbrev S16384x1024 : Shape := ⟨2, ![16384, 1024]⟩
abbrev S1x1024 : Shape := ⟨2, ![1, 1024]⟩
abbrev S16384x6400 : Shape := ⟨2, ![16384, 6400]⟩
abbrev S1024x1024 : Shape := ⟨2, ![1024, 1024]⟩
abbrev S1024x1280 : Shape := ⟨2, ![1024, 1280]⟩
abbrev S1024x1 : Shape := ⟨2, ![1024, 1]⟩

abbrev nBuf : Space → Nat
  | .hbm => 10
  | .vmem => 8
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x6176, .f32⟩
  | .hbm, ⟨3, _⟩ => ⟨S_, .i32⟩
  | .hbm, ⟨4, _⟩ => ⟨S_, .f32⟩
  | .hbm, ⟨5, _⟩ => ⟨S1024x6400, .f32⟩
  | .hbm, ⟨6, _⟩ => ⟨S1024x6400, .bf16⟩
  | .hbm, ⟨7, _⟩ => ⟨S16384x1024, .f32⟩
  | .hbm, ⟨8, _⟩ => ⟨S1x1024, .f32⟩
  | .hbm, ⟨9, _⟩ => ⟨S16384x6400, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1280, .bf16⟩
  | .local _ .vmem, ⟨4, _⟩ => ⟨S1024x1280, .bf16⟩
  | .local _ .vmem, ⟨5, _⟩ => ⟨S1024x1280, .f32⟩
  | .local _ .vmem, ⟨6, _⟩ => ⟨S1024x1280, .f32⟩
  | .local _ .vmem, ⟨7, _⟩ => ⟨S1024x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SsmInRefIdeal.lean ====
abbrev S2x8192x1024 : Shape := ⟨3, ![2, 8192, 1024]⟩
abbrev S1024 : Shape := ⟨1, ![1024]⟩
abbrev S1024x6176 : Shape := ⟨2, ![1024, 6176]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x6176 : Shape := ⟨3, ![2, 8192, 6176]⟩
abbrev S2x8192x6400 : Shape := ⟨3, ![2, 8192, 6400]⟩
abbrev S16384x6400 : Shape := ⟨2, ![16384, 6400]⟩

abbrev nBuf : Space → Nat
  | .hbm => 24
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x6176, .f32⟩
  | .hbm, ⟨3, _⟩ => ⟨S2x8192x1024, .f32⟩
  | .hbm, ⟨4, _⟩ => ⟨S_, .f32⟩
  | .hbm, ⟨5, _⟩ => ⟨S2x8192, .f32⟩
  | .hbm, ⟨6, _⟩ => ⟨S2x8192x1, .f32⟩
  | .hbm, ⟨7, _⟩ => ⟨S_, .f32⟩
  | .hbm, ⟨8, _⟩ => ⟨S2x8192x1, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S2x8192x1, .f32⟩
  | .hbm, ⟨14, _⟩ => ⟨S2x8192x1024, .f32⟩
  | .hbm, ⟨15, _⟩ => ⟨S2x8192x1024, .f32⟩
  | .hbm, ⟨16, _⟩ => ⟨S1x1x1024, .f32⟩
  | .hbm, ⟨17, _⟩ => ⟨S2x8192x1024, .f32⟩
  | .hbm, ⟨18, _⟩ => ⟨S2x8192x1024, .f32⟩
  | .hbm, ⟨19, _⟩ => ⟨S2x8192x6176, .f32⟩
  | .hbm, ⟨20, _⟩ => ⟨S_, .i32⟩
  | .hbm, ⟨21, _⟩ => ⟨S_, .f32⟩
  | .hbm, ⟨22, _⟩ => ⟨S2x8192x6400, .f32⟩
  | .hbm, ⟨23, _⟩ => ⟨S16384x6400, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_call0_v0 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== SsmInS.lean ====
abbrev S32x4x1024 : Shape := ⟨3, ![32, 4, 1024]⟩
abbrev S1024 : Shape := ⟨1, ![1024]⟩
abbrev S1024x6176 : Shape := ⟨2, ![1024, 6176]⟩
abbrev S_ : Shape := ⟨0, ![]⟩
abbrev S1024x6400 : Shape := ⟨2, ![1024, 6400]⟩
abbrev S128x1024 : Shape := ⟨2, ![128, 1024]⟩
abbrev S1x1024 : Shape := ⟨2, ![1, 1024]⟩
abbrev S128x6400 : Shape := ⟨2, ![128, 6400]⟩
abbrev S1024x1280 : Shape := ⟨2, ![1024, 1280]⟩
abbrev S128x1280 : Shape := ⟨2, ![128, 1280]⟩
abbrev S128 : Shape := ⟨1, ![128]⟩
abbrev S128x1 : Shape := ⟨2, ![128, 1]⟩

abbrev nBuf : Space → Nat
  | .hbm => 10
  | .vmem => 7
  | .smem => 0
  | _ => 0

abbrev bufTy : (tb : Table) → Fin (tcTables nBuf tb) → BufTy
  | .hbm, ⟨0, _⟩ => ⟨S32x4x1024, .f32⟩
  | .hbm, ⟨1, _⟩ => ⟨S1024, .f32⟩
  | .hbm, ⟨2, _⟩ => ⟨S1024x6176, .f32⟩
  | .hbm, ⟨3, _⟩ => ⟨S_, .i32⟩
  | .hbm, ⟨4, _⟩ => ⟨S_, .f32⟩
  | .hbm, ⟨5, _⟩ => ⟨S1024x6400, .f32⟩
  | .hbm, ⟨6, _⟩ => ⟨S1024x6400, .bf16⟩
  | .hbm, ⟨7, _⟩ => ⟨S128x1024, .f32⟩
  | .hbm, ⟨8, _⟩ => ⟨S1x1024, .f32⟩
  | .hbm, ⟨9, _⟩ => ⟨S128x6400, .f32⟩
  | .local _ .vmem, ⟨0, _⟩ => ⟨S128x1024, .f32⟩
  | .local _ .vmem, ⟨1, _⟩ => ⟨S1x1024, .f32⟩
  | .local _ .vmem, ⟨2, _⟩ => ⟨S1024x1280, .bf16⟩
  | .local _ .vmem, ⟨3, _⟩ => ⟨S1024x1280, .bf16⟩
  | .local _ .vmem, ⟨4, _⟩ => ⟨S128x1280, .f32⟩
  | .local _ .vmem, ⟨5, _⟩ => ⟨S128x1280, .f32⟩
  | .local _ .vmem, ⟨6, _⟩ => ⟨S128x1024, .bf16⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SsmInSRefIdeal.lean ====
abbrev S32x4x1024 : Shape := ⟨3, ![32, 4, 1024]⟩
abbrev S1024 : Shape := ⟨1, ![1024]⟩
abbrev S1024x6176 : Shape := ⟨2, ![1024, 6176]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S32x4x6176 : Shape := ⟨3, ![32, 4, 6176]⟩
abbrev S32x4x6400 : Shape := ⟨3, ![32, 4, 6400]⟩
abbrev S128x6400 : Shape := ⟨2, ![128, 6400]⟩

abbrev nBuf : Space → Nat
  | .hbm => 24
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S1024, .f32⟩
  | .hbm, ⟨2, _⟩ => ⟨S1024x6176, .f32⟩
  | .hbm, ⟨3, _⟩ => ⟨S32x4x1024, .f32⟩
  | .hbm, ⟨4, _⟩ => ⟨S_, .f32⟩
  | .hbm, ⟨5, _⟩ => ⟨S32x4, .f32⟩
  | .hbm, ⟨6, _⟩ => ⟨S32x4x1, .f32⟩
  | .hbm, ⟨7, _⟩ => ⟨S_, .f32⟩
  | .hbm, ⟨8, _⟩ => ⟨S32x4x1, .f32⟩
  | .hbm, ⟨9, _⟩ => ⟨S32x4x1, .f32⟩
  | .hbm, ⟨10, _⟩ => ⟨S_, .f32⟩
  | .hbm, ⟨11, _⟩ => ⟨S32x4x1, .f32⟩
  | .hbm, ⟨12, _⟩ => ⟨S32x4x1, .f32⟩
  | .hbm, ⟨13, _⟩ => ⟨S32x4x1, .f32⟩
  | .hbm, ⟨14, _⟩ => ⟨S32x4x1024, .f32⟩
  | .hbm, ⟨15, _⟩ => ⟨S32x4x1024, .f32⟩
  | .hbm, ⟨16, _⟩ => ⟨S1x1x1024, .f32⟩
  | .hbm, ⟨17, _⟩ => ⟨S32x4x1024, .f32⟩
  | .hbm, ⟨18, _⟩ => ⟨S32x4x1024, .f32⟩
  | .hbm, ⟨19, _⟩ => ⟨S32x4x6176, .f32⟩
  | .hbm, ⟨20, _⟩ => ⟨S_, .i32⟩
  | .hbm, ⟨21, _⟩ => ⟨S_, .f32⟩
  | .hbm, ⟨22, _⟩ => ⟨S32x4x6400, .f32⟩
  | .hbm, ⟨23, _⟩ => ⟨S128x6400, .f32⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_call0_v0 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== SsmOut.lean ====
abbrev S16384x2048 : Shape := ⟨2, ![16384, 2048]⟩
abbrev S2048x1024 : Shape := ⟨2, ![2048, 1024]⟩
abbrev S16384x1024 : Shape := ⟨2, ![16384, 1024]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 5
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S2048x1024, .f32⟩
  | .hbm, ⟨2, _⟩ => ⟨S16384x1024, .f32⟩
  | .hbm, ⟨3, _⟩ => ⟨S2048x1024, .bf16⟩
  | .hbm, ⟨4, _⟩ => ⟨S16384x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SsmOutRefIdeal.lean ====
abbrev S16384x2048 : Shape := ⟨2, ![16384, 2048]⟩
abbrev S2048x1024 : Shape := ⟨2, ![2048, 1024]⟩
abbrev S16384x1024 : Shape := ⟨2, ![16384, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x1024, .f32⟩
  | .hbm, ⟨2, _⟩ => ⟨S16384x1024, .f32⟩
  | .hbm, ⟨3, _⟩ => ⟨S16384x2048, .f32⟩
  | .hbm, ⟨4, _⟩ => ⟨S16384x1024, .f32⟩
  | .hbm, ⟨5, _⟩ => ⟨S16384x1024, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== AttIn.lean ====
abbrev S16384x1024 : Shape := ⟨2, ![16384, 1024]⟩
abbrev S1024 : Shape := ⟨1, ![1024]⟩
abbrev S1024x2608 : Shape := ⟨2, ![1024, 2608]⟩
abbrev S_ : Shape := ⟨0, ![]⟩
abbrev S1024x2688 : Shape := ⟨2, ![1024, 2688]⟩
abbrev S1x1024 : Shape := ⟨2, ![1, 1024]⟩
abbrev S16384x2688 : Shape := ⟨2, ![16384, 2688]⟩
abbrev S1024x1024 : Shape := ⟨2, ![1024, 1024]⟩
abbrev S1024x896 : Shape := ⟨2, ![1024, 896]⟩
abbrev S1024x1 : Shape := ⟨2, ![1024, 1]⟩

abbrev nBuf : Space → Nat
  | .hbm => 9
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2608, .f32⟩
  | .hbm, ⟨3, _⟩ => ⟨S_, .i32⟩
  | .hbm, ⟨4, _⟩ => ⟨S_, .f32⟩
  | .hbm, ⟨5, _⟩ => ⟨S1024x2688, .f32⟩
  | .hbm, ⟨6, _⟩ => ⟨S1024x2688, .bf16⟩
  | .hbm, ⟨7, _⟩ => ⟨S1x1024, .f32⟩
  | .hbm, ⟨8, _⟩ => ⟨S16384x2688, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x896, .bf16⟩
  | .local _ .vmem, ⟨4, _⟩ => ⟨S1024x896, .bf16⟩
  | .local _ .vmem, ⟨5, _⟩ => ⟨S1024x896, .f32⟩
  | .local _ .vmem, ⟨6, _⟩ => ⟨S1024x896, .f32⟩
  | .local _ .vmem, ⟨7, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttInIdeal.lean ====
abbrev S16384x1024 : Shape := ⟨2, ![16384, 1024]⟩
abbrev S1024 : Shape := ⟨1, ![1024]⟩
abbrev S1024x2608 : Shape := ⟨2, ![1024, 2608]⟩
abbrev S_ : Shape := ⟨0, ![]⟩
abbrev S1024x2688 : Shape := ⟨2, ![1024, 2688]⟩
abbrev S1x1024 : Shape := ⟨2, ![1, 1024]⟩
abbrev S16384x2688 : Shape := ⟨2, ![16384, 2688]⟩
abbrev S1024x1024 : Shape := ⟨2, ![1024, 1024]⟩
abbrev S1024x896 : Shape := ⟨2, ![1024, 896]⟩
abbrev S1024x1 : Shape := ⟨2, ![1024, 1]⟩

abbrev nBuf : Space → Nat
  | .hbm => 9
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2608, .f32⟩
  | .hbm, ⟨3, _⟩ => ⟨S_, .i32⟩
  | .hbm, ⟨4, _⟩ => ⟨S_, .f32⟩
  | .hbm, ⟨5, _⟩ => ⟨S1024x2688, .f32⟩
  | .hbm, ⟨6, _⟩ => ⟨S1024x2688, .bf16⟩
  | .hbm, ⟨7, _⟩ => ⟨S1x1024, .f32⟩
  | .hbm, ⟨8, _⟩ => ⟨S16384x2688, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x896, .bf16⟩
  | .local _ .vmem, ⟨4, _⟩ => ⟨S1024x896, .bf16⟩
  | .local _ .vmem, ⟨5, _⟩ => ⟨S1024x896, .f32⟩
  | .local _ .vmem, ⟨6, _⟩ => ⟨S1024x896, .f32⟩
  | .local _ .vmem, ⟨7, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttInRefIdeal.lean ====
abbrev S16384x1024 : Shape := ⟨2, ![16384, 1024]⟩
abbrev S1024 : Shape := ⟨1, ![1024]⟩
abbrev S1024x2608 : Shape := ⟨2, ![1024, 2608]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2608 : Shape := ⟨2, ![16384, 2608]⟩
abbrev S16384x2688 : Shape := ⟨2, ![16384, 2688]⟩

abbrev nBuf : Space → Nat
  | .hbm => 23
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2608, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x2608, .f32⟩
  | .hbm, ⟨20, _⟩ => ⟨S_, .i32⟩
  | .hbm, ⟨21, _⟩ => ⟨S_, .f32⟩
  | .hbm, ⟨22, _⟩ => ⟨S16384x2688, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_call0_v0 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== AttInS.lean ====
abbrev S128x1024 : Shape := ⟨2, ![128, 1024]⟩
abbrev S1024 : Shape := ⟨1, ![1024]⟩
abbrev S1024x2608 : Shape := ⟨2, ![1024, 2608]⟩
abbrev S_ : Shape := ⟨0, ![]⟩
abbrev S1024x2688 : Shape := ⟨2, ![1024, 2688]⟩
abbrev S1x1024 : Shape := ⟨2, ![1, 1024]⟩
abbrev S128x2688 : Shape := ⟨2, ![128, 2688]⟩
abbrev S1024x896 : Shape := ⟨2, ![1024, 896]⟩
abbrev S128x896 : Shape := ⟨2, ![128, 896]⟩
abbrev S128 : Shape := ⟨1, ![128]⟩
abbrev S128x1 : Shape := ⟨2, ![128, 1]⟩

abbrev nBuf : Space → Nat
  | .hbm => 9
  | .vmem => 7
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x2608, .f32⟩
  | .hbm, ⟨3, _⟩ => ⟨S_, .i32⟩
  | .hbm, ⟨4, _⟩ => ⟨S_, .f32⟩
  | .hbm, ⟨5, _⟩ => ⟨S1024x2688, .f32⟩
  | .hbm, ⟨6, _⟩ => ⟨S1024x2688, .bf16⟩
  | .hbm, ⟨7, _⟩ => ⟨S1x1024, .f32⟩
  | .hbm, ⟨8, _⟩ => ⟨S128x2688, .f32⟩
  | .local _ .vmem, ⟨0, _⟩ => ⟨S128x1024, .f32⟩
  | .local _ .vmem, ⟨1, _⟩ => ⟨S1x1024, .f32⟩
  | .local _ .vmem, ⟨2, _⟩ => ⟨S1024x896, .bf16⟩
  | .local _ .vmem, ⟨3, _⟩ => ⟨S1024x896, .bf16⟩
  | .local _ .vmem, ⟨4, _⟩ => ⟨S128x896, .f32⟩
  | .local _ .vmem, ⟨5, _⟩ => ⟨S128x896, .f32⟩
  | .local _ .vmem, ⟨6, _⟩ => ⟨S128x1024, .bf16⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttInSRefIdeal.lean ====
abbrev S128x1024 : Shape := ⟨2, ![128, 1024]⟩
abbrev S1024 : Shape := ⟨1, ![1024]⟩
abbrev S1024x2608 : Shape := ⟨2, ![1024, 2608]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x2608 : Shape := ⟨2, ![128, 2608]⟩
abbrev S128x2688 : Shape := ⟨2, ![128, 2688]⟩

abbrev nBuf : Space → Nat
  | .hbm => 23
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x2608, .f32⟩
  | .hbm, ⟨3, _⟩ => ⟨S128x1024, .f32⟩
  | .hbm, ⟨4, _⟩ => ⟨S_, .f32⟩
  | .hbm, ⟨5, _⟩ => ⟨S128, .f32⟩
  | .hbm, ⟨6, _⟩ => ⟨S128x1, .f32⟩
  | .hbm, ⟨7, _⟩ => ⟨S_, .f32⟩
  | .hbm, ⟨8, _⟩ => ⟨S128x1, .f32⟩
  | .hbm, ⟨9, _⟩ => ⟨S128x1, .f32⟩
  | .hbm, ⟨10, _⟩ => ⟨S_, .f32⟩
  | .hbm, ⟨11, _⟩ => ⟨S128x1, .f32⟩
  | .hbm, ⟨12, _⟩ => ⟨S128x1, .f32⟩
  | .hbm, ⟨13, _⟩ => ⟨S128x1, .f32⟩
  | .hbm, ⟨14, _⟩ => ⟨S128x1024, .f32⟩
  | .hbm, ⟨15, _⟩ => ⟨S128x1024, .f32⟩
  | .hbm, ⟨16, _⟩ => ⟨S1x1024, .f32⟩
  | .hbm, ⟨17, _⟩ => ⟨S128x1024, .f32⟩
  | .hbm, ⟨18, _⟩ => ⟨S128x1024, .f32⟩
  | .hbm, ⟨19, _⟩ => ⟨S128x2608, .f32⟩
  | .hbm, ⟨20, _⟩ => ⟨S_, .i32⟩
  | .hbm, ⟨21, _⟩ => ⟨S_, .f32⟩
  | .hbm, ⟨22, _⟩ => ⟨S128x2688, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_call0_v0 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== AttOut.lean ====
abbrev S16384x1024 : Shape := ⟨2, ![16384, 1024]⟩
abbrev S1024x1024 : Shape := ⟨2, ![1024, 1024]⟩
abbrev S1024x512 : Shape := ⟨2, ![1024, 512]⟩

abbrev nBuf : Space → Nat
  | .hbm => 5
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S1024x1024, .bf16⟩
  | .hbm, ⟨4, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttOutRefIdeal.lean ====
abbrev S16384x1024 : Shape := ⟨2, ![16384, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S16384x1024, .f32⟩
  | .hbm, ⟨4, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== KvS.lean ====
abbrev S32x4x1024 : Shape := ⟨3, ![32, 4, 1024]⟩
abbrev S1024 : Shape := ⟨1, ![1024]⟩
abbrev S1024x2608 : Shape := ⟨2, ![1024, 2608]⟩
abbrev S32x512x2x4x64 : Shape := ⟨5, ![32, 512, 2, 4, 64]⟩
abbrev S_ : Shape := ⟨0, ![]⟩
abbrev S1024x2688 : Shape := ⟨2, ![1024, 2688]⟩
abbrev S128x1024 : Shape := ⟨2, ![128, 1024]⟩
abbrev S1x1024 : Shape := ⟨2, ![1, 1024]⟩
abbrev S128x2688 : Shape := ⟨2, ![128, 2688]⟩
abbrev S1024x896 : Shape := ⟨2, ![1024, 896]⟩
abbrev S128x896 : Shape := ⟨2, ![128, 896]⟩
abbrev S128 : Shape := ⟨1, ![128]⟩
abbrev S128x1 : Shape := ⟨2, ![128, 1]⟩
abbrev S128x512 : Shape := ⟨2, ![128, 512]⟩
abbrev S32x4x2x4x64 : Shape := ⟨5, ![32, 4, 2, 4, 64]⟩
abbrev S32x516x2x4x64 : Shape := ⟨5, ![32, 516, 2, 4, 64]⟩

abbrev nBuf : Space → Nat
  | .hbm => 19
  | .vmem => 7
  | .smem => 0
  | _ => 0

abbrev bufTy : (tb : Table) → Fin (tcTables nBuf tb) → BufTy
  | .hbm, ⟨0, _⟩ => ⟨S32x4x1024, .f32⟩
  | .hbm, ⟨1, _⟩ => ⟨S1024, .f32⟩
  | .hbm, ⟨2, _⟩ => ⟨S1024x2608, .f32⟩
  | .hbm, ⟨3, _⟩ => ⟨S32x512x2x4x64, .f32⟩
  | .hbm, ⟨4, _⟩ => ⟨S_, .i32⟩
  | .hbm, ⟨5, _⟩ => ⟨S_, .f32⟩
  | .hbm, ⟨6, _⟩ => ⟨S1024x2688, .f32⟩
  | .hbm, ⟨7, _⟩ => ⟨S1024x2688, .bf16⟩
  | .hbm, ⟨8, _⟩ => ⟨S128x1024, .f32⟩
  | .hbm, ⟨9, _⟩ => ⟨S1x1024, .f32⟩
  | .hbm, ⟨10, _⟩ => ⟨S128x2688, .f32⟩
  | .hbm, ⟨11, _⟩ => ⟨S128x512, .f32⟩
  | .hbm, ⟨12, _⟩ => ⟨S32x4x2x4x64, .f32⟩
  | .hbm, ⟨13, _⟩ => ⟨S128x512, .f32⟩
  | .hbm, ⟨14, _⟩ => ⟨S32x4x2x4x64, .f32⟩
  | .hbm, ⟨15, _⟩ => ⟨S128x512, .f32⟩
  | .hbm, ⟨16, _⟩ => ⟨S32x4x2x4x64, .f32⟩
  | .hbm, ⟨17, _⟩ => ⟨S32x516x2x4x64, .f32⟩
  | .hbm, ⟨18, _⟩ => ⟨S32x512x2x4x64, .f32⟩
  | .local _ .vmem, ⟨0, _⟩ => ⟨S128x1024, .f32⟩
  | .local _ .vmem, ⟨1, _⟩ => ⟨S1x1024, .f32⟩
  | .local _ .vmem, ⟨2, _⟩ => ⟨S1024x896, .bf16⟩
  | .local _ .vmem, ⟨3, _⟩ => ⟨S1024x896, .bf16⟩
  | .local _ .vmem, ⟨4, _⟩ => ⟨S128x896, .f32⟩
  | .local _ .vmem, ⟨5, _⟩ => ⟨S128x896, .f32⟩
  | .local _ .vmem, ⟨6, _⟩ => ⟨S128x1024, .bf16⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KvSRefIdeal.lean ====
abbrev S32x4x1024 : Shape := ⟨3, ![32, 4, 1024]⟩
abbrev S1024 : Shape := ⟨1, ![1024]⟩
abbrev S1024x2608 : Shape := ⟨2, ![1024, 2608]⟩
abbrev S32x512x2x4x64 : Shape := ⟨5, ![32, 512, 2, 4, 64]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S32x4x2608 : Shape := ⟨3, ![32, 4, 2608]⟩
abbrev S32x4x256 : Shape := ⟨3, ![32, 4, 256]⟩
abbrev S32x4x48 : Shape := ⟨3, ![32, 4, 48]⟩
abbrev S32x4x4x64 : Shape := ⟨4, ![32, 4, 4, 64]⟩
abbrev S32x4x1x4x64 : Shape := ⟨5, ![32, 4, 1, 4, 64]⟩
abbrev S32x4x2x4x64 : Shape := ⟨5, ![32, 4, 2, 4, 64]⟩
abbrev S32x516x2x4x64 : Shape := ⟨5, ![32, 516, 2, 4, 64]⟩

abbrev nBuf : Space → Nat
  | .hbm => 46
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S1024, .f32⟩
  | .hbm, ⟨2, _⟩ => ⟨S1024x2608, .f32⟩
  | .hbm, ⟨3, _⟩ => ⟨S32x512x2x4x64, .f32⟩
  | .hbm, ⟨4, _⟩ => ⟨S32x4x1024, .f32⟩
  | .hbm, ⟨5, _⟩ => ⟨S_, .f32⟩
  | .hbm, ⟨6, _⟩ => ⟨S32x4, .f32⟩
  | .hbm, ⟨7, _⟩ => ⟨S32x4x1, .f32⟩
  | .hbm, ⟨8, _⟩ => ⟨S_, .f32⟩
  | .hbm, ⟨9, _⟩ => ⟨S32x4x1, .f32⟩
  | .hbm, ⟨10, _⟩ => ⟨S32x4x1, .f32⟩
  | .hbm, ⟨11, _⟩ => ⟨S_, .f32⟩
  | .hbm, ⟨12, _⟩ => ⟨S32x4x1, .f32⟩
  | .hbm, ⟨13, _⟩ => ⟨S32x4x1, .f32⟩
  | .hbm, ⟨14, _⟩ => ⟨S32x4x1, .f32⟩
  | .hbm, ⟨15, _⟩ => ⟨S32x4x1024, .f32⟩
  | .hbm, ⟨16, _⟩ => ⟨S32x4x1024, .f32⟩
  | .hbm, ⟨17, _⟩ => ⟨S1x1x1024, .f32⟩
  | .hbm, ⟨18, _⟩ => ⟨S32x4x1024, .f32⟩
  | .hbm, ⟨19, _⟩ => ⟨S32x4x1024, .f32⟩
  | .hbm, ⟨20, _⟩ => ⟨S32x4x2608, .f32⟩
  | .hbm, ⟨21, _⟩ => ⟨S32x4x1024, .f32⟩
  | .hbm, ⟨22, _⟩ => ⟨S32x4x256, .f32⟩
  | .hbm, ⟨23, _⟩ => ⟨S32x4x256, .f32⟩
  | .hbm, ⟨24, _⟩ => ⟨S32x4x256, .f32⟩
  | .hbm, ⟨25, _⟩ => ⟨S32x4x256, .f32⟩
  | .hbm, ⟨26, _⟩ => ⟨S32x4x256, .f32⟩
  | .hbm, ⟨27, _⟩ => ⟨S32x4x256, .f32⟩
  | .hbm, ⟨28, _⟩ => ⟨S32x4x48, .f32⟩
  | .hbm, ⟨29, _⟩ => ⟨S32x4x4x64, .f32⟩
  | .hbm, ⟨30, _⟩ => ⟨S32x4x4x64, .f32⟩
  | .hbm, ⟨31, _⟩ => ⟨S32x4x1x4x64, .f32⟩
  | .hbm, ⟨32, _⟩ => ⟨S32x4x1x4x64, .f32⟩
  | .hbm, ⟨33, _⟩ => ⟨S32x4x2x4x64, .f32⟩
  | .hbm, ⟨34, _⟩ => ⟨S32x4x4x64, .f32⟩
  | .hbm, ⟨35, _⟩ => ⟨S32x4x4x64, .f32⟩
  | .hbm, ⟨36, _⟩ => ⟨S32x4x1x4x64, .f32⟩
  | .hbm, ⟨37, _⟩ => ⟨S32x4x1x4x64, .f32⟩
  | .hbm, ⟨38, _⟩ => ⟨S32x4x2x4x64, .f32⟩
  | .hbm, ⟨39, _⟩ => ⟨S32x4x4x64, .f32⟩
  | .hbm, ⟨40, _⟩ => ⟨S32x4x4x64, .f32⟩
  | .hbm, ⟨41, _⟩ => ⟨S32x4x1x4x64, .f32⟩
  | .hbm, ⟨42, _⟩ => ⟨S32x4x1x4x64, .f32⟩
  | .hbm, ⟨43, _⟩ => ⟨S32x4x2x4x64, .f32⟩
  | .hbm, ⟨44, _⟩ => ⟨S32x516x2x4x64, .f32⟩
  | .hbm, ⟨45, _⟩ => ⟨S32x512x2x4x64, .f32⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩

abbrev nD : Nat := 1
abbrev τ : Topo := Topo.v7x

variable {F : FTy → Type} [FloatOps F]
-- ==== CmpFinish.lean ====
abbrev S32x8x1024x128 : Shape := ⟨4, ![32, 8, 1024, 128]⟩
abbrev S2x32x64 : Shape := ⟨3, ![2, 32, 64]⟩
abbrev S2x2048x128 : Shape := ⟨3, ![2, 2048, 128]⟩
abbrev S2x128x64 : Shape := ⟨3, ![2, 128, 64]⟩
abbrev S2x1x2048 : Shape := ⟨3, ![2, 1, 2048]⟩
abbrev S_ : Shape := ⟨0, ![]⟩
abbrev S2x8x2048 : Shape := ⟨3, ![2, 8, 2048]⟩
abbrev S32x8x1024x64 : Shape := ⟨4, ![32, 8, 1024, 64]⟩
abbrev S1x4x1024x128 : Shape := ⟨4, ![1, 4, 1024, 128]⟩
abbrev S1x8x2048 : Shape := ⟨3, ![1, 8, 2048]⟩
abbrev S1x2048x128 : Shape := ⟨3, ![1, 2048, 128]⟩
abbrev S1x128x64 : Shape := ⟨3, ![1, 128, 64]⟩
abbrev S1x4x1024x64 : Shape := ⟨4, ![1, 4, 1024, 64]⟩
abbrev S4x1032x128 : Shape := ⟨3, ![4, 1032, 128]⟩
abbrev S8x2048 : Shape := ⟨2, ![8, 2048]⟩
abbrev S2048x128 : Shape := ⟨2, ![2048, 128]⟩
abbrev S8x128 : Shape := ⟨2, ![8, 128]⟩
abbrev S1x128 : Shape := ⟨2, ![1, 128]⟩
abbrev S1024x64 : Shape := ⟨2, ![1024, 64]⟩
abbrev S1x1x1024x128 : Shape := ⟨4, ![1, 1, 1024, 128]⟩
abbrev S1024x128 : Shape := ⟨2, ![1024, 128]⟩
abbrev S1x1024x128 : Shape := ⟨3, ![1, 1024, 128]⟩
abbrev S1x8x128 : Shape := ⟨3, ![1, 8, 128]⟩
abbrev S128x64 : Shape := ⟨2, ![128, 64]⟩
abbrev S1x1x1024x64 : Shape := ⟨4, ![1, 1, 1024, 64]⟩

abbrev nBuf : Space → Nat
  | .hbm => 12
  | .vmem => 13
  | .smem => 0
  | _ => 0

abbrev bufTy : (tb : Table) → Fin (tcTables nBuf tb) → BufTy
  | .hbm, ⟨0, _⟩ => ⟨S32x8x1024x128, .f32⟩
  | .hbm, ⟨1, _⟩ => ⟨S32x8x1024x128, .f32⟩
  | .hbm, ⟨2, _⟩ => ⟨S2x32x64, .f32⟩
  | .hbm, ⟨3, _⟩ => ⟨S2x2048x128, .f32⟩
  | .hbm, ⟨4, _⟩ => ⟨S2x128x64, .f32⟩
  | .hbm, ⟨5, _⟩ => ⟨S2x1x2048, .f32⟩
  | .hbm, ⟨6, _⟩ => ⟨S_, .i32⟩
  | .hbm, ⟨7, _⟩ => ⟨S_, .f32⟩
  | .hbm, ⟨8, _⟩ => ⟨S2x8x2048, .f32⟩
  | .hbm, ⟨9, _⟩ => ⟨S2x2048x128, .bf16⟩
  | .hbm, ⟨10, _⟩ => ⟨S2x128x64, .bf16⟩
  | .hbm, ⟨11, _⟩ => ⟨S32x8x1024x64, .bf16⟩
  | .local _ .vmem, ⟨0, _⟩ => ⟨S1x4x1024x128, .f32⟩
  | .local _ .vmem, ⟨1, _⟩ => ⟨S1x4x1024x128, .f32⟩
  | .local _ .vmem, ⟨2, _⟩ => ⟨S1x4x1024x128, .f32⟩
  | .local _ .vmem, ⟨3, _⟩ => ⟨S1x4x1024x128, .f32⟩
  | .local _ .vmem, ⟨4, _⟩ => ⟨S1x8x2048, .f32⟩
  | .local _ .vmem, ⟨5, _⟩ => ⟨S1x8x2048, .f32⟩
  | .local _ .vmem, ⟨6, _⟩ => ⟨S1x2048x128, .bf16⟩
  | .local _ .vmem, ⟨7, _⟩ => ⟨S1x2048x128, .bf16⟩
  | .local _ .vmem, ⟨8, _⟩ => ⟨S1x128x64, .bf16⟩
  | .local _ .vmem, ⟨9, _⟩ => ⟨S1x128x64, .bf16⟩
  | .local _ .vmem, ⟨10, _⟩ => ⟨S1x4x1024x64, .bf16⟩
  | .local _ .vmem, ⟨11, _⟩ => ⟨S1x4x1024x64, .bf16⟩
  | .local _ .vmem, ⟨12, _⟩ => ⟨S4x1032x128, .f32⟩
  | _, _ => ⟨S32x8x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x4x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x128x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x4x1024x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== CmpFinishRefIdeal.lean ====
abbrev S32x8x1024x128 : Shape := ⟨4, ![32, 8, 1024, 128]⟩
abbrev S2x32x64 : Shape := ⟨3, ![2, 32, 64]⟩
abbrev S2x2048x128 : Shape := ⟨3, ![2, 2048, 128]⟩
abbrev S2x128x64 : Shape := ⟨3, ![2, 128, 64]⟩
abbrev S2x2048 : Shape := ⟨2, ![2, 2048]⟩
abbrev S2x128 : Shape := ⟨2, ![2, 128]⟩
abbrev S32x2x4x1024x128 : Shape := ⟨5, ![32, 2, 4, 1024, 128]⟩
abbrev S32x2x4x1023x128 : Shape := ⟨5, ![32, 2, 4, 1023, 128]⟩
abbrev S2x1x1x128 : Shape := ⟨4, ![2, 1, 1, 128]⟩
abbrev S1x2x1x1x128 : Shape := ⟨5, ![1, 2, 1, 1, 128]⟩
abbrev S_ : Shape := ⟨0, ![]⟩
abbrev S2x64x32x4x1023 : Shape := ⟨5, ![2, 64, 32, 4, 1023]⟩
abbrev S32x2x4x1023x64 : Shape := ⟨5, ![32, 2, 4, 1023, 64]⟩
abbrev S32x8x1023x64 : Shape := ⟨4, ![32, 8, 1023, 64]⟩
abbrev S32x8x1024x64 : Shape := ⟨4, ![32, 8, 1024, 64]⟩

abbrev nBuf : Space → Nat
  | .hbm => 40
  | .vmem => 0
  | .smem => 0
  | _ => 0

abbrev bufTy : (tb : Table) → Fin (tcTables nBuf tb) → BufTy
  | .hbm, ⟨0, _⟩ => ⟨S32x8x1024x128, .f32⟩
  | .hbm, ⟨1, _⟩ => ⟨S32x8x1024x128, .f32⟩
  | .hbm, ⟨2, _⟩ => ⟨S2x32x64, .f32⟩
  | .hbm, ⟨3, _⟩ => ⟨S2x2048x128, .f32⟩
  | .hbm, ⟨4, _⟩ => ⟨S2x128x64, .f32⟩
  | .hbm, ⟨5, _⟩ => ⟨S2x2048, .f32⟩
  | .hbm, ⟨6, _⟩ => ⟨S2x128, .f32⟩
  | .hbm, ⟨7, _⟩ => ⟨S32x2x4x1024x128, .f32⟩
  | .hbm, ⟨8, _⟩ => ⟨S32x2x4x1023x128, .f32⟩
  | .hbm, ⟨9, _⟩ => ⟨S32x2x4x1024x128, .f32⟩
  | .hbm, ⟨10, _⟩ => ⟨S32x2x4x1023x128, .f32⟩
  | .hbm, ⟨11, _⟩ => ⟨S32x2x4x1023x128, .f32⟩
  | .hbm, ⟨12, _⟩ => ⟨S2x1x1x128, .f32⟩
  | .hbm, ⟨13, _⟩ => ⟨S1x2x1x1x128, .f32⟩
  | .hbm, ⟨14, _⟩ => ⟨S32x2x4x1023x128, .f32⟩
  | .hbm, ⟨15, _⟩ => ⟨S32x2x4x1023x128, .f32⟩
  | .hbm, ⟨16, _⟩ => ⟨S32x2x4x1023x128, .f32⟩
  | .hbm, ⟨17, _⟩ => ⟨S32x2x4x1023x128, .f32⟩
  | .hbm, ⟨18, _⟩ => ⟨S_, .f32⟩
  | .hbm, ⟨19, _⟩ => ⟨S32x2x4x1023x128, .f32⟩
  | .hbm, ⟨20, _⟩ => ⟨S32x2x4x1023x128, .f32⟩
  | .hbm, ⟨21, _⟩ => ⟨S32x2x4x1023x128, .f32⟩
  | .hbm, ⟨22, _⟩ => ⟨S_, .f32⟩
  | .hbm, ⟨23, _⟩ => ⟨S32x2x4x1023x128, .f32⟩
  | .hbm, ⟨24, _⟩ => ⟨S32x2x4x1023x128, .f32⟩
  | .hbm, ⟨25, _⟩ => ⟨S32x2x4x1023x128, .f32⟩
  | .hbm, ⟨26, _⟩ => ⟨S_, .f32⟩
  | .hbm, ⟨27, _⟩ => ⟨S32x2x4x1023x128, .f32⟩
  | .hbm, ⟨28, _⟩ => ⟨S32x2x4x1023x128, .f32⟩
  | .hbm, ⟨29, _⟩ => ⟨S_, .f32⟩
  | .hbm, ⟨30, _⟩ => ⟨S32x2x4x1023x128, .f32⟩
  | .hbm, ⟨31, _⟩ => ⟨S32x2x4x1023x128, .f32⟩
  | .hbm, ⟨32, _⟩ => ⟨S32x2x4x1023x128, .f32⟩
  | .hbm, ⟨33, _⟩ => ⟨S2x64x32x4x1023, .f32⟩
  | .hbm, ⟨34, _⟩ => ⟨S32x2x4x1023x64, .f32⟩
  | .hbm, ⟨35, _⟩ => ⟨S32x8x1023x64, .f32⟩
  | .hbm, ⟨36, _⟩ => ⟨S_, .i32⟩
  | .hbm, ⟨37, _⟩ => ⟨S_, .f32⟩
  | .hbm, ⟨38, _⟩ => ⟨S32x8x1024x64, .f32⟩
  | .hbm, ⟨39, _⟩ => ⟨S32x8x1024x64, .bf16⟩
  | _, _ => ⟨S32x8x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c : Ref sig .tc := ⟨.hbm, 36, rfl⟩
abbrev main_call0_v0 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== SsdState.lean ====
abbrev S128x6400 : Shape := ⟨2, ![128, 6400]⟩
abbrev S32x3x4096 : Shape := ⟨3, ![32, 3, 4096]⟩
abbrev S32x32x64x128 : Shape := ⟨4, ![32, 32, 64, 128]⟩
abbrev S4096x4 : Shape := ⟨2, ![4096, 4]⟩
abbrev S4096 : Shape := ⟨1, ![4096]⟩
abbrev S32 : Shape := ⟨1, ![32]⟩
abbrev S2048 : Shape := ⟨1, ![2048]⟩
abbrev S32x4x6400 : Shape := ⟨3, ![32, 4, 6400]⟩
abbrev S_ : Shape := ⟨0, ![]⟩
abbrev S32x128x6400 : Shape := ⟨3, ![32, 128, 6400]⟩
abbrev S4096x6400 : Shape := ⟨2, ![4096, 6400]⟩
abbrev S128x128 : Shape := ⟨2, ![128, 128]⟩
abbrev S128x2048 : Shape := ⟨2, ![128, 2048]⟩
abbrev S32x8x4096 : Shape := ⟨3, ![32, 8, 4096]⟩
abbrev S4x4096 : Shape := ⟨2, ![4, 4096]⟩
abbrev S1x4096 : Shape := ⟨2, ![1, 4096]⟩
abbrev S128 : Shape := ⟨1, ![128]⟩
abbrev S1x128 : Shape := ⟨2, ![1, 128]⟩
abbrev S32x64 : Shape := ⟨2, ![32, 64]⟩
abbrev S1x2048 : Shape := ⟨2, ![1, 2048]⟩
abbrev S32x2048x128 : Shape := ⟨3, ![32, 2048, 128]⟩
abbrev S4096x2048 : Shape := ⟨2, ![4096, 2048]⟩
abbrev S1x8x4096 : Shape := ⟨3, ![1, 8, 4096]⟩
abbrev S1x2048x128 : Shape := ⟨3, ![1, 2048, 128]⟩
abbrev S136x4096 : Shape := ⟨2, ![136, 4096]⟩
abbrev S128x1024 : Shape := ⟨2, ![128, 1024]⟩
abbrev S8x4096 : Shape := ⟨2, ![8, 4096]⟩
abbrev S2048x128 : Shape := ⟨2, ![2048, 128]⟩
abbrev S1x512 : Shape := ⟨2, ![1, 512]⟩
abbrev S128x512 : Shape := ⟨2, ![128, 512]⟩
abbrev S256x128 : Shape := ⟨2, ![256, 128]⟩
abbrev S256x2048 : Shape := ⟨2, ![256, 2048]⟩
abbrev S128x256 : Shape := ⟨2, ![128, 256]⟩
abbrev S1x256 : Shape := ⟨2, ![1, 256]⟩
abbrev S128x1 : Shape := ⟨2, ![128, 1]⟩

abbrev nBuf : Space → Nat
  | .hbm => 46
  | .vmem => 29
  | .smem => 0
  | _ => 0

abbrev bufTy : (tb : Table) → Fin (tcTables nBuf tb) → BufTy
  | .hbm, ⟨0, _⟩ => ⟨S128x6400, .f32⟩
  | .hbm, ⟨1, _⟩ => ⟨S32x3x4096, .f32⟩
  | .hbm, ⟨2, _⟩ => ⟨S32x32x64x128, .f32⟩
  | .hbm, ⟨3, _⟩ => ⟨S4096x4, .f32⟩
  | .hbm, ⟨4, _⟩ => ⟨S4096, .f32⟩
  | .hbm, ⟨5, _⟩ => ⟨S32, .f32⟩
  | .hbm, ⟨6, _⟩ => ⟨S32, .f32⟩
  | .hbm, ⟨7, _⟩ => ⟨S32, .f32⟩
  | .hbm, ⟨8, _⟩ => ⟨S2048, .f32⟩
  | .hbm, ⟨9, _⟩ => ⟨S32x4x6400, .f32⟩
  | .hbm, ⟨10, _⟩ => ⟨S_, .i32⟩
  | .hbm, ⟨11, _⟩ => ⟨S_, .f32⟩
  | .hbm, ⟨12, _⟩ => ⟨S32x128x6400, .f32⟩
  | .hbm, ⟨13, _⟩ => ⟨S4096x6400, .f32⟩
  | .hbm, ⟨14, _⟩ => ⟨S128x128, .i32⟩
  | .hbm, ⟨15, _⟩ => ⟨S128x128, .i32⟩
  | .hbm, ⟨16, _⟩ => ⟨S128x128, .i1⟩
  | .hbm, ⟨17, _⟩ => ⟨S128x128, .bf16⟩
  | .hbm, ⟨18, _⟩ => ⟨S128x2048, .i32⟩
  | .hbm, ⟨19, _⟩ => ⟨S_, .i32⟩
  | .hbm, ⟨20, _⟩ => ⟨S128x2048, .i32⟩
  | .hbm, ⟨21, _⟩ => ⟨S128x2048, .i32⟩
  | .hbm, ⟨22, _⟩ => ⟨S128x2048, .i32⟩
  | .hbm, ⟨23, _⟩ => ⟨S128x2048, .i1⟩
  | .hbm, ⟨24, _⟩ => ⟨S128x2048, .bf16⟩
  | .hbm, ⟨25, _⟩ => ⟨S_, .i32⟩
  | .hbm, ⟨26, _⟩ => ⟨S_, .f32⟩
  | .hbm, ⟨27, _⟩ => ⟨S32x8x4096, .f32⟩
  | .hbm, ⟨28, _⟩ => ⟨S4x4096, .f32⟩
  | .hbm, ⟨29, _⟩ => ⟨S1x4096, .f32⟩
  | .hbm, ⟨30, _⟩ => ⟨S_, .i32⟩
  | .hbm, ⟨31, _⟩ => ⟨S_, .f32⟩
  | .hbm, ⟨32, _⟩ => ⟨S128, .f32⟩
  | .hbm, ⟨33, _⟩ => ⟨S1x128, .f32⟩
  | .hbm, ⟨34, _⟩ => ⟨S_, .i32⟩
  | .hbm, ⟨35, _⟩ => ⟨S_, .f32⟩
  | .hbm, ⟨36, _⟩ => ⟨S128, .f32⟩
  | .hbm, ⟨37, _⟩ => ⟨S1x128, .f32⟩
  | .hbm, ⟨38, _⟩ => ⟨S32x64, .f32⟩
  | .hbm, ⟨39, _⟩ => ⟨S2048, .f32⟩
  | .hbm, ⟨40, _⟩ => ⟨S1x2048, .f32⟩
  | .hbm, ⟨41, _⟩ => ⟨S1x2048, .f32⟩
  | .hbm, ⟨42, _⟩ => ⟨S32x2048x128, .f32⟩
  | .hbm, ⟨43, _⟩ => ⟨S4096x2048, .bf16⟩
  | .hbm, ⟨44, _⟩ => ⟨S32x2048x128, .f32⟩
  | .hbm, ⟨45, _⟩ => ⟨S32x32x64x128, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x128, .f32⟩
  | .local _ .vmem, ⟨7, _⟩ => ⟨S128x128, .f32⟩
  | .local _ .vmem, ⟨8, _⟩ => ⟨S4x4096, .f32⟩
  | .local _ .vmem, ⟨9, _⟩ => ⟨S1x4096, .f32⟩
  | .local _ .vmem, ⟨10, _⟩ => ⟨S1x128, .f32⟩
  | .local _ .vmem, ⟨11, _⟩ => ⟨S1x128, .f32⟩
  | .local _ .vmem, ⟨12, _⟩ => ⟨S1x2048, .f32⟩
  | .local _ .vmem, ⟨13, _⟩ => ⟨S1x2048, .f32⟩
  | .local _ .vmem, ⟨14, _⟩ => ⟨S1x8x4096, .f32⟩
  | .local _ .vmem, ⟨15, _⟩ => ⟨S1x8x4096, .f32⟩
  | .local _ .vmem, ⟨16, _⟩ => ⟨S1x2048x128, .f32⟩
  | .local _ .vmem, ⟨17, _⟩ => ⟨S1x2048x128, .f32⟩
  | .local _ .vmem, ⟨18, _⟩ => ⟨S128x128, .bf16⟩
  | .local _ .vmem, ⟨19, _⟩ => ⟨S128x2048, .bf16⟩
  | .local _ .vmem, ⟨20, _⟩ => ⟨S128x2048, .bf16⟩
  | .local _ .vmem, ⟨21, _⟩ => ⟨S128x2048, .bf16⟩
  | .local _ .vmem, ⟨22, _⟩ => ⟨S1x2048x128, .f32⟩
  | .local _ .vmem, ⟨23, _⟩ => ⟨S1x2048x128, .f32⟩
  | .local _ .vmem, ⟨24, _⟩ => ⟨S136x4096, .f32⟩
  | .local _ .vmem, ⟨25, _⟩ => ⟨S128x2048, .f32⟩
  | .local _ .vmem, ⟨26, _⟩ => ⟨S128x2048, .f32⟩
  | .local _ .vmem, ⟨27, _⟩ => ⟨S128x1024, .f32⟩
  | .local _ .vmem, ⟨28, _⟩ => ⟨S128x1024, .f32⟩
  | _, _ => ⟨S128x6400, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_call1_v0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_2 : Ref sig .tc := ⟨.hbm, 30, rfl⟩
abbrev main_call2_v0 : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_call3_v0 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25_0 : Ref sig .tc := ⟨.hbm, 43, rfl⟩
abbrev main_v25_1 : Ref sig .tc := ⟨.hbm, 44, rfl⟩
abbrev main_v26 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem13_0 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨2, ![32, 1], ![false, false]⟩

def k0_cond3 (i : grid0.Coords) : BitVec 1 :=
  let arg1 : BitVec 32 := BitVec.ofNat 32 (i 1).val
  let c0_i32_487 : BitVec 32 := 0#32
  let v1306 : BitVec 1 := Scalar.cmpi .eq arg1 c0_i32_487
  let v1307 : BitVec 32 := Scalar.extui v1306
  let c0_i32_488 : BitVec 32 := 0#32
  let v1308 : BitVec 1 := Scalar.cmpi .ne v1307 c0_i32_488
  v1308

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  ![v1.toNat, c1_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c2_i32 : BitVec 32 := 2#32
  let c0_i32 : BitVec 32 := 0#32
  ![v1.toNat, c2_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c48_i32 : BitVec 32 := 48#32
  let c0_i32 : BitVec 32 := 0#32
  ![v1.toNat, c48_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x8x4096 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x2048x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S128x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S128x2048 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S128x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x2048x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== SsdStateRefIdeal.lean ====
abbrev S128x6400 : Shape := ⟨2, ![128, 6400]⟩
abbrev S32x3x4096 : Shape := ⟨3, ![32, 3, 4096]⟩
abbrev S32x32x64x128 : Shape := ⟨4, ![32, 32, 64, 128]⟩
abbrev S4096x4 : Shape := ⟨2, ![4096, 4]⟩
abbrev S4096 : Shape := ⟨1, ![4096]⟩
abbrev S32 : Shape := ⟨1, ![32]⟩
abbrev S2048 : Shape := ⟨1, ![2048]⟩
abbrev S32x4x6400 : Shape := ⟨3, ![32, 4, 6400]⟩
abbrev S32x4x4096 : Shape := ⟨3, ![32, 4, 4096]⟩
abbrev S32x4x32 : Shape := ⟨3, ![32, 4, 32]⟩
abbrev S32x7x4096 : Shape := ⟨3, ![32, 7, 4096]⟩
abbrev S4096x1 : Shape := ⟨2, ![4096, 1]⟩
abbrev S1x1x4096 : Shape := ⟨3, ![1, 1, 4096]⟩
abbrev S_ : Shape := ⟨0, ![]⟩
abbrev S32x4x2048 : Shape := ⟨3, ![32, 4, 2048]⟩
abbrev S32x4x1024 : Shape := ⟨3, ![32, 4, 1024]⟩
abbrev S32x4x8x4x64 : Shape := ⟨5, ![32, 4, 8, 4, 64]⟩
abbrev S32x4x8x128 : Shape := ⟨4, ![32, 4, 8, 128]⟩
abbrev S1x1x32 : Shape := ⟨3, ![1, 1, 32]⟩
abbrev S32x1x32 : Shape := ⟨3, ![32, 1, 32]⟩
abbrev S32x32 : Shape := ⟨2, ![32, 32]⟩
abbrev S32x2x32 : Shape := ⟨3, ![32, 2, 32]⟩
abbrev S32x3x32 : Shape := ⟨3, ![32, 3, 32]⟩
abbrev S32x4x8x4 : Shape := ⟨4, ![32, 4, 8, 4]⟩
abbrev S32x4x8x4x1 : Shape := ⟨5, ![32, 4, 8, 4, 1]⟩
abbrev S32x1x8x4 : Shape := ⟨4, ![32, 1, 8, 4]⟩
abbrev S32x8x4x64x128 : Shape := ⟨5, ![32, 8, 4, 64, 128]⟩
abbrev S32x8x4 : Shape := ⟨3, ![32, 8, 4]⟩
abbrev S32x32x1x1 : Shape := ⟨4, ![32, 32, 1, 1]⟩

abbrev nBuf : Space → Nat
  | .hbm => 120
  | .vmem => 0
  | .smem => 0
  | _ => 0

abbrev bufTy : (tb : Table) → Fin (tcTables nBuf tb) → BufTy
  | .hbm, ⟨0, _⟩ => ⟨S128x6400, .f32⟩
  | .hbm, ⟨1, _⟩ => ⟨S32x3x4096, .f32⟩
  | .hbm, ⟨2, _⟩ => ⟨S32x32x64x128, .f32⟩
  | .hbm, ⟨3, _⟩ => ⟨S4096x4, .f32⟩
  | .hbm, ⟨4, _⟩ => ⟨S4096, .f32⟩
  | .hbm, ⟨5, _⟩ => ⟨S32, .f32⟩
  | .hbm, ⟨6, _⟩ => ⟨S32, .f32⟩
  | .hbm, ⟨7, _⟩ => ⟨S32, .f32⟩
  | .hbm, ⟨8, _⟩ => ⟨S2048, .f32⟩
  | .hbm, ⟨9, _⟩ => ⟨S32x4x6400, .f32⟩
  | .hbm, ⟨10, _⟩ => ⟨S32x4x4096, .f32⟩
  | .hbm, ⟨11, _⟩ => ⟨S32x4x32, .f32⟩
  | .hbm, ⟨12, _⟩ => ⟨S32x7x4096, .f32⟩
  | .hbm, ⟨13, _⟩ => ⟨S32x4x4096, .f32⟩
  | .hbm, ⟨14, _⟩ => ⟨S4096x1, .f32⟩
  | .hbm, ⟨15, _⟩ => ⟨S4096, .f32⟩
  | .hbm, ⟨16, _⟩ => ⟨S1x1x4096, .f32⟩
  | .hbm, ⟨17, _⟩ => ⟨S32x4x4096, .f32⟩
  | .hbm, ⟨18, _⟩ => ⟨S32x4x4096, .f32⟩
  | .hbm, ⟨19, _⟩ => ⟨S_, .f32⟩
  | .hbm, ⟨20, _⟩ => ⟨S32x4x4096, .f32⟩
  | .hbm, ⟨21, _⟩ => ⟨S32x4x4096, .f32⟩
  | .hbm, ⟨22, _⟩ => ⟨S32x4x4096, .f32⟩
  | .hbm, ⟨23, _⟩ => ⟨S4096x1, .f32⟩
  | .hbm, ⟨24, _⟩ => ⟨S4096, .f32⟩
  | .hbm, ⟨25, _⟩ => ⟨S1x1x4096, .f32⟩
  | .hbm, ⟨26, _⟩ => ⟨S32x4x4096, .f32⟩
  | .hbm, ⟨27, _⟩ => ⟨S32x4x4096, .f32⟩
  | .hbm, ⟨28, _⟩ => ⟨S32x4x4096, .f32⟩
  | .hbm, ⟨29, _⟩ => ⟨S32x4x4096, .f32⟩
  | .hbm, ⟨30, _⟩ => ⟨S4096x1, .f32⟩
  | .hbm, ⟨31, _⟩ => ⟨S4096, .f32⟩
  | .hbm, ⟨32, _⟩ => ⟨S1x1x4096, .f32⟩
  | .hbm, ⟨33, _⟩ => ⟨S32x4x4096, .f32⟩
  | .hbm, ⟨34, _⟩ => ⟨S32x4x4096, .f32⟩
  | .hbm, ⟨35, _⟩ => ⟨S32x4x4096, .f32⟩
  | .hbm, ⟨36, _⟩ => ⟨S32x4x4096, .f32⟩
  | .hbm, ⟨37, _⟩ => ⟨S4096x1, .f32⟩
  | .hbm, ⟨38, _⟩ => ⟨S4096, .f32⟩
  | .hbm, ⟨39, _⟩ => ⟨S1x1x4096, .f32⟩
  | .hbm, ⟨40, _⟩ => ⟨S32x4x4096, .f32⟩
  | .hbm, ⟨41, _⟩ => ⟨S32x4x4096, .f32⟩
  | .hbm, ⟨42, _⟩ => ⟨S32x4x4096, .f32⟩
  | .hbm, ⟨43, _⟩ => ⟨S1x1x4096, .f32⟩
  | .hbm, ⟨44, _⟩ => ⟨S32x4x4096, .f32⟩
  | .hbm, ⟨45, _⟩ => ⟨S32x4x4096, .f32⟩
  | .hbm, ⟨46, _⟩ => ⟨S32x4x4096, .f32⟩
  | .hbm, ⟨47, _⟩ => ⟨S32x4x4096, .f32⟩
  | .hbm, ⟨48, _⟩ => ⟨S_, .f32⟩
  | .hbm, ⟨49, _⟩ => ⟨S32x4x4096, .f32⟩
  | .hbm, ⟨50, _⟩ => ⟨S32x4x4096, .f32⟩
  | .hbm, ⟨51, _⟩ => ⟨S_, .f32⟩
  | .hbm, ⟨52, _⟩ => ⟨S32x4x4096, .f32⟩
  | .hbm, ⟨53, _⟩ => ⟨S32x4x4096, .f32⟩
  | .hbm, ⟨54, _⟩ => ⟨S32x4x4096, .f32⟩
  | .hbm, ⟨55, _⟩ => ⟨S32x4x2048, .f32⟩
  | .hbm, ⟨56, _⟩ => ⟨S32x4x1024, .f32⟩
  | .hbm, ⟨57, _⟩ => ⟨S32x4x1024, .f32⟩
  | .hbm, ⟨58, _⟩ => ⟨S32x4x8x4x64, .f32⟩
  | .hbm, ⟨59, _⟩ => ⟨S32x4x8x128, .f32⟩
  | .hbm, ⟨60, _⟩ => ⟨S1x1x32, .f32⟩
  | .hbm, ⟨61, _⟩ => ⟨S32x4x32, .f32⟩
  | .hbm, ⟨62, _⟩ => ⟨S32x4x32, .f32⟩
  | .hbm, ⟨63, _⟩ => ⟨S_, .f32⟩
  | .hbm, ⟨64, _⟩ => ⟨S32x4x32, .f32⟩
  | .hbm, ⟨65, _⟩ => ⟨S32x4x32, .f32⟩
  | .hbm, ⟨66, _⟩ => ⟨S32x4x32, .f32⟩
  | .hbm, ⟨67, _⟩ => ⟨S32x4x32, .f32⟩
  | .hbm, ⟨68, _⟩ => ⟨S32x4x32, .i1⟩
  | .hbm, ⟨69, _⟩ => ⟨S32x4x32, .f32⟩
  | .hbm, ⟨70, _⟩ => ⟨S32x4x32, .f32⟩
  | .hbm, ⟨71, _⟩ => ⟨S32x4x32, .f32⟩
  | .hbm, ⟨72, _⟩ => ⟨S32x4x32, .f32⟩
  | .hbm, ⟨73, _⟩ => ⟨S32x4x32, .f32⟩
  | .hbm, ⟨74, _⟩ => ⟨S32x4x32, .f32⟩
  | .hbm, ⟨75, _⟩ => ⟨S32x4x32, .f32⟩
  | .hbm, ⟨76, _⟩ => ⟨S32x4x32, .f32⟩
  | .hbm, ⟨77, _⟩ => ⟨S32, .f32⟩
  | .hbm, ⟨78, _⟩ => ⟨S32, .f32⟩
  | .hbm, ⟨79, _⟩ => ⟨S1x1x32, .f32⟩
  | .hbm, ⟨80, _⟩ => ⟨S32x4x32, .f32⟩
  | .hbm, ⟨81, _⟩ => ⟨S32x4x32, .f32⟩
  | .hbm, ⟨82, _⟩ => ⟨S32x1x32, .f32⟩
  | .hbm, ⟨83, _⟩ => ⟨S_, .f32⟩
  | .hbm, ⟨84, _⟩ => ⟨S32x32, .f32⟩
  | .hbm, ⟨85, _⟩ => ⟨S32x2x32, .f32⟩
  | .hbm, ⟨86, _⟩ => ⟨S_, .f32⟩
  | .hbm, ⟨87, _⟩ => ⟨S32x32, .f32⟩
  | .hbm, ⟨88, _⟩ => ⟨S32x3x32, .f32⟩
  | .hbm, ⟨89, _⟩ => ⟨S_, .f32⟩
  | .hbm, ⟨90, _⟩ => ⟨S32x32, .f32⟩
  | .hbm, ⟨91, _⟩ => ⟨S_, .f32⟩
  | .hbm, ⟨92, _⟩ => ⟨S32x32, .f32⟩
  | .hbm, ⟨93, _⟩ => ⟨S32x1x32, .f32⟩
  | .hbm, ⟨94, _⟩ => ⟨S32x1x32, .f32⟩
  | .hbm, ⟨95, _⟩ => ⟨S32x1x32, .f32⟩
  | .hbm, ⟨96, _⟩ => ⟨S32x1x32, .f32⟩
  | .hbm, ⟨97, _⟩ => ⟨S32x4x32, .f32⟩
  | .hbm, ⟨98, _⟩ => ⟨S32x4x8x4, .f32⟩
  | .hbm, ⟨99, _⟩ => ⟨S32x4x8x4, .f32⟩
  | .hbm, ⟨100, _⟩ => ⟨S32x4x8x4x1, .f32⟩
  | .hbm, ⟨101, _⟩ => ⟨S32x4x8x4x64, .f32⟩
  | .hbm, ⟨102, _⟩ => ⟨S32x4x8x4x64, .f32⟩
  | .hbm, ⟨103, _⟩ => ⟨S32x1x8x4, .f32⟩
  | .hbm, ⟨104, _⟩ => ⟨S32x4x8x4, .f32⟩
  | .hbm, ⟨105, _⟩ => ⟨S32x4x8x4, .f32⟩
  | .hbm, ⟨106, _⟩ => ⟨S32x4x8x4, .f32⟩
  | .hbm, ⟨107, _⟩ => ⟨S32x4x8x4x1, .f32⟩
  | .hbm, ⟨108, _⟩ => ⟨S32x4x8x4x64, .f32⟩
  | .hbm, ⟨109, _⟩ => ⟨S32x4x8x4x64, .f32⟩
  | .hbm, ⟨110, _⟩ => ⟨S32x8x4x64x128, .f32⟩
  | .hbm, ⟨111, _⟩ => ⟨S32x1x8x4, .f32⟩
  | .hbm, ⟨112, _⟩ => ⟨S32x8x4, .f32⟩
  | .hbm, ⟨113, _⟩ => ⟨S32x8x4, .f32⟩
  | .hbm, ⟨114, _⟩ => ⟨S32x32, .f32⟩
  | .hbm, ⟨115, _⟩ => ⟨S32x32x1x1, .f32⟩
  | .hbm, ⟨116, _⟩ => ⟨S32x32x64x128, .f32⟩
  | .hbm, ⟨117, _⟩ => ⟨S32x32x64x128, .f32⟩
  | .hbm, ⟨118, _⟩ => ⟨S32x32x64x128, .f32⟩
  | .hbm, ⟨119, _⟩ => ⟨S32x32x64x128, .f32⟩
  | _, _ => ⟨S128x6400, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_call1_cst : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_call1_v5 : Ref sig .tc := ⟨.hbm, 69, rfl⟩
abbrev main_call1_v6 : Ref sig .tc := ⟨.hbm, 70, rfl⟩
abbrev main_call1_v7 : Ref sig .tc := ⟨.hbm, 71, rfl⟩
abbrev main_call1_v8 : Ref sig .tc := ⟨.hbm, 72, rfl⟩
abbrev main_call1_v9 : Ref sig .tc := ⟨.hbm, 73, rfl⟩
abbrev main_call1_v10 : Ref sig .tc := ⟨.hbm, 74, rfl⟩
abbrev main_call1_v11 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_0 : Ref sig .tc := ⟨.hbm, 83, rfl⟩
abbrev main_v52 : Ref sig .tc := ⟨.hbm, 84, rfl⟩
abbrev main_v53 : Ref sig .tc := ⟨.hbm, 85, rfl⟩
abbrev main_cst_1 : Ref sig .tc := ⟨.hbm, 86, rfl⟩
abbrev main_v54 : Ref sig .tc := ⟨.hbm, 87, rfl⟩
abbrev main_v55 : Ref sig .tc := ⟨.hbm, 88, rfl⟩
abbrev main_cst_2 : Ref sig .tc := ⟨.hbm, 89, rfl⟩
abbrev main_v56 : Ref sig .tc := ⟨.hbm, 90, rfl⟩
abbrev main_cst_3 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩

abbrev nD : Nat := 1
abbrev τ : Topo := Topo.v7x

variable {F : FTy → Type} [FloatOps F]
-- ==== Proof.CmpOk.lean ====
/- The precondition of the page-table call: every table word names a page of the cache, so every page window lies inside it. -/
module

public import proofs.«01_k».proof.Defs
public import proofs.«01_k».proof.Proof.Gen.CmpProject.Frame
public import proofs.«01_k».proof.Proof.Gen.CmpProjectIdeal.Frame
public import proofs.«01_k».proof.Proof.Gen.Pre_pages_in_range
import Idealize.ShloMosaic.Lib.ReduceAll

@[expose] public section

open Idealize.ShloMosaic Idealize.ShloMosaic.TcCoe Idealize.SL.Sem

namespace Cert.Pages

open Cert.Pre_pages_in_range

/-- The predicate read at one word: the word lies in the range of the pages. -/
theorem words {F : FTy → Type} [FloatOps F] (x : FVec F S5120x128x2x4x64 .f32) (pt : IVec S32x128 32) (w : FVec F S2x2048x128 .f32)
    (h : Cert.Pre_pages_in_range.fn (F := F) x pt w = fun _ => 1#1) (y : S32x128.Idx) : (pt y).toNat < 5120 := by
  have andi_one (a b : BitVec 1) : IntOp.andi a b = 1#1 ↔ a = 1#1 ∧ b = 1#1 := by revert a b; decide
  have : Subsingleton S_.Idx := ⟨fun a b => funext fun k => k.elim0⟩
  have e := (andi_one _ _).1 (Host.reduce_andi_all _ _ _ _ (fun k => k.elim0) (congrFun h fun k => k.elim0) y)
  have lo : (0#32 : BitVec 32).toInt ≤ (pt y).toInt := IntOp.cmpi_sge.1 e.1
  have hi : (pt y).toInt < (5120#32 : BitVec 32).toInt := IntOp.cmpi_slt.1 e.2
  have h0 : (0#32 : BitVec 32).toInt = 0 := by decide
  have h1 : (5120#32 : BitVec 32).toInt = 5120 := by decide
  rw [h0] at lo
  rw [h1] at hi
  have hb := (pt y).isLt
  rw [BitVec.toInt_eq_toNat_cond] at lo hi
  split at lo <;> omega

end Cert.Pages

/-- A page of the cache is a block of 512 rows. -/
theorem Cert.Pages.block_in {v : Nat} (h : v < 5120) : (v + 1) * 512 ≤ 2621440 := by omega

open Cert.Pages

namespace Cert.CmpProject.Ok

open Cert.CmpProject Cert.CmpProject.Gen

/-- With every table word in range each page window lies inside the cache. -/
theorem ok_of_words (pf : pre0.Contents (Elt Bits)) (hw : ∀ y, (pf 0 y : BitVec 32).toNat < 5120) : ok0 (F := Bits) pf :=
  ⟨
    (fun i => ⟨fun a => match a with
        | ⟨0, _⟩ => block_in (hw _)
        | ⟨1, _⟩ => le_refl 128, Or.inl rfl⟩),
    (fun i => ⟨fun a => match a with
        | ⟨0, _⟩ => block_in (hw _)
        | ⟨1, _⟩ => le_refl 128, Or.inl rfl⟩),
    (fun i => ⟨fun a => match a with
        | ⟨0, _⟩ => block_in (hw _)
        | ⟨1, _⟩ => le_refl 128, Or.inl rfl⟩),
    (fun i => ⟨fun a => match a with
        | ⟨0, _⟩ => block_in (hw _)
        | ⟨1, _⟩ => le_refl 128, Or.inl rfl⟩),
    (fun i => ⟨fun a => match a with
        | ⟨0, _⟩ => block_in (hw _)
        | ⟨1, _⟩ => le_refl 128, Or.inl rfl⟩),
    (fun i => ⟨fun a => match a with
        | ⟨0, _⟩ => block_in (hw _)
        | ⟨1, _⟩ => le_refl 128, Or.inl rfl⟩),
    (fun i => ⟨fun a => match a with
        | ⟨0, _⟩ => block_in (hw _)
        | ⟨1, _⟩ => le_refl 128, Or.inl rfl⟩),
    (fun i => ⟨fun a => match a with
        | ⟨0, _⟩ => block_in (hw _)
        | ⟨1, _⟩ => le_refl 128, Or.inl rfl⟩),
    (fun i => ⟨fun a => match a with
        | ⟨0, _⟩ => block_in (hw _)
        | ⟨1, _⟩ => le_refl 128, Or.inl rfl⟩),
    (fun i => ⟨fun a => match a with
        | ⟨0, _⟩ => block_in (hw _)
        | ⟨1, _⟩ => le_refl 128, Or.inl rfl⟩),
    (fun i => ⟨fun a => match a with
        | ⟨0, _⟩ => block_in (hw _)
        | ⟨1, _⟩ => le_refl 128, Or.inl rfl⟩),
    (fun i => ⟨fun a => match a with
        | ⟨0, _⟩ => block_in (hw _)
        | ⟨1, _⟩ => le_refl 128, Or.inl rfl⟩),
    (fun i => ⟨fun a => match a with
        | ⟨0, _⟩ => block_in (hw _)
        | ⟨1, _⟩ => le_refl 128, Or.inl rfl⟩),
    (fun i => ⟨fun a => match a with
        | ⟨0, _⟩ => block_in (hw _)
        | ⟨1, _⟩ => le_refl 128, Or.inl rfl⟩),
    (fun i => ⟨fun a => match a with
        | ⟨0, _⟩ => block_in (hw _)
        | ⟨1, _⟩ => le_refl 128, Or.inl rfl⟩),
    (fun i => ⟨fun a => match a with
        | ⟨0, _⟩ => block_in (hw _)
        | ⟨1, _⟩ => le_refl 128, Or.inl rfl⟩)⟩

/-- The table that the launch reads is the argument. -/
theorem tbl_eq (m : (ℓ : Loc nD τ sig) → Buf (Elt Bits) ℓ) : tbl m 0 = m ((0 : Dev nD), main_arg1) := V_main_arg1 m 0

/-- The precondition bounds the words of the table argument. -/
theorem arg_words (m : (ℓ : Loc nD τ sig) → Buf (Elt Bits) ℓ) (h : Cert.Pre_CmpProject m) (c : Dev nD) (y : S32x128.Idx) :
    (m ((c.tc : Thread nD τ).loc main_arg1) y : BitVec 32).toNat < 5120 :=
  Cert.Pages.words _ _ _ (h c) y

/-- The precondition gives the launch its side condition. -/
theorem ok_of_pre (m : (ℓ : Loc nD τ sig) → Buf (Elt Bits) ℓ) (h : Cert.Pre_CmpProject m) : Ok m :=
  ok_of_words (tbl m) fun y => by rw [tbl_eq m]; exact arg_words m h 0 y

end Cert.CmpProject.Ok

namespace Cert.CmpProjectIdeal.Ok

open Cert.CmpProjectIdeal Cert.CmpProjectIdeal.Gen

/-- With every table word in range each page window lies inside the cache. -/
theorem ok_of_words (pf : pre0.Contents (Elt Ideal)) (hw : ∀ y, (pf 0 y : BitVec 32).toNat < 5120) : ok0 (F := Ideal) pf :=
  ⟨
    (fun i => ⟨fun a => match a with
        | ⟨0, _⟩ => block_in (hw _)
        | ⟨1, _⟩ => le_refl 128, Or.inl rfl⟩),
    (fun i => ⟨fun a => match a with
        | ⟨0, _⟩ => block_in (hw _)
        | ⟨1, _⟩ => le_refl 128, Or.inl rfl⟩),
    (fun i => ⟨fun a => match a with
        | ⟨0, _⟩ => block_in (hw _)
        | ⟨1, _⟩ => le_refl 128, Or.inl rfl⟩),
    (fun i => ⟨fun a => match a with
        | ⟨0, _⟩ => block_in (hw _)
        | ⟨1, _⟩ => le_refl 128, Or.inl rfl⟩),
    (fun i => ⟨fun a => match a with
        | ⟨0, _⟩ => block_in (hw _)
        | ⟨1, _⟩ => le_refl 128, Or.inl rfl⟩),
    (fun i => ⟨fun a => match a with
        | ⟨0, _⟩ => block_in (hw _)
        | ⟨1, _⟩ => le_refl 128, Or.inl rfl⟩),
    (fun i => ⟨fun a => match a with
        | ⟨0, _⟩ => block_in (hw _)
        | ⟨1, _⟩ => le_refl 128, Or.inl rfl⟩),
    (fun i => ⟨fun a => match a with
        | ⟨0, _⟩ => block_in (hw _)
        | ⟨1, _⟩ => le_refl 128, Or.inl rfl⟩),
    (fun i => ⟨fun a => match a with
        | ⟨0, _⟩ => block_in (hw _)
        | ⟨1, _⟩ => le_refl 128, Or.inl rfl⟩),
    (fun i => ⟨fun a => match a with
        | ⟨0, _⟩ => block_in (hw _)
        | ⟨1, _⟩ => le_refl 128, Or.inl rfl⟩),
    (fun i => ⟨fun a => match a with
        | ⟨0, _⟩ => block_in (hw _)
        | ⟨1, _⟩ => le_refl 128, Or.inl rfl⟩),
    (fun i => ⟨fun a => match a with
        | ⟨0, _⟩ => block_in (hw _)
        | ⟨1, _⟩ => le_refl 128, Or.inl rfl⟩),
    (fun i => ⟨fun a => match a with
        | ⟨0, _⟩ => block_in (hw _)
        | ⟨1, _⟩ => le_refl 128, Or.inl rfl⟩),
    (fun i => ⟨fun a => match a with
        | ⟨0, _⟩ => block_in (hw _)
        | ⟨1, _⟩ => le_refl 128, Or.inl rfl⟩),
    (fun i => ⟨fun a => match a with
        | ⟨0, _⟩ => block_in (hw _)
        | ⟨1, _⟩ => le_refl 128, Or.inl rfl⟩),
    (fun i => ⟨fun a => match a with
        | ⟨0, _⟩ => block_in (hw _)
        | ⟨1, _⟩ => le_refl 128, Or.inl rfl⟩)⟩

/-- The table that the launch reads is the argument. -/
theorem tbl_eq (m : (ℓ : Loc nD τ sig) → Buf (Elt Ideal) ℓ) : tbl m 0 = m ((0 : Dev nD), main_arg1) := V_main_arg1 m 0

/-- The precondition bounds the words of the table argument. -/
theorem arg_words (m : (ℓ : Loc nD τ sig) → Buf (Elt Ideal) ℓ) (h : Cert.Pre_CmpProjectIdeal m) (c : Dev nD) (y : S32x128.Idx) :
    (m ((c.tc : Thread nD τ).loc main_arg1) y : BitVec 32).toNat < 5120 :=
  Cert.Pages.words _ _ _ (h c) y

/-- The precondition gives the launch its side condition. -/
theorem ok_of_pre (m : (ℓ : Loc nD τ sig) → Buf (Elt Ideal) ℓ) (h : Cert.Pre_CmpProjectIdeal m) : Ok m :=
  ok_of_words (tbl m) fun y => by rw [tbl_eq m]; exact arg_words m h 0 y

end Cert.CmpProjectIdeal.Ok
-- ==== Proof.CmpRef.lean ====
/- The reference of the gather through the page table, read at an index: a sum over the sixteen tokens of a group and
   the 64 channels of a head. -/
module

public import proofs.«01_k».proof.Proof.Gen.CmpProjectRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.CmpProjectRefIdeal.Read

open Cert.CmpProjectRefIdeal Cert.CmpProjectRefIdeal.Gen

/-- The page table with a negative entry counted from the end, as start indices. -/
def starts (pt : IVec S32x128 32) : IVec S32x128x1 32 :=
  broadcastInDim S32x128x1 ![0, 1] bcast_S32x128_S32x128x1_0_1 (select (cmpi .slt pt (broadcastInDim S32x128 ![] bcast_S_S32x128 (constantI S_ 32 0#32))) (addi pt (broadcastInDim S32x128 ![] bcast_S_S32x128 (constantI S_ 32 5120#32))) pt)

/-- The gathered pages. -/
def pages (x : FVec Ideal S5120x128x2x4x64 .f32) (pt : IVec S32x128 32) : FVec Ideal S32x128x128x2x4x64 .f32 :=
  Host.gather gather_S5120x128x2x4x64_S32x128x1_S32x128x128x2x4x64_2345_0_n_n_0_2_11282464 x (starts pt)

/-- A page number in range is its own start index. -/
theorem starts_at (pt : IVec S32x128 32) (hpt : ∀ y, (pt y).toNat < 5120) (y : S32x128x1.Idx) :
    starts pt y = pt (ix2 ⟨(y 0).val, (y 0).isLt⟩ ⟨(y 1).val, (y 1).isLt⟩) := by
  have h := hpt (ix2 ⟨(y 0).val, (y 0).isLt⟩ ⟨(y 1).val, (y 1).isLt⟩)
  have hs : (pt (ix2 ⟨(y 0).val, (y 0).isLt⟩ ⟨(y 1).val, (y 1).isLt⟩)).slt 0#32 = false := by
    rw [BitVec.slt_eq_decide]
    simp only [BitVec.toInt_zero, decide_eq_false_iff_not, not_lt]
    rw [BitVec.toInt_eq_toNat_of_lt (by omega)]
    omega
  pointwise [starts]
  simp only [IntOp.cmpi]
  rw [show (pt (ix2 (y 0) (y 1))).slt 0#32 = false from hs]
  rfl

/-- The gather read at an index. -/
theorem pages_at (x : FVec Ideal S5120x128x2x4x64 .f32) (pt : IVec S32x128 32) (hpt : ∀ y, (pt y).toNat < 5120)
    (y : S32x128x128x2x4x64.Idx) (z : S5120x128x2x4x64.Idx)
    (h0 : (z 0).val = (pt (ix2 ⟨(y 0).val, (y 0).isLt⟩ ⟨(y 1).val, (y 1).isLt⟩)).toNat) (h1 : (z 1).val = (y 2).val)
    (h2 : (z 2).val = (y 3).val) (h3 : (z 3).val = (y 4).val) (h4 : (z 4).val = (y 5).val) :
    pages x pt y = x z := by
  unfold pages Host.gather
  congr 1
  funext a
  refine Fin.ext ?_
  show gather_S5120x128x2x4x64_S32x128x1_S32x128x128x2x4x64_2345_0_n_n_0_2_11282464.start y (starts pt) a + gather_S5120x128x2x4x64_S32x128x1_S32x128x128x2x4x64_2345_0_n_n_0_2_11282464.batchCoord y a
      + gather_S5120x128x2x4x64_S32x128x1_S32x128x128x2x4x64_2345_0_n_n_0_2_11282464.offCoord y a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    refine Eq.trans (dif_pos (List.mem_singleton.mpr rfl)) ?_
    rw [starts_at pt hpt]
    refine Eq.trans ?_ h0.symm
    have hlt := hpt (ix2 ⟨(y 0).val, (y 0).isLt⟩ ⟨(y 1).val, (y 1).isLt⟩)
    have key : ∀ v : BitVec 32, v.toNat < 5120 → min v.toInt.toNat 5119 = v.toNat := by
      intro v hv
      rw [BitVec.toInt_eq_toNat_of_lt (by omega)]
      omega
    exact key _ hlt
  | ⟨1, _⟩ => exact (Nat.zero_add _).trans h1.symm
  | ⟨2, _⟩ => exact (Nat.zero_add _).trans h2.symm
  | ⟨3, _⟩ => exact (Nat.zero_add _).trans h3.symm
  | ⟨4, _⟩ => exact (Nat.zero_add _).trans h4.symm

/-- The weights of one kind, one half of the tokens: 16 rows of 64, from a printed slice. -/
def wpart (w : FVec Ideal S2x2048x128 .f32) (off : Fin 4 → Nat) (h : S2x32x64x128.Slices off S1x16x64x128) : FVec Ideal S16x64x128 .f32 :=
  shapeCast _ (extractStridedSlice S1x16x64x128 off (shapeCast _ w shapeCasts_S2x2048x128_S2x32x64x128) h) shapeCasts_S1x16x64x128_S16x64x128

/-- The gathered pages of one kind, the tokens in groups of sixteen. -/
def gpart (G : FVec Ideal S32x128x128x2x4x64 .f32) (off : Fin 6 → Nat) (h : S32x1024x16x2x4x64.Slices off S32x1024x16x1x4x64) : FVec Ideal S32x1024x16x4x64 .f32 :=
  shapeCast _ (extractStridedSlice S32x1024x16x1x4x64 off (shapeCast _ (shapeCast _ G shapeCasts_S32x128x128x2x4x64_S32x16384x2x4x64) shapeCasts_S32x16384x2x4x64_S32x1024x16x2x4x64) h) shapeCasts_S32x1024x16x1x4x64_S32x1024x16x4x64

/-- The contraction of a weight part with gathered pages. -/
def dotp (A : FVec Ideal S16x64x128 .f32) (B : FVec Ideal S32x1024x16x4x64 .f32) : FVec Ideal S32x4x1024x128 .f32 :=
  transpose S32x4x1024x128 [1, 3, 2, 0] (Host.dotGeneral dot_S16x64x128_S32x1024x16x4x64_S128x32x1024x4_10_42_2_013_n_n none A B) transposes_S128x32x1024x4_S32x4x1024x128_1_3_2_0

theorem dotp_at (A : FVec Ideal S16x64x128 .f32) (B : FVec Ideal S32x1024x16x4x64 .f32) (b : Fin 32) (g : Fin 4) (s : Fin 1024) (h : Fin 128) :
    dotp A B (ix4 b g s h) = ∑ d : Fin 64, ∑ j : Fin 16, A (ix3 j d h) * B (ix5 b s j g d) := by
  pointwise [dotp]

theorem wpart_at (w : FVec Ideal S2x2048x128 .f32) (off : Fin 4 → Nat) (h : S2x32x64x128.Slices off S1x16x64x128) (i : Fin 2) (o : Fin 2)
    (hoff : off = ![i.val, 16 * o.val, 0, 0]) (j : Fin 16) (d : Fin 64) (c : Fin 128) :
    wpart w off h (ix3 j d c) = w (ix3 i ⟨(16 * o.val + j.val) * 64 + d.val, by omega⟩ c) := by
  subst hoff
  pointwise [wpart]

theorem gpart_at (x : FVec Ideal S5120x128x2x4x64 .f32) (pt : IVec S32x128 32) (hpt : ∀ y, (pt y).toNat < 5120)
    (off : Fin 6 → Nat) (h : S32x1024x16x2x4x64.Slices off S32x1024x16x1x4x64) (i : Fin 2) (hoff : off = ![0, 0, 0, i.val, 0, 0])
    (b : Fin 32) (s : Fin 1024) (j : Fin 16) (g : Fin 4) (d : Fin 64) :
    gpart (pages x pt) off h (ix5 b s j g d)
      = x (ix5 ⟨(pt (ix2 b ⟨s.val / 8, by omega⟩)).toNat, hpt _⟩ ⟨s.val % 8 * 16 + j.val, by omega⟩ i g d) := by
  subst hoff
  pointwise [gpart]
  exact pages_at x pt hpt _ _ rfl rfl rfl rfl rfl

/-- Two stacks of four heads, one after the other, at an index. -/
theorem concat_at (A B : FVec Ideal S32x4x1024x128 .f32) (b : Fin 32) (k : Fin 8) (s : Fin 1024) (h : Fin 128) :
    concatenate S32x8x1024x128 1 [⟨S32x4x1024x128, A⟩, ⟨S32x4x1024x128, B⟩] concatenates_S32x4x1024x128_S32x4x1024x128_S32x8x1024x128_d1 (ix4 b k s h)
      = if hk : k.val < 4 then A (ix4 b ⟨k.val, hk⟩ s h) else B (ix4 b ⟨k.val - 4, by omega⟩ s h) := by
  pointwise

/-- One entry of a result: the tokens of group `s` of sequence `b`, read through the page table, against one half of the
    projection's rows; `k` names the kind (key or value) and the head. -/
def term (x : FVec Ideal S5120x128x2x4x64 .f32) (pt : IVec S32x128 32) (w : FVec Ideal S2x2048x128 .f32) (hpt : ∀ y, (pt y).toNat < 5120)
    (o : Fin 2) (b : Fin 32) (k : Fin 8) (s : Fin 1024) (h : Fin 128) : EReal :=
  ∑ d : Fin 64, ∑ j : Fin 16, w (ix3 ⟨k.val / 4, by omega⟩ ⟨(16 * o.val + j.val) * 64 + d.val, by omega⟩ h)
    * x (ix5 ⟨(pt (ix2 b ⟨s.val / 8, by omega⟩)).toNat, hpt _⟩ ⟨s.val % 8 * 16 + j.val, by omega⟩ ⟨k.val / 4, by omega⟩ ⟨k.val % 4, by omega⟩ d)

theorem term_eq (x : FVec Ideal S5120x128x2x4x64 .f32) (pt : IVec S32x128 32) (w : FVec Ideal S2x2048x128 .f32) (hpt : ∀ y, (pt y).toNat < 5120)
    (o : Fin 2) (b : Fin 32) (k : Fin 8) (s : Fin 1024) (h : Fin 128) (i : Fin 2) (g : Fin 4) (hi : i.val = k.val / 4) (hg : g.val = k.val % 4) :
    (∑ d : Fin 64, ∑ j : Fin 16, w (ix3 i ⟨(16 * o.val + j.val) * 64 + d.val, by omega⟩ h)
      * x (ix5 ⟨(pt (ix2 b ⟨s.val / 8, by omega⟩)).toNat, hpt _⟩ ⟨s.val % 8 * 16 + j.val, by omega⟩ i g d)) = term x pt w hpt o b k s h := by
  have b1 : k.val / 4 < 2 := by clear hi hg; omega
  have b2 : k.val % 4 < 4 := by clear hi hg; omega
  obtain rfl : i = ⟨k.val / 4, b1⟩ := Fin.ext hi
  obtain rfl : g = ⟨k.val % 4, b2⟩ := Fin.ext hg
  rfl

/-- The first result of the reference: the first half of the projection's rows. -/
def refU (x : FVec Ideal S5120x128x2x4x64 .f32) (pt : IVec S32x128 32) (w : FVec Ideal S2x2048x128 .f32) : FVec Ideal S32x8x1024x128 .f32 :=
  concatenate S32x8x1024x128 1 [⟨S32x4x1024x128, dotp (wpart w ![0, 0, 0, 0] slices_S2x32x64x128_S1x16x64x128_0_0_0_0) (gpart (pages x pt) ![0, 0, 0, 0, 0, 0] slices_S32x1024x16x2x4x64_S32x1024x16x1x4x64_0_0_0_0_0_0)⟩, ⟨S32x4x1024x128, dotp (wpart w ![1, 0, 0, 0] slices_S2x32x64x128_S1x16x64x128_1_0_0_0) (gpart (pages x pt) ![0, 0, 0, 1, 0, 0] slices_S32x1024x16x2x4x64_S32x1024x16x1x4x64_0_0_0_1_0_0)⟩] concatenates_S32x4x1024x128_S32x4x1024x128_S32x8x1024x128_d1

/-- The second result of the reference: the second half of the projection's rows. -/
def refS (x : FVec Ideal S5120x128x2x4x64 .f32) (pt : IVec S32x128 32) (w : FVec Ideal S2x2048x128 .f32) : FVec Ideal S32x8x1024x128 .f32 :=
  concatenate S32x8x1024x128 1 [⟨S32x4x1024x128, dotp (wpart w ![0, 16, 0, 0] slices_S2x32x64x128_S1x16x64x128_0_16_0_0) (gpart (pages x pt) ![0, 0, 0, 0, 0, 0] slices_S32x1024x16x2x4x64_S32x1024x16x1x4x64_0_0_0_0_0_0)⟩, ⟨S32x4x1024x128, dotp (wpart w ![1, 16, 0, 0] slices_S2x32x64x128_S1x16x64x128_1_16_0_0) (gpart (pages x pt) ![0, 0, 0, 1, 0, 0] slices_S32x1024x16x2x4x64_S32x1024x16x1x4x64_0_0_0_1_0_0)⟩] concatenates_S32x4x1024x128_S32x4x1024x128_S32x8x1024x128_d1

/-- The first result at an index. -/
theorem refU_at (x : FVec Ideal S5120x128x2x4x64 .f32) (pt : IVec S32x128 32) (w : FVec Ideal S2x2048x128 .f32) (hpt : ∀ y, (pt y).toNat < 5120)
    (b : Fin 32) (k : Fin 8) (s : Fin 1024) (h : Fin 128) :
    refU x pt w (ix4 b k s h) = term x pt w hpt 0 b k s h := by
  rw [refU, concat_at]
  split
  · refine (dotp_at _ _ b _ s h).trans ((Finset.sum_congr rfl fun d _ => Finset.sum_congr rfl fun j _ =>
      congrArg₂ (fun u v : EReal => u * v) (wpart_at w _ _ 0 0 rfl j d h) (gpart_at x pt hpt _ _ 0 rfl b s j _ d)).trans ?_)
    exact term_eq x pt w hpt 0 b k s h 0 _ (by simp only [Fin.val_zero]; omega) (by simp only; omega)
  · refine (dotp_at _ _ b _ s h).trans ((Finset.sum_congr rfl fun d _ => Finset.sum_congr rfl fun j _ =>
      congrArg₂ (fun u v : EReal => u * v) (wpart_at w _ _ 1 0 rfl j d h) (gpart_at x pt hpt _ _ 1 rfl b s j _ d)).trans ?_)
    exact term_eq x pt w hpt 0 b k s h 1 _ (by simp only [Fin.val_one]; omega) (by simp only; omega)

/-- The second result at an index. -/
theorem refS_at (x : FVec Ideal S5120x128x2x4x64 .f32) (pt : IVec S32x128 32) (w : FVec Ideal S2x2048x128 .f32) (hpt : ∀ y, (pt y).toNat < 5120)
    (b : Fin 32) (k : Fin 8) (s : Fin 1024) (h : Fin 128) :
    refS x pt w (ix4 b k s h) = term x pt w hpt 1 b k s h := by
  rw [refS, concat_at]
  split
  · refine (dotp_at _ _ b _ s h).trans ((Finset.sum_congr rfl fun d _ => Finset.sum_congr rfl fun j _ =>
      congrArg₂ (fun u v : EReal => u * v) (wpart_at w _ _ 0 1 rfl j d h) (gpart_at x pt hpt _ _ 0 rfl b s j _ d)).trans ?_)
    exact term_eq x pt w hpt 1 b k s h 0 _ (by simp only [Fin.val_zero]; omega) (by simp only; omega)
  · refine (dotp_at _ _ b _ s h).trans ((Finset.sum_congr rfl fun d _ => Finset.sum_congr rfl fun j _ =>
      congrArg₂ (fun u v : EReal => u * v) (wpart_at w _ _ 1 1 rfl j d h) (gpart_at x pt hpt _ _ 1 rfl b s j _ d)).trans ?_)
    exact term_eq x pt w hpt 1 b k s h 1 _ (by simp only [Fin.val_one]; omega) (by simp only; omega)

end Cert.CmpProjectRefIdeal.Read

end
-- ==== Proof.CmpBody.lean ====
/- The body of the gather through the page table, as pure functions of the blocks it loads: the page transposed into the
   scratch by a product with a permutation, and the projection of the scratch's lanes. -/
module

public import proofs.«01_k».proof.Proof.Gen.CmpProjectIdeal.Skeleton
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.CmpProjectIdeal.Body

open Cert.CmpProjectIdeal Cert.CmpProjectIdeal.Gen

/-- A page times the permutation, transposed, at an index. -/
theorem page_at (M : Vec Ideal S128x128 .bf16) (P : Vec Ideal S512x128 .f32) (a : Fin 128) (l : Fin 512) :
    k0_pay4 (F := Ideal) M P (ix2 a l) = ∑ b : Fin 128, M (ix2 a b) * P (ix2 l b) := by
  pointwise [k0_pay4]

/-- Eight rows of that product are the page's tokens of one place in their group. -/
theorem piece (M : Vec Ideal S128x128 .bf16) (P : Vec Ideal S512x128 .f32)
    (hM : ∀ a b : Fin 128, M (ix2 a b) = if b.val = 16 * (a.val % 8) + a.val / 8 then 1 else 0)
    (off : Fin 2 → Nat) (hs : S128x512.Slices off S8x512) (j : Fin 16) (hoff : off = ![8 * j.val, 0]) (x : S1x8x512.Idx) :
    (shapeCast S1x8x512 (extractStridedSlice S8x512 off (k0_pay4 (F := Ideal) M P) hs) shapeCasts_S8x512_S1x8x512 : FVec Ideal S1x8x512 .f32) x
      = P (ix2 ⟨(x 2).val, (x 2).isLt⟩ ⟨16 * (x 1).val + j.val, by have : (x 1).val < 8 := (x 1).isLt; omega⟩) := by
  subst hoff
  have h1 : (x 1).val < 8 := (x 1).isLt
  refine Eq.trans (b := k0_pay4 (F := Ideal) M P (ix2 ⟨8 * j.val + (x 1).val, by omega⟩ ⟨(x 2).val, (x 2).isLt⟩)) ?_ ?_
  · pointwise
  · rw [page_at]
    rw [Finset.sum_eq_single (⟨16 * (x 1).val + j.val, by omega⟩ : Fin 128)]
    · rw [hM, if_pos (by simp only; omega)]
      exact one_mul _
    · intro b _ hb
      rw [hM, if_neg]
      · exact zero_mul _
      · intro h
        apply hb
        apply Fin.ext
        simp only at h ⊢
        omega
    · intro h
      exact absurd (Finset.mem_univ _) h

/-- The lanes below 64. -/
def low : IVec S128x128 1 := cmpi .slt (iota .tc S128x128 32 [1] iota_S128x128_d1_w32) (broadcast S128x128 64#32)

/-- The product of one group of four tokens with its weights, the lower half of the lanes. -/
def part0 (b0 b1 b2 b3 : Vec Ideal S1x128x128 .f32) (w : Vec Ideal S1x1x256x256 .bf16) : FVec Ideal S128x256 .f32 :=
  k0_pay306 (F := Ideal) low (k0_pay302 b0) b1 b2 b3 w

/-- The product of one group of four tokens with its weights, the upper half of the lanes. -/
def part1 (b0 b1 b2 b3 : Vec Ideal S1x128x128 .f32) (w : Vec Ideal S1x1x256x256 .bf16) : FVec Ideal S128x256 .f32 :=
  k0_pay307 (F := Ideal) low (k0_pay302 b0) b1 b2 b3 w

/-- The choice by the lane. -/
theorem low_at {α : Type} (x : Fin 128) (u v : α) :
    Scalar.select (IntOp.cmpi CmpIPredicate.slt (BitVec.ofNat 32 x.val) 64#32) u v = if x.val < 64 then u else v := by
  have h : ∀ x : Fin 128, IntOp.cmpi CmpIPredicate.slt (BitVec.ofNat 32 x.val) 64#32 = if x.val < 64 then 1#1 else 0#1 := by decide +kernel
  rw [h]
  split <;> rfl

/-- A sum over 256 as two sums over 128. -/
theorem sum256 (g : Fin 256 → EReal) : (∑ i, g i) = (∑ x : Fin 128, g ⟨x.val, by omega⟩) + ∑ x : Fin 128, g ⟨128 + x.val, by omega⟩ :=
  Fin.sum_univ_add (a := 128) (b := 128) g

/-- The product of a group of four tokens of the scratch, the lower half of the lanes. -/
theorem part0_at (S : FVec Ideal S16x128x512 .f32) (j0 : Nat) (hj : j0 + 4 ≤ 16) (q : Fin 4) (b0 b1 b2 b3 : Vec Ideal S1x128x128 .f32) (w : Vec Ideal S1x1x256x256 .bf16)
    (h0 : ∀ (r x : Fin 128), b0 (ix3 0 r x) = S (ix3 ⟨j0, by omega⟩ r ⟨128 * q.val + x.val, by omega⟩))
    (h1 : ∀ (r x : Fin 128), b1 (ix3 0 r x) = S (ix3 ⟨j0 + 1, by omega⟩ r ⟨128 * q.val + x.val, by omega⟩))
    (h2 : ∀ (r x : Fin 128), b2 (ix3 0 r x) = S (ix3 ⟨j0 + 2, by omega⟩ r ⟨128 * q.val + x.val, by omega⟩))
    (h3 : ∀ (r x : Fin 128), b3 (ix3 0 r x) = S (ix3 ⟨j0 + 3, by omega⟩ r ⟨128 * q.val + x.val, by omega⟩))
    (r : Fin 128) (c : Fin 256) :
    part0 b0 b1 b2 b3 w (ix2 r c)
      = ∑ i : Fin 256, S (ix3 ⟨j0 + i.val / 64, by omega⟩ r ⟨128 * q.val + 0 + i.val % 64, by omega⟩) * w (ix4 0 0 i c) := by
  rw [sum256]
  pointwise [part0, k0_pay306, k0_pay302, k0_pay303, k0_pay304, k0_pay305, low]
  simp only [low_at, h0, h1, h2, h3]
  refine congrArg₂ (fun u v : EReal => u + v) (Finset.sum_congr rfl fun x _ => ?_) (Finset.sum_congr rfl fun x _ => ?_)
  all_goals
    refine congrArg₂ (fun u v : EReal => u * v) ?_ rfl
    split
    all_goals
      refine congrArg S ?_
      refine congrArg₂ (fun u v => ix3 u r v) (Fin.ext ?_) (Fin.ext ?_)
      all_goals simp only
      all_goals omega

/-- The product of a group of four tokens of the scratch, the upper half of the lanes. -/
theorem part1_at (S : FVec Ideal S16x128x512 .f32) (j0 : Nat) (hj : j0 + 4 ≤ 16) (q : Fin 4) (b0 b1 b2 b3 : Vec Ideal S1x128x128 .f32) (w : Vec Ideal S1x1x256x256 .bf16)
    (h0 : ∀ (r x : Fin 128), b0 (ix3 0 r x) = S (ix3 ⟨j0, by omega⟩ r ⟨128 * q.val + x.val, by omega⟩))
    (h1 : ∀ (r x : Fin 128), b1 (ix3 0 r x) = S (ix3 ⟨j0 + 1, by omega⟩ r ⟨128 * q.val + x.val, by omega⟩))
    (h2 : ∀ (r x : Fin 128), b2 (ix3 0 r x) = S (ix3 ⟨j0 + 2, by omega⟩ r ⟨128 * q.val + x.val, by omega⟩))
    (h3 : ∀ (r x : Fin 128), b3 (ix3 0 r x) = S (ix3 ⟨j0 + 3, by omega⟩ r ⟨128 * q.val + x.val, by omega⟩))
    (r : Fin 128) (c : Fin 256) :
    part1 b0 b1 b2 b3 w (ix2 r c)
      = ∑ i : Fin 256, S (ix3 ⟨j0 + i.val / 64, by omega⟩ r ⟨128 * q.val + 64 + i.val % 64, by omega⟩) * w (ix4 0 0 i c) := by
  rw [sum256]
  pointwise [part1, k0_pay307, k0_pay302, k0_pay303, k0_pay304, k0_pay305, low]
  simp only [low_at, h0, h1, h2, h3]
  refine congrArg₂ (fun u v : EReal => u + v) (Finset.sum_congr rfl fun x _ => ?_) (Finset.sum_congr rfl fun x _ => ?_)
  all_goals
    refine congrArg₂ (fun u v : EReal => u * v) ?_ rfl
    split
    all_goals
      refine congrArg S ?_
      refine congrArg₂ (fun u v => ix3 u r v) (Fin.ext ?_) (Fin.ext ?_)
      all_goals simp only
      all_goals omega

/-- The sum over a group's tokens and channels, in the order of the four products. -/
theorem reindex (f : Fin 16 → Fin 64 → EReal) :
    (((∑ i : Fin 256, f ⟨i.val / 64, by omega⟩ ⟨i.val % 64, by omega⟩) + ∑ i : Fin 256, f ⟨4 + i.val / 64, by omega⟩ ⟨i.val % 64, by omega⟩)
      + ∑ i : Fin 256, f ⟨8 + i.val / 64, by omega⟩ ⟨i.val % 64, by omega⟩) + ∑ i : Fin 256, f ⟨12 + i.val / 64, by omega⟩ ⟨i.val % 64, by omega⟩
      = ∑ d : Fin 64, ∑ j : Fin 16, f j d := by
  have split : ∀ g : Fin 4 → Fin 64 → EReal, (∑ i : Fin 256, g ⟨i.val / 64, by omega⟩ ⟨i.val % 64, by omega⟩) = ∑ d : Fin 64, ∑ q : Fin 4, g q d := by
    intro g
    rw [Finset.sum_comm]
    rw [← Fintype.sum_prod_type (f := fun p : Fin 4 × Fin 64 => g p.1 p.2)]
    exact Fintype.sum_equiv (finProdFinEquiv (m := 4) (n := 64)).symm _ _ fun i => rfl
  have e0 := split fun q d => f ⟨q.val, by omega⟩ d
  have e1 := split fun q d => f ⟨4 + q.val, by omega⟩ d
  have e2 := split fun q d => f ⟨8 + q.val, by omega⟩ d
  have e3 := split fun q d => f ⟨12 + q.val, by omega⟩ d
  rw [e0, e1, e2, e3, ← Finset.sum_add_distrib, ← Finset.sum_add_distrib, ← Finset.sum_add_distrib]
  refine Finset.sum_congr rfl fun d _ => ?_
  simp only [Fin.sum_univ_succ, Finset.univ_eq_empty, Finset.sum_empty, add_zero, Fin.sum_univ_zero]
  simp only [add_assoc]
  rfl

/-- The columns from `o` of the projection of the lower half of the lanes of tile `q`, all sixteen tokens of a group. -/
def head0 (off : Fin 2 → Nat) (hs : S128x256.Slices off S128x128) (b : Fin 4 → Fin 4 → Vec Ideal S1x128x128 .f32) (w : Fin 4 → Vec Ideal S1x1x256x256 .bf16) : FVec Ideal S1x1x128x128 .f32 :=
  shapeCast S1x1x128x128 (extractStridedSlice S128x128 off (addf (addf (addf (part0 (b 0 0) (b 0 1) (b 0 2) (b 0 3) (w 0))
    (part0 (b 1 0) (b 1 1) (b 1 2) (b 1 3) (w 1))) (part0 (b 2 0) (b 2 1) (b 2 2) (b 2 3) (w 2)))
    (part0 (b 3 0) (b 3 1) (b 3 2) (b 3 3) (w 3))) hs) shapeCasts_S128x128_S1x1x128x128

/-- That projection at an index. -/
theorem head0_at (S : FVec Ideal S16x128x512 .f32) (W : FVec Ideal S2x4x256x256 .bf16) (q : Fin 4) (p : Fin 2) (o : Fin 2)
    (off : Fin 2 → Nat) (hs : S128x256.Slices off S128x128) (hoff : off = ![0, 128 * o.val])
    (b : Fin 4 → Fin 4 → Vec Ideal S1x128x128 .f32) (w : Fin 4 → Vec Ideal S1x1x256x256 .bf16)
    (hb : ∀ (a jj : Fin 4) (r x : Fin 128), b a jj (ix3 0 r x) = S (ix3 ⟨4 * a.val + jj.val, by omega⟩ r ⟨128 * q.val + x.val, by omega⟩))
    (hw : ∀ (a : Fin 4) (i c : Fin 256), w a (ix4 0 0 i c) = W (ix4 p a i c)) (r h : Fin 128) :
    head0 off hs b w (ix4 0 0 r h)
      = ∑ d : Fin 64, ∑ j : Fin 16, S (ix3 j r ⟨128 * q.val + 0 + d.val, by omega⟩)
          * W (ix4 p ⟨j.val / 4, by omega⟩ ⟨j.val % 4 * 64 + d.val, by omega⟩ ⟨128 * o.val + h.val, by omega⟩) := by
  subst hoff
  rw [← reindex fun j d => S (ix3 j r ⟨128 * q.val + 0 + d.val, by omega⟩)
          * W (ix4 p ⟨j.val / 4, by omega⟩ ⟨j.val % 4 * 64 + d.val, by omega⟩ ⟨128 * o.val + h.val, by omega⟩)]
  pointwise [head0]
  rw [part0_at S 0 (by omega) q _ _ _ _ _ (fun r x => hb 0 0 r x) (fun r x => hb 0 1 r x) (fun r x => hb 0 2 r x) (fun r x => hb 0 3 r x)]
  rw [part0_at S 4 (by omega) q _ _ _ _ _ (fun r x => hb 1 0 r x) (fun r x => hb 1 1 r x) (fun r x => hb 1 2 r x) (fun r x => hb 1 3 r x)]
  rw [part0_at S 8 (by omega) q _ _ _ _ _ (fun r x => hb 2 0 r x) (fun r x => hb 2 1 r x) (fun r x => hb 2 2 r x) (fun r x => hb 2 3 r x)]
  rw [part0_at S 12 (by omega) q _ _ _ _ _ (fun r x => hb 3 0 r x) (fun r x => hb 3 1 r x) (fun r x => hb 3 2 r x) (fun r x => hb 3 3 r x)]
  simp only [hw]
  refine congrArg₂ (fun u v : EReal => u + v) (congrArg₂ (fun u v : EReal => u + v) (congrArg₂ (fun u v : EReal => u + v)
    (Finset.sum_congr rfl fun i _ => ?_) (Finset.sum_congr rfl fun i _ => ?_)) (Finset.sum_congr rfl fun i _ => ?_)) (Finset.sum_congr rfl fun i _ => ?_)
  all_goals
    refine congrArg₂ (fun u v : EReal => u * v) (congrArg (fun u => S (ix3 u r _)) (Fin.ext ?_)) (congrArg₂ (fun u v => W (ix4 p u v _)) (Fin.ext ?_) (Fin.ext ?_))
    all_goals simp only [Fin.val_zero, Fin.val_one, Fin.val_two]
    all_goals (try omega)
    all_goals trace_state

/-- The columns from `o` of the projection of the upper half of the lanes of tile `q`, all sixteen tokens of a group. -/
def head1 (off : Fin 2 → Nat) (hs : S128x256.Slices off S128x128) (b : Fin 4 → Fin 4 → Vec Ideal S1x128x128 .f32) (w : Fin 4 → Vec Ideal S1x1x256x256 .bf16) : FVec Ideal S1x1x128x128 .f32 :=
  shapeCast S1x1x128x128 (extractStridedSlice S128x128 off (addf (addf (addf (part1 (b 0 0) (b 0 1) (b 0 2) (b 0 3) (w 0))
    (part1 (b 1 0) (b 1 1) (b 1 2) (b 1 3) (w 1))) (part1 (b 2 0) (b 2 1) (b 2 2) (b 2 3) (w 2)))
    (part1 (b 3 0) (b 3 1) (b 3 2) (b 3 3) (w 3))) hs) shapeCasts_S128x128_S1x1x128x128

/-- That projection at an index. -/
theorem head1_at (S : FVec Ideal S16x128x512 .f32) (W : FVec Ideal S2x4x256x256 .bf16) (q : Fin 4) (p : Fin 2) (o : Fin 2)
    (off : Fin 2 → Nat) (hs : S128x256.Slices off S128x128) (hoff : off = ![0, 128 * o.val])
    (b : Fin 4 → Fin 4 → Vec Ideal S1x128x128 .f32) (w : Fin 4 → Vec Ideal S1x1x256x256 .bf16)
    (hb : ∀ (a jj : Fin 4) (r x : Fin 128), b a jj (ix3 0 r x) = S (ix3 ⟨4 * a.val + jj.val, by omega⟩ r ⟨128 * q.val + x.val, by omega⟩))
    (hw : ∀ (a : Fin 4) (i c : Fin 256), w a (ix4 0 0 i c) = W (ix4 p a i c)) (r h : Fin 128) :
    head1 off hs b w (ix4 0 0 r h)
      = ∑ d : Fin 64, ∑ j : Fin 16, S (ix3 j r ⟨128 * q.val + 64 + d.val, by omega⟩)
          * W (ix4 p ⟨j.val / 4, by omega⟩ ⟨j.val % 4 * 64 + d.val, by omega⟩ ⟨128 * o.val + h.val, by omega⟩) := by
  subst hoff
  rw [← reindex fun j d => S (ix3 j r ⟨128 * q.val + 64 + d.val, by omega⟩)
          * W (ix4 p ⟨j.val / 4, by omega⟩ ⟨j.val % 4 * 64 + d.val, by omega⟩ ⟨128 * o.val + h.val, by omega⟩)]
  pointwise [head1]
  rw [part1_at S 0 (by omega) q _ _ _ _ _ (fun r x => hb 0 0 r x) (fun r x => hb 0 1 r x) (fun r x => hb 0 2 r x) (fun r x => hb 0 3 r x)]
  rw [part1_at S 4 (by omega) q _ _ _ _ _ (fun r x => hb 1 0 r x) (fun r x => hb 1 1 r x) (fun r x => hb 1 2 r x) (fun r x => hb 1 3 r x)]
  rw [part1_at S 8 (by omega) q _ _ _ _ _ (fun r x => hb 2 0 r x) (fun r x => hb 2 1 r x) (fun r x => hb 2 2 r x) (fun r x => hb 2 3 r x)]
  rw [part1_at S 12 (by omega) q _ _ _ _ _ (fun r x => hb 3 0 r x) (fun r x => hb 3 1 r x) (fun r x => hb 3 2 r x) (fun r x => hb 3 3 r x)]
  simp only [hw]
  refine congrArg₂ (fun u v : EReal => u + v) (congrArg₂ (fun u v : EReal => u + v) (congrArg₂ (fun u v : EReal => u + v)
    (Finset.sum_congr rfl fun i _ => ?_) (Finset.sum_congr rfl fun i _ => ?_)) (Finset.sum_congr rfl fun i _ => ?_)) (Finset.sum_congr rfl fun i _ => ?_)
  all_goals
    refine congrArg₂ (fun u v : EReal => u * v) (congrArg (fun u => S (ix3 u r _)) (Fin.ext ?_)) (congrArg₂ (fun u v => W (ix4 p u v _)) (Fin.ext ?_) (Fin.ext ?_))
    all_goals simp only [Fin.val_zero, Fin.val_one, Fin.val_two]
    all_goals (try omega)
    all_goals trace_state

end Cert.CmpProjectIdeal.Body

end
-- ==== Proof.CmpScratch.lean ====
/- What the scratch holds when the projections read it: the pages' tokens, grouped by their place in a group of sixteen. -/
module

public import proofs.«01_k».proof.Proof.Gen.CmpProjectIdeal.Frame
public import proofs.«01_k».proof.Proof.CmpBody
public import Idealize.ShloMosaic.Lib.Pipeline.ValueKit
public import Idealize.ShloMosaic.Lib.Pipeline.ReadBack
public import Idealize.ShloMosaic.Lib.WholeRead
public import Idealize.ShloMosaic.Lib.Pointwise

@[expose] public section

set_option maxRecDepth 16384

noncomputable section

open Idealize.ShloMosaic Idealize.ShloMosaic.TcCoe Idealize.SL.Sem

namespace Cert.CmpProjectIdeal.Body

open Cert.CmpProjectIdeal Cert.CmpProjectIdeal.Gen

/-- The scratch: row `r` of place `j` is token `16 (r % 8) + j` of page `r / 8`. -/
def scr (P : Fin 16 → Vec Ideal S512x128 .f32) : FVec Ideal S16x128x512 .f32 := fun y =>
  P ⟨(y 1).val / 8, by have : (y 1).val < 128 := (y 1).isLt; omega⟩
    (ix2 ⟨(y 2).val, (y 2).isLt⟩ ⟨16 * ((y 1).val % 8) + (y 0).val, by have : (y 0).val < 16 := (y 0).isLt; omega⟩)

/-- A page as the body loads it. -/
abbrev ldP (m : Memref sig .tc .vmem S512x128 .f32) (h : m.IsWhole) (X : Vec Ideal S512x128 .f32) : Vec Ideal S512x128 .f32 :=
  View.readAt (Elt Ideal) m.view (Rect.unit ![0, 0] S512x128.size inb_S512x128_S512x128_0_0).toLoadRect (h.unread X)

/-- The permutation as the body loads it. -/
abbrev ldM (m : Memref sig .tc .vmem S128x128 .bf16) (h : m.IsWhole) (X : Vec Ideal S128x128 .bf16) : Vec Ideal S128x128 .bf16 :=
  View.readAt (Elt Ideal) m.view (Rect.unit ![0, 0] S128x128.size inb_S128x128_S128x128_0_0).toLoadRect (h.unread X)

theorem ldP_eq (m : Memref sig .tc .vmem S512x128 .f32) (h : m.IsWhole) (X : Vec Ideal S512x128 .f32) : ldP m h X = X := by
  funext y
  refine (Memref.IsWhole.readAt_unread h X (Rect.unit ![0, 0] S512x128.size inb_S512x128_S512x128_0_0).toLoadRect y).trans (congrArg X ?_)
  funext a
  refine Fin.ext ?_
  match a with
  | ⟨0, _⟩ => exact (Nat.zero_add _).trans (Nat.one_mul _)
  | ⟨1, _⟩ => exact (Nat.zero_add _).trans (Nat.one_mul _)

theorem ldM_eq (m : Memref sig .tc .vmem S128x128 .bf16) (h : m.IsWhole) (X : Vec Ideal S128x128 .bf16) : ldM m h X = X := by
  funext y
  refine (Memref.IsWhole.readAt_unread h X (Rect.unit ![0, 0] S128x128.size inb_S128x128_S128x128_0_0).toLoadRect y).trans (congrArg X ?_)
  funext a
  refine Fin.ext ?_
  match a with
  | ⟨0, _⟩ => exact (Nat.zero_add _).trans (Nat.one_mul _)
  | ⟨1, _⟩ => exact (Nat.zero_add _).trans (Nat.one_mul _)

/-- One store into the scratch writes what the scratch is to hold there. -/
theorem store_at (P : Fin 16 → Vec Ideal S512x128 .f32) (m : Memref sig .tc .vmem S128x128 .bf16) (h : m.IsWhole) (X : Vec Ideal S128x128 .bf16)
    (hM : ∀ a b : Fin 128, X (ix2 a b) = if b.val = 16 * (a.val % 8) + a.val / 8 then 1 else 0)
    (p j : Fin 16) (mp : Memref sig .tc .vmem S512x128 .f32) (hp : mp.IsWhole) (Xp : Vec Ideal S512x128 .f32) (hP : Xp = P p)
    (off : Fin 2 → Nat) (hs : S128x512.Slices off S8x512) (hoff : off = ![8 * j.val, 0])
    (roff : Fin 3 → Nat) (inb : ∀ a, roff a + S1x8x512.size a ≤ S16x128x512.size a) (hr : roff = ![j.val, 8 * p.val, 0]) (x : S1x8x512.Idx) :
    (shapeCast S1x8x512 (extractStridedSlice S8x512 off (k0_pay4 (F := Ideal) (ldM m h X) (ldP mp hp Xp)) hs) shapeCasts_S8x512_S1x8x512 : FVec Ideal S1x8x512 .f32) x
      = scr P ((Rect.unit (s := S16x128x512) roff S1x8x512.size inb).emb x) := by
  rw [ldM_eq, ldP_eq, hP]
  refine (piece X (P p) hM off hs j hoff x).trans ?_
  subst hr
  have h0 : (x 0).val < 1 := (x 0).isLt
  have h1 : (x 1).val < 8 := (x 1).isLt
  have e0 : ((Rect.unit (s := S16x128x512) ![j.val, 8 * p.val, 0] S1x8x512.size inb).emb x 0).val = j.val + 1 * (x 0).val := rfl
  have e1 : ((Rect.unit (s := S16x128x512) ![j.val, 8 * p.val, 0] S1x8x512.size inb).emb x 1).val = 8 * p.val + 1 * (x 1).val := rfl
  have e2 : ((Rect.unit (s := S16x128x512) ![j.val, 8 * p.val, 0] S1x8x512.size inb).emb x 2).val = 0 + 1 * (x 2).val := rfl
  unfold scr
  simp only [e0, e1, e2]
  refine congrArg₂ (fun (u : Fin 16) (v : S512x128.Idx) => P u v) (Fin.ext ?_) (congrArg₂ ix2 (Fin.ext ?_) (Fin.ext ?_))
  all_goals simp only
  all_goals omega

/-- Every store of the body into the scratch writes what the scratch is to hold. -/
theorem stores (c : Dev nD) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S128x128 .bf16) (harg19 : arg19.IsWhole)
    (x0 x1 x2 x3 x4 x5 x6 x7 x8 x9 x10 x11 x12 x13 x14 x15 : Vec Ideal S512x128 .f32) (x16 : Vec Ideal S128x128 .bf16)
    (hM : ∀ a b : Fin 128, x16 (ix2 a b) = if b.val = 16 * (a.val % 8) + a.val / 8 then 1 else 0) :
    View.PiecesOf (scr ![x0, x1, x2, x3, x4, x5, x6, x7, x8, x9, x10, x11, x12, x13, x14, x15]) (kernelRun0_A.sl.HS0_256 (F := Ideal) c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16) := by
  unfold kernelRun0_A.sl.HS0_256
  exact ⟨fun x => store_at _ arg19 harg19 x16 hM 15 15 arg18 harg18 x15 rfl ![120, 0] slices_S128x512_o120_0_S8x512 rfl ![15, 120, 0] inb_S16x128x512_S1x8x512_15_120_0 rfl x,
    fun x => store_at _ arg19 harg19 x16 hM 15 14 arg18 harg18 x15 rfl ![112, 0] slices_S128x512_o112_0_S8x512 rfl ![14, 120, 0] inb_S16x128x512_S1x8x512_14_120_0 rfl x,
    fun x => store_at _ arg19 harg19 x16 hM 15 13 arg18 harg18 x15 rfl ![104, 0] slices_S128x512_o104_0_S8x512 rfl ![13, 120, 0] inb_S16x128x512_S1x8x512_13_120_0 rfl x,
    fun x => store_at _ arg19 harg19 x16 hM 15 12 arg18 harg18 x15 rfl ![96, 0] slices_S128x512_o96_0_S8x512 rfl ![12, 120, 0] inb_S16x128x512_S1x8x512_12_120_0 rfl x,
    fun x => store_at _ arg19 harg19 x16 hM 15 11 arg18 harg18 x15 rfl ![88, 0] slices_S128x512_o88_0_S8x512 rfl ![11, 120, 0] inb_S16x128x512_S1x8x512_11_120_0 rfl x,
    fun x => store_at _ arg19 harg19 x16 hM 15 10 arg18 harg18 x15 rfl ![80, 0] slices_S128x512_o80_0_S8x512 rfl ![10, 120, 0] inb_S16x128x512_S1x8x512_10_120_0 rfl x,
    fun x => store_at _ arg19 harg19 x16 hM 15 9 arg18 harg18 x15 rfl ![72, 0] slices_S128x512_o72_0_S8x512 rfl ![9, 120, 0] inb_S16x128x512_S1x8x512_9_120_0 rfl x,
    fun x => store_at _ arg19 harg19 x16 hM 15 8 arg18 harg18 x15 rfl ![64, 0] slices_S128x512_o64_0_S8x512 rfl ![8, 120, 0] inb_S16x128x512_S1x8x512_8_120_0 rfl x,
    fun x => store_at _ arg19 harg19 x16 hM 15 7 arg18 harg18 x15 rfl ![56, 0] slices_S128x512_o56_0_S8x512 rfl ![7, 120, 0] inb_S16x128x512_S1x8x512_7_120_0 rfl x,
    fun x => store_at _ arg19 harg19 x16 hM 15 6 arg18 harg18 x15 rfl ![48, 0] slices_S128x512_o48_0_S8x512 rfl ![6, 120, 0] inb_S16x128x512_S1x8x512_6_120_0 rfl x,
    fun x => store_at _ arg19 harg19 x16 hM 15 5 arg18 harg18 x15 rfl ![40, 0] slices_S128x512_o40_0_S8x512 rfl ![5, 120, 0] inb_S16x128x512_S1x8x512_5_120_0 rfl x,
    fun x => store_at _ arg19 harg19 x16 hM 15 4 arg18 harg18 x15 rfl ![32, 0] slices_S128x512_o32_0_S8x512 rfl ![4, 120, 0] inb_S16x128x512_S1x8x512_4_120_0 rfl x,
    fun x => store_at _ arg19 harg19 x16 hM 15 3 arg18 harg18 x15 rfl ![24, 0] slices_S128x512_o24_0_S8x512 rfl ![3, 120, 0] inb_S16x128x512_S1x8x512_3_120_0 rfl x,
    fun x => store_at _ arg19 harg19 x16 hM 15 2 arg18 harg18 x15 rfl ![16, 0] slices_S128x512_o16_0_S8x512 rfl ![2, 120, 0] inb_S16x128x512_S1x8x512_2_120_0 rfl x,
    fun x => store_at _ arg19 harg19 x16 hM 15 1 arg18 harg18 x15 rfl ![8, 0] slices_S128x512_o8_0_S8x512 rfl ![1, 120, 0] inb_S16x128x512_S1x8x512_1_120_0 rfl x,
    fun x => store_at _ arg19 harg19 x16 hM 15 0 arg18 harg18 x15 rfl ![0, 0] slices_S128x512_o0_0_S8x512 rfl ![0, 120, 0] inb_S16x128x512_S1x8x512_0_120_0 rfl x,
    fun x => store_at _ arg19 harg19 x16 hM 14 15 arg17 harg17 x14 rfl ![120, 0] slices_S128x512_o120_0_S8x512 rfl ![15, 112, 0] inb_S16x128x512_S1x8x512_15_112_0 rfl x,
    fun x => store_at _ arg19 harg19 x16 hM 14 14 arg17 harg17 x14 rfl ![112, 0] slices_S128x512_o112_0_S8x512 rfl ![14, 112, 0] inb_S16x128x512_S1x8x512_14_112_0 rfl x,
    fun x => store_at _ arg19 harg19 x16 hM 14 13 arg17 harg17 x14 rfl ![104, 0] slices_S128x512_o104_0_S8x512 rfl ![13, 112, 0] inb_S16x128x512_S1x8x512_13_112_0 rfl x,
    fun x => store_at _ arg19 harg19 x16 hM 14 12 arg17 harg17 x14 rfl ![96, 0] slices_S128x512_o96_0_S8x512 rfl ![12, 112, 0] inb_S16x128x512_S1x8x512_12_112_0 rfl x,
    fun x => store_at _ arg19 harg19 x16 hM 14 11 arg17 harg17 x14 rfl ![88, 0] slices_S128x512_o88_0_S8x512 rfl ![11, 112, 0] inb_S16x128x512_S1x8x512_11_112_0 rfl x,
    fun x => store_at _ arg19 harg19 x16 hM 14 10 arg17 harg17 x14 rfl ![80, 0] slices_S128x512_o80_0_S8x512 rfl ![10, 112, 0] inb_S16x128x512_S1x8x512_10_112_0 rfl x,
    fun x => store_at _ arg19 harg19 x16 hM 14 9 arg17 harg17 x14 rfl ![72, 0] slices_S128x512_o72_0_S8x512 rfl ![9, 112, 0] inb_S16x128x512_S1x8x512_9_112_0 rfl x,
    fun x => store_at _ arg19 harg19 x16 hM 14 8 arg17 harg17 x14 rfl ![64, 0] slices_S128x512_o64_0_S8x512 rfl ![8, 112, 0] inb_S16x128x512_S1x8x512_8_112_0 rfl x,
    fun x => store_at _ arg19 harg19 x16 hM 14 7 arg17 harg17 x14 rfl ![56, 0] slices_S128x512_o56_0_S8x512 rfl ![7, 112, 0] inb_S16x128x512_S1x8x512_7_112_0 rfl x,
    fun x => store_at _ arg19 harg19 x16 hM 14 6 arg17 harg17 x14 rfl ![48, 0] slices_S128x512_o48_0_S8x512 rfl ![6, 112, 0] inb_S16x128x512_S1x8x512_6_112_0 rfl x,
    fun x => store_at _ arg19 harg19 x16 hM 14 5 arg17 harg17 x14 rfl ![40, 0] slices_S128x512_o40_0_S8x512 rfl ![5, 112, 0] inb_S16x128x512_S1x8x512_5_112_0 rfl x,
    fun x => store_at _ arg19 harg19 x16 hM 14 4 arg17 harg17 x14 rfl ![32, 0] slices_S128x512_o32_0_S8x512 rfl ![4, 112, 0] inb_S16x128x512_S1x8x512_4_112_0 rfl x,
    fun x => store_at _ arg19 harg19 x16 hM 14 3 arg17 harg17 x14 rfl ![24, 0] slices_S128x512_o24_0_S8x512 rfl ![3, 112, 0] inb_S16x128x512_S1x8x512_3_112_0 rfl x,
    fun x => store_at _ arg19 harg19 x16 hM 14 2 arg17 harg17 x14 rfl ![16, 0] slices_S128x512_o16_0_S8x512 rfl ![2, 112, 0] inb_S16x128x512_S1x8x512_2_112_0 rfl x,
    fun x => store_at _ arg19 harg19 x16 hM 14 1 arg17 harg17 x14 rfl ![8, 0] slices_S128x512_o8_0_S8x512 rfl ![1, 112, 0] inb_S16x128x512_S1x8x512_1_112_0 rfl x,
    fun x => store_at _ arg19 harg19 x16 hM 14 0 arg17 harg17 x14 rfl ![0, 0] slices_S128x512_o0_0_S8x512 rfl ![0, 112, 0] inb_S16x128x512_S1x8x512_0_112_0 rfl x,
    fun x => store_at _ arg19 harg19 x16 hM 13 15 arg16 harg16 x13 rfl ![120, 0] slices_S128x512_o120_0_S8x512 rfl ![15, 104, 0] inb_S16x128x512_S1x8x512_15_104_0 rfl x,
    fun x => store_at _ arg19 harg19 x16 hM 13 14 arg16 harg16 x13 rfl ![112, 0] slices_S128x512_o112_0_S8x512 rfl ![14, 104, 0] inb_S16x128x512_S1x8x512_14_104_0 rfl x,
    fun x => store_at _ arg19 harg19 x16 hM 13 13 arg16 harg16 x13 rfl ![104, 0] slices_S128x512_o104_0_S8x512 rfl ![13, 104, 0] inb_S16x128x512_S1x8x512_13_104_0 rfl x,
    fun x => store_at _ arg19 harg19 x16 hM 13 12 arg16 harg16 x13 rfl ![96, 0] slices_S128x512_o96_0_S8x512 rfl ![12, 104, 0] inb_S16x128x512_S1x8x512_12_104_0 rfl x,
    fun x => store_at _ arg19 harg19 x16 hM 13 11 arg16 harg16 x13 rfl ![88, 0] slices_S128x512_o88_0_S8x512 rfl ![11, 104, 0] inb_S16x128x512_S1x8x512_11_104_0 rfl x,
    fun x => store_at _ arg19 harg19 x16 hM 13 10 arg16 harg16 x13 rfl ![80, 0] slices_S128x512_o80_0_S8x512 rfl ![10, 104, 0] inb_S16x128x512_S1x8x512_10_104_0 rfl x,
    fun x => store_at _ arg19 harg19 x16 hM 13 9 arg16 harg16 x13 rfl ![72, 0] slices_S128x512_o72_0_S8x512 rfl ![9, 104, 0] inb_S16x128x512_S1x8x512_9_104_0 rfl x,
    fun x => store_at _ arg19 harg19 x16 hM 13 8 arg16 harg16 x13 rfl ![64, 0] slices_S128x512_o64_0_S8x512 rfl ![8, 104, 0] inb_S16x128x512_S1x8x512_8_104_0 rfl x,
    fun x => store_at _ arg19 harg19 x16 hM 13 7 arg16 harg16 x13 rfl ![56, 0] slices_S128x512_o56_0_S8x512 rfl ![7, 104, 0] inb_S16x128x512_S1x8x512_7_104_0 rfl x,
    fun x => store_at _ arg19 harg19 x16 hM 13 6 arg16 harg16 x13 rfl ![48, 0] slices_S128x512_o48_0_S8x512 rfl ![6, 104, 0] inb_S16x128x512_S1x8x512_6_104_0 rfl x,
    fun x => store_at _ arg19 harg19 x16 hM 13 5 arg16 harg16 x13 rfl ![40, 0] slices_S128x512_o40_0_S8x512 rfl ![5, 104, 0] inb_S16x128x512_S1x8x512_5_104_0 rfl x,
    fun x => store_at _ arg19 harg19 x16 hM 13 4 arg16 harg16 x13 rfl ![32, 0] slices_S128x512_o32_0_S8x512 rfl ![4, 104, 0] inb_S16x128x512_S1x8x512_4_104_0 rfl x,
    fun x => store_at _ arg19 harg19 x16 hM 13 3 arg16 harg16 x13 rfl ![24, 0] slices_S128x512_o24_0_S8x512 rfl ![3, 104, 0] inb_S16x128x512_S1x8x512_3_104_0 rfl x,
    fun x => store_at _ arg19 harg19 x16 hM 13 2 arg16 harg16 x13 rfl ![16, 0] slices_S128x512_o16_0_S8x512 rfl ![2, 104, 0] inb_S16x128x512_S1x8x512_2_104_0 rfl x,
    fun x => store_at _ arg19 harg19 x16 hM 13 1 arg16 harg16 x13 rfl ![8, 0] slices_S128x512_o8_0_S8x512 rfl ![1, 104, 0] inb_S16x128x512_S1x8x512_1_104_0 rfl x,
    fun x => store_at _ arg19 harg19 x16 hM 13 0 arg16 harg16 x13 rfl ![0, 0] slices_S128x512_o0_0_S8x512 rfl ![0, 104, 0] inb_S16x128x512_S1x8x512_0_104_0 rfl x,
    fun x => store_at _ arg19 harg19 x16 hM 12 15 arg15 harg15 x12 rfl ![120, 0] slices_S128x512_o120_0_S8x512 rfl ![15, 96, 0] inb_S16x128x512_S1x8x512_15_96_0 rfl x,
    fun x => store_at _ arg19 harg19 x16 hM 12 14 arg15 harg15 x12 rfl ![112, 0] slices_S128x512_o112_0_S8x512 rfl ![14, 96, 0] inb_S16x128x512_S1x8x512_14_96_0 rfl x,
    fun x => store_at _ arg19 harg19 x16 hM 12 13 arg15 harg15 x12 rfl ![104, 0] slices_S128x512_o104_0_S8x512 rfl ![13, 96, 0] inb_S16x128x512_S1x8x512_13_96_0 rfl x,
    fun x => store_at _ arg19 harg19 x16 hM 12 12 arg15 harg15 x12 rfl ![96, 0] slices_S128x512_o96_0_S8x512 rfl ![12, 96, 0] inb_S16x128x512_S1x8x512_12_96_0 rfl x,
    fun x => store_at _ arg19 harg19 x16 hM 12 11 arg15 harg15 x12 rfl ![88, 0] slices_S128x512_o88_0_S8x512 rfl ![11, 96, 0] inb_S16x128x512_S1x8x512_11_96_0 rfl x,
    fun x => store_at _ arg19 harg19 x16 hM 12 10 arg15 harg15 x12 rfl ![80, 0] slices_S128x512_o80_0_S8x512 rfl ![10, 96, 0] inb_S16x128x512_S1x8x512_10_96_0 rfl x,
    fun x => store_at _ arg19 harg19 x16 hM 12 9 arg15 harg15 x12 rfl ![72, 0] slices_S128x512_o72_0_S8x512 rfl ![9, 96, 0] inb_S16x128x512_S1x8x512_9_96_0 rfl x,
    fun x => store_at _ arg19 harg19 x16 hM 12 8 arg15 harg15 x12 rfl ![64, 0] slices_S128x512_o64_0_S8x512 rfl ![8, 96, 0] inb_S16x128x512_S1x8x512_8_96_0 rfl x,
    fun x => store_at _ arg19 harg19 x16 hM 12 7 arg15 harg15 x12 rfl ![56, 0] slices_S128x512_o56_0_S8x512 rfl ![7, 96, 0] inb_S16x128x512_S1x8x512_7_96_0 rfl x,
    fun x => store_at _ arg19 harg19 x16 hM 12 6 arg15 harg15 x12 rfl ![48, 0] slices_S128x512_o48_0_S8x512 rfl ![6, 96, 0] inb_S16x128x512_S1x8x512_6_96_0 rfl x,
    fun x => store_at _ arg19 harg19 x16 hM 12 5 arg15 harg15 x12 rfl ![40, 0] slices_S128x512_o40_0_S8x512 rfl ![5, 96, 0] inb_S16x128x512_S1x8x512_5_96_0 rfl x,
    fun x => store_at _ arg19 harg19 x16 hM 12 4 arg15 harg15 x12 rfl ![32, 0] slices_S128x512_o32_0_S8x512 rfl ![4, 96, 0] inb_S16x128x512_S1x8x512_4_96_0 rfl x,
    fun x => store_at _ arg19 harg19 x16 hM 12 3 arg15 harg15 x12 rfl ![24, 0] slices_S128x512_o24_0_S8x512 rfl ![3, 96, 0] inb_S16x128x512_S1x8x512_3_96_0 rfl x,
    fun x => store_at _ arg19 harg19 x16 hM 12 2 arg15 harg15 x12 rfl ![16, 0] slices_S128x512_o16_0_S8x512 rfl ![2, 96, 0] inb_S16x128x512_S1x8x512_2_96_0 rfl x,
    fun x => store_at _ arg19 harg19 x16 hM 12 1 arg15 harg15 x12 rfl ![8, 0] slices_S128x512_o8_0_S8x512 rfl ![1, 96, 0] inb_S16x128x512_S1x8x512_1_96_0 rfl x,
    fun x => store_at _ arg19 harg19 x16 hM 12 0 arg15 harg15 x12 rfl ![0, 0] slices_S128x512_o0_0_S8x512 rfl ![0, 96, 0] inb_S16x128x512_S1x8x512_0_96_0 rfl x,
    fun x => store_at _ arg19 harg19 x16 hM 11 15 arg14 harg14 x11 rfl ![120, 0] slices_S128x512_o120_0_S8x512 rfl ![15, 88, 0] inb_S16x128x512_S1x8x512_15_88_0 rfl x,
    fun x => store_at _ arg19 harg19 x16 hM 11 14 arg14 harg14 x11 rfl ![112, 0] slices_S128x512_o112_0_S8x512 rfl ![14, 88, 0] inb_S16x128x512_S1x8x512_14_88_0 rfl x,
    fun x => store_at _ arg19 harg19 x16 hM 11 13 arg14 harg14 x11 rfl ![104, 0] slices_S128x512_o104_0_S8x512 rfl ![13, 88, 0] inb_S16x128x512_S1x8x512_13_88_0 rfl x,
    fun x => store_at _ arg19 harg19 x16 hM 11 12 arg14 harg14 x11 rfl ![96, 0] slices_S128x512_o96_0_S8x512 rfl ![12, 88, 0] inb_S16x128x512_S1x8x512_12_88_0 rfl x,
    fun x => store_at _ arg19 harg19 x16 hM 11 11 arg14 harg14 x11 rfl ![88, 0] slices_S128x512_o88_0_S8x512 rfl ![11, 88, 0] inb_S16x128x512_S1x8x512_11_88_0 rfl x,
    fun x => store_at _ arg19 harg19 x16 hM 11 10 arg14 harg14 x11 rfl ![80, 0] slices_S128x512_o80_0_S8x512 rfl ![10, 88, 0] inb_S16x128x512_S1x8x512_10_88_0 rfl x,
    fun x => store_at _ arg19 harg19 x16 hM 11 9 arg14 harg14 x11 rfl ![72, 0] slices_S128x512_o72_0_S8x512 rfl ![9, 88, 0] inb_S16x128x512_S1x8x512_9_88_0 rfl x,
    fun x => store_at _ arg19 harg19 x16 hM 11 8 arg14 harg14 x11 rfl ![64, 0] slices_S128x512_o64_0_S8x512 rfl ![8, 88, 0] inb_S16x128x512_S1x8x512_8_88_0 rfl x,
    fun x => store_at _ arg19 harg19 x16 hM 11 7 arg14 harg14 x11 rfl ![56, 0] slices_S128x512_o56_0_S8x512 rfl ![7, 88, 0] inb_S16x128x512_S1x8x512_7_88_0 rfl x,
    fun x => store_at _ arg19 harg19 x16 hM 11 6 arg14 harg14 x11 rfl ![48, 0] slices_S128x512_o48_0_S8x512 rfl ![6, 88, 0] inb_S16x128x512_S1x8x512_6_88_0 rfl x,
    fun x => store_at _ arg19 harg19 x16 hM 11 5 arg14 harg14 x11 rfl ![40, 0] slices_S128x512_o40_0_S8x512 rfl ![5, 88, 0] inb_S16x128x512_S1x8x512_5_88_0 rfl x,
    fun x => store_at _ arg19 harg19 x16 hM 11 4 arg14 harg14 x11 rfl ![32, 0] slices_S128x512_o32_0_S8x512 rfl ![4, 88, 0] inb_S16x128x512_S1x8x512_4_88_0 rfl x,
    fun x => store_at _ arg19 harg19 x16 hM 11 3 arg14 harg14 x11 rfl ![24, 0] slices_S128x512_o24_0_S8x512 rfl ![3, 88, 0] inb_S16x128x512_S1x8x512_3_88_0 rfl x,
    fun x => store_at _ arg19 harg19 x16 hM 11 2 arg14 harg14 x11 rfl ![16, 0] slices_S128x512_o16_0_S8x512 rfl ![2, 88, 0] inb_S16x128x512_S1x8x512_2_88_0 rfl x,
    fun x => store_at _ arg19 harg19 x16 hM 11 1 arg14 harg14 x11 rfl ![8, 0] slices_S128x512_o8_0_S8x512 rfl ![1, 88, 0] inb_S16x128x512_S1x8x512_1_88_0 rfl x,
    fun x => store_at _ arg19 harg19 x16 hM 11 0 arg14 harg14 x11 rfl ![0, 0] slices_S128x512_o0_0_S8x512 rfl ![0, 88, 0] inb_S16x128x512_S1x8x512_0_88_0 rfl x,
    fun x => store_at _ arg19 harg19 x16 hM 10 15 arg13 harg13 x10 rfl ![120, 0] slices_S128x512_o120_0_S8x512 rfl ![15, 80, 0] inb_S16x128x512_S1x8x512_15_80_0 rfl x,
    fun x => store_at _ arg19 harg19 x16 hM 10 14 arg13 harg13 x10 rfl ![112, 0] slices_S128x512_o112_0_S8x512 rfl ![14, 80, 0] inb_S16x128x512_S1x8x512_14_80_0 rfl x,
    fun x => store_at _ arg19 harg19 x16 hM 10 13 arg13 harg13 x10 rfl ![104, 0] slices_S128x512_o104_0_S8x512 rfl ![13, 80, 0] inb_S16x128x512_S1x8x512_13_80_0 rfl x,
    fun x => store_at _ arg19 harg19 x16 hM 10 12 arg13 harg13 x10 rfl ![96, 0] slices_S128x512_o96_0_S8x512 rfl ![12, 80, 0] inb_S16x128x512_S1x8x512_12_80_0 rfl x,
    fun x => store_at _ arg19 harg19 x16 hM 10 11 arg13 harg13 x10 rfl ![88, 0] slices_S128x512_o88_0_S8x512 rfl ![11, 80, 0] inb_S16x128x512_S1x8x512_11_80_0 rfl x,
    fun x => store_at _ arg19 harg19 x16 hM 10 10 arg13 harg13 x10 rfl ![80, 0] slices_S128x512_o80_0_S8x512 rfl ![10, 80, 0] inb_S16x128x512_S1x8x512_10_80_0 rfl x,
    fun x => store_at _ arg19 harg19 x16 hM 10 9 arg13 harg13 x10 rfl ![72, 0] slices_S128x512_o72_0_S8x512 rfl ![9, 80, 0] inb_S16x128x512_S1x8x512_9_80_0 rfl x,
    fun x => store_at _ arg19 harg19 x16 hM 10 8 arg13 harg13 x10 rfl ![64, 0] slices_S128x512_o64_0_S8x512 rfl ![8, 80, 0] inb_S16x128x512_S1x8x512_8_80_0 rfl x,
    fun x => store_at _ arg19 harg19 x16 hM 10 7 arg13 harg13 x10 rfl ![56, 0] slices_S128x512_o56_0_S8x512 rfl ![7, 80, 0] inb_S16x128x512_S1x8x512_7_80_0 rfl x,
    fun x => store_at _ arg19 harg19 x16 hM 10 6 arg13 harg13 x10 rfl ![48, 0] slices_S128x512_o48_0_S8x512 rfl ![6, 80, 0] inb_S16x128x512_S1x8x512_6_80_0 rfl x,
    fun x => store_at _ arg19 harg19 x16 hM 10 5 arg13 harg13 x10 rfl ![40, 0] slices_S128x512_o40_0_S8x512 rfl ![5, 80, 0] inb_S16x128x512_S1x8x512_5_80_0 rfl x,
    fun x => store_at _ arg19 harg19 x16 hM 10 4 arg13 harg13 x10 rfl ![32, 0] slices_S128x512_o32_0_S8x512 rfl ![4, 80, 0] inb_S16x128x512_S1x8x512_4_80_0 rfl x,
    fun x => store_at _ arg19 harg19 x16 hM 10 3 arg13 harg13 x10 rfl ![24, 0] slices_S128x512_o24_0_S8x512 rfl ![3, 80, 0] inb_S16x128x512_S1x8x512_3_80_0 rfl x,
    fun x => store_at _ arg19 harg19 x16 hM 10 2 arg13 harg13 x10 rfl ![16, 0] slices_S128x512_o16_0_S8x512 rfl ![2, 80, 0] inb_S16x128x512_S1x8x512_2_80_0 rfl x,
    fun x => store_at _ arg19 harg19 x16 hM 10 1 arg13 harg13 x10 rfl ![8, 0] slices_S128x512_o8_0_S8x512 rfl ![1, 80, 0] inb_S16x128x512_S1x8x512_1_80_0 rfl x,
    fun x => store_at _ arg19 harg19 x16 hM 10 0 arg13 harg13 x10 rfl ![0, 0] slices_S128x512_o0_0_S8x512 rfl ![0, 80, 0] inb_S16x128x512_S1x8x512_0_80_0 rfl x,
    fun x => store_at _ arg19 harg19 x16 hM 9 15 arg12 harg12 x9 rfl ![120, 0] slices_S128x512_o120_0_S8x512 rfl ![15, 72, 0] inb_S16x128x512_S1x8x512_15_72_0 rfl x,
    fun x => store_at _ arg19 harg19 x16 hM 9 14 arg12 harg12 x9 rfl ![112, 0] slices_S128x512_o112_0_S8x512 rfl ![14, 72, 0] inb_S16x128x512_S1x8x512_14_72_0 rfl x,
    fun x => store_at _ arg19 harg19 x16 hM 9 13 arg12 harg12 x9 rfl ![104, 0] slices_S128x512_o104_0_S8x512 rfl ![13, 72, 0] inb_S16x128x512_S1x8x512_13_72_0 rfl x,
    fun x => store_at _ arg19 harg19 x16 hM 9 12 arg12 harg12 x9 rfl ![96, 0] slices_S128x512_o96_0_S8x512 rfl ![12, 72, 0] inb_S16x128x512_S1x8x512_12_72_0 rfl x,
    fun x => store_at _ arg19 harg19 x16 hM 9 11 arg12 harg12 x9 rfl ![88, 0] slices_S128x512_o88_0_S8x512 rfl ![11, 72, 0] inb_S16x128x512_S1x8x512_11_72_0 rfl x,
    fun x => store_at _ arg19 harg19 x16 hM 9 10 arg12 harg12 x9 rfl ![80, 0] slices_S128x512_o80_0_S8x512 rfl ![10, 72, 0] inb_S16x128x512_S1x8x512_10_72_0 rfl x,
    fun x => store_at _ arg19 harg19 x16 hM 9 9 arg12 harg12 x9 rfl ![72, 0] slices_S128x512_o72_0_S8x512 rfl ![9, 72, 0] inb_S16x128x512_S1x8x512_9_72_0 rfl x,
    fun x => store_at _ arg19 harg19 x16 hM 9 8 arg12 harg12 x9 rfl ![64, 0] slices_S128x512_o64_0_S8x512 rfl ![8, 72, 0] inb_S16x128x512_S1x8x512_8_72_0 rfl x,
    fun x => store_at _ arg19 harg19 x16 hM 9 7 arg12 harg12 x9 rfl ![56, 0] slices_S128x512_o56_0_S8x512 rfl ![7, 72, 0] inb_S16x128x512_S1x8x512_7_72_0 rfl x,
    fun x => store_at _ arg19 harg19 x16 hM 9 6 arg12 harg12 x9 rfl ![48, 0] slices_S128x512_o48_0_S8x512 rfl ![6, 72, 0] inb_S16x128x512_S1x8x512_6_72_0 rfl x,
    fun x => store_at _ arg19 harg19 x16 hM 9 5 arg12 harg12 x9 rfl ![40, 0] slices_S128x512_o40_0_S8x512 rfl ![5, 72, 0] inb_S16x128x512_S1x8x512_5_72_0 rfl x,
    fun x => store_at _ arg19 harg19 x16 hM 9 4 arg12 harg12 x9 rfl ![32, 0] slices_S128x512_o32_0_S8x512 rfl ![4, 72, 0] inb_S16x128x512_S1x8x512_4_72_0 rfl x,
    fun x => store_at _ arg19 harg19 x16 hM 9 3 arg12 harg12 x9 rfl ![24, 0] slices_S128x512_o24_0_S8x512 rfl ![3, 72, 0] inb_S16x128x512_S1x8x512_3_72_0 rfl x,
    fun x => store_at _ arg19 harg19 x16 hM 9 2 arg12 harg12 x9 rfl ![16, 0] slices_S128x512_o16_0_S8x512 rfl ![2, 72, 0] inb_S16x128x512_S1x8x512_2_72_0 rfl x,
    fun x => store_at _ arg19 harg19 x16 hM 9 1 arg12 harg12 x9 rfl ![8, 0] slices_S128x512_o8_0_S8x512 rfl ![1, 72, 0] inb_S16x128x512_S1x8x512_1_72_0 rfl x,
    fun x => store_at _ arg19 harg19 x16 hM 9 0 arg12 harg12 x9 rfl ![0, 0] slices_S128x512_o0_0_S8x512 rfl ![0, 72, 0] inb_S16x128x512_S1x8x512_0_72_0 rfl x,
    fun x => store_at _ arg19 harg19 x16 hM 8 15 arg11 harg11 x8 rfl ![120, 0] slices_S128x512_o120_0_S8x512 rfl ![15, 64, 0] inb_S16x128x512_S1x8x512_15_64_0 rfl x,
    fun x => store_at _ arg19 harg19 x16 hM 8 14 arg11 harg11 x8 rfl ![112, 0] slices_S128x512_o112_0_S8x512 rfl ![14, 64, 0] inb_S16x128x512_S1x8x512_14_64_0 rfl x,
    fun x => store_at _ arg19 harg19 x16 hM 8 13 arg11 harg11 x8 rfl ![104, 0] slices_S128x512_o104_0_S8x512 rfl ![13, 64, 0] inb_S16x128x512_S1x8x512_13_64_0 rfl x,
    fun x => store_at _ arg19 harg19 x16 hM 8 12 arg11 harg11 x8 rfl ![96, 0] slices_S128x512_o96_0_S8x512 rfl ![12, 64, 0] inb_S16x128x512_S1x8x512_12_64_0 rfl x,
    fun x => store_at _ arg19 harg19 x16 hM 8 11 arg11 harg11 x8 rfl ![88, 0] slices_S128x512_o88_0_S8x512 rfl ![11, 64, 0] inb_S16x128x512_S1x8x512_11_64_0 rfl x,
    fun x => store_at _ arg19 harg19 x16 hM 8 10 arg11 harg11 x8 rfl ![80, 0] slices_S128x512_o80_0_S8x512 rfl ![10, 64, 0] inb_S16x128x512_S1x8x512_10_64_0 rfl x,
    fun x => store_at _ arg19 harg19 x16 hM 8 9 arg11 harg11 x8 rfl ![72, 0] slices_S128x512_o72_0_S8x512 rfl ![9, 64, 0] inb_S16x128x512_S1x8x512_9_64_0 rfl x,
    fun x => store_at _ arg19 harg19 x16 hM 8 8 arg11 harg11 x8 rfl ![64, 0] slices_S128x512_o64_0_S8x512 rfl ![8, 64, 0] inb_S16x128x512_S1x8x512_8_64_0 rfl x,
    fun x => store_at _ arg19 harg19 x16 hM 8 7 arg11 harg11 x8 rfl ![56, 0] slices_S128x512_o56_0_S8x512 rfl ![7, 64, 0] inb_S16x128x512_S1x8x512_7_64_0 rfl x,
    fun x => store_at _ arg19 harg19 x16 hM 8 6 arg11 harg11 x8 rfl ![48, 0] slices_S128x512_o48_0_S8x512 rfl ![6, 64, 0] inb_S16x128x512_S1x8x512_6_64_0 rfl x,
    fun x => store_at _ arg19 harg19 x16 hM 8 5 arg11 harg11 x8 rfl ![40, 0] slices_S128x512_o40_0_S8x512 rfl ![5, 64, 0] inb_S16x128x512_S1x8x512_5_64_0 rfl x,
    fun x => store_at _ arg19 harg19 x16 hM 8 4 arg11 harg11 x8 rfl ![32, 0] slices_S128x512_o32_0_S8x512 rfl ![4, 64, 0] inb_S16x128x512_S1x8x512_4_64_0 rfl x,
    fun x => store_at _ arg19 harg19 x16 hM 8 3 arg11 harg11 x8 rfl ![24, 0] slices_S128x512_o24_0_S8x512 rfl ![3, 64, 0] inb_S16x128x512_S1x8x512_3_64_0 rfl x,
    fun x => store_at _ arg19 harg19 x16 hM 8 2 arg11 harg11 x8 rfl ![16, 0] slices_S128x512_o16_0_S8x512 rfl ![2, 64, 0] inb_S16x128x512_S1x8x512_2_64_0 rfl x,
    fun x => store_at _ arg19 harg19 x16 hM 8 1 arg11 harg11 x8 rfl ![8, 0] slices_S128x512_o8_0_S8x512 rfl ![1, 64, 0] inb_S16x128x512_S1x8x512_1_64_0 rfl x,
    fun x => store_at _ arg19 harg19 x16 hM 8 0 arg11 harg11 x8 rfl ![0, 0] slices_S128x512_o0_0_S8x512 rfl ![0, 64, 0] inb_S16x128x512_S1x8x512_0_64_0 rfl x,
    fun x => store_at _ arg19 harg19 x16 hM 7 15 arg10 harg10 x7 rfl ![120, 0] slices_S128x512_o120_0_S8x512 rfl ![15, 56, 0] inb_S16x128x512_S1x8x512_15_56_0 rfl x,
    fun x => store_at _ arg19 harg19 x16 hM 7 14 arg10 harg10 x7 rfl ![112, 0] slices_S128x512_o112_0_S8x512 rfl ![14, 56, 0] inb_S16x128x512_S1x8x512_14_56_0 rfl x,
    fun x => store_at _ arg19 harg19 x16 hM 7 13 arg10 harg10 x7 rfl ![104, 0] slices_S128x512_o104_0_S8x512 rfl ![13, 56, 0] inb_S16x128x512_S1x8x512_13_56_0 rfl x,
    fun x => store_at _ arg19 harg19 x16 hM 7 12 arg10 harg10 x7 rfl ![96, 0] slices_S128x512_o96_0_S8x512 rfl ![12, 56, 0] inb_S16x128x512_S1x8x512_12_56_0 rfl x,
    fun x => store_at _ arg19 harg19 x16 hM 7 11 arg10 harg10 x7 rfl ![88, 0] slices_S128x512_o88_0_S8x512 rfl ![11, 56, 0] inb_S16x128x512_S1x8x512_11_56_0 rfl x,
    fun x => store_at _ arg19 harg19 x16 hM 7 10 arg10 harg10 x7 rfl ![80, 0] slices_S128x512_o80_0_S8x512 rfl ![10, 56, 0] inb_S16x128x512_S1x8x512_10_56_0 rfl x,
    fun x => store_at _ arg19 harg19 x16 hM 7 9 arg10 harg10 x7 rfl ![72, 0] slices_S128x512_o72_0_S8x512 rfl ![9, 56, 0] inb_S16x128x512_S1x8x512_9_56_0 rfl x,
    fun x => store_at _ arg19 harg19 x16 hM 7 8 arg10 harg10 x7 rfl ![64, 0] slices_S128x512_o64_0_S8x512 rfl ![8, 56, 0] inb_S16x128x512_S1x8x512_8_56_0 rfl x,
    fun x => store_at _ arg19 harg19 x16 hM 7 7 arg10 harg10 x7 rfl ![56, 0] slices_S128x512_o56_0_S8x512 rfl ![7, 56, 0] inb_S16x128x512_S1x8x512_7_56_0 rfl x,
    fun x => store_at _ arg19 harg19 x16 hM 7 6 arg10 harg10 x7 rfl ![48, 0] slices_S128x512_o48_0_S8x512 rfl ![6, 56, 0] inb_S16x128x512_S1x8x512_6_56_0 rfl x,
    fun x => store_at _ arg19 harg19 x16 hM 7 5 arg10 harg10 x7 rfl ![40, 0] slices_S128x512_o40_0_S8x512 rfl ![5, 56, 0] inb_S16x128x512_S1x8x512_5_56_0 rfl x,
    fun x => store_at _ arg19 harg19 x16 hM 7 4 arg10 harg10 x7 rfl ![32, 0] slices_S128x512_o32_0_S8x512 rfl ![4, 56, 0] inb_S16x128x512_S1x8x512_4_56_0 rfl x,
    fun x => store_at _ arg19 harg19 x16 hM 7 3 arg10 harg10 x7 rfl ![24, 0] slices_S128x512_o24_0_S8x512 rfl ![3, 56, 0] inb_S16x128x512_S1x8x512_3_56_0 rfl x,
    fun x => store_at _ arg19 harg19 x16 hM 7 2 arg10 harg10 x7 rfl ![16, 0] slices_S128x512_o16_0_S8x512 rfl ![2, 56, 0] inb_S16x128x512_S1x8x512_2_56_0 rfl x,
    fun x => store_at _ arg19 harg19 x16 hM 7 1 arg10 harg10 x7 rfl ![8, 0] slices_S128x512_o8_0_S8x512 rfl ![1, 56, 0] inb_S16x128x512_S1x8x512_1_56_0 rfl x,
    fun x => store_at _ arg19 harg19 x16 hM 7 0 arg10 harg10 x7 rfl ![0, 0] slices_S128x512_o0_0_S8x512 rfl ![0, 56, 0] inb_S16x128x512_S1x8x512_0_56_0 rfl x,
    fun x => store_at _ arg19 harg19 x16 hM 6 15 arg9 harg9 x6 rfl ![120, 0] slices_S128x512_o120_0_S8x512 rfl ![15, 48, 0] inb_S16x128x512_S1x8x512_15_48_0 rfl x,
    fun x => store_at _ arg19 harg19 x16 hM 6 14 arg9 harg9 x6 rfl ![112, 0] slices_S128x512_o112_0_S8x512 rfl ![14, 48, 0] inb_S16x128x512_S1x8x512_14_48_0 rfl x,
    fun x => store_at _ arg19 harg19 x16 hM 6 13 arg9 harg9 x6 rfl ![104, 0] slices_S128x512_o104_0_S8x512 rfl ![13, 48, 0] inb_S16x128x512_S1x8x512_13_48_0 rfl x,
    fun x => store_at _ arg19 harg19 x16 hM 6 12 arg9 harg9 x6 rfl ![96, 0] slices_S128x512_o96_0_S8x512 rfl ![12, 48, 0] inb_S16x128x512_S1x8x512_12_48_0 rfl x,
    fun x => store_at _ arg19 harg19 x16 hM 6 11 arg9 harg9 x6 rfl ![88, 0] slices_S128x512_o88_0_S8x512 rfl ![11, 48, 0] inb_S16x128x512_S1x8x512_11_48_0 rfl x,
    fun x => store_at _ arg19 harg19 x16 hM 6 10 arg9 harg9 x6 rfl ![80, 0] slices_S128x512_o80_0_S8x512 rfl ![10, 48, 0] inb_S16x128x512_S1x8x512_10_48_0 rfl x,
    fun x => store_at _ arg19 harg19 x16 hM 6 9 arg9 harg9 x6 rfl ![72, 0] slices_S128x512_o72_0_S8x512 rfl ![9, 48, 0] inb_S16x128x512_S1x8x512_9_48_0 rfl x,
    fun x => store_at _ arg19 harg19 x16 hM 6 8 arg9 harg9 x6 rfl ![64, 0] slices_S128x512_o64_0_S8x512 rfl ![8, 48, 0] inb_S16x128x512_S1x8x512_8_48_0 rfl x,
    fun x => store_at _ arg19 harg19 x16 hM 6 7 arg9 harg9 x6 rfl ![56, 0] slices_S128x512_o56_0_S8x512 rfl ![7, 48, 0] inb_S16x128x512_S1x8x512_7_48_0 rfl x,
    fun x => store_at _ arg19 harg19 x16 hM 6 6 arg9 harg9 x6 rfl ![48, 0] slices_S128x512_o48_0_S8x512 rfl ![6, 48, 0] inb_S16x128x512_S1x8x512_6_48_0 rfl x,
    fun x => store_at _ arg19 harg19 x16 hM 6 5 arg9 harg9 x6 rfl ![40, 0] slices_S128x512_o40_0_S8x512 rfl ![5, 48, 0] inb_S16x128x512_S1x8x512_5_48_0 rfl x,
    fun x => store_at _ arg19 harg19 x16 hM 6 4 arg9 harg9 x6 rfl ![32, 0] slices_S128x512_o32_0_S8x512 rfl ![4, 48, 0] inb_S16x128x512_S1x8x512_4_48_0 rfl x,
    fun x => store_at _ arg19 harg19 x16 hM 6 3 arg9 harg9 x6 rfl ![24, 0] slices_S128x512_o24_0_S8x512 rfl ![3, 48, 0] inb_S16x128x512_S1x8x512_3_48_0 rfl x,
    fun x => store_at _ arg19 harg19 x16 hM 6 2 arg9 harg9 x6 rfl ![16, 0] slices_S128x512_o16_0_S8x512 rfl ![2, 48, 0] inb_S16x128x512_S1x8x512_2_48_0 rfl x,
    fun x => store_at _ arg19 harg19 x16 hM 6 1 arg9 harg9 x6 rfl ![8, 0] slices_S128x512_o8_0_S8x512 rfl ![1, 48, 0] inb_S16x128x512_S1x8x512_1_48_0 rfl x,
    fun x => store_at _ arg19 harg19 x16 hM 6 0 arg9 harg9 x6 rfl ![0, 0] slices_S128x512_o0_0_S8x512 rfl ![0, 48, 0] inb_S16x128x512_S1x8x512_0_48_0 rfl x,
    fun x => store_at _ arg19 harg19 x16 hM 5 15 arg8 harg8 x5 rfl ![120, 0] slices_S128x512_o120_0_S8x512 rfl ![15, 40, 0] inb_S16x128x512_S1x8x512_15_40_0 rfl x,
    fun x => store_at _ arg19 harg19 x16 hM 5 14 arg8 harg8 x5 rfl ![112, 0] slices_S128x512_o112_0_S8x512 rfl ![14, 40, 0] inb_S16x128x512_S1x8x512_14_40_0 rfl x,
    fun x => store_at _ arg19 harg19 x16 hM 5 13 arg8 harg8 x5 rfl ![104, 0] slices_S128x512_o104_0_S8x512 rfl ![13, 40, 0] inb_S16x128x512_S1x8x512_13_40_0 rfl x,
    fun x => store_at _ arg19 harg19 x16 hM 5 12 arg8 harg8 x5 rfl ![96, 0] slices_S128x512_o96_0_S8x512 rfl ![12, 40, 0] inb_S16x128x512_S1x8x512_12_40_0 rfl x,
    fun x => store_at _ arg19 harg19 x16 hM 5 11 arg8 harg8 x5 rfl ![88, 0] slices_S128x512_o88_0_S8x512 rfl ![11, 40, 0] inb_S16x128x512_S1x8x512_11_40_0 rfl x,
    fun x => store_at _ arg19 harg19 x16 hM 5 10 arg8 harg8 x5 rfl ![80, 0] slices_S128x512_o80_0_S8x512 rfl ![10, 40, 0] inb_S16x128x512_S1x8x512_10_40_0 rfl x,
    fun x => store_at _ arg19 harg19 x16 hM 5 9 arg8 harg8 x5 rfl ![72, 0] slices_S128x512_o72_0_S8x512 rfl ![9, 40, 0] inb_S16x128x512_S1x8x512_9_40_0 rfl x,
    fun x => store_at _ arg19 harg19 x16 hM 5 8 arg8 harg8 x5 rfl ![64, 0] slices_S128x512_o64_0_S8x512 rfl ![8, 40, 0] inb_S16x128x512_S1x8x512_8_40_0 rfl x,
    fun x => store_at _ arg19 harg19 x16 hM 5 7 arg8 harg8 x5 rfl ![56, 0] slices_S128x512_o56_0_S8x512 rfl ![7, 40, 0] inb_S16x128x512_S1x8x512_7_40_0 rfl x,
    fun x => store_at _ arg19 harg19 x16 hM 5 6 arg8 harg8 x5 rfl ![48, 0] slices_S128x512_o48_0_S8x512 rfl ![6, 40, 0] inb_S16x128x512_S1x8x512_6_40_0 rfl x,
    fun x => store_at _ arg19 harg19 x16 hM 5 5 arg8 harg8 x5 rfl ![40, 0] slices_S128x512_o40_0_S8x512 rfl ![5, 40, 0] inb_S16x128x512_S1x8x512_5_40_0 rfl x,
    fun x => store_at _ arg19 harg19 x16 hM 5 4 arg8 harg8 x5 rfl ![32, 0] slices_S128x512_o32_0_S8x512 rfl ![4, 40, 0] inb_S16x128x512_S1x8x512_4_40_0 rfl x,
    fun x => store_at _ arg19 harg19 x16 hM 5 3 arg8 harg8 x5 rfl ![24, 0] slices_S128x512_o24_0_S8x512 rfl ![3, 40, 0] inb_S16x128x512_S1x8x512_3_40_0 rfl x,
    fun x => store_at _ arg19 harg19 x16 hM 5 2 arg8 harg8 x5 rfl ![16, 0] slices_S128x512_o16_0_S8x512 rfl ![2, 40, 0] inb_S16x128x512_S1x8x512_2_40_0 rfl x,
    fun x => store_at _ arg19 harg19 x16 hM 5 1 arg8 harg8 x5 rfl ![8, 0] slices_S128x512_o8_0_S8x512 rfl ![1, 40, 0] inb_S16x128x512_S1x8x512_1_40_0 rfl x,
    fun x => store_at _ arg19 harg19 x16 hM 5 0 arg8 harg8 x5 rfl ![0, 0] slices_S128x512_o0_0_S8x512 rfl ![0, 40, 0] inb_S16x128x512_S1x8x512_0_40_0 rfl x,
    fun x => store_at _ arg19 harg19 x16 hM 4 15 arg7 harg7 x4 rfl ![120, 0] slices_S128x512_o120_0_S8x512 rfl ![15, 32, 0] inb_S16x128x512_S1x8x512_15_32_0 rfl x,
    fun x => store_at _ arg19 harg19 x16 hM 4 14 arg7 harg7 x4 rfl ![112, 0] slices_S128x512_o112_0_S8x512 rfl ![14, 32, 0] inb_S16x128x512_S1x8x512_14_32_0 rfl x,
    fun x => store_at _ arg19 harg19 x16 hM 4 13 arg7 harg7 x4 rfl ![104, 0] slices_S128x512_o104_0_S8x512 rfl ![13, 32, 0] inb_S16x128x512_S1x8x512_13_32_0 rfl x,
    fun x => store_at _ arg19 harg19 x16 hM 4 12 arg7 harg7 x4 rfl ![96, 0] slices_S128x512_o96_0_S8x512 rfl ![12, 32, 0] inb_S16x128x512_S1x8x512_12_32_0 rfl x,
    fun x => store_at _ arg19 harg19 x16 hM 4 11 arg7 harg7 x4 rfl ![88, 0] slices_S128x512_o88_0_S8x512 rfl ![11, 32, 0] inb_S16x128x512_S1x8x512_11_32_0 rfl x,
    fun x => store_at _ arg19 harg19 x16 hM 4 10 arg7 harg7 x4 rfl ![80, 0] slices_S128x512_o80_0_S8x512 rfl ![10, 32, 0] inb_S16x128x512_S1x8x512_10_32_0 rfl x,
    fun x => store_at _ arg19 harg19 x16 hM 4 9 arg7 harg7 x4 rfl ![72, 0] slices_S128x512_o72_0_S8x512 rfl ![9, 32, 0] inb_S16x128x512_S1x8x512_9_32_0 rfl x,
    fun x => store_at _ arg19 harg19 x16 hM 4 8 arg7 harg7 x4 rfl ![64, 0] slices_S128x512_o64_0_S8x512 rfl ![8, 32, 0] inb_S16x128x512_S1x8x512_8_32_0 rfl x,
    fun x => store_at _ arg19 harg19 x16 hM 4 7 arg7 harg7 x4 rfl ![56, 0] slices_S128x512_o56_0_S8x512 rfl ![7, 32, 0] inb_S16x128x512_S1x8x512_7_32_0 rfl x,
    fun x => store_at _ arg19 harg19 x16 hM 4 6 arg7 harg7 x4 rfl ![48, 0] slices_S128x512_o48_0_S8x512 rfl ![6, 32, 0] inb_S16x128x512_S1x8x512_6_32_0 rfl x,
    fun x => store_at _ arg19 harg19 x16 hM 4 5 arg7 harg7 x4 rfl ![40, 0] slices_S128x512_o40_0_S8x512 rfl ![5, 32, 0] inb_S16x128x512_S1x8x512_5_32_0 rfl x,
    fun x => store_at _ arg19 harg19 x16 hM 4 4 arg7 harg7 x4 rfl ![32, 0] slices_S128x512_o32_0_S8x512 rfl ![4, 32, 0] inb_S16x128x512_S1x8x512_4_32_0 rfl x,
    fun x => store_at _ arg19 harg19 x16 hM 4 3 arg7 harg7 x4 rfl ![24, 0] slices_S128x512_o24_0_S8x512 rfl ![3, 32, 0] inb_S16x128x512_S1x8x512_3_32_0 rfl x,
    fun x => store_at _ arg19 harg19 x16 hM 4 2 arg7 harg7 x4 rfl ![16, 0] slices_S128x512_o16_0_S8x512 rfl ![2, 32, 0] inb_S16x128x512_S1x8x512_2_32_0 rfl x,
    fun x => store_at _ arg19 harg19 x16 hM 4 1 arg7 harg7 x4 rfl ![8, 0] slices_S128x512_o8_0_S8x512 rfl ![1, 32, 0] inb_S16x128x512_S1x8x512_1_32_0 rfl x,
    fun x => store_at _ arg19 harg19 x16 hM 4 0 arg7 harg7 x4 rfl ![0, 0] slices_S128x512_o0_0_S8x512 rfl ![0, 32, 0] inb_S16x128x512_S1x8x512_0_32_0 rfl x,
    fun x => store_at _ arg19 harg19 x16 hM 3 15 arg6 harg6 x3 rfl ![120, 0] slices_S128x512_o120_0_S8x512 rfl ![15, 24, 0] inb_S16x128x512_S1x8x512_15_24_0 rfl x,
    fun x => store_at _ arg19 harg19 x16 hM 3 14 arg6 harg6 x3 rfl ![112, 0] slices_S128x512_o112_0_S8x512 rfl ![14, 24, 0] inb_S16x128x512_S1x8x512_14_24_0 rfl x,
    fun x => store_at _ arg19 harg19 x16 hM 3 13 arg6 harg6 x3 rfl ![104, 0] slices_S128x512_o104_0_S8x512 rfl ![13, 24, 0] inb_S16x128x512_S1x8x512_13_24_0 rfl x,
    fun x => store_at _ arg19 harg19 x16 hM 3 12 arg6 harg6 x3 rfl ![96, 0] slices_S128x512_o96_0_S8x512 rfl ![12, 24, 0] inb_S16x128x512_S1x8x512_12_24_0 rfl x,
    fun x => store_at _ arg19 harg19 x16 hM 3 11 arg6 harg6 x3 rfl ![88, 0] slices_S128x512_o88_0_S8x512 rfl ![11, 24, 0] inb_S16x128x512_S1x8x512_11_24_0 rfl x,
    fun x => store_at _ arg19 harg19 x16 hM 3 10 arg6 harg6 x3 rfl ![80, 0] slices_S128x512_o80_0_S8x512 rfl ![10, 24, 0] inb_S16x128x512_S1x8x512_10_24_0 rfl x,
    fun x => store_at _ arg19 harg19 x16 hM 3 9 arg6 harg6 x3 rfl ![72, 0] slices_S128x512_o72_0_S8x512 rfl ![9, 24, 0] inb_S16x128x512_S1x8x512_9_24_0 rfl x,
    fun x => store_at _ arg19 harg19 x16 hM 3 8 arg6 harg6 x3 rfl ![64, 0] slices_S128x512_o64_0_S8x512 rfl ![8, 24, 0] inb_S16x128x512_S1x8x512_8_24_0 rfl x,
    fun x => store_at _ arg19 harg19 x16 hM 3 7 arg6 harg6 x3 rfl ![56, 0] slices_S128x512_o56_0_S8x512 rfl ![7, 24, 0] inb_S16x128x512_S1x8x512_7_24_0 rfl x,
    fun x => store_at _ arg19 harg19 x16 hM 3 6 arg6 harg6 x3 rfl ![48, 0] slices_S128x512_o48_0_S8x512 rfl ![6, 24, 0] inb_S16x128x512_S1x8x512_6_24_0 rfl x,
    fun x => store_at _ arg19 harg19 x16 hM 3 5 arg6 harg6 x3 rfl ![40, 0] slices_S128x512_o40_0_S8x512 rfl ![5, 24, 0] inb_S16x128x512_S1x8x512_5_24_0 rfl x,
    fun x => store_at _ arg19 harg19 x16 hM 3 4 arg6 harg6 x3 rfl ![32, 0] slices_S128x512_o32_0_S8x512 rfl ![4, 24, 0] inb_S16x128x512_S1x8x512_4_24_0 rfl x,
    fun x => store_at _ arg19 harg19 x16 hM 3 3 arg6 harg6 x3 rfl ![24, 0] slices_S128x512_o24_0_S8x512 rfl ![3, 24, 0] inb_S16x128x512_S1x8x512_3_24_0 rfl x,
    fun x => store_at _ arg19 harg19 x16 hM 3 2 arg6 harg6 x3 rfl ![16, 0] slices_S128x512_o16_0_S8x512 rfl ![2, 24, 0] inb_S16x128x512_S1x8x512_2_24_0 rfl x,
    fun x => store_at _ arg19 harg19 x16 hM 3 1 arg6 harg6 x3 rfl ![8, 0] slices_S128x512_o8_0_S8x512 rfl ![1, 24, 0] inb_S16x128x512_S1x8x512_1_24_0 rfl x,
    fun x => store_at _ arg19 harg19 x16 hM 3 0 arg6 harg6 x3 rfl ![0, 0] slices_S128x512_o0_0_S8x512 rfl ![0, 24, 0] inb_S16x128x512_S1x8x512_0_24_0 rfl x,
    fun x => store_at _ arg19 harg19 x16 hM 2 15 arg5 harg5 x2 rfl ![120, 0] slices_S128x512_o120_0_S8x512 rfl ![15, 16, 0] inb_S16x128x512_S1x8x512_15_16_0 rfl x,
    fun x => store_at _ arg19 harg19 x16 hM 2 14 arg5 harg5 x2 rfl ![112, 0] slices_S128x512_o112_0_S8x512 rfl ![14, 16, 0] inb_S16x128x512_S1x8x512_14_16_0 rfl x,
    fun x => store_at _ arg19 harg19 x16 hM 2 13 arg5 harg5 x2 rfl ![104, 0] slices_S128x512_o104_0_S8x512 rfl ![13, 16, 0] inb_S16x128x512_S1x8x512_13_16_0 rfl x,
    fun x => store_at _ arg19 harg19 x16 hM 2 12 arg5 harg5 x2 rfl ![96, 0] slices_S128x512_o96_0_S8x512 rfl ![12, 16, 0] inb_S16x128x512_S1x8x512_12_16_0 rfl x,
    fun x => store_at _ arg19 harg19 x16 hM 2 11 arg5 harg5 x2 rfl ![88, 0] slices_S128x512_o88_0_S8x512 rfl ![11, 16, 0] inb_S16x128x512_S1x8x512_11_16_0 rfl x,
    fun x => store_at _ arg19 harg19 x16 hM 2 10 arg5 harg5 x2 rfl ![80, 0] slices_S128x512_o80_0_S8x512 rfl ![10, 16, 0] inb_S16x128x512_S1x8x512_10_16_0 rfl x,
    fun x => store_at _ arg19 harg19 x16 hM 2 9 arg5 harg5 x2 rfl ![72, 0] slices_S128x512_o72_0_S8x512 rfl ![9, 16, 0] inb_S16x128x512_S1x8x512_9_16_0 rfl x,
    fun x => store_at _ arg19 harg19 x16 hM 2 8 arg5 harg5 x2 rfl ![64, 0] slices_S128x512_o64_0_S8x512 rfl ![8, 16, 0] inb_S16x128x512_S1x8x512_8_16_0 rfl x,
    fun x => store_at _ arg19 harg19 x16 hM 2 7 arg5 harg5 x2 rfl ![56, 0] slices_S128x512_o56_0_S8x512 rfl ![7, 16, 0] inb_S16x128x512_S1x8x512_7_16_0 rfl x,
    fun x => store_at _ arg19 harg19 x16 hM 2 6 arg5 harg5 x2 rfl ![48, 0] slices_S128x512_o48_0_S8x512 rfl ![6, 16, 0] inb_S16x128x512_S1x8x512_6_16_0 rfl x,
    fun x => store_at _ arg19 harg19 x16 hM 2 5 arg5 harg5 x2 rfl ![40, 0] slices_S128x512_o40_0_S8x512 rfl ![5, 16, 0] inb_S16x128x512_S1x8x512_5_16_0 rfl x,
    fun x => store_at _ arg19 harg19 x16 hM 2 4 arg5 harg5 x2 rfl ![32, 0] slices_S128x512_o32_0_S8x512 rfl ![4, 16, 0] inb_S16x128x512_S1x8x512_4_16_0 rfl x,
    fun x => store_at _ arg19 harg19 x16 hM 2 3 arg5 harg5 x2 rfl ![24, 0] slices_S128x512_o24_0_S8x512 rfl ![3, 16, 0] inb_S16x128x512_S1x8x512_3_16_0 rfl x,
    fun x => store_at _ arg19 harg19 x16 hM 2 2 arg5 harg5 x2 rfl ![16, 0] slices_S128x512_o16_0_S8x512 rfl ![2, 16, 0] inb_S16x128x512_S1x8x512_2_16_0 rfl x,
    fun x => store_at _ arg19 harg19 x16 hM 2 1 arg5 harg5 x2 rfl ![8, 0] slices_S128x512_o8_0_S8x512 rfl ![1, 16, 0] inb_S16x128x512_S1x8x512_1_16_0 rfl x,
    fun x => store_at _ arg19 harg19 x16 hM 2 0 arg5 harg5 x2 rfl ![0, 0] slices_S128x512_o0_0_S8x512 rfl ![0, 16, 0] inb_S16x128x512_S1x8x512_0_16_0 rfl x,
    fun x => store_at _ arg19 harg19 x16 hM 1 15 arg4 harg4 x1 rfl ![120, 0] slices_S128x512_o120_0_S8x512 rfl ![15, 8, 0] inb_S16x128x512_S1x8x512_15_8_0 rfl x,
    fun x => store_at _ arg19 harg19 x16 hM 1 14 arg4 harg4 x1 rfl ![112, 0] slices_S128x512_o112_0_S8x512 rfl ![14, 8, 0] inb_S16x128x512_S1x8x512_14_8_0 rfl x,
    fun x => store_at _ arg19 harg19 x16 hM 1 13 arg4 harg4 x1 rfl ![104, 0] slices_S128x512_o104_0_S8x512 rfl ![13, 8, 0] inb_S16x128x512_S1x8x512_13_8_0 rfl x,
    fun x => store_at _ arg19 harg19 x16 hM 1 12 arg4 harg4 x1 rfl ![96, 0] slices_S128x512_o96_0_S8x512 rfl ![12, 8, 0] inb_S16x128x512_S1x8x512_12_8_0 rfl x,
    fun x => store_at _ arg19 harg19 x16 hM 1 11 arg4 harg4 x1 rfl ![88, 0] slices_S128x512_o88_0_S8x512 rfl ![11, 8, 0] inb_S16x128x512_S1x8x512_11_8_0 rfl x,
    fun x => store_at _ arg19 harg19 x16 hM 1 10 arg4 harg4 x1 rfl ![80, 0] slices_S128x512_o80_0_S8x512 rfl ![10, 8, 0] inb_S16x128x512_S1x8x512_10_8_0 rfl x,
    fun x => store_at _ arg19 harg19 x16 hM 1 9 arg4 harg4 x1 rfl ![72, 0] slices_S128x512_o72_0_S8x512 rfl ![9, 8, 0] inb_S16x128x512_S1x8x512_9_8_0 rfl x,
    fun x => store_at _ arg19 harg19 x16 hM 1 8 arg4 harg4 x1 rfl ![64, 0] slices_S128x512_o64_0_S8x512 rfl ![8, 8, 0] inb_S16x128x512_S1x8x512_8_8_0 rfl x,
    fun x => store_at _ arg19 harg19 x16 hM 1 7 arg4 harg4 x1 rfl ![56, 0] slices_S128x512_o56_0_S8x512 rfl ![7, 8, 0] inb_S16x128x512_S1x8x512_7_8_0 rfl x,
    fun x => store_at _ arg19 harg19 x16 hM 1 6 arg4 harg4 x1 rfl ![48, 0] slices_S128x512_o48_0_S8x512 rfl ![6, 8, 0] inb_S16x128x512_S1x8x512_6_8_0 rfl x,
    fun x => store_at _ arg19 harg19 x16 hM 1 5 arg4 harg4 x1 rfl ![40, 0] slices_S128x512_o40_0_S8x512 rfl ![5, 8, 0] inb_S16x128x512_S1x8x512_5_8_0 rfl x,
    fun x => store_at _ arg19 harg19 x16 hM 1 4 arg4 harg4 x1 rfl ![32, 0] slices_S128x512_o32_0_S8x512 rfl ![4, 8, 0] inb_S16x128x512_S1x8x512_4_8_0 rfl x,
    fun x => store_at _ arg19 harg19 x16 hM 1 3 arg4 harg4 x1 rfl ![24, 0] slices_S128x512_o24_0_S8x512 rfl ![3, 8, 0] inb_S16x128x512_S1x8x512_3_8_0 rfl x,
    fun x => store_at _ arg19 harg19 x16 hM 1 2 arg4 harg4 x1 rfl ![16, 0] slices_S128x512_o16_0_S8x512 rfl ![2, 8, 0] inb_S16x128x512_S1x8x512_2_8_0 rfl x,
    fun x => store_at _ arg19 harg19 x16 hM 1 1 arg4 harg4 x1 rfl ![8, 0] slices_S128x512_o8_0_S8x512 rfl ![1, 8, 0] inb_S16x128x512_S1x8x512_1_8_0 rfl x,
    fun x => store_at _ arg19 harg19 x16 hM 1 0 arg4 harg4 x1 rfl ![0, 0] slices_S128x512_o0_0_S8x512 rfl ![0, 8, 0] inb_S16x128x512_S1x8x512_0_8_0 rfl x,
    fun x => store_at _ arg19 harg19 x16 hM 0 15 arg3 harg3 x0 rfl ![120, 0] slices_S128x512_o120_0_S8x512 rfl ![15, 0, 0] inb_S16x128x512_S1x8x512_15_0_0 rfl x,
    fun x => store_at _ arg19 harg19 x16 hM 0 14 arg3 harg3 x0 rfl ![112, 0] slices_S128x512_o112_0_S8x512 rfl ![14, 0, 0] inb_S16x128x512_S1x8x512_14_0_0 rfl x,
    fun x => store_at _ arg19 harg19 x16 hM 0 13 arg3 harg3 x0 rfl ![104, 0] slices_S128x512_o104_0_S8x512 rfl ![13, 0, 0] inb_S16x128x512_S1x8x512_13_0_0 rfl x,
    fun x => store_at _ arg19 harg19 x16 hM 0 12 arg3 harg3 x0 rfl ![96, 0] slices_S128x512_o96_0_S8x512 rfl ![12, 0, 0] inb_S16x128x512_S1x8x512_12_0_0 rfl x,
    fun x => store_at _ arg19 harg19 x16 hM 0 11 arg3 harg3 x0 rfl ![88, 0] slices_S128x512_o88_0_S8x512 rfl ![11, 0, 0] inb_S16x128x512_S1x8x512_11_0_0 rfl x,
    fun x => store_at _ arg19 harg19 x16 hM 0 10 arg3 harg3 x0 rfl ![80, 0] slices_S128x512_o80_0_S8x512 rfl ![10, 0, 0] inb_S16x128x512_S1x8x512_10_0_0 rfl x,
    fun x => store_at _ arg19 harg19 x16 hM 0 9 arg3 harg3 x0 rfl ![72, 0] slices_S128x512_o72_0_S8x512 rfl ![9, 0, 0] inb_S16x128x512_S1x8x512_9_0_0 rfl x,
    fun x => store_at _ arg19 harg19 x16 hM 0 8 arg3 harg3 x0 rfl ![64, 0] slices_S128x512_o64_0_S8x512 rfl ![8, 0, 0] inb_S16x128x512_S1x8x512_8_0_0 rfl x,
    fun x => store_at _ arg19 harg19 x16 hM 0 7 arg3 harg3 x0 rfl ![56, 0] slices_S128x512_o56_0_S8x512 rfl ![7, 0, 0] inb_S16x128x512_S1x8x512_7_0_0 rfl x,
    fun x => store_at _ arg19 harg19 x16 hM 0 6 arg3 harg3 x0 rfl ![48, 0] slices_S128x512_o48_0_S8x512 rfl ![6, 0, 0] inb_S16x128x512_S1x8x512_6_0_0 rfl x,
    fun x => store_at _ arg19 harg19 x16 hM 0 5 arg3 harg3 x0 rfl ![40, 0] slices_S128x512_o40_0_S8x512 rfl ![5, 0, 0] inb_S16x128x512_S1x8x512_5_0_0 rfl x,
    fun x => store_at _ arg19 harg19 x16 hM 0 4 arg3 harg3 x0 rfl ![32, 0] slices_S128x512_o32_0_S8x512 rfl ![4, 0, 0] inb_S16x128x512_S1x8x512_4_0_0 rfl x,
    fun x => store_at _ arg19 harg19 x16 hM 0 3 arg3 harg3 x0 rfl ![24, 0] slices_S128x512_o24_0_S8x512 rfl ![3, 0, 0] inb_S16x128x512_S1x8x512_3_0_0 rfl x,
    fun x => store_at _ arg19 harg19 x16 hM 0 2 arg3 harg3 x0 rfl ![16, 0] slices_S128x512_o16_0_S8x512 rfl ![2, 0, 0] inb_S16x128x512_S1x8x512_2_0_0 rfl x,
    fun x => store_at _ arg19 harg19 x16 hM 0 1 arg3 harg3 x0 rfl ![8, 0] slices_S128x512_o8_0_S8x512 rfl ![1, 0, 0] inb_S16x128x512_S1x8x512_1_0_0 rfl x,
    fun x => store_at _ arg19 harg19 x16 hM 0 0 arg3 harg3 x0 rfl ![0, 0] slices_S128x512_o0_0_S8x512 rfl ![0, 0, 0] inb_S16x128x512_S1x8x512_0_0_0 rfl x,
    trivial⟩

end Cert.CmpProjectIdeal.Body

end
-- ==== Proof.CmpOut.lean ====
/- What the body stores into its two outputs, as sums over the tokens of a group and the channels of a head. -/
module

public import proofs.«01_k».proof.Proof.Gen.CmpProjectIdeal.Frame
public import proofs.«01_k».proof.Proof.CmpScratch
public import Idealize.ShloMosaic.Lib.Pipeline.ValueKit
public import Idealize.ShloMosaic.Lib.Pipeline.ReadBack
public import Idealize.ShloMosaic.Lib.WholeRead
public import Idealize.ShloMosaic.Lib.Pointwise

@[expose] public section

set_option maxRecDepth 16384

noncomputable section

open Idealize.ShloMosaic Idealize.ShloMosaic.TcCoe Idealize.SL.Sem

namespace Cert.CmpProjectIdeal.Body

open Cert.CmpProjectIdeal Cert.CmpProjectIdeal.Gen

/-- The scratch after its stores. -/
theorem scratch (c : Dev nD) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S128x128 .bf16) (harg19 : arg19.IsWhole)
    (x0 x1 x2 x3 x4 x5 x6 x7 x8 x9 x10 x11 x12 x13 x14 x15 : Vec Ideal S512x128 .f32) (x16 : Vec Ideal S128x128 .bf16)
    (hM : ∀ a b : Fin 128, x16 (ix2 a b) = if b.val = 16 * (a.val % 8) + a.val / 8 then 1 else 0) (y : S16x128x512.Idx) :
    View.canon (kernelRun0_A.sl.HS0_256 (F := Ideal) c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16) y = scr ![x0, x1, x2, x3, x4, x5, x6, x7, x8, x9, x10, x11, x12, x13, x14, x15] y := by
  have h := View.canon_append_of_piecesOf (scr ![x0, x1, x2, x3, x4, x5, x6, x7, x8, x9, x10, x11, x12, x13, x14, x15]) [] (kernelRun0_A.sl.HS0_256 (F := Ideal) c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16)
    (stores c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16 hM) y (View.cover_of_tiledL (kernelRun0_A.sl.HS0_256 (F := Ideal) c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16) S1x8x512.size (by sl_kernel_rfl) y)
  rw [List.append_nil] at h
  exact h

theorem inbS (j : Nat) (hj : j < 16) (q : Fin 4) : ∀ a, (![j, 0, 128 * q.val] : Fin 3 → Nat) a + S1x128x128.size a ≤ S16x128x512.size a
  | ⟨0, _⟩ => hj
  | ⟨1, _⟩ => le_refl 128
  | ⟨2, _⟩ => show 128 * q.val + 128 ≤ 512 by omega

theorem inbW (p : Fin 2) (a : Fin 4) : ∀ x, (![p.val, a.val, 0, 0] : Fin 4 → Nat) x + S1x1x256x256.size x ≤ S2x4x256x256.size x
  | ⟨0, _⟩ => show p.val + 1 ≤ 2 by omega
  | ⟨1, _⟩ => show a.val + 1 ≤ 4 by omega
  | ⟨2, _⟩ => le_refl 256
  | ⟨3, _⟩ => le_refl 256

theorem inbO (k : Fin 8) : ∀ x, (![0, k.val, 0, 0] : Fin 4 → Nat) x + S1x1x128x128.size x ≤ S1x8x128x128.size x
  | ⟨0, _⟩ => le_refl 1
  | ⟨1, _⟩ => show k.val + 1 ≤ 8 by omega
  | ⟨2, _⟩ => le_refl 128
  | ⟨3, _⟩ => le_refl 128

/-- The loads of the scratch of lane tile `q`. -/
abbrev lds (m : Memref sig .tc .vmem S16x128x512 .f32) (L : List (View.Piece (Elt Ideal) S16x128x512 .f32)) (q : Fin 4) (a jj : Fin 4) : Vec Ideal S1x128x128 .f32 :=
  m.view.readCov L (Rect.unit (s := S16x128x512) ![4 * a.val + jj.val, 0, 128 * q.val] S1x128x128.size (inbS _ (by omega) q)).toLoadRect

/-- The loads of the weights of kind `p`. -/
abbrev ldw (m : Memref sig .tc .vmem S2x4x256x256 .bf16) (h : m.IsWhole) (X : Vec Ideal S2x4x256x256 .bf16) (p : Fin 2) (a : Fin 4) : Vec Ideal S1x1x256x256 .bf16 :=
  View.readAt (Elt Ideal) m.view (Rect.unit (s := S2x4x256x256) ![p.val, a.val, 0, 0] S1x1x256x256.size (inbW p a)).toLoadRect (h.unread X)

theorem lds_at (S : FVec Ideal S16x128x512 .f32) (m : Memref sig .tc .vmem S16x128x512 .f32) (L : List (View.Piece (Elt Ideal) S16x128x512 .f32))
    (hL : ∀ y, View.canon L y = S y) (q a jj : Fin 4) (r x : Fin 128) :
    lds m L q a jj (ix3 0 r x) = S (ix3 ⟨4 * a.val + jj.val, by omega⟩ r ⟨128 * q.val + x.val, by omega⟩) := by
  refine (congrFun (View.readCov_eq_canon' m.view L (Rect.unit (s := S16x128x512) ![4 * a.val + jj.val, 0, 128 * q.val] S1x128x128.size (inbS _ (by omega) q)).toLoadRect) (ix3 0 r x)).trans ((hL _).trans (congrArg S ?_))
  funext ax
  refine Fin.ext ?_
  match ax with
  | ⟨0, _⟩ => exact Nat.add_zero _
  | ⟨1, _⟩ => exact (Nat.zero_add _).trans (Nat.one_mul _)
  | ⟨2, _⟩ => exact congrArg (128 * q.val + ·) (Nat.one_mul _)

theorem ldw_at (m : Memref sig .tc .vmem S2x4x256x256 .bf16) (h : m.IsWhole) (X : Vec Ideal S2x4x256x256 .bf16) (p : Fin 2) (a : Fin 4) (i c : Fin 256) :
    ldw m h X p a (ix4 0 0 i c) = X (ix4 p a i c) := by
  refine (Memref.IsWhole.readAt_unread h X (Rect.unit (s := S2x4x256x256) ![p.val, a.val, 0, 0] S1x1x256x256.size (inbW p a)).toLoadRect (ix4 0 0 i c)).trans (congrArg X ?_)
  funext ax
  refine Fin.ext ?_
  match ax with
  | ⟨0, _⟩ => exact Nat.add_zero _
  | ⟨1, _⟩ => exact Nat.add_zero _
  | ⟨2, _⟩ => exact (Nat.zero_add _).trans (Nat.one_mul _)
  | ⟨3, _⟩ => exact (Nat.zero_add _).trans (Nat.one_mul _)

/-- What the body leaves in an output: kind and head `k`, row `r`, column `h` of the half `o`. -/
def outv (S : FVec Ideal S16x128x512 .f32) (W : Vec Ideal S2x4x256x256 .bf16) (o : Fin 2) : FVec Ideal S1x8x128x128 .f32 := fun y =>
  ∑ d : Fin 64, ∑ j : Fin 16,
    S (ix3 j ⟨(y 2).val, (y 2).isLt⟩ ⟨64 * (y 1).val + d.val, by have : (y 1).val < 8 := (y 1).isLt; omega⟩)
      * W (ix4 ⟨(y 1).val / 4, by have : (y 1).val < 8 := (y 1).isLt; omega⟩ ⟨j.val / 4, by omega⟩ ⟨j.val % 4 * 64 + d.val, by omega⟩
        ⟨128 * o.val + (y 3).val, by have : (y 3).val < 128 := (y 3).isLt; omega⟩)

/-- One store into an output, the lower half of lane tile `q`. -/
theorem out0 (S : FVec Ideal S16x128x512 .f32) (m : Memref sig .tc .vmem S16x128x512 .f32) (L : List (View.Piece (Elt Ideal) S16x128x512 .f32))
    (hL : ∀ y, View.canon L y = S y) (mw : Memref sig .tc .vmem S2x4x256x256 .bf16) (h : mw.IsWhole) (X : Vec Ideal S2x4x256x256 .bf16)
    (o : Fin 2) (off : Fin 2 → Nat) (hs : S128x256.Slices off S128x128) (hoff : off = ![0, 128 * o.val])
    (k : Fin 8) (q : Fin 4) (hk : k.val = 2 * q.val + 0) (p : Fin 2) (hp : p.val = k.val / 4) (x : S1x1x128x128.Idx) :
    head0 off hs (lds m L q) (ldw mw h X p) x = outv S X o ((Rect.unit (s := S1x8x128x128) ![0, k.val, 0, 0] S1x1x128x128.size (inbO k)).emb x) := by
  have h0 : (x 0).val < 1 := (x 0).isLt
  have h1 : (x 1).val < 1 := (x 1).isLt
  have ex : x = ix4 0 0 ⟨(x 2).val, (x 2).isLt⟩ ⟨(x 3).val, (x 3).isLt⟩ := by
    funext a
    refine Fin.ext ?_
    match a with
    | ⟨0, _⟩ => exact Nat.lt_one_iff.1 h0
    | ⟨1, _⟩ => exact Nat.lt_one_iff.1 h1
    | ⟨2, _⟩ => rfl
    | ⟨3, _⟩ => rfl
  have e1 : ((Rect.unit (s := S1x8x128x128) ![0, k.val, 0, 0] S1x1x128x128.size (inbO k)).emb x 1).val = k.val + 1 * (x 1).val := rfl
  have e2 : ((Rect.unit (s := S1x8x128x128) ![0, k.val, 0, 0] S1x1x128x128.size (inbO k)).emb x 2).val = 0 + 1 * (x 2).val := rfl
  have e3 : ((Rect.unit (s := S1x8x128x128) ![0, k.val, 0, 0] S1x1x128x128.size (inbO k)).emb x 3).val = 0 + 1 * (x 3).val := rfl
  refine (congrArg (head0 off hs (lds m L q) (ldw mw h X p)) ex).trans ?_
  refine (head0_at S X q p o off hs hoff (lds m L q) (ldw mw h X p) (fun a jj r c => lds_at S m L hL q a jj r c)
    (fun a i c => ldw_at mw h X p a i c) _ _).trans ?_
  unfold outv
  refine Finset.sum_congr rfl fun d _ => Finset.sum_congr rfl fun j _ => ?_
  simp only [e1, e2, e3]
  have b1 : (x 1).val = 0 := Nat.lt_one_iff.1 h1
  refine congrArg₂ (fun u v : EReal => u * v) (congrArg S (congrArg₂ (fun u v => ix3 j u v) (Fin.ext ?_) (Fin.ext ?_)))
    (congrArg X (congrArg₂ (fun u v => ix4 u _ _ v) (Fin.ext ?_) (Fin.ext ?_)))
  all_goals simp only
  all_goals omega

/-- One store into an output, the upper half of lane tile `q`. -/
theorem out1 (S : FVec Ideal S16x128x512 .f32) (m : Memref sig .tc .vmem S16x128x512 .f32) (L : List (View.Piece (Elt Ideal) S16x128x512 .f32))
    (hL : ∀ y, View.canon L y = S y) (mw : Memref sig .tc .vmem S2x4x256x256 .bf16) (h : mw.IsWhole) (X : Vec Ideal S2x4x256x256 .bf16)
    (o : Fin 2) (off : Fin 2 → Nat) (hs : S128x256.Slices off S128x128) (hoff : off = ![0, 128 * o.val])
    (k : Fin 8) (q : Fin 4) (hk : k.val = 2 * q.val + 1) (p : Fin 2) (hp : p.val = k.val / 4) (x : S1x1x128x128.Idx) :
    head1 off hs (lds m L q) (ldw mw h X p) x = outv S X o ((Rect.unit (s := S1x8x128x128) ![0, k.val, 0, 0] S1x1x128x128.size (inbO k)).emb x) := by
  have h0 : (x 0).val < 1 := (x 0).isLt
  have h1 : (x 1).val < 1 := (x 1).isLt
  have ex : x = ix4 0 0 ⟨(x 2).val, (x 2).isLt⟩ ⟨(x 3).val, (x 3).isLt⟩ := by
    funext a
    refine Fin.ext ?_
    match a with
    | ⟨0, _⟩ => exact Nat.lt_one_iff.1 h0
    | ⟨1, _⟩ => exact Nat.lt_one_iff.1 h1
    | ⟨2, _⟩ => rfl
    | ⟨3, _⟩ => rfl
  have e1 : ((Rect.unit (s := S1x8x128x128) ![0, k.val, 0, 0] S1x1x128x128.size (inbO k)).emb x 1).val = k.val + 1 * (x 1).val := rfl
  have e2 : ((Rect.unit (s := S1x8x128x128) ![0, k.val, 0, 0] S1x1x128x128.size (inbO k)).emb x 2).val = 0 + 1 * (x 2).val := rfl
  have e3 : ((Rect.unit (s := S1x8x128x128) ![0, k.val, 0, 0] S1x1x128x128.size (inbO k)).emb x 3).val = 0 + 1 * (x 3).val := rfl
  refine (congrArg (head1 off hs (lds m L q) (ldw mw h X p)) ex).trans ?_
  refine (head1_at S X q p o off hs hoff (lds m L q) (ldw mw h X p) (fun a jj r c => lds_at S m L hL q a jj r c)
    (fun a i c => ldw_at mw h X p a i c) _ _).trans ?_
  unfold outv
  refine Finset.sum_congr rfl fun d _ => Finset.sum_congr rfl fun j _ => ?_
  simp only [e1, e2, e3]
  have b1 : (x 1).val = 0 := Nat.lt_one_iff.1 h1
  refine congrArg₂ (fun u v : EReal => u * v) (congrArg S (congrArg₂ (fun u v => ix3 j u v) (Fin.ext ?_) (Fin.ext ?_)))
    (congrArg X (congrArg₂ (fun u v => ix4 u _ _ v) (Fin.ext ?_) (Fin.ext ?_)))
  all_goals simp only
  all_goals omega

/-- The stores of the body into output 18. -/
theorem pieces18 (c : Dev nD) (i : grid0.Coords) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S128x128 .bf16) (harg19 : arg19.IsWhole) (arg20 : Memref sig .tc .vmem S2x4x256x256 .bf16) (harg20 : arg20.IsWhole) (arg21 : Memref sig .tc .vmem S1x8x128x128 .f32) (harg21 : arg21.IsWhole) (arg22 : Memref sig .tc .vmem S1x8x128x128 .f32) (harg22 : arg22.IsWhole) (arg23 : Memref sig .tc .vmem S16x128x512 .f32) (harg23 : arg23.IsWhole)
    (x0 : Vec Ideal S512x128 .f32) (x1 : Vec Ideal S512x128 .f32) (x2 : Vec Ideal S512x128 .f32) (x3 : Vec Ideal S512x128 .f32) (x4 : Vec Ideal S512x128 .f32) (x5 : Vec Ideal S512x128 .f32) (x6 : Vec Ideal S512x128 .f32) (x7 : Vec Ideal S512x128 .f32) (x8 : Vec Ideal S512x128 .f32) (x9 : Vec Ideal S512x128 .f32) (x10 : Vec Ideal S512x128 .f32) (x11 : Vec Ideal S512x128 .f32) (x12 : Vec Ideal S512x128 .f32) (x13 : Vec Ideal S512x128 .f32) (x14 : Vec Ideal S512x128 .f32) (x15 : Vec Ideal S512x128 .f32) (x16 : Vec Ideal S128x128 .bf16) (x17 : Vec Ideal S2x4x256x256 .bf16) (xt0 : TbBuf0 (F := Ideal) c tbM0_0)
    (hM : ∀ a b : Fin 128, x16 (ix2 a b) = if b.val = 16 * (a.val % 8) + a.val / 8 then 1 else 0) :
    View.PiecesOf (outv (scr ![x0, x1, x2, x3, x4, x5, x6, x7, x8, x9, x10, x11, x12, x13, x14, x15]) x17 0) (kernelRun0_A (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17 xt0).1 := by
  dsimp only [kernelRun0_A]
  exact ⟨fun x => out1 _ arg23 _ (scratch c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16 hM) arg20 harg20 x17 0 ![0, 0] slices_S128x256_o0_0_S128x128 rfl 7 3 rfl 1 rfl x,
    fun x => out0 _ arg23 _ (scratch c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16 hM) arg20 harg20 x17 0 ![0, 0] slices_S128x256_o0_0_S128x128 rfl 6 3 rfl 1 rfl x,
    fun x => out1 _ arg23 _ (scratch c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16 hM) arg20 harg20 x17 0 ![0, 0] slices_S128x256_o0_0_S128x128 rfl 5 2 rfl 1 rfl x,
    fun x => out0 _ arg23 _ (scratch c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16 hM) arg20 harg20 x17 0 ![0, 0] slices_S128x256_o0_0_S128x128 rfl 4 2 rfl 1 rfl x,
    fun x => out1 _ arg23 _ (scratch c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16 hM) arg20 harg20 x17 0 ![0, 0] slices_S128x256_o0_0_S128x128 rfl 3 1 rfl 0 rfl x,
    fun x => out0 _ arg23 _ (scratch c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16 hM) arg20 harg20 x17 0 ![0, 0] slices_S128x256_o0_0_S128x128 rfl 2 1 rfl 0 rfl x,
    fun x => out1 _ arg23 _ (scratch c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16 hM) arg20 harg20 x17 0 ![0, 0] slices_S128x256_o0_0_S128x128 rfl 1 0 rfl 0 rfl x,
    fun x => out0 _ arg23 _ (scratch c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16 hM) arg20 harg20 x17 0 ![0, 0] slices_S128x256_o0_0_S128x128 rfl 0 0 rfl 0 rfl x,
    trivial⟩

/-- The stores of the body into output 19. -/
theorem pieces19 (c : Dev nD) (i : grid0.Coords) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S128x128 .bf16) (harg19 : arg19.IsWhole) (arg20 : Memref sig .tc .vmem S2x4x256x256 .bf16) (harg20 : arg20.IsWhole) (arg21 : Memref sig .tc .vmem S1x8x128x128 .f32) (harg21 : arg21.IsWhole) (arg22 : Memref sig .tc .vmem S1x8x128x128 .f32) (harg22 : arg22.IsWhole) (arg23 : Memref sig .tc .vmem S16x128x512 .f32) (harg23 : arg23.IsWhole)
    (x0 : Vec Ideal S512x128 .f32) (x1 : Vec Ideal S512x128 .f32) (x2 : Vec Ideal S512x128 .f32) (x3 : Vec Ideal S512x128 .f32) (x4 : Vec Ideal S512x128 .f32) (x5 : Vec Ideal S512x128 .f32) (x6 : Vec Ideal S512x128 .f32) (x7 : Vec Ideal S512x128 .f32) (x8 : Vec Ideal S512x128 .f32) (x9 : Vec Ideal S512x128 .f32) (x10 : Vec Ideal S512x128 .f32) (x11 : Vec Ideal S512x128 .f32) (x12 : Vec Ideal S512x128 .f32) (x13 : Vec Ideal S512x128 .f32) (x14 : Vec Ideal S512x128 .f32) (x15 : Vec Ideal S512x128 .f32) (x16 : Vec Ideal S128x128 .bf16) (x17 : Vec Ideal S2x4x256x256 .bf16) (xt0 : TbBuf0 (F := Ideal) c tbM0_0)
    (hM : ∀ a b : Fin 128, x16 (ix2 a b) = if b.val = 16 * (a.val % 8) + a.val / 8 then 1 else 0) :
    View.PiecesOf (outv (scr ![x0, x1, x2, x3, x4, x5, x6, x7, x8, x9, x10, x11, x12, x13, x14, x15]) x17 1) (kernelRun0_A (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17 xt0).2.1 := by
  dsimp only [kernelRun0_A]
  exact ⟨fun x => out1 _ arg23 _ (scratch c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16 hM) arg20 harg20 x17 1 ![0, 128] slices_S128x256_o0_128_S128x128 rfl 7 3 rfl 1 rfl x,
    fun x => out0 _ arg23 _ (scratch c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16 hM) arg20 harg20 x17 1 ![0, 128] slices_S128x256_o0_128_S128x128 rfl 6 3 rfl 1 rfl x,
    fun x => out1 _ arg23 _ (scratch c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16 hM) arg20 harg20 x17 1 ![0, 128] slices_S128x256_o0_128_S128x128 rfl 5 2 rfl 1 rfl x,
    fun x => out0 _ arg23 _ (scratch c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16 hM) arg20 harg20 x17 1 ![0, 128] slices_S128x256_o0_128_S128x128 rfl 4 2 rfl 1 rfl x,
    fun x => out1 _ arg23 _ (scratch c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16 hM) arg20 harg20 x17 1 ![0, 128] slices_S128x256_o0_128_S128x128 rfl 3 1 rfl 0 rfl x,
    fun x => out0 _ arg23 _ (scratch c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16 hM) arg20 harg20 x17 1 ![0, 128] slices_S128x256_o0_128_S128x128 rfl 2 1 rfl 0 rfl x,
    fun x => out1 _ arg23 _ (scratch c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16 hM) arg20 harg20 x17 1 ![0, 128] slices_S128x256_o0_128_S128x128 rfl 1 0 rfl 0 rfl x,
    fun x => out0 _ arg23 _ (scratch c arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16 hM) arg20 harg20 x17 1 ![0, 128] slices_S128x256_o0_128_S128x128 rfl 0 0 rfl 0 rfl x,
    trivial⟩

end Cert.CmpProjectIdeal.Body

end
-- ==== Proof.CmpCodes.lean ====
/- The words of the permutation that the kernel takes. -/
module

public import proofs.«01_k».proof.CmpProjectIdeal

@[expose] public section

set_option maxRecDepth 16384

noncomputable section

open Idealize.ShloMosaic

namespace Cert.CmpProjectIdeal.Blocks

open Cert.CmpProjectIdeal

/-- The permutation's codes: the words of one and zero. -/
theorem codes : ∀ n : Fin 16384, lit0 n = if n.val % 128 = 16 * (n.val / 128 % 8) + n.val / 128 / 8 then 0x3F80#16 else 0x0000#16 := by
  decide +kernel

end Cert.CmpProjectIdeal.Blocks
-- ==== Proof.CmpBlocks.lean ====
/- What the windows stage at a grid point: pages of the cache, the permutation and the weights. -/
module

public import proofs.«01_k».proof.Proof.Gen.CmpProjectIdeal.Frame
public import proofs.«01_k».proof.Proof.CmpCodes
public import Idealize.ShloMosaic.Lib.Pipeline.ValueKit
public import Idealize.ShloMosaic.Lib.Pointwise
public import Idealize.ShloMosaic.Lib.IdealHost

@[expose] public section

set_option maxRecDepth 16384

noncomputable section

open Idealize.ShloMosaic Idealize.ShloMosaic.TcCoe Idealize.SL.Sem

namespace Cert.CmpProjectIdeal.Blocks

open Cert.CmpProjectIdeal Cert.CmpProjectIdeal.Gen

variable (m : (ℓ : Loc nD τ sig) → Buf (Elt Ideal) ℓ)

/-- A grid point is a sample and a stretch of sixteen pages. -/
theorem coords_at : ∀ t : Fin grid0.N, (grid0.coords t 0).val = t.val / 8 ∧ (grid0.coords t 1).val = t.val % 8 := by
  decide +kernel

/-- The table slot that page window `p` reads at point `t`. -/
def slot (t : Fin grid0.N) (p : Fin 16) : S32x128.Idx :=
  ix2 (⟨t.val / 8, by have : t.val < 256 := t.isLt; omega⟩ : Fin 32) (⟨t.val % 8 * 16 + p.val, by omega⟩ : Fin 128)

/-- The cache as the region finds it. -/
theorem entry_x (c : Dev nD) : V m c main_v1 = (shapeCast S2621440x128 (transpose S5120x2x4x64x128 [0, 2, 3, 4, 1]
    (m ((c : Thread nD τ).loc main_arg0)) transposes_S5120x128x2x4x64_S5120x2x4x64x128_0_2_3_4_1) shapeCasts_S5120x2x4x64x128_S2621440x128 : FVec Ideal S2621440x128 .f32) := by
  show StableHlo.after hostOps0 _ _ = _
  simp only [hostOps0]
  after_results
  rfl

/-- The permutation as the region finds it. -/
theorem entry_m (c : Dev nD) : V m c main_cst = (fun i => FloatOps.ofBits .bf16 (lit0 (S128x128.rowMajor i)) : FVec Ideal S128x128 .bf16) := by
  show StableHlo.after hostOps0 _ _ = _
  simp only [hostOps0]
  after_results
  rfl

/-- The weights as the region finds them. -/
theorem entry_w (c : Dev nD) : V m c main_v7 = (truncf .bf16 (shapeCast S2x4x256x256 (concatenate S2x16x64x256 3
    [⟨S2x16x64x128, extractStridedSlice S2x16x64x128 ![0, 0, 0, 0] (shapeCast S2x32x64x128 (m ((c : Thread nD τ).loc main_arg2)) shapeCasts_S2x2048x128_S2x32x64x128) slices_S2x32x64x128_S2x16x64x128_0_0_0_0⟩,
      ⟨S2x16x64x128, extractStridedSlice S2x16x64x128 ![0, 16, 0, 0] (shapeCast S2x32x64x128 (m ((c : Thread nD τ).loc main_arg2)) shapeCasts_S2x2048x128_S2x32x64x128) slices_S2x32x64x128_S2x16x64x128_0_16_0_0⟩]
    concatenates_S2x16x64x128_S2x16x64x128_S2x16x64x256_d3) shapeCasts_S2x16x64x256_S2x4x256x256) bitsLt_bf16_f32 : FVec Ideal S2x4x256x256 .bf16) := by
  show StableHlo.after hostOps0 _ _ = _
  simp only [hostOps0]
  after_results
  rfl

/-- The staged permutation. -/
abbrev perm (hO : Ok m) (c : Dev nD) (t : Fin grid0.N) : FVec Ideal S128x128 .bf16 := iblk m hO c 16 t

/-- The staged permutation sends the token `16 * r + j` of a page to the place of row `j` of group `r`. -/
theorem perm_at (hO : Ok m) (c : Dev nD) (t : Fin grid0.N) (a b : Fin 128) :
    perm m hO c t (ix2 a b) = if b.val = 16 * (a.val % 8) + a.val / 8 then 1 else 0 := by
  have i0 : ((cfgM m hO).win 16).index t = ![0, 0] := rfl
  have e0 : (((((cfgM m hO).win 16).blk t).view.emb (ix2 a b) : S128x128.Idx) (0 : Fin 2)).val = a.val := by blk_simp [i0]
  have e1 : (((((cfgM m hO).win 16).blk t).view.emb (ix2 a b) : S128x128.Idx) (1 : Fin 2)).val = b.val := by blk_simp [i0]
  have e : @Eq S128x128.Idx ((((cfgM m hO).win 16).blk t).view.emb (ix2 a b)) (ix2 a b) := by
    funext x
    match x with
    | ⟨0, _⟩ => exact Fin.ext e0
    | ⟨1, _⟩ => exact Fin.ext e1
  refine (congrArg (V m c main_cst) e).trans ?_
  rw [entry_m]
  have r : S128x128.rowMajor (ix2 a b) = (⟨a.val * 128 + b.val, by omega⟩ : Fin 16384) :=
    Fin.ext (Shape.rowMajor_val_two (d := ![128, 128]) (ix2 a b))
  have h := codes ⟨a.val * 128 + b.val, by omega⟩
  have h1 : (a.val * 128 + b.val) % 128 = b.val := by omega
  have h2 : (a.val * 128 + b.val) / 128 = a.val := by omega
  rw [h1, h2] at h
  show Ideal.ofBits .bf16 (lit0 (S128x128.rowMajor (ix2 a b))) = _
  rw [r, h]
  split
  · exact Ideal.ofBits_one_bf16
  · exact Ideal.ofBits_zero_bf16

/-- The slot of the table that page window `p`'s index map loads. -/
theorem slot_eq (t : Fin grid0.N) (p : Fin 16) (h) (h1 : 0 < (Rect.unit (s := S32x128) (k0_off1 (grid0.coords t) (BitVec.ofNat 32 p.val)) S1x1.size h).shape.numel) :
    (Rect.unit (s := S32x128) (k0_off1 (grid0.coords t) (BitVec.ofNat 32 p.val)) S1x1.size h).emb (Shape.Idx.first h1) = slot t p := by
  have c0 : ∀ b : Fin 32, (Scalar.indexCast (BitVec.ofNat 32 b.val)).toNat = b.val := by decide +kernel
  have c1 : ∀ (b : Fin 8) (p : Fin 16), (Scalar.indexCast (Scalar.addi (Scalar.muli (BitVec.ofNat 32 b.val) 16#32) (BitVec.ofNat 32 p.val))).toNat = b.val * 16 + p.val := by decide +kernel
  have d0 := (c0 (grid0.coords t 0)).trans (coords_at t).1
  have d1 := (c1 (grid0.coords t 1) p).trans (congrArg (· * 16 + p.val) (coords_at t).2)
  have f : ∀ (s : Shape) (hs : 0 < s.numel) (a : Fin s.rank), (Shape.Idx.first hs a).val = 0 := fun _ _ _ => rfl
  funext x
  match x with
  | ⟨0, _⟩ => exact Fin.ext ((congrArg (_ + 1 * ·) (f _ _ _)).trans d0)
  | ⟨1, _⟩ => exact Fin.ext ((congrArg (_ + 1 * ·) (f _ _ _)).trans d1)

/-- The cache's rows, read in the argument. -/
theorem row_at (x : FVec Ideal S5120x128x2x4x64 .f32) (n : Fin 5120) (l : Fin 512) (k : Fin 128) (h) :
    (shapeCast S2621440x128 (transpose S5120x2x4x64x128 [0, 2, 3, 4, 1] x transposes_S5120x128x2x4x64_S5120x2x4x64x128_0_2_3_4_1)
      shapeCasts_S5120x2x4x64x128_S2621440x128 : FVec Ideal S2621440x128 .f32) (ix2 ⟨n.val * 512 + l.val, h⟩ k)
      = x (ix5 n k (⟨l.val / 256, by omega⟩ : Fin 2) (⟨l.val / 64 % 4, by omega⟩ : Fin 4) (⟨l.val % 64, by omega⟩ : Fin 64)) := by
  have a1 : (n.val * 512 + l.val) / 256 % 2 = l.val / 256 := by omega
  have a2 : (n.val * 512 + l.val) / 64 % 4 = l.val / 64 % 4 := by omega
  have a3 : (n.val * 512 + l.val) % 64 = l.val % 64 := by omega
  pointwise
  simp only [a1, a2, a3]

/-- The weights by head, row of a quarter group and half, read in the argument. -/
theorem weight_at (w : FVec Ideal S2x2048x128 .f32) (i : Fin 2) (a : Fin 4) (r e : Fin 256) :
    (truncf .bf16 (shapeCast S2x4x256x256 (concatenate S2x16x64x256 3
    [⟨S2x16x64x128, extractStridedSlice S2x16x64x128 ![0, 0, 0, 0] (shapeCast S2x32x64x128 w shapeCasts_S2x2048x128_S2x32x64x128) slices_S2x32x64x128_S2x16x64x128_0_0_0_0⟩,
      ⟨S2x16x64x128, extractStridedSlice S2x16x64x128 ![0, 16, 0, 0] (shapeCast S2x32x64x128 w shapeCasts_S2x2048x128_S2x32x64x128) slices_S2x32x64x128_S2x16x64x128_0_16_0_0⟩]
    concatenates_S2x16x64x128_S2x16x64x128_S2x16x64x256_d3) shapeCasts_S2x16x64x256_S2x4x256x256) bitsLt_bf16_f32 : FVec Ideal S2x4x256x256 .bf16) (ix4 i a r e)
      = w (ix3 i (⟨(16 * (e.val / 128) + 4 * a.val + r.val / 64) * 64 + r.val % 64, by omega⟩ : Fin 2048) (⟨e.val % 128, by omega⟩ : Fin 128)) := by
  pointwise
  split
  · rename_i h
    have a1 : (16 * (e.val / 128) + 4 * a.val + r.val / 64) * 64 + r.val % 64 = (a.val * 4 + r.val / 64) * 64 + r.val % 64 := by omega
    have a2 : e.val % 128 = e.val := by omega
    simp only [a1, a2]
  · rename_i h
    have a1 : (16 * (e.val / 128) + 4 * a.val + r.val / 64) * 64 + r.val % 64 = (16 + (a.val * 4 + r.val / 64)) * 64 + r.val % 64 := by omega
    have a2 : e.val % 128 = e.val - 128 := by omega
    simp only [a1, a2]

/-- The staged weights. -/
abbrev weights (hO : Ok m) (c : Dev nD) (t : Fin grid0.N) : FVec Ideal S2x4x256x256 .bf16 := iblk m hO c 17 t

/-- The staged weights, read in the argument. -/
theorem weights_at (hO : Ok m) (c : Dev nD) (t : Fin grid0.N) (i : Fin 2) (a : Fin 4) (r e : Fin 256) :
    weights m hO c t (ix4 i a r e) = m ((c : Thread nD τ).loc main_arg2)
      (ix3 i (⟨(16 * (e.val / 128) + 4 * a.val + r.val / 64) * 64 + r.val % 64, by omega⟩ : Fin 2048) (⟨e.val % 128, by omega⟩ : Fin 128)) := by
  have i0 : ((cfgM m hO).win 17).index t = ![0, 0, 0, 0] := rfl
  have e0 : (((((cfgM m hO).win 17).blk t).view.emb (ix4 i a r e) : S2x4x256x256.Idx) (0 : Fin 4)).val = i.val := by blk_simp [i0]
  have e1 : (((((cfgM m hO).win 17).blk t).view.emb (ix4 i a r e) : S2x4x256x256.Idx) (1 : Fin 4)).val = a.val := by blk_simp [i0]
  have e2 : (((((cfgM m hO).win 17).blk t).view.emb (ix4 i a r e) : S2x4x256x256.Idx) (2 : Fin 4)).val = r.val := by blk_simp [i0]
  have e3 : (((((cfgM m hO).win 17).blk t).view.emb (ix4 i a r e) : S2x4x256x256.Idx) (3 : Fin 4)).val = e.val := by blk_simp [i0]
  have q : @Eq S2x4x256x256.Idx ((((cfgM m hO).win 17).blk t).view.emb (ix4 i a r e)) (ix4 i a r e) := by
    funext x
    match x with
    | ⟨0, _⟩ => exact Fin.ext e0
    | ⟨1, _⟩ => exact Fin.ext e1
    | ⟨2, _⟩ => exact Fin.ext e2
    | ⟨3, _⟩ => exact Fin.ext e3
  refine (congrArg (V m c main_v7) q).trans ?_
  rw [entry_w]
  exact weight_at _ i a r e

/-- The page that a table slot names, as rows of channels by tokens. -/
def pageOf (hw : ∀ y, (tbl m 0 y : BitVec 32).toNat < 5120) (c : Dev nD) (t : Fin grid0.N) (p : Fin 16) : FVec Ideal S512x128 .f32 := fun y =>
  have hy : (y 0 : Fin 512).val < 512 := (y 0 : Fin 512).isLt
  m ((c : Thread nD τ).loc main_arg0) (ix5 (⟨(tbl m 0 (slot t p) : BitVec 32).toNat, hw _⟩ : Fin 5120) (y 1 : Fin 128)
    (⟨(y 0 : Fin 512).val / 256, by omega⟩ : Fin 2) (⟨(y 0 : Fin 512).val / 64 % 4, by omega⟩ : Fin 4) (⟨(y 0 : Fin 512).val % 64, by omega⟩ : Fin 64))

/-- The cache at a row of a named page. -/
theorem read_page (hw : ∀ y, (tbl m 0 y : BitVec 32).toNat < 5120) (c : Dev nD) (t : Fin grid0.N) (p : Fin 16) (l : Fin 512) (k : Fin 128)
    (z : S2621440x128.Idx) (e0 : (z (0 : Fin 2)).val = (tbl m 0 (slot t p) : BitVec 32).toNat * 512 + l.val) (e1 : (z (1 : Fin 2)).val = k.val) :
    V m c main_v1 z = pageOf m hw c t p (ix2 l k) := by
  have hl : (tbl m 0 (slot t p) : BitVec 32).toNat * 512 + l.val < 2621440 := by have := hw (slot t p); omega
  have e : z = ix2 ⟨(tbl m 0 (slot t p) : BitVec 32).toNat * 512 + l.val, hl⟩ k := by
    funext x
    match x with
    | ⟨0, _⟩ => exact Fin.ext e0
    | ⟨1, _⟩ => exact Fin.ext e1
  rw [e, entry_x]
  exact row_at _ ⟨(tbl m 0 (slot t p) : BitVec 32).toNat, hw _⟩ l k hl

/-- Page window 3's block is the page that its table slot names. -/
theorem page3 (hO : Ok m) (hw : ∀ y, (tbl m 0 y : BitVec 32).toNat < 5120) (c : Dev nD) (t : Fin grid0.N) (l : Fin 512) (k : Fin 128) :
    (iblk m hO c 3 t : FVec Ideal S512x128 .f32) (ix2 l k) = pageOf m hw c t 3 (ix2 l k) := by
  have i0 : ((cfgM m hO).win 3).index t = ![(tbl m 0 (slot t 3) : BitVec 32).toNat, 0] :=
    (congrArg (fun s => ![(tbl m 0 s : BitVec 32).toNat, 0]) (slot_eq t 3 _ _) :)
  have e0 : (((((cfgM m hO).win 3).blk t).view.emb (ix2 l k) : S2621440x128.Idx) (0 : Fin 2)).val = (tbl m 0 (slot t 3) : BitVec 32).toNat * 512 + l.val := by blk_simp [i0]
  have e1 : (((((cfgM m hO).win 3).blk t).view.emb (ix2 l k) : S2621440x128.Idx) (1 : Fin 2)).val = k.val := by blk_simp [i0]
  exact read_page m hw c t 3 l k _ e0 e1

end Cert.CmpProjectIdeal.Blocks
-- ==== Proof.CmpPages.lean ====
/- The sixteen page windows' blocks, read in the cache. -/
module

public import proofs.«01_k».proof.Proof.CmpBlocks

@[expose] public section

set_option maxRecDepth 16384

noncomputable section

open Idealize.ShloMosaic Idealize.ShloMosaic.TcCoe Idealize.SL.Sem

namespace Cert.CmpProjectIdeal.Blocks

open Cert.CmpProjectIdeal Cert.CmpProjectIdeal.Gen

variable (m : (ℓ : Loc nD τ sig) → Buf (Elt Ideal) ℓ)

/-- Page window 0's block is the page that its table slot names. -/
theorem page0 (hO : Ok m) (hw : ∀ y, (tbl m 0 y : BitVec 32).toNat < 5120) (c : Dev nD) (t : Fin grid0.N) (l : Fin 512) (k : Fin 128) :
    (iblk m hO c 0 t : FVec Ideal S512x128 .f32) (ix2 l k) = pageOf m hw c t 0 (ix2 l k) := by
  have i0 : ((cfgM m hO).win 0).index t = ![(tbl m 0 (slot t 0) : BitVec 32).toNat, 0] :=
    (congrArg (fun s => ![(tbl m 0 s : BitVec 32).toNat, 0]) (slot_eq t 0 _ _) :)
  have e0 : (((((cfgM m hO).win 0).blk t).view.emb (ix2 l k) : S2621440x128.Idx) (0 : Fin 2)).val = (tbl m 0 (slot t 0) : BitVec 32).toNat * 512 + l.val := by blk_simp [i0]
  have e1 : (((((cfgM m hO).win 0).blk t).view.emb (ix2 l k) : S2621440x128.Idx) (1 : Fin 2)).val = k.val := by blk_simp [i0]
  exact read_page m hw c t 0 l k _ e0 e1

/-- Page window 1's block is the page that its table slot names. -/
theorem page1 (hO : Ok m) (hw : ∀ y, (tbl m 0 y : BitVec 32).toNat < 5120) (c : Dev nD) (t : Fin grid0.N) (l : Fin 512) (k : Fin 128) :
    (iblk m hO c 1 t : FVec Ideal S512x128 .f32) (ix2 l k) = pageOf m hw c t 1 (ix2 l k) := by
  have i0 : ((cfgM m hO).win 1).index t = ![(tbl m 0 (slot t 1) : BitVec 32).toNat, 0] :=
    (congrArg (fun s => ![(tbl m 0 s : BitVec 32).toNat, 0]) (slot_eq t 1 _ _) :)
  have e0 : (((((cfgM m hO).win 1).blk t).view.emb (ix2 l k) : S2621440x128.Idx) (0 : Fin 2)).val = (tbl m 0 (slot t 1) : BitVec 32).toNat * 512 + l.val := by blk_simp [i0]
  have e1 : (((((cfgM m hO).win 1).blk t).view.emb (ix2 l k) : S2621440x128.Idx) (1 : Fin 2)).val = k.val := by blk_simp [i0]
  exact read_page m hw c t 1 l k _ e0 e1

/-- Page window 2's block is the page that its table slot names. -/
theorem page2 (hO : Ok m) (hw : ∀ y, (tbl m 0 y : BitVec 32).toNat < 5120) (c : Dev nD) (t : Fin grid0.N) (l : Fin 512) (k : Fin 128) :
    (iblk m hO c 2 t : FVec Ideal S512x128 .f32) (ix2 l k) = pageOf m hw c t 2 (ix2 l k) := by
  have i0 : ((cfgM m hO).win 2).index t = ![(tbl m 0 (slot t 2) : BitVec 32).toNat, 0] :=
    (congrArg (fun s => ![(tbl m 0 s : BitVec 32).toNat, 0]) (slot_eq t 2 _ _) :)
  have e0 : (((((cfgM m hO).win 2).blk t).view.emb (ix2 l k) : S2621440x128.Idx) (0 : Fin 2)).val = (tbl m 0 (slot t 2) : BitVec 32).toNat * 512 + l.val := by blk_simp [i0]
  have e1 : (((((cfgM m hO).win 2).blk t).view.emb (ix2 l k) : S2621440x128.Idx) (1 : Fin 2)).val = k.val := by blk_simp [i0]
  exact read_page m hw c t 2 l k _ e0 e1

/-- Page window 4's block is the page that its table slot names. -/
theorem page4 (hO : Ok m) (hw : ∀ y, (tbl m 0 y : BitVec 32).toNat < 5120) (c : Dev nD) (t : Fin grid0.N) (l : Fin 512) (k : Fin 128) :
    (iblk m hO c 4 t : FVec Ideal S512x128 .f32) (ix2 l k) = pageOf m hw c t 4 (ix2 l k) := by
  have i0 : ((cfgM m hO).win 4).index t = ![(tbl m 0 (slot t 4) : BitVec 32).toNat, 0] :=
    (congrArg (fun s => ![(tbl m 0 s : BitVec 32).toNat, 0]) (slot_eq t 4 _ _) :)
  have e0 : (((((cfgM m hO).win 4).blk t).view.emb (ix2 l k) : S2621440x128.Idx) (0 : Fin 2)).val = (tbl m 0 (slot t 4) : BitVec 32).toNat * 512 + l.val := by blk_simp [i0]
  have e1 : (((((cfgM m hO).win 4).blk t).view.emb (ix2 l k) : S2621440x128.Idx) (1 : Fin 2)).val = k.val := by blk_simp [i0]
  exact read_page m hw c t 4 l k _ e0 e1

/-- Page window 5's block is the page that its table slot names. -/
theorem page5 (hO : Ok m) (hw : ∀ y, (tbl m 0 y : BitVec 32).toNat < 5120) (c : Dev nD) (t : Fin grid0.N) (l : Fin 512) (k : Fin 128) :
    (iblk m hO c 5 t : FVec Ideal S512x128 .f32) (ix2 l k) = pageOf m hw c t 5 (ix2 l k) := by
  have i0 : ((cfgM m hO).win 5).index t = ![(tbl m 0 (slot t 5) : BitVec 32).toNat, 0] :=
    (congrArg (fun s => ![(tbl m 0 s : BitVec 32).toNat, 0]) (slot_eq t 5 _ _) :)
  have e0 : (((((cfgM m hO).win 5).blk t).view.emb (ix2 l k) : S2621440x128.Idx) (0 : Fin 2)).val = (tbl m 0 (slot t 5) : BitVec 32).toNat * 512 + l.val := by blk_simp [i0]
  have e1 : (((((cfgM m hO).win 5).blk t).view.emb (ix2 l k) : S2621440x128.Idx) (1 : Fin 2)).val = k.val := by blk_simp [i0]
  exact read_page m hw c t 5 l k _ e0 e1

/-- Page window 6's block is the page that its table slot names. -/
theorem page6 (hO : Ok m) (hw : ∀ y, (tbl m 0 y : BitVec 32).toNat < 5120) (c : Dev nD) (t : Fin grid0.N) (l : Fin 512) (k : Fin 128) :
    (iblk m hO c 6 t : FVec Ideal S512x128 .f32) (ix2 l k) = pageOf m hw c t 6 (ix2 l k) := by
  have i0 : ((cfgM m hO).win 6).index t = ![(tbl m 0 (slot t 6) : BitVec 32).toNat, 0] :=
    (congrArg (fun s => ![(tbl m 0 s : BitVec 32).toNat, 0]) (slot_eq t 6 _ _) :)
  have e0 : (((((cfgM m hO).win 6).blk t).view.emb (ix2 l k) : S2621440x128.Idx) (0 : Fin 2)).val = (tbl m 0 (slot t 6) : BitVec 32).toNat * 512 + l.val := by blk_simp [i0]
  have e1 : (((((cfgM m hO).win 6).blk t).view.emb (ix2 l k) : S2621440x128.Idx) (1 : Fin 2)).val = k.val := by blk_simp [i0]
  exact read_page m hw c t 6 l k _ e0 e1

/-- Page window 7's block is the page that its table slot names. -/
theorem page7 (hO : Ok m) (hw : ∀ y, (tbl m 0 y : BitVec 32).toNat < 5120) (c : Dev nD) (t : Fin grid0.N) (l : Fin 512) (k : Fin 128) :
    (iblk m hO c 7 t : FVec Ideal S512x128 .f32) (ix2 l k) = pageOf m hw c t 7 (ix2 l k) := by
  have i0 : ((cfgM m hO).win 7).index t = ![(tbl m 0 (slot t 7) : BitVec 32).toNat, 0] :=
    (congrArg (fun s => ![(tbl m 0 s : BitVec 32).toNat, 0]) (slot_eq t 7 _ _) :)
  have e0 : (((((cfgM m hO).win 7).blk t).view.emb (ix2 l k) : S2621440x128.Idx) (0 : Fin 2)).val = (tbl m 0 (slot t 7) : BitVec 32).toNat * 512 + l.val := by blk_simp [i0]
  have e1 : (((((cfgM m hO).win 7).blk t).view.emb (ix2 l k) : S2621440x128.Idx) (1 : Fin 2)).val = k.val := by blk_simp [i0]
  exact read_page m hw c t 7 l k _ e0 e1

/-- Page window 8's block is the page that its table slot names. -/
theorem page8 (hO : Ok m) (hw : ∀ y, (tbl m 0 y : BitVec 32).toNat < 5120) (c : Dev nD) (t : Fin grid0.N) (l : Fin 512) (k : Fin 128) :
    (iblk m hO c 8 t : FVec Ideal S512x128 .f32) (ix2 l k) = pageOf m hw c t 8 (ix2 l k) := by
  have i0 : ((cfgM m hO).win 8).index t = ![(tbl m 0 (slot t 8) : BitVec 32).toNat, 0] :=
    (congrArg (fun s => ![(tbl m 0 s : BitVec 32).toNat, 0]) (slot_eq t 8 _ _) :)
  have e0 : (((((cfgM m hO).win 8).blk t).view.emb (ix2 l k) : S2621440x128.Idx) (0 : Fin 2)).val = (tbl m 0 (slot t 8) : BitVec 32).toNat * 512 + l.val := by blk_simp [i0]
  have e1 : (((((cfgM m hO).win 8).blk t).view.emb (ix2 l k) : S2621440x128.Idx) (1 : Fin 2)).val = k.val := by blk_simp [i0]
  exact read_page m hw c t 8 l k _ e0 e1

/-- Page window 9's block is the page that its table slot names. -/
theorem page9 (hO : Ok m) (hw : ∀ y, (tbl m 0 y : BitVec 32).toNat < 5120) (c : Dev nD) (t : Fin grid0.N) (l : Fin 512) (k : Fin 128) :
    (iblk m hO c 9 t : FVec Ideal S512x128 .f32) (ix2 l k) = pageOf m hw c t 9 (ix2 l k) := by
  have i0 : ((cfgM m hO).win 9).index t = ![(tbl m 0 (slot t 9) : BitVec 32).toNat, 0] :=
    (congrArg (fun s => ![(tbl m 0 s : BitVec 32).toNat, 0]) (slot_eq t 9 _ _) :)
  have e0 : (((((cfgM m hO).win 9).blk t).view.emb (ix2 l k) : S2621440x128.Idx) (0 : Fin 2)).val = (tbl m 0 (slot t 9) : BitVec 32).toNat * 512 + l.val := by blk_simp [i0]
  have e1 : (((((cfgM m hO).win 9).blk t).view.emb (ix2 l k) : S2621440x128.Idx) (1 : Fin 2)).val = k.val := by blk_simp [i0]
  exact read_page m hw c t 9 l k _ e0 e1

/-- Page window 10's block is the page that its table slot names. -/
theorem page10 (hO : Ok m) (hw : ∀ y, (tbl m 0 y : BitVec 32).toNat < 5120) (c : Dev nD) (t : Fin grid0.N) (l : Fin 512) (k : Fin 128) :
    (iblk m hO c 10 t : FVec Ideal S512x128 .f32) (ix2 l k) = pageOf m hw c t 10 (ix2 l k) := by
  have i0 : ((cfgM m hO).win 10).index t = ![(tbl m 0 (slot t 10) : BitVec 32).toNat, 0] :=
    (congrArg (fun s => ![(tbl m 0 s : BitVec 32).toNat, 0]) (slot_eq t 10 _ _) :)
  have e0 : (((((cfgM m hO).win 10).blk t).view.emb (ix2 l k) : S2621440x128.Idx) (0 : Fin 2)).val = (tbl m 0 (slot t 10) : BitVec 32).toNat * 512 + l.val := by blk_simp [i0]
  have e1 : (((((cfgM m hO).win 10).blk t).view.emb (ix2 l k) : S2621440x128.Idx) (1 : Fin 2)).val = k.val := by blk_simp [i0]
  exact read_page m hw c t 10 l k _ e0 e1

/-- Page window 11's block is the page that its table slot names. -/
theorem page11 (hO : Ok m) (hw : ∀ y, (tbl m 0 y : BitVec 32).toNat < 5120) (c : Dev nD) (t : Fin grid0.N) (l : Fin 512) (k : Fin 128) :
    (iblk m hO c 11 t : FVec Ideal S512x128 .f32) (ix2 l k) = pageOf m hw c t 11 (ix2 l k) := by
  have i0 : ((cfgM m hO).win 11).index t = ![(tbl m 0 (slot t 11) : BitVec 32).toNat, 0] :=
    (congrArg (fun s => ![(tbl m 0 s : BitVec 32).toNat, 0]) (slot_eq t 11 _ _) :)
  have e0 : (((((cfgM m hO).win 11).blk t).view.emb (ix2 l k) : S2621440x128.Idx) (0 : Fin 2)).val = (tbl m 0 (slot t 11) : BitVec 32).toNat * 512 + l.val := by blk_simp [i0]
  have e1 : (((((cfgM m hO).win 11).blk t).view.emb (ix2 l k) : S2621440x128.Idx) (1 : Fin 2)).val = k.val := by blk_simp [i0]
  exact read_page m hw c t 11 l k _ e0 e1

/-- Page window 12's block is the page that its table slot names. -/
theorem page12 (hO : Ok m) (hw : ∀ y, (tbl m 0 y : BitVec 32).toNat < 5120) (c : Dev nD) (t : Fin grid0.N) (l : Fin 512) (k : Fin 128) :
    (iblk m hO c 12 t : FVec Ideal S512x128 .f32) (ix2 l k) = pageOf m hw c t 12 (ix2 l k) := by
  have i0 : ((cfgM m hO).win 12).index t = ![(tbl m 0 (slot t 12) : BitVec 32).toNat, 0] :=
    (congrArg (fun s => ![(tbl m 0 s : BitVec 32).toNat, 0]) (slot_eq t 12 _ _) :)
  have e0 : (((((cfgM m hO).win 12).blk t).view.emb (ix2 l k) : S2621440x128.Idx) (0 : Fin 2)).val = (tbl m 0 (slot t 12) : BitVec 32).toNat * 512 + l.val := by blk_simp [i0]
  have e1 : (((((cfgM m hO).win 12).blk t).view.emb (ix2 l k) : S2621440x128.Idx) (1 : Fin 2)).val = k.val := by blk_simp [i0]
  exact read_page m hw c t 12 l k _ e0 e1

/-- Page window 13's block is the page that its table slot names. -/
theorem page13 (hO : Ok m) (hw : ∀ y, (tbl m 0 y : BitVec 32).toNat < 5120) (c : Dev nD) (t : Fin grid0.N) (l : Fin 512) (k : Fin 128) :
    (iblk m hO c 13 t : FVec Ideal S512x128 .f32) (ix2 l k) = pageOf m hw c t 13 (ix2 l k) := by
  have i0 : ((cfgM m hO).win 13).index t = ![(tbl m 0 (slot t 13) : BitVec 32).toNat, 0] :=
    (congrArg (fun s => ![(tbl m 0 s : BitVec 32).toNat, 0]) (slot_eq t 13 _ _) :)
  have e0 : (((((cfgM m hO).win 13).blk t).view.emb (ix2 l k) : S2621440x128.Idx) (0 : Fin 2)).val = (tbl m 0 (slot t 13) : BitVec 32).toNat * 512 + l.val := by blk_simp [i0]
  have e1 : (((((cfgM m hO).win 13).blk t).view.emb (ix2 l k) : S2621440x128.Idx) (1 : Fin 2)).val = k.val := by blk_simp [i0]
  exact read_page m hw c t 13 l k _ e0 e1

/-- Page window 14's block is the page that its table slot names. -/
theorem page14 (hO : Ok m) (hw : ∀ y, (tbl m 0 y : BitVec 32).toNat < 5120) (c : Dev nD) (t : Fin grid0.N) (l : Fin 512) (k : Fin 128) :
    (iblk m hO c 14 t : FVec Ideal S512x128 .f32) (ix2 l k) = pageOf m hw c t 14 (ix2 l k) := by
  have i0 : ((cfgM m hO).win 14).index t = ![(tbl m 0 (slot t 14) : BitVec 32).toNat, 0] :=
    (congrArg (fun s => ![(tbl m 0 s : BitVec 32).toNat, 0]) (slot_eq t 14 _ _) :)
  have e0 : (((((cfgM m hO).win 14).blk t).view.emb (ix2 l k) : S2621440x128.Idx) (0 : Fin 2)).val = (tbl m 0 (slot t 14) : BitVec 32).toNat * 512 + l.val := by blk_simp [i0]
  have e1 : (((((cfgM m hO).win 14).blk t).view.emb (ix2 l k) : S2621440x128.Idx) (1 : Fin 2)).val = k.val := by blk_simp [i0]
  exact read_page m hw c t 14 l k _ e0 e1

/-- Page window 15's block is the page that its table slot names. -/
theorem page15 (hO : Ok m) (hw : ∀ y, (tbl m 0 y : BitVec 32).toNat < 5120) (c : Dev nD) (t : Fin grid0.N) (l : Fin 512) (k : Fin 128) :
    (iblk m hO c 15 t : FVec Ideal S512x128 .f32) (ix2 l k) = pageOf m hw c t 15 (ix2 l k) := by
  have i0 : ((cfgM m hO).win 15).index t = ![(tbl m 0 (slot t 15) : BitVec 32).toNat, 0] :=
    (congrArg (fun s => ![(tbl m 0 s : BitVec 32).toNat, 0]) (slot_eq t 15 _ _) :)
  have e0 : (((((cfgM m hO).win 15).blk t).view.emb (ix2 l k) : S2621440x128.Idx) (0 : Fin 2)).val = (tbl m 0 (slot t 15) : BitVec 32).toNat * 512 + l.val := by blk_simp [i0]
  have e1 : (((((cfgM m hO).win 15).blk t).view.emb (ix2 l k) : S2621440x128.Idx) (1 : Fin 2)).val = k.val := by blk_simp [i0]
  exact read_page m hw c t 15 l k _ e0 e1

/-- A family of sixteen is its list of members. -/
theorem family {α : Type} (a0 a1 a2 a3 a4 a5 a6 a7 a8 a9 a10 a11 a12 a13 a14 a15 : α) (f : Fin 16 → α) (h0 : a0 = f 0) (h1 : a1 = f 1) (h2 : a2 = f 2) (h3 : a3 = f 3) (h4 : a4 = f 4) (h5 : a5 = f 5) (h6 : a6 = f 6) (h7 : a7 = f 7) (h8 : a8 = f 8) (h9 : a9 = f 9) (h10 : a10 = f 10) (h11 : a11 = f 11) (h12 : a12 = f 12) (h13 : a13 = f 13) (h14 : a14 = f 14) (h15 : a15 = f 15) :
    ![a0, a1, a2, a3, a4, a5, a6, a7, a8, a9, a10, a11, a12, a13, a14, a15] = f := by
  subst h0 h1 h2 h3 h4 h5 h6 h7 h8 h9 h10 h11 h12 h13 h14 h15
  funext p
  fin_cases p <;> rfl

/-- Two blocks of rows equal at every row and column are equal. -/
theorem rows_ext (A B : FVec Ideal S512x128 .f32) (h : ∀ l k, A (ix2 l k) = B (ix2 l k)) : A = B := by
  funext y
  have e : y = ix2 (y 0) (y 1) := by
    funext x
    match x with
    | ⟨0, _⟩ => rfl
    | ⟨1, _⟩ => rfl
  rw [e]
  exact h _ _

/-- The sixteen staged pages, as a family. -/
abbrev pagesAt (hO : Ok m) (c : Dev nD) (t : Fin grid0.N) : Fin 16 → FVec Ideal S512x128 .f32 :=
  ![iblk m hO c 0 t, iblk m hO c 1 t, iblk m hO c 2 t, iblk m hO c 3 t, iblk m hO c 4 t, iblk m hO c 5 t, iblk m hO c 6 t, iblk m hO c 7 t, iblk m hO c 8 t, iblk m hO c 9 t, iblk m hO c 10 t, iblk m hO c 11 t, iblk m hO c 12 t, iblk m hO c 13 t, iblk m hO c 14 t, iblk m hO c 15 t]

/-- Each member of the family is the page that its table slot names. -/
theorem pagesAt_eq (hO : Ok m) (hw : ∀ y, (tbl m 0 y : BitVec 32).toNat < 5120) (c : Dev nD) (t : Fin grid0.N) :
    pagesAt m hO c t = pageOf m hw c t :=
  family _ _ _ _ _ _ _ _ _ _ _ _ _ _ _ _ _
    (rows_ext _ _ (page0 m hO hw c t))
    (rows_ext _ _ (page1 m hO hw c t))
    (rows_ext _ _ (page2 m hO hw c t))
    (rows_ext _ _ (page3 m hO hw c t))
    (rows_ext _ _ (page4 m hO hw c t))
    (rows_ext _ _ (page5 m hO hw c t))
    (rows_ext _ _ (page6 m hO hw c t))
    (rows_ext _ _ (page7 m hO hw c t))
    (rows_ext _ _ (page8 m hO hw c t))
    (rows_ext _ _ (page9 m hO hw c t))
    (rows_ext _ _ (page10 m hO hw c t))
    (rows_ext _ _ (page11 m hO hw c t))
    (rows_ext _ _ (page12 m hO hw c t))
    (rows_ext _ _ (page13 m hO hw c t))
    (rows_ext _ _ (page14 m hO hw c t))
    (rows_ext _ _ (page15 m hO hw c t))

end Cert.CmpProjectIdeal.Blocks
-- ==== Proof.CmpProject.lean ====
/- The compressed-token projection: the arrays that the kernel leaves are the reference's two results. -/
module

public import proofs.«01_k».proof.Defs
public import proofs.«01_k».proof.Proof.Gen.CmpProjectRefIdeal
public import proofs.«01_k».proof.Proof.CmpOk
public import proofs.«01_k».proof.Proof.CmpRef
public import proofs.«01_k».proof.Proof.CmpOut
public import proofs.«01_k».proof.Proof.CmpPages
public import Idealize.ShloMosaic.Lib.Pipeline.ValueKit
public import Idealize.ShloMosaic.Lib.Pipeline.Covers
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Cert.CmpProjectRefIdeal.Read (refU refS refU_at refS_at term)

namespace Cert.CmpProjectIdeal.Blocks

open Cert.CmpProjectIdeal Cert.CmpProjectIdeal.Gen Cert.CmpProjectIdeal.Body

variable (m : (ℓ : Loc nD τ sig) → Buf (Elt Ideal) ℓ)

/-- The stores into output 18's block, read back. -/
theorem left18 (c : Dev nD) (i : grid0.Coords) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S128x128 .bf16) (harg19 : arg19.IsWhole) (arg20 : Memref sig .tc .vmem S2x4x256x256 .bf16) (harg20 : arg20.IsWhole) (arg21 : Memref sig .tc .vmem S1x8x128x128 .f32) (harg21 : arg21.IsWhole) (arg22 : Memref sig .tc .vmem S1x8x128x128 .f32) (harg22 : arg22.IsWhole) (arg23 : Memref sig .tc .vmem S16x128x512 .f32) (harg23 : arg23.IsWhole)
    (x0 : Vec Ideal S512x128 .f32) (x1 : Vec Ideal S512x128 .f32) (x2 : Vec Ideal S512x128 .f32) (x3 : Vec Ideal S512x128 .f32) (x4 : Vec Ideal S512x128 .f32) (x5 : Vec Ideal S512x128 .f32) (x6 : Vec Ideal S512x128 .f32) (x7 : Vec Ideal S512x128 .f32) (x8 : Vec Ideal S512x128 .f32) (x9 : Vec Ideal S512x128 .f32) (x10 : Vec Ideal S512x128 .f32) (x11 : Vec Ideal S512x128 .f32) (x12 : Vec Ideal S512x128 .f32) (x13 : Vec Ideal S512x128 .f32) (x14 : Vec Ideal S512x128 .f32) (x15 : Vec Ideal S512x128 .f32) (x16 : Vec Ideal S128x128 .bf16) (x17 : Vec Ideal S2x4x256x256 .bf16) (xt0 : TbBuf0 (F := Ideal) c tbM0_0)
    (hM : ∀ a b : Fin 128, x16 (ix2 a b) = if b.val = 16 * (a.val % 8) + a.val / 8 then 1 else 0) (y : S1x8x128x128.Idx) :
    out0_A_18 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17 xt0 y = outv (scr ![x0, x1, x2, x3, x4, x5, x6, x7, x8, x9, x10, x11, x12, x13, x14, x15]) x17 0 y := by
  have h := View.canon_append_of_piecesOf (outv (scr ![x0, x1, x2, x3, x4, x5, x6, x7, x8, x9, x10, x11, x12, x13, x14, x15]) x17 0) []
    (kernelRun0_A (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17 xt0).1 (pieces18 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17 xt0 hM) y (cover0_A_18 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17 xt0 y)
  rw [List.append_nil] at h
  rw [out0_A_18, View.read_writes_junk_eq_canon]
  exact h

/-- What output 18's block holds after a grid point. -/
theorem block18 (hO : Ok m) (c : Dev nD) (t : Fin grid0.N) (y : S1x8x128x128.Idx) :
    (outsAt0 m hO c t).1 y = outv (scr (pagesAt m hO c t)) (weights m hO c t) 0 y := by
  dsimp only [outsAt0]
  exact left18 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) scM0_0 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (tbl m 0) (perm_at m hO c t) y

/-- The stores into output 19's block, read back. -/
theorem left19 (c : Dev nD) (i : grid0.Coords) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S128x128 .bf16) (harg19 : arg19.IsWhole) (arg20 : Memref sig .tc .vmem S2x4x256x256 .bf16) (harg20 : arg20.IsWhole) (arg21 : Memref sig .tc .vmem S1x8x128x128 .f32) (harg21 : arg21.IsWhole) (arg22 : Memref sig .tc .vmem S1x8x128x128 .f32) (harg22 : arg22.IsWhole) (arg23 : Memref sig .tc .vmem S16x128x512 .f32) (harg23 : arg23.IsWhole)
    (x0 : Vec Ideal S512x128 .f32) (x1 : Vec Ideal S512x128 .f32) (x2 : Vec Ideal S512x128 .f32) (x3 : Vec Ideal S512x128 .f32) (x4 : Vec Ideal S512x128 .f32) (x5 : Vec Ideal S512x128 .f32) (x6 : Vec Ideal S512x128 .f32) (x7 : Vec Ideal S512x128 .f32) (x8 : Vec Ideal S512x128 .f32) (x9 : Vec Ideal S512x128 .f32) (x10 : Vec Ideal S512x128 .f32) (x11 : Vec Ideal S512x128 .f32) (x12 : Vec Ideal S512x128 .f32) (x13 : Vec Ideal S512x128 .f32) (x14 : Vec Ideal S512x128 .f32) (x15 : Vec Ideal S512x128 .f32) (x16 : Vec Ideal S128x128 .bf16) (x17 : Vec Ideal S2x4x256x256 .bf16) (xt0 : TbBuf0 (F := Ideal) c tbM0_0)
    (hM : ∀ a b : Fin 128, x16 (ix2 a b) = if b.val = 16 * (a.val % 8) + a.val / 8 then 1 else 0) (y : S1x8x128x128.Idx) :
    out0_A_19 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17 xt0 y = outv (scr ![x0, x1, x2, x3, x4, x5, x6, x7, x8, x9, x10, x11, x12, x13, x14, x15]) x17 1 y := by
  have h := View.canon_append_of_piecesOf (outv (scr ![x0, x1, x2, x3, x4, x5, x6, x7, x8, x9, x10, x11, x12, x13, x14, x15]) x17 1) []
    (kernelRun0_A (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17 xt0).2.1 (pieces19 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17 xt0 hM) y (cover0_A_19 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17 xt0 y)
  rw [List.append_nil] at h
  rw [out0_A_19, View.read_writes_junk_eq_canon]
  exact h

/-- What output 19's block holds after a grid point. -/
theorem block19 (hO : Ok m) (c : Dev nD) (t : Fin grid0.N) (y : S1x8x128x128.Idx) :
    (outsAt0 m hO c t).2 y = outv (scr (pagesAt m hO c t)) (weights m hO c t) 1 y := by
  dsimp only [outsAt0]
  exact left19 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) scM0_0 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (tbl m 0) (perm_at m hO c t) y

/-- Two indices of five equal coordinates. -/
theorem ix5_ext {a b c d e : ℕ} {x x' : Fin a} {y y' : Fin b} {z z' : Fin c} {u u' : Fin d} {v v' : Fin e}
    (h1 : x = x') (h2 : y = y') (h3 : z = z') (h4 : u = u') (h5 : v = v') : ix5 x y z u v = ix5 x' y' z' u' v' := by
  subst h1 h2 h3 h4 h5
  rfl

/-- The stored sum, read in the arguments. -/
theorem outv_at (hO : Ok m) (hw : ∀ y, (tbl m 0 y : BitVec 32).toNat < 5120) (c : Dev nD) (t : Fin grid0.N) (o : Fin 2)
    (k : Fin 8) (r h : Fin 128) (b : Fin 32) (s : Fin 1024) (hb : b.val = t.val / 8) (hs : s.val = t.val % 8 * 128 + r.val) :
    outv (scr (pagesAt m hO c t)) (weights m hO c t) o (ix4 0 k r h)
      = term (m ((c : Thread nD τ).loc main_arg0)) (tbl m 0) (m ((c : Thread nD τ).loc main_arg2)) hw o b k s h := by
  have hr := r.isLt
  have hk := k.isLt
  refine Finset.sum_congr rfl fun d _ => Finset.sum_congr rfl fun j _ => (mul_comm _ _).trans (congrArg₂ (fun u v : EReal => u * v) ?_ ?_)
  · refine (weights_at m hO c t _ _ _ _).trans (congrArg _ ?_)
    have hj := j.isLt
    have hd := d.isLt
    have ho := o.isLt
    have hh := h.isLt
    have e1 : (16 * ((128 * o.val + h.val) / 128) + 4 * (j.val / 4) + (j.val % 4 * 64 + d.val) / 64) * 64 + (j.val % 4 * 64 + d.val) % 64
      = (16 * o.val + j.val) * 64 + d.val := by omega
    have e2 : (128 * o.val + h.val) % 128 = h.val := by omega
    exact congrArg₂ (ix3 _) (Fin.ext e1) (Fin.ext e2)
  · rw [pagesAt_eq m hO hw c t]
    have hj := j.isLt
    have hd := d.isLt
    have hs' : slot t ⟨r.val / 8, by omega⟩ = ix2 b ⟨s.val / 8, by omega⟩ :=
      congrArg₂ ix2 (Fin.ext hb.symm) (Fin.ext (show t.val % 8 * 16 + r.val / 8 = s.val / 8 by omega))
    have e1 : (64 * k.val + d.val) / 256 = k.val / 4 := by omega
    have e2 : (64 * k.val + d.val) / 64 % 4 = k.val % 4 := by omega
    have e3 : (64 * k.val + d.val) % 64 = d.val := by omega
    have e4 : 16 * (r.val % 8) + j.val = s.val % 8 * 16 + j.val := by omega
    have e5 : (tbl m 0 (slot t ⟨r.val / 8, by omega⟩) : BitVec 32).toNat = (tbl m 0 (ix2 b ⟨s.val / 8, by omega⟩) : BitVec 32).toNat := by rw [hs']
    refine congrArg (m ((c : Thread nD τ).loc main_arg0)) ?_
    exact ix5_ext (Fin.ext e5) (Fin.ext e4) (Fin.ext e1) (Fin.ext e2) (Fin.ext e3)

/-- The block of output 18 that a grid point writes. -/
theorem map18 (i : grid0.Coords) : cc0_transform_18 i = ![(i 0).val, 0, (i 1).val, 0] := by
  have h0 : (i 0).val < 32 := (i 0).isLt
  have h1 : (i 1).val < 8 := (i 1).isLt
  funext a
  match a with
  | ⟨0, _⟩ => exact (BitVec.toNat_ofNat _ _).trans (Nat.mod_eq_of_lt (by omega))
  | ⟨1, _⟩ => rfl
  | ⟨2, _⟩ => exact (BitVec.toNat_ofNat _ _).trans (Nat.mod_eq_of_lt (by omega))
  | ⟨3, _⟩ => rfl

/-- The blocks that the grid writes cover output 18. -/
theorem covers18 (hO : Ok m) : ((cfgM m hO).win 18).Covers := by
  have n : ∀ a : Fin 4, ((cfgM m hO).win 18).nblk a = (S32x8x1024x128.size a + S1x8x128x128.size a - 1) / S1x8x128x128.size a := fun _ => rfl
  have z : ∀ a : Fin 4, 0 < S1x8x128x128.size a := by decide
  refine Pipeline.Window.covers_of_indexMap_surj _ rfl z fun β => ?_
  have b0 : (β (0 : Fin 4)).val < 32 := lt_of_lt_of_eq (β (0 : Fin 4)).isLt ((n 0).trans (by decide))
  have b1 : (β (1 : Fin 4)).val < 1 := lt_of_lt_of_eq (β (1 : Fin 4)).isLt ((n 1).trans (by decide))
  have b2 : (β (2 : Fin 4)).val < 8 := lt_of_lt_of_eq (β (2 : Fin 4)).isLt ((n 2).trans (by decide))
  have b3 : (β (3 : Fin 4)).val < 1 := lt_of_lt_of_eq (β (3 : Fin 4)).isLt ((n 3).trans (by decide))
  let i : grid0.Coords := fun a => match a with
    | ⟨0, _⟩ => (⟨(β (0 : Fin 4)).val, b0⟩ : Fin 32)
    | ⟨1, _⟩ => (⟨(β (2 : Fin 4)).val, b2⟩ : Fin 8)
  refine ⟨i, fun a => ?_⟩
  have e : ((cfgM m hO).win 18).indexMap i = ![(i 0).val, 0, (i 1).val, 0] := map18 i
  refine (congrFun e a).trans ?_
  match a with
  | ⟨0, _⟩ => rfl
  | ⟨1, _⟩ => exact (Nat.lt_one_iff.mp b1).symm
  | ⟨2, _⟩ => rfl
  | ⟨3, _⟩ => exact (Nat.lt_one_iff.mp b3).symm

/-- Output 18 after the run is the reference's result. -/
theorem final18 (hO : Ok m) (hw : ∀ y, (tbl m 0 y : BitVec 32).toNat < 5120) (c : Dev nD) : (dats m hO 0 c).arrAt 18 (cfgM m hO).N
    = refU (m ((c : Thread nD τ).loc main_arg0)) (tbl m 0) (m ((c : Thread nD τ).loc main_arg2)) := by
  refine (dats m hO 0 c).arrAt_eq_of_covers 18 _ (covers18 m hO) fun t _ y => ?_
  have i0 : ((cfgM m hO).win 18).index t = ![t.val / 8, 0, t.val % 8, 0] := by
    refine (map18 (grid0.coords t)).trans ?_
    rw [(coords_at t).1, (coords_at t).2]
  have e0 : (((((cfgM m hO).win 18).blk t).view.emb y : S32x8x1024x128.Idx) (0 : Fin 4)).val = t.val / 8 + (y (0 : Fin 4)).val := by blk_simp [i0]
  have e1 : (((((cfgM m hO).win 18).blk t).view.emb y : S32x8x1024x128.Idx) (1 : Fin 4)).val = (y (1 : Fin 4)).val := by blk_simp [i0]
  have e2 : (((((cfgM m hO).win 18).blk t).view.emb y : S32x8x1024x128.Idx) (2 : Fin 4)).val = t.val % 8 * 128 + (y (2 : Fin 4)).val := by blk_simp [i0]
  have e3 : (((((cfgM m hO).win 18).blk t).view.emb y : S32x8x1024x128.Idx) (3 : Fin 4)).val = (y (3 : Fin 4)).val := by blk_simp [i0]
  have y0 : (y (0 : Fin 4)).val < 1 := (y (0 : Fin 4)).isLt
  have ht : t.val < 256 := t.isLt
  have y2 : (y (2 : Fin 4)).val < 128 := (y (2 : Fin 4)).isLt
  have ey : @Eq S1x8x128x128.Idx y (ix4 0 (y (1 : Fin 4)) (y (2 : Fin 4)) (y (3 : Fin 4))) := by
    funext a
    match a with
    | ⟨0, _⟩ => exact Fin.ext (Nat.lt_one_iff.mp y0)
    | ⟨1, _⟩ => rfl
    | ⟨2, _⟩ => rfl
    | ⟨3, _⟩ => rfl
  have ez : @Eq S32x8x1024x128.Idx ((((cfgM m hO).win 18).blk t).view.emb y)
      (ix4 (⟨t.val / 8, by omega⟩ : Fin 32) (y (1 : Fin 4)) (⟨t.val % 8 * 128 + (y (2 : Fin 4)).val, by omega⟩ : Fin 1024) (y (3 : Fin 4))) := by
    funext a
    match a with
    | ⟨0, _⟩ => exact Fin.ext (e0.trans (show t.val / 8 + (y (0 : Fin 4)).val = t.val / 8 by omega))
    | ⟨1, _⟩ => exact Fin.ext e1
    | ⟨2, _⟩ => exact Fin.ext e2
    | ⟨3, _⟩ => exact Fin.ext e3
  show (dats m hO 0 c).after 18 t y = _
  rw [after0_18]
  refine (block18 m hO c t y).trans ((congrArg (outv (scr (pagesAt m hO c t)) (weights m hO c t) 0) ey).trans ?_)
  refine (outv_at m hO hw c t 0 (y (1 : Fin 4)) (y (2 : Fin 4)) (y (3 : Fin 4)) (⟨t.val / 8, by omega⟩ : Fin 32)
    (⟨t.val % 8 * 128 + (y (2 : Fin 4)).val, by omega⟩ : Fin 1024) rfl rfl).trans ?_
  refine ((congrArg (refU (m ((c : Thread nD τ).loc main_arg0)) (tbl m 0) (m ((c : Thread nD τ).loc main_arg2))) ez).trans ?_).symm
  exact refU_at _ _ _ hw _ _ _ _

/-- The block of output 19 that a grid point writes. -/
theorem map19 (i : grid0.Coords) : cc0_transform_19 i = ![(i 0).val, 0, (i 1).val, 0] := by
  have h0 : (i 0).val < 32 := (i 0).isLt
  have h1 : (i 1).val < 8 := (i 1).isLt
  funext a
  match a with
  | ⟨0, _⟩ => exact (BitVec.toNat_ofNat _ _).trans (Nat.mod_eq_of_lt (by omega))
  | ⟨1, _⟩ => rfl
  | ⟨2, _⟩ => exact (BitVec.toNat_ofNat _ _).trans (Nat.mod_eq_of_lt (by omega))
  | ⟨3, _⟩ => rfl

/-- The blocks that the grid writes cover output 19. -/
theorem covers19 (hO : Ok m) : ((cfgM m hO).win 19).Covers := by
  have n : ∀ a : Fin 4, ((cfgM m hO).win 19).nblk a = (S32x8x1024x128.size a + S1x8x128x128.size a - 1) / S1x8x128x128.size a := fun _ => rfl
  have z : ∀ a : Fin 4, 0 < S1x8x128x128.size a := by decide
  refine Pipeline.Window.covers_of_indexMap_surj _ rfl z fun β => ?_
  have b0 : (β (0 : Fin 4)).val < 32 := lt_of_lt_of_eq (β (0 : Fin 4)).isLt ((n 0).trans (by decide))
  have b1 : (β (1 : Fin 4)).val < 1 := lt_of_lt_of_eq (β (1 : Fin 4)).isLt ((n 1).trans (by decide))
  have b2 : (β (2 : Fin 4)).val < 8 := lt_of_lt_of_eq (β (2 : Fin 4)).isLt ((n 2).trans (by decide))
  have b3 : (β (3 : Fin 4)).val < 1 := lt_of_lt_of_eq (β (3 : Fin 4)).isLt ((n 3).trans (by decide))
  let i : grid0.Coords := fun a => match a with
    | ⟨0, _⟩ => (⟨(β (0 : Fin 4)).val, b0⟩ : Fin 32)
    | ⟨1, _⟩ => (⟨(β (2 : Fin 4)).val, b2⟩ : Fin 8)
  refine ⟨i, fun a => ?_⟩
  have e : ((cfgM m hO).win 19).indexMap i = ![(i 0).val, 0, (i 1).val, 0] := map19 i
  refine (congrFun e a).trans ?_
  match a with
  | ⟨0, _⟩ => rfl
  | ⟨1, _⟩ => exact (Nat.lt_one_iff.mp b1).symm
  | ⟨2, _⟩ => rfl
  | ⟨3, _⟩ => exact (Nat.lt_one_iff.mp b3).symm

/-- Output 19 after the run is the reference's result. -/
theorem final19 (hO : Ok m) (hw : ∀ y, (tbl m 0 y : BitVec 32).toNat < 5120) (c : Dev nD) : (dats m hO 0 c).arrAt 19 (cfgM m hO).N
    = refS (m ((c : Thread nD τ).loc main_arg0)) (tbl m 0) (m ((c : Thread nD τ).loc main_arg2)) := by
  refine (dats m hO 0 c).arrAt_eq_of_covers 19 _ (covers19 m hO) fun t _ y => ?_
  have i0 : ((cfgM m hO).win 19).index t = ![t.val / 8, 0, t.val % 8, 0] := by
    refine (map19 (grid0.coords t)).trans ?_
    rw [(coords_at t).1, (coords_at t).2]
  have e0 : (((((cfgM m hO).win 19).blk t).view.emb y : S32x8x1024x128.Idx) (0 : Fin 4)).val = t.val / 8 + (y (0 : Fin 4)).val := by blk_simp [i0]
  have e1 : (((((cfgM m hO).win 19).blk t).view.emb y : S32x8x1024x128.Idx) (1 : Fin 4)).val = (y (1 : Fin 4)).val := by blk_simp [i0]
  have e2 : (((((cfgM m hO).win 19).blk t).view.emb y : S32x8x1024x128.Idx) (2 : Fin 4)).val = t.val % 8 * 128 + (y (2 : Fin 4)).val := by blk_simp [i0]
  have e3 : (((((cfgM m hO).win 19).blk t).view.emb y : S32x8x1024x128.Idx) (3 : Fin 4)).val = (y (3 : Fin 4)).val := by blk_simp [i0]
  have y0 : (y (0 : Fin 4)).val < 1 := (y (0 : Fin 4)).isLt
  have ht : t.val < 256 := t.isLt
  have y2 : (y (2 : Fin 4)).val < 128 := (y (2 : Fin 4)).isLt
  have ey : @Eq S1x8x128x128.Idx y (ix4 0 (y (1 : Fin 4)) (y (2 : Fin 4)) (y (3 : Fin 4))) := by
    funext a
    match a with
    | ⟨0, _⟩ => exact Fin.ext (Nat.lt_one_iff.mp y0)
    | ⟨1, _⟩ => rfl
    | ⟨2, _⟩ => rfl
    | ⟨3, _⟩ => rfl
  have ez : @Eq S32x8x1024x128.Idx ((((cfgM m hO).win 19).blk t).view.emb y)
      (ix4 (⟨t.val / 8, by omega⟩ : Fin 32) (y (1 : Fin 4)) (⟨t.val % 8 * 128 + (y (2 : Fin 4)).val, by omega⟩ : Fin 1024) (y (3 : Fin 4))) := by
    funext a
    match a with
    | ⟨0, _⟩ => exact Fin.ext (e0.trans (show t.val / 8 + (y (0 : Fin 4)).val = t.val / 8 by omega))
    | ⟨1, _⟩ => exact Fin.ext e1
    | ⟨2, _⟩ => exact Fin.ext e2
    | ⟨3, _⟩ => exact Fin.ext e3
  show (dats m hO 0 c).after 19 t y = _
  rw [after0_19]
  refine (block19 m hO c t y).trans ((congrArg (outv (scr (pagesAt m hO c t)) (weights m hO c t) 1) ey).trans ?_)
  refine (outv_at m hO hw c t 1 (y (1 : Fin 4)) (y (2 : Fin 4)) (y (3 : Fin 4)) (⟨t.val / 8, by omega⟩ : Fin 32)
    (⟨t.val % 8 * 128 + (y (2 : Fin 4)).val, by omega⟩ : Fin 1024) rfl rfl).trans ?_
  refine ((congrArg (refS (m ((c : Thread nD τ).loc main_arg0)) (tbl m 0) (m ((c : Thread nD τ).loc main_arg2))) ez).trans ?_).symm
  exact refS_at _ _ _ hw _ _ _ _

end Cert.CmpProjectIdeal.Blocks

namespace Cert.Claims

/-- The page-table call ends with its arguments unchanged, when the table names pages of the cache. -/
theorem cmpProject_frame : Cert.quiescent_CmpProject := fun m ρ h => Cert.CmpProject.Gen.frame m ρ (Cert.CmpProject.Ok.ok_of_pre m h)

/-- The same over the extended reals. -/
theorem cmpProjectIdeal_frame : Cert.quiescent_CmpProjectIdeal :=
  fun m ρ h => Cert.CmpProjectIdeal.Gen.frame m ρ (Cert.CmpProjectIdeal.Ok.ok_of_pre m h)

/-- The projection of the cached tokens: the kernel leaves, for every sample, head and group of sixteen tokens, the two
    halves of the group's product with the head's weights, as the reference computes them. -/
theorem cmpProject : Cert.algebraic_CmpProjectIdeal_CmpProjectRefIdeal := by
  intro m g m' g' hpre hagree
  have hO := Cert.CmpProjectIdeal.Ok.ok_of_pre m hpre
  have ht : ∀ c : Dev Cert.CmpProjectIdeal.nD, Cert.CmpProjectIdeal.Gen.tbl m 0 = m ((c.tc : Thread Cert.CmpProjectIdeal.nD Cert.CmpProjectIdeal.τ).loc Cert.CmpProjectIdeal.main_arg1) := fun c => by
    obtain rfl : c = 0 := Subsingleton.elim _ _
    exact Cert.CmpProjectIdeal.Ok.tbl_eq m
  have hw : ∀ y, (Cert.CmpProjectIdeal.Gen.tbl m 0 y : BitVec 32).toNat < 5120 := fun y => by
    rw [ht 0]
    exact Cert.CmpProjectIdeal.Ok.arg_words m hpre 0 y
  refine ⟨fun c => refU (m ((c.tc : Thread Cert.CmpProjectIdeal.nD Cert.CmpProjectIdeal.τ).loc Cert.CmpProjectIdeal.main_arg0))
      (Cert.CmpProjectIdeal.Gen.tbl m 0) (m ((c.tc : Thread Cert.CmpProjectIdeal.nD Cert.CmpProjectIdeal.τ).loc Cert.CmpProjectIdeal.main_arg2)),
    fun c => refS (m ((c.tc : Thread Cert.CmpProjectIdeal.nD Cert.CmpProjectIdeal.τ).loc Cert.CmpProjectIdeal.main_arg0))
      (Cert.CmpProjectIdeal.Gen.tbl m 0) (m ((c.tc : Thread Cert.CmpProjectIdeal.nD Cert.CmpProjectIdeal.τ).loc Cert.CmpProjectIdeal.main_arg2)), ?_, ?_⟩
  · refine (θ_run _ _ _).mono (fun r h c => ?_) (θ_run_and (Cert.CmpProjectIdeal.Gen.run_main m g hO) (Cert.CmpProjectIdeal.Gen.unchanged m g hO))
    exact ⟨((h.1 c).1 18).trans (Cert.CmpProjectIdeal.Blocks.final18 m hO hw c), ((h.1 c).1 19).trans (Cert.CmpProjectIdeal.Blocks.final19 m hO hw c), h.2 c⟩
  · refine (θ_run _ _ _).mono (fun r h c => ?_) (Cert.CmpProjectRefIdeal.Value.run (F := Ideal) m' g')
    have a := hagree c
    refine ⟨(h c).1.trans ?_, (h c).2.1.trans ?_, (h c).2.2⟩
    · rw [a.1, a.2.1, a.2.2, ← ht c]
      rfl
    · rw [a.1, a.2.1, a.2.2, ← ht c]
      rfl

end Cert.Claims
-- ==== Proof.MlpUp.lean ====
/- The up projection of the MLP: the rows are normalised once per row block, kept in a scratch buffer, and every output
   block is the same rows and columns of `relu(rms_norm(h) @ w)²`. -/
module

public import proofs.«01_k».proof.Proof.Gen.MlpUpIdeal.Frame
public import proofs.«01_k».proof.Proof.Gen.MlpUpRefIdeal.Run
public import proofs.«01_k».proof.Defs
public import Idealize.ShloMosaic.Lib.Pipeline.ValueKit
public import Idealize.ShloMosaic.Lib.Pointwise
public import Idealize.ShloMosaic.Lib.Claim
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.MlpUpIdeal.Blocks

open Cert.MlpUpIdeal Cert.MlpUpIdeal.Gen

variable (m : (ℓ : Loc nD τ sig) → Buf (Elt Ideal) ℓ)

/-- The reference's term. -/
def whole (h : FVec Ideal S16384x1024 .f32) (g : FVec Ideal Cert.MlpUpRefIdeal.S1024 .f32) (w : FVec Ideal S1024x4096 .f32) :
    FVec Ideal S16384x4096 .bf16 :=
  truncf .bf16 (mulf (maximumf (Host.dotGeneral Cert.MlpUpRefIdeal.dot_S16384x1024_S1024x4096_S16384x4096_1_0_0_1_n_n none (mulf (mulf h (broadcastInDim Cert.MlpUpRefIdeal.S16384x1024 ![0, 1] Cert.MlpUpRefIdeal.Gen.bcast_S16384x1_S16384x1024_0_1 (Host.rsqrt (addf (Host.divf (broadcastInDim Cert.MlpUpRefIdeal.S16384x1 ![0] Cert.MlpUpRefIdeal.Gen.bcast_S16384_S16384x1_0 (Host.reduceAdd (mulf h h) (constant Cert.MlpUpRefIdeal.S_ .f32 0x00000000#32) Cert.MlpUpRefIdeal.Gen.reducesTo_S16384x1024_S16384_d1 Cert.MlpUpRefIdeal.Gen.h_S_)) (broadcastInDim Cert.MlpUpRefIdeal.S16384x1 ![] Cert.MlpUpRefIdeal.Gen.bcast_S_S16384x1 (constant Cert.MlpUpRefIdeal.S_ .f32 0x44800000#32))) (broadcastInDim Cert.MlpUpRefIdeal.S16384x1 ![] Cert.MlpUpRefIdeal.Gen.bcast_S_S16384x1 (constant Cert.MlpUpRefIdeal.S_ .f32 0x3727C5AC#32)))))) (broadcastInDim Cert.MlpUpRefIdeal.S16384x1024 ![0, 1] Cert.MlpUpRefIdeal.Gen.bcast_S1x1024_S16384x1024_0_1 (broadcastInDim Cert.MlpUpRefIdeal.S1x1024 ![1] Cert.MlpUpRefIdeal.Gen.bcast_S1024_S1x1024_1 g))) w) (broadcastInDim Cert.MlpUpRefIdeal.S16384x4096 ![] Cert.MlpUpRefIdeal.Gen.bcast_S_S16384x4096 (constant Cert.MlpUpRefIdeal.S_ .f32 0x00000000#32))) (maximumf (Host.dotGeneral Cert.MlpUpRefIdeal.dot_S16384x1024_S1024x4096_S16384x4096_1_0_0_1_n_n none (mulf (mulf h (broadcastInDim Cert.MlpUpRefIdeal.S16384x1024 ![0, 1] Cert.MlpUpRefIdeal.Gen.bcast_S16384x1_S16384x1024_0_1 (Host.rsqrt (addf (Host.divf (broadcastInDim Cert.MlpUpRefIdeal.S16384x1 ![0] Cert.MlpUpRefIdeal.Gen.bcast_S16384_S16384x1_0 (Host.reduceAdd (mulf h h) (constant Cert.MlpUpRefIdeal.S_ .f32 0x00000000#32) Cert.MlpUpRefIdeal.Gen.reducesTo_S16384x1024_S16384_d1 Cert.MlpUpRefIdeal.Gen.h_S_)) (broadcastInDim Cert.MlpUpRefIdeal.S16384x1 ![] Cert.MlpUpRefIdeal.Gen.bcast_S_S16384x1 (constant Cert.MlpUpRefIdeal.S_ .f32 0x44800000#32))) (broadcastInDim Cert.MlpUpRefIdeal.S16384x1 ![] Cert.MlpUpRefIdeal.Gen.bcast_S_S16384x1 (constant Cert.MlpUpRefIdeal.S_ .f32 0x3727C5AC#32)))))) (broadcastInDim Cert.MlpUpRefIdeal.S16384x1024 ![0, 1] Cert.MlpUpRefIdeal.Gen.bcast_S1x1024_S16384x1024_0_1 (broadcastInDim Cert.MlpUpRefIdeal.S1x1024 ![1] Cert.MlpUpRefIdeal.Gen.bcast_S1024_S1x1024_1 g))) w) (broadcastInDim Cert.MlpUpRefIdeal.S16384x4096 ![] Cert.MlpUpRefIdeal.Gen.bcast_S_S16384x4096 (constant Cert.MlpUpRefIdeal.S_ .f32 0x00000000#32)))) Cert.MlpUpRefIdeal.Gen.bitsLt_bf16_f32

/-- Which block each window stages at grid point `t`. -/
theorem idx : ∀ t : Fin cfg0.N, win0_0.index t = ![t.val / 4, 0]
    ∧ win0_1.index t = ![0, 0]
    ∧ win0_2.index t = ![0, t.val % 4]
    ∧ win0_3.index t = ![t.val / 4, t.val % 4] :=
  (by decide +kernel : ∀ t : Fin grid0.N, _)

/-- Two grid points of one row block stage the same rows. -/
theorem rows_same (c : Dev nD) (t u : Fin cfg0.N) (h : t.val / 4 = u.val / 4) : iblk m c 0 t = iblk m c 0 u := by
  funext y
  blk_ext [iblk, V, idx t, idx u]

/-- Every grid point stages the same gain. -/
theorem gain_same (c : Dev nD) (t u : Fin cfg0.N) : iblk m c 1 t = iblk m c 1 u := by
  funext y
  blk_ext [iblk, V, idx t, idx u]

/-- After every grid point the scratch buffer holds the normalised rows of that point's row block. -/
theorem scratch (c : Dev nD) : ∀ (n : ℕ) (hn : n < cfg0.N),
    (outsAt0 m c n hn).2 = k0_pay1 (iblk m c 0 ⟨n, hn⟩) (iblk m c 1 ⟨n, hn⟩) := by
  intro n
  induction n with
  | zero =>
    intro hn
    rw [outsAt0_A m c ⟨0, hn⟩ rfl]; frame_out
  | succ n ih =>
    intro hn
    by_cases h0 : (n + 1) % 4 = 0
    · rw [outsAt0_A m c ⟨n + 1, hn⟩ h0]; frame_out
    · rw [outsAt0_B m c ⟨n + 1, hn⟩ h0]; frame_out
      refine (ih (Nat.lt_of_succ_lt hn)).trans ?_
      rw [rows_same m c ⟨n, Nat.lt_of_succ_lt hn⟩ ⟨n + 1, hn⟩ (by show n / 4 = (n + 1) / 4; omega),
        gain_same m c ⟨n, Nat.lt_of_succ_lt hn⟩ ⟨n + 1, hn⟩]

/-- What the output block holds after grid point `t`. -/
theorem block (c : Dev nD) (t : Fin cfg0.N) : (outsAt0 m c t.val t.isLt).1
    = k0_pay2 (k0_pay1 (iblk m c 0 t) (iblk m c 1 t)) (iblk m c 2 t) := by
  by_cases h0 : t.val % 4 = 0
  · rw [outsAt0_A m c t h0]; frame_out
  · rw [outsAt0_B m c t h0]; frame_out
    have ht := t.isLt
    rw [scratch m c (t.val - 1) (by omega),
      rows_same m c ⟨t.val - 1, by omega⟩ t (by show (t.val - 1) / 4 = t.val / 4; omega),
      gain_same m c ⟨t.val - 1, by omega⟩ t]
    exact congrArg (fun z => k0_pay2 z (iblk m c 2 t)) (Memref.IsWhole.read_unread _ _)

/-- What grid point `t` stores at `y` is the reference's term read where the block sits. -/
theorem point (c : Dev nD) (t : Fin cfg0.N) (y : S1024x1024.Idx) :
    k0_pay2 (k0_pay1 (iblk m c 0 t) (iblk m c 1 t)) (iblk m c 2 t) y
      = whole (m ((c : Thread nD τ).loc main_arg0)) (m ((c : Thread nD τ).loc main_arg1)) (m ((c : Thread nD τ).loc main_arg2)) (((cfg0.win 3).blk t).view.emb y) := by
  pointwise [k0_pay1, k0_pay2, whole]
  blk_point [iblk, V, idx t]

/-- The result array after the run is the reference's term. -/
theorem final (c : Dev nD) : (dats m 0 c).arrAt 3 (cfgs 0).N = whole (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; rw [block]
  exact point m c t y

end Cert.MlpUpIdeal.Blocks

namespace Cert.Claims

/-- The up projection of the MLP: the rows are normalised once per row block, kept in a scratch buffer, and every output
   block is the same rows and columns of `relu(rms_norm(h) @ w)²`. -/
theorem mlpUp : Cert.algebraic_MlpUpIdeal_MlpUpRefIdeal := by
  pair_intro
  · run_from Cert.MlpUpIdeal.Gen.run_main m g
  · run_from Cert.MlpUpRefIdeal.Value.run m' g'
    exact (Cert.MlpUpIdeal.Blocks.final m c).symm

end Cert.Claims

end
-- ==== Proof.MlpDown.lean ====
/- The down projection of the MLP: every output block is the same rows and columns of `h + a @ w`. -/
module

public import proofs.«01_k».proof.Proof.Gen.MlpDownIdeal.Frame
public import proofs.«01_k».proof.Proof.Gen.MlpDownRefIdeal.Run
public import proofs.«01_k».proof.Defs
public import Idealize.ShloMosaic.Lib.Pipeline.ValueKit
public import Idealize.ShloMosaic.Lib.Pointwise
public import Idealize.ShloMosaic.Lib.Claim
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.MlpDownIdeal.Blocks

open Cert.MlpDownIdeal Cert.MlpDownIdeal.Gen

variable (m : (ℓ : Loc nD τ sig) → Buf (Elt Ideal) ℓ)

/-- The reference's term. -/
def whole (a : FVec Ideal S16384x4096 .bf16) (w : FVec Ideal S4096x1024 .f32) (h : FVec Ideal S16384x1024 .f32) :
    FVec Ideal S16384x1024 .f32 :=
  addf h (Host.dotGeneral Cert.MlpDownRefIdeal.dot_S16384x4096_S4096x1024_S16384x1024_1_0_0_1_n_n none (extf .f32 a Cert.MlpDownRefIdeal.Gen.bitsLt_bf16_f32) w)

/-- Which block each window stages at grid point `t`. -/
theorem idx : ∀ t : Fin cfg0.N, win0_0.index t = ![t.val / 2, 0]
    ∧ win0_1.index t = ![0, t.val % 2]
    ∧ win0_2.index t = ![t.val / 2, t.val % 2]
    ∧ win0_3.index t = ![t.val / 2, t.val % 2] :=
  (by decide +kernel : ∀ t : Fin grid0.N, _)

/-- What grid point `t` stores at `y` is the reference's term read where the block sits. -/
theorem point (c : Dev nD) (t : Fin cfg0.N) (y : S1024x512.Idx) :
    k0_pay1 (iblk m c 0 t) (iblk m c 1 t) (iblk m c 2 t) y = whole (m ((c : Thread nD τ).loc main_arg0)) (m ((c : Thread nD τ).loc main_arg1)) (m ((c : Thread nD τ).loc main_arg2)) (((cfg0.win 3).blk t).view.emb y) := by
  pointwise [k0_pay1, whole]
  refine (add_comm _ _).trans ?_
  blk_point [iblk, V, idx t]

/-- The result array after the run is the reference's term. -/
theorem final (c : Dev nD) : (dats m 0 c).arrAt 3 (cfgs 0).N = whole (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.MlpDownIdeal.Blocks

namespace Cert.Claims

/-- The down projection of the MLP: every output block is the same rows and columns of `h + a @ w`. -/
theorem mlpDown : Cert.algebraic_MlpDownIdeal_MlpDownRefIdeal := by
  pair_intro
  · run_from Cert.MlpDownIdeal.Gen.run_main m g
  · run_from Cert.MlpDownRefIdeal.Value.run m' g'
    exact (Cert.MlpDownIdeal.Blocks.final m c).symm

end Cert.Claims

end
-- ==== Proof.MlpDownFin.lean ====
/- The last down projection with the final norm: every output block is the same rows of `rms_norm(h + a @ w)`. -/
module

public import proofs.«01_k».proof.Proof.Gen.MlpDownFinIdeal.Frame
public import proofs.«01_k».proof.Proof.Gen.MlpDownFinRefIdeal.Run
public import proofs.«01_k».proof.Defs
public import Idealize.ShloMosaic.Lib.Pipeline.ValueKit
public import Idealize.ShloMosaic.Lib.Pointwise
public import Idealize.ShloMosaic.Lib.Claim
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.MlpDownFinIdeal.Blocks

open Cert.MlpDownFinIdeal Cert.MlpDownFinIdeal.Gen

variable (m : (ℓ : Loc nD τ sig) → Buf (Elt Ideal) ℓ)

/-- The reference's term. -/
def whole (a : FVec Ideal S16384x4096 .bf16) (w : FVec Ideal S4096x1024 .f32) (h : FVec Ideal S16384x1024 .f32) (g : FVec Ideal Cert.MlpDownFinRefIdeal.S1024 .f32) :
    FVec Ideal S16384x1024 .f32 :=
  mulf (mulf (addf h (Host.dotGeneral Cert.MlpDownFinRefIdeal.dot_S16384x4096_S4096x1024_S16384x1024_1_0_0_1_n_n none (extf .f32 a Cert.MlpDownFinRefIdeal.Gen.bitsLt_bf16_f32) w)) (broadcastInDim Cert.MlpDownFinRefIdeal.S16384x1024 ![0, 1] Cert.MlpDownFinRefIdeal.Gen.bcast_S16384x1_S16384x1024_0_1 (Host.rsqrt (addf (Host.divf (broadcastInDim Cert.MlpDownFinRefIdeal.S16384x1 ![0] Cert.MlpDownFinRefIdeal.Gen.bcast_S16384_S16384x1_0 (Host.reduceAdd (mulf (addf h (Host.dotGeneral Cert.MlpDownFinRefIdeal.dot_S16384x4096_S4096x1024_S16384x1024_1_0_0_1_n_n none (extf .f32 a Cert.MlpDownFinRefIdeal.Gen.bitsLt_bf16_f32) w)) (addf h (Host.dotGeneral Cert.MlpDownFinRefIdeal.dot_S16384x4096_S4096x1024_S16384x1024_1_0_0_1_n_n none (extf .f32 a Cert.MlpDownFinRefIdeal.Gen.bitsLt_bf16_f32) w))) (constant Cert.MlpDownFinRefIdeal.S_ .f32 0x00000000#32) Cert.MlpDownFinRefIdeal.Gen.reducesTo_S16384x1024_S16384_d1 Cert.MlpDownFinRefIdeal.Gen.h_S_)) (broadcastInDim Cert.MlpDownFinRefIdeal.S16384x1 ![] Cert.MlpDownFinRefIdeal.Gen.bcast_S_S16384x1 (constant Cert.MlpDownFinRefIdeal.S_ .f32 0x44800000#32))) (broadcastInDim Cert.MlpDownFinRefIdeal.S16384x1 ![] Cert.MlpDownFinRefIdeal.Gen.bcast_S_S16384x1 (constant Cert.MlpDownFinRefIdeal.S_ .f32 0x3727C5AC#32)))))) (broadcastInDim Cert.MlpDownFinRefIdeal.S16384x1024 ![0, 1] Cert.MlpDownFinRefIdeal.Gen.bcast_S1x1024_S16384x1024_0_1 (broadcastInDim Cert.MlpDownFinRefIdeal.S1x1024 ![1] Cert.MlpDownFinRefIdeal.Gen.bcast_S1024_S1x1024_1 g))

/-- Which block each window stages at grid point `t`. -/
theorem idx : ∀ t : Fin cfg0.N, win0_0.index t = ![t.val, 0]
    ∧ win0_1.index t = ![0, 0]
    ∧ win0_2.index t = ![t.val, 0]
    ∧ win0_3.index t = ![0, 0]
    ∧ win0_4.index t = ![t.val, 0] :=
  (by decide +kernel : ∀ t : Fin grid0.N, _)

/-- What grid point `t` stores at `y` is the reference's term read where the block sits. -/
theorem point (c : Dev nD) (t : Fin cfg0.N) (y : S512x1024.Idx) :
    k0_pay1 (iblk m c 0 t) (iblk m c 1 t) (iblk m c 2 t) (iblk m c 3 t) y = whole (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, whole]
  blk_point [iblk, V, idx t]

/-- The result array after the run is the reference's term. -/
theorem final (c : Dev nD) : (dats m 0 c).arrAt 4 (cfgs 0).N = whole (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  exact point m c t y

end Cert.MlpDownFinIdeal.Blocks

namespace Cert.Claims

/-- The last down projection with the final norm: every output block is the same rows of `rms_norm(h + a @ w)`. -/
theorem mlpDownFin : Cert.algebraic_MlpDownFinIdeal_MlpDownFinRefIdeal := by
  pair_intro
  · run_from Cert.MlpDownFinIdeal.Gen.run_main m g
  · run_from Cert.MlpDownFinRefIdeal.Value.run m' g'
    exact (Cert.MlpDownFinIdeal.Blocks.final m c).symm

end Cert.Claims

end
-- ==== Proof.MlpDownFinS.lean ====
/- The last down projection with the final norm: every output block is the same rows of `rms_norm(h + a @ w)`. -/
module

public import proofs.«01_k».proof.Proof.Gen.MlpDownFinSIdeal.Frame
public import proofs.«01_k».proof.Proof.Gen.MlpDownFinSRefIdeal.Run
public import proofs.«01_k».proof.Defs
public import Idealize.ShloMosaic.Lib.Pipeline.ValueKit
public import Idealize.ShloMosaic.Lib.Pointwise
public import Idealize.ShloMosaic.Lib.Claim
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.MlpDownFinSIdeal.Blocks

open Cert.MlpDownFinSIdeal Cert.MlpDownFinSIdeal.Gen

variable (m : (ℓ : Loc nD τ sig) → Buf (Elt Ideal) ℓ)

/-- The reference's term. -/
def whole (a : FVec Ideal S128x4096 .bf16) (w : FVec Ideal S4096x1024 .f32) (h : FVec Ideal S128x1024 .f32) (g : FVec Ideal Cert.MlpDownFinSRefIdeal.S1024 .f32) :
    FVec Ideal S128x1024 .f32 :=
  mulf (mulf (addf h (Host.dotGeneral Cert.MlpDownFinSRefIdeal.dot_S128x4096_S4096x1024_S128x1024_1_0_0_1_n_n none (extf .f32 a Cert.MlpDownFinSRefIdeal.Gen.bitsLt_bf16_f32) w)) (broadcastInDim Cert.MlpDownFinSRefIdeal.S128x1024 ![0, 1] Cert.MlpDownFinSRefIdeal.Gen.bcast_S128x1_S128x1024_0_1 (Host.rsqrt (addf (Host.divf (broadcastInDim Cert.MlpDownFinSRefIdeal.S128x1 ![0] Cert.MlpDownFinSRefIdeal.Gen.bcast_S128_S128x1_0 (Host.reduceAdd (mulf (addf h (Host.dotGeneral Cert.MlpDownFinSRefIdeal.dot_S128x4096_S4096x1024_S128x1024_1_0_0_1_n_n none (extf .f32 a Cert.MlpDownFinSRefIdeal.Gen.bitsLt_bf16_f32) w)) (addf h (Host.dotGeneral Cert.MlpDownFinSRefIdeal.dot_S128x4096_S4096x1024_S128x1024_1_0_0_1_n_n none (extf .f32 a Cert.MlpDownFinSRefIdeal.Gen.bitsLt_bf16_f32) w))) (constant Cert.MlpDownFinSRefIdeal.S_ .f32 0x00000000#32) Cert.MlpDownFinSRefIdeal.Gen.reducesTo_S128x1024_S128_d1 Cert.MlpDownFinSRefIdeal.Gen.h_S_)) (broadcastInDim Cert.MlpDownFinSRefIdeal.S128x1 ![] Cert.MlpDownFinSRefIdeal.Gen.bcast_S_S128x1 (constant Cert.MlpDownFinSRefIdeal.S_ .f32 0x44800000#32))) (broadcastInDim Cert.MlpDownFinSRefIdeal.S128x1 ![] Cert.MlpDownFinSRefIdeal.Gen.bcast_S_S128x1 (constant Cert.MlpDownFinSRefIdeal.S_ .f32 0x3727C5AC#32)))))) (broadcastInDim Cert.MlpDownFinSRefIdeal.S128x1024 ![0, 1] Cert.MlpDownFinSRefIdeal.Gen.bcast_S1x1024_S128x1024_0_1 (broadcastInDim Cert.MlpDownFinSRefIdeal.S1x1024 ![1] Cert.MlpDownFinSRefIdeal.Gen.bcast_S1024_S1x1024_1 g))

/-- Which block each window stages at grid point `t`. -/
theorem idx : ∀ t : Fin cfg0.N, win0_0.index t = ![t.val, 0]
    ∧ win0_1.index t = ![0, 0]
    ∧ win0_2.index t = ![t.val, 0]
    ∧ win0_3.index t = ![0, 0]
    ∧ win0_4.index t = ![t.val, 0] :=
  (by decide +kernel : ∀ t : Fin grid0.N, _)

/-- What grid point `t` stores at `y` is the reference's term read where the block sits. -/
theorem point (c : Dev nD) (t : Fin cfg0.N) (y : S128x1024.Idx) :
    k0_pay1 (iblk m c 0 t) (iblk m c 1 t) (iblk m c 2 t) (iblk m c 3 t) y = whole (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, whole]
  blk_point [iblk, V, idx t]

/-- The result array after the run is the reference's term. -/
theorem final (c : Dev nD) : (dats m 0 c).arrAt 4 (cfgs 0).N = whole (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  exact point m c t y

end Cert.MlpDownFinSIdeal.Blocks

namespace Cert.Claims

/-- The last down projection with the final norm: every output block is the same rows of `rms_norm(h + a @ w)`. -/
theorem mlpDownFinS : Cert.algebraic_MlpDownFinSIdeal_MlpDownFinSRefIdeal := by
  pair_intro
  · run_from Cert.MlpDownFinSIdeal.Gen.run_main m g
  · run_from Cert.MlpDownFinSRefIdeal.Value.run m' g'
    exact (Cert.MlpDownFinSIdeal.Blocks.final m c).symm

end Cert.Claims

end
-- ==== Proof.SsmIn.lean ====
/- The input projection of the recurrent layer: the rows are normalised once per row block, kept in a scratch
   buffer, and every output block is the same rows and columns of `rms_norm(x) @ w`, zero in the added columns. -/
module

public import proofs.«01_k».proof.Proof.Gen.SsmInIdeal.Frame
public import proofs.«01_k».proof.Proof.Gen.SsmInRefIdeal.Run
public import proofs.«01_k».proof.Defs
public import Idealize.ShloMosaic.Lib.Pipeline.ValueKit
public import Idealize.ShloMosaic.Lib.Pointwise
public import Idealize.ShloMosaic.Lib.Claim
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.SsmInIdeal.Blocks

open Cert.SsmInIdeal Cert.SsmInIdeal.Gen

variable (m : (ℓ : Loc nD τ sig) → Buf (Elt Ideal) ℓ)

/-- The reference's term. -/
def whole (x : FVec Ideal Cert.SsmInRefIdeal.S2x8192x1024 .f32) (g : FVec Ideal Cert.SsmInRefIdeal.S1024 .f32) (w : FVec Ideal Cert.SsmInRefIdeal.S1024x6176 .f32) :
    FVec Ideal Cert.SsmInRefIdeal.S16384x6400 .f32 :=
  shapeCast _ (pad Cert.SsmInRefIdeal.S2x8192x6400 ![0, 0, 0] ![0, 0, 224] ![0, 0, 0] (Host.dotGeneral Cert.SsmInRefIdeal.dot_S2x8192x1024_S1024x6176_S2x8192x6176_2_0_01_1_n_n none (mulf (mulf x (broadcastInDim Cert.SsmInRefIdeal.S2x8192x1024 ![0, 1, 2] Cert.SsmInRefIdeal.Gen.bcast_S2x8192x1_S2x8192x1024_0_1_2 (Host.rsqrt (addf (Host.divf (broadcastInDim Cert.SsmInRefIdeal.S2x8192x1 ![0, 1] Cert.SsmInRefIdeal.Gen.bcast_S2x8192_S2x8192x1_0_1 (Host.reduceAdd (mulf x x) (constant Cert.SsmInRefIdeal.S_ .f32 0x00000000#32) Cert.SsmInRefIdeal.Gen.reducesTo_S2x8192x1024_S2x8192_d2 Cert.SsmInRefIdeal.Gen.h_S_)) (broadcastInDim Cert.SsmInRefIdeal.S2x8192x1 ![] Cert.SsmInRefIdeal.Gen.bcast_S_S2x8192x1 (constant Cert.SsmInRefIdeal.S_ .f32 0x44800000#32))) (broadcastInDim Cert.SsmInRefIdeal.S2x8192x1 ![] Cert.SsmInRefIdeal.Gen.bcast_S_S2x8192x1 (constant Cert.SsmInRefIdeal.S_ .f32 0x3727C5AC#32)))))) (broadcastInDim Cert.SsmInRefIdeal.S2x8192x1024 ![0, 1, 2] Cert.SsmInRefIdeal.Gen.bcast_S1x1x1024_S2x8192x1024_0_1_2 (broadcastInDim Cert.SsmInRefIdeal.S1x1x1024 ![2] Cert.SsmInRefIdeal.Gen.bcast_S1024_S1x1x1024_2 g))) w) (sitofp .f32 (constantI Cert.SsmInRefIdeal.S_ 32 0#32)) Cert.SsmInRefIdeal.Gen.pads_S2x8192x6176_S2x8192x6400_000_000_02240 Cert.SsmInRefIdeal.Gen.h_S_) Cert.SsmInRefIdeal.Gen.shapeCasts_S2x8192x6400_S16384x6400

/-- Which block each window stages at grid point `t`. -/
theorem idx : ∀ t : Fin cfg0.N, win0_0.index t = ![t.val / 5, 0]
    ∧ win0_1.index t = ![0, 0]
    ∧ win0_2.index t = ![0, t.val % 5]
    ∧ win0_3.index t = ![t.val / 5, t.val % 5] :=
  (by decide +kernel : ∀ t : Fin grid0.N, _)

/-- The padded weights as the region finds them. -/
theorem entry_w (c : Dev nD) : V m c main_v1 = (truncf .bf16 (pad S1024x6400 ![0, 0] ![0, 224] ![0, 0]
    (m ((c : Thread nD τ).loc main_arg2)) (sitofp .f32 (constantI S_ 32 0#32) : FVec Ideal S_ .f32) pads_S1024x6176_S1024x6400_000_02240 h_S_)
      bitsLt_bf16_f32 : FVec Ideal S1024x6400 .bf16) := by
  show StableHlo.after (List.flatten [hostOps0, hostOps0_1, hostOps0_2]) _ _ = _
  simp only [hostOps0, hostOps0_1, hostOps0_2, List.flatten_cons, List.flatten_nil, List.append_nil, List.cons_append, List.nil_append,
    StableHlo.TRef.unary, StableHlo.TRef.binary, StableHlo.TRef.toBuf, StableHlo.TRef.ofBuf, cast_eq]
  after_results

/-- The gain as the region finds it. -/
theorem entry_g (c : Dev nD) : V m c main_v3 = shapeCast S1x1024 (m ((c : Thread nD τ).loc main_arg1)) shapeCasts_S1024_S1x1024 := by
  show StableHlo.after (List.flatten [hostOps0, hostOps0_1, hostOps0_2]) _ _ = _
  simp only [hostOps0, hostOps0_1, hostOps0_2, List.flatten_cons, List.flatten_nil, List.append_nil, List.cons_append, List.nil_append,
    StableHlo.TRef.unary, StableHlo.TRef.binary, StableHlo.TRef.toBuf, StableHlo.TRef.ofBuf, cast_eq]
  after_results
  rfl

/-- The rows of all batches laid under each other, read at an entry. -/
theorem flat_x (x : FVec Ideal S2x8192x1024 .f32) (z : S16384x1024.Idx) (b : Fin 2) (r : Fin 8192) (k : Fin 1024)
    (h : b.val * 8192 + r.val = (z 0).val) (e1 : (z 1).val = k.val) :
    shapeCast S16384x1024 x shapeCasts_S2x8192x1024_S16384x1024 z = x (ix3 b r k) := by
  pointwise
  have hb : (⟨(z 0).val / 8192, by have := (z 0).isLt; have : (z 0).val < 16384 := this; omega⟩ : Fin 2) = b := Fin.ext (by show (z 0).val / 8192 = b.val; omega)
  have hr : (⟨(z 0).val % 8192, by omega⟩ : Fin 8192) = r := Fin.ext (by show (z 0).val % 8192 = r.val; omega)
  have hk : (z 1 : Fin 1024) = k := Fin.ext e1
  rw [← hb, ← hr, ← hk]

/-- The rows as the region finds them. -/
theorem entry_x (c : Dev nD) : V m c main_v2 = shapeCast S16384x1024 (m ((c : Thread nD τ).loc main_arg0)) shapeCasts_S2x8192x1024_S16384x1024 := by
  show StableHlo.after (List.flatten [hostOps0, hostOps0_1, hostOps0_2]) _ _ = _
  simp only [hostOps0, hostOps0_1, hostOps0_2, List.flatten_cons, List.flatten_nil, List.append_nil, List.cons_append, List.nil_append,
    StableHlo.TRef.unary, StableHlo.TRef.binary, StableHlo.TRef.toBuf, StableHlo.TRef.ofBuf, cast_eq]
  after_results
  rfl

/-- A block of the rows, read in the argument. -/
theorem read_x (c : Dev nD) (t : Fin cfg0.N) (i : Fin 1024) (k : Fin 1024) (b : Fin 2) (r : Fin 8192)
    (h : b.val * 8192 + r.val = t.val / 5 * 1024 + i.val) :
    iblk m c 0 t (ix2 i k) = m ((c : Thread nD τ).loc main_arg0) (ix3 b r k) := by
  show V m c main_v2 (((cfg0.win 0).blk t).view.emb (ix2 i k)) = _
  have e0 : (((cfg0.win 0).blk t).view.emb (ix2 i k) 0).val = t.val / 5 * 1024 + i.val := by blk_simp [idx t]
  have e1 : (((cfg0.win 0).blk t).view.emb (ix2 i k) 1).val = k.val := by blk_simp [idx t]
  rw [entry_x]
  exact flat_x _ _ b r k (h.trans e0.symm) e1

/-- A block of the gain, read in the argument. -/
theorem read_g (c : Dev nD) (t : Fin cfg0.N) (k : Fin 1024) :
    iblk m c 1 t (ix2 0 k) = m ((c : Thread nD τ).loc main_arg1) (ix1 k) := by
  show V m c main_v3 (((cfg0.win 1).blk t).view.emb (ix2 0 k)) = _
  rw [entry_g]
  have e : ((cfg0.win 1).blk t).view.emb (ix2 0 k) 1 = k := Fin.ext (by blk_simp [idx t])
  pointwise
  exact congrArg _ (congrArg ix1 e)

/-- The padding value is zero. -/
theorem pad_zero : (FloatOps.sitofp FTy.f32 0#32 : Ideal .f32) = 0 := by
  show (((0#32).toInt : ℝ) : EReal) = 0
  simp

/-- A block of the weights, read in the argument: zero in the added columns. -/
theorem read_w (c : Dev nD) (t : Fin cfg0.N) (k : Fin 1024) (j : Fin 1280) :
    iblk m c 2 t (ix2 k j) = if h : t.val % 5 * 1280 + j.val < 6176 then
      m ((c : Thread nD τ).loc main_arg2) (ix2 k ⟨t.val % 5 * 1280 + j.val, h⟩) else (0 : EReal) := by
  show V m c main_v1 (((cfg0.win 2).blk t).view.emb (ix2 k j)) = _
  rw [entry_w]
  have e0 : (((cfg0.win 2).blk t).view.emb (ix2 k j) 0).val = k.val := by blk_simp [idx t]
  have e1 : (((cfg0.win 2).blk t).view.emb (ix2 k j) 1).val = t.val % 5 * 1280 + j.val := by blk_simp [idx t]
  generalize ((cfg0.win 2).blk t).view.emb (ix2 k j) = z at e0 e1
  show pad S1024x6400 ![0, 0] ![0, 224] ![0, 0] (m ((c : Thread nD τ).loc main_arg2)) (sitofp .f32 (constantI S_ 32 0#32) : FVec Ideal S_ .f32)
    pads_S1024x6176_S1024x6400_000_02240 h_S_ z = _
  by_cases h : t.val % 5 * 1280 + j.val < 6176
  · rw [dif_pos h]
    refine pad_apply_of_inside _ _ _ _ _ _ _ _ _ fun a => ?_
    match a with
    | 0 => exact e0.trans (by simp)
    | 1 => exact e1.trans (by simp)
  · rw [dif_neg h]
    refine (pad_apply_of_not_inside _ _ _ _ _ _ _ _ 1 ?_).trans pad_zero
    rintro ⟨-, -, hh⟩
    refine h (e1 ▸ ?_)
    simpa using hh

/-- Two grid points of one row block stage the same rows. -/
theorem rows_same (c : Dev nD) (t u : Fin cfg0.N) (h : t.val / 5 = u.val / 5) : iblk m c 0 t = iblk m c 0 u := by
  funext y
  blk_ext [iblk, V, idx t, idx u]

/-- Every grid point stages the same gain. -/
theorem gain_same (c : Dev nD) (t u : Fin cfg0.N) : iblk m c 1 t = iblk m c 1 u := by
  funext y
  blk_ext [iblk, V, idx t, idx u]

/-- After every grid point the scratch buffer holds the normalised rows of that point's row block. -/
theorem scratch (c : Dev nD) : ∀ (n : ℕ) (hn : n < cfg0.N),
    (outsAt0 m c n hn).2 = k0_pay1 (iblk m c 0 ⟨n, hn⟩) (iblk m c 1 ⟨n, hn⟩) := by
  intro n
  induction n with
  | zero =>
    intro hn
    rw [outsAt0_A m c ⟨0, hn⟩ rfl]; frame_out
  | succ n ih =>
    intro hn
    by_cases h0 : (n + 1) % 5 = 0
    · rw [outsAt0_A m c ⟨n + 1, hn⟩ h0]; frame_out
    · rw [outsAt0_B m c ⟨n + 1, hn⟩ h0]; frame_out
      refine (ih (Nat.lt_of_succ_lt hn)).trans ?_
      rw [rows_same m c ⟨n, Nat.lt_of_succ_lt hn⟩ ⟨n + 1, hn⟩ (by show n / 5 = (n + 1) / 5; omega),
        gain_same m c ⟨n, Nat.lt_of_succ_lt hn⟩ ⟨n + 1, hn⟩]

/-- What the output block holds after grid point `t`. -/
theorem block (c : Dev nD) (t : Fin cfg0.N) : (outsAt0 m c t.val t.isLt).1
    = k0_pay2 (k0_pay1 (iblk m c 0 t) (iblk m c 1 t)) (iblk m c 2 t) := by
  by_cases h0 : t.val % 5 = 0
  · rw [outsAt0_A m c t h0]; frame_out
  · rw [outsAt0_B m c t h0]; frame_out
    have ht := t.isLt
    rw [scratch m c (t.val - 1) (by omega),
      rows_same m c ⟨t.val - 1, by omega⟩ t (by show (t.val - 1) / 5 = t.val / 5; omega),
      gain_same m c ⟨t.val - 1, by omega⟩ t]
    exact congrArg (fun z => k0_pay2 z (iblk m c 2 t)) (Memref.IsWhole.read_unread _ _)

/-- What grid point `t` stores at `y` is the reference's term read where the block sits. -/
theorem point (c : Dev nD) (t : Fin cfg0.N) (y : S1024x1280.Idx) :
    k0_pay2 (k0_pay1 (iblk m c 0 t) (iblk m c 1 t)) (iblk m c 2 t) y
      = whole (m ((c : Thread nD τ).loc main_arg0)) (m ((c : Thread nD τ).loc main_arg1)) (m ((c : Thread nD τ).loc main_arg2)) (((cfg0.win 3).blk t).view.emb y) := by
  have e0 : (((cfg0.win 3).blk t).view.emb y 0).val = t.val / 5 * 1024 + (y 0).val := by blk_simp [idx t]
  have e1 : (((cfg0.win 3).blk t).view.emb y 1).val = t.val % 5 * 1280 + (y 1).val := by blk_simp [idx t]
  generalize ((cfg0.win 3).blk t).view.emb y = z at e0 e1
  have hz : (z 0).val < 16384 := (z 0).isLt
  have hx : ∀ k : Fin 1024, iblk m c 0 t (ix2 (y 0) k) = m ((c : Thread nD τ).loc main_arg0)
      (ix3 ⟨(z 0).val / 8192, by omega⟩ ⟨(z 0).val % 8192, by omega⟩ k) := fun k => read_x m c t (y 0) k _ _ (by simp only; omega)
  have hw : ∀ k : Fin 1024, iblk m c 2 t (ix2 k (y 1)) = if h : (z 1).val < 6176 then
      m ((c : Thread nD τ).loc main_arg2) (ix2 k ⟨(z 1).val, h⟩) else (0 : EReal) := fun k =>
    (read_w m c t k (y 1)).trans (by simp only [e1])
  pointwise [k0_pay1, k0_pay2, whole]
  simp only [hx, hw, read_g m c t]
  by_cases h : (z 1).val < 6176
  · simp only [dif_pos h]
    rw [dif_pos ⟨by omega, by omega, h⟩]
  · simp only [dif_neg h]
    rw [dif_neg fun q => h q.2.2, pad_zero]
    exact Finset.sum_eq_zero fun x _ => mul_zero _

/-- The result array after the run is the reference's term. -/
theorem final (c : Dev nD) : (dats m 0 c).arrAt 3 (cfgs 0).N = whole (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; rw [block]
  exact point m c t y

end Cert.SsmInIdeal.Blocks

namespace Cert.Claims

/-- The input projection of the recurrent layer: the rows are normalised once per row block, kept in a scratch
   buffer, and every output block is the same rows and columns of `rms_norm(x) @ w`, zero in the added columns. -/
theorem ssmIn : Cert.algebraic_SsmInIdeal_SsmInRefIdeal := by
  pair_intro
  · run_from Cert.SsmInIdeal.Gen.run_main m g
    · exact Cert.SsmInIdeal.Gen.V_main_arg0 m c
    · exact Cert.SsmInIdeal.Gen.V_main_arg1 m c
    · exact Cert.SsmInIdeal.Gen.V_main_arg2 m c
  · run_from Cert.SsmInRefIdeal.Value.run m' g'
    exact (Cert.SsmInIdeal.Blocks.final m c).symm

end Cert.Claims

end
-- ==== Proof.SsmInS.lean ====
/- The input projection of the recurrent layer: the rows are normalised once per row block, kept in a scratch
   buffer, and every output block is the same rows and columns of `rms_norm(x) @ w`, zero in the added columns. -/
module

public import proofs.«01_k».proof.Proof.Gen.SsmInSIdeal.Frame
public import proofs.«01_k».proof.Proof.Gen.SsmInSRefIdeal.Run
public import proofs.«01_k».proof.Defs
public import Idealize.ShloMosaic.Lib.Pipeline.ValueKit
public import Idealize.ShloMosaic.Lib.Pointwise
public import Idealize.ShloMosaic.Lib.Claim
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.SsmInSIdeal.Blocks

open Cert.SsmInSIdeal Cert.SsmInSIdeal.Gen

variable (m : (ℓ : Loc nD τ sig) → Buf (Elt Ideal) ℓ)

/-- The reference's term. -/
def whole (x : FVec Ideal Cert.SsmInSRefIdeal.S32x4x1024 .f32) (g : FVec Ideal Cert.SsmInSRefIdeal.S1024 .f32) (w : FVec Ideal Cert.SsmInSRefIdeal.S1024x6176 .f32) :
    FVec Ideal Cert.SsmInSRefIdeal.S128x6400 .f32 :=
  shapeCast _ (pad Cert.SsmInSRefIdeal.S32x4x6400 ![0, 0, 0] ![0, 0, 224] ![0, 0, 0] (Host.dotGeneral Cert.SsmInSRefIdeal.dot_S32x4x1024_S1024x6176_S32x4x6176_2_0_01_1_n_n none (mulf (mulf x (broadcastInDim Cert.SsmInSRefIdeal.S32x4x1024 ![0, 1, 2] Cert.SsmInSRefIdeal.Gen.bcast_S32x4x1_S32x4x1024_0_1_2 (Host.rsqrt (addf (Host.divf (broadcastInDim Cert.SsmInSRefIdeal.S32x4x1 ![0, 1] Cert.SsmInSRefIdeal.Gen.bcast_S32x4_S32x4x1_0_1 (Host.reduceAdd (mulf x x) (constant Cert.SsmInSRefIdeal.S_ .f32 0x00000000#32) Cert.SsmInSRefIdeal.Gen.reducesTo_S32x4x1024_S32x4_d2 Cert.SsmInSRefIdeal.Gen.h_S_)) (broadcastInDim Cert.SsmInSRefIdeal.S32x4x1 ![] Cert.SsmInSRefIdeal.Gen.bcast_S_S32x4x1 (constant Cert.SsmInSRefIdeal.S_ .f32 0x44800000#32))) (broadcastInDim Cert.SsmInSRefIdeal.S32x4x1 ![] Cert.SsmInSRefIdeal.Gen.bcast_S_S32x4x1 (constant Cert.SsmInSRefIdeal.S_ .f32 0x3727C5AC#32)))))) (broadcastInDim Cert.SsmInSRefIdeal.S32x4x1024 ![0, 1, 2] Cert.SsmInSRefIdeal.Gen.bcast_S1x1x1024_S32x4x1024_0_1_2 (broadcastInDim Cert.SsmInSRefIdeal.S1x1x1024 ![2] Cert.SsmInSRefIdeal.Gen.bcast_S1024_S1x1x1024_2 g))) w) (sitofp .f32 (constantI Cert.SsmInSRefIdeal.S_ 32 0#32)) Cert.SsmInSRefIdeal.Gen.pads_S32x4x6176_S32x4x6400_000_000_02240 Cert.SsmInSRefIdeal.Gen.h_S_) Cert.SsmInSRefIdeal.Gen.shapeCasts_S32x4x6400_S128x6400

/-- Which block each window stages at grid point `t`. -/
theorem idx : ∀ t : Fin cfg0.N, win0_0.index t = ![0, 0]
    ∧ win0_1.index t = ![0, 0]
    ∧ win0_2.index t = ![0, t.val % 5]
    ∧ win0_3.index t = ![0, t.val % 5] :=
  (by decide +kernel : ∀ t : Fin grid0.N, _)

/-- The padded weights as the region finds them. -/
theorem entry_w (c : Dev nD) : V m c main_v1 = (truncf .bf16 (pad S1024x6400 ![0, 0] ![0, 224] ![0, 0]
    (m ((c : Thread nD τ).loc main_arg2)) (sitofp .f32 (constantI S_ 32 0#32) : FVec Ideal S_ .f32) pads_S1024x6176_S1024x6400_000_02240 h_S_)
      bitsLt_bf16_f32 : FVec Ideal S1024x6400 .bf16) := by
  show StableHlo.after (List.flatten [hostOps0, hostOps0_1, hostOps0_2]) _ _ = _
  simp only [hostOps0, hostOps0_1, hostOps0_2, List.flatten_cons, List.flatten_nil, List.append_nil, List.cons_append, List.nil_append,
    StableHlo.TRef.unary, StableHlo.TRef.binary, StableHlo.TRef.toBuf, StableHlo.TRef.ofBuf, cast_eq]
  after_results

/-- The gain as the region finds it. -/
theorem entry_g (c : Dev nD) : V m c main_v3 = shapeCast S1x1024 (m ((c : Thread nD τ).loc main_arg1)) shapeCasts_S1024_S1x1024 := by
  show StableHlo.after (List.flatten [hostOps0, hostOps0_1, hostOps0_2]) _ _ = _
  simp only [hostOps0, hostOps0_1, hostOps0_2, List.flatten_cons, List.flatten_nil, List.append_nil, List.cons_append, List.nil_append,
    StableHlo.TRef.unary, StableHlo.TRef.binary, StableHlo.TRef.toBuf, StableHlo.TRef.ofBuf, cast_eq]
  after_results
  rfl

/-- The rows of all batches laid under each other, read at an entry. -/
theorem flat_x (x : FVec Ideal S32x4x1024 .f32) (z : S128x1024.Idx) (b : Fin 32) (r : Fin 4) (k : Fin 1024)
    (h : b.val * 4 + r.val = (z 0).val) (e1 : (z 1).val = k.val) :
    shapeCast S128x1024 x shapeCasts_S32x4x1024_S128x1024 z = x (ix3 b r k) := by
  pointwise
  have hb : (⟨(z 0).val / 4, by have := (z 0).isLt; have : (z 0).val < 128 := this; omega⟩ : Fin 32) = b := Fin.ext (by show (z 0).val / 4 = b.val; omega)
  have hr : (⟨(z 0).val % 4, by omega⟩ : Fin 4) = r := Fin.ext (by show (z 0).val % 4 = r.val; omega)
  have hk : (z 1 : Fin 1024) = k := Fin.ext e1
  rw [← hb, ← hr, ← hk]

/-- The rows as the region finds them. -/
theorem entry_x (c : Dev nD) : V m c main_v2 = shapeCast S128x1024 (m ((c : Thread nD τ).loc main_arg0)) shapeCasts_S32x4x1024_S128x1024 := by
  show StableHlo.after (List.flatten [hostOps0, hostOps0_1, hostOps0_2]) _ _ = _
  simp only [hostOps0, hostOps0_1, hostOps0_2, List.flatten_cons, List.flatten_nil, List.append_nil, List.cons_append, List.nil_append,
    StableHlo.TRef.unary, StableHlo.TRef.binary, StableHlo.TRef.toBuf, StableHlo.TRef.ofBuf, cast_eq]
  after_results
  rfl

/-- A block of the rows, read in the argument. -/
theorem read_x (c : Dev nD) (t : Fin cfg0.N) (i : Fin 128) (k : Fin 1024) (b : Fin 32) (r : Fin 4)
    (h : b.val * 4 + r.val = 0 + i.val) :
    iblk m c 0 t (ix2 i k) = m ((c : Thread nD τ).loc main_arg0) (ix3 b r k) := by
  show V m c main_v2 (((cfg0.win 0).blk t).view.emb (ix2 i k)) = _
  have e0 : (((cfg0.win 0).blk t).view.emb (ix2 i k) 0).val = 0 + i.val := by blk_simp [idx t]
  have e1 : (((cfg0.win 0).blk t).view.emb (ix2 i k) 1).val = k.val := by blk_simp [idx t]
  rw [entry_x]
  exact flat_x _ _ b r k (h.trans e0.symm) e1

/-- A block of the gain, read in the argument. -/
theorem read_g (c : Dev nD) (t : Fin cfg0.N) (k : Fin 1024) :
    iblk m c 1 t (ix2 0 k) = m ((c : Thread nD τ).loc main_arg1) (ix1 k) := by
  show V m c main_v3 (((cfg0.win 1).blk t).view.emb (ix2 0 k)) = _
  rw [entry_g]
  have e : ((cfg0.win 1).blk t).view.emb (ix2 0 k) 1 = k := Fin.ext (by blk_simp [idx t])
  pointwise
  exact congrArg _ (congrArg ix1 e)

/-- The padding value is zero. -/
theorem pad_zero : (FloatOps.sitofp FTy.f32 0#32 : Ideal .f32) = 0 := by
  show (((0#32).toInt : ℝ) : EReal) = 0
  simp

/-- A block of the weights, read in the argument: zero in the added columns. -/
theorem read_w (c : Dev nD) (t : Fin cfg0.N) (k : Fin 1024) (j : Fin 1280) :
    iblk m c 2 t (ix2 k j) = if h : t.val % 5 * 1280 + j.val < 6176 then
      m ((c : Thread nD τ).loc main_arg2) (ix2 k ⟨t.val % 5 * 1280 + j.val, h⟩) else (0 : EReal) := by
  show V m c main_v1 (((cfg0.win 2).blk t).view.emb (ix2 k j)) = _
  rw [entry_w]
  have e0 : (((cfg0.win 2).blk t).view.emb (ix2 k j) 0).val = k.val := by blk_simp [idx t]
  have e1 : (((cfg0.win 2).blk t).view.emb (ix2 k j) 1).val = t.val % 5 * 1280 + j.val := by blk_simp [idx t]
  generalize ((cfg0.win 2).blk t).view.emb (ix2 k j) = z at e0 e1
  show pad S1024x6400 ![0, 0] ![0, 224] ![0, 0] (m ((c : Thread nD τ).loc main_arg2)) (sitofp .f32 (constantI S_ 32 0#32) : FVec Ideal S_ .f32)
    pads_S1024x6176_S1024x6400_000_02240 h_S_ z = _
  by_cases h : t.val % 5 * 1280 + j.val < 6176
  · rw [dif_pos h]
    refine pad_apply_of_inside _ _ _ _ _ _ _ _ _ fun a => ?_
    match a with
    | 0 => exact e0.trans (by simp)
    | 1 => exact e1.trans (by simp)
  · rw [dif_neg h]
    refine (pad_apply_of_not_inside _ _ _ _ _ _ _ _ 1 ?_).trans pad_zero
    rintro ⟨-, -, hh⟩
    refine h (e1 ▸ ?_)
    simpa using hh

/-- Two grid points of one row block stage the same rows. -/
theorem rows_same (c : Dev nD) (t u : Fin cfg0.N) (h : t.val / 5 = u.val / 5) : iblk m c 0 t = iblk m c 0 u := by
  funext y
  blk_ext [iblk, V, idx t, idx u]

/-- Every grid point stages the same gain. -/
theorem gain_same (c : Dev nD) (t u : Fin cfg0.N) : iblk m c 1 t = iblk m c 1 u := by
  funext y
  blk_ext [iblk, V, idx t, idx u]

/-- After every grid point the scratch buffer holds the normalised rows of that point's row block. -/
theorem scratch (c : Dev nD) : ∀ (n : ℕ) (hn : n < cfg0.N),
    (outsAt0 m c n hn).2 = k0_pay1 (iblk m c 0 ⟨n, hn⟩) (iblk m c 1 ⟨n, hn⟩) := by
  intro n
  induction n with
  | zero =>
    intro hn
    rw [outsAt0_A m c ⟨0, hn⟩ rfl]; frame_out
  | succ n ih =>
    intro hn
    by_cases h0 : (n + 1) % 5 = 0
    · rw [outsAt0_A m c ⟨n + 1, hn⟩ h0]; frame_out
    · rw [outsAt0_B m c ⟨n + 1, hn⟩ h0]; frame_out
      refine (ih (Nat.lt_of_succ_lt hn)).trans ?_
      rw [rows_same m c ⟨n, Nat.lt_of_succ_lt hn⟩ ⟨n + 1, hn⟩ (by show n / 5 = (n + 1) / 5; omega),
        gain_same m c ⟨n, Nat.lt_of_succ_lt hn⟩ ⟨n + 1, hn⟩]

/-- What the output block holds after grid point `t`. -/
theorem block (c : Dev nD) (t : Fin cfg0.N) : (outsAt0 m c t.val t.isLt).1
    = k0_pay2 (k0_pay1 (iblk m c 0 t) (iblk m c 1 t)) (iblk m c 2 t) := by
  by_cases h0 : t.val % 5 = 0
  · rw [outsAt0_A m c t h0]; frame_out
  · rw [outsAt0_B m c t h0]; frame_out
    have ht := t.isLt
    rw [scratch m c (t.val - 1) (by omega),
      rows_same m c ⟨t.val - 1, by omega⟩ t (by show (t.val - 1) / 5 = t.val / 5; omega),
      gain_same m c ⟨t.val - 1, by omega⟩ t]
    exact congrArg (fun z => k0_pay2 z (iblk m c 2 t)) (Memref.IsWhole.read_unread _ _)

/-- What grid point `t` stores at `y` is the reference's term read where the block sits. -/
theorem point (c : Dev nD) (t : Fin cfg0.N) (y : S128x1280.Idx) :
    k0_pay2 (k0_pay1 (iblk m c 0 t) (iblk m c 1 t)) (iblk m c 2 t) y
      = whole (m ((c : Thread nD τ).loc main_arg0)) (m ((c : Thread nD τ).loc main_arg1)) (m ((c : Thread nD τ).loc main_arg2)) (((cfg0.win 3).blk t).view.emb y) := by
  have e0 : (((cfg0.win 3).blk t).view.emb y 0).val = 0 + (y 0).val := by blk_simp [idx t]
  have e1 : (((cfg0.win 3).blk t).view.emb y 1).val = t.val % 5 * 1280 + (y 1).val := by blk_simp [idx t]
  generalize ((cfg0.win 3).blk t).view.emb y = z at e0 e1
  have hz : (z 0).val < 128 := (z 0).isLt
  have hx : ∀ k : Fin 1024, iblk m c 0 t (ix2 (y 0) k) = m ((c : Thread nD τ).loc main_arg0)
      (ix3 ⟨(z 0).val / 4, by omega⟩ ⟨(z 0).val % 4, by omega⟩ k) := fun k => read_x m c t (y 0) k _ _ (by simp only; omega)
  have hw : ∀ k : Fin 1024, iblk m c 2 t (ix2 k (y 1)) = if h : (z 1).val < 6176 then
      m ((c : Thread nD τ).loc main_arg2) (ix2 k ⟨(z 1).val, h⟩) else (0 : EReal) := fun k =>
    (read_w m c t k (y 1)).trans (by simp only [e1])
  pointwise [k0_pay1, k0_pay2, whole]
  simp only [hx, hw, read_g m c t]
  by_cases h : (z 1).val < 6176
  · simp only [dif_pos h]
    rw [dif_pos ⟨by omega, by omega, h⟩]
  · simp only [dif_neg h]
    rw [dif_neg fun q => h q.2.2, pad_zero]
    exact Finset.sum_eq_zero fun x _ => mul_zero _

/-- The result array after the run is the reference's term. -/
theorem final (c : Dev nD) : (dats m 0 c).arrAt 3 (cfgs 0).N = whole (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; rw [block]
  exact point m c t y

end Cert.SsmInSIdeal.Blocks

namespace Cert.Claims

/-- The input projection of the recurrent layer: the rows are normalised once per row block, kept in a scratch
   buffer, and every output block is the same rows and columns of `rms_norm(x) @ w`, zero in the added columns. -/
theorem ssmInS : Cert.algebraic_SsmInSIdeal_SsmInSRefIdeal := by
  pair_intro
  · run_from Cert.SsmInSIdeal.Gen.run_main m g
    · exact Cert.SsmInSIdeal.Gen.V_main_arg0 m c
    · exact Cert.SsmInSIdeal.Gen.V_main_arg1 m c
    · exact Cert.SsmInSIdeal.Gen.V_main_arg2 m c
  · run_from Cert.SsmInSRefIdeal.Value.run m' g'
    exact (Cert.SsmInSIdeal.Blocks.final m c).symm

end Cert.Claims

end
-- ==== Proof.SsmOut.lean ====
/- The output projection of the recurrent layer: every output block is the same rows and columns of `h + y @ w`. -/
module

public import proofs.«01_k».proof.Proof.Gen.SsmOutIdeal.Frame
public import proofs.«01_k».proof.Proof.Gen.SsmOutRefIdeal.Run
public import proofs.«01_k».proof.Defs
public import Idealize.ShloMosaic.Lib.Pipeline.ValueKit
public import Idealize.ShloMosaic.Lib.Pointwise
public import Idealize.ShloMosaic.Lib.Claim
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.SsmOutIdeal.Blocks

open Cert.SsmOutIdeal Cert.SsmOutIdeal.Gen

variable (m : (ℓ : Loc nD τ sig) → Buf (Elt Ideal) ℓ)

/-- The reference's term. -/
def whole (a : FVec Ideal S16384x2048 .bf16) (w : FVec Ideal S2048x1024 .f32) (h : FVec Ideal S16384x1024 .f32) :
    FVec Ideal S16384x1024 .f32 :=
  addf h (Host.dotGeneral Cert.SsmOutRefIdeal.dot_S16384x2048_S2048x1024_S16384x1024_1_0_0_1_n_n none (extf .f32 a Cert.SsmOutRefIdeal.Gen.bitsLt_bf16_f32) w)

/-- Which block each window stages at grid point `t`. -/
theorem idx : ∀ t : Fin cfg0.N, win0_0.index t = ![t.val / 2, 0]
    ∧ win0_1.index t = ![0, t.val % 2]
    ∧ win0_2.index t = ![t.val / 2, t.val % 2]
    ∧ win0_3.index t = ![t.val / 2, t.val % 2] :=
  (by decide +kernel : ∀ t : Fin grid0.N, _)

/-- What grid point `t` stores at `y` is the reference's term read where the block sits. -/
theorem point (c : Dev nD) (t : Fin cfg0.N) (y : S1024x512.Idx) :
    k0_pay1 (iblk m c 0 t) (iblk m c 1 t) (iblk m c 2 t) y = whole (m ((c : Thread nD τ).loc main_arg0)) (m ((c : Thread nD τ).loc main_arg1)) (m ((c : Thread nD τ).loc main_arg2)) (((cfg0.win 3).blk t).view.emb y) := by
  pointwise [k0_pay1, whole]
  refine (add_comm _ _).trans ?_
  blk_point [iblk, V, idx t]

/-- The result array after the run is the reference's term. -/
theorem final (c : Dev nD) : (dats m 0 c).arrAt 3 (cfgs 0).N = whole (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.SsmOutIdeal.Blocks

namespace Cert.Claims

/-- The output projection of the recurrent layer: every output block is the same rows and columns of `h + y @ w`. -/
theorem ssmOut : Cert.algebraic_SsmOutIdeal_SsmOutRefIdeal := by
  pair_intro
  · run_from Cert.SsmOutIdeal.Gen.run_main m g
  · run_from Cert.SsmOutRefIdeal.Value.run m' g'
    exact (Cert.SsmOutIdeal.Blocks.final m c).symm

end Cert.Claims

end
-- ==== Proof.AttIn.lean ====
/- The input projection of the attention layer: the rows are normalised once per row block, kept in a scratch
   buffer, and every output block is the same rows and columns of `rms_norm(x) @ w`, zero in the added columns. -/
module

public import proofs.«01_k».proof.Proof.Gen.AttInIdeal.Frame
public import proofs.«01_k».proof.Proof.Gen.AttInRefIdeal.Run
public import proofs.«01_k».proof.Defs
public import Idealize.ShloMosaic.Lib.Pipeline.ValueKit
public import Idealize.ShloMosaic.Lib.Pointwise
public import Idealize.ShloMosaic.Lib.Claim
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.AttInIdeal.Blocks

open Cert.AttInIdeal Cert.AttInIdeal.Gen

variable (m : (ℓ : Loc nD τ sig) → Buf (Elt Ideal) ℓ)

/-- The reference's term. -/
def whole (x : FVec Ideal Cert.AttInRefIdeal.S16384x1024 .f32) (g : FVec Ideal Cert.AttInRefIdeal.S1024 .f32) (w : FVec Ideal Cert.AttInRefIdeal.S1024x2608 .f32) :
    FVec Ideal Cert.AttInRefIdeal.S16384x2688 .f32 :=
  pad Cert.AttInRefIdeal.S16384x2688 ![0, 0] ![0, 80] ![0, 0] (Host.dotGeneral Cert.AttInRefIdeal.dot_S16384x1024_S1024x2608_S16384x2608_1_0_0_1_n_n none (mulf (mulf x (broadcastInDim Cert.AttInRefIdeal.S16384x1024 ![0, 1] Cert.AttInRefIdeal.Gen.bcast_S16384x1_S16384x1024_0_1 (Host.rsqrt (addf (Host.divf (broadcastInDim Cert.AttInRefIdeal.S16384x1 ![0] Cert.AttInRefIdeal.Gen.bcast_S16384_S16384x1_0 (Host.reduceAdd (mulf x x) (constant Cert.AttInRefIdeal.S_ .f32 0x00000000#32) Cert.AttInRefIdeal.Gen.reducesTo_S16384x1024_S16384_d1 Cert.AttInRefIdeal.Gen.h_S_)) (broadcastInDim Cert.AttInRefIdeal.S16384x1 ![] Cert.AttInRefIdeal.Gen.bcast_S_S16384x1 (constant Cert.AttInRefIdeal.S_ .f32 0x44800000#32))) (broadcastInDim Cert.AttInRefIdeal.S16384x1 ![] Cert.AttInRefIdeal.Gen.bcast_S_S16384x1 (constant Cert.AttInRefIdeal.S_ .f32 0x3727C5AC#32)))))) (broadcastInDim Cert.AttInRefIdeal.S16384x1024 ![0, 1] Cert.AttInRefIdeal.Gen.bcast_S1x1024_S16384x1024_0_1 (broadcastInDim Cert.AttInRefIdeal.S1x1024 ![1] Cert.AttInRefIdeal.Gen.bcast_S1024_S1x1024_1 g))) w) (sitofp .f32 (constantI Cert.AttInRefIdeal.S_ 32 0#32)) Cert.AttInRefIdeal.Gen.pads_S16384x2608_S16384x2688_000_0800 Cert.AttInRefIdeal.Gen.h_S_

/-- Which block each window stages at grid point `t`. -/
theorem idx : ∀ t : Fin cfg0.N, win0_0.index t = ![t.val / 3, 0]
    ∧ win0_1.index t = ![0, 0]
    ∧ win0_2.index t = ![0, t.val % 3]
    ∧ win0_3.index t = ![t.val / 3, t.val % 3] :=
  (by decide +kernel : ∀ t : Fin grid0.N, _)

/-- The padded weights as the region finds them. -/
theorem entry_w (c : Dev nD) : V m c main_v1 = (truncf .bf16 (pad S1024x2688 ![0, 0] ![0, 80] ![0, 0]
    (m ((c : Thread nD τ).loc main_arg2)) (sitofp .f32 (constantI S_ 32 0#32) : FVec Ideal S_ .f32) pads_S1024x2608_S1024x2688_000_0800 h_S_)
      bitsLt_bf16_f32 : FVec Ideal S1024x2688 .bf16) := by
  show StableHlo.after (List.flatten [hostOps0, hostOps0_1, hostOps0_2]) _ _ = _
  simp only [hostOps0, hostOps0_1, hostOps0_2, List.flatten_cons, List.flatten_nil, List.append_nil, List.cons_append, List.nil_append,
    StableHlo.TRef.unary, StableHlo.TRef.binary, StableHlo.TRef.toBuf, StableHlo.TRef.ofBuf, cast_eq]
  after_results

/-- The gain as the region finds it. -/
theorem entry_g (c : Dev nD) : V m c main_v2 = shapeCast S1x1024 (m ((c : Thread nD τ).loc main_arg1)) shapeCasts_S1024_S1x1024 := by
  show StableHlo.after (List.flatten [hostOps0, hostOps0_1, hostOps0_2]) _ _ = _
  simp only [hostOps0, hostOps0_1, hostOps0_2, List.flatten_cons, List.flatten_nil, List.append_nil, List.cons_append, List.nil_append,
    StableHlo.TRef.unary, StableHlo.TRef.binary, StableHlo.TRef.toBuf, StableHlo.TRef.ofBuf, cast_eq]
  after_results
  rfl

/-- A block of the rows, read in the argument. -/
theorem read_x (c : Dev nD) (t : Fin cfg0.N) (i : Fin 1024) (k : Fin 1024) (r : Fin 16384)
    (h : r.val = t.val / 3 * 1024 + i.val) :
    iblk m c 0 t (ix2 i k) = m ((c : Thread nD τ).loc main_arg0) (ix2 r k) := by
  refine congrArg (V m c main_arg0) (?_ : ((cfg0.win 0).blk t).view.emb (ix2 i k) = ix2 r k) |>.trans (congrFun (V_main_arg0 m c) _)
  have e0 : (((cfg0.win 0).blk t).view.emb (ix2 i k) 0).val = r.val := by rw [h]; blk_simp [idx t]
  have e1 : (((cfg0.win 0).blk t).view.emb (ix2 i k) 1).val = k.val := by blk_simp [idx t]
  funext a
  match a with
  | 0 => exact Fin.ext e0
  | 1 => exact Fin.ext e1

/-- A block of the gain, read in the argument. -/
theorem read_g (c : Dev nD) (t : Fin cfg0.N) (k : Fin 1024) :
    iblk m c 1 t (ix2 0 k) = m ((c : Thread nD τ).loc main_arg1) (ix1 k) := by
  show V m c main_v2 (((cfg0.win 1).blk t).view.emb (ix2 0 k)) = _
  rw [entry_g]
  have e : ((cfg0.win 1).blk t).view.emb (ix2 0 k) 1 = k := Fin.ext (by blk_simp [idx t])
  pointwise
  exact congrArg _ (congrArg ix1 e)

/-- The padding value is zero. -/
theorem pad_zero : (FloatOps.sitofp FTy.f32 0#32 : Ideal .f32) = 0 := by
  show (((0#32).toInt : ℝ) : EReal) = 0
  simp

/-- A block of the weights, read in the argument: zero in the added columns. -/
theorem read_w (c : Dev nD) (t : Fin cfg0.N) (k : Fin 1024) (j : Fin 896) :
    iblk m c 2 t (ix2 k j) = if h : t.val % 3 * 896 + j.val < 2608 then
      m ((c : Thread nD τ).loc main_arg2) (ix2 k ⟨t.val % 3 * 896 + j.val, h⟩) else (0 : EReal) := by
  show V m c main_v1 (((cfg0.win 2).blk t).view.emb (ix2 k j)) = _
  rw [entry_w]
  have e0 : (((cfg0.win 2).blk t).view.emb (ix2 k j) 0).val = k.val := by blk_simp [idx t]
  have e1 : (((cfg0.win 2).blk t).view.emb (ix2 k j) 1).val = t.val % 3 * 896 + j.val := by blk_simp [idx t]
  generalize ((cfg0.win 2).blk t).view.emb (ix2 k j) = z at e0 e1
  show pad S1024x2688 ![0, 0] ![0, 80] ![0, 0] (m ((c : Thread nD τ).loc main_arg2)) (sitofp .f32 (constantI S_ 32 0#32) : FVec Ideal S_ .f32)
    pads_S1024x2608_S1024x2688_000_0800 h_S_ z = _
  by_cases h : t.val % 3 * 896 + j.val < 2608
  · rw [dif_pos h]
    refine pad_apply_of_inside _ _ _ _ _ _ _ _ _ fun a => ?_
    match a with
    | 0 => exact e0.trans (by simp)
    | 1 => exact e1.trans (by simp)
  · rw [dif_neg h]
    refine (pad_apply_of_not_inside _ _ _ _ _ _ _ _ 1 ?_).trans pad_zero
    rintro ⟨-, -, hh⟩
    refine h (e1 ▸ ?_)
    simpa using hh

/-- Two grid points of one row block stage the same rows. -/
theorem rows_same (c : Dev nD) (t u : Fin cfg0.N) (h : t.val / 3 = u.val / 3) : iblk m c 0 t = iblk m c 0 u := by
  funext y
  blk_ext [iblk, V, idx t, idx u]

/-- Every grid point stages the same gain. -/
theorem gain_same (c : Dev nD) (t u : Fin cfg0.N) : iblk m c 1 t = iblk m c 1 u := by
  funext y
  blk_ext [iblk, V, idx t, idx u]

/-- After every grid point the scratch buffer holds the normalised rows of that point's row block. -/
theorem scratch (c : Dev nD) : ∀ (n : ℕ) (hn : n < cfg0.N),
    (outsAt0 m c n hn).2 = k0_pay1 (iblk m c 0 ⟨n, hn⟩) (iblk m c 1 ⟨n, hn⟩) := by
  intro n
  induction n with
  | zero =>
    intro hn
    rw [outsAt0_A m c ⟨0, hn⟩ rfl]; frame_out
  | succ n ih =>
    intro hn
    by_cases h0 : (n + 1) % 3 = 0
    · rw [outsAt0_A m c ⟨n + 1, hn⟩ h0]; frame_out
    · rw [outsAt0_B m c ⟨n + 1, hn⟩ h0]; frame_out
      refine (ih (Nat.lt_of_succ_lt hn)).trans ?_
      rw [rows_same m c ⟨n, Nat.lt_of_succ_lt hn⟩ ⟨n + 1, hn⟩ (by show n / 3 = (n + 1) / 3; omega),
        gain_same m c ⟨n, Nat.lt_of_succ_lt hn⟩ ⟨n + 1, hn⟩]

/-- What the output block holds after grid point `t`. -/
theorem block (c : Dev nD) (t : Fin cfg0.N) : (outsAt0 m c t.val t.isLt).1
    = k0_pay2 (k0_pay1 (iblk m c 0 t) (iblk m c 1 t)) (iblk m c 2 t) := by
  by_cases h0 : t.val % 3 = 0
  · rw [outsAt0_A m c t h0]; frame_out
  · rw [outsAt0_B m c t h0]; frame_out
    have ht := t.isLt
    rw [scratch m c (t.val - 1) (by omega),
      rows_same m c ⟨t.val - 1, by omega⟩ t (by show (t.val - 1) / 3 = t.val / 3; omega),
      gain_same m c ⟨t.val - 1, by omega⟩ t]
    exact congrArg (fun z => k0_pay2 z (iblk m c 2 t)) (Memref.IsWhole.read_unread _ _)

/-- What grid point `t` stores at `y` is the reference's term read where the block sits. -/
theorem point (c : Dev nD) (t : Fin cfg0.N) (y : S1024x896.Idx) :
    k0_pay2 (k0_pay1 (iblk m c 0 t) (iblk m c 1 t)) (iblk m c 2 t) y
      = whole (m ((c : Thread nD τ).loc main_arg0)) (m ((c : Thread nD τ).loc main_arg1)) (m ((c : Thread nD τ).loc main_arg2)) (((cfg0.win 3).blk t).view.emb y) := by
  have e0 : (((cfg0.win 3).blk t).view.emb y 0).val = t.val / 3 * 1024 + (y 0).val := by blk_simp [idx t]
  have e1 : (((cfg0.win 3).blk t).view.emb y 1).val = t.val % 3 * 896 + (y 1).val := by blk_simp [idx t]
  generalize ((cfg0.win 3).blk t).view.emb y = z at e0 e1
  have hz : (z 0).val < 16384 := (z 0).isLt
  have hx : ∀ k : Fin 1024, iblk m c 0 t (ix2 (y 0) k) = m ((c : Thread nD τ).loc main_arg0)
      (ix2 (z 0) k) := fun k => read_x m c t (y 0) k _ e0
  have hw : ∀ k : Fin 1024, iblk m c 2 t (ix2 k (y 1)) = if h : (z 1).val < 2608 then
      m ((c : Thread nD τ).loc main_arg2) (ix2 k ⟨(z 1).val, h⟩) else (0 : EReal) := fun k =>
    (read_w m c t k (y 1)).trans (by simp only [e1])
  pointwise [k0_pay1, k0_pay2, whole]
  simp only [hx, hw, read_g m c t]
  by_cases h : (z 1).val < 2608
  · simp only [dif_pos h]
  · simp only [dif_neg h]
    refine Eq.trans ?_ pad_zero.symm
    exact Finset.sum_eq_zero fun x _ => mul_zero _

/-- The result array after the run is the reference's term. -/
theorem final (c : Dev nD) : (dats m 0 c).arrAt 3 (cfgs 0).N = whole (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; rw [block]
  exact point m c t y

end Cert.AttInIdeal.Blocks

namespace Cert.Claims

/-- The input projection of the attention layer: the rows are normalised once per row block, kept in a scratch
   buffer, and every output block is the same rows and columns of `rms_norm(x) @ w`, zero in the added columns. -/
theorem attIn : Cert.algebraic_AttInIdeal_AttInRefIdeal := by
  pair_intro
  · run_from Cert.AttInIdeal.Gen.run_main m g
    · exact Cert.AttInIdeal.Gen.V_main_arg1 m c
    · exact Cert.AttInIdeal.Gen.V_main_arg2 m c
  · run_from Cert.AttInRefIdeal.Value.run m' g'
    exact (Cert.AttInIdeal.Blocks.final m c).symm

end Cert.Claims

end
-- ==== Proof.AttInS.lean ====
/- The input projection of the attention layer: the rows are normalised once per row block, kept in a scratch
   buffer, and every output block is the same rows and columns of `rms_norm(x) @ w`, zero in the added columns. -/
module

public import proofs.«01_k».proof.Proof.Gen.AttInSIdeal.Frame
public import proofs.«01_k».proof.Proof.Gen.AttInSRefIdeal.Run
public import proofs.«01_k».proof.Defs
public import Idealize.ShloMosaic.Lib.Pipeline.ValueKit
public import Idealize.ShloMosaic.Lib.Pointwise
public import Idealize.ShloMosaic.Lib.Claim
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.AttInSIdeal.Blocks

open Cert.AttInSIdeal Cert.AttInSIdeal.Gen

variable (m : (ℓ : Loc nD τ sig) → Buf (Elt Ideal) ℓ)

/-- The reference's term. -/
def whole (x : FVec Ideal Cert.AttInSRefIdeal.S128x1024 .f32) (g : FVec Ideal Cert.AttInSRefIdeal.S1024 .f32) (w : FVec Ideal Cert.AttInSRefIdeal.S1024x2608 .f32) :
    FVec Ideal Cert.AttInSRefIdeal.S128x2688 .f32 :=
  pad Cert.AttInSRefIdeal.S128x2688 ![0, 0] ![0, 80] ![0, 0] (Host.dotGeneral Cert.AttInSRefIdeal.dot_S128x1024_S1024x2608_S128x2608_1_0_0_1_n_n none (mulf (mulf x (broadcastInDim Cert.AttInSRefIdeal.S128x1024 ![0, 1] Cert.AttInSRefIdeal.Gen.bcast_S128x1_S128x1024_0_1 (Host.rsqrt (addf (Host.divf (broadcastInDim Cert.AttInSRefIdeal.S128x1 ![0] Cert.AttInSRefIdeal.Gen.bcast_S128_S128x1_0 (Host.reduceAdd (mulf x x) (constant Cert.AttInSRefIdeal.S_ .f32 0x00000000#32) Cert.AttInSRefIdeal.Gen.reducesTo_S128x1024_S128_d1 Cert.AttInSRefIdeal.Gen.h_S_)) (broadcastInDim Cert.AttInSRefIdeal.S128x1 ![] Cert.AttInSRefIdeal.Gen.bcast_S_S128x1 (constant Cert.AttInSRefIdeal.S_ .f32 0x44800000#32))) (broadcastInDim Cert.AttInSRefIdeal.S128x1 ![] Cert.AttInSRefIdeal.Gen.bcast_S_S128x1 (constant Cert.AttInSRefIdeal.S_ .f32 0x3727C5AC#32)))))) (broadcastInDim Cert.AttInSRefIdeal.S128x1024 ![0, 1] Cert.AttInSRefIdeal.Gen.bcast_S1x1024_S128x1024_0_1 (broadcastInDim Cert.AttInSRefIdeal.S1x1024 ![1] Cert.AttInSRefIdeal.Gen.bcast_S1024_S1x1024_1 g))) w) (sitofp .f32 (constantI Cert.AttInSRefIdeal.S_ 32 0#32)) Cert.AttInSRefIdeal.Gen.pads_S128x2608_S128x2688_000_0800 Cert.AttInSRefIdeal.Gen.h_S_

/-- Which block each window stages at grid point `t`. -/
theorem idx : ∀ t : Fin cfg0.N, win0_0.index t = ![0, 0]
    ∧ win0_1.index t = ![0, 0]
    ∧ win0_2.index t = ![0, t.val % 3]
    ∧ win0_3.index t = ![0, t.val % 3] :=
  (by decide +kernel : ∀ t : Fin grid0.N, _)

/-- The padded weights as the region finds them. -/
theorem entry_w (c : Dev nD) : V m c main_v1 = (truncf .bf16 (pad S1024x2688 ![0, 0] ![0, 80] ![0, 0]
    (m ((c : Thread nD τ).loc main_arg2)) (sitofp .f32 (constantI S_ 32 0#32) : FVec Ideal S_ .f32) pads_S1024x2608_S1024x2688_000_0800 h_S_)
      bitsLt_bf16_f32 : FVec Ideal S1024x2688 .bf16) := by
  show StableHlo.after (List.flatten [hostOps0, hostOps0_1, hostOps0_2]) _ _ = _
  simp only [hostOps0, hostOps0_1, hostOps0_2, List.flatten_cons, List.flatten_nil, List.append_nil, List.cons_append, List.nil_append,
    StableHlo.TRef.unary, StableHlo.TRef.binary, StableHlo.TRef.toBuf, StableHlo.TRef.ofBuf, cast_eq]
  after_results

/-- The gain as the region finds it. -/
theorem entry_g (c : Dev nD) : V m c main_v2 = shapeCast S1x1024 (m ((c : Thread nD τ).loc main_arg1)) shapeCasts_S1024_S1x1024 := by
  show StableHlo.after (List.flatten [hostOps0, hostOps0_1, hostOps0_2]) _ _ = _
  simp only [hostOps0, hostOps0_1, hostOps0_2, List.flatten_cons, List.flatten_nil, List.append_nil, List.cons_append, List.nil_append,
    StableHlo.TRef.unary, StableHlo.TRef.binary, StableHlo.TRef.toBuf, StableHlo.TRef.ofBuf, cast_eq]
  after_results
  rfl

/-- A block of the rows, read in the argument. -/
theorem read_x (c : Dev nD) (t : Fin cfg0.N) (i : Fin 128) (k : Fin 1024) (r : Fin 128)
    (h : r.val = 0 + i.val) :
    iblk m c 0 t (ix2 i k) = m ((c : Thread nD τ).loc main_arg0) (ix2 r k) := by
  refine congrArg (V m c main_arg0) (?_ : ((cfg0.win 0).blk t).view.emb (ix2 i k) = ix2 r k) |>.trans (congrFun (V_main_arg0 m c) _)
  have e0 : (((cfg0.win 0).blk t).view.emb (ix2 i k) 0).val = r.val := by rw [h]; blk_simp [idx t]
  have e1 : (((cfg0.win 0).blk t).view.emb (ix2 i k) 1).val = k.val := by blk_simp [idx t]
  funext a
  match a with
  | 0 => exact Fin.ext e0
  | 1 => exact Fin.ext e1

/-- A block of the gain, read in the argument. -/
theorem read_g (c : Dev nD) (t : Fin cfg0.N) (k : Fin 1024) :
    iblk m c 1 t (ix2 0 k) = m ((c : Thread nD τ).loc main_arg1) (ix1 k) := by
  show V m c main_v2 (((cfg0.win 1).blk t).view.emb (ix2 0 k)) = _
  rw [entry_g]
  have e : ((cfg0.win 1).blk t).view.emb (ix2 0 k) 1 = k := Fin.ext (by blk_simp [idx t])
  pointwise
  exact congrArg _ (congrArg ix1 e)

/-- The padding value is zero. -/
theorem pad_zero : (FloatOps.sitofp FTy.f32 0#32 : Ideal .f32) = 0 := by
  show (((0#32).toInt : ℝ) : EReal) = 0
  simp

/-- A block of the weights, read in the argument: zero in the added columns. -/
theorem read_w (c : Dev nD) (t : Fin cfg0.N) (k : Fin 1024) (j : Fin 896) :
    iblk m c 2 t (ix2 k j) = if h : t.val % 3 * 896 + j.val < 2608 then
      m ((c : Thread nD τ).loc main_arg2) (ix2 k ⟨t.val % 3 * 896 + j.val, h⟩) else (0 : EReal) := by
  show V m c main_v1 (((cfg0.win 2).blk t).view.emb (ix2 k j)) = _
  rw [entry_w]
  have e0 : (((cfg0.win 2).blk t).view.emb (ix2 k j) 0).val = k.val := by blk_simp [idx t]
  have e1 : (((cfg0.win 2).blk t).view.emb (ix2 k j) 1).val = t.val % 3 * 896 + j.val := by blk_simp [idx t]
  generalize ((cfg0.win 2).blk t).view.emb (ix2 k j) = z at e0 e1
  show pad S1024x2688 ![0, 0] ![0, 80] ![0, 0] (m ((c : Thread nD τ).loc main_arg2)) (sitofp .f32 (constantI S_ 32 0#32) : FVec Ideal S_ .f32)
    pads_S1024x2608_S1024x2688_000_0800 h_S_ z = _
  by_cases h : t.val % 3 * 896 + j.val < 2608
  · rw [dif_pos h]
    refine pad_apply_of_inside _ _ _ _ _ _ _ _ _ fun a => ?_
    match a with
    | 0 => exact e0.trans (by simp)
    | 1 => exact e1.trans (by simp)
  · rw [dif_neg h]
    refine (pad_apply_of_not_inside _ _ _ _ _ _ _ _ 1 ?_).trans pad_zero
    rintro ⟨-, -, hh⟩
    refine h (e1 ▸ ?_)
    simpa using hh

/-- Two grid points of one row block stage the same rows. -/
theorem rows_same (c : Dev nD) (t u : Fin cfg0.N) (h : t.val / 3 = u.val / 3) : iblk m c 0 t = iblk m c 0 u := by
  funext y
  blk_ext [iblk, V, idx t, idx u]

/-- Every grid point stages the same gain. -/
theorem gain_same (c : Dev nD) (t u : Fin cfg0.N) : iblk m c 1 t = iblk m c 1 u := by
  funext y
  blk_ext [iblk, V, idx t, idx u]

/-- After every grid point the scratch buffer holds the normalised rows of that point's row block. -/
theorem scratch (c : Dev nD) : ∀ (n : ℕ) (hn : n < cfg0.N),
    (outsAt0 m c n hn).2 = k0_pay1 (iblk m c 0 ⟨n, hn⟩) (iblk m c 1 ⟨n, hn⟩) := by
  intro n
  induction n with
  | zero =>
    intro hn
    rw [outsAt0_A m c ⟨0, hn⟩ rfl]; frame_out
  | succ n ih =>
    intro hn
    by_cases h0 : (n + 1) % 3 = 0
    · rw [outsAt0_A m c ⟨n + 1, hn⟩ h0]; frame_out
    · rw [outsAt0_B m c ⟨n + 1, hn⟩ h0]; frame_out
      refine (ih (Nat.lt_of_succ_lt hn)).trans ?_
      rw [rows_same m c ⟨n, Nat.lt_of_succ_lt hn⟩ ⟨n + 1, hn⟩ (by show n / 3 = (n + 1) / 3; omega),
        gain_same m c ⟨n, Nat.lt_of_succ_lt hn⟩ ⟨n + 1, hn⟩]

/-- What the output block holds after grid point `t`. -/
theorem block (c : Dev nD) (t : Fin cfg0.N) : (outsAt0 m c t.val t.isLt).1
    = k0_pay2 (k0_pay1 (iblk m c 0 t) (iblk m c 1 t)) (iblk m c 2 t) := by
  by_cases h0 : t.val % 3 = 0
  · rw [outsAt0_A m c t h0]; frame_out
  · rw [outsAt0_B m c t h0]; frame_out
    have ht := t.isLt
    rw [scratch m c (t.val - 1) (by omega),
      rows_same m c ⟨t.val - 1, by omega⟩ t (by show (t.val - 1) / 3 = t.val / 3; omega),
      gain_same m c ⟨t.val - 1, by omega⟩ t]
    exact congrArg (fun z => k0_pay2 z (iblk m c 2 t)) (Memref.IsWhole.read_unread _ _)

/-- What grid point `t` stores at `y` is the reference's term read where the block sits. -/
theorem point (c : Dev nD) (t : Fin cfg0.N) (y : S128x896.Idx) :
    k0_pay2 (k0_pay1 (iblk m c 0 t) (iblk m c 1 t)) (iblk m c 2 t) y
      = whole (m ((c : Thread nD τ).loc main_arg0)) (m ((c : Thread nD τ).loc main_arg1)) (m ((c : Thread nD τ).loc main_arg2)) (((cfg0.win 3).blk t).view.emb y) := by
  have e0 : (((cfg0.win 3).blk t).view.emb y 0).val = 0 + (y 0).val := by blk_simp [idx t]
  have e1 : (((cfg0.win 3).blk t).view.emb y 1).val = t.val % 3 * 896 + (y 1).val := by blk_simp [idx t]
  generalize ((cfg0.win 3).blk t).view.emb y = z at e0 e1
  have hz : (z 0).val < 128 := (z 0).isLt
  have hx : ∀ k : Fin 1024, iblk m c 0 t (ix2 (y 0) k) = m ((c : Thread nD τ).loc main_arg0)
      (ix2 (z 0) k) := fun k => read_x m c t (y 0) k _ e0
  have hw : ∀ k : Fin 1024, iblk m c 2 t (ix2 k (y 1)) = if h : (z 1).val < 2608 then
      m ((c : Thread nD τ).loc main_arg2) (ix2 k ⟨(z 1).val, h⟩) else (0 : EReal) := fun k =>
    (read_w m c t k (y 1)).trans (by simp only [e1])
  pointwise [k0_pay1, k0_pay2, whole]
  simp only [hx, hw, read_g m c t]
  by_cases h : (z 1).val < 2608
  · simp only [dif_pos h]
  · simp only [dif_neg h]
    refine Eq.trans ?_ pad_zero.symm
    exact Finset.sum_eq_zero fun x _ => mul_zero _

/-- The result array after the run is the reference's term. -/
theorem final (c : Dev nD) : (dats m 0 c).arrAt 3 (cfgs 0).N = whole (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; rw [block]
  exact point m c t y

end Cert.AttInSIdeal.Blocks

namespace Cert.Claims

/-- The input projection of the attention layer: the rows are normalised once per row block, kept in a scratch
   buffer, and every output block is the same rows and columns of `rms_norm(x) @ w`, zero in the added columns. -/
theorem attInS : Cert.algebraic_AttInSIdeal_AttInSRefIdeal := by
  pair_intro
  · run_from Cert.AttInSIdeal.Gen.run_main m g
    · exact Cert.AttInSIdeal.Gen.V_main_arg1 m c
    · exact Cert.AttInSIdeal.Gen.V_main_arg2 m c
  · run_from Cert.AttInSRefIdeal.Value.run m' g'
    exact (Cert.AttInSIdeal.Blocks.final m c).symm

end Cert.Claims

end
-- ==== Proof.AttOut.lean ====
/- The output projection of the attention layer: every output block is the same rows and columns of `h + o @ w`. -/
module

public import proofs.«01_k».proof.Proof.Gen.AttOutIdeal.Frame
public import proofs.«01_k».proof.Proof.Gen.AttOutRefIdeal.Run
public import proofs.«01_k».proof.Defs
public import Idealize.ShloMosaic.Lib.Pipeline.ValueKit
public import Idealize.ShloMosaic.Lib.Pointwise
public import Idealize.ShloMosaic.Lib.Claim
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.AttOutIdeal.Blocks

open Cert.AttOutIdeal Cert.AttOutIdeal.Gen

variable (m : (ℓ : Loc nD τ sig) → Buf (Elt Ideal) ℓ)

/-- The reference's term. -/
def whole (a : FVec Ideal S16384x1024 .f32) (w : FVec Ideal S1024x1024 .f32) (h : FVec Ideal S16384x1024 .f32) :
    FVec Ideal S16384x1024 .f32 :=
  addf h (Host.dotGeneral Cert.AttOutRefIdeal.dot_S16384x1024_S1024x1024_S16384x1024_1_0_0_1_n_n none a w)

/-- Which block each window stages at grid point `t`. -/
theorem idx : ∀ t : Fin cfg0.N, win0_0.index t = ![t.val / 2, 0]
    ∧ win0_1.index t = ![0, t.val % 2]
    ∧ win0_2.index t = ![t.val / 2, t.val % 2]
    ∧ win0_3.index t = ![t.val / 2, t.val % 2] :=
  (by decide +kernel : ∀ t : Fin grid0.N, _)

/-- What grid point `t` stores at `y` is the reference's term read where the block sits. -/
theorem point (c : Dev nD) (t : Fin cfg0.N) (y : S1024x512.Idx) :
    k0_pay1 (iblk m c 0 t) (iblk m c 1 t) (iblk m c 2 t) y = whole (m ((c : Thread nD τ).loc main_arg0)) (m ((c : Thread nD τ).loc main_arg1)) (m ((c : Thread nD τ).loc main_arg2)) (((cfg0.win 3).blk t).view.emb y) := by
  pointwise [k0_pay1, whole]
  refine (add_comm _ _).trans ?_
  blk_point [iblk, V, idx t]

/-- The result array after the run is the reference's term. -/
theorem final (c : Dev nD) : (dats m 0 c).arrAt 3 (cfgs 0).N = whole (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.AttOutIdeal.Blocks

namespace Cert.Claims

/-- The output projection of the attention layer: every output block is the same rows and columns of `h + o @ w`. -/
theorem attOut : Cert.algebraic_AttOutIdeal_AttOutRefIdeal := by
  pair_intro
  · run_from Cert.AttOutIdeal.Gen.run_main m g
  · run_from Cert.AttOutRefIdeal.Value.run m' g'
    exact (Cert.AttOutIdeal.Blocks.final m c).symm

end Cert.Claims

end
-- ==== Proof.KvS.lean ====
/- The key and value rows that the attention layer returns for the sample: columns of the input projection. Its rows are
   normalised once per row block, kept in a scratch buffer, and every output block is the same rows and columns of `rms_norm(x) @ w`, zero in the added columns. -/
module

public import proofs.«01_k».proof.Proof.Gen.KvSIdeal.Frame
public import proofs.«01_k».proof.Proof.Gen.KvSRefIdeal.Run
public import proofs.«01_k».proof.Defs
public import Idealize.ShloMosaic.Lib.Pipeline.ValueKit
public import Idealize.ShloMosaic.Lib.Pointwise
public import Idealize.ShloMosaic.Lib.Claim
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.KvSIdeal.Blocks

open Cert.KvSIdeal Cert.KvSIdeal.Gen

variable (m : (ℓ : Loc nD τ sig) → Buf (Elt Ideal) ℓ)

/-- The reference's product, before it is split into its columns. -/
def proj (x : FVec Ideal Cert.KvSRefIdeal.S32x4x1024 .f32) (g : FVec Ideal Cert.KvSRefIdeal.S1024 .f32) (w : FVec Ideal Cert.KvSRefIdeal.S1024x2608 .f32) :
    FVec Ideal Cert.KvSRefIdeal.S32x4x2608 .f32 :=
  Host.dotGeneral Cert.KvSRefIdeal.dot_S32x4x1024_S1024x2608_S32x4x2608_2_0_01_1_n_n none (mulf (mulf x (broadcastInDim Cert.KvSRefIdeal.S32x4x1024 ![0, 1, 2] Cert.KvSRefIdeal.Gen.bcast_S32x4x1_S32x4x1024_0_1_2 (Host.rsqrt (addf (Host.divf (broadcastInDim Cert.KvSRefIdeal.S32x4x1 ![0, 1] Cert.KvSRefIdeal.Gen.bcast_S32x4_S32x4x1_0_1 (Host.reduceAdd (mulf x x) (constant Cert.KvSRefIdeal.S_ .f32 0x00000000#32) Cert.KvSRefIdeal.Gen.reducesTo_S32x4x1024_S32x4_d2 Cert.KvSRefIdeal.Gen.h_S_)) (broadcastInDim Cert.KvSRefIdeal.S32x4x1 ![] Cert.KvSRefIdeal.Gen.bcast_S_S32x4x1 (constant Cert.KvSRefIdeal.S_ .f32 0x44800000#32))) (broadcastInDim Cert.KvSRefIdeal.S32x4x1 ![] Cert.KvSRefIdeal.Gen.bcast_S_S32x4x1 (constant Cert.KvSRefIdeal.S_ .f32 0x3727C5AC#32)))))) (broadcastInDim Cert.KvSRefIdeal.S32x4x1024 ![0, 1, 2] Cert.KvSRefIdeal.Gen.bcast_S1x1x1024_S32x4x1024_0_1_2 (broadcastInDim Cert.KvSRefIdeal.S1x1x1024 ![2] Cert.KvSRefIdeal.Gen.bcast_S1024_S1x1x1024_2 g))) w

/-- The product with its rows laid under each other and zero in the added columns. -/
def flat (p : FVec Ideal Cert.KvSRefIdeal.S32x4x2608 .f32) : FVec Ideal S128x2688 .f32 := fun z =>
  if h : (z 1).val < 2608 then
    p (ix3 ⟨(z 0).val / 4, by have : (z 0).val < 128 := (z 0).isLt; omega⟩ ⟨(z 0).val % 4, by omega⟩ ⟨(z 1).val, h⟩)
  else (0 : EReal)

/-- Which block each window stages at grid point `t`. -/
theorem idx : ∀ t : Fin cfg0.N, win0_0.index t = ![0, 0]
    ∧ win0_1.index t = ![0, 0]
    ∧ win0_2.index t = ![0, t.val % 3]
    ∧ win0_3.index t = ![0, t.val % 3] :=
  (by decide +kernel : ∀ t : Fin grid0.N, _)

/-- The padded weights as the region finds them. -/
theorem entry_w (c : Dev nD) : V m c main_v1 = (truncf .bf16 (pad S1024x2688 ![0, 0] ![0, 80] ![0, 0]
    (m ((c : Thread nD τ).loc main_arg2)) (sitofp .f32 (constantI S_ 32 0#32) : FVec Ideal S_ .f32) pads_S1024x2608_S1024x2688_000_0800 h_S_)
      bitsLt_bf16_f32 : FVec Ideal S1024x2688 .bf16) := by
  show StableHlo.after (List.flatten [hostOps0, hostOps0_1, hostOps0_2]) _ _ = _
  simp only [hostOps0, hostOps0_1, hostOps0_2, List.flatten_cons, List.flatten_nil, List.append_nil, List.cons_append, List.nil_append,
    StableHlo.TRef.unary, StableHlo.TRef.binary, StableHlo.TRef.toBuf, StableHlo.TRef.ofBuf, cast_eq]
  after_results

/-- The gain as the region finds it. -/
theorem entry_g (c : Dev nD) : V m c main_v3 = shapeCast S1x1024 (m ((c : Thread nD τ).loc main_arg1)) shapeCasts_S1024_S1x1024 := by
  show StableHlo.after (List.flatten [hostOps0, hostOps0_1, hostOps0_2]) _ _ = _
  simp only [hostOps0, hostOps0_1, hostOps0_2, List.flatten_cons, List.flatten_nil, List.append_nil, List.cons_append, List.nil_append,
    StableHlo.TRef.unary, StableHlo.TRef.binary, StableHlo.TRef.toBuf, StableHlo.TRef.ofBuf, cast_eq]
  after_results
  rfl

/-- The rows of all batches laid under each other, read at an entry. -/
theorem flat_x (x : FVec Ideal S32x4x1024 .f32) (z : S128x1024.Idx) (b : Fin 32) (r : Fin 4) (k : Fin 1024)
    (h : b.val * 4 + r.val = (z 0).val) (e1 : (z 1).val = k.val) :
    shapeCast S128x1024 x shapeCasts_S32x4x1024_S128x1024 z = x (ix3 b r k) := by
  pointwise
  have hb : (⟨(z 0).val / 4, by have := (z 0).isLt; have : (z 0).val < 128 := this; omega⟩ : Fin 32) = b := Fin.ext (by show (z 0).val / 4 = b.val; omega)
  have hr : (⟨(z 0).val % 4, by omega⟩ : Fin 4) = r := Fin.ext (by show (z 0).val % 4 = r.val; omega)
  have hk : (z 1 : Fin 1024) = k := Fin.ext e1
  rw [← hb, ← hr, ← hk]

/-- The rows as the region finds them. -/
theorem entry_x (c : Dev nD) : V m c main_v2 = shapeCast S128x1024 (m ((c : Thread nD τ).loc main_arg0)) shapeCasts_S32x4x1024_S128x1024 := by
  show StableHlo.after (List.flatten [hostOps0, hostOps0_1, hostOps0_2]) _ _ = _
  simp only [hostOps0, hostOps0_1, hostOps0_2, List.flatten_cons, List.flatten_nil, List.append_nil, List.cons_append, List.nil_append,
    StableHlo.TRef.unary, StableHlo.TRef.binary, StableHlo.TRef.toBuf, StableHlo.TRef.ofBuf, cast_eq]
  after_results
  rfl

/-- A block of the rows, read in the argument. -/
theorem read_x (c : Dev nD) (t : Fin cfg0.N) (i : Fin 128) (k : Fin 1024) (b : Fin 32) (r : Fin 4)
    (h : b.val * 4 + r.val = 0 + i.val) :
    iblk m c 0 t (ix2 i k) = m ((c : Thread nD τ).loc main_arg0) (ix3 b r k) := by
  show V m c main_v2 (((cfg0.win 0).blk t).view.emb (ix2 i k)) = _
  have e0 : (((cfg0.win 0).blk t).view.emb (ix2 i k) 0).val = 0 + i.val := by blk_simp [idx t]
  have e1 : (((cfg0.win 0).blk t).view.emb (ix2 i k) 1).val = k.val := by blk_simp [idx t]
  rw [entry_x]
  exact flat_x _ _ b r k (h.trans e0.symm) e1

/-- A block of the gain, read in the argument. -/
theorem read_g (c : Dev nD) (t : Fin cfg0.N) (k : Fin 1024) :
    iblk m c 1 t (ix2 0 k) = m ((c : Thread nD τ).loc main_arg1) (ix1 k) := by
  show V m c main_v3 (((cfg0.win 1).blk t).view.emb (ix2 0 k)) = _
  rw [entry_g]
  have e : ((cfg0.win 1).blk t).view.emb (ix2 0 k) 1 = k := Fin.ext (by blk_simp [idx t])
  pointwise
  exact congrArg _ (congrArg ix1 e)

/-- The padding value is zero. -/
theorem pad_zero : (FloatOps.sitofp FTy.f32 0#32 : Ideal .f32) = 0 := by
  show (((0#32).toInt : ℝ) : EReal) = 0
  simp

/-- A block of the weights, read in the argument: zero in the added columns. -/
theorem read_w (c : Dev nD) (t : Fin cfg0.N) (k : Fin 1024) (j : Fin 896) :
    iblk m c 2 t (ix2 k j) = if h : t.val % 3 * 896 + j.val < 2608 then
      m ((c : Thread nD τ).loc main_arg2) (ix2 k ⟨t.val % 3 * 896 + j.val, h⟩) else (0 : EReal) := by
  show V m c main_v1 (((cfg0.win 2).blk t).view.emb (ix2 k j)) = _
  rw [entry_w]
  have e0 : (((cfg0.win 2).blk t).view.emb (ix2 k j) 0).val = k.val := by blk_simp [idx t]
  have e1 : (((cfg0.win 2).blk t).view.emb (ix2 k j) 1).val = t.val % 3 * 896 + j.val := by blk_simp [idx t]
  generalize ((cfg0.win 2).blk t).view.emb (ix2 k j) = z at e0 e1
  show pad S1024x2688 ![0, 0] ![0, 80] ![0, 0] (m ((c : Thread nD τ).loc main_arg2)) (sitofp .f32 (constantI S_ 32 0#32) : FVec Ideal S_ .f32)
    pads_S1024x2608_S1024x2688_000_0800 h_S_ z = _
  by_cases h : t.val % 3 * 896 + j.val < 2608
  · rw [dif_pos h]
    refine pad_apply_of_inside _ _ _ _ _ _ _ _ _ fun a => ?_
    match a with
    | 0 => exact e0.trans (by simp)
    | 1 => exact e1.trans (by simp)
  · rw [dif_neg h]
    refine (pad_apply_of_not_inside _ _ _ _ _ _ _ _ 1 ?_).trans pad_zero
    rintro ⟨-, -, hh⟩
    refine h (e1 ▸ ?_)
    simpa using hh

/-- Two grid points of one row block stage the same rows. -/
theorem rows_same (c : Dev nD) (t u : Fin cfg0.N) (h : t.val / 3 = u.val / 3) : iblk m c 0 t = iblk m c 0 u := by
  funext y
  blk_ext [iblk, V, idx t, idx u]

/-- Every grid point stages the same gain. -/
theorem gain_same (c : Dev nD) (t u : Fin cfg0.N) : iblk m c 1 t = iblk m c 1 u := by
  funext y
  blk_ext [iblk, V, idx t, idx u]

/-- After every grid point the scratch buffer holds the normalised rows of that point's row block. -/
theorem scratch (c : Dev nD) : ∀ (n : ℕ) (hn : n < cfg0.N),
    (outsAt0 m c n hn).2 = k0_pay1 (iblk m c 0 ⟨n, hn⟩) (iblk m c 1 ⟨n, hn⟩) := by
  intro n
  induction n with
  | zero =>
    intro hn
    rw [outsAt0_A m c ⟨0, hn⟩ rfl]; frame_out
  | succ n ih =>
    intro hn
    by_cases h0 : (n + 1) % 3 = 0
    · rw [outsAt0_A m c ⟨n + 1, hn⟩ h0]; frame_out
    · rw [outsAt0_B m c ⟨n + 1, hn⟩ h0]; frame_out
      refine (ih (Nat.lt_of_succ_lt hn)).trans ?_
      rw [rows_same m c ⟨n, Nat.lt_of_succ_lt hn⟩ ⟨n + 1, hn⟩ (by show n / 3 = (n + 1) / 3; omega),
        gain_same m c ⟨n, Nat.lt_of_succ_lt hn⟩ ⟨n + 1, hn⟩]

/-- What the output block holds after grid point `t`. -/
theorem block (c : Dev nD) (t : Fin cfg0.N) : (outsAt0 m c t.val t.isLt).1
    = k0_pay2 (k0_pay1 (iblk m c 0 t) (iblk m c 1 t)) (iblk m c 2 t) := by
  by_cases h0 : t.val % 3 = 0
  · rw [outsAt0_A m c t h0]; frame_out
  · rw [outsAt0_B m c t h0]; frame_out
    have ht := t.isLt
    rw [scratch m c (t.val - 1) (by omega),
      rows_same m c ⟨t.val - 1, by omega⟩ t (by show (t.val - 1) / 3 = t.val / 3; omega),
      gain_same m c ⟨t.val - 1, by omega⟩ t]
    exact congrArg (fun z => k0_pay2 z (iblk m c 2 t)) (Memref.IsWhole.read_unread _ _)

/-- What grid point `t` stores at `y` is the product read where the block sits. -/
theorem point (c : Dev nD) (t : Fin cfg0.N) (y : S128x896.Idx) :
    k0_pay2 (k0_pay1 (iblk m c 0 t) (iblk m c 1 t)) (iblk m c 2 t) y
      = flat (proj (m ((c : Thread nD τ).loc main_arg0)) (m ((c : Thread nD τ).loc main_arg1)) (m ((c : Thread nD τ).loc main_arg2)))
        (((cfg0.win 3).blk t).view.emb y) := by
  have e0 : (((cfg0.win 3).blk t).view.emb y 0).val = 0 + (y 0).val := by blk_simp [idx t]
  have e1 : (((cfg0.win 3).blk t).view.emb y 1).val = t.val % 3 * 896 + (y 1).val := by blk_simp [idx t]
  generalize ((cfg0.win 3).blk t).view.emb y = z at e0 e1
  have hz : (z 0).val < 128 := (z 0).isLt
  have hx : ∀ k : Fin 1024, iblk m c 0 t (ix2 (y 0) k) = m ((c : Thread nD τ).loc main_arg0)
      (ix3 ⟨(z 0).val / 4, by omega⟩ ⟨(z 0).val % 4, by omega⟩ k) := fun k => read_x m c t (y 0) k _ _ (by simp only; omega)
  have hw : ∀ k : Fin 1024, iblk m c 2 t (ix2 k (y 1)) = if h : (z 1).val < 2608 then
      m ((c : Thread nD τ).loc main_arg2) (ix2 k ⟨(z 1).val, h⟩) else (0 : EReal) := fun k =>
    (read_w m c t k (y 1)).trans (by simp only [e1])
  unfold flat
  by_cases h : (z 1).val < 2608
  · rw [dif_pos h]
    pointwise [k0_pay1, k0_pay2, proj]
    simp only [hx, hw, read_g m c t, dif_pos h]
  · rw [dif_neg h]
    pointwise [k0_pay1, k0_pay2]
    simp only [hx, hw, read_g m c t, dif_neg h]
    exact Finset.sum_eq_zero fun x _ => mul_zero _

/-- The array that the region leaves is the product. -/
theorem final (c : Dev nD) : (dats m 0 c).arrAt 3 (cfgs 0).N
    = flat (proj (m ((c : Thread nD τ).loc main_arg0)) (m ((c : Thread nD τ).loc main_arg1)) (m ((c : Thread nD τ).loc main_arg2))) := by
  refine (dats m 0 c).arrAt_eq_of_covers 3 _ (by decide +kernel) fun t _ y => ?_
  blk_simp
  rw [after0_3]; rw [block]
  exact point m c t y

/-- The region's array as the lines after the region find it. -/
theorem exit_v4 (c : Dev nD) :
    Pipeline.withArrays (cfgs 0).spec c (V0 m c) (fun w => (dats m 0 c).arrAt w (cfgs 0).N) (Proc.devRef .tc main_v4)
      = flat (proj (m ((c : Thread nD τ).loc main_arg0)) (m ((c : Thread nD τ).loc main_arg1)) (m ((c : Thread nD τ).loc main_arg2))) :=
  (Pipeline.withArrays_arr (cfgs 0).spec (by decide) c (V0 m c) (fun w => (dats m 0 c).arrAt w (cfgs 0).N) 3).trans (final m c)

/-- The window state as the lines after the region find it. -/
theorem exit_arg3 (c : Dev nD) :
    Pipeline.withArrays (cfgs 0).spec c (V0 m c) (fun w => (dats m 0 c).arrAt w (cfgs 0).N) (Proc.devRef .tc main_arg3)
      = m ((c : Thread nD τ).loc main_arg3) :=
  (Pipeline.withArrays_of_ne _ c (V0 m c) _ main_arg3 (by exact (by decide : ∀ w, Pipeline.arrRef spec0 w ≠ main_arg3))).trans (V_main_arg3 m c)

/-- The product of the arguments. -/
def prod (c : Dev nD) : FVec Ideal Cert.KvSRefIdeal.S32x4x2608 .f32 :=
  proj (m ((c : Thread nD τ).loc main_arg0)) (m ((c : Thread nD τ).loc main_arg1)) (m ((c : Thread nD τ).loc main_arg2))

/-- The rows of the compressed branch as the program ends. -/
theorem tail_v6 (c : Dev nD) : Pipeline.afterTail₀ cfgs (dats m) 0 (V0 m) [hostOps1] c main_v6
    = shapeCast S32x4x2x4x64 (extractStridedSlice S128x512 ![0, 1024] (flat (prod m c)) slices_S128x2688_S128x512_0_1024) shapeCasts_S128x512_S32x4x2x4x64 := by
  unfold Pipeline.afterTail₀
  simp only [hostOps1, List.flatten_cons, List.flatten_nil, List.append_nil]
  after_results
  rw [exit_v4]
  rfl

/-- The rows of the selected branch as the program ends. -/
theorem tail_v8 (c : Dev nD) : Pipeline.afterTail₀ cfgs (dats m) 0 (V0 m) [hostOps1] c main_v8
    = shapeCast S32x4x2x4x64 (extractStridedSlice S128x512 ![0, 1536] (flat (prod m c)) slices_S128x2688_S128x512_0_1536) shapeCasts_S128x512_S32x4x2x4x64 := by
  unfold Pipeline.afterTail₀
  simp only [hostOps1, List.flatten_cons, List.flatten_nil, List.append_nil]
  after_results
  rw [exit_v4]
  rfl

/-- The window state as the program ends. -/
theorem tail_v12 (c : Dev nD) : Pipeline.afterTail₀ cfgs (dats m) 0 (V0 m) [hostOps1] c main_v12
    = extractStridedSlice S32x512x2x4x64 ![0, 4, 0, 0, 0] (concatenate S32x516x2x4x64 1 [⟨S32x512x2x4x64, m ((c : Thread nD τ).loc main_arg3)⟩,
      ⟨S32x4x2x4x64, shapeCast S32x4x2x4x64 (extractStridedSlice S128x512 ![0, 2048] (flat (prod m c)) slices_S128x2688_S128x512_0_2048) shapeCasts_S128x512_S32x4x2x4x64⟩]
        concatenates_S32x512x2x4x64_S32x4x2x4x64_S32x516x2x4x64_d1) slices_S32x516x2x4x64_S32x512x2x4x64_0_4_0_0_0 := by
  unfold Pipeline.afterTail₀
  simp only [hostOps1, List.flatten_cons, List.flatten_nil, List.append_nil]
  after_results
  rw [exit_v4, exit_arg3]
  rfl

/-- Columns of the flat product, given the axes of key or value, head and channel. -/
theorem left_at (p : FVec Ideal Cert.KvSRefIdeal.S32x4x2608 .f32) (o : ℕ) (ho : o + 512 ≤ 2608) (hs : S128x2688.Slices ![0, o] S128x512) (y : S32x4x2x4x64.Idx)
    (k : Fin 2608) (hk : k.val = o + ((y 2).val * 256 + (y 3).val * 64 + (y 4).val)) :
    shapeCast S32x4x2x4x64 (extractStridedSlice S128x512 ![0, o] (flat p) hs) shapeCasts_S128x512_S32x4x2x4x64 y = p (ix3 (y 0) (y 1) k) := by
  have h1 : (y 1).val < 4 := (y 1).isLt
  pointwise [flat]
  rw [dif_pos (show o + ((y 2).val * 256 + (y 3).val * 64 + (y 4).val) < 2608 from hk ▸ k.isLt)]
  have e0 : (⟨((y 0).val * 4 + (y 1).val) / 4, by have : (y 0).val < 32 := (y 0).isLt; omega⟩ : Fin 32) = y 0 :=
    Fin.ext (by show ((y 0).val * 4 + (y 1).val) / 4 = (y 0).val; omega)
  have e1 : (⟨((y 0).val * 4 + (y 1).val) % 4, by omega⟩ : Fin 4) = y 1 :=
    Fin.ext (by show ((y 0).val * 4 + (y 1).val) % 4 = (y 1).val; omega)
  have e2 : (⟨o + ((y 2).val * 256 + (y 3).val * 64 + (y 4).val), hk ▸ k.isLt⟩ : Fin 2608) = k := Fin.ext hk.symm
  exact congrArg p (congrArg₂ (fun a b => a b) (congrArg₂ ix3 e0 e1) e2)

/-- The reference's split, its two halves stacked, read at the same entry. -/
theorem right_at (p : FVec Ideal Cert.KvSRefIdeal.S32x4x2608 .f32) (o o' : ℕ) (ho : o' = o + 256) (h1 : Cert.KvSRefIdeal.S32x4x2608.Slices ![0, 0, o] Cert.KvSRefIdeal.S32x4x256) (h2 : Cert.KvSRefIdeal.S32x4x2608.Slices ![0, 0, o'] Cert.KvSRefIdeal.S32x4x256) (y : S32x4x2x4x64.Idx)
    (k : Fin 2608) (hk : k.val = o + ((y 2).val * 256 + (y 3).val * 64 + (y 4).val)) :
    concatenate Cert.KvSRefIdeal.S32x4x2x4x64 2
      [⟨Cert.KvSRefIdeal.S32x4x1x4x64, broadcastInDim Cert.KvSRefIdeal.S32x4x1x4x64 ![0, 1, 3, 4] Cert.KvSRefIdeal.Gen.bcast_S32x4x4x64_S32x4x1x4x64_0_1_3_4
        (shapeCast Cert.KvSRefIdeal.S32x4x4x64 (extractStridedSlice Cert.KvSRefIdeal.S32x4x256 ![0, 0, o] p h1) Cert.KvSRefIdeal.Gen.shapeCasts_S32x4x256_S32x4x4x64)⟩,
       ⟨Cert.KvSRefIdeal.S32x4x1x4x64, broadcastInDim Cert.KvSRefIdeal.S32x4x1x4x64 ![0, 1, 3, 4] Cert.KvSRefIdeal.Gen.bcast_S32x4x4x64_S32x4x1x4x64_0_1_3_4
        (shapeCast Cert.KvSRefIdeal.S32x4x4x64 (extractStridedSlice Cert.KvSRefIdeal.S32x4x256 ![0, 0, o'] p h2) Cert.KvSRefIdeal.Gen.shapeCasts_S32x4x256_S32x4x4x64)⟩]
      Cert.KvSRefIdeal.Gen.concatenates_S32x4x1x4x64_S32x4x1x4x64_S32x4x2x4x64_d2 y = p (ix3 (y 0) (y 1) k) := by
  have h3' : (y 2).val < 2 := (y 2).isLt
  pointwise
  by_cases h : (y 2).val < 1
  · rw [dif_pos h]
    exact congrArg (fun a => p (ix3 (y 0) (y 1) a)) (Fin.ext (by show o + ((y 3).val * 64 + (y 4).val) = k.val; omega))
  · rw [dif_neg h]
    exact congrArg (fun a => p (ix3 (y 0) (y 1) a)) (Fin.ext (by show o' + ((y 3).val * 64 + (y 4).val) = k.val; omega))

/-- The two read alike. -/
theorem cols (p : FVec Ideal Cert.KvSRefIdeal.S32x4x2608 .f32) (o o' : ℕ) (ho : o' = o + 256) (hl : o + 512 ≤ 2608) (h1 : Cert.KvSRefIdeal.S32x4x2608.Slices ![0, 0, o] Cert.KvSRefIdeal.S32x4x256) (h2 : Cert.KvSRefIdeal.S32x4x2608.Slices ![0, 0, o'] Cert.KvSRefIdeal.S32x4x256)
    (hs : S128x2688.Slices ![0, o] S128x512) :
    (concatenate Cert.KvSRefIdeal.S32x4x2x4x64 2
      [⟨Cert.KvSRefIdeal.S32x4x1x4x64, broadcastInDim Cert.KvSRefIdeal.S32x4x1x4x64 ![0, 1, 3, 4] Cert.KvSRefIdeal.Gen.bcast_S32x4x4x64_S32x4x1x4x64_0_1_3_4
        (shapeCast Cert.KvSRefIdeal.S32x4x4x64 (extractStridedSlice Cert.KvSRefIdeal.S32x4x256 ![0, 0, o] p h1) Cert.KvSRefIdeal.Gen.shapeCasts_S32x4x256_S32x4x4x64)⟩,
       ⟨Cert.KvSRefIdeal.S32x4x1x4x64, broadcastInDim Cert.KvSRefIdeal.S32x4x1x4x64 ![0, 1, 3, 4] Cert.KvSRefIdeal.Gen.bcast_S32x4x4x64_S32x4x1x4x64_0_1_3_4
        (shapeCast Cert.KvSRefIdeal.S32x4x4x64 (extractStridedSlice Cert.KvSRefIdeal.S32x4x256 ![0, 0, o'] p h2) Cert.KvSRefIdeal.Gen.shapeCasts_S32x4x256_S32x4x4x64)⟩]
      Cert.KvSRefIdeal.Gen.concatenates_S32x4x1x4x64_S32x4x1x4x64_S32x4x2x4x64_d2 : FVec Ideal S32x4x2x4x64 .f32)
      = shapeCast S32x4x2x4x64 (extractStridedSlice S128x512 ![0, o] (flat p) hs) shapeCasts_S128x512_S32x4x2x4x64 := by
  funext y
  have h2' : (y 2).val < 2 := (y 2).isLt
  have h3' : (y 3).val < 4 := (y 3).isLt
  have h4' : (y 4).val < 64 := (y 4).isLt
  exact (right_at p o o' ho h1 h2 y ⟨o + ((y 2).val * 256 + (y 3).val * 64 + (y 4).val), by omega⟩ rfl).trans
    (left_at p o hl hs y ⟨o + ((y 2).val * 256 + (y 3).val * 64 + (y 4).val), by omega⟩ rfl).symm

end Cert.KvSIdeal.Blocks

namespace Cert.Claims

/-- The sample's key and value rows, those of the compressed and of the selected branch and the window state, are the
    reference's. -/
theorem kvS : Cert.algebraic_KvSIdeal_KvSRefIdeal := by
  pair_intro
  · run_from Cert.KvSIdeal.Gen.run_main m g
    · exact Cert.KvSIdeal.Gen.W_main_arg0 m _ c
    · exact Cert.KvSIdeal.Gen.W_main_arg1 m _ c
    · exact Cert.KvSIdeal.Gen.W_main_arg2 m _ c
    · exact Cert.KvSIdeal.Gen.W_main_arg3 m _ c
  · run_from Cert.KvSRefIdeal.Value.run m' g'
    · exact (Cert.KvSIdeal.Blocks.cols (Cert.KvSIdeal.Blocks.prod m c) 1024 1280 rfl (by decide) _ _ _).trans (Cert.KvSIdeal.Blocks.tail_v6 m c).symm
    · exact (Cert.KvSIdeal.Blocks.cols (Cert.KvSIdeal.Blocks.prod m c) 1536 1792 rfl (by decide) _ _ _).trans (Cert.KvSIdeal.Blocks.tail_v8 m c).symm
    · refine Eq.trans ?_ (Cert.KvSIdeal.Blocks.tail_v12 m c).symm
      exact congrArg₂ (fun (a : FVec Ideal Cert.KvSRefIdeal.S32x512x2x4x64 .f32) (b : FVec Ideal Cert.KvSRefIdeal.S32x4x2x4x64 .f32) =>
        extractStridedSlice Cert.KvSRefIdeal.S32x512x2x4x64 ![0, 4, 0, 0, 0] (concatenate Cert.KvSRefIdeal.S32x516x2x4x64 1 [⟨Cert.KvSRefIdeal.S32x512x2x4x64, a⟩, ⟨Cert.KvSRefIdeal.S32x4x2x4x64, b⟩]
          Cert.KvSRefIdeal.Gen.concatenates_S32x512x2x4x64_S32x4x2x4x64_S32x516x2x4x64_d1) Cert.KvSRefIdeal.Gen.slices_S32x516x2x4x64_S32x512x2x4x64_0_4_0_0_0)
        (hagree c).2.2.2 (Cert.KvSIdeal.Blocks.cols (Cert.KvSIdeal.Blocks.prod m c) 2048 2304 rfl (by decide) _ _ _)

end Cert.Claims

end
-- ==== Proof.CmpFinish.lean ====
/- The second layer of the block MLP: a window's hidden vector is the sum of its two halves and the position term, and
   its output is the gelu of that vector times the second weight. The second halves are read one row further down a
   scratch buffer, and the row after the last window is zero. -/
module

public import proofs.«01_k».proof.Proof.Gen.CmpFinishIdeal.Frame
public import proofs.«01_k».proof.Proof.Gen.CmpFinishRefIdeal.Run
public import proofs.«01_k».proof.Defs
public import Idealize.ShloMosaic.Lib.Pipeline.ValueKit
public import Idealize.ShloMosaic.Lib.Pipeline.ReadBack
public import Idealize.ShloMosaic.Lib.WholeRead
public import Idealize.ShloMosaic.Lib.Pointwise
public import Idealize.ShloMosaic.Lib.Claim
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.CmpFinishIdeal.Body

open Cert.CmpFinishIdeal Cert.CmpFinishIdeal.Gen

/-- The tanh form of the gelu. -/
def gl (h : EReal) : EReal :=
  h * (Ideal.ofBits FTy.f32 1056964608#32 *
    (1 + Ideal.tanh (Ideal.ofBits FTy.f32 1061962282#32 * (h + Ideal.ofBits FTy.f32 1027024659#32 * (h * (h * h))))))

/-- What one store holds at row `r` and channel `d`, for a position term `v6`. -/
theorem store_at (v6 : FVec Ideal S1x128 .f32) (v58 : Vec Ideal S1x1x1024x128 .f32) (v60 : Vec Ideal S1x1024x128 .f32)
    (v79 : Vec Ideal S1x128x64 .bf16) (r : Fin 1024) (d : Fin 64) :
    k0_pay10 (F := Ideal) v6 (iota Kind.tc S1024x64 32 [0] iota_S1024x64_d0_w32) v58 v60 v79 (ix4 0 0 r d)
      = Scalar.select (IntOp.cmpi CmpIPredicate.slt (BitVec.ofNat 32 r.val) 1023#32)
        (∑ k : Fin 128, gl (v58 (ix4 0 0 r k) + v60 (ix3 0 r k) + v6 (ix2 0 k)) * v79 (ix3 0 k d)) (0 : EReal) := by
  pointwise [k0_pay10, gl]

/-- The position term. -/
theorem pos_at (v0 : Vec Ideal S1x8x2048 .f32) (v3 : Vec Ideal S1x2048x128 .bf16) (k : Fin 128) :
    k0_pay2 (F := Ideal) v0 v3 (ix2 0 k) = ∑ f : Fin 2048, v0 (ix3 0 0 f) * v3 (ix3 0 f k) := by
  pointwise [k0_pay2]

/-- What is stored into the scratch from a load of a head's second halves. -/
theorem keep_at (v8 : Vec Ideal S1x1x1024x128 .f32) (r : Fin 1024) (k : Fin 128) :
    k0_pay3 (F := Ideal) v8 (ix3 0 r k) = v8 (ix4 0 0 r k) := by
  pointwise [k0_pay3]

/-- The rows stored after a head's second halves are zero. -/
theorem zero_at (r : Fin 8) (k : Fin 128) : k0_pay4 (F := Ideal) (ix3 0 r k) = (0 : EReal) := by
  pointwise [k0_pay4]

theorem inbH (g : Fin 4) : ∀ x, (![0, g.val, 0, 0] : Fin 4 → Nat) x + S1x1x1024x128.size x ≤ S1x4x1024x128.size x
  | ⟨0, _⟩ => le_refl 1
  | ⟨1, _⟩ => show g.val + 1 ≤ 4 by omega
  | ⟨2, _⟩ => le_refl 1024
  | ⟨3, _⟩ => le_refl 128

theorem inbO (g : Fin 4) : ∀ x, (![0, g.val, 0, 0] : Fin 4 → Nat) x + S1x1x1024x64.size x ≤ S1x4x1024x64.size x
  | ⟨0, _⟩ => le_refl 1
  | ⟨1, _⟩ => show g.val + 1 ≤ 4 by omega
  | ⟨2, _⟩ => le_refl 1024
  | ⟨3, _⟩ => le_refl 64

theorem inbK (g : Fin 4) : ∀ x, (![g.val, 0, 0] : Fin 3 → Nat) x + S1x1024x128.size x ≤ S4x1032x128.size x
  | ⟨0, _⟩ => show g.val + 1 ≤ 4 by omega
  | ⟨1, _⟩ => show 0 + 1024 ≤ 1032 by omega
  | ⟨2, _⟩ => le_refl 128

theorem inbZ (g : Fin 4) : ∀ x, (![g.val, 1024, 0] : Fin 3 → Nat) x + S1x8x128.size x ≤ S4x1032x128.size x
  | ⟨0, _⟩ => show g.val + 1 ≤ 4 by omega
  | ⟨1, _⟩ => le_refl 1032
  | ⟨2, _⟩ => le_refl 128

theorem inbS (g : Fin 4) : ∀ x, (![g.val, 1, 0] : Fin 3 → Nat) x + S1x1024x128.size x ≤ S4x1032x128.size x
  | ⟨0, _⟩ => show g.val + 1 ≤ 4 by omega
  | ⟨1, _⟩ => show 1 + 1024 ≤ 1032 by omega
  | ⟨2, _⟩ => le_refl 128

/-- The load of head `g` of the halves. -/
abbrev ldh (m : Memref sig .tc .vmem S1x4x1024x128 .f32) (h : m.IsWhole) (X : Vec Ideal S1x4x1024x128 .f32) (g : Fin 4) : Vec Ideal S1x1x1024x128 .f32 :=
  View.readAt (Elt Ideal) m.view (Rect.unit (s := S1x4x1024x128) ![0, g.val, 0, 0] S1x1x1024x128.size (inbH g)).toLoadRect (h.unread X)

theorem ldh_at (m : Memref sig .tc .vmem S1x4x1024x128 .f32) (h : m.IsWhole) (X : Vec Ideal S1x4x1024x128 .f32) (g : Fin 4) (r : Fin 1024) (k : Fin 128) :
    ldh m h X g (ix4 0 0 r k) = X (ix4 0 g r k) := by
  refine (Memref.IsWhole.readAt_unread h X (Rect.unit (s := S1x4x1024x128) ![0, g.val, 0, 0] S1x1x1024x128.size (inbH g)).toLoadRect (ix4 0 0 r k)).trans (congrArg X ?_)
  funext ax
  refine Fin.ext ?_
  match ax with
  | ⟨0, _⟩ => exact Nat.add_zero _
  | ⟨1, _⟩ => exact Nat.add_zero _
  | ⟨2, _⟩ => exact (Nat.zero_add _).trans (Nat.one_mul _)
  | ⟨3, _⟩ => exact (Nat.zero_add _).trans (Nat.one_mul _)

/-- A load of a whole window of three axes is the window. -/
theorem ld3 {a b d : Nat} {e : EltTy} (m : Memref sig .tc .vmem ⟨3, ![a, b, d]⟩ e) (h : m.IsWhole) (X : Vec Ideal ⟨3, ![a, b, d]⟩ e)
    (inb : ∀ x, (![0, 0, 0] : Fin 3 → Nat) x + (![a, b, d] : Fin 3 → Nat) x ≤ (⟨3, ![a, b, d]⟩ : Shape).size x) :
    View.readAt (Elt Ideal) m.view (Rect.unit (s := ⟨3, ![a, b, d]⟩) ![0, 0, 0] ![a, b, d] inb).toLoadRect (h.unread X) = X := by
  funext y
  refine (Memref.IsWhole.readAt_unread h X (Rect.unit (s := ⟨3, ![a, b, d]⟩) ![0, 0, 0] ![a, b, d] inb).toLoadRect y).trans (congrArg X ?_)
  funext ax
  refine Fin.ext ?_
  match ax with
  | ⟨0, _⟩ => exact (Nat.zero_add _).trans (Nat.one_mul _)
  | ⟨1, _⟩ => exact (Nat.zero_add _).trans (Nat.one_mul _)
  | ⟨2, _⟩ => exact (Nat.zero_add _).trans (Nat.one_mul _)

/-- The scratch as far as the two stores of a head go: its second halves, and zero below them. -/
def scr (X : Vec Ideal S1x4x1024x128 .f32) : S4x1032x128.Idx → Elt Ideal .f32 := fun y =>
  if h : (y 1).val < 1024 then X (ix4 0 ⟨(y 0).val, (y 0).isLt⟩ ⟨(y 1).val, h⟩ ⟨(y 2).val, (y 2).isLt⟩) else (0 : EReal)

/-- The load of head `g` from one row down the scratch, after its two stores. -/
abbrev lds (m8 : Memref sig .tc .vmem S4x1032x128 .f32) (m : Memref sig .tc .vmem S1x4x1024x128 .f32) (h : m.IsWhole) (X : Vec Ideal S1x4x1024x128 .f32)
    (g : Fin 4) (rest : List (View.Piece (Elt Ideal) S4x1032x128 .f32)) : Vec Ideal S1x1024x128 .f32 :=
  m8.view.readCov ((⟨Rect.unit (s := S4x1032x128) ![g.val, 1024, 0] S1x8x128.size (inbZ g), k0_pay4 (F := Ideal)⟩ : View.Piece (Elt Ideal) S4x1032x128 .f32)
      :: (⟨Rect.unit (s := S4x1032x128) ![g.val, 0, 0] S1x1024x128.size (inbK g), k0_pay3 (ldh m h X g)⟩ : View.Piece (Elt Ideal) S4x1032x128 .f32) :: rest)
    (Rect.unit (s := S4x1032x128) ![g.val, 1, 0] S1x1024x128.size (inbS g)).toLoadRect

/-- The two stores of a head into the scratch hold `scr`. -/
theorem scr_pieces (m : Memref sig .tc .vmem S1x4x1024x128 .f32) (h : m.IsWhole) (X : Vec Ideal S1x4x1024x128 .f32) (g : Fin 4) :
    View.PiecesOf (scr X) [(⟨Rect.unit (s := S4x1032x128) ![g.val, 1024, 0] S1x8x128.size (inbZ g), k0_pay4 (F := Ideal)⟩ : View.Piece (Elt Ideal) S4x1032x128 .f32),
      (⟨Rect.unit (s := S4x1032x128) ![g.val, 0, 0] S1x1024x128.size (inbK g), k0_pay3 (ldh m h X g)⟩ : View.Piece (Elt Ideal) S4x1032x128 .f32)] := by
  refine ⟨fun (x : S1x8x128.Idx) => ?_, fun (x : S1x1024x128.Idx) => ?_, trivial⟩
  · have h0 : (x 0).val < 1 := (x 0).isLt
    have ex : x = ix3 0 ⟨(x 1).val, (x 1).isLt⟩ ⟨(x 2).val, (x 2).isLt⟩ := by
      funext a
      refine Fin.ext ?_
      match a with
      | ⟨0, _⟩ => exact Nat.lt_one_iff.1 h0
      | ⟨1, _⟩ => rfl
      | ⟨2, _⟩ => rfl
    refine (congrArg (k0_pay4 (F := Ideal)) ex).trans ((zero_at _ _).trans ?_)
    unfold scr
    refine Eq.symm (dif_neg ?_)
    show ¬ 1024 + 1 * (x 1).val < 1024
    omega
  · have h0 : (x 0).val < 1 := (x 0).isLt
    have h1 : (x 1).val < 1024 := (x 1).isLt
    have ex : x = ix3 0 ⟨(x 1).val, (x 1).isLt⟩ ⟨(x 2).val, (x 2).isLt⟩ := by
      funext a
      refine Fin.ext ?_
      match a with
      | ⟨0, _⟩ => exact Nat.lt_one_iff.1 h0
      | ⟨1, _⟩ => rfl
      | ⟨2, _⟩ => rfl
    refine (congrArg (k0_pay3 (F := Ideal) (ldh m h X g)) ex).trans ((keep_at _ _ _).trans ((ldh_at m h X g _ _).trans ?_))
    unfold scr
    refine Eq.trans ?_ (dif_pos (by show 0 + 1 * (x 1).val < 1024; omega)).symm
    refine congrArg X ?_
    funext a
    refine Fin.ext ?_
    match a with
    | ⟨0, _⟩ => rfl
    | ⟨1, _⟩ => exact (by omega : g.val = g.val + 1 * (x 0).val)
    | ⟨2, _⟩ => exact (by omega : (x 1).val = 0 + 1 * (x 1).val)
    | ⟨3, _⟩ => exact (by omega : (x 2).val = 0 + 1 * (x 2).val)

/-- A row of that load is the next row of the second halves. -/
theorem lds_at (m8 : Memref sig .tc .vmem S4x1032x128 .f32) (m : Memref sig .tc .vmem S1x4x1024x128 .f32) (h : m.IsWhole) (X : Vec Ideal S1x4x1024x128 .f32)
    (g : Fin 4) (rest : List (View.Piece (Elt Ideal) S4x1032x128 .f32)) (r : Fin 1024) (hr : r.val < 1023) (k : Fin 128) :
    lds m8 m h X g rest (ix3 0 r k) = X (ix4 0 g ⟨r.val + 1, by omega⟩ k) := by
  refine (congrFun (View.readCov_eq_canon' m8.view _ (Rect.unit (s := S4x1032x128) ![g.val, 1, 0] S1x1024x128.size (inbS g)).toLoadRect) (ix3 0 r k)).trans ?_
  refine (congrArg (View.canon (Val := Elt Ideal) _) (?_ : _ = (ix3 g ⟨r.val + 1, by omega⟩ k : S4x1032x128.Idx))).trans ?_
  · funext ax
    refine Fin.ext ?_
    match ax with
    | ⟨0, _⟩ => exact Nat.add_zero _
    | ⟨1, _⟩ => exact (congrArg (1 + ·) (Nat.one_mul _)).trans (Nat.add_comm _ _)
    | ⟨2, _⟩ => exact (Nat.zero_add _).trans (Nat.one_mul _)
  refine (View.canon_append_of_piecesOf (scr X) rest _ (scr_pieces m h X g) _ ⟨_, List.mem_cons_of_mem _ List.mem_cons_self, ?_⟩).trans ?_
  · refine (Rect.mem_set_unit (inb := inbK g)).2 fun a => ?_
    match a with
    | ⟨0, _⟩ => exact ⟨le_refl g.val, Nat.lt_succ_self g.val⟩
    | ⟨1, _⟩ => exact ⟨Nat.zero_le _, (by omega : r.val + 1 < 0 + 1024)⟩
    | ⟨2, _⟩ => exact ⟨Nat.zero_le _, (by omega : k.val < 0 + 128)⟩
  · unfold scr
    exact dif_pos (by show r.val + 1 < 1024; omega)

/-- What the body leaves in the output block: head `y 1`, window `y 2`, channel `y 3`. -/
def outv (x0 x1 : Vec Ideal S1x4x1024x128 .f32) (x2 : Vec Ideal S1x8x2048 .f32) (x3 : Vec Ideal S1x2048x128 .bf16) (x4 : Vec Ideal S1x128x64 .bf16) : FVec Ideal S1x4x1024x64 .bf16 := fun y =>
  if h : (y 2).val < 1023 then
    ∑ k : Fin 128, gl (x0 (ix4 0 ⟨(y 1).val, (y 1).isLt⟩ ⟨(y 2).val, (y 2).isLt⟩ k) + x1 (ix4 0 ⟨(y 1).val, (y 1).isLt⟩ ⟨(y 2).val + 1, by omega⟩ k)
      + ∑ f : Fin 2048, x2 (ix3 0 0 f) * x3 (ix3 0 f k)) * x4 (ix3 0 k ⟨(y 3).val, (y 3).isLt⟩)
  else (0 : EReal)

/-- The row test of the store. -/
theorem row_test (r : Fin 1024) : IntOp.cmpi CmpIPredicate.slt (BitVec.ofNat 32 r.val) 1023#32 = if r.val < 1023 then 1#1 else 0#1 := by
  revert r
  decide +kernel

/-- A set test picks the first of two values. -/
theorem pick_one (a b : EReal) : Scalar.select 1#1 a b = a := rfl

/-- One store into the output block. -/
theorem out_head (m2 : Memref sig .tc .vmem S1x4x1024x128 .f32) (h2 : m2.IsWhole) (m3 : Memref sig .tc .vmem S1x4x1024x128 .f32) (h3 : m3.IsWhole)
    (m8 : Memref sig .tc .vmem S4x1032x128 .f32) (rest : List (View.Piece (Elt Ideal) S4x1032x128 .f32)) (x0 x1 : Vec Ideal S1x4x1024x128 .f32) (x2 : Vec Ideal S1x8x2048 .f32) (x3 : Vec Ideal S1x2048x128 .bf16) (x4 : Vec Ideal S1x128x64 .bf16)
    (l2 : Vec Ideal S1x8x2048 .f32) (l3 : Vec Ideal S1x2048x128 .bf16) (l4 : Vec Ideal S1x128x64 .bf16) (e2 : l2 = x2) (e3 : l3 = x3) (e4 : l4 = x4)
    (g : Fin 4) (x : S1x1x1024x64.Idx) :
    k0_pay10 (F := Ideal) (k0_pay2 l2 l3) (iota Kind.tc S1024x64 32 [0] iota_S1024x64_d0_w32) (ldh m2 h2 x0 g) (lds m8 m3 h3 x1 g rest) l4 x
      = outv x0 x1 x2 x3 x4 ((Rect.unit (s := S1x4x1024x64) ![0, g.val, 0, 0] S1x1x1024x64.size (inbO g)).emb x) := by
  subst e2 e3 e4
  have h0 : (x 0).val < 1 := (x 0).isLt
  have h1 : (x 1).val < 1 := (x 1).isLt
  obtain ⟨r, hr⟩ : ∃ r : Fin 1024, r.val = (x 2).val := ⟨⟨(x 2).val, (x 2).isLt⟩, rfl⟩
  obtain ⟨d, hd⟩ : ∃ d : Fin 64, d.val = (x 3).val := ⟨⟨(x 3).val, (x 3).isLt⟩, rfl⟩
  have ex : x = ix4 0 0 r d := by
    funext a
    refine Fin.ext ?_
    match a with
    | ⟨0, _⟩ => exact Nat.lt_one_iff.1 h0
    | ⟨1, _⟩ => exact Nat.lt_one_iff.1 h1
    | ⟨2, _⟩ => exact hr.symm
    | ⟨3, _⟩ => exact hd.symm
  have ey : (Rect.unit (s := S1x4x1024x64) ![0, g.val, 0, 0] S1x1x1024x64.size (inbO g)).emb x = ix4 0 g r d := by
    rw [ex]
    funext a
    refine Fin.ext ?_
    match a with
    | ⟨0, _⟩ => exact Nat.add_zero _
    | ⟨1, _⟩ => exact Nat.add_zero _
    | ⟨2, _⟩ => exact (Nat.zero_add _).trans (Nat.one_mul _)
    | ⟨3, _⟩ => exact (Nat.zero_add _).trans (Nat.one_mul _)
  refine Eq.trans ?_ (congrArg (outv x0 x1 l2 l3 l4) ey).symm
  refine (congrArg (k0_pay10 (F := Ideal) _ _ _ _ _) ex).trans ((store_at _ _ _ _ r d).trans ?_)
  rw [row_test]
  unfold outv
  by_cases hr' : r.val < 1023
  · rw [if_pos hr']
    refine Eq.trans ?_ (dif_pos (show r.val < 1023 from hr')).symm
    refine (pick_one _ _).trans (Finset.sum_congr rfl fun k _ => ?_)
    rw [ldh_at, lds_at _ _ _ _ _ _ _ hr', pos_at]
    rfl
  · rw [if_neg hr']
    refine Eq.trans ?_ (dif_neg (show ¬ r.val < 1023 from hr')).symm
    rfl

/-- The store of the first head, in the form of the others. -/
theorem form0 (v0 : Vec Ideal S1x8x2048 .f32) (v3 : Vec Ideal S1x2048x128 .bf16) (v7 : IVec S1024x64 32) (a : Vec Ideal S1x1x1024x128 .f32)
    (b : Vec Ideal S1x1024x128 .f32) (w : Vec Ideal S1x128x64 .bf16) :
    k0_pay7 (F := Ideal) v7 (k0_pay5 v0 v3 a b) (k0_pay6 v0 v3 a b) (Scalar.ofBits .f32 0x3F4C422A#32) w = k0_pay10 (k0_pay2 v0 v3) v7 a b w := rfl

/-- The store of the third head, in the form of the others. -/
theorem form2 (v6 : FVec Ideal S1x128 .f32) (v7 : IVec S1024x64 32) (a : Vec Ideal S1x1x1024x128 .f32)
    (b : Vec Ideal S1x1024x128 .f32) (w : Vec Ideal S1x128x64 .bf16) :
    k0_pay15 (F := Ideal) (k0_pay14 v6 v7 a b w) = k0_pay10 v6 v7 a b w := rfl

/-- The store of the fourth head, in the form of the others. -/
theorem form3 (v6 : FVec Ideal S1x128 .f32) (v7 : IVec S1024x64 32) (a : Vec Ideal S1x1x1024x128 .f32)
    (b : Vec Ideal S1x1024x128 .f32) (w : Vec Ideal S1x128x64 .bf16) :
    k0_pay1 (F := Ideal) v7 (k0_pay18 v6 a b) w = k0_pay10 v6 v7 a b w := rfl

theorem keep1 (v : Vec Ideal S1x1x1024x128 .f32) : k0_pay8 (F := Ideal) v = k0_pay3 v := rfl
theorem keep2 (v : Vec Ideal S1x1x1024x128 .f32) : k0_pay12 (F := Ideal) (k0_pay11 v) = k0_pay3 v := rfl
theorem keep3 (v : Vec Ideal S1x1x1024x128 .f32) : k0_pay16 (F := Ideal) v = k0_pay3 v := rfl
theorem zero1 : k0_pay9 (F := Ideal) = k0_pay4 := rfl
theorem zero2 : k0_pay13 (F := Ideal) = k0_pay4 := rfl
theorem zero3 : k0_pay17 (F := Ideal) = k0_pay4 := rfl

/-- The stores of the body into the output block. -/
theorem pieces (c : Dev nD) (i : grid0.Coords) (arg2 : Memref sig .tc .vmem S1x4x1024x128 .f32) (harg2 : arg2.IsWhole) (arg3 : Memref sig .tc .vmem S1x4x1024x128 .f32) (harg3 : arg3.IsWhole) (arg4 : Memref sig .tc .vmem S1x8x2048 .f32) (harg4 : arg4.IsWhole) (arg5 : Memref sig .tc .vmem S1x2048x128 .bf16) (harg5 : arg5.IsWhole) (arg6 : Memref sig .tc .vmem S1x128x64 .bf16) (harg6 : arg6.IsWhole) (arg7 : Memref sig .tc .vmem S1x4x1024x64 .bf16) (harg7 : arg7.IsWhole) (arg8 : Memref sig .tc .vmem S4x1032x128 .f32) (harg8 : arg8.IsWhole)
    (x0 x1 : Vec Ideal S1x4x1024x128 .f32) (x2 : Vec Ideal S1x8x2048 .f32) (x3 : Vec Ideal S1x2048x128 .bf16) (x4 : Vec Ideal S1x128x64 .bf16) :
    View.PiecesOf (outv x0 x1 x2 x3 x4) (kernelRun0_A (F := Ideal) c i arg2 harg2 arg3 harg3 arg4 harg4 arg5 harg5 arg6 harg6 arg7 harg7 arg8 harg8 x0 x1 x2 x3 x4).1 := by
  dsimp only [kernelRun0_A]
  unfold kernelRun0_A.sl.r kernelRun0_A.sl.r_1 kernelRun0_A.sl.r_2 kernelRun0_A.sl.r_3 kernelRun0_A.sl.r_5 kernelRun0_A.sl.r_6 kernelRun0_A.sl.v60 kernelRun0_A.sl.v19 kernelRun0_A.sl.v101 kernelRun0_A.sl.v142
  unfold kernelRun0_A.sl.HS0_8
  unfold kernelRun0_A.sl.HS0_6
  unfold kernelRun0_A.sl.HS0_4
  unfold kernelRun0_A.sl.HS0_2
  unfold kernelRun0_A.sl.r_4 kernelRun0_A.sl.cst_22 kernelRun0_A.sl.v7
  simp only [form0, form2, form3, keep1, keep2, keep3, zero1, zero2, zero3]
  exact ⟨fun x => out_head arg2 harg2 arg3 harg3 arg8 _ x0 x1 x2 x3 x4 _ _ _ (ld3 arg4 harg4 x2 _) (ld3 arg5 harg5 x3 _) (ld3 arg6 harg6 x4 _) 3 x,
    fun x => out_head arg2 harg2 arg3 harg3 arg8 _ x0 x1 x2 x3 x4 _ _ _ (ld3 arg4 harg4 x2 _) (ld3 arg5 harg5 x3 _) (ld3 arg6 harg6 x4 _) 2 x,
    fun x => out_head arg2 harg2 arg3 harg3 arg8 _ x0 x1 x2 x3 x4 _ _ _ (ld3 arg4 harg4 x2 _) (ld3 arg5 harg5 x3 _) (ld3 arg6 harg6 x4 _) 1 x,
    fun x => out_head arg2 harg2 arg3 harg3 arg8 _ x0 x1 x2 x3 x4 _ _ _ (ld3 arg4 harg4 x2 _) (ld3 arg5 harg5 x3 _) (ld3 arg6 harg6 x4 _) 0 x,
    trivial⟩

/-- The stores into the output block, read back. -/
theorem left5 (c : Dev nD) (i : grid0.Coords) (arg2 : Memref sig .tc .vmem S1x4x1024x128 .f32) (harg2 : arg2.IsWhole) (arg3 : Memref sig .tc .vmem S1x4x1024x128 .f32) (harg3 : arg3.IsWhole) (arg4 : Memref sig .tc .vmem S1x8x2048 .f32) (harg4 : arg4.IsWhole) (arg5 : Memref sig .tc .vmem S1x2048x128 .bf16) (harg5 : arg5.IsWhole) (arg6 : Memref sig .tc .vmem S1x128x64 .bf16) (harg6 : arg6.IsWhole) (arg7 : Memref sig .tc .vmem S1x4x1024x64 .bf16) (harg7 : arg7.IsWhole) (arg8 : Memref sig .tc .vmem S4x1032x128 .f32) (harg8 : arg8.IsWhole)
    (x0 x1 : Vec Ideal S1x4x1024x128 .f32) (x2 : Vec Ideal S1x8x2048 .f32) (x3 : Vec Ideal S1x2048x128 .bf16) (x4 : Vec Ideal S1x128x64 .bf16) (y : S1x4x1024x64.Idx) :
    out0_A_5 (F := Ideal) c i arg2 harg2 arg3 harg3 arg4 harg4 arg5 harg5 arg6 harg6 arg7 harg7 arg8 harg8 x0 x1 x2 x3 x4 y = outv x0 x1 x2 x3 x4 y := by
  have h := View.canon_append_of_piecesOf (outv x0 x1 x2 x3 x4) []
    (kernelRun0_A (F := Ideal) c i arg2 harg2 arg3 harg3 arg4 harg4 arg5 harg5 arg6 harg6 arg7 harg7 arg8 harg8 x0 x1 x2 x3 x4).1 (pieces c i arg2 harg2 arg3 harg3 arg4 harg4 arg5 harg5 arg6 harg6 arg7 harg7 arg8 harg8 x0 x1 x2 x3 x4) y (cover0_A_5 (F := Ideal) c i arg2 harg2 arg3 harg3 arg4 harg4 arg5 harg5 arg6 harg6 arg7 harg7 arg8 harg8 x0 x1 x2 x3 x4 y)
  rw [List.append_nil] at h
  rw [out0_A_5, View.read_writes_junk_eq_canon]
  exact h

variable (m : (ℓ : Loc nD τ sig) → Buf (Elt Ideal) ℓ)

/-- What the output block holds after a grid point. -/
theorem block (c : Dev nD) (t : Fin cfg0.N) (y : S1x4x1024x64.Idx) :
    outsAt0 m c t y = outv (iblk m c 0 t) (iblk m c 1 t) (iblk m c 2 t) (iblk m c 3 t) (iblk m c 4 t) y := by
  dsimp only [outsAt0]
  exact left5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t) y

end Cert.CmpFinishIdeal.Body

namespace Cert.CmpFinishRefIdeal.Read

open Cert.CmpFinishRefIdeal Cert.CmpFinishRefIdeal.Gen

/-- The hidden vectors before the gelu. -/
def pre (u s : FVec Ideal S32x8x1024x128 .f32) (p : FVec Ideal S2x32x64 .f32) (w : FVec Ideal S2x2048x128 .f32) : FVec Ideal S32x2x4x1023x128 .f32 :=
  addf (addf (extractStridedSlice S32x2x4x1023x128 ![0, 0, 0, 0, 0] (shapeCast _ u shapeCasts_S32x8x1024x128_S32x2x4x1024x128) slices_S32x2x4x1024x128_S32x2x4x1023x128_0_0_0_0_0) (extractStridedSlice S32x2x4x1023x128 ![0, 0, 0, 1, 0] (shapeCast _ s shapeCasts_S32x8x1024x128_S32x2x4x1024x128) slices_S32x2x4x1024x128_S32x2x4x1023x128_0_0_0_1_0)) (broadcastInDim S32x2x4x1023x128 ![0, 1, 2, 3, 4] bcast_S1x2x1x1x128_S32x2x4x1023x128_0_1_2_3_4 (broadcastInDim S1x2x1x1x128 ![1, 2, 3, 4] bcast_S2x1x1x128_S1x2x1x1x128_1_2_3_4 (broadcastInDim S2x1x1x128 ![0, 3] bcast_S2x128_S2x1x1x128_0_3 (Host.dotGeneral dot_S2x2048_S2x2048x128_S2x128_1_1_n_2_0_0 none (shapeCast _ p shapeCasts_S2x32x64_S2x2048) w))))

/-- The hidden vectors. -/
def hid (h : FVec Ideal S32x2x4x1023x128 .f32) : FVec Ideal S32x2x4x1023x128 .f32 :=
  mulf h (mulf (broadcastInDim S32x2x4x1023x128 ![] bcast_S_S32x2x4x1023x128 (constant S_ .f32 0x3F000000#32)) (addf (broadcastInDim S32x2x4x1023x128 ![] bcast_S_S32x2x4x1023x128 (constant S_ .f32 0x3F800000#32)) (Host.tanh (mulf (broadcastInDim S32x2x4x1023x128 ![] bcast_S_S32x2x4x1023x128 (constant S_ .f32 0x3F4C422A#32)) (addf h (mulf (broadcastInDim S32x2x4x1023x128 ![] bcast_S_S32x2x4x1023x128 (constant S_ .f32 0x3D372713#32)) (mulf (mulf h h) h)))))))

/-- The outputs of the windows. -/
def outs (h : FVec Ideal S32x2x4x1023x128 .f32) (w : FVec Ideal S2x128x64 .f32) : FVec Ideal S32x2x4x1023x64 .f32 :=
  transpose S32x2x4x1023x64 [2, 0, 3, 4, 1] (Host.dotGeneral dot_S2x128x64_S32x2x4x1023x128_S2x64x32x4x1023_1_4_2_023_0_1 none w h) transposes_S2x64x32x4x1023_S32x2x4x1023x64_2_0_3_4_1

/-- The reference's result. -/
def refO (u s : FVec Ideal S32x8x1024x128 .f32) (p : FVec Ideal S2x32x64 .f32) (w : FVec Ideal S2x2048x128 .f32) (w2 : FVec Ideal S2x128x64 .f32) : FVec Ideal S32x8x1024x64 .bf16 :=
  truncf .bf16 (pad S32x8x1024x64 ![0, 0, 0, 0] ![0, 0, 1, 0] ![0, 0, 0, 0] (shapeCast _ (outs (hid (pre u s p w)) w2) shapeCasts_S32x2x4x1023x64_S32x8x1023x64) (sitofp .f32 (constantI S_ 32 0#32)) pads_S32x8x1023x64_S32x8x1024x64_000_000_010_000 h_S_) bitsLt_bf16_f32

/-- The value of the reference's program is that term. -/
theorem run_eq (m : (ℓ : Loc nD τ sig) → Buf (Elt Ideal) ℓ) (c : Dev nD) : Value.res_main_v28 m c
    = refO (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold Value.res_main_v28
  rfl

/-- The hidden vector of window `r` of head `4 i + g`, before the gelu. -/
theorem pre_at (u s : FVec Ideal S32x8x1024x128 .f32) (p : FVec Ideal S2x32x64 .f32) (w : FVec Ideal S2x2048x128 .f32)
    (b : Fin 32) (i : Fin 2) (g : Fin 4) (r : Fin 1023) (k : Fin 128) :
    pre u s p w (ix5 b i g r k) = u (ix4 b ⟨i.val * 4 + g.val, by omega⟩ ⟨r.val, by omega⟩ k) + s (ix4 b ⟨i.val * 4 + g.val, by omega⟩ ⟨1 + r.val, by omega⟩ k)
      + ∑ x : Fin 2048, p (ix3 i ⟨x.val / 64, by omega⟩ ⟨x.val % 64, by omega⟩) * w (ix3 i x k) := by
  pointwise [pre]

/-- The gelu at an index: the cube is associated the other way. -/
theorem hid_at (h : FVec Ideal S32x2x4x1023x128 .f32) (b : Fin 32) (i : Fin 2) (g : Fin 4) (r : Fin 1023) (k : Fin 128) :
    hid h (ix5 b i g r k) = CmpFinishIdeal.Body.gl (h (ix5 b i g r k)) := by
  pointwise [hid, CmpFinishIdeal.Body.gl]
  rw [mul_assoc (h (ix5 b i g r k))]

/-- The output of a window at an index. -/
theorem outs_at (h : FVec Ideal S32x2x4x1023x128 .f32) (w : FVec Ideal S2x128x64 .f32)
    (b : Fin 32) (i : Fin 2) (g : Fin 4) (r : Fin 1023) (d : Fin 64) :
    outs h w (ix5 b i g r d) = ∑ x : Fin 128, w (ix3 i x d) * h (ix5 b i g r x) := by
  pointwise [outs]

/-- Joining the group axis and the head axis. -/
theorem join_at (o : FVec Ideal S32x2x4x1023x64 .f32) (b : Fin 32) (i : Fin 2) (g : Fin 4) (r : Fin 1023) (d : Fin 64) :
    shapeCast S32x8x1023x64 o shapeCasts_S32x2x4x1023x64_S32x8x1023x64 (ix4 b ⟨4 * i.val + g.val, by omega⟩ r d) = o (ix5 b i g r d) := by
  pointwise

/-- The padding value is zero. -/
theorem pad_zero : (FloatOps.sitofp FTy.f32 0#32 : Ideal .f32) = 0 := by
  show (((0#32).toInt : ℝ) : EReal) = 0
  simp

/-- The reference's result at an index. -/
theorem refO_at (u s : FVec Ideal S32x8x1024x128 .f32) (p : FVec Ideal S2x32x64 .f32) (w : FVec Ideal S2x2048x128 .f32) (w2 : FVec Ideal S2x128x64 .f32)
    (b : Fin 32) (i : Fin 2) (g : Fin 4) (q : Fin 8) (hq : q.val = i.val * 4 + g.val) (r : Fin 1024) (d : Fin 64) :
    refO u s p w w2 (ix4 b q r d) = if h : r.val < 1023 then
      ∑ k : Fin 128, CmpFinishIdeal.Body.gl (u (ix4 b q r k) + s (ix4 b q ⟨r.val + 1, by omega⟩ k)
        + ∑ x : Fin 2048, p (ix3 i ⟨x.val / 64, by omega⟩ ⟨x.val % 64, by omega⟩) * w (ix3 i x k)) * w2 (ix3 i k d)
    else (0 : EReal) := by
  show pad S32x8x1024x64 ![0, 0, 0, 0] ![0, 0, 1, 0] ![0, 0, 0, 0] (shapeCast S32x8x1023x64 (outs (hid (pre u s p w)) w2) shapeCasts_S32x2x4x1023x64_S32x8x1023x64)
    (sitofp .f32 (constantI S_ 32 0#32) : FVec Ideal S_ .f32) pads_S32x8x1023x64_S32x8x1024x64_000_000_010_000 h_S_ (ix4 b q r d) = _
  by_cases h : r.val < 1023
  · rw [dif_pos h]
    refine (pad_apply_of_inside _ _ _ _ _ _ _ _ (ix4 b ⟨4 * i.val + g.val, by omega⟩ ⟨r.val, h⟩ d) fun a => ?_).trans ?_
    · match a with
      | ⟨0, _⟩ => exact (by omega : b.val = 0 + b.val * (0 + 1))
      | ⟨1, _⟩ => exact (by omega : q.val = 0 + (4 * i.val + g.val) * (0 + 1))
      | ⟨2, _⟩ => exact (by omega : r.val = 0 + r.val * (0 + 1))
      | ⟨3, _⟩ => exact (by omega : d.val = 0 + d.val * (0 + 1))
    rw [join_at, outs_at]
    refine Finset.sum_congr rfl fun k _ => ?_
    rw [hid_at, pre_at]
    have eq : (⟨i.val * 4 + g.val, by omega⟩ : Fin 8) = q := Fin.ext hq.symm
    have er : (⟨1 + (⟨r.val, h⟩ : Fin 1023).val, by omega⟩ : Fin 1024) = ⟨r.val + 1, by omega⟩ := Fin.ext (Nat.add_comm _ _)
    rw [eq, er]
    exact mul_comm _ _
  · rw [dif_neg h]
    refine (pad_apply_of_not_inside _ _ _ _ _ _ _ _ 2 ?_).trans pad_zero
    rintro ⟨-, -, hh⟩
    refine h ?_
    have e : ((r.val - 0) / (0 + 1)) < 1023 := hh
    omega

end Cert.CmpFinishRefIdeal.Read

namespace Cert.CmpFinishIdeal.Blocks

open Cert.CmpFinishIdeal Cert.CmpFinishIdeal.Gen Cert.CmpFinishIdeal.Body

variable (m : (ℓ : Loc nD τ sig) → Buf (Elt Ideal) ℓ)

/-- Which block each window stages at grid point `t`. -/
theorem idx : ∀ t : Fin cfg0.N, win0_0.index t = ![t.val / 2, t.val % 2, 0, 0]
    ∧ win0_1.index t = ![t.val / 2, t.val % 2, 0, 0]
    ∧ win0_2.index t = ![t.val % 2, 0, 0]
    ∧ win0_3.index t = ![t.val % 2, 0, 0]
    ∧ win0_4.index t = ![t.val % 2, 0, 0]
    ∧ win0_5.index t = ![t.val / 2, t.val % 2, 0, 0] :=
  (by decide +kernel : ∀ t : Fin grid0.N, _)

/-- The position rows as the region finds them. -/
theorem entry_p (c : Dev nD) : V m c main_v1 = (pad S2x8x2048 ![0, 0, 0] ![0, 7, 0] ![0, 0, 0]
    (shapeCast S2x1x2048 (m ((c : Thread nD τ).loc main_arg2)) shapeCasts_S2x32x64_S2x1x2048 : FVec Ideal S2x1x2048 .f32)
    (sitofp .f32 (constantI S_ 32 0#32) : FVec Ideal S_ .f32) pads_S2x1x2048_S2x8x2048_000_070_000 h_S_ : FVec Ideal S2x8x2048 .f32) := by
  show StableHlo.after (List.flatten [hostOps0, hostOps0_1, hostOps0_2]) _ _ = _
  simp only [hostOps0, hostOps0_1, hostOps0_2, List.flatten_cons, List.flatten_nil, List.append_nil, List.cons_append, List.nil_append,
    StableHlo.TRef.unary, StableHlo.TRef.binary, StableHlo.TRef.toBuf, StableHlo.TRef.ofBuf, cast_eq]
  after_results
  rfl

/-- The first weights as the region finds them. -/
theorem entry_w1 (c : Dev nD) : V m c main_v2 = (truncf .bf16 (m ((c : Thread nD τ).loc main_arg3)) bitsLt_bf16_f32 : FVec Ideal S2x2048x128 .bf16) := by
  show StableHlo.after (List.flatten [hostOps0, hostOps0_1, hostOps0_2]) _ _ = _
  simp only [hostOps0, hostOps0_1, hostOps0_2, List.flatten_cons, List.flatten_nil, List.append_nil, List.cons_append, List.nil_append,
    StableHlo.TRef.unary, StableHlo.TRef.binary, StableHlo.TRef.toBuf, StableHlo.TRef.ofBuf, cast_eq]
  after_results

/-- The second weights as the region finds them. -/
theorem entry_w2 (c : Dev nD) : V m c main_v3 = (truncf .bf16 (m ((c : Thread nD τ).loc main_arg4)) bitsLt_bf16_f32 : FVec Ideal S2x128x64 .bf16) := by
  show StableHlo.after (List.flatten [hostOps0, hostOps0_1, hostOps0_2]) _ _ = _
  simp only [hostOps0, hostOps0_1, hostOps0_2, List.flatten_cons, List.flatten_nil, List.append_nil, List.cons_append, List.nil_append,
    StableHlo.TRef.unary, StableHlo.TRef.binary, StableHlo.TRef.toBuf, StableHlo.TRef.ofBuf, cast_eq]
  after_results

/-- A block of the first halves, read in the argument. -/
theorem read_0 (c : Dev nD) (t : Fin cfg0.N) (g : Fin 4) (r : Fin 1024) (k : Fin 128) (b : Fin 32) (q : Fin 8)
    (hb : b.val = t.val / 2) (hq : q.val = t.val % 2 * 4 + g.val) :
    iblk m c 0 t (ix4 0 g r k) = m ((c : Thread nD τ).loc main_arg0) (ix4 b q r k) := by
  refine congrArg (V m c main_arg0) (?_ : ((cfg0.win 0).blk t).view.emb (ix4 0 g r k) = ix4 b q r k) |>.trans (congrFun (V_main_arg0 m c) _)
  have e0 : (((cfg0.win 0).blk t).view.emb (ix4 0 g r k) 0).val = b.val := by rw [hb]; blk_simp [idx t]; rfl
  have e1 : (((cfg0.win 0).blk t).view.emb (ix4 0 g r k) 1).val = q.val := by rw [hq]; blk_simp [idx t]
  have e2 : (((cfg0.win 0).blk t).view.emb (ix4 0 g r k) 2).val = r.val := by blk_simp [idx t]
  have e3 : (((cfg0.win 0).blk t).view.emb (ix4 0 g r k) 3).val = k.val := by blk_simp [idx t]
  funext a
  match a with
  | 0 => exact Fin.ext e0
  | 1 => exact Fin.ext e1
  | 2 => exact Fin.ext e2
  | 3 => exact Fin.ext e3

/-- A block of the second halves, read in the argument. -/
theorem read_1 (c : Dev nD) (t : Fin cfg0.N) (g : Fin 4) (r : Fin 1024) (k : Fin 128) (b : Fin 32) (q : Fin 8)
    (hb : b.val = t.val / 2) (hq : q.val = t.val % 2 * 4 + g.val) :
    iblk m c 1 t (ix4 0 g r k) = m ((c : Thread nD τ).loc main_arg1) (ix4 b q r k) := by
  refine congrArg (V m c main_arg1) (?_ : ((cfg0.win 1).blk t).view.emb (ix4 0 g r k) = ix4 b q r k) |>.trans (congrFun (V_main_arg1 m c) _)
  have e0 : (((cfg0.win 1).blk t).view.emb (ix4 0 g r k) 0).val = b.val := by rw [hb]; blk_simp [idx t]; rfl
  have e1 : (((cfg0.win 1).blk t).view.emb (ix4 0 g r k) 1).val = q.val := by rw [hq]; blk_simp [idx t]
  have e2 : (((cfg0.win 1).blk t).view.emb (ix4 0 g r k) 2).val = r.val := by blk_simp [idx t]
  have e3 : (((cfg0.win 1).blk t).view.emb (ix4 0 g r k) 3).val = k.val := by blk_simp [idx t]
  funext a
  match a with
  | 0 => exact Fin.ext e0
  | 1 => exact Fin.ext e1
  | 2 => exact Fin.ext e2
  | 3 => exact Fin.ext e3

/-- A block of the first weights, read in the argument. -/
theorem read_3 (c : Dev nD) (t : Fin cfg0.N) (f : Fin 2048) (k : Fin 128) (i : Fin 2) (hi : i.val = t.val % 2) :
    iblk m c 3 t (ix3 0 f k) = m ((c : Thread nD τ).loc main_arg3) (ix3 i f k) := by
  show V m c main_v2 (((cfg0.win 3).blk t).view.emb (ix3 0 f k)) = _
  rw [entry_w1]
  refine congrArg (m ((c : Thread nD τ).loc main_arg3)) (?_ : ((cfg0.win 3).blk t).view.emb (ix3 0 f k) = ix3 i f k)
  have e0 : (((cfg0.win 3).blk t).view.emb (ix3 0 f k) 0).val = i.val := by rw [hi]; blk_simp [idx t]; rfl
  have e1 : (((cfg0.win 3).blk t).view.emb (ix3 0 f k) 1).val = f.val := by blk_simp [idx t]
  have e2 : (((cfg0.win 3).blk t).view.emb (ix3 0 f k) 2).val = k.val := by blk_simp [idx t]
  funext a
  match a with
  | 0 => exact Fin.ext e0
  | 1 => exact Fin.ext e1
  | 2 => exact Fin.ext e2

/-- A block of the second weights, read in the argument. -/
theorem read_4 (c : Dev nD) (t : Fin cfg0.N) (f : Fin 128) (k : Fin 64) (i : Fin 2) (hi : i.val = t.val % 2) :
    iblk m c 4 t (ix3 0 f k) = m ((c : Thread nD τ).loc main_arg4) (ix3 i f k) := by
  show V m c main_v3 (((cfg0.win 4).blk t).view.emb (ix3 0 f k)) = _
  rw [entry_w2]
  refine congrArg (m ((c : Thread nD τ).loc main_arg4)) (?_ : ((cfg0.win 4).blk t).view.emb (ix3 0 f k) = ix3 i f k)
  have e0 : (((cfg0.win 4).blk t).view.emb (ix3 0 f k) 0).val = i.val := by rw [hi]; blk_simp [idx t]; rfl
  have e1 : (((cfg0.win 4).blk t).view.emb (ix3 0 f k) 1).val = f.val := by blk_simp [idx t]
  have e2 : (((cfg0.win 4).blk t).view.emb (ix3 0 f k) 2).val = k.val := by blk_simp [idx t]
  funext a
  match a with
  | 0 => exact Fin.ext e0
  | 1 => exact Fin.ext e1
  | 2 => exact Fin.ext e2

/-- The flattened positions at an index. -/
theorem flat_at (p : FVec Ideal S2x32x64 .f32) (i : Fin 2) (f : Fin 2048) :
    shapeCast S2x1x2048 p shapeCasts_S2x32x64_S2x1x2048 (ix3 i 0 f) = p (ix3 i ⟨f.val / 64, by omega⟩ ⟨f.val % 64, by omega⟩) := by
  pointwise

/-- The first position row of a block, read in the argument. -/
theorem read_2 (c : Dev nD) (t : Fin cfg0.N) (f : Fin 2048) (i : Fin 2) (hi : i.val = t.val % 2) :
    iblk m c 2 t (ix3 0 0 f) = m ((c : Thread nD τ).loc main_arg2) (ix3 i ⟨f.val / 64, by omega⟩ ⟨f.val % 64, by omega⟩) := by
  show V m c main_v1 (((cfg0.win 2).blk t).view.emb (ix3 0 0 f)) = _
  rw [entry_p]
  have e0 : (((cfg0.win 2).blk t).view.emb (ix3 0 0 f) 0).val = i.val := by rw [hi]; blk_simp [idx t]; rfl
  have e1 : (((cfg0.win 2).blk t).view.emb (ix3 0 0 f) 1).val = 0 := by blk_simp [idx t]; rfl
  have e2 : (((cfg0.win 2).blk t).view.emb (ix3 0 0 f) 2).val = f.val := by blk_simp [idx t]
  generalize ((cfg0.win 2).blk t).view.emb (ix3 0 0 f) = z at e0 e1 e2
  refine (pad_apply_of_inside _ _ _ _ _ _ _ _ (ix3 i 0 f) fun a => ?_).trans (flat_at _ i f)
  match a with
  | 0 => exact e0.trans (by omega : i.val = 0 + i.val * (0 + 1))
  | 1 => exact e1
  | 2 => exact e2.trans (by omega : f.val = 0 + f.val * (0 + 1))

/-- The result array after the run is the reference's term. -/
theorem final (c : Dev nD) : (dats m 0 c).arrAt 5 (cfgs 0).N = Cert.CmpFinishRefIdeal.Read.refO (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 5 _ (by decide +kernel) fun t _ (y : S1x4x1024x64.Idx) => ?_
  have e0 : (((((cfg0.win 5).blk t).view.emb y : S32x8x1024x64.Idx)) (0 : Fin 4)).val = t.val / 2 + (y (0 : Fin 4)).val := by blk_simp [idx t]
  have e1 : (((((cfg0.win 5).blk t).view.emb y : S32x8x1024x64.Idx)) (1 : Fin 4)).val = t.val % 2 * 4 + (y (1 : Fin 4)).val := by blk_simp [idx t]
  have e2 : (((((cfg0.win 5).blk t).view.emb y : S32x8x1024x64.Idx)) (2 : Fin 4)).val = (y (2 : Fin 4)).val := by blk_simp [idx t]
  have e3 : (((((cfg0.win 5).blk t).view.emb y : S32x8x1024x64.Idx)) (3 : Fin 4)).val = (y (3 : Fin 4)).val := by blk_simp [idx t]
  have y0 : (y (0 : Fin 4)).val < 1 := (y (0 : Fin 4)).isLt
  have y1 : (y (1 : Fin 4)).val < 4 := (y (1 : Fin 4)).isLt
  have ht : t.val < 64 := t.isLt
  have ez : @Eq S32x8x1024x64.Idx (((cfg0.win 5).blk t).view.emb y)
      (ix4 (⟨t.val / 2, by omega⟩ : Fin 32) (⟨t.val % 2 * 4 + (y (1 : Fin 4)).val, by omega⟩ : Fin 8) (y (2 : Fin 4)) (y (3 : Fin 4))) := by
    funext a
    match a with
    | ⟨0, _⟩ => exact Fin.ext (e0.trans (show t.val / 2 + (y (0 : Fin 4)).val = t.val / 2 by omega))
    | ⟨1, _⟩ => exact Fin.ext e1
    | ⟨2, _⟩ => exact Fin.ext e2
    | ⟨3, _⟩ => exact Fin.ext e3
  show (dats m 0 c).after 5 t y = _
  rw [after0_5]
  refine (block m c t y).trans ?_
  refine Eq.trans ?_ ((congrArg (Cert.CmpFinishRefIdeal.Read.refO (m ((c : Thread nD τ).loc main_arg0)) (m ((c : Thread nD τ).loc main_arg1))
    (m ((c : Thread nD τ).loc main_arg2)) (m ((c : Thread nD τ).loc main_arg3)) (m ((c : Thread nD τ).loc main_arg4))) ez).trans
      (Cert.CmpFinishRefIdeal.Read.refO_at _ _ _ _ _ _ (⟨t.val % 2, by omega⟩ : Fin 2) (y (1 : Fin 4)) _ rfl _ _)).symm
  unfold outv
  by_cases h : (y (2 : Fin 4)).val < 1023
  · refine (dif_pos h).trans (Eq.trans ?_ (dif_pos h).symm)
    refine Finset.sum_congr rfl fun k _ => ?_
    refine congrArg₂ (fun u v : EReal => u * v) (congrArg gl (congrArg₂ (fun u v : EReal => u + v) (congrArg₂ (fun u v : EReal => u + v) ?_ ?_)
      (Finset.sum_congr rfl fun f _ => congrArg₂ (fun u v : EReal => u * v) ?_ ?_))) ?_
    · exact read_0 m c t _ _ k _ _ rfl rfl
    · exact read_1 m c t _ _ k _ _ rfl rfl
    · exact read_2 m c t f _ rfl
    · exact read_3 m c t f k _ rfl
    · exact read_4 m c t k _ _ rfl
  · rw [dif_neg h]
    refine Eq.symm ?_
    exact dif_neg h

end Cert.CmpFinishIdeal.Blocks

namespace Cert.Claims

/-- The second layer of the block MLP: every window's output is the gelu of its first half, the second half one row
   further and the position term, times the second weight, and the row after the last window is zero. -/
theorem cmpFinish : Cert.algebraic_CmpFinishIdeal_CmpFinishRefIdeal := by
  pair_intro
  · run_from Cert.CmpFinishIdeal.Gen.run_main m g
    · exact Cert.CmpFinishIdeal.Gen.V_main_arg2 m c
    · exact Cert.CmpFinishIdeal.Gen.V_main_arg3 m c
    · exact Cert.CmpFinishIdeal.Gen.V_main_arg4 m c
  · run_from Cert.CmpFinishRefIdeal.Value.run m' g'
    refine (Cert.CmpFinishRefIdeal.Read.run_eq m' c).trans ?_
    obtain ⟨h0, h1, h2, h3, h4⟩ := hagree c
    rw [h0, h1, h2, h3, h4]
    exact (Cert.CmpFinishIdeal.Blocks.final m c).symm

end Cert.Claims

end
-- ==== Proof.SsdStateBody.lean ====
/- What the body of the state space mixer leaves in its state block: the carried state times the decay over the block,
   plus the outer products of the activated inputs, each under the decay from its row to the block's end. -/
module

public import proofs.«01_k».proof.Proof.Gen.SsdStateIdeal.Frame
public import proofs.«01_k».proof.Defs
public import Idealize.ShloMosaic.Lib.Pipeline.ValueKit
public import Idealize.ShloMosaic.Lib.Pipeline.ReadBack
public import Idealize.ShloMosaic.Lib.WholeRead
public import Idealize.ShloMosaic.Lib.Pointwise
public import Idealize.ShloMosaic.Lib.Claim
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.SsdStateIdeal.Body

open Cert.SsdStateIdeal Cert.SsdStateIdeal.Gen

/-- An index of two axes, from its coordinates. -/
theorem ix2_of {A B : Nat} (y : (⟨2, ![A, B]⟩ : Shape).Idx) (r : Fin A) (c : Fin B) (hr : (y 0).val = r.val) (hc : (y 1).val = c.val) :
    y = ix2 r c := by
  funext a
  refine Fin.ext ?_
  match a with
  | ⟨0, _⟩ => exact hr
  | ⟨1, _⟩ => exact hc

/-- The index a unit rectangle of two axes sends an index to. -/
theorem emb2 {A B n k : Nat} (a b : Nat) (inb : ∀ x, (![a, b] : Fin 2 → Nat) x + (![n, k] : Fin 2 → Nat) x ≤ (⟨2, ![A, B]⟩ : Shape).size x)
    (r : Fin n) (c : Fin k) (r' : Fin A) (c' : Fin B) (hr : r'.val = a + r.val) (hc : c'.val = b + c.val) :
    (Rect.unit (s := ⟨2, ![A, B]⟩) ![a, b] ![n, k] inb).emb (ix2 r c) = ix2 r' c' := by
  refine ix2_of _ _ _ ?_ ?_
  · exact (congrArg (a + ·) (Nat.one_mul _)).trans hr.symm
  · exact (congrArg (b + ·) (Nat.one_mul _)).trans hc.symm

/-- A load of a rectangle of a window of two axes. -/
theorem ld2 {A B n k : Nat} {e : EltTy} (m : Memref sig .tc .vmem ⟨2, ![A, B]⟩ e) (h : m.IsWhole) (X : Vec Ideal ⟨2, ![A, B]⟩ e) (a b : Nat)
    (inb : ∀ x, (![a, b] : Fin 2 → Nat) x + (![n, k] : Fin 2 → Nat) x ≤ (⟨2, ![A, B]⟩ : Shape).size x)
    (r : Fin n) (c : Fin k) (r' : Fin A) (c' : Fin B) (hr : r'.val = a + r.val) (hc : c'.val = b + c.val) :
    (View.readAt (Elt Ideal) m.view (Rect.unit (s := ⟨2, ![A, B]⟩) ![a, b] ![n, k] inb).toLoadRect (h.unread X) : Vec Ideal ⟨2, ![n, k]⟩ e) (ix2 r c) = X (ix2 r' c') :=
  (Memref.IsWhole.readAt_unread h X (Rect.unit (s := ⟨2, ![A, B]⟩) ![a, b] ![n, k] inb).toLoadRect (ix2 r c)).trans
    (congrArg X (ix2_of _ _ _ ((congrArg (a + ·) (Nat.one_mul _)).trans hr.symm) ((congrArg (b + ·) (Nat.one_mul _)).trans hc.symm)))

/-- A load of a whole window of two axes is the window. -/
theorem ld2w {A B : Nat} {e : EltTy} (m : Memref sig .tc .vmem ⟨2, ![A, B]⟩ e) (h : m.IsWhole) (X : Vec Ideal ⟨2, ![A, B]⟩ e)
    (inb : ∀ x, (![0, 0] : Fin 2 → Nat) x + (![A, B] : Fin 2 → Nat) x ≤ (⟨2, ![A, B]⟩ : Shape).size x) :
    View.readAt (Elt Ideal) m.view (Rect.unit (s := ⟨2, ![A, B]⟩) ![0, 0] ![A, B] inb).toLoadRect (h.unread X) = X := by
  funext y
  refine (Memref.IsWhole.readAt_unread h X (Rect.unit (s := ⟨2, ![A, B]⟩) ![0, 0] ![A, B] inb).toLoadRect y).trans (congrArg X ?_)
  funext ax
  refine Fin.ext ?_
  match ax with
  | ⟨0, _⟩ => exact (Nat.zero_add _).trans (Nat.one_mul _)
  | ⟨1, _⟩ => exact (Nat.zero_add _).trans (Nat.one_mul _)

/-- A load of a whole window of three axes is the window. -/
theorem ld3w {a b d : Nat} {e : EltTy} (m : Memref sig .tc .vmem ⟨3, ![a, b, d]⟩ e) (h : m.IsWhole) (X : Vec Ideal ⟨3, ![a, b, d]⟩ e)
    (inb : ∀ x, (![0, 0, 0] : Fin 3 → Nat) x + (![a, b, d] : Fin 3 → Nat) x ≤ (⟨3, ![a, b, d]⟩ : Shape).size x) :
    View.readAt (Elt Ideal) m.view (Rect.unit (s := ⟨3, ![a, b, d]⟩) ![0, 0, 0] ![a, b, d] inb).toLoadRect (h.unread X) = X := by
  funext y
  refine (Memref.IsWhole.readAt_unread h X (Rect.unit (s := ⟨3, ![a, b, d]⟩) ![0, 0, 0] ![a, b, d] inb).toLoadRect y).trans (congrArg X ?_)
  funext ax
  refine Fin.ext ?_
  match ax with
  | ⟨0, _⟩ => exact (Nat.zero_add _).trans (Nat.one_mul _)
  | ⟨1, _⟩ => exact (Nat.zero_add _).trans (Nat.one_mul _)
  | ⟨2, _⟩ => exact (Nat.zero_add _).trans (Nat.one_mul _)

/-- A load of a rectangle of a scratch buffer after its stores. -/
theorem rc2 {A B n k : Nat} {e : EltTy} (m : Memref sig .tc .vmem ⟨2, ![A, B]⟩ e) (L : List (View.Piece (Elt Ideal) ⟨2, ![A, B]⟩ e)) (a b : Nat)
    (inb : ∀ x, (![a, b] : Fin 2 → Nat) x + (![n, k] : Fin 2 → Nat) x ≤ (⟨2, ![A, B]⟩ : Shape).size x)
    (r : Fin n) (c : Fin k) (r' : Fin A) (c' : Fin B) (hr : r'.val = a + r.val) (hc : c'.val = b + c.val) :
    (m.view.readCov L (Rect.unit (s := ⟨2, ![A, B]⟩) ![a, b] ![n, k] inb).toLoadRect : Vec Ideal ⟨2, ![n, k]⟩ e) (ix2 r c)
      = View.canon (Val := Elt Ideal) L (ix2 r' c') :=
  (congrFun (View.readCov_eq_canon' m.view _ (Rect.unit (s := ⟨2, ![A, B]⟩) ![a, b] ![n, k] inb).toLoadRect) (ix2 r c)).trans
    (congrArg (View.canon (Val := Elt Ideal) _) (ix2_of _ _ _ ((congrArg (a + ·) (Nat.one_mul _)).trans hr.symm) ((congrArg (b + ·) (Nat.one_mul _)).trans hc.symm)))

/-- Membership in a unit rectangle of two axes. -/
theorem mem2 {A B n k : Nat} (a b : Nat) (inb : ∀ x, (![a, b] : Fin 2 → Nat) x + (![n, k] : Fin 2 → Nat) x ≤ (⟨2, ![A, B]⟩ : Shape).size x)
    (r : Fin A) (c : Fin B) (h0 : a ≤ r.val) (h1 : r.val < a + n) (h2 : b ≤ c.val) (h3 : c.val < b + k) :
    (ix2 r c : (⟨2, ![A, B]⟩ : Shape).Idx) ∈ (Rect.unit (s := ⟨2, ![A, B]⟩) ![a, b] ![n, k] inb).set := by
  refine (Rect.mem_set_unit (inb := inb)).2 fun x => ?_
  match x with
  | ⟨0, _⟩ => exact ⟨h0, h1⟩
  | ⟨1, _⟩ => exact ⟨h2, h3⟩

/-- The buffer the convolution reads: eight rows of the carried inputs, and the block's inputs below them. -/
def ext (x1 x2 : Vec Ideal S128x2048 .f32) (x10 : Vec Ideal S1x8x4096 .f32) : S136x4096.Idx → Elt Ideal .f32 := fun y =>
  if h : (y 0).val < 8 then x10 (ix3 0 ⟨(y 0).val, h⟩ ⟨(y 1).val, (y 1).isLt⟩)
  else if h' : (y 1).val < 2048 then x1 (ix2 ⟨(y 0).val - 8, by have : (y 0).val < 136 := (y 0).isLt; omega⟩ ⟨(y 1).val, h'⟩)
  else x2 (ix2 ⟨(y 0).val - 8, by have : (y 0).val < 136 := (y 0).isLt; omega⟩ ⟨(y 1).val - 2048, by have : (y 1).val < 4096 := (y 1).isLt; omega⟩)

/-- A store of the rows as loaded. -/
theorem keep7 (v : Vec Ideal S128x2048 .f32) (r : Fin 128) (c : Fin 2048) : k0_pay7 (F := Ideal) v (ix2 r c) = v (ix2 r c) := by
  pointwise [k0_pay7]

/-- A store of the rows as loaded. -/
theorem keep6 (v : Vec Ideal S128x2048 .f32) (r : Fin 128) (c : Fin 2048) : k0_pay6 (F := Ideal) v (ix2 r c) = v (ix2 r c) := by
  pointwise [k0_pay6]

/-- The carried rows without their first axis. -/
theorem keep3 (v : Vec Ideal S1x8x4096 .f32) (r : Fin 8) (c : Fin 4096) : k0_pay3 (F := Ideal) v (ix2 r c) = v (ix3 0 r c) := by
  pointwise [k0_pay3]

/-- The old state, turned. -/
theorem keep4 (v : Vec Ideal S1x2048x128 .f32) (r : Fin 128) (c : Fin 2048) : k0_pay4 (F := Ideal) v (ix2 r c) = v (ix3 0 c r) := by
  pointwise [k0_pay4]

/-- The new state, turned back. -/
theorem turn2 (v : Vec Ideal S128x2048 .f32) (r : Fin 2048) (c : Fin 128) : k0_pay2 (F := Ideal) v (ix3 0 r c) = v (ix2 c r) := by
  pointwise [k0_pay2]

/-- Every index of two axes is a pair. -/
theorem pair2 {A B : Nat} (y : (⟨2, ![A, B]⟩ : Shape).Idx) : ∃ (r : Fin A) (c : Fin B), y = ix2 r c :=
  ⟨⟨(y 0).val, (y 0).isLt⟩, ⟨(y 1).val, (y 1).isLt⟩, ix2_of _ _ _ rfl rfl⟩

section Ext

variable (c : Dev nD) (arg3 : Memref sig .tc .vmem S128x2048 .f32) (harg3 : arg3.IsWhole) (arg4 : Memref sig .tc .vmem S128x2048 .f32) (harg4 : arg4.IsWhole)
  (arg12 : Memref sig .tc .vmem S1x8x4096 .f32) (harg12 : arg12.IsWhole) (x1 x2 : Vec Ideal S128x2048 .f32) (x10 : Vec Ideal S1x8x4096 .f32)

/-- The stores into that buffer. -/
theorem ext_pieces : View.PiecesOf (ext x1 x2 x10) (kernelRun0_A.sl.HS0_3 (F := Ideal) c arg3 harg3 arg4 harg4 arg12 harg12 x1 x2 x10) := by
  unfold kernelRun0_A.sl.HS0_3
  refine ⟨fun (x : S128x2048.Idx) => ?_, fun (x : S128x2048.Idx) => ?_, fun (x : S8x4096.Idx) => ?_, trivial⟩
  · obtain ⟨r, d, rfl⟩ := pair2 x
    refine (keep7 _ r d).trans ((congrFun (ld2w arg4 harg4 x2 _) _).trans ?_)
    refine Eq.trans ?_ (congrArg (ext x1 x2 x10) (emb2 8 2048 inb_S136x4096_S128x2048_8_2048 r d ⟨8 + r.val, by omega⟩ ⟨2048 + d.val, by omega⟩ rfl rfl)).symm
    unfold ext
    refine Eq.symm ((dif_neg (by show ¬ 8 + r.val < 8; omega)).trans ((dif_neg (by show ¬ 2048 + d.val < 2048; omega)).trans (congrArg x2 ?_)))
    exact ix2_of _ _ _ (by show 8 + r.val - 8 = r.val; omega) (by show 2048 + d.val - 2048 = d.val; omega)
  · obtain ⟨r, d, rfl⟩ := pair2 x
    refine (keep6 _ r d).trans ((congrFun (ld2w arg3 harg3 x1 _) _).trans ?_)
    refine Eq.trans ?_ (congrArg (ext x1 x2 x10) (emb2 8 0 inb_S136x4096_S128x2048_8_0 r d ⟨8 + r.val, by omega⟩ ⟨d.val, by omega⟩ rfl (Nat.zero_add _).symm)).symm
    unfold ext
    refine Eq.symm ((dif_neg (by show ¬ 8 + r.val < 8; omega)).trans ((dif_pos (by show d.val < 2048; omega)).trans (congrArg x1 ?_)))
    exact ix2_of _ _ _ (by show 8 + r.val - 8 = r.val; omega) rfl
  · obtain ⟨r, d, rfl⟩ := pair2 x
    refine (keep3 _ r d).trans ((congrFun (ld3w arg12 harg12 x10 _) _).trans ?_)
    refine Eq.trans ?_ (congrArg (ext x1 x2 x10) (emb2 0 0 inb_S136x4096_S8x4096_0_0 r d ⟨r.val, by omega⟩ d (Nat.zero_add _).symm (Nat.zero_add _).symm)).symm
    unfold ext
    refine Eq.symm ((dif_pos (by show r.val < 8; omega)).trans ?_)
    rfl

/-- The buffer after its stores. -/
theorem ext_at (y : S136x4096.Idx) : View.canon (Val := Elt Ideal) (kernelRun0_A.sl.HS0_3 (F := Ideal) c arg3 harg3 arg4 harg4 arg12 harg12 x1 x2 x10) y = ext x1 x2 x10 y := by
  have h := View.canon_append_of_piecesOf (ext x1 x2 x10) [] _ (ext_pieces c arg3 harg3 arg4 harg4 arg12 harg12 x1 x2 x10) y
  rw [List.append_nil] at h
  refine h ?_
  obtain ⟨r, d, rfl⟩ := pair2 y
  unfold kernelRun0_A.sl.HS0_3
  by_cases h0 : r.val < 8
  · exact ⟨_, List.mem_cons_of_mem _ (List.mem_cons_of_mem _ List.mem_cons_self), mem2 0 0 inb_S136x4096_S8x4096_0_0 r d (Nat.zero_le _) (by omega) (Nat.zero_le _) (by omega)⟩
  · by_cases h1 : d.val < 2048
    · exact ⟨_, List.mem_cons_of_mem _ List.mem_cons_self, mem2 8 0 inb_S136x4096_S128x2048_8_0 r d (by omega) (by omega) (Nat.zero_le _) (by omega)⟩
    · exact ⟨_, List.mem_cons_self, mem2 8 2048 inb_S136x4096_S128x2048_8_2048 r d (by omega) (by omega) (by omega) (by omega)⟩

end Ext

/-- The activation of a convolution with four taps. -/
def cv (b w0 e0 w1 e1 w2 e2 w3 e3 : EReal) : EReal :=
  (b + w0 * e0 + w1 * e1 + w2 * e2 + w3 * e3) * (Ideal.ofBits FTy.f32 0x3F000000#32 * Ideal.tanh (Ideal.ofBits FTy.f32 0x3F000000#32 * (b + w0 * e0 + w1 * e1 + w2 * e2 + w3 * e3)) + Ideal.ofBits FTy.f32 0x3F000000#32)

/-- Equal taps give equal activations. -/
theorem cv_congr {b b' w0 w0' e0 e0' w1 w1' e1 e1' w2 w2' e2 e2' w3 w3' e3 e3' : EReal} (h : b = b') (h0 : w0 = w0') (g0 : e0 = e0') (h1 : w1 = w1') (g1 : e1 = e1')
    (h2 : w2 = w2') (g2 : e2 = e2') (h3 : w3 = w3') (g3 : e3 = e3') : cv b w0 e0 w1 e1 w2 e2 w3 e3 = cv b' w0' e0' w1' e1' w2' e2' w3' e3' := by
  subst h h0 g0 h1 g1 h2 g2 h3 g3; rfl

/-- One store of activated inputs at row `l`, column `j`. -/
theorem conv_at (b w0 w1 w2 w3 : Vec Ideal S1x512 .f32) (e0 e1 e2 e3 : Vec Ideal S128x512 .f32) (l : Fin 128) (j : Fin 512) :
    k0_pay9 (F := Ideal) (k0_pay8 b w0 e0 w1 e1) w2 e2 w3 e3 (ix2 l j)
      = cv (b (ix2 0 j)) (w0 (ix2 0 j)) (e0 (ix2 l j)) (w1 (ix2 0 j)) (e1 (ix2 l j)) (w2 (ix2 0 j)) (e2 (ix2 l j)) (w3 (ix2 0 j)) (e3 (ix2 l j)) := by
  pointwise [k0_pay8, k0_pay9, cv]

/-- The activated inputs at row `l`, channel `j`. -/
def act (x1 x2 : Vec Ideal S128x2048 .f32) (x4 : Vec Ideal S4x4096 .f32) (x5 : Vec Ideal S1x4096 .f32) (x10 : Vec Ideal S1x8x4096 .f32) (l : Fin 128) (j : Fin 4096) : EReal :=
  cv (x5 (ix2 0 j)) (x4 (ix2 0 j)) (ext x1 x2 x10 (ix2 ⟨5 + l.val, by omega⟩ j)) (x4 (ix2 1 j)) (ext x1 x2 x10 (ix2 ⟨6 + l.val, by omega⟩ j))
    (x4 (ix2 2 j)) (ext x1 x2 x10 (ix2 ⟨7 + l.val, by omega⟩ j)) (x4 (ix2 3 j)) (ext x1 x2 x10 (ix2 ⟨8 + l.val, by omega⟩ j))

section Conv

variable (c : Dev nD) (arg3 : Memref sig .tc .vmem S128x2048 .f32) (harg3 : arg3.IsWhole) (arg4 : Memref sig .tc .vmem S128x2048 .f32) (harg4 : arg4.IsWhole)
  (arg6 : Memref sig .tc .vmem S4x4096 .f32) (harg6 : arg6.IsWhole) (arg7 : Memref sig .tc .vmem S1x4096 .f32) (harg7 : arg7.IsWhole)
  (arg12 : Memref sig .tc .vmem S1x8x4096 .f32) (harg12 : arg12.IsWhole) (arg18 : Memref sig .tc .vmem S136x4096 .f32)
  (x1 x2 : Vec Ideal S128x2048 .f32) (x4 : Vec Ideal S4x4096 .f32) (x5 : Vec Ideal S1x4096 .f32) (x10 : Vec Ideal S1x8x4096 .f32)

/-- One store of activated inputs, from the loads it is made of: columns from `o` on. -/
theorem conv_head (o : Nat) (ho : o + 512 ≤ 4096)
    (ib : ∀ x, (![0, o] : Fin 2 → Nat) x + (![1, 512] : Fin 2 → Nat) x ≤ S1x4096.size x)
    (i0 : ∀ x, (![0, o] : Fin 2 → Nat) x + (![1, 512] : Fin 2 → Nat) x ≤ S4x4096.size x)
    (i1 : ∀ x, (![1, o] : Fin 2 → Nat) x + (![1, 512] : Fin 2 → Nat) x ≤ S4x4096.size x)
    (i2 : ∀ x, (![2, o] : Fin 2 → Nat) x + (![1, 512] : Fin 2 → Nat) x ≤ S4x4096.size x)
    (i3 : ∀ x, (![3, o] : Fin 2 → Nat) x + (![1, 512] : Fin 2 → Nat) x ≤ S4x4096.size x)
    (j0 : ∀ x, (![5, o] : Fin 2 → Nat) x + (![128, 512] : Fin 2 → Nat) x ≤ S136x4096.size x)
    (j1 : ∀ x, (![6, o] : Fin 2 → Nat) x + (![128, 512] : Fin 2 → Nat) x ≤ S136x4096.size x)
    (j2 : ∀ x, (![7, o] : Fin 2 → Nat) x + (![128, 512] : Fin 2 → Nat) x ≤ S136x4096.size x)
    (j3 : ∀ x, (![8, o] : Fin 2 → Nat) x + (![128, 512] : Fin 2 → Nat) x ≤ S136x4096.size x)
    (l : Fin 128) (j : Fin 512) :
    k0_pay9 (F := Ideal) (k0_pay8 (View.readAt (Elt Ideal) arg7.view (Rect.unit (s := S1x4096) ![0, o] S1x512.size ib).toLoadRect (harg7.unread x5))
        (View.readAt (Elt Ideal) arg6.view (Rect.unit (s := S4x4096) ![0, o] S1x512.size i0).toLoadRect (harg6.unread x4))
        (arg18.view.readCov (kernelRun0_A.sl.HS0_3 (F := Ideal) c arg3 harg3 arg4 harg4 arg12 harg12 x1 x2 x10) (Rect.unit (s := S136x4096) ![5, o] S128x512.size j0).toLoadRect)
        (View.readAt (Elt Ideal) arg6.view (Rect.unit (s := S4x4096) ![1, o] S1x512.size i1).toLoadRect (harg6.unread x4))
        (arg18.view.readCov (kernelRun0_A.sl.HS0_3 (F := Ideal) c arg3 harg3 arg4 harg4 arg12 harg12 x1 x2 x10) (Rect.unit (s := S136x4096) ![6, o] S128x512.size j1).toLoadRect))
        (View.readAt (Elt Ideal) arg6.view (Rect.unit (s := S4x4096) ![2, o] S1x512.size i2).toLoadRect (harg6.unread x4))
        (arg18.view.readCov (kernelRun0_A.sl.HS0_3 (F := Ideal) c arg3 harg3 arg4 harg4 arg12 harg12 x1 x2 x10) (Rect.unit (s := S136x4096) ![7, o] S128x512.size j2).toLoadRect)
        (View.readAt (Elt Ideal) arg6.view (Rect.unit (s := S4x4096) ![3, o] S1x512.size i3).toLoadRect (harg6.unread x4))
        (arg18.view.readCov (kernelRun0_A.sl.HS0_3 (F := Ideal) c arg3 harg3 arg4 harg4 arg12 harg12 x1 x2 x10) (Rect.unit (s := S136x4096) ![8, o] S128x512.size j3).toLoadRect) (ix2 l j)
      = act x1 x2 x4 x5 x10 l ⟨o + j.val, by omega⟩ := by
  refine (conv_at _ _ _ _ _ _ _ _ _ l j).trans ?_
  unfold act
  exact cv_congr (ld2 arg7 harg7 x5 0 o _ 0 j 0 ⟨o + j.val, by omega⟩ rfl rfl)
    (ld2 arg6 harg6 x4 0 o _ 0 j 0 ⟨o + j.val, by omega⟩ rfl rfl)
    ((rc2 arg18 _ 5 o _ l j ⟨5 + l.val, by omega⟩ ⟨o + j.val, by omega⟩ rfl rfl).trans (ext_at c arg3 harg3 arg4 harg4 arg12 harg12 x1 x2 x10 _))
    (ld2 arg6 harg6 x4 1 o _ 0 j 1 ⟨o + j.val, by omega⟩ rfl rfl)
    ((rc2 arg18 _ 6 o _ l j ⟨6 + l.val, by omega⟩ ⟨o + j.val, by omega⟩ rfl rfl).trans (ext_at c arg3 harg3 arg4 harg4 arg12 harg12 x1 x2 x10 _))
    (ld2 arg6 harg6 x4 2 o _ 0 j 2 ⟨o + j.val, by omega⟩ rfl rfl)
    ((rc2 arg18 _ 7 o _ l j ⟨7 + l.val, by omega⟩ ⟨o + j.val, by omega⟩ rfl rfl).trans (ext_at c arg3 harg3 arg4 harg4 arg12 harg12 x1 x2 x10 _))
    (ld2 arg6 harg6 x4 3 o _ 0 j 3 ⟨o + j.val, by omega⟩ rfl rfl)
    ((rc2 arg18 _ 8 o _ l j ⟨8 + l.val, by omega⟩ ⟨o + j.val, by omega⟩ rfl rfl).trans (ext_at c arg3 harg3 arg4 harg4 arg12 harg12 x1 x2 x10 _))

/-- The first half of the activated inputs, as its buffer holds them. -/
def xsv : S128x2048.Idx → Elt Ideal .f32 := fun y => act x1 x2 x4 x5 x10 ⟨(y 0).val, (y 0).isLt⟩ ⟨(y 1).val, by have : (y 1).val < 2048 := (y 1).isLt; omega⟩

/-- The third quarter of the activated inputs, as its buffer holds them. -/
def bsv : S128x1024.Idx → Elt Ideal .f32 := fun y => act x1 x2 x4 x5 x10 ⟨(y 0).val, (y 0).isLt⟩ ⟨2048 + (y 1).val, by have : (y 1).val < 1024 := (y 1).isLt; omega⟩

/-- A store's columns in the first half. -/
theorem xs_put (o : Nat) (ho : o + 512 ≤ 2048) (inb : ∀ x, (![0, o] : Fin 2 → Nat) x + (![128, 512] : Fin 2 → Nat) x ≤ S128x2048.size x)
    (P : Vec Ideal S128x512 .f32) (h : ∀ (l : Fin 128) (j : Fin 512), P (ix2 l j) = act x1 x2 x4 x5 x10 l ⟨o + j.val, by omega⟩) (x : S128x512.Idx) :
    P x = xsv x1 x2 x4 x5 x10 ((Rect.unit (s := S128x2048) ![0, o] S128x512.size inb).emb x) := by
  obtain ⟨l, j, rfl⟩ := pair2 x
  refine (h l j).trans (Eq.symm ((congrArg (xsv x1 x2 x4 x5 x10) (emb2 0 o inb l j l ⟨o + j.val, by omega⟩ (Nat.zero_add _).symm rfl)).trans ?_))
  rfl

/-- A store's columns in the third quarter. -/
theorem bs_put (o : Nat) (ho : o + 512 ≤ 1024) (inb : ∀ x, (![0, o] : Fin 2 → Nat) x + (![128, 512] : Fin 2 → Nat) x ≤ S128x1024.size x)
    (P : Vec Ideal S128x512 .f32) (h : ∀ (l : Fin 128) (j : Fin 512), P (ix2 l j) = act x1 x2 x4 x5 x10 l ⟨2048 + o + j.val, by omega⟩) (x : S128x512.Idx) :
    P x = bsv x1 x2 x4 x5 x10 ((Rect.unit (s := S128x1024) ![0, o] S128x512.size inb).emb x) := by
  obtain ⟨l, j, rfl⟩ := pair2 x
  refine (h l j).trans (Eq.symm ((congrArg (bsv x1 x2 x4 x5 x10) (emb2 0 o inb l j l ⟨o + j.val, by omega⟩ (Nat.zero_add _).symm rfl)).trans ?_))
  exact congrArg (act x1 x2 x4 x5 x10 l) (Fin.ext (Nat.add_assoc 2048 o j.val).symm)

/-- The buffer of the first half after its stores. -/
theorem xs_at (l : Fin 128) (j : Fin 2048) :
    View.canon (Val := Elt Ideal) (kernelRun0_A.sl.HS2_4 (F := Ideal) c arg3 harg3 arg4 harg4 arg6 harg6 arg7 harg7 arg12 harg12 arg18 x1 x2 x4 x5 x10) (ix2 l j)
      = act x1 x2 x4 x5 x10 l ⟨j.val, by omega⟩ := by
  have hp : View.PiecesOf (xsv x1 x2 x4 x5 x10) (kernelRun0_A.sl.HS2_4 (F := Ideal) c arg3 harg3 arg4 harg4 arg6 harg6 arg7 harg7 arg12 harg12 arg18 x1 x2 x4 x5 x10) := by
    unfold kernelRun0_A.sl.HS2_4
    exact ⟨fun x => xs_put x1 x2 x4 x5 x10 1536 (by omega) inb_S128x2048_S128x512_0_1536 _ (fun l j => conv_head c arg3 harg3 arg4 harg4 arg6 harg6 arg7 harg7 arg12 harg12 arg18 x1 x2 x4 x5 x10 1536 (by omega) _ _ _ _ _ _ _ _ _ l j) x,
      fun x => xs_put x1 x2 x4 x5 x10 1024 (by omega) inb_S128x2048_S128x512_0_1024 _ (fun l j => conv_head c arg3 harg3 arg4 harg4 arg6 harg6 arg7 harg7 arg12 harg12 arg18 x1 x2 x4 x5 x10 1024 (by omega) _ _ _ _ _ _ _ _ _ l j) x,
      fun x => xs_put x1 x2 x4 x5 x10 512 (by omega) inb_S128x2048_S128x512_0_512 _ (fun l j => conv_head c arg3 harg3 arg4 harg4 arg6 harg6 arg7 harg7 arg12 harg12 arg18 x1 x2 x4 x5 x10 512 (by omega) _ _ _ _ _ _ _ _ _ l j) x,
      fun x => xs_put x1 x2 x4 x5 x10 0 (by omega) inb_S128x2048_S128x512_0_0 _ (fun l j => conv_head c arg3 harg3 arg4 harg4 arg6 harg6 arg7 harg7 arg12 harg12 arg18 x1 x2 x4 x5 x10 0 (by omega) _ _ _ _ _ _ _ _ _ l j) x, trivial⟩
  have h := View.canon_append_of_piecesOf _ [] _ hp (ix2 l j)
  rw [List.append_nil] at h
  refine (h ?_).trans rfl
  unfold kernelRun0_A.sl.HS2_4
  by_cases h0 : j.val < 512
  · exact ⟨_, List.mem_cons_of_mem _ (List.mem_cons_of_mem _ (List.mem_cons_of_mem _ List.mem_cons_self)), mem2 0 0 inb_S128x2048_S128x512_0_0 l j (Nat.zero_le _) (by omega) (Nat.zero_le _) (by omega)⟩
  by_cases h1 : j.val < 1024
  · exact ⟨_, List.mem_cons_of_mem _ (List.mem_cons_of_mem _ List.mem_cons_self), mem2 0 512 inb_S128x2048_S128x512_0_512 l j (Nat.zero_le _) (by omega) (by omega) (by omega)⟩
  by_cases h2 : j.val < 1536
  · exact ⟨_, List.mem_cons_of_mem _ List.mem_cons_self, mem2 0 1024 inb_S128x2048_S128x512_0_1024 l j (Nat.zero_le _) (by omega) (by omega) (by omega)⟩
  · exact ⟨_, List.mem_cons_self, mem2 0 1536 inb_S128x2048_S128x512_0_1536 l j (Nat.zero_le _) (by omega) (by omega) (by omega)⟩

/-- The buffer of the third quarter after its stores. -/
theorem bs_at (l : Fin 128) (j : Fin 1024) :
    View.canon (Val := Elt Ideal) (kernelRun0_A.sl.HS3_2 (F := Ideal) c arg3 harg3 arg4 harg4 arg6 harg6 arg7 harg7 arg12 harg12 arg18 x1 x2 x4 x5 x10) (ix2 l j)
      = act x1 x2 x4 x5 x10 l ⟨2048 + j.val, by omega⟩ := by
  have hp : View.PiecesOf (bsv x1 x2 x4 x5 x10) (kernelRun0_A.sl.HS3_2 (F := Ideal) c arg3 harg3 arg4 harg4 arg6 harg6 arg7 harg7 arg12 harg12 arg18 x1 x2 x4 x5 x10) := by
    unfold kernelRun0_A.sl.HS3_2
    exact ⟨fun x => bs_put x1 x2 x4 x5 x10 512 (by omega) inb_S128x1024_S128x512_0_512 _ (fun l j => conv_head c arg3 harg3 arg4 harg4 arg6 harg6 arg7 harg7 arg12 harg12 arg18 x1 x2 x4 x5 x10 2560 (by omega) _ _ _ _ _ _ _ _ _ l j) x,
      fun x => bs_put x1 x2 x4 x5 x10 0 (by omega) inb_S128x1024_S128x512_0_0 _ (fun l j => conv_head c arg3 harg3 arg4 harg4 arg6 harg6 arg7 harg7 arg12 harg12 arg18 x1 x2 x4 x5 x10 2048 (by omega) _ _ _ _ _ _ _ _ _ l j) x, trivial⟩
  have h := View.canon_append_of_piecesOf _ [] _ hp (ix2 l j)
  rw [List.append_nil] at h
  refine (h ?_).trans rfl
  unfold kernelRun0_A.sl.HS3_2
  by_cases h0 : j.val < 512
  · exact ⟨_, List.mem_cons_of_mem _ List.mem_cons_self, mem2 0 0 inb_S128x1024_S128x512_0_0 l j (Nat.zero_le _) (by omega) (Nat.zero_le _) (by omega)⟩
  · exact ⟨_, List.mem_cons_self, mem2 0 512 inb_S128x1024_S128x512_0_512 l j (Nat.zero_le _) (by omega) (by omega) (by omega)⟩

end Conv

end Cert.SsdStateIdeal.Body
-- ==== Proof.SsdStateScan.lean ====
/- The state block of the mixer's body: the eight groups' stores into the carried state, read back. -/
module

public import proofs.«01_k».proof.Proof.SsdStateBody

@[expose] public section

set_option maxRecDepth 16384

noncomputable section

open Idealize.ShloMosaic Idealize.ShloMosaic.TcCoe Idealize.SL.Sem
open Idealize.ShloMosaic.Pipeline (Dat)

namespace Cert.SsdStateIdeal.Body

open Cert.SsdStateIdeal Cert.SsdStateIdeal.Gen

/-- One group's store at state `n`, column `j`. -/
theorem grp_at (b : Vec Ideal S128x128 .f32) (ag xd : FVec Ideal S128x256 .f32) (al : FVec Ideal S1x256 .f32) (st : Vec Ideal S128x256 .f32) (n : Fin 128) (j : Fin 256) :
    k0_pay65 (F := Ideal) b ag xd al st (ix2 n j)
      = st (ix2 n j) * Ideal.exp (al (ix2 0 j)) + ∑ l : Fin 128, b (ix2 l n) * (xd (ix2 l j) * Ideal.exp (al (ix2 0 j) - ag (ix2 l j))) := by
  pointwise [k0_pay65]

/-- A slice of columns. -/
theorem cut_at (o : Nat) (v : FVec Ideal S128x2048 .f32) (h : S128x2048.Slices ![0, o] S128x256) (l : Fin 128) (j : Fin 256) (jj : Fin 2048) (hj : jj.val = o + j.val) :
    extractStridedSlice S128x256 ![0, o] v h (ix2 l j) = v (ix2 l jj) :=
  congrArg v (ix2_of _ _ _ (Nat.zero_add _) hj.symm)

/-- The last row of a slice of columns. -/
theorem last_at (v : FVec Ideal S128x256 .f32) (h : S128x256.Slices ![127, 0] S1x256) (j : Fin 256) :
    extractStridedSlice S1x256 ![127, 0] v h (ix2 0 j) = v (ix2 127 j) :=
  congrArg v (ix2_of _ _ _ rfl (Nat.zero_add _))

/-- The new state at state `n`, column `j`, from the running decays `A` and the steps `D`. -/
def stv (x1 x2 : Vec Ideal S128x2048 .f32) (x4 : Vec Ideal S4x4096 .f32) (x5 : Vec Ideal S1x4096 .f32) (x10 : Vec Ideal S1x8x4096 .f32) (x11 : Vec Ideal S1x2048x128 .f32)
    (A D : FVec Ideal S128x2048 .f32) (n : Fin 128) (j : Fin 2048) : EReal :=
  x11 (ix3 0 j n) * Ideal.exp (A (ix2 127 j)) + ∑ l : Fin 128, act x1 x2 x4 x5 x10 l ⟨2048 + (j.val / 256 * 128 + n.val), by omega⟩
    * (act x1 x2 x4 x5 x10 l ⟨j.val, by omega⟩ * D (ix2 l j) * Ideal.exp (A (ix2 127 j) - A (ix2 l j)))

/-- A store of 256 columns, read at one of its columns. -/
theorem cons_hit (f : S128x2048.Idx → Elt Ideal .f32) (L : List (View.Piece (Elt Ideal) S128x2048 .f32)) (o : Nat)
    (is : ∀ x, (![0, o] : Fin 2 → Nat) x + (![128, 256] : Fin 2 → Nat) x ≤ S128x2048.size x) (P : Vec Ideal S128x256 .f32)
    (h : ∀ x : S128x256.Idx, P x = f ((Rect.unit (s := S128x2048) ![0, o] S128x256.size is).emb x)) (y : S128x2048.Idx)
    (hy : y ∈ (Rect.unit (s := S128x2048) ![0, o] S128x256.size is).set) :
    View.canon (Val := Elt Ideal) ((⟨Rect.unit (s := S128x2048) ![0, o] S128x256.size is, P⟩ : View.Piece (Elt Ideal) S128x2048 .f32) :: L) y = f y :=
  View.canon_append_of_piecesOf f L [(⟨Rect.unit (s := S128x2048) ![0, o] S128x256.size is, P⟩ : View.Piece (Elt Ideal) S128x2048 .f32)]
    ⟨h, trivial⟩ y ⟨_, List.mem_cons_self, hy⟩

section Scan

variable (c : Dev nD) (arg3 : Memref sig .tc .vmem S128x2048 .f32) (harg3 : arg3.IsWhole) (arg4 : Memref sig .tc .vmem S128x2048 .f32) (harg4 : arg4.IsWhole)
  (arg6 : Memref sig .tc .vmem S4x4096 .f32) (harg6 : arg6.IsWhole) (arg7 : Memref sig .tc .vmem S1x4096 .f32) (harg7 : arg7.IsWhole)
  (arg12 : Memref sig .tc .vmem S1x8x4096 .f32) (harg12 : arg12.IsWhole) (arg13 : Memref sig .tc .vmem S1x2048x128 .f32) (harg13 : arg13.IsWhole)
  (arg18 : Memref sig .tc .vmem S136x4096 .f32)
  (arg19 : Memref sig .tc .vmem S128x2048 .f32) (arg20 : Memref sig .tc .vmem S128x2048 .f32) (arg21 : Memref sig .tc .vmem S128x1024 .f32)
  (x1 x2 : Vec Ideal S128x2048 .f32) (x4 : Vec Ideal S4x4096 .f32) (x5 : Vec Ideal S1x4096 .f32) (x10 : Vec Ideal S1x8x4096 .f32) (x11 : Vec Ideal S1x2048x128 .f32)
  (A D : FVec Ideal S128x2048 .f32)

/-- The state buffer with the columns below `o` new and the others as carried. -/
def Upto (L : List (View.Piece (Elt Ideal) S128x2048 .f32)) (o : Nat) : Prop :=
  (∀ (n : Fin 128) (j : Fin 2048), j.val < o → View.canon (Val := Elt Ideal) L (ix2 n j) = stv x1 x2 x4 x5 x10 x11 A D n j)
    ∧ (∀ (n : Fin 128) (j : Fin 2048), o ≤ j.val → View.canon (Val := Elt Ideal) L (ix2 n j) = x11 (ix3 0 j n))

/-- Before the first group, every column is as carried. -/
theorem upto_start : Upto x1 x2 x4 x5 x10 x11 A D (kernelRun0_A.sl.HS1_1 (F := Ideal) c arg13 harg13 x11) 0 := by
  refine ⟨fun n j h => absurd h (Nat.not_lt_zero _), fun n j _ => ?_⟩
  have hp : View.PiecesOf (fun y : S128x2048.Idx => (x11 (ix3 0 ⟨(y 1).val, (y 1).isLt⟩ ⟨(y 0).val, (y 0).isLt⟩) : Elt Ideal .f32)) (kernelRun0_A.sl.HS1_1 (F := Ideal) c arg13 harg13 x11) := by
    unfold kernelRun0_A.sl.HS1_1
    refine ⟨fun (x : S128x2048.Idx) => ?_, trivial⟩
    obtain ⟨r, d, rfl⟩ := pair2 x
    refine (keep4 _ r d).trans ((congrFun (ld3w arg13 harg13 x11 _) _).trans ?_)
    exact (congrArg (fun y : S128x2048.Idx => (x11 (ix3 0 ⟨(y 1).val, (y 1).isLt⟩ ⟨(y 0).val, (y 0).isLt⟩) : Elt Ideal .f32))
      (emb2 0 0 inb_S128x2048_S128x2048_0_0 r d r d (Nat.zero_add _).symm (Nat.zero_add _).symm)).symm
  have h := View.canon_append_of_piecesOf _ [] _ hp (ix2 n j)
  rw [List.append_nil] at h
  refine (h ?_).trans rfl
  unfold kernelRun0_A.sl.HS1_1
  exact ⟨_, List.mem_cons_self, mem2 0 0 inb_S128x2048_S128x2048_0_0 n j (Nat.zero_le _) (by omega) (Nat.zero_le _) (by omega)⟩

/-- A group's store makes its columns new. -/
theorem upto_step (L : List (View.Piece (Elt Ideal) S128x2048 .f32)) (g o p : Nat) (hg : g < 8) (ho : o = 256 * g) (hp : p = 128 * g)
    (ib : ∀ x, (![0, p] : Fin 2 → Nat) x + (![128, 128] : Fin 2 → Nat) x ≤ S128x1024.size x)
    (is : ∀ x, (![0, o] : Fin 2 → Nat) x + (![128, 256] : Fin 2 → Nat) x ≤ S128x2048.size x)
    (h1 : S128x2048.Slices ![0, o] S128x256) (h2 : S128x256.Slices ![127, 0] S1x256)
    (hL : Upto x1 x2 x4 x5 x10 x11 A D L o) :
    Upto x1 x2 x4 x5 x10 x11 A D ((⟨Rect.unit (s := S128x2048) ![0, o] S128x256.size is,
      k0_pay65 (F := Ideal) (arg21.view.readCov (kernelRun0_A.sl.HS3_2 (F := Ideal) c arg3 harg3 arg4 harg4 arg6 harg6 arg7 harg7 arg12 harg12 arg18 x1 x2 x4 x5 x10) (Rect.unit (s := S128x1024) ![0, p] S128x128.size ib).toLoadRect)
        (extractStridedSlice S128x256 ![0, o] A h1)
        (mulf (arg20.view.readCov (kernelRun0_A.sl.HS2_4 (F := Ideal) c arg3 harg3 arg4 harg4 arg6 harg6 arg7 harg7 arg12 harg12 arg18 x1 x2 x4 x5 x10) (Rect.unit (s := S128x2048) ![0, o] S128x256.size is).toLoadRect)
          (extractStridedSlice S128x256 ![0, o] D h1))
        (extractStridedSlice S1x256 ![127, 0] (extractStridedSlice S128x256 ![0, o] A h1) h2)
        (arg19.view.readCov L (Rect.unit (s := S128x2048) ![0, o] S128x256.size is).toLoadRect)⟩ : View.Piece (Elt Ideal) S128x2048 .f32) :: L) (o + 256) := by
  have hpc : ∀ x : S128x256.Idx, k0_pay65 (F := Ideal) (arg21.view.readCov (kernelRun0_A.sl.HS3_2 (F := Ideal) c arg3 harg3 arg4 harg4 arg6 harg6 arg7 harg7 arg12 harg12 arg18 x1 x2 x4 x5 x10) (Rect.unit (s := S128x1024) ![0, p] S128x128.size ib).toLoadRect)
        (extractStridedSlice S128x256 ![0, o] A h1)
        (mulf (arg20.view.readCov (kernelRun0_A.sl.HS2_4 (F := Ideal) c arg3 harg3 arg4 harg4 arg6 harg6 arg7 harg7 arg12 harg12 arg18 x1 x2 x4 x5 x10) (Rect.unit (s := S128x2048) ![0, o] S128x256.size is).toLoadRect)
          (extractStridedSlice S128x256 ![0, o] D h1))
        (extractStridedSlice S1x256 ![127, 0] (extractStridedSlice S128x256 ![0, o] A h1) h2)
        (arg19.view.readCov L (Rect.unit (s := S128x2048) ![0, o] S128x256.size is).toLoadRect) x
      = (fun y : S128x2048.Idx => (stv x1 x2 x4 x5 x10 x11 A D ⟨(y 0).val, (y 0).isLt⟩ ⟨(y 1).val, (y 1).isLt⟩ : Elt Ideal .f32))
          ((Rect.unit (s := S128x2048) ![0, o] S128x256.size is).emb x) := by
    intro x
    obtain ⟨n, j, rfl⟩ := pair2 x
    have ej : o + j.val < 2048 := by omega
    refine Eq.trans ?_ (congrArg (fun y : S128x2048.Idx => (stv x1 x2 x4 x5 x10 x11 A D ⟨(y 0).val, (y 0).isLt⟩ ⟨(y 1).val, (y 1).isLt⟩ : Elt Ideal .f32))
      (emb2 0 o is n j n ⟨o + j.val, ej⟩ (Nat.zero_add _).symm rfl)).symm
    refine (grp_at _ _ _ _ _ n j).trans ?_
    show _ = stv x1 x2 x4 x5 x10 x11 A D n ⟨o + j.val, ej⟩
    unfold stv
    have el : extractStridedSlice S1x256 ![127, 0] (extractStridedSlice S128x256 ![0, o] A h1) h2 (ix2 0 j) = A (ix2 127 ⟨o + j.val, ej⟩) :=
      (last_at _ h2 j).trans (cut_at o A h1 127 j ⟨o + j.val, ej⟩ rfl)
    refine congrArg₂ (· + ·) (congrArg₂ (· * ·) ?_ (congrArg Ideal.exp el)) (Finset.sum_congr rfl fun l _ => congrArg₂ (· * ·) ?_ (congrArg₂ (· * ·) ?_ (congrArg Ideal.exp ?_)))
    · exact (rc2 arg19 L 0 o is n j n ⟨o + j.val, ej⟩ (Nat.zero_add _).symm rfl).trans (hL.2 n ⟨o + j.val, ej⟩ (Nat.le_add_right _ _))
    · refine (rc2 arg21 _ 0 p ib l n l ⟨p + n.val, by omega⟩ (Nat.zero_add _).symm rfl).trans ((bs_at c arg3 harg3 arg4 harg4 arg6 harg6 arg7 harg7 arg12 harg12 arg18 x1 x2 x4 x5 x10 l _).trans ?_)
      refine congrArg (act x1 x2 x4 x5 x10 l) (Fin.ext ?_)
      show 2048 + (p + n.val) = 2048 + ((o + j.val) / 256 * 128 + n.val)
      omega
    · exact congrArg₂ (· * ·) ((rc2 arg20 _ 0 o is l j l ⟨o + j.val, ej⟩ (Nat.zero_add _).symm rfl).trans (xs_at c arg3 harg3 arg4 harg4 arg6 harg6 arg7 harg7 arg12 harg12 arg18 x1 x2 x4 x5 x10 l _))
        (cut_at o D h1 l j ⟨o + j.val, ej⟩ rfl)
    · exact congrArg₂ (· - ·) el (cut_at o A h1 l j ⟨o + j.val, ej⟩ rfl)
  refine ⟨fun n j hj => ?_, fun n j hj => ?_⟩
  · by_cases hj' : j.val < o
    · refine (View.canon_cons_of_not_mem _ L ?_).trans (hL.1 n j hj')
      intro hm
      exact Nat.not_le_of_lt hj' ((Rect.mem_set_unit (inb := is)).1 hm 1).1
    · exact (cons_hit (fun y : S128x2048.Idx => (stv x1 x2 x4 x5 x10 x11 A D ⟨(y 0).val, (y 0).isLt⟩ ⟨(y 1).val, (y 1).isLt⟩ : Elt Ideal .f32)) L o is _ hpc (ix2 n j) (mem2 0 o is n j (Nat.zero_le _) (by omega) (by omega) (by omega))).trans rfl
  · refine (View.canon_cons_of_not_mem _ L ?_).trans (hL.2 n j (by omega))
    intro hm
    exact Nat.not_lt_of_le hj ((Rect.mem_set_unit (inb := is)).1 hm 1).2

end Scan

section Left

variable (c : Dev nD) (i : grid0.Coords) (arg3 : Memref sig .tc .vmem S128x2048 .f32) (harg3 : arg3.IsWhole) (arg4 : Memref sig .tc .vmem S128x2048 .f32) (harg4 : arg4.IsWhole)
  (arg5 : Memref sig .tc .vmem S128x128 .f32) (harg5 : arg5.IsWhole)
  (arg6 : Memref sig .tc .vmem S4x4096 .f32) (harg6 : arg6.IsWhole) (arg7 : Memref sig .tc .vmem S1x4096 .f32) (harg7 : arg7.IsWhole)
  (arg8 : Memref sig .tc .vmem S1x128 .f32) (harg8 : arg8.IsWhole) (arg9 : Memref sig .tc .vmem S1x128 .f32) (harg9 : arg9.IsWhole)
  (arg12 : Memref sig .tc .vmem S1x8x4096 .f32) (harg12 : arg12.IsWhole) (arg13 : Memref sig .tc .vmem S1x2048x128 .f32) (harg13 : arg13.IsWhole)
  (arg14 : Memref sig .tc .vmem S128x128 .bf16) (harg14 : arg14.IsWhole) (arg15 : Memref sig .tc .vmem S128x2048 .bf16) (harg15 : arg15.IsWhole)
  (arg18 : Memref sig .tc .vmem S136x4096 .f32)
  (arg19 : Memref sig .tc .vmem S128x2048 .f32) (arg20 : Memref sig .tc .vmem S128x2048 .f32) (arg21 : Memref sig .tc .vmem S128x1024 .f32)
  (x1 x2 : Vec Ideal S128x2048 .f32) (x3 : Vec Ideal S128x128 .f32) (x4 : Vec Ideal S4x4096 .f32) (x5 : Vec Ideal S1x4096 .f32) (x6 x7 : Vec Ideal S1x128 .f32)
  (x10 : Vec Ideal S1x8x4096 .f32) (x11 : Vec Ideal S1x2048x128 .f32) (x12 : Vec Ideal S128x128 .bf16) (x13 : Vec Ideal S128x2048 .bf16)

set_option maxHeartbeats 2000000 in
/-- The state buffer after the first group. -/
theorem upto_1 : Upto x1 x2 x4 x5 x10 x11 (kernelRun0_A.sl.r_21 (F := Ideal) c i arg5 harg5 arg8 harg8 arg9 harg9 arg14 harg14 arg15 harg15 x3 x6 x7 x12 x13)
    (kernelRun0_A.sl.r_22 (F := Ideal) c i arg5 harg5 arg8 harg8 arg9 harg9 arg14 harg14 arg15 harg15 x3 x6 x7 x12 x13)
    (kernelRun0_A.sl.HS1_2 (F := Ideal) c i arg3 harg3 arg4 harg4 arg5 harg5 arg6 harg6 arg7 harg7 arg8 harg8 arg9 harg9 arg12 harg12 arg13 harg13 arg14 harg14 arg15 harg15 arg18 arg19 arg20 arg21 x1 x2 x3 x4 x5 x6 x7 x10 x11 x12 x13) 256 := by
  unfold kernelRun0_A.sl.HS1_2
  exact upto_step c arg3 harg3 arg4 harg4 arg6 harg6 arg7 harg7 arg12 harg12 arg18 arg19 arg20 arg21 x1 x2 x4 x5 x10 x11
    (kernelRun0_A.sl.r_21 (F := Ideal) c i arg5 harg5 arg8 harg8 arg9 harg9 arg14 harg14 arg15 harg15 x3 x6 x7 x12 x13)
    (kernelRun0_A.sl.r_22 (F := Ideal) c i arg5 harg5 arg8 harg8 arg9 harg9 arg14 harg14 arg15 harg15 x3 x6 x7 x12 x13) _ 0 0 0 (by omega) rfl rfl
    inb_S128x1024_S128x128_0_0 inb_S128x2048_S128x256_0_0 slices_S128x2048_o0_0_S128x256 slices_S128x256_o127_0_S1x256
    (upto_start c arg13 harg13 x1 x2 x4 x5 x10 x11 _ _)

set_option maxHeartbeats 2000000 in
/-- The state buffer after the second group. -/
theorem upto_2 : Upto x1 x2 x4 x5 x10 x11 (kernelRun0_A.sl.r_21 (F := Ideal) c i arg5 harg5 arg8 harg8 arg9 harg9 arg14 harg14 arg15 harg15 x3 x6 x7 x12 x13)
    (kernelRun0_A.sl.r_22 (F := Ideal) c i arg5 harg5 arg8 harg8 arg9 harg9 arg14 harg14 arg15 harg15 x3 x6 x7 x12 x13)
    (kernelRun0_A.sl.HS1_3 (F := Ideal) c i arg3 harg3 arg4 harg4 arg5 harg5 arg6 harg6 arg7 harg7 arg8 harg8 arg9 harg9 arg12 harg12 arg13 harg13 arg14 harg14 arg15 harg15 arg18 arg19 arg20 arg21 x1 x2 x3 x4 x5 x6 x7 x10 x11 x12 x13) 512 := by
  unfold kernelRun0_A.sl.HS1_3
  exact upto_step c arg3 harg3 arg4 harg4 arg6 harg6 arg7 harg7 arg12 harg12 arg18 arg19 arg20 arg21 x1 x2 x4 x5 x10 x11
    (kernelRun0_A.sl.r_21 (F := Ideal) c i arg5 harg5 arg8 harg8 arg9 harg9 arg14 harg14 arg15 harg15 x3 x6 x7 x12 x13)
    (kernelRun0_A.sl.r_22 (F := Ideal) c i arg5 harg5 arg8 harg8 arg9 harg9 arg14 harg14 arg15 harg15 x3 x6 x7 x12 x13) _ 1 256 128 (by omega) rfl rfl
    inb_S128x1024_S128x128_0_128 inb_S128x2048_S128x256_0_256 slices_S128x2048_o0_256_S128x256 slices_S128x256_o127_0_S1x256
    (upto_1 c i arg3 harg3 arg4 harg4 arg5 harg5 arg6 harg6 arg7 harg7 arg8 harg8 arg9 harg9 arg12 harg12 arg13 harg13 arg14 harg14 arg15 harg15 arg18 arg19 arg20 arg21 x1 x2 x3 x4 x5 x6 x7 x10 x11 x12 x13)

set_option maxHeartbeats 2000000 in
/-- The state buffer after the third group. -/
theorem upto_3 : Upto x1 x2 x4 x5 x10 x11 (kernelRun0_A.sl.r_21 (F := Ideal) c i arg5 harg5 arg8 harg8 arg9 harg9 arg14 harg14 arg15 harg15 x3 x6 x7 x12 x13)
    (kernelRun0_A.sl.r_22 (F := Ideal) c i arg5 harg5 arg8 harg8 arg9 harg9 arg14 harg14 arg15 harg15 x3 x6 x7 x12 x13)
    (kernelRun0_A.sl.HS1_4 (F := Ideal) c i arg3 harg3 arg4 harg4 arg5 harg5 arg6 harg6 arg7 harg7 arg8 harg8 arg9 harg9 arg12 harg12 arg13 harg13 arg14 harg14 arg15 harg15 arg18 arg19 arg20 arg21 x1 x2 x3 x4 x5 x6 x7 x10 x11 x12 x13) 768 := by
  unfold kernelRun0_A.sl.HS1_4
  exact upto_step c arg3 harg3 arg4 harg4 arg6 harg6 arg7 harg7 arg12 harg12 arg18 arg19 arg20 arg21 x1 x2 x4 x5 x10 x11
    (kernelRun0_A.sl.r_21 (F := Ideal) c i arg5 harg5 arg8 harg8 arg9 harg9 arg14 harg14 arg15 harg15 x3 x6 x7 x12 x13)
    (kernelRun0_A.sl.r_22 (F := Ideal) c i arg5 harg5 arg8 harg8 arg9 harg9 arg14 harg14 arg15 harg15 x3 x6 x7 x12 x13) _ 2 512 256 (by omega) rfl rfl
    inb_S128x1024_S128x128_0_256 inb_S128x2048_S128x256_0_512 slices_S128x2048_o0_512_S128x256 slices_S128x256_o127_0_S1x256
    (upto_2 c i arg3 harg3 arg4 harg4 arg5 harg5 arg6 harg6 arg7 harg7 arg8 harg8 arg9 harg9 arg12 harg12 arg13 harg13 arg14 harg14 arg15 harg15 arg18 arg19 arg20 arg21 x1 x2 x3 x4 x5 x6 x7 x10 x11 x12 x13)

set_option maxHeartbeats 2000000 in
/-- The state buffer after the fourth group. -/
theorem upto_4 : Upto x1 x2 x4 x5 x10 x11 (kernelRun0_A.sl.r_21 (F := Ideal) c i arg5 harg5 arg8 harg8 arg9 harg9 arg14 harg14 arg15 harg15 x3 x6 x7 x12 x13)
    (kernelRun0_A.sl.r_22 (F := Ideal) c i arg5 harg5 arg8 harg8 arg9 harg9 arg14 harg14 arg15 harg15 x3 x6 x7 x12 x13)
    (kernelRun0_A.sl.HS1_5 (F := Ideal) c i arg3 harg3 arg4 harg4 arg5 harg5 arg6 harg6 arg7 harg7 arg8 harg8 arg9 harg9 arg12 harg12 arg13 harg13 arg14 harg14 arg15 harg15 arg18 arg19 arg20 arg21 x1 x2 x3 x4 x5 x6 x7 x10 x11 x12 x13) 1024 := by
  unfold kernelRun0_A.sl.HS1_5
  exact upto_step c arg3 harg3 arg4 harg4 arg6 harg6 arg7 harg7 arg12 harg12 arg18 arg19 arg20 arg21 x1 x2 x4 x5 x10 x11
    (kernelRun0_A.sl.r_21 (F := Ideal) c i arg5 harg5 arg8 harg8 arg9 harg9 arg14 harg14 arg15 harg15 x3 x6 x7 x12 x13)
    (kernelRun0_A.sl.r_22 (F := Ideal) c i arg5 harg5 arg8 harg8 arg9 harg9 arg14 harg14 arg15 harg15 x3 x6 x7 x12 x13) _ 3 768 384 (by omega) rfl rfl
    inb_S128x1024_S128x128_0_384 inb_S128x2048_S128x256_0_768 slices_S128x2048_o0_768_S128x256 slices_S128x256_o127_0_S1x256
    (upto_3 c i arg3 harg3 arg4 harg4 arg5 harg5 arg6 harg6 arg7 harg7 arg8 harg8 arg9 harg9 arg12 harg12 arg13 harg13 arg14 harg14 arg15 harg15 arg18 arg19 arg20 arg21 x1 x2 x3 x4 x5 x6 x7 x10 x11 x12 x13)

set_option maxHeartbeats 2000000 in
/-- The state buffer after the fifth group. -/
theorem upto_5 : Upto x1 x2 x4 x5 x10 x11 (kernelRun0_A.sl.r_21 (F := Ideal) c i arg5 harg5 arg8 harg8 arg9 harg9 arg14 harg14 arg15 harg15 x3 x6 x7 x12 x13)
    (kernelRun0_A.sl.r_22 (F := Ideal) c i arg5 harg5 arg8 harg8 arg9 harg9 arg14 harg14 arg15 harg15 x3 x6 x7 x12 x13)
    (kernelRun0_A.sl.HS1_6 (F := Ideal) c i arg3 harg3 arg4 harg4 arg5 harg5 arg6 harg6 arg7 harg7 arg8 harg8 arg9 harg9 arg12 harg12 arg13 harg13 arg14 harg14 arg15 harg15 arg18 arg19 arg20 arg21 x1 x2 x3 x4 x5 x6 x7 x10 x11 x12 x13) 1280 := by
  unfold kernelRun0_A.sl.HS1_6
  exact upto_step c arg3 harg3 arg4 harg4 arg6 harg6 arg7 harg7 arg12 harg12 arg18 arg19 arg20 arg21 x1 x2 x4 x5 x10 x11
    (kernelRun0_A.sl.r_21 (F := Ideal) c i arg5 harg5 arg8 harg8 arg9 harg9 arg14 harg14 arg15 harg15 x3 x6 x7 x12 x13)
    (kernelRun0_A.sl.r_22 (F := Ideal) c i arg5 harg5 arg8 harg8 arg9 harg9 arg14 harg14 arg15 harg15 x3 x6 x7 x12 x13) _ 4 1024 512 (by omega) rfl rfl
    inb_S128x1024_S128x128_0_512 inb_S128x2048_S128x256_0_1024 slices_S128x2048_o0_1024_S128x256 slices_S128x256_o127_0_S1x256
    (upto_4 c i arg3 harg3 arg4 harg4 arg5 harg5 arg6 harg6 arg7 harg7 arg8 harg8 arg9 harg9 arg12 harg12 arg13 harg13 arg14 harg14 arg15 harg15 arg18 arg19 arg20 arg21 x1 x2 x3 x4 x5 x6 x7 x10 x11 x12 x13)

set_option maxHeartbeats 2000000 in
/-- The state buffer after the sixth group. -/
theorem upto_6 : Upto x1 x2 x4 x5 x10 x11 (kernelRun0_A.sl.r_21 (F := Ideal) c i arg5 harg5 arg8 harg8 arg9 harg9 arg14 harg14 arg15 harg15 x3 x6 x7 x12 x13)
    (kernelRun0_A.sl.r_22 (F := Ideal) c i arg5 harg5 arg8 harg8 arg9 harg9 arg14 harg14 arg15 harg15 x3 x6 x7 x12 x13)
    (kernelRun0_A.sl.HS1_7 (F := Ideal) c i arg3 harg3 arg4 harg4 arg5 harg5 arg6 harg6 arg7 harg7 arg8 harg8 arg9 harg9 arg12 harg12 arg13 harg13 arg14 harg14 arg15 harg15 arg18 arg19 arg20 arg21 x1 x2 x3 x4 x5 x6 x7 x10 x11 x12 x13) 1536 := by
  unfold kernelRun0_A.sl.HS1_7
  exact upto_step c arg3 harg3 arg4 harg4 arg6 harg6 arg7 harg7 arg12 harg12 arg18 arg19 arg20 arg21 x1 x2 x4 x5 x10 x11
    (kernelRun0_A.sl.r_21 (F := Ideal) c i arg5 harg5 arg8 harg8 arg9 harg9 arg14 harg14 arg15 harg15 x3 x6 x7 x12 x13)
    (kernelRun0_A.sl.r_22 (F := Ideal) c i arg5 harg5 arg8 harg8 arg9 harg9 arg14 harg14 arg15 harg15 x3 x6 x7 x12 x13) _ 5 1280 640 (by omega) rfl rfl
    inb_S128x1024_S128x128_0_640 inb_S128x2048_S128x256_0_1280 slices_S128x2048_o0_1280_S128x256 slices_S128x256_o127_0_S1x256
    (upto_5 c i arg3 harg3 arg4 harg4 arg5 harg5 arg6 harg6 arg7 harg7 arg8 harg8 arg9 harg9 arg12 harg12 arg13 harg13 arg14 harg14 arg15 harg15 arg18 arg19 arg20 arg21 x1 x2 x3 x4 x5 x6 x7 x10 x11 x12 x13)

set_option maxHeartbeats 2000000 in
/-- The state buffer after the seventh group. -/
theorem upto_7 : Upto x1 x2 x4 x5 x10 x11 (kernelRun0_A.sl.r_21 (F := Ideal) c i arg5 harg5 arg8 harg8 arg9 harg9 arg14 harg14 arg15 harg15 x3 x6 x7 x12 x13)
    (kernelRun0_A.sl.r_22 (F := Ideal) c i arg5 harg5 arg8 harg8 arg9 harg9 arg14 harg14 arg15 harg15 x3 x6 x7 x12 x13)
    (kernelRun0_A.sl.HS1_8 (F := Ideal) c i arg3 harg3 arg4 harg4 arg5 harg5 arg6 harg6 arg7 harg7 arg8 harg8 arg9 harg9 arg12 harg12 arg13 harg13 arg14 harg14 arg15 harg15 arg18 arg19 arg20 arg21 x1 x2 x3 x4 x5 x6 x7 x10 x11 x12 x13) 1792 := by
  unfold kernelRun0_A.sl.HS1_8
  exact upto_step c arg3 harg3 arg4 harg4 arg6 harg6 arg7 harg7 arg12 harg12 arg18 arg19 arg20 arg21 x1 x2 x4 x5 x10 x11
    (kernelRun0_A.sl.r_21 (F := Ideal) c i arg5 harg5 arg8 harg8 arg9 harg9 arg14 harg14 arg15 harg15 x3 x6 x7 x12 x13)
    (kernelRun0_A.sl.r_22 (F := Ideal) c i arg5 harg5 arg8 harg8 arg9 harg9 arg14 harg14 arg15 harg15 x3 x6 x7 x12 x13) _ 6 1536 768 (by omega) rfl rfl
    inb_S128x1024_S128x128_0_768 inb_S128x2048_S128x256_0_1536 slices_S128x2048_o0_1536_S128x256 slices_S128x256_o127_0_S1x256
    (upto_6 c i arg3 harg3 arg4 harg4 arg5 harg5 arg6 harg6 arg7 harg7 arg8 harg8 arg9 harg9 arg12 harg12 arg13 harg13 arg14 harg14 arg15 harg15 arg18 arg19 arg20 arg21 x1 x2 x3 x4 x5 x6 x7 x10 x11 x12 x13)

set_option maxHeartbeats 2000000 in
/-- The state buffer after the eighth group. -/
theorem upto_8 : Upto x1 x2 x4 x5 x10 x11 (kernelRun0_A.sl.r_21 (F := Ideal) c i arg5 harg5 arg8 harg8 arg9 harg9 arg14 harg14 arg15 harg15 x3 x6 x7 x12 x13)
    (kernelRun0_A.sl.r_22 (F := Ideal) c i arg5 harg5 arg8 harg8 arg9 harg9 arg14 harg14 arg15 harg15 x3 x6 x7 x12 x13)
    (kernelRun0_A.sl.HS1_9 (F := Ideal) c i arg3 harg3 arg4 harg4 arg5 harg5 arg6 harg6 arg7 harg7 arg8 harg8 arg9 harg9 arg12 harg12 arg13 harg13 arg14 harg14 arg15 harg15 arg18 arg19 arg20 arg21 x1 x2 x3 x4 x5 x6 x7 x10 x11 x12 x13) 2048 := by
  unfold kernelRun0_A.sl.HS1_9
  exact upto_step c arg3 harg3 arg4 harg4 arg6 harg6 arg7 harg7 arg12 harg12 arg18 arg19 arg20 arg21 x1 x2 x4 x5 x10 x11
    (kernelRun0_A.sl.r_21 (F := Ideal) c i arg5 harg5 arg8 harg8 arg9 harg9 arg14 harg14 arg15 harg15 x3 x6 x7 x12 x13)
    (kernelRun0_A.sl.r_22 (F := Ideal) c i arg5 harg5 arg8 harg8 arg9 harg9 arg14 harg14 arg15 harg15 x3 x6 x7 x12 x13) _ 7 1792 896 (by omega) rfl rfl
    inb_S128x1024_S128x128_0_896 inb_S128x2048_S128x256_0_1792 slices_S128x2048_o0_1792_S128x256 slices_S128x256_o127_0_S1x256
    (upto_7 c i arg3 harg3 arg4 harg4 arg5 harg5 arg6 harg6 arg7 harg7 arg8 harg8 arg9 harg9 arg12 harg12 arg13 harg13 arg14 harg14 arg15 harg15 arg18 arg19 arg20 arg21 x1 x2 x3 x4 x5 x6 x7 x10 x11 x12 x13)

/-- The block left in the state window. -/
theorem sout_at (hv : Vec Ideal S128x2048 .f32) (he : hv = kernelRun0_A.sl.v1309 (F := Ideal) c i arg3 harg3 arg4 harg4 arg5 harg5 arg6 harg6 arg7 harg7 arg8 harg8 arg9 harg9 arg12 harg12 arg13 harg13 arg14 harg14 arg15 harg15 arg18 arg19 arg20 arg21 x1 x2 x3 x4 x5 x6 x7 x10 x11 x12 x13)
    (n : Fin 128) (j : Fin 2048) : k0_pay2 (F := Ideal) hv (ix3 0 j n) = stv x1 x2 x4 x5 x10 x11
      (kernelRun0_A.sl.r_21 (F := Ideal) c i arg5 harg5 arg8 harg8 arg9 harg9 arg14 harg14 arg15 harg15 x3 x6 x7 x12 x13)
      (kernelRun0_A.sl.r_22 (F := Ideal) c i arg5 harg5 arg8 harg8 arg9 harg9 arg14 harg14 arg15 harg15 x3 x6 x7 x12 x13) n j := by
  refine (turn2 hv j n).trans ((congrFun he _).trans ?_)
  refine (rc2 arg19 _ 0 0 inb_S128x2048_S128x2048_0_0 n j n j (Nat.zero_add _).symm (Nat.zero_add _).symm).trans ?_
  exact (upto_8 c i arg3 harg3 arg4 harg4 arg5 harg5 arg6 harg6 arg7 harg7 arg8 harg8 arg9 harg9 arg12 harg12 arg13 harg13 arg14 harg14 arg15 harg15 arg18 arg19 arg20 arg21 x1 x2 x3 x4 x5 x6 x7 x10 x11 x12 x13).1 n j j.isLt

end Left

end Cert.SsdStateIdeal.Body
-- ==== Proof.SsdStateStep.lean ====
/- The step lengths and running decays the mixer's body computes, at an index. -/
module

public import proofs.«01_k».proof.Proof.SsdStateBody

@[expose] public section

set_option maxRecDepth 16384

noncomputable section

open Idealize.ShloMosaic Idealize.ShloMosaic.TcCoe Idealize.SL.Sem
open Idealize.ShloMosaic.Pipeline (Dat)

namespace Cert.SsdStateIdeal.Body

open Cert.SsdStateIdeal Cert.SsdStateIdeal.Gen

/-- The softplus as the body computes it. -/
def sp (d : EReal) : EReal := max d 0 + Ideal.log (1 + Ideal.exp (0 - max d (-d)))

/-- The row test of the step lengths: only the first four rows are of the sample. -/
theorem row_test : ∀ l : Fin 128, IntOp.cmpi CmpIPredicate.slt (Scalar.addi (Scalar.muli 0#32 128#32) (BitVec.ofNat 32 l.val)) 4#32 = if l.val < 4 then 1#1 else 0#1 := by
  decide +kernel

/-- A value in three parts, each the remainder of the one before, times a matrix. -/
def spread (v : Fin 128 → EReal) (w : Fin 128 → EReal) : EReal :=
  (∑ k : Fin 128, v k * w k) + (∑ k : Fin 128, (v k - v k) * w k) + ∑ k : Fin 128, (v k - v k - (v k - v k)) * w k

/-- The step length of a row and a lane: zero below the fourth row. -/
theorem dt_at (r : FVec Ideal S128x128 .f32) (l k : Fin 128) :
    k0_pay30 (F := Ideal) 0#32 r (ix2 l k) = if l.val < 4 then sp (r (ix2 l k)) else 0 := by
  have h : k0_pay30 (F := Ideal) 0#32 r (ix2 l k) = Scalar.select (IntOp.cmpi CmpIPredicate.slt (Scalar.addi (Scalar.muli 0#32 128#32) (BitVec.ofNat 32 l.val)) 4#32) (sp (r (ix2 l k))) 0 := by
    pointwise [k0_pay30, sp]
    rfl
  rw [h, row_test]
  by_cases hl : l.val < 4
  · rw [if_pos hl, if_pos hl]; rfl
  · rw [if_neg hl, if_neg hl]; rfl

/-- The step of a row and a lane before the softplus. -/
theorem raw_at (x3 : Vec Ideal S128x128 .f32) (x6 : Vec Ideal S1x128 .f32) (l k : Fin 128) :
    k0_pay29 (F := Ideal) x3 x6 (ix2 l k) = x3 (ix2 l k) + x6 (ix2 0 k) := by
  pointwise [k0_pay29]

/-- The running sum of the decays of a lane, at a row. -/
theorem acs_at (w : BitVec 32) (r : FVec Ideal S128x128 .f32) (x7 : Vec Ideal S1x128 .f32) (x12 : Vec Ideal S128x128 .bf16) (l k : Fin 128) :
    k0_pay31 (F := Ideal) w r x7 x12 (ix2 l k)
      = spread (fun i => k0_pay30 (F := Ideal) w r (ix2 i k) * (0 - Ideal.exp (x7 (ix2 0 k)))) (fun i => x12 (ix2 l i)) := by
  pointwise [k0_pay31, spread]
  exact congrArg₂ (· + ·) (congrArg₂ (· + ·) (Finset.sum_congr rfl fun _ _ => mul_comm _ _) (Finset.sum_congr rfl fun _ _ => mul_comm _ _))
    (Finset.sum_congr rfl fun _ _ => mul_comm _ _)

/-- The running sums spread over the columns of the heads. -/
theorem run_at (w : BitVec 32) (r : FVec Ideal S128x128 .f32) (x7 : Vec Ideal S1x128 .f32) (x12 : Vec Ideal S128x128 .bf16) (x13 : Vec Ideal S128x2048 .bf16) (l : Fin 128) (j : Fin 2048) :
    k0_pay39 (F := Ideal) (k0_pay33 w r x7 x12) (k0_pay34 x13) (k0_pay36 w r x7 x12 x13) (k0_pay37 w r x7 x12) (ix2 l j)
      = spread (fun k => k0_pay33 (F := Ideal) w r x7 x12 (ix2 ⟨l.val, by omega⟩ k)) (fun k => x13 (ix2 k j)) := by
  pointwise [k0_pay39, k0_pay38, k0_pay37, k0_pay36, k0_pay35, k0_pay34, spread]

/-- The step lengths spread over the columns of the heads. -/
theorem len_at (w : BitVec 32) (r : FVec Ideal S128x128 .f32) (x7 : Vec Ideal S1x128 .f32) (x12 : Vec Ideal S128x128 .bf16) (x13 : Vec Ideal S128x2048 .bf16) (l : Fin 128) (j : Fin 2048) :
    k0_pay40 (F := Ideal) (k0_pay33 w r x7 x12) (k0_pay34 x13) (k0_pay36 w r x7 x12 x13) (k0_pay37 w r x7 x12) (ix2 l j)
      = spread (fun k => k0_pay33 (F := Ideal) w r x7 x12 (ix2 ⟨128 + l.val, by omega⟩ k)) (fun k => x13 (ix2 k j)) := by
  pointwise [k0_pay40, k0_pay38, k0_pay37, k0_pay36, k0_pay35, k0_pay34, spread]

/-- The upper rows of the stacked pair are the running sums. -/
theorem top_at (w : BitVec 32) (r : FVec Ideal S128x128 .f32) (x7 : Vec Ideal S1x128 .f32) (x12 : Vec Ideal S128x128 .bf16) (l k : Fin 128) :
    k0_pay33 (F := Ideal) w r x7 x12 (ix2 ⟨l.val, by omega⟩ k) = k0_pay31 w r x7 x12 (ix2 l k) := by
  pointwise [k0_pay33]

/-- The lower rows of the stacked pair are the step lengths. -/
theorem bot_at (w : BitVec 32) (r : FVec Ideal S128x128 .f32) (x7 : Vec Ideal S1x128 .f32) (x12 : Vec Ideal S128x128 .bf16) (l k : Fin 128) :
    k0_pay33 (F := Ideal) w r x7 x12 (ix2 ⟨128 + l.val, by omega⟩ k) = k0_pay30 w r (ix2 l k) := by
  pointwise [k0_pay33]

/-- A value that is real wherever its weight is not zero, in three parts: the parts after the first are zero. -/
theorem spread_eq (v w : Fin 128 → EReal) (h : ∀ k, w k = 0 ∨ ∃ r : ℝ, v k = (r : EReal)) : spread v w = ∑ k : Fin 128, v k * w k := by
  have h1 : ∀ k, (v k - v k) * w k = 0 := fun k => by
    rcases h k with h | ⟨r, hr⟩
    · rw [h, mul_zero]
    · rw [hr, ← EReal.coe_sub, sub_self, EReal.coe_zero, zero_mul]
  have h2 : ∀ k, (v k - v k - (v k - v k)) * w k = 0 := fun k => by
    rcases h k with h | ⟨r, hr⟩
    · rw [h, mul_zero]
    · rw [hr, ← EReal.coe_sub, sub_self, EReal.coe_zero, sub_zero, zero_mul]
  unfold spread
  rw [Finset.sum_eq_zero (fun k _ => h1 k), Finset.sum_eq_zero (fun k _ => h2 k), add_zero, add_zero]

/-- A sum with a term of minus infinity. -/
theorem sum_bot {n : ℕ} (f : Fin n → EReal) (i : Fin n) (h : f i = ⊥) : ∑ k : Fin n, f k = ⊥ := by
  rw [← Finset.add_sum_erase _ _ (Finset.mem_univ i), h, EReal.bot_add]

/-- The same for weights zero and one and values that are real or minus infinity where the weight is one. -/
theorem spread_low (v w : Fin 128 → EReal) (h : ∀ k, w k = 0 ∨ w k = 1 ∧ ((∃ r : ℝ, v k = (r : EReal)) ∨ v k = ⊥)) : spread v w = ∑ k : Fin 128, v k * w k := by
  by_cases hb : ∃ k, w k = 1 ∧ v k = ⊥
  · obtain ⟨k, h1, h2⟩ := hb
    have e : ∑ k : Fin 128, v k * w k = ⊥ := sum_bot _ k (by rw [h1, h2, mul_one])
    unfold spread
    rw [e, EReal.bot_add, EReal.bot_add]
  · refine spread_eq v w fun k => ?_
    rcases h k with h | ⟨h1, h2 | h2⟩
    · exact Or.inl h
    · exact Or.inr h2
    · exact absurd ⟨k, h1, h2⟩ hb

/-- A sum over the rows of a block whose rows after the fourth are zero. -/
theorem sum_four (f : Fin 128 → EReal) (h : ∀ l : Fin 128, 4 ≤ l.val → f l = 0) : ∑ l : Fin 128, f l = ∑ l : Fin 4, f ⟨l.val, by omega⟩ := by
  refine (Fin.sum_univ_add (a := 4) (b := 124) f).trans ?_
  rw [Finset.sum_eq_zero (s := Finset.univ) (f := fun i : Fin 124 => f (Fin.natAdd 4 i)) (fun i _ => h _ (Nat.le_add_right 4 i.val)), add_zero]
  rfl

/-- The softplus of a real number is real and not negative. -/
theorem sp_real (r : ℝ) : ∃ s : ℝ, 0 ≤ s ∧ sp (r : EReal) = (s : EReal) := by
  have hpos : ¬ (1 + Real.exp (0 - max r (-r)) ≤ 0) := not_le.2 (by positivity)
  refine ⟨max r 0 + Real.log (1 + Real.exp (0 - max r (-r))), add_nonneg (le_max_right _ _) (Real.log_nonneg (le_add_of_nonneg_right (Real.exp_pos _).le)), ?_⟩
  have hm : ∀ a b : ℝ, max (a : EReal) (b : EReal) = ((max a b : ℝ) : EReal) := fun a b => (EReal.coe_strictMono.monotone.map_max).symm
  unfold sp
  rw [← EReal.coe_neg, ← EReal.coe_zero, hm, hm, ← EReal.coe_sub, Ideal.exp_coe, ← EReal.coe_one, ← EReal.coe_add, Ideal.log_coe, if_neg hpos, ← EReal.coe_add]

/-- The word of one half. -/
theorem half_eq : Ideal.ofBits FTy.f32 0x3F000000#32 = ((1 / 2 : ℝ) : EReal) := by
  simp [Ideal.ofBits, Ideal.ieee, -EReal.coe_mul]; norm_num

/-- Half a hyperbolic tangent of half a number, plus a half, is the logistic function. -/
theorem half_tanh (a : EReal) :
    Ideal.ofBits FTy.f32 0x3F000000#32 * Ideal.tanh (Ideal.ofBits FTy.f32 0x3F000000#32 * a) + Ideal.ofBits FTy.f32 0x3F000000#32
      = Ideal.div 1 (1 + Ideal.exp (-a)) := by
  rw [half_eq]
  refine Eq.trans ?_ (show Ideal.logistic a = _ from rfl)
  induction a using EReal.rec with
  | bot =>
    rw [EReal.coe_mul_bot_of_pos (by norm_num), Ideal.tanh_bot, Ideal.logistic_bot, ← EReal.coe_one, ← EReal.coe_neg, ← EReal.coe_mul, ← EReal.coe_add, ← EReal.coe_zero]
    norm_num
  | top =>
    rw [EReal.coe_mul_top_of_pos (by norm_num), Ideal.tanh_top, Ideal.logistic_top, ← EReal.coe_one, ← EReal.coe_mul, ← EReal.coe_add]
    norm_num
  | coe r =>
    rw [← EReal.coe_mul, Ideal.tanh_coe, Ideal.logistic_coe, ← EReal.coe_mul, ← EReal.coe_add]
    refine congrArg _ ?_
    have e : Real.exp (-r) = Real.exp (-(1 / 2 * r)) * Real.exp (-(1 / 2 * r)) := by rw [← Real.exp_add]; congr 1; ring
    have e2 : Real.exp (1 / 2 * r) * Real.exp (-(1 / 2 * r)) = 1 := by rw [← Real.exp_add, add_neg_cancel, Real.exp_zero]
    have p1 := Real.exp_pos (1 / 2 * r)
    have p2 := Real.exp_pos (-(1 / 2 * r))
    rw [Real.tanh_eq_sinh_div_cosh, Real.sinh_eq, Real.cosh_eq, e]
    clear e
    generalize Real.exp (1 / 2 * r) = u at e2 p1 ⊢
    generalize Real.exp (-(1 / 2 * r)) = v at e2 p2 ⊢
    have h1 : u + v ≠ 0 := by positivity
    have h2 : 1 + v * v ≠ 0 := by positivity
    field_simp
    linear_combination 2 * v * e2

end Cert.SsdStateIdeal.Body
-- ==== Proof.SsdStateRead.lean ====
/- The state space mixer's reference, read at an index. -/
module

public import proofs.«01_k».proof.Proof.SsdStateStep
public import proofs.«01_k».proof.Proof.Gen.SsdStateRefIdeal.Run

@[expose] public section

set_option maxRecDepth 16384

noncomputable section

open Idealize.ShloMosaic Idealize.ShloMosaic.TcCoe Idealize.SL.Sem

namespace Cert.SsdStateRefIdeal.Read

open Cert.SsdStateRefIdeal Cert.SsdStateRefIdeal.Gen

/-- The steps before the softplus. -/
def rawO (a0 : FVec Ideal S128x6400 .f32) (a5 : FVec Ideal S32 .f32) : FVec Ideal S32x4x32 .f32 :=
  (addf (extractStridedSlice S32x4x32 ![0, 0, 6144] (shapeCast _ a0 shapeCasts_S128x6400_S32x4x6400) slices_S32x4x6400_S32x4x32_0_0_6144) (broadcastInDim S32x4x32 ![0, 1, 2] bcast_S1x1x32_S32x4x32_0_1_2 (broadcastInDim S1x1x32 ![2] bcast_S32_S1x1x32_2 a5)))

/-- The step lengths. -/
def dtO (a0 : FVec Ideal S128x6400 .f32) (a5 : FVec Ideal S32 .f32) : FVec Ideal S32x4x32 .f32 :=
  (select (cmpf .une (subf (rawO a0 a5) (broadcastInDim S32x4x32 ![] bcast_S_S32x4x32 (constant S_ .f32 0x00000000#32))) (subf (rawO a0 a5) (broadcastInDim S32x4x32 ![] bcast_S_S32x4x32 (constant S_ .f32 0x00000000#32)))) (addf (rawO a0 a5) (broadcastInDim S32x4x32 ![] bcast_S_S32x4x32 (constant S_ .f32 0x00000000#32))) (addf (maximumf (rawO a0 a5) (broadcastInDim S32x4x32 ![] bcast_S_S32x4x32 (constant S_ .f32 0x00000000#32))) (Host.log1p (Host.exp (Host.negf (Host.absf (subf (rawO a0 a5) (broadcastInDim S32x4x32 ![] bcast_S_S32x4x32 (constant S_ .f32 0x00000000#32)))))))))

/-- The step lengths times the decay rates. -/
def daO (a0 : FVec Ideal S128x6400 .f32) (a5 : FVec Ideal S32 .f32) (a6 : FVec Ideal S32 .f32) : FVec Ideal S32x4x32 .f32 :=
  (mulf (dtO a0 a5) (broadcastInDim S32x4x32 ![0, 1, 2] bcast_S1x1x32_S32x4x32_0_1_2 (broadcastInDim S1x1x32 ![2] bcast_S32_S1x1x32_2 (Host.negf (Host.exp a6)))))

/-- The sums of those over the steps up to each. -/
def acsO (a0 : FVec Ideal S128x6400 .f32) (a5 : FVec Ideal S32 .f32) (a6 : FVec Ideal S32 .f32) : FVec Ideal S32x4x32 .f32 :=
  ((concatenate S32x4x32 1 [⟨S32x1x32, ((broadcastInDim S32x1x32 ![0, 2] bcast_S32x32_S32x1x32_0_2 (Host.reduceAdd (extractStridedSlice S32x1x32 ![0, 0, 0] (daO a0 a5 a6) slices_S32x4x32_S32x1x32_0_0_0) (constant S_ .f32 0x00000000#32) reducesTo_S32x1x32_S32x32_d1 h_S_)) : (⟨S32x1x32, .f32⟩ : BufTy).Contents (Elt Ideal))⟩, ⟨S32x1x32, ((broadcastInDim S32x1x32 ![0, 2] bcast_S32x32_S32x1x32_0_2 (Host.reduceAdd (extractStridedSlice S32x2x32 ![0, 0, 0] (daO a0 a5 a6) slices_S32x4x32_S32x2x32_0_0_0) (constant S_ .f32 0x00000000#32) reducesTo_S32x2x32_S32x32_d1 h_S_)) : (⟨S32x1x32, .f32⟩ : BufTy).Contents (Elt Ideal))⟩, ⟨S32x1x32, ((broadcastInDim S32x1x32 ![0, 2] bcast_S32x32_S32x1x32_0_2 (Host.reduceAdd (extractStridedSlice S32x3x32 ![0, 0, 0] (daO a0 a5 a6) slices_S32x4x32_S32x3x32_0_0_0) (constant S_ .f32 0x00000000#32) reducesTo_S32x3x32_S32x32_d1 h_S_)) : (⟨S32x1x32, .f32⟩ : BufTy).Contents (Elt Ideal))⟩, ⟨S32x1x32, ((broadcastInDim S32x1x32 ![0, 2] bcast_S32x32_S32x1x32_0_2 (Host.reduceAdd (daO a0 a5 a6) (constant S_ .f32 0x00000000#32) reducesTo_S32x4x32_S32x32_d1 h_S_)) : (⟨S32x1x32, .f32⟩ : BufTy).Contents (Elt Ideal))⟩] concatenates_S32x1x32_S32x1x32_S32x1x32_S32x1x32_S32x4x32_d1 : (⟨S32x4x32, .f32⟩ : BufTy).Contents (Elt Ideal)))

/-- The carried rows with the steps' rows after them. -/
def catO (a0 : FVec Ideal S128x6400 .f32) (a1 : FVec Ideal S32x3x4096 .f32) : FVec Ideal S32x7x4096 .f32 :=
  (concatenate S32x7x4096 1 [⟨S32x3x4096, a1⟩, ⟨S32x4x4096, (extractStridedSlice S32x4x4096 ![0, 0, 2048] (shapeCast _ a0 shapeCasts_S128x6400_S32x4x6400) slices_S32x4x6400_S32x4x4096_0_0_2048)⟩] concatenates_S32x3x4096_S32x4x4096_S32x7x4096_d1)

/-- The convolution. -/
def convO (a0 : FVec Ideal S128x6400 .f32) (a1 : FVec Ideal S32x3x4096 .f32) (a3 : FVec Ideal S4096x4 .f32) (a4 : FVec Ideal S4096 .f32) : FVec Ideal S32x4x4096 .f32 :=
  (addf (broadcastInDim S32x4x4096 ![0, 1, 2] bcast_S1x1x4096_S32x4x4096_0_1_2 (broadcastInDim S1x1x4096 ![2] bcast_S4096_S1x1x4096_2 a4)) (addf (addf (addf (addf (broadcastInDim S32x4x4096 ![] bcast_S_S32x4x4096 (constant S_ .f32 0x00000000#32)) (mulf (extractStridedSlice S32x4x4096 ![0, 0, 0] (catO a0 a1) slices_S32x7x4096_S32x4x4096_0_0_0) (broadcastInDim S32x4x4096 ![0, 1, 2] bcast_S1x1x4096_S32x4x4096_0_1_2 (broadcastInDim S1x1x4096 ![2] bcast_S4096_S1x1x4096_2 (shapeCast _ (extractStridedSlice S4096x1 ![0, 0] a3 slices_S4096x4_S4096x1_0_0) shapeCasts_S4096x1_S4096))))) (mulf (extractStridedSlice S32x4x4096 ![0, 1, 0] (catO a0 a1) slices_S32x7x4096_S32x4x4096_0_1_0) (broadcastInDim S32x4x4096 ![0, 1, 2] bcast_S1x1x4096_S32x4x4096_0_1_2 (broadcastInDim S1x1x4096 ![2] bcast_S4096_S1x1x4096_2 (shapeCast _ (extractStridedSlice S4096x1 ![0, 1] a3 slices_S4096x4_S4096x1_0_1) shapeCasts_S4096x1_S4096))))) (mulf (extractStridedSlice S32x4x4096 ![0, 2, 0] (catO a0 a1) slices_S32x7x4096_S32x4x4096_0_2_0) (broadcastInDim S32x4x4096 ![0, 1, 2] bcast_S1x1x4096_S32x4x4096_0_1_2 (broadcastInDim S1x1x4096 ![2] bcast_S4096_S1x1x4096_2 (shapeCast _ (extractStridedSlice S4096x1 ![0, 2] a3 slices_S4096x4_S4096x1_0_2) shapeCasts_S4096x1_S4096))))) (mulf (extractStridedSlice S32x4x4096 ![0, 3, 0] (catO a0 a1) slices_S32x7x4096_S32x4x4096_0_3_0) (broadcastInDim S32x4x4096 ![0, 1, 2] bcast_S1x1x4096_S32x4x4096_0_1_2 (broadcastInDim S1x1x4096 ![2] bcast_S4096_S1x1x4096_2 (shapeCast _ (extractStridedSlice S4096x1 ![0, 3] a3 slices_S4096x4_S4096x1_0_3) shapeCasts_S4096x1_S4096))))))

/-- The activated convolution. -/
def actO (a0 : FVec Ideal S128x6400 .f32) (a1 : FVec Ideal S32x3x4096 .f32) (a3 : FVec Ideal S4096x4 .f32) (a4 : FVec Ideal S4096 .f32) : FVec Ideal S32x4x4096 .f32 :=
  (mulf (convO a0 a1 a3 a4) (Host.divf (broadcastInDim S32x4x4096 ![] bcast_S_S32x4x4096 (constant S_ .f32 0x3F800000#32)) (addf (broadcastInDim S32x4x4096 ![] bcast_S_S32x4x4096 (constant S_ .f32 0x3F800000#32)) (Host.exp (Host.negf (convO a0 a1 a3 a4))))))

/-- The state after the four steps. -/
def refO (a0 : FVec Ideal S128x6400 .f32) (a1 : FVec Ideal S32x3x4096 .f32) (a2 : FVec Ideal S32x32x64x128 .f32) (a3 : FVec Ideal S4096x4 .f32) (a4 : FVec Ideal S4096 .f32) (a5 : FVec Ideal S32 .f32) (a6 : FVec Ideal S32 .f32) : FVec Ideal S32x32x64x128 .f32 :=
  addf (mulf (broadcastInDim S32x32x64x128 ![0, 1, 2, 3] bcast_S32x32x1x1_S32x32x64x128_0_1_2_3 (broadcastInDim S32x32x1x1 ![0, 1] bcast_S32x32_S32x32x1x1_0_1 (shapeCast _ (Host.exp (shapeCast _ (extractStridedSlice S32x1x8x4 ![0, 3, 0, 0] (shapeCast _ (acsO a0 a5 a6) shapeCasts_S32x4x32_S32x4x8x4) slices_S32x4x8x4_S32x1x8x4_0_3_0_0) shapeCasts_S32x1x8x4_S32x8x4)) shapeCasts_S32x8x4_S32x32))) a2) (shapeCast _ (Host.dotGeneral dot_S32x4x8x4x64_S32x4x8x128_S32x8x4x64x128_1_1_34_3_02_02 none (mulf (broadcastInDim S32x4x8x4x64 ![0, 1, 2, 3, 4] bcast_S32x4x8x4x1_S32x4x8x4x64_0_1_2_3_4 (broadcastInDim S32x4x8x4x1 ![0, 1, 2, 3] bcast_S32x4x8x4_S32x4x8x4x1_0_1_2_3 (Host.exp (subf (broadcastInDim S32x4x8x4 ![0, 1, 2, 3] bcast_S32x1x8x4_S32x4x8x4_0_1_2_3 (extractStridedSlice S32x1x8x4 ![0, 3, 0, 0] (shapeCast _ (acsO a0 a5 a6) shapeCasts_S32x4x32_S32x4x8x4) slices_S32x4x8x4_S32x1x8x4_0_3_0_0)) (shapeCast _ (acsO a0 a5 a6) shapeCasts_S32x4x32_S32x4x8x4))))) (mulf (shapeCast _ (extractStridedSlice S32x4x2048 ![0, 0, 0] (actO a0 a1 a3 a4) slices_S32x4x4096_S32x4x2048_0_0_0) shapeCasts_S32x4x2048_S32x4x8x4x64) (broadcastInDim S32x4x8x4x64 ![0, 1, 2, 3, 4] bcast_S32x4x8x4x1_S32x4x8x4x64_0_1_2_3_4 (broadcastInDim S32x4x8x4x1 ![0, 1, 2, 3] bcast_S32x4x8x4_S32x4x8x4x1_0_1_2_3 (shapeCast _ (dtO a0 a5) shapeCasts_S32x4x32_S32x4x8x4))))) (shapeCast _ (extractStridedSlice S32x4x1024 ![0, 0, 2048] (actO a0 a1 a3 a4) slices_S32x4x4096_S32x4x1024_0_0_2048) shapeCasts_S32x4x1024_S32x4x8x128)) shapeCasts_S32x8x4x64x128_S32x32x64x128)

/-- The reference's composed term, through its parts. -/
theorem run_eq (m : (ℓ : Loc nD τ sig) → Buf (Elt Ideal) ℓ) (c : Dev nD) :
    Value.res_main_v84 m c = refO (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold Value.res_main_v84; rfl

/-- A row of the seven the convolution runs over. -/
def row (a0 : FVec Ideal S128x6400 .f32) (a1 : FVec Ideal S32x3x4096 .f32) (b : Fin 32) (r : Fin 7) (j : Fin 4096) : EReal :=
  if h : r.val < 3 then a1 (ix3 b ⟨r.val, h⟩ j) else a0 (ix2 ⟨b.val * 4 + (r.val - 3), by omega⟩ ⟨2048 + j.val, by omega⟩)

/-- The concatenated rows at an entry. -/
theorem row_at (a0 : FVec Ideal S128x6400 .f32) (a1 : FVec Ideal S32x3x4096 .f32) (b : Fin 32) (r : Fin 7) (j : Fin 4096) :
    catO a0 a1 (ix3 b r j) = row a0 a1 b r j := by
  pointwise [catO, row]

/-- The step before the softplus at an entry. -/
theorem raw_at (a0 : FVec Ideal S128x6400 .f32) (a5 : FVec Ideal S32 .f32) (b : Fin 32) (l : Fin 4) (h : Fin 32) :
    rawO a0 a5 (ix3 b l h) = a0 (ix2 ⟨b.val * 4 + l.val, by omega⟩ ⟨6144 + h.val, by omega⟩) + a5 (ix1 h) := by
  pointwise [rawO]

/-- The step length at an entry. -/
theorem dt_at (a0 : FVec Ideal S128x6400 .f32) (a5 : FVec Ideal S32 .f32) (b : Fin 32) (l : Fin 4) (h : Fin 32) :
    dtO a0 a5 (ix3 b l h) = Cert.SsdStateIdeal.Body.sp (rawO a0 a5 (ix3 b l h)) := by
  unfold dtO
  generalize rawO a0 a5 = r
  pointwise [Cert.SsdStateIdeal.Body.sp]
  rw [if_neg (not_not.2 rfl), zero_sub]
  rfl

/-- The step length times the decay rate at an entry. -/
theorem da_at (a0 : FVec Ideal S128x6400 .f32) (a5 a6 : FVec Ideal S32 .f32) (b : Fin 32) (l : Fin 4) (h : Fin 32) :
    daO a0 a5 a6 (ix3 b l h) = dtO a0 a5 (ix3 b l h) * (- Ideal.exp (a6 (ix1 h))) := by
  unfold daO
  generalize dtO a0 a5 = r
  pointwise

/-- A sum over the steps up to one. -/
def pre (v : Fin 4 → EReal) (l : Fin 4) : EReal := ∑ i : Fin 4, if i.val ≤ l.val then v i else 0

/-- The sum over the steps up to one, at an entry. -/
theorem acs_at (a0 : FVec Ideal S128x6400 .f32) (a5 a6 : FVec Ideal S32 .f32) (b : Fin 32) (l : Fin 4) (h : Fin 32) :
    acsO a0 a5 a6 (ix3 b l h) = pre (fun i => daO a0 a5 a6 (ix3 b i h)) l := by
  unfold acsO
  generalize daO a0 a5 a6 = r
  fin_cases l
  all_goals
    pointwise [pre]
    simp [Fin.sum_univ_succ]

/-- The convolution at an entry. -/
theorem conv_at (a0 : FVec Ideal S128x6400 .f32) (a1 : FVec Ideal S32x3x4096 .f32) (a3 : FVec Ideal S4096x4 .f32) (a4 : FVec Ideal S4096 .f32) (b : Fin 32) (l : Fin 4) (j : Fin 4096) :
    convO a0 a1 a3 a4 (ix3 b l j) = a4 (ix1 j) + (0 + catO a0 a1 (ix3 b ⟨l.val, by omega⟩ j) * a3 (ix2 j 0) + catO a0 a1 (ix3 b ⟨1 + l.val, by omega⟩ j) * a3 (ix2 j 1)
      + catO a0 a1 (ix3 b ⟨2 + l.val, by omega⟩ j) * a3 (ix2 j 2) + catO a0 a1 (ix3 b ⟨3 + l.val, by omega⟩ j) * a3 (ix2 j 3)) := by
  unfold convO
  generalize catO a0 a1 = r
  pointwise

/-- The activated convolution at an entry. -/
theorem act_at (a0 : FVec Ideal S128x6400 .f32) (a1 : FVec Ideal S32x3x4096 .f32) (a3 : FVec Ideal S4096x4 .f32) (a4 : FVec Ideal S4096 .f32) (b : Fin 32) (l : Fin 4) (j : Fin 4096) :
    actO a0 a1 a3 a4 (ix3 b l j) = convO a0 a1 a3 a4 (ix3 b l j) * Ideal.div 1 (1 + Ideal.exp (- convO a0 a1 a3 a4 (ix3 b l j))) := by
  unfold actO
  generalize convO a0 a1 a3 a4 = r
  pointwise

/-- The reference's state at an entry. -/
theorem ref_at (a0 : FVec Ideal S128x6400 .f32) (a1 : FVec Ideal S32x3x4096 .f32) (a2 : FVec Ideal S32x32x64x128 .f32) (a3 : FVec Ideal S4096x4 .f32) (a4 : FVec Ideal S4096 .f32) (a5 a6 : FVec Ideal S32 .f32)
    (b h : Fin 32) (p : Fin 64) (n : Fin 128) :
    refO a0 a1 a2 a3 a4 a5 a6 (ix4 b h p n) = Ideal.exp (acsO a0 a5 a6 (ix3 b 3 h)) * a2 (ix4 b h p n)
      + ∑ l : Fin 4, (Ideal.exp (acsO a0 a5 a6 (ix3 b 3 h) - acsO a0 a5 a6 (ix3 b l h)) * (actO a0 a1 a3 a4 (ix3 b l ⟨h.val * 64 + p.val, by omega⟩) * dtO a0 a5 (ix3 b l h)))
        * actO a0 a1 a3 a4 (ix3 b l ⟨2048 + (h.val / 4 * 128 + n.val), by omega⟩) := by
  unfold refO
  generalize acsO a0 a5 a6 = r
  generalize actO a0 a1 a3 a4 = s
  generalize dtO a0 a5 = t
  pointwise
  refine congrArg (_ + ·) (Finset.sum_congr rfl fun x _ => ?_)
  have e : (⟨h.val / 4 * 256 + h.val % 4 * 64 + p.val, by omega⟩ : Fin 4096) = ⟨h.val * 64 + p.val, by omega⟩ := Fin.ext (by show h.val / 4 * 256 + h.val % 4 * 64 + p.val = h.val * 64 + p.val; omega)
  exact congrArg (fun j => Ideal.exp (r (ix3 b 3 h) - r (ix3 b x h)) * (s (ix3 b x j) * t (ix3 b x h)) * s (ix3 b x ⟨2048 + (h.val / 4 * 128 + n.val), by omega⟩)) e

end Cert.SsdStateRefIdeal.Read

end
-- ==== Proof.SsdStateSame.lean ====
/- The block the mixer's body leaves and the reference agree, once the body's windows are read in the arguments. -/
module

public import proofs.«01_k».proof.Proof.SsdStateScan
public import proofs.«01_k».proof.Proof.SsdStateRead

@[expose] public section

set_option maxRecDepth 16384

noncomputable section

open Idealize.ShloMosaic Idealize.ShloMosaic.TcCoe Idealize.SL.Sem

namespace Cert.SsdStateIdeal.Same

open Cert.SsdStateIdeal Cert.SsdStateIdeal.Gen Cert.SsdStateIdeal.Body
open Cert.SsdStateRefIdeal.Read (row pre rawO dtO daO acsO catO convO actO refO)

/-- A sum of four real numbers is real. -/
theorem sum_real (f : Fin 4 → EReal) (h : ∀ i, ∃ r : ℝ, f i = (r : EReal)) : ∃ r : ℝ, ∑ i : Fin 4, f i = (r : EReal) := by
  obtain ⟨r0, h0⟩ := h 0
  obtain ⟨r1, h1⟩ := h 1
  obtain ⟨r2, h2⟩ := h 2
  obtain ⟨r3, h3⟩ := h 3
  exact ⟨r0 + r1 + r2 + r3, by rw [Fin.sum_univ_four, h0, h1, h2, h3, ← EReal.coe_add, ← EReal.coe_add, ← EReal.coe_add]⟩

/-- A sum of four numbers, each real or minus infinity, is one. -/
theorem sum_low (f : Fin 4 → EReal) (h : ∀ i, (∃ r : ℝ, f i = (r : EReal)) ∨ f i = ⊥) : (∃ r : ℝ, ∑ i : Fin 4, f i = (r : EReal)) ∨ ∑ i : Fin 4, f i = ⊥ := by
  by_cases hb : ∃ i, f i = ⊥
  · obtain ⟨i, hi⟩ := hb
    exact Or.inr (sum_bot f i hi)
  · exact Or.inl (sum_real f fun i => (h i).resolve_right fun e => hb ⟨i, e⟩)

/-- A lane of a value that is real or minus infinity there, picked by a column of zeros and a one. -/
theorem pick (v w : Fin 128 → EReal) (h : Fin 128) (hw : ∀ k, w k = if k = h then 1 else 0) (hv : (∃ r : ℝ, v h = (r : EReal)) ∨ v h = ⊥) : spread v w = v h := by
  rw [spread_low v w fun k => ?_]
  · rw [Finset.sum_eq_single h]
    · rw [hw, if_pos rfl, mul_one]
    · intro k _ hk
      rw [hw, if_neg hk, mul_zero]
    · intro hn
      exact absurd (Finset.mem_univ _) hn
  · by_cases hk : k = h
    · subst hk; exact Or.inr ⟨by rw [hw, if_pos rfl], hv⟩
    · exact Or.inl (by rw [hw, if_neg hk])

section

variable (x1 x2 : Vec Ideal S128x2048 .f32) (x3 : Vec Ideal S128x128 .f32) (x4 : Vec Ideal S4x4096 .f32) (x5 : Vec Ideal S1x4096 .f32) (x6 x7 : Vec Ideal S1x128 .f32)
  (x10 : Vec Ideal S1x8x4096 .f32) (x11 : Vec Ideal S1x2048x128 .f32) (x12 : Vec Ideal S128x128 .bf16) (x13 : Vec Ideal S128x2048 .bf16)
  (a0 : FVec Ideal S128x6400 .f32) (a1 : FVec Ideal S32x3x4096 .f32) (a2 : FVec Ideal S32x32x64x128 .f32) (a3 : FVec Ideal S4096x4 .f32) (a4 : FVec Ideal S4096 .f32) (a5 a6 : FVec Ideal S32 .f32)
  (b : Fin 32)

/-- The rows the convolution runs over are the reference's. -/
theorem ext_row (h1 : ∀ (l : Fin 4) (k : Fin 2048), x1 (ix2 ⟨l.val, by omega⟩ k) = a0 (ix2 ⟨b.val * 4 + l.val, by omega⟩ ⟨2048 + k.val, by omega⟩))
    (h2 : ∀ (l : Fin 4) (k : Fin 2048), x2 (ix2 ⟨l.val, by omega⟩ k) = a0 (ix2 ⟨b.val * 4 + l.val, by omega⟩ ⟨4096 + k.val, by omega⟩))
    (h10 : ∀ (r : Fin 3) (j : Fin 4096), x10 (ix3 0 ⟨5 + r.val, by omega⟩ j) = a1 (ix3 b r j))
    (r : Fin 7) (j : Fin 4096) (q : Fin 136) (hq : q.val = 5 + r.val) : ext x1 x2 x10 (ix2 q j) = row a0 a1 b r j := by
  have hr := r.isLt
  refine (congrArg (fun z => ext x1 x2 x10 (ix2 z j)) (show q = ⟨5 + r.val, by omega⟩ from Fin.ext hq)).trans ?_
  unfold ext row
  by_cases h : r.val < 3
  · rw [dif_pos h]
    refine (dif_pos (show 5 + r.val < 8 by omega)).trans ?_
    exact h10 ⟨r.val, h⟩ j
  · rw [dif_neg h]
    refine (dif_neg (show ¬ 5 + r.val < 8 by omega)).trans ?_
    by_cases hj : j.val < 2048
    · refine (dif_pos hj).trans ?_
      refine Eq.trans (congrArg x1 ?_) (h1 ⟨r.val - 3, by omega⟩ ⟨j.val, hj⟩)
      exact ix2_of _ _ _ (show 5 + r.val - 8 = r.val - 3 by omega) rfl
    · refine (dif_neg hj).trans ?_
      refine Eq.trans (congrArg x2 ?_) ((h2 ⟨r.val - 3, by omega⟩ ⟨j.val - 2048, by omega⟩).trans (congrArg a0 ?_))
      · exact ix2_of _ _ _ (show 5 + r.val - 8 = r.val - 3 by omega) rfl
      · exact ix2_of _ _ _ rfl (show 4096 + (j.val - 2048) = 2048 + j.val by omega)

/-- The activated convolution of the body is the reference's. -/
theorem act_eq (h1 : ∀ (l : Fin 4) (k : Fin 2048), x1 (ix2 ⟨l.val, by omega⟩ k) = a0 (ix2 ⟨b.val * 4 + l.val, by omega⟩ ⟨2048 + k.val, by omega⟩))
    (h2 : ∀ (l : Fin 4) (k : Fin 2048), x2 (ix2 ⟨l.val, by omega⟩ k) = a0 (ix2 ⟨b.val * 4 + l.val, by omega⟩ ⟨4096 + k.val, by omega⟩))
    (h4 : ∀ (k : Fin 4) (j : Fin 4096), x4 (ix2 k j) = a3 (ix2 j k)) (h5 : ∀ j : Fin 4096, x5 (ix2 0 j) = a4 (ix1 j))
    (h10 : ∀ (r : Fin 3) (j : Fin 4096), x10 (ix3 0 ⟨5 + r.val, by omega⟩ j) = a1 (ix3 b r j))
    (l : Fin 4) (j : Fin 4096) : act x1 x2 x4 x5 x10 ⟨l.val, by omega⟩ j = actO a0 a1 a3 a4 (ix3 b l j) := by
  rw [Cert.SsdStateRefIdeal.Read.act_at]
  have e : convO a0 a1 a3 a4 (ix3 b l j) = x5 (ix2 0 j) + x4 (ix2 0 j) * ext x1 x2 x10 (ix2 ⟨5 + l.val, by omega⟩ j) + x4 (ix2 1 j) * ext x1 x2 x10 (ix2 ⟨6 + l.val, by omega⟩ j)
      + x4 (ix2 2 j) * ext x1 x2 x10 (ix2 ⟨7 + l.val, by omega⟩ j) + x4 (ix2 3 j) * ext x1 x2 x10 (ix2 ⟨8 + l.val, by omega⟩ j) := by
    rw [Cert.SsdStateRefIdeal.Read.conv_at, ext_row x1 x2 x10 a0 a1 b h1 h2 h10 ⟨l.val, by omega⟩ j ⟨5 + l.val, by omega⟩ rfl,
      ext_row x1 x2 x10 a0 a1 b h1 h2 h10 ⟨1 + l.val, by omega⟩ j ⟨6 + l.val, by omega⟩ (show 6 + l.val = 5 + (1 + l.val) by omega),
      ext_row x1 x2 x10 a0 a1 b h1 h2 h10 ⟨2 + l.val, by omega⟩ j ⟨7 + l.val, by omega⟩ (show 7 + l.val = 5 + (2 + l.val) by omega),
      ext_row x1 x2 x10 a0 a1 b h1 h2 h10 ⟨3 + l.val, by omega⟩ j ⟨8 + l.val, by omega⟩ (show 8 + l.val = 5 + (3 + l.val) by omega),
      Cert.SsdStateRefIdeal.Read.row_at, Cert.SsdStateRefIdeal.Read.row_at, Cert.SsdStateRefIdeal.Read.row_at, Cert.SsdStateRefIdeal.Read.row_at,
      h5, h4, h4, h4, h4, zero_add, mul_comm (row a0 a1 b _ j), mul_comm (row a0 a1 b _ j), mul_comm (row a0 a1 b _ j), mul_comm (row a0 a1 b _ j)]
    simp only [add_assoc]
  rw [e, ← half_tanh]
  rfl

/-- A step length is real and not negative. -/
theorem dt_real (f0 : ∀ (l : Fin 4) (h : Fin 32), ∃ r : ℝ, a0 (ix2 ⟨b.val * 4 + l.val, by omega⟩ ⟨6144 + h.val, by omega⟩) = (r : EReal))
    (f5 : ∀ h : Fin 32, ∃ r : ℝ, a5 (ix1 h) = (r : EReal))
    (l : Fin 4) (h : Fin 32) : ∃ r : ℝ, 0 ≤ r ∧ dtO a0 a5 (ix3 b l h) = (r : EReal) := by
  rw [Cert.SsdStateRefIdeal.Read.dt_at, Cert.SsdStateRefIdeal.Read.raw_at]
  obtain ⟨r, hr⟩ := f0 l h
  obtain ⟨s, hs⟩ := f5 h
  rw [hr, hs, ← EReal.coe_add]
  exact sp_real _

/-- A step length times its decay rate is real or minus infinity. -/
theorem da_real (f0 : ∀ (l : Fin 4) (h : Fin 32), ∃ r : ℝ, a0 (ix2 ⟨b.val * 4 + l.val, by omega⟩ ⟨6144 + h.val, by omega⟩) = (r : EReal))
    (f5 : ∀ h : Fin 32, ∃ r : ℝ, a5 (ix1 h) = (r : EReal))
    (l : Fin 4) (h : Fin 32) : (∃ r : ℝ, daO a0 a5 a6 (ix3 b l h) = (r : EReal)) ∨ daO a0 a5 a6 (ix3 b l h) = ⊥ := by
  rw [Cert.SsdStateRefIdeal.Read.da_at]
  obtain ⟨r, h0, hr⟩ := dt_real a0 a5 b f0 f5 l h
  rw [hr]
  generalize a6 (ix1 h) = z
  induction z using EReal.rec with
  | bot => exact Or.inl ⟨0, by rw [Ideal.exp_bot, neg_zero, mul_zero, EReal.coe_zero]⟩
  | coe s => exact Or.inl ⟨_, by rw [Ideal.exp_coe, ← EReal.coe_neg, ← EReal.coe_mul]⟩
  | top =>
    rw [Ideal.exp_top, EReal.neg_top]
    rcases h0.eq_or_lt with h0 | h0
    · exact Or.inl ⟨0, by rw [← h0, EReal.coe_zero, zero_mul]⟩
    · exact Or.inr (EReal.coe_mul_bot_of_pos h0)

/-- The step lengths the body computes: the reference's on the sample's rows, zero below. -/
theorem len_eq (h3 : ∀ (l : Fin 4) (h : Fin 32), x3 (ix2 ⟨l.val, by omega⟩ ⟨h.val, by omega⟩) = a0 (ix2 ⟨b.val * 4 + l.val, by omega⟩ ⟨6144 + h.val, by omega⟩))
    (h6 : ∀ h : Fin 32, x6 (ix2 0 ⟨h.val, by omega⟩) = a5 (ix1 h)) (l : Fin 128) (h : Fin 32) :
    k0_pay30 (F := Ideal) 0#32 (k0_pay29 x3 x6) (ix2 l ⟨h.val, by omega⟩) = if hl : l.val < 4 then dtO a0 a5 (ix3 b ⟨l.val, hl⟩ h) else 0 := by
  rw [dt_at]
  by_cases hl : l.val < 4
  · rw [if_pos hl, dif_pos hl, Cert.SsdStateRefIdeal.Read.dt_at, Cert.SsdStateRefIdeal.Read.raw_at, raw_at, h6]
    exact congrArg (fun z => sp (z + a5 (ix1 h))) (h3 ⟨l.val, hl⟩ h)
  · rw [if_neg hl, dif_neg hl]

/-- The running sums the body computes: the reference's products summed up to the row. -/
theorem acs_eq (f0 : ∀ (l : Fin 4) (h : Fin 32), ∃ r : ℝ, a0 (ix2 ⟨b.val * 4 + l.val, by omega⟩ ⟨6144 + h.val, by omega⟩) = (r : EReal))
    (f5 : ∀ h : Fin 32, ∃ r : ℝ, a5 (ix1 h) = (r : EReal))
    (h3 : ∀ (l : Fin 4) (h : Fin 32), x3 (ix2 ⟨l.val, by omega⟩ ⟨h.val, by omega⟩) = a0 (ix2 ⟨b.val * 4 + l.val, by omega⟩ ⟨6144 + h.val, by omega⟩))
    (h6 : ∀ h : Fin 32, x6 (ix2 0 ⟨h.val, by omega⟩) = a5 (ix1 h)) (h7 : ∀ h : Fin 32, x7 (ix2 0 ⟨h.val, by omega⟩) = a6 (ix1 h))
    (h12 : ∀ l i : Fin 128, x12 (ix2 l i) = if i.val ≤ l.val then (1 : EReal) else 0) (l : Fin 128) (h : Fin 32) :
    k0_pay31 (F := Ideal) 0#32 (k0_pay29 x3 x6) x7 x12 (ix2 l ⟨h.val, by omega⟩) = ∑ i : Fin 4, if i.val ≤ l.val then daO a0 a5 a6 (ix3 b i h) else 0 := by
  have hv : ∀ i : Fin 128, k0_pay30 (F := Ideal) 0#32 (k0_pay29 x3 x6) (ix2 i ⟨h.val, by omega⟩) * (0 - Ideal.exp (x7 (ix2 0 ⟨h.val, by omega⟩)))
      = if hi : i.val < 4 then daO a0 a5 a6 (ix3 b ⟨i.val, hi⟩ h) else 0 := fun i => by
    rw [len_eq x3 x6 a0 a5 b h3 h6 i h, h7, zero_sub]
    by_cases hi : i.val < 4
    · rw [dif_pos hi, dif_pos hi, Cert.SsdStateRefIdeal.Read.da_at]
    · rw [dif_neg hi, dif_neg hi, zero_mul]
  rw [acs_at, spread_low]
  · rw [sum_four]
    · refine Finset.sum_congr rfl fun i _ => ?_
      rw [hv, h12, dif_pos i.isLt]
      by_cases hi : i.val ≤ l.val
      · rw [if_pos hi, if_pos hi, mul_one]
      · rw [if_neg hi, if_neg hi, mul_zero]
    · intro i hi
      rw [hv, dif_neg (by omega), zero_mul]
  · intro i
    rw [h12]
    by_cases hl : i.val ≤ l.val
    · refine Or.inr ⟨if_pos hl, ?_⟩
      rw [hv]
      by_cases hi : i.val < 4
      · rw [dif_pos hi]; exact da_real a0 a5 a6 b f0 f5 _ h
      · rw [dif_neg hi]; exact Or.inl ⟨0, rfl⟩
    · exact Or.inl (if_neg hl)

/-- The block the body leaves is the reference's state. -/
theorem stv_eq (f0 : ∀ (l : Fin 4) (h : Fin 32), ∃ r : ℝ, a0 (ix2 ⟨b.val * 4 + l.val, by omega⟩ ⟨6144 + h.val, by omega⟩) = (r : EReal))
    (f5 : ∀ h : Fin 32, ∃ r : ℝ, a5 (ix1 h) = (r : EReal))
    (h1 : ∀ (l : Fin 4) (k : Fin 2048), x1 (ix2 ⟨l.val, by omega⟩ k) = a0 (ix2 ⟨b.val * 4 + l.val, by omega⟩ ⟨2048 + k.val, by omega⟩))
    (h2 : ∀ (l : Fin 4) (k : Fin 2048), x2 (ix2 ⟨l.val, by omega⟩ k) = a0 (ix2 ⟨b.val * 4 + l.val, by omega⟩ ⟨4096 + k.val, by omega⟩))
    (h3 : ∀ (l : Fin 4) (h : Fin 32), x3 (ix2 ⟨l.val, by omega⟩ ⟨h.val, by omega⟩) = a0 (ix2 ⟨b.val * 4 + l.val, by omega⟩ ⟨6144 + h.val, by omega⟩))
    (h4 : ∀ (k : Fin 4) (j : Fin 4096), x4 (ix2 k j) = a3 (ix2 j k)) (h5 : ∀ j : Fin 4096, x5 (ix2 0 j) = a4 (ix1 j))
    (h6 : ∀ h : Fin 32, x6 (ix2 0 ⟨h.val, by omega⟩) = a5 (ix1 h)) (h7 : ∀ h : Fin 32, x7 (ix2 0 ⟨h.val, by omega⟩) = a6 (ix1 h))
    (h10 : ∀ (r : Fin 3) (j : Fin 4096), x10 (ix3 0 ⟨5 + r.val, by omega⟩ j) = a1 (ix3 b r j))
    (h11 : ∀ (j : Fin 2048) (n : Fin 128), x11 (ix3 0 j n) = a2 (ix4 b ⟨j.val / 64, by omega⟩ ⟨j.val % 64, by omega⟩ n))
    (h12 : ∀ l i : Fin 128, x12 (ix2 l i) = if i.val ≤ l.val then (1 : EReal) else 0)
    (h13 : ∀ (k : Fin 128) (j : Fin 2048), x13 (ix2 k j) = if j.val / 64 = k.val then (1 : EReal) else 0)
    (A D : FVec Ideal S128x2048 .f32)
    (hA : A = k0_pay39 (F := Ideal) (k0_pay33 0#32 (k0_pay29 x3 x6) x7 x12) (k0_pay34 x13) (k0_pay36 0#32 (k0_pay29 x3 x6) x7 x12 x13) (k0_pay37 0#32 (k0_pay29 x3 x6) x7 x12))
    (hD : D = k0_pay40 (F := Ideal) (k0_pay33 0#32 (k0_pay29 x3 x6) x7 x12) (k0_pay34 x13) (k0_pay36 0#32 (k0_pay29 x3 x6) x7 x12 x13) (k0_pay37 0#32 (k0_pay29 x3 x6) x7 x12))
    (n : Fin 128) (j : Fin 2048) :
    stv x1 x2 x4 x5 x10 x11 A D n j = refO a0 a1 a2 a3 a4 a5 a6 (ix4 b ⟨j.val / 64, by omega⟩ ⟨j.val % 64, by omega⟩ n) := by
  have hw : ∀ k : Fin 128, x13 (ix2 k j) = if k = ⟨j.val / 64, by omega⟩ then (1 : EReal) else 0 := fun k => by
    rw [h13]
    exact if_congr ⟨fun e => Fin.ext e.symm, fun e => (congrArg Fin.val e).symm⟩ rfl rfl
  have eA : ∀ l : Fin 128, A (ix2 l j) = ∑ i : Fin 4, if i.val ≤ l.val then daO a0 a5 a6 (ix3 b i ⟨j.val / 64, by omega⟩) else 0 := fun l => by
    have q := acs_eq x3 x6 x7 x12 a0 a5 a6 b f0 f5 h3 h6 h7 h12 l ⟨j.val / 64, by omega⟩
    rw [hA, run_at, pick _ _ ⟨j.val / 64, by omega⟩ hw]
    · exact (top_at _ _ _ _ l _).trans q
    · rw [top_at, q]
      refine sum_low _ fun i => ?_
      by_cases hi : i.val ≤ l.val
      · rw [if_pos hi]; exact da_real a0 a5 a6 b f0 f5 _ _
      · rw [if_neg hi]; exact Or.inl ⟨0, rfl⟩
  have eD : ∀ l : Fin 128, D (ix2 l j) = if hl : l.val < 4 then dtO a0 a5 (ix3 b ⟨l.val, hl⟩ ⟨j.val / 64, by omega⟩) else 0 := fun l => by
    have q := len_eq x3 x6 a0 a5 b h3 h6 l ⟨j.val / 64, by omega⟩
    rw [hD, len_at, pick _ _ ⟨j.val / 64, by omega⟩ hw]
    · exact (bot_at _ _ _ _ l _).trans q
    · rw [bot_at, q]
      by_cases hl : l.val < 4
      · rw [dif_pos hl]
        obtain ⟨r, -, hr⟩ := dt_real a0 a5 b f0 f5 ⟨l.val, hl⟩ ⟨j.val / 64, by omega⟩
        exact Or.inl ⟨r, hr⟩
      · rw [dif_neg hl]; exact Or.inl ⟨0, rfl⟩
  have e127 : A (ix2 127 j) = acsO a0 a5 a6 (ix3 b 3 ⟨j.val / 64, by omega⟩) := by
    rw [eA, Cert.SsdStateRefIdeal.Read.acs_at]
    refine Finset.sum_congr rfl fun i _ => ?_
    exact (if_pos (show i.val ≤ 127 by omega)).trans (if_pos (show i.val ≤ 3 by omega)).symm
  have eL : ∀ l : Fin 4, A (ix2 ⟨l.val, by omega⟩ j) = acsO a0 a5 a6 (ix3 b l ⟨j.val / 64, by omega⟩) := fun l => by
    rw [eA, Cert.SsdStateRefIdeal.Read.acs_at]
    rfl
  rw [Cert.SsdStateRefIdeal.Read.ref_at]
  unfold stv
  rw [e127, h11, mul_comm (a2 _), sum_four]
  · refine congrArg (_ + ·) (Finset.sum_congr rfl fun l _ => ?_)
    rw [eL, eD, dif_pos l.isLt, act_eq x1 x2 x4 x5 x10 a0 a1 a3 a4 b h1 h2 h4 h5 h10, act_eq x1 x2 x4 x5 x10 a0 a1 a3 a4 b h1 h2 h4 h5 h10]
    have i1 : (⟨2048 + (j.val / 256 * 128 + n.val), by omega⟩ : Fin 4096) = ⟨2048 + (j.val / 64 / 4 * 128 + n.val), by omega⟩ := Fin.ext (by show 2048 + (j.val / 256 * 128 + n.val) = 2048 + (j.val / 64 / 4 * 128 + n.val); omega)
    have i2 : (⟨j.val, by omega⟩ : Fin 4096) = ⟨j.val / 64 * 64 + j.val % 64, by omega⟩ := Fin.ext (by show j.val = j.val / 64 * 64 + j.val % 64; omega)
    rw [i1, i2]
    rw [mul_comm, mul_comm (Ideal.exp _)]
  · intro l hl
    rw [eD, dif_neg (by omega), mul_zero, zero_mul, mul_zero]

end

end Cert.SsdStateIdeal.Same

end
-- ==== Proof.SsdStateIn.lean ====
/- What the mixer's windows hold when the body runs, read in the arguments, and what the precondition says of the steps. -/
module

public import proofs.«01_k».proof.Proof.SsdStateSame
public import proofs.«01_k».proof.Proof.Gen.SsdStateIdeal.Frame
public import proofs.«01_k».proof.Proof.Gen.Pre_steps_finite
public import proofs.«01_k».proof.Defs
public import Idealize.ShloMosaic.Lib.Pipeline.ValueKit
public import Idealize.ShloMosaic.Lib.Pointwise
public import Idealize.ShloMosaic.Lib.ReduceAll

@[expose] public section

set_option maxRecDepth 16384

noncomputable section

open Idealize.ShloMosaic Idealize.ShloMosaic.TcCoe Idealize.SL.Sem

namespace Cert.StepsFinite

open Cert.Pre_steps_finite Cert.Pre_steps_finite.Gen

/-- A number whose absolute value is below infinity is real. -/
theorem real_of_lt (x : EReal) (h : max x (-x) < ⊤) : ∃ r : ℝ, x = (r : EReal) := by
  induction x with
  | bot => simp at h
  | top => simp at h
  | coe r => exact ⟨r, rfl⟩

/-- The word of infinity. -/
theorem inf_eq : (FloatOps.ofBits .f32 0x7F800000#32 : Ideal .f32) = (⊤ : EReal) := by
  simp [FloatOps.ofBits, Ideal.ofBits, Ideal.ieee]

/-- The comparison the precondition makes of each entry. -/
theorem real_of_cmp (x : Ideal .f32) (h : FloatOps.cmpf .olt (FloatOps.absf x) (FloatOps.ofBits .f32 0x7F800000#32 : Ideal .f32) = 1#1) : ∃ r : ℝ, x = (r : EReal) := by
  rw [inf_eq] at h
  refine real_of_lt x ?_
  have e : BitVec.ofBool (decide (max x (-x) < (⊤ : EReal))) = 1#1 := h
  by_contra hn
  rw [decide_eq_false hn] at e
  exact absurd e (by decide)

/-- The precondition makes the raw steps and the step biases real. -/
theorem reals (a0 : FVec Ideal S128x6400 .f32) (a1 : FVec Ideal S32x3x4096 .f32) (a2 : FVec Ideal S32x32x64x128 .f32) (a3 : FVec Ideal S4096x4 .f32) (a4 : FVec Ideal S4096 .f32) (a5 a6 a7 : FVec Ideal S32 .f32) (a8 : FVec Ideal S2048 .f32)
    (h : Cert.Pre_steps_finite.fn (F := Ideal) a0 a1 a2 a3 a4 a5 a6 a7 a8 = fun _ => 1#1) :
    (∀ (r : Fin 128) (k : Fin 32), ∃ x : ℝ, a0 (ix2 r (⟨6144 + k.val, by omega⟩ : Fin 6400)) = (x : EReal)) ∧ (∀ k : Fin 32, ∃ x : ℝ, a5 (ix1 k) = (x : EReal)) := by
  have andi_one (a b : BitVec 1) : IntOp.andi a b = 1#1 ↔ a = 1#1 ∧ b = 1#1 := by revert a b; decide
  have : Subsingleton S_.Idx := ⟨fun a b => funext fun k => k.elim0⟩
  have e := (andi_one _ _).1 (congrFun h fun k => k.elim0)
  refine ⟨fun r k => ?_, fun k => ?_⟩
  · refine (?_ : ∀ z, z = _ → ∃ x : ℝ, z = (x : EReal)) _ ?_
    rotate_left 2
    · have q := real_of_cmp _ (Host.reduce_andi_all _ _ _ _ (fun k => k.elim0) e.1 (ix2 r k))
      intro z hz
      exact hz ▸ q
    · refine Eq.symm ?_
      pointwise
  · exact real_of_cmp _ (Host.reduce_andi_all _ _ _ _ (fun k => k.elim0) e.2 (ix1 k))

end Cert.StepsFinite

namespace Cert.SsdStateIdeal.Blocks

open Cert.SsdStateIdeal Cert.SsdStateIdeal.Gen Cert.SsdStateIdeal.Body

variable (m : (ℓ : Loc nD τ sig) → Buf (Elt Ideal) ℓ)

/-- Which block window 0 stages at grid point `t`. -/
theorem idx_0 : ∀ t : Fin cfg0.N, win0_0.index t = ![t.val, 0] := (by decide +kernel : ∀ t : Fin grid0.N, _)

/-- Which block window 1 stages at grid point `t`. -/
theorem idx_1 : ∀ t : Fin cfg0.N, win0_1.index t = ![t.val, 1] := (by decide +kernel : ∀ t : Fin grid0.N, _)

/-- Which block window 2 stages at grid point `t`. -/
theorem idx_2 : ∀ t : Fin cfg0.N, win0_2.index t = ![t.val, 2] := (by decide +kernel : ∀ t : Fin grid0.N, _)

/-- Which block window 3 stages at grid point `t`. -/
theorem idx_3 : ∀ t : Fin cfg0.N, win0_3.index t = ![t.val, 48] := (by decide +kernel : ∀ t : Fin grid0.N, _)

/-- Which block window 4 stages at grid point `t`. -/
theorem idx_4 : ∀ t : Fin cfg0.N, win0_4.index t = ![0, 0] := (by decide +kernel : ∀ t : Fin grid0.N, _)

/-- Which block window 5 stages at grid point `t`. -/
theorem idx_5 : ∀ t : Fin cfg0.N, win0_5.index t = ![0, 0] := (by decide +kernel : ∀ t : Fin grid0.N, _)

/-- Which block window 6 stages at grid point `t`. -/
theorem idx_6 : ∀ t : Fin cfg0.N, win0_6.index t = ![0, 0] := (by decide +kernel : ∀ t : Fin grid0.N, _)

/-- Which block window 7 stages at grid point `t`. -/
theorem idx_7 : ∀ t : Fin cfg0.N, win0_7.index t = ![0, 0] := (by decide +kernel : ∀ t : Fin grid0.N, _)

/-- Which block window 10 stages at grid point `t`. -/
theorem idx_10 : ∀ t : Fin cfg0.N, win0_10.index t = ![t.val, 0, 0] := (by decide +kernel : ∀ t : Fin grid0.N, _)

/-- Which block window 11 stages at grid point `t`. -/
theorem idx_11 : ∀ t : Fin cfg0.N, win0_11.index t = ![t.val, 0, 0] := (by decide +kernel : ∀ t : Fin grid0.N, _)

/-- Which block window 12 stages at grid point `t`. -/
theorem idx_12 : ∀ t : Fin cfg0.N, win0_12.index t = ![0, 0] := (by decide +kernel : ∀ t : Fin grid0.N, _)

/-- Which block window 13 stages at grid point `t`. -/
theorem idx_13 : ∀ t : Fin cfg0.N, win0_13.index t = ![0, 0] := (by decide +kernel : ∀ t : Fin grid0.N, _)

/-- Which block window 15 stages at grid point `t`. -/
theorem idx_15 : ∀ t : Fin cfg0.N, win0_15.index t = ![t.val, 0, 0] := (by decide +kernel : ∀ t : Fin grid0.N, _)

set_option maxHeartbeats 2000000 in
/-- The padded rows, as the region finds it. -/
theorem entry_v2 (c : Dev nD) : V m c main_v2 = (shapeCast S4096x6400 (pad S32x128x6400 ![0, 0, 0] ![0, 124, 0] ![0, 0, 0] (shapeCast S32x4x6400 (m ((c : Thread nD τ).loc main_arg0)) shapeCasts_S128x6400_S32x4x6400 : FVec Ideal S32x4x6400 .f32) (sitofp .f32 (constantI S_ 32 0#32) : FVec Ideal S_ .f32) pads_S32x4x6400_S32x128x6400_000_01240_000 h_S_ : FVec Ideal S32x128x6400 .f32) shapeCasts_S32x128x6400_S4096x6400 : FVec Ideal S4096x6400 .f32) := by
  show StableHlo.after (List.flatten [hostOps0, hostOps0_1, hostOps0_2, hostOps0_3, hostOps0_4, hostOps0_5, hostOps0_6, hostOps0_7, hostOps0_8]) _ _ = _
  simp only [hostOps0, hostOps0_1, hostOps0_2, hostOps0_3, hostOps0_4, hostOps0_5, hostOps0_6, hostOps0_7, hostOps0_8, List.flatten_cons, List.flatten_nil, List.append_nil, List.cons_append, List.nil_append,
    StableHlo.TRef.unary, StableHlo.TRef.binary, StableHlo.TRef.toBuf, StableHlo.TRef.ofBuf, cast_eq]
  after_results
  <;> rfl

set_option maxHeartbeats 2000000 in
/-- The turned convolution weights, as the region finds it. -/
theorem entry_v14 (c : Dev nD) : V m c main_v14 = (transpose S4x4096 [1, 0] (m ((c : Thread nD τ).loc main_arg3)) transposes_S4096x4_S4x4096_1_0 : FVec Ideal S4x4096 .f32) := by
  show StableHlo.after (List.flatten [hostOps0, hostOps0_1, hostOps0_2, hostOps0_3, hostOps0_4, hostOps0_5, hostOps0_6, hostOps0_7, hostOps0_8]) _ _ = _
  simp only [hostOps0, hostOps0_1, hostOps0_2, hostOps0_3, hostOps0_4, hostOps0_5, hostOps0_6, hostOps0_7, hostOps0_8, List.flatten_cons, List.flatten_nil, List.append_nil, List.cons_append, List.nil_append,
    StableHlo.TRef.unary, StableHlo.TRef.binary, StableHlo.TRef.toBuf, StableHlo.TRef.ofBuf, cast_eq]
  after_results
  <;> rfl

set_option maxHeartbeats 2000000 in
/-- The convolution bias, as the region finds it. -/
theorem entry_v15 (c : Dev nD) : V m c main_v15 = (shapeCast S1x4096 (m ((c : Thread nD τ).loc main_arg4)) shapeCasts_S4096_S1x4096 : FVec Ideal S1x4096 .f32) := by
  show StableHlo.after (List.flatten [hostOps0, hostOps0_1, hostOps0_2, hostOps0_3, hostOps0_4, hostOps0_5, hostOps0_6, hostOps0_7, hostOps0_8]) _ _ = _
  simp only [hostOps0, hostOps0_1, hostOps0_2, hostOps0_3, hostOps0_4, hostOps0_5, hostOps0_6, hostOps0_7, hostOps0_8, List.flatten_cons, List.flatten_nil, List.append_nil, List.cons_append, List.nil_append,
    StableHlo.TRef.unary, StableHlo.TRef.binary, StableHlo.TRef.toBuf, StableHlo.TRef.ofBuf, cast_eq]
  after_results
  <;> rfl

set_option maxHeartbeats 2000000 in
/-- The padded step biases, as the region finds it. -/
theorem entry_v17 (c : Dev nD) : V m c main_v17 = (shapeCast S1x128 (pad S128 ![0] ![96] ![0] (m ((c : Thread nD τ).loc main_arg5)) (sitofp .f32 (constantI S_ 32 0#32) : FVec Ideal S_ .f32) pads_S32_S128_0960 h_S_ : FVec Ideal S128 .f32) shapeCasts_S128_S1x128 : FVec Ideal S1x128 .f32) := by
  show StableHlo.after (List.flatten [hostOps0, hostOps0_1, hostOps0_2, hostOps0_3, hostOps0_4, hostOps0_5, hostOps0_6, hostOps0_7, hostOps0_8]) _ _ = _
  simp only [hostOps0, hostOps0_1, hostOps0_2, hostOps0_3, hostOps0_4, hostOps0_5, hostOps0_6, hostOps0_7, hostOps0_8, List.flatten_cons, List.flatten_nil, List.append_nil, List.cons_append, List.nil_append,
    StableHlo.TRef.unary, StableHlo.TRef.binary, StableHlo.TRef.toBuf, StableHlo.TRef.ofBuf, cast_eq]
  after_results
  <;> rfl

set_option maxHeartbeats 2000000 in
/-- The padded decay rates, as the region finds it. -/
theorem entry_v19 (c : Dev nD) : V m c main_v19 = (shapeCast S1x128 (pad S128 ![0] ![96] ![0] (m ((c : Thread nD τ).loc main_arg6)) (sitofp .f32 (constantI S_ 32 0#32) : FVec Ideal S_ .f32) pads_S32_S128_0960 h_S_ : FVec Ideal S128 .f32) shapeCasts_S128_S1x128 : FVec Ideal S1x128 .f32) := by
  show StableHlo.after (List.flatten [hostOps0, hostOps0_1, hostOps0_2, hostOps0_3, hostOps0_4, hostOps0_5, hostOps0_6, hostOps0_7, hostOps0_8]) _ _ = _
  simp only [hostOps0, hostOps0_1, hostOps0_2, hostOps0_3, hostOps0_4, hostOps0_5, hostOps0_6, hostOps0_7, hostOps0_8, List.flatten_cons, List.flatten_nil, List.append_nil, List.cons_append, List.nil_append,
    StableHlo.TRef.unary, StableHlo.TRef.binary, StableHlo.TRef.toBuf, StableHlo.TRef.ofBuf, cast_eq]
  after_results
  <;> rfl

set_option maxHeartbeats 2000000 in
/-- The padded convolution state, as the region finds it. -/
theorem entry_v13 (c : Dev nD) : V m c main_v13 = (pad S32x8x4096 ![0, 5, 0] ![0, 0, 0] ![0, 0, 0] (m ((c : Thread nD τ).loc main_arg1)) (sitofp .f32 (constantI S_ 32 0#32) : FVec Ideal S_ .f32) pads_S32x3x4096_S32x8x4096_000_500_000 h_S_ : FVec Ideal S32x8x4096 .f32) := by
  show StableHlo.after (List.flatten [hostOps0, hostOps0_1, hostOps0_2, hostOps0_3, hostOps0_4, hostOps0_5, hostOps0_6, hostOps0_7, hostOps0_8]) _ _ = _
  simp only [hostOps0, hostOps0_1, hostOps0_2, hostOps0_3, hostOps0_4, hostOps0_5, hostOps0_6, hostOps0_7, hostOps0_8, List.flatten_cons, List.flatten_nil, List.append_nil, List.cons_append, List.nil_append,
    StableHlo.TRef.unary, StableHlo.TRef.binary, StableHlo.TRef.toBuf, StableHlo.TRef.ofBuf, cast_eq]
  after_results
  <;> rfl

set_option maxHeartbeats 2000000 in
/-- The joined head axes of the state, as the region finds it. -/
theorem entry_v24 (c : Dev nD) : V m c main_v24 = (shapeCast S32x2048x128 (m ((c : Thread nD τ).loc main_arg2)) shapeCasts_S32x32x64x128_S32x2048x128 : FVec Ideal S32x2048x128 .f32) := by
  show StableHlo.after (List.flatten [hostOps0, hostOps0_1, hostOps0_2, hostOps0_3, hostOps0_4, hostOps0_5, hostOps0_6, hostOps0_7, hostOps0_8]) _ _ = _
  simp only [hostOps0, hostOps0_1, hostOps0_2, hostOps0_3, hostOps0_4, hostOps0_5, hostOps0_6, hostOps0_7, hostOps0_8, List.flatten_cons, List.flatten_nil, List.append_nil, List.cons_append, List.nil_append,
    StableHlo.TRef.unary, StableHlo.TRef.binary, StableHlo.TRef.toBuf, StableHlo.TRef.ofBuf, cast_eq]
  after_results
  <;> rfl

set_option maxHeartbeats 2000000 in
/-- The triangle of ones, as the region finds it. -/
theorem entry_v6 (c : Dev nD) : V m c main_v6 = (uitofp .bf16 (cmpi .sle (iotaInDim S128x128 32 1) (iotaInDim S128x128 32 0)) : FVec Ideal S128x128 .bf16) := by
  show StableHlo.after (List.flatten [hostOps0, hostOps0_1, hostOps0_2, hostOps0_3, hostOps0_4, hostOps0_5, hostOps0_6, hostOps0_7, hostOps0_8]) _ _ = _
  simp only [hostOps0, hostOps0_1, hostOps0_2, hostOps0_3, hostOps0_4, hostOps0_5, hostOps0_6, hostOps0_7, hostOps0_8, List.flatten_cons, List.flatten_nil, List.append_nil, List.cons_append, List.nil_append,
    StableHlo.TRef.unary, StableHlo.TRef.binary, StableHlo.TRef.toBuf, StableHlo.TRef.ofBuf, cast_eq]
  after_results
  <;> rfl

set_option maxHeartbeats 2000000 in
/-- The matrix that spreads a head over its columns, as the region finds it. -/
theorem entry_v12 (c : Dev nD) : V m c main_v12 = (uitofp .bf16 (cmpi .eq (Host.shrsi (iotaInDim S128x2048 32 1) (broadcastInDim S128x2048 ![] bcast_S_S128x2048 (constantI S_ 32 6#32))) (iotaInDim S128x2048 32 0)) : FVec Ideal S128x2048 .bf16) := by
  show StableHlo.after (List.flatten [hostOps0, hostOps0_1, hostOps0_2, hostOps0_3, hostOps0_4, hostOps0_5, hostOps0_6, hostOps0_7, hostOps0_8]) _ _ = _
  simp only [hostOps0, hostOps0_1, hostOps0_2, hostOps0_3, hostOps0_4, hostOps0_5, hostOps0_6, hostOps0_7, hostOps0_8, List.flatten_cons, List.flatten_nil, List.append_nil, List.cons_append, List.nil_append,
    StableHlo.TRef.unary, StableHlo.TRef.binary, StableHlo.TRef.toBuf, StableHlo.TRef.ofBuf, cast_eq]
  after_results
  <;> rfl

/-- The padding value is zero. -/
theorem pad_zero : (FloatOps.sitofp FTy.f32 0#32 : Ideal .f32) = 0 := by
  show (((0#32).toInt : ℝ) : EReal) = 0
  simp

/-- Row `t * 128 + l` of the padded rows, for the four steps `l` of sample `t`. -/
theorem rows_at (a0 : FVec Ideal S128x6400 .f32) (b : Fin 32) (l : Fin 4) (z : S4096x6400.Idx) (k : Fin 6400) (e0 : (z (0 : Fin 2)).val = b.val * 128 + l.val) (e1 : (z (1 : Fin 2)).val = k.val) :
    shapeCast S4096x6400 (pad S32x128x6400 ![0, 0, 0] ![0, 124, 0] ![0, 0, 0] (shapeCast S32x4x6400 a0 shapeCasts_S128x6400_S32x4x6400 : FVec Ideal S32x4x6400 .f32) (sitofp .f32 (constantI S_ 32 0#32) : FVec Ideal S_ .f32) pads_S32x4x6400_S32x128x6400_000_01240_000 h_S_ : FVec Ideal S32x128x6400 .f32) shapeCasts_S32x128x6400_S4096x6400 z = a0 (ix2 (⟨b.val * 4 + l.val, by omega⟩ : Fin 128) k) := by
  have s1 (v : FVec Ideal S32x128x6400 .f32) : shapeCast S4096x6400 v shapeCasts_S32x128x6400_S4096x6400 z = v (ix3 b (⟨l.val, by omega⟩ : Fin 128) k) := by
    have ez : z = ix2 (⟨b.val * 128 + l.val, by omega⟩ : Fin 4096) k := by
      funext a
      match a with
      | ⟨0, _⟩ => exact Fin.ext e0
      | ⟨1, _⟩ => exact Fin.ext e1
    rw [ez]
    pointwise
    exact congrArg (fun q => v (ix3 b q k)) (Fin.ext (show (b.val * 128 + l.val) % 128 = l.val by omega))
  have s2 : shapeCast S32x4x6400 a0 shapeCasts_S128x6400_S32x4x6400 (ix3 b l k) = a0 (ix2 (⟨b.val * 4 + l.val, by omega⟩ : Fin 128) k) := by
    pointwise
  rw [s1]
  refine (pad_apply_of_inside _ _ _ _ _ _ _ _ (ix3 b l k) fun a => ?_).trans s2
  match a with
  | ⟨0, _⟩ => exact (by omega : b.val = 0 + b.val * (0 + 1))
  | ⟨1, _⟩ => exact (by omega : l.val = 0 + l.val * (0 + 1))
  | ⟨2, _⟩ => exact (by omega : k.val = 0 + k.val * (0 + 1))

/-- Window 1, read in the argument. -/
theorem read_1 (c : Dev nD) (t : Fin cfg0.N) (b : Fin 32) (hb : b.val = t.val) (l : Fin 4) (k : Fin 2048) :
    X0_1 m c t (ix2 (⟨l.val, by omega⟩ : Fin 128) k) = m ((c : Thread nD τ).loc main_arg0) (ix2 (⟨b.val * 4 + l.val, by omega⟩ : Fin 128) (⟨2048 + k.val, by omega⟩ : Fin 6400)) := by
  have key : ∀ z : ((cfg0.win 1).xblock (cfg0.grid.coords t)).Idx, (z (0 : Fin 2)).val = l.val → (z (1 : Fin 2)).val = k.val →
      iblk m c 1 t z = m ((c : Thread nD τ).loc main_arg0) (ix2 (⟨b.val * 4 + l.val, by omega⟩ : Fin 128) (⟨2048 + k.val, by omega⟩ : Fin 6400)) := by
    intro z h0 h1
    show V m c main_v2 (((cfg0.win 1).blk t).view.emb z) = _
    rw [entry_v2]
    have e0 : (((cfg0.win 1).blk t).view.emb z (0 : Fin 2)).val = b.val * 128 + l.val := by rw [hb, ← h0]; blk_simp [idx_1 t]
    have e1 : (((cfg0.win 1).blk t).view.emb z (1 : Fin 2)).val = 2048 + k.val := by rw [← h1]; blk_simp [idx_1 t]
    exact rows_at _ b l _ ⟨2048 + k.val, by omega⟩ e0 e1
  unfold X0_1 Pipeline.Window.fill
  rw [dif_pos (moved0_1 t _)]
  exact key _ rfl rfl

/-- Window 2, read in the argument. -/
theorem read_2 (c : Dev nD) (t : Fin cfg0.N) (b : Fin 32) (hb : b.val = t.val) (l : Fin 4) (k : Fin 2048) :
    X0_2 m c t (ix2 (⟨l.val, by omega⟩ : Fin 128) k) = m ((c : Thread nD τ).loc main_arg0) (ix2 (⟨b.val * 4 + l.val, by omega⟩ : Fin 128) (⟨4096 + k.val, by omega⟩ : Fin 6400)) := by
  have key : ∀ z : ((cfg0.win 2).xblock (cfg0.grid.coords t)).Idx, (z (0 : Fin 2)).val = l.val → (z (1 : Fin 2)).val = k.val →
      iblk m c 2 t z = m ((c : Thread nD τ).loc main_arg0) (ix2 (⟨b.val * 4 + l.val, by omega⟩ : Fin 128) (⟨4096 + k.val, by omega⟩ : Fin 6400)) := by
    intro z h0 h1
    show V m c main_v2 (((cfg0.win 2).blk t).view.emb z) = _
    rw [entry_v2]
    have e0 : (((cfg0.win 2).blk t).view.emb z (0 : Fin 2)).val = b.val * 128 + l.val := by rw [hb, ← h0]; blk_simp [idx_2 t]
    have e1 : (((cfg0.win 2).blk t).view.emb z (1 : Fin 2)).val = 4096 + k.val := by rw [← h1]; blk_simp [idx_2 t]
    exact rows_at _ b l _ ⟨4096 + k.val, by omega⟩ e0 e1
  unfold X0_2 Pipeline.Window.fill
  rw [dif_pos (moved0_2 t _)]
  exact key _ rfl rfl

/-- Window 3, read in the argument. -/
theorem read_3 (c : Dev nD) (t : Fin cfg0.N) (b : Fin 32) (hb : b.val = t.val) (l : Fin 4) (k : Fin 32) :
    iblk m c 3 t (ix2 (⟨l.val, by omega⟩ : Fin 128) (⟨k.val, by omega⟩ : Fin 128)) = m ((c : Thread nD τ).loc main_arg0) (ix2 (⟨b.val * 4 + l.val, by omega⟩ : Fin 128) (⟨6144 + k.val, by omega⟩ : Fin 6400)) := by
  show V m c main_v2 (((cfg0.win 3).blk t).view.emb (ix2 (⟨l.val, by omega⟩ : Fin 128) (⟨k.val, by omega⟩ : Fin 128))) = _
  rw [entry_v2]
  have e0 : (((cfg0.win 3).blk t).view.emb (ix2 (⟨l.val, by omega⟩ : Fin 128) (⟨k.val, by omega⟩ : Fin 128)) 0).val = b.val * 128 + l.val := by rw [hb]; blk_simp [idx_3 t]
  have e1 : (((cfg0.win 3).blk t).view.emb (ix2 (⟨l.val, by omega⟩ : Fin 128) (⟨k.val, by omega⟩ : Fin 128)) 1).val = 6144 + k.val := by blk_simp [idx_3 t]
  exact rows_at _ b l _ ⟨6144 + k.val, by omega⟩ e0 e1

/-- Window 4, read in the argument. -/
theorem read_4 (c : Dev nD) (t : Fin cfg0.N) (k : Fin 4) (j : Fin 4096) : iblk m c 4 t (ix2 k j) = m ((c : Thread nD τ).loc main_arg3) (ix2 j k) := by
  show V m c main_v14 (((cfg0.win 4).blk t).view.emb (ix2 k j)) = _
  rw [entry_v14]
  have e0 : (((cfg0.win 4).blk t).view.emb (ix2 k j) 0).val = k.val := by blk_simp [idx_4 t]
  have e1 : (((cfg0.win 4).blk t).view.emb (ix2 k j) 1).val = j.val := by blk_simp [idx_4 t]
  refine congrArg (m ((c : Thread nD τ).loc main_arg3)) ?_
  funext a
  match a with
  | ⟨0, _⟩ => exact Fin.ext e1
  | ⟨1, _⟩ => exact Fin.ext e0

/-- The convolution bias as a row, at an entry. -/
theorem bias_at (v : FVec Ideal S4096 .f32) (j : Fin 4096) (z : S1x4096.Idx) (e1 : (z (1 : Fin 2)).val = j.val) :
    shapeCast S1x4096 v shapeCasts_S4096_S1x4096 z = v (ix1 j) := by
  have ez : z = ix2 (0 : Fin 1) j := by
    funext a
    match a with
    | ⟨0, _⟩ => exact Fin.ext (by have h : (z (0 : Fin 2)).val < 1 := (z (0 : Fin 2)).isLt; show (z (0 : Fin 2)).val = 0; omega)
    | ⟨1, _⟩ => exact Fin.ext e1
  refine (congrArg (shapeCast S1x4096 v shapeCasts_S4096_S1x4096) ez).trans ?_
  pointwise

/-- Window 5, read in the argument. -/
theorem read_5 (c : Dev nD) (t : Fin cfg0.N) (j : Fin 4096) : iblk m c 5 t (ix2 0 j) = m ((c : Thread nD τ).loc main_arg4) (ix1 j) := by
  show V m c main_v15 (((cfg0.win 5).blk t).view.emb (ix2 0 j)) = _
  rw [entry_v15]
  have e1 : (((cfg0.win 5).blk t).view.emb (ix2 0 j) 1).val = j.val := by blk_simp [idx_5 t]
  exact bias_at _ j _ e1

/-- A padded row of 32 numbers at one of them. -/
theorem head_at (v : FVec Ideal S32 .f32) (k : Fin 32) (z : S1x128.Idx) (e1 : (z (1 : Fin 2)).val = k.val) :
    shapeCast S1x128 (pad S128 ![0] ![96] ![0] v (sitofp .f32 (constantI S_ 32 0#32) : FVec Ideal S_ .f32) pads_S32_S128_0960 h_S_ : FVec Ideal S128 .f32) shapeCasts_S128_S1x128 z = v (ix1 k) := by
  have s1 (u : FVec Ideal S128 .f32) : shapeCast S1x128 u shapeCasts_S128_S1x128 z = u (ix1 (⟨k.val, by omega⟩ : Fin 128)) := by
    have ez : z = ix2 (0 : Fin 1) (⟨k.val, by omega⟩ : Fin 128) := by
      funext a
      match a with
      | ⟨0, _⟩ => exact Fin.ext (by have h : (z (0 : Fin 2)).val < 1 := (z (0 : Fin 2)).isLt; show (z (0 : Fin 2)).val = 0; omega)
      | ⟨1, _⟩ => exact Fin.ext e1
    refine (congrArg (shapeCast S1x128 u shapeCasts_S128_S1x128) ez).trans ?_
    pointwise
  rw [s1]
  refine pad_apply_of_inside _ _ _ _ _ _ _ _ (ix1 k) fun a => ?_
  match a with
  | ⟨0, _⟩ => exact (by omega : k.val = 0 + k.val * (0 + 1))

/-- Window 6, read in the argument. -/
theorem read_6 (c : Dev nD) (t : Fin cfg0.N) (k : Fin 32) : iblk m c 6 t (ix2 0 (⟨k.val, by omega⟩ : Fin 128)) = m ((c : Thread nD τ).loc main_arg5) (ix1 k) := by
  show V m c main_v17 (((cfg0.win 6).blk t).view.emb (ix2 0 (⟨k.val, by omega⟩ : Fin 128))) = _
  rw [entry_v17]
  have e1 : (((cfg0.win 6).blk t).view.emb (ix2 0 (⟨k.val, by omega⟩ : Fin 128)) 1).val = k.val := by blk_simp [idx_6 t]
  exact head_at _ k _ e1

/-- Window 7, read in the argument. -/
theorem read_7 (c : Dev nD) (t : Fin cfg0.N) (k : Fin 32) : iblk m c 7 t (ix2 0 (⟨k.val, by omega⟩ : Fin 128)) = m ((c : Thread nD τ).loc main_arg6) (ix1 k) := by
  show V m c main_v19 (((cfg0.win 7).blk t).view.emb (ix2 0 (⟨k.val, by omega⟩ : Fin 128))) = _
  rw [entry_v19]
  have e1 : (((cfg0.win 7).blk t).view.emb (ix2 0 (⟨k.val, by omega⟩ : Fin 128)) 1).val = k.val := by blk_simp [idx_7 t]
  exact head_at _ k _ e1

/-- Rows 5, 6 and 7 of the padded convolution state. -/
theorem tail_at (v : FVec Ideal S32x3x4096 .f32) (b : Fin 32) (r : Fin 3) (j : Fin 4096) (z : S32x8x4096.Idx)
    (e0 : (z (0 : Fin 3)).val = b.val) (e1 : (z (1 : Fin 3)).val = 5 + r.val) (e2 : (z (2 : Fin 3)).val = j.val) :
    pad S32x8x4096 ![0, 5, 0] ![0, 0, 0] ![0, 0, 0] v (sitofp .f32 (constantI S_ 32 0#32) : FVec Ideal S_ .f32) pads_S32x3x4096_S32x8x4096_000_500_000 h_S_ z = v (ix3 b r j) := by
  refine pad_apply_of_inside _ _ _ _ _ _ _ _ (ix3 b r j) fun a => ?_
  match a with
  | ⟨0, _⟩ => exact e0.trans (by omega : b.val = 0 + b.val * (0 + 1))
  | ⟨1, _⟩ => exact e1.trans (by omega : 5 + r.val = 5 + r.val * (0 + 1))
  | ⟨2, _⟩ => exact e2.trans (by omega : j.val = 0 + j.val * (0 + 1))

/-- Window 10, read in the argument. -/
theorem read_10 (c : Dev nD) (t : Fin cfg0.N) (b : Fin 32) (hb : b.val = t.val) (r : Fin 3) (j : Fin 4096) :
    iblk m c 10 t (ix3 0 (⟨5 + r.val, by omega⟩ : Fin 8) j) = m ((c : Thread nD τ).loc main_arg1) (ix3 b r j) := by
  show V m c main_v13 (((cfg0.win 10).blk t).view.emb (ix3 0 (⟨5 + r.val, by omega⟩ : Fin 8) j)) = _
  rw [entry_v13]
  have e0 : (((cfg0.win 10).blk t).view.emb (ix3 0 (⟨5 + r.val, by omega⟩ : Fin 8) j) 0).val = b.val := by rw [hb]; blk_simp [idx_10 t]; try rfl
  have e1 : (((cfg0.win 10).blk t).view.emb (ix3 0 (⟨5 + r.val, by omega⟩ : Fin 8) j) 1).val = 5 + r.val := by blk_simp [idx_10 t]
  have e2 : (((cfg0.win 10).blk t).view.emb (ix3 0 (⟨5 + r.val, by omega⟩ : Fin 8) j) 2).val = j.val := by blk_simp [idx_10 t]
  exact tail_at _ b r j _ e0 e1 e2

/-- The state with its head axes joined, at an entry. -/
theorem joined_at (v : FVec Ideal S32x32x64x128 .f32) (b : Fin 32) (j : Fin 2048) (n : Fin 128) (z : S32x2048x128.Idx)
    (e0 : (z (0 : Fin 3)).val = b.val) (e1 : (z (1 : Fin 3)).val = j.val) (e2 : (z (2 : Fin 3)).val = n.val) :
    shapeCast S32x2048x128 v shapeCasts_S32x32x64x128_S32x2048x128 z = v (ix4 b (⟨j.val / 64, by omega⟩ : Fin 32) (⟨j.val % 64, by omega⟩ : Fin 64) n) := by
  have ez : z = ix3 b j n := by
    funext a
    match a with
    | ⟨0, _⟩ => exact Fin.ext e0
    | ⟨1, _⟩ => exact Fin.ext e1
    | ⟨2, _⟩ => exact Fin.ext e2
  refine (congrArg (shapeCast S32x2048x128 v shapeCasts_S32x32x64x128_S32x2048x128) ez).trans ?_
  pointwise

/-- Window 11, read in the argument. -/
theorem read_11 (c : Dev nD) (t : Fin cfg0.N) (b : Fin 32) (hb : b.val = t.val) (j : Fin 2048) (n : Fin 128) :
    iblk m c 11 t (ix3 0 j n) = m ((c : Thread nD τ).loc main_arg2) (ix4 b (⟨j.val / 64, by omega⟩ : Fin 32) (⟨j.val % 64, by omega⟩ : Fin 64) n) := by
  show V m c main_v24 (((cfg0.win 11).blk t).view.emb (ix3 0 j n)) = _
  rw [entry_v24]
  have e0 : (((cfg0.win 11).blk t).view.emb (ix3 0 j n) 0).val = b.val := by rw [hb]; blk_simp [idx_11 t]; try rfl
  have e1 : (((cfg0.win 11).blk t).view.emb (ix3 0 j n) 1).val = j.val := by blk_simp [idx_11 t]
  have e2 : (((cfg0.win 11).blk t).view.emb (ix3 0 j n) 2).val = n.val := by blk_simp [idx_11 t]
  exact joined_at _ b j n _ e0 e1 e2

/-- A truth value as a number. -/
theorem bit_num (w : BitVec 1) : (FloatOps.uitofp .bf16 w : Ideal .bf16) = if w = 1#1 then (1 : EReal) else 0 := by
  show ((w.toNat : ℝ) : EReal) = _
  have h : w = 1#1 ∨ w = 0#1 := by revert w; decide
  rcases h with h | h <;> subst h <;> simp

/-- The order of two small words. -/
theorem le_word (a b : ℕ) (ha : a < 128) (hb : b < 128) : IntOp.cmpi .sle (BitVec.ofNat 32 a) (BitVec.ofNat 32 b) = 1#1 ↔ a ≤ b := by
  have h : ∀ a b : Fin 128, IntOp.cmpi .sle (BitVec.ofNat 32 a.val) (BitVec.ofNat 32 b.val) = 1#1 ↔ a.val ≤ b.val := by decide +kernel
  exact h ⟨a, ha⟩ ⟨b, hb⟩

/-- A column's head. -/
theorem head_word (j : Fin 2048) : IntOp.shrsi .host (BitVec.ofNat 32 j.val) 6#32 = BitVec.ofNat 32 (j.val / 64) := by
  revert j; decide +kernel

/-- Small words are equal when their numbers are. -/
theorem eq_word (a b : ℕ) (ha : a < 128) (hb : b < 128) : IntOp.cmpi .eq (BitVec.ofNat 32 a) (BitVec.ofNat 32 b) = 1#1 ↔ a = b := by
  have h : ∀ a b : Fin 128, IntOp.cmpi .eq (BitVec.ofNat 32 a.val) (BitVec.ofNat 32 b.val) = 1#1 ↔ a.val = b.val := by decide +kernel
  exact h ⟨a, ha⟩ ⟨b, hb⟩

/-- Window 12 holds the triangle of ones. -/
theorem read_12 (c : Dev nD) (t : Fin cfg0.N) (l i : Fin 128) : iblk m c 12 t (ix2 l i) = if i.val ≤ l.val then (1 : EReal) else 0 := by
  show V m c main_v6 (((cfg0.win 12).blk t).view.emb (ix2 l i)) = _
  rw [entry_v6]
  have e0 : (((cfg0.win 12).blk t).view.emb (ix2 l i) 0).val = l.val := by blk_simp [idx_12 t]
  have e1 : (((cfg0.win 12).blk t).view.emb (ix2 l i) 1).val = i.val := by blk_simp [idx_12 t]
  refine (bit_num _).trans ?_
  show (if IntOp.cmpi .sle (BitVec.ofNat 32 (((cfg0.win 12).blk t).view.emb (ix2 l i) 1).val) (BitVec.ofNat 32 (((cfg0.win 12).blk t).view.emb (ix2 l i) 0).val) = 1#1 then (1 : EReal) else 0) = _
  rw [e0, e1]
  exact if_congr (le_word _ _ i.isLt l.isLt) rfl rfl

/-- Window 13 holds the matrix that spreads a head over its columns. -/
theorem read_13 (c : Dev nD) (t : Fin cfg0.N) (k : Fin 128) (j : Fin 2048) : iblk m c 13 t (ix2 k j) = if j.val / 64 = k.val then (1 : EReal) else 0 := by
  show V m c main_v12 (((cfg0.win 13).blk t).view.emb (ix2 k j)) = _
  rw [entry_v12]
  have e0 : (((cfg0.win 13).blk t).view.emb (ix2 k j) 0).val = k.val := by blk_simp [idx_13 t]
  have e1 : (((cfg0.win 13).blk t).view.emb (ix2 k j) 1).val = j.val := by blk_simp [idx_13 t]
  refine (bit_num _).trans ?_
  show (if IntOp.cmpi .eq (IntOp.shrsi .host (BitVec.ofNat 32 (((cfg0.win 13).blk t).view.emb (ix2 k j) 1).val) 6#32) (BitVec.ofNat 32 (((cfg0.win 13).blk t).view.emb (ix2 k j) 0).val) = 1#1 then (1 : EReal) else 0) = _
  rw [e0, e1, head_word]
  exact if_congr (eq_word _ _ (by omega) k.isLt) rfl rfl

end Cert.SsdStateIdeal.Blocks

end
-- ==== Proof.SsdStateLeft.lean ====
/- The mixer's body at a grid point, its windows whole: the block it leaves in the state window. -/
module

public import proofs.«01_k».proof.Proof.SsdStateScan
public import proofs.«01_k».proof.Proof.Gen.SsdStateIdeal.Frame
public import Idealize.ShloMosaic.Lib.Pipeline.ReadBack

@[expose] public section

set_option maxRecDepth 16384

noncomputable section

open Idealize.ShloMosaic Idealize.ShloMosaic.TcCoe Idealize.SL.Sem

namespace Cert.SsdStateIdeal.Body

open Cert.SsdStateIdeal Cert.SsdStateIdeal.Gen

/-- The one chunk's number. -/
theorem chunk (i : grid0.Coords) : BitVec.ofNat 32 (i 1).val = 0#32 := by
  have h : (i 1).val < 1 := (i 1).isLt
  rw [show (i 1).val = 0 by omega]

set_option maxHeartbeats 2000000 in
/-- The first table of factors of the run, from the windows. -/
theorem run_21 (c : Dev nD) (i : grid0.Coords) (arg5 : Memref sig .tc .vmem S128x128 .f32) (harg5 : arg5.IsWhole) (arg8 : Memref sig .tc .vmem S1x128 .f32) (harg8 : arg8.IsWhole) (arg9 : Memref sig .tc .vmem S1x128 .f32) (harg9 : arg9.IsWhole) (arg14 : Memref sig .tc .vmem S128x128 .bf16) (harg14 : arg14.IsWhole) (arg15 : Memref sig .tc .vmem S128x2048 .bf16) (harg15 : arg15.IsWhole) (x3 : Vec Ideal S128x128 .f32) (x6 x7 : Vec Ideal S1x128 .f32) (x12 : Vec Ideal S128x128 .bf16) (x13 : Vec Ideal S128x2048 .bf16) :
    kernelRun0_A.sl.r_21 (F := Ideal) c i arg5 harg5 arg8 harg8 arg9 harg9 arg14 harg14 arg15 harg15 x3 x6 x7 x12 x13 = k0_pay39 (F := Ideal) (k0_pay33 0#32 (k0_pay29 x3 x6) x7 x12) (k0_pay34 x13) (k0_pay36 0#32 (k0_pay29 x3 x6) x7 x12 x13) (k0_pay37 0#32 (k0_pay29 x3 x6) x7 x12) := by
  unfold kernelRun0_A.sl.r_21 kernelRun0_A.sl.r_17 kernelRun0_A.sl.r_18 kernelRun0_A.sl.r_19 kernelRun0_A.sl.r_20
  unfold kernelRun0_A.sl.r_14
  rw [ld2w arg5 harg5, ld2w arg8 harg8, ld2w arg9 harg9, ld2w arg14 harg14, ld2w arg15 harg15]
  rw [← chunk i]

set_option maxHeartbeats 2000000 in
/-- The second table of factors of the run, from the windows. -/
theorem run_22 (c : Dev nD) (i : grid0.Coords) (arg5 : Memref sig .tc .vmem S128x128 .f32) (harg5 : arg5.IsWhole) (arg8 : Memref sig .tc .vmem S1x128 .f32) (harg8 : arg8.IsWhole) (arg9 : Memref sig .tc .vmem S1x128 .f32) (harg9 : arg9.IsWhole) (arg14 : Memref sig .tc .vmem S128x128 .bf16) (harg14 : arg14.IsWhole) (arg15 : Memref sig .tc .vmem S128x2048 .bf16) (harg15 : arg15.IsWhole) (x3 : Vec Ideal S128x128 .f32) (x6 x7 : Vec Ideal S1x128 .f32) (x12 : Vec Ideal S128x128 .bf16) (x13 : Vec Ideal S128x2048 .bf16) :
    kernelRun0_A.sl.r_22 (F := Ideal) c i arg5 harg5 arg8 harg8 arg9 harg9 arg14 harg14 arg15 harg15 x3 x6 x7 x12 x13 = k0_pay40 (F := Ideal) (k0_pay33 0#32 (k0_pay29 x3 x6) x7 x12) (k0_pay34 x13) (k0_pay36 0#32 (k0_pay29 x3 x6) x7 x12 x13) (k0_pay37 0#32 (k0_pay29 x3 x6) x7 x12) := by
  unfold kernelRun0_A.sl.r_22 kernelRun0_A.sl.r_17 kernelRun0_A.sl.r_18 kernelRun0_A.sl.r_19 kernelRun0_A.sl.r_20
  unfold kernelRun0_A.sl.r_14
  rw [ld2w arg5 harg5, ld2w arg8 harg8, ld2w arg9 harg9, ld2w arg14 harg14, ld2w arg15 harg15]
  rw [← chunk i]

set_option maxHeartbeats 2000000 in
/-- The block left in the state window. -/
theorem left15 (c : Dev nD) (i : grid0.Coords) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x128 .f32) (harg5 : arg5.IsWhole) (arg6 : Memref sig .tc .vmem S4x4096 .f32) (harg6 : arg6.IsWhole) (arg7 : Memref sig .tc .vmem S1x4096 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S1x8x4096 .f32) (harg12 : arg12.IsWhole) (arg13 : Memref sig .tc .vmem S1x2048x128 .f32) (harg13 : arg13.IsWhole) (arg14 : Memref sig .tc .vmem S128x128 .bf16) (harg14 : arg14.IsWhole) (arg15 : Memref sig .tc .vmem S128x2048 .bf16) (harg15 : arg15.IsWhole) (arg16 : Memref sig .tc .vmem S128x2048 .bf16) (harg16 : arg16.IsWhole) (arg17 : Memref sig .tc .vmem S1x2048x128 .f32) (harg17 : arg17.IsWhole) (arg18 : Memref sig .tc .vmem S136x4096 .f32) (harg18 : arg18.IsWhole) (arg19 : Memref sig .tc .vmem S128x2048 .f32) (harg19 : arg19.IsWhole) (arg20 : Memref sig .tc .vmem S128x2048 .f32) (harg20 : arg20.IsWhole) (arg21 : Memref sig .tc .vmem S128x1024 .f32) (harg21 : arg21.IsWhole) (arg22 : Memref sig .tc .vmem S128x1024 .f32) (harg22 : arg22.IsWhole) (hc0 : cond0_0 i) (hc1 : ¬cond0_1 i) (hc2 : cond0_2 i)
    (x0 x1 x2 : Vec Ideal S128x2048 .f32) (x3 : Vec Ideal S128x128 .f32) (x4 : Vec Ideal S4x4096 .f32) (x5 : Vec Ideal S1x4096 .f32) (x6 x7 : Vec Ideal S1x128 .f32) (x8 x9 : Vec Ideal S1x2048 .f32) (x10 : Vec Ideal S1x8x4096 .f32) (x11 : Vec Ideal S1x2048x128 .f32) (x12 : Vec Ideal S128x128 .bf16) (x13 : Vec Ideal S128x2048 .bf16) (n : Fin 128) (j : Fin 2048) :
    out0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 (ix3 0 j n) = stv x1 x2 x4 x5 x10 x11 (kernelRun0_A.sl.r_21 (F := Ideal) c i arg5 harg5 arg8 harg8 arg9 harg9 arg14 harg14 arg15 harg15 x3 x6 x7 x12 x13) (kernelRun0_A.sl.r_22 (F := Ideal) c i arg5 harg5 arg8 harg8 arg9 harg9 arg14 harg14 arg15 harg15 x3 x6 x7 x12 x13) n j := by
  have hp : View.PiecesOf (k0_pay2 (F := Ideal) (kernelRun0_A.sl.v1309 (F := Ideal) c i arg3 harg3 arg4 harg4 arg5 harg5 arg6 harg6 arg7 harg7 arg8 harg8 arg9 harg9 arg12 harg12 arg13 harg13 arg14 harg14 arg15 harg15 arg18 arg19 arg20 arg21 x1 x2 x3 x4 x5 x6 x7 x10 x11 x12 x13)) (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13).2.1 := by
    dsimp only [kernelRun0_A]
    refine ⟨fun x => congrArg (k0_pay2 (F := Ideal) (kernelRun0_A.sl.v1309 (F := Ideal) c i arg3 harg3 arg4 harg4 arg5 harg5 arg6 harg6 arg7 harg7 arg8 harg8 arg9 harg9 arg12 harg12 arg13 harg13 arg14 harg14 arg15 harg15 arg18 arg19 arg20 arg21 x1 x2 x3 x4 x5 x6 x7 x10 x11 x12 x13)) ?_, trivial⟩
    funext a
    refine Fin.ext ?_
    match a with
    | ⟨0, _⟩ => exact ((Nat.zero_add _).trans (Nat.one_mul _)).symm
    | ⟨1, _⟩ => exact ((Nat.zero_add _).trans (Nat.one_mul _)).symm
    | ⟨2, _⟩ => exact ((Nat.zero_add _).trans (Nat.one_mul _)).symm
  have h := View.canon_append_of_piecesOf _ [] _ hp (ix3 0 j n) (cover0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 (ix3 0 j n))
  rw [List.append_nil] at h
  rw [out0_A_15, View.read_writes_junk_eq_canon]
  exact h.trans (sout_at c i arg3 harg3 arg4 harg4 arg5 harg5 arg6 harg6 arg7 harg7 arg8 harg8 arg9 harg9 arg12 harg12 arg13 harg13 arg14 harg14 arg15 harg15 arg18 arg19 arg20 arg21 x1 x2 x3 x4 x5 x6 x7 x10 x11 x12 x13 _ rfl n j)

end Cert.SsdStateIdeal.Body

end
-- ==== Proof.SsdState.lean ====
/- The recurrence of the mixer: the state the kernel leaves for each sample is the reference's. -/
module

public import proofs.«01_k».proof.Proof.SsdStateIn
public import proofs.«01_k».proof.Proof.SsdStateLeft
public import proofs.«01_k».proof.Proof.Gen.SsdStateRefIdeal.Run
public import proofs.«01_k».proof.Defs
public import Idealize.ShloMosaic.Lib.Pipeline.ValueKit
public import Idealize.ShloMosaic.Lib.Pointwise
public import Idealize.ShloMosaic.Lib.Claim
public import Idealize.ShloMosaic.Lib.KernelVsHost

@[expose] public section

set_option maxRecDepth 16384

noncomputable section

open Idealize.ShloMosaic Idealize.ShloMosaic.TcCoe Idealize.SL.Sem

namespace Cert.SsdStateIdeal.Blocks

open Cert.SsdStateIdeal Cert.SsdStateIdeal.Gen Cert.SsdStateIdeal.Body

variable (m : (ℓ : Loc nD τ sig) → Buf (Elt Ideal) ℓ)

/-- The reference's state for a program's arguments. -/
def state (c : Dev nD) : FVec Ideal S32x32x64x128 .f32 :=
  Cert.SsdStateRefIdeal.Read.refO (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

set_option maxHeartbeats 2000000 in
/-- What the state window holds after a grid point: the state of its sample. -/
theorem block (hpre : Cert.Pre_SsdStateIdeal m) (c : Dev nD) (t : Fin cfg0.N) (n : Fin 128) (j : Fin 2048) :
    (outsAt0 m c t).2 (ix3 0 j n) = state m c (ix4 (⟨t.val, t.isLt⟩ : Fin 32) (⟨j.val / 64, by omega⟩ : Fin 32) (⟨j.val % 64, by omega⟩ : Fin 64) n) := by
  obtain ⟨f0, f5⟩ := Cert.StepsFinite.reals _ _ _ _ _ _ _ _ _ (hpre c)
  dsimp only [outsAt0]
  refine (left15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) (hcond0_0 t) (hcond0_1 t) (hcond0_2 t)
    (X0_0 m c t) (X0_1 m c t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) n j).trans ?_
  exact Cert.SsdStateIdeal.Same.stv_eq (X0_1 m c t) (X0_2 m c t) (iblk m c 3 t) (iblk m c 4 t) (iblk m c 5 t) (iblk m c 6 t) (iblk m c 7 t) (iblk m c 10 t) (iblk m c 11 t) (iblk m c 12 t) (iblk m c 13 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (⟨t.val, t.isLt⟩ : Fin 32)
    (fun l h => f0 _ h) f5 (fun l k => read_1 m c t (⟨t.val, t.isLt⟩ : Fin 32) rfl l k) (fun l k => read_2 m c t (⟨t.val, t.isLt⟩ : Fin 32) rfl l k) (fun l k => read_3 m c t (⟨t.val, t.isLt⟩ : Fin 32) rfl l k)
    (fun k j => read_4 m c t k j) (fun j => read_5 m c t j) (fun k => read_6 m c t k) (fun k => read_7 m c t k)
    (fun r j => read_10 m c t (⟨t.val, t.isLt⟩ : Fin 32) rfl r j) (fun j n => read_11 m c t (⟨t.val, t.isLt⟩ : Fin 32) rfl j n) (fun l i => read_12 m c t l i) (fun k j => read_13 m c t k j)
    _ _ (run_21 c (grid0.coords t) (ms0_3 t) (hs0_3 t) (ms0_6 t) (hs0_6 t) (ms0_7 t) (hs0_7 t) (ms0_12 t) (hs0_12 t) (ms0_13 t) (hs0_13 t) (iblk m c 3 t) (iblk m c 6 t) (iblk m c 7 t) (iblk m c 12 t) (iblk m c 13 t))
    (run_22 c (grid0.coords t) (ms0_3 t) (hs0_3 t) (ms0_6 t) (hs0_6 t) (ms0_7 t) (hs0_7 t) (ms0_12 t) (hs0_12 t) (ms0_13 t) (hs0_13 t) (iblk m c 3 t) (iblk m c 6 t) (iblk m c 7 t) (iblk m c 12 t) (iblk m c 13 t)) n j

/-- The state array as the region leaves it: the reference's, its head axes joined. -/
theorem final (hpre : Cert.Pre_SsdStateIdeal m) (c : Dev nD) : (dats m 0 c).arrAt 15 (cfgs 0).N = shapeCast S32x2048x128 (state m c) shapeCasts_S32x32x64x128_S32x2048x128 := by
  refine (dats m 0 c).arrAt_eq_of_covers 15 _ (by decide +kernel) fun t _ (y : S1x2048x128.Idx) => ?_
  have e0 : (((((cfg0.win 15).blk t).view.emb y : S32x2048x128.Idx)) (0 : Fin 3)).val = t.val + (y (0 : Fin 3)).val := by blk_simp [idx_15 t]
  have e1 : (((((cfg0.win 15).blk t).view.emb y : S32x2048x128.Idx)) (1 : Fin 3)).val = (y (1 : Fin 3)).val := by blk_simp [idx_15 t]
  have e2 : (((((cfg0.win 15).blk t).view.emb y : S32x2048x128.Idx)) (2 : Fin 3)).val = (y (2 : Fin 3)).val := by blk_simp [idx_15 t]
  have y0 : (y (0 : Fin 3)).val < 1 := (y (0 : Fin 3)).isLt
  have ey : y = ix3 (0 : Fin 1) (y (1 : Fin 3)) (y (2 : Fin 3)) := by
    funext a
    match a with
    | ⟨0, _⟩ => exact Fin.ext (show (y (0 : Fin 3)).val = 0 by omega)
    | ⟨1, _⟩ => rfl
    | ⟨2, _⟩ => rfl
  show (dats m 0 c).after 15 t y = _
  rw [after0_15]
  refine (congrArg (outsAt0 m c t).2 ey).trans ((block m hpre c t (y (2 : Fin 3)) (y (1 : Fin 3))).trans ?_)
  exact (joined_at (state m c) (⟨t.val, t.isLt⟩ : Fin 32) (y (1 : Fin 3)) (y (2 : Fin 3)) (((cfg0.win 15).blk t).view.emb y) (by rw [e0]; show t.val + (y (0 : Fin 3)).val = t.val; omega) e1 e2).symm

/-- The state array as the lines after the region find it: no other window lies on it. -/
theorem exit_v25 (hpre : Cert.Pre_SsdStateIdeal m) (c : Dev nD) :
    Pipeline.withArrays (cfgs 0).spec c (V0 m c) (fun w => (dats m 0 c).arrAt w (cfgs 0).N) (Proc.devRef .tc main_v25_1)
      = shapeCast S32x2048x128 (state m c) shapeCasts_S32x32x64x128_S32x2048x128 := by
  refine Eq.trans ?_ (final m hpre c)
  unfold Pipeline.withArrays
  have h : ∃ w', Proc.devRef .tc (Pipeline.arrRef (cfgs 0).spec w') = Proc.devRef (τ := τ) .tc main_v25_1 := ⟨15, rfl⟩
  rw [dif_pos h]
  suffices ∀ (w' : Fin (cfgs 0).W) (e : Proc.devRef .tc (Pipeline.arrRef (cfgs 0).spec w') = Proc.devRef (τ := τ) .tc main_v25_1),
      cast (congrArg (fun b' : DevRef τ sig => b'.ty.Contents (Elt Ideal)) e) ((dats m 0 c).arrAt w' (cfgs 0).N) = (dats m 0 c).arrAt 15 (cfgs 0).N from this _ h.choose_spec
  intro w' e
  have e' : Pipeline.arrRef (cfgs 0).spec w' = main_v25_1 := Proc.devRef_injective _ e
  obtain rfl : w' = 15 := (by decide : ∀ w : Fin (cfgs 0).W, Pipeline.arrRef (cfgs 0).spec w = main_v25_1 → w = 15) w' e'
  rfl

/-- Joining two axes and splitting them again changes nothing. -/
theorem split_join (v : FVec Ideal S32x32x64x128 .f32) :
    shapeCast S32x32x64x128 (shapeCast S32x2048x128 v shapeCasts_S32x32x64x128_S32x2048x128 : FVec Ideal S32x2048x128 .f32) shapeCasts_S32x2048x128_S32x32x64x128 = v := by
  funext y
  have h (u : FVec Ideal S32x2048x128 .f32) : shapeCast S32x32x64x128 u shapeCasts_S32x2048x128_S32x32x64x128 y
      = u (ix3 (y 0) (⟨(y 1).val * 64 + (y 2).val, by have h1 : (y 1).val < 32 := (y 1).isLt; have h2 : (y 2).val < 64 := (y 2).isLt; omega⟩ : Fin 2048) (y 3)) := by
    pointwise
  have h1 : (y 1).val < 32 := (y 1).isLt
  have h2 : (y 2).val < 64 := (y 2).isLt
  refine (h _).trans ((joined_at v (y 0) ⟨(y 1).val * 64 + (y 2).val, by omega⟩ (y 3) _ rfl rfl rfl).trans (congrArg v ?_))
  funext a
  match a with
  | ⟨0, _⟩ => rfl
  | ⟨1, _⟩ => exact Fin.ext (show ((y 1).val * 64 + (y 2).val) / 64 = (y 1).val by omega)
  | ⟨2, _⟩ => exact Fin.ext (show ((y 1).val * 64 + (y 2).val) % 64 = (y 2).val by omega)
  | ⟨3, _⟩ => rfl

/-- The state as the program ends. -/
theorem tail (hpre : Cert.Pre_SsdStateIdeal m) (c : Dev nD) : Pipeline.afterTail₀ cfgs (dats m) 0 (V0 m) [hostOps1] c main_v26 = state m c := by
  have e : Pipeline.afterTail₀ cfgs (dats m) 0 (V0 m) [hostOps1] c main_v26
      = shapeCast S32x32x64x128 (shapeCast S32x2048x128 (state m c) shapeCasts_S32x32x64x128_S32x2048x128 : FVec Ideal S32x2048x128 .f32) shapeCasts_S32x2048x128_S32x32x64x128 := by
    unfold Pipeline.afterTail₀
    simp only [hostOps1, List.flatten_cons, List.flatten_nil, List.append_nil]
    after_results
    rw [exit_v25 m hpre]
    rfl
  exact e.trans (split_join _)

end Cert.SsdStateIdeal.Blocks

namespace Cert.Claims

/-- The mixer's recurrence: the state after a sample's four steps is the reference's, when the steps and their biases are
    finite. -/
theorem ssdState : Cert.algebraic_SsdStateIdeal_SsdStateRefIdeal := by
  intro m g m' g' hpre hagree
  refine ⟨fun c => Cert.SsdStateIdeal.Blocks.state m c, ?_, ?_⟩
  · refine (θ_run _ _ _).mono (fun r h c => ?_) (θ_run_and (Cert.SsdStateIdeal.Gen.run_main m g) (Cert.SsdStateIdeal.Gen.unchanged m g))
    exact ⟨((h.1 c).2 Cert.SsdStateIdeal.main_v26 (by decide)).trans (Cert.SsdStateIdeal.Blocks.tail m hpre c), h.2 c⟩
  · refine (θ_run _ _ _).mono (fun r h c => ?_) (Cert.SsdStateRefIdeal.Value.run (F := Ideal) m' g')
    obtain ⟨h0, h1, h2, h3, h4, h5, h6, -, -⟩ := hagree c
    refine ⟨(h c).1.trans ((Cert.SsdStateRefIdeal.Read.run_eq m' c).trans ?_), (h c).2⟩
    rw [h0, h1, h2, h3, h4, h5, h6]
    rfl

end Cert.Claims

end
-- ==== Proof.lean ====
/- The claims about every call taken: frames, the exact programs, and the values. -/
module

public import proofs.«01_k».proof.Defs
public import proofs.«01_k».proof.Proof.Gen.CmpProject
public import proofs.«01_k».proof.Proof.Gen.CmpProject.Skeleton
public import proofs.«01_k».proof.Proof.Gen.CmpProject.Launch
public import proofs.«01_k».proof.Proof.Gen.CmpProject.Points
public import proofs.«01_k».proof.Proof.Gen.CmpProject.Frame
public import proofs.«01_k».proof.Proof.Gen.CmpProjectIdeal
public import proofs.«01_k».proof.Proof.Gen.CmpProjectIdeal.Skeleton
public import proofs.«01_k».proof.Proof.Gen.CmpProjectIdeal.Launch
public import proofs.«01_k».proof.Proof.Gen.CmpProjectIdeal.Points
public import proofs.«01_k».proof.Proof.Gen.CmpProjectIdeal.Frame
public import proofs.«01_k».proof.Proof.Gen.CmpProjectRefIdeal
public import proofs.«01_k».proof.Proof.Gen.CmpProjectRefIdeal.Run
public import proofs.«01_k».proof.Proof.Gen.MlpUp
public import proofs.«01_k».proof.Proof.Gen.MlpUp.Skeleton
public import proofs.«01_k».proof.Proof.Gen.MlpUp.Launch
public import proofs.«01_k».proof.Proof.Gen.MlpUp.Points
public import proofs.«01_k».proof.Proof.Gen.MlpUp.Frame
public import proofs.«01_k».proof.Proof.Gen.MlpUpIdeal
public import proofs.«01_k».proof.Proof.Gen.MlpUpIdeal.Skeleton
public import proofs.«01_k».proof.Proof.Gen.MlpUpIdeal.Launch
public import proofs.«01_k».proof.Proof.Gen.MlpUpIdeal.Points
public import proofs.«01_k».proof.Proof.Gen.MlpUpIdeal.Frame
public import proofs.«01_k».proof.Proof.Gen.MlpUpRefIdeal
public import proofs.«01_k».proof.Proof.Gen.MlpUpRefIdeal.Run
public import proofs.«01_k».proof.Proof.Gen.MlpDown
public import proofs.«01_k».proof.Proof.Gen.MlpDown.Skeleton
public import proofs.«01_k».proof.Proof.Gen.MlpDown.Launch
public import proofs.«01_k».proof.Proof.Gen.MlpDown.Points
public import proofs.«01_k».proof.Proof.Gen.MlpDown.Frame
public import proofs.«01_k».proof.Proof.Gen.MlpDownIdeal
public import proofs.«01_k».proof.Proof.Gen.MlpDownIdeal.Skeleton
public import proofs.«01_k».proof.Proof.Gen.MlpDownIdeal.Launch
public import proofs.«01_k».proof.Proof.Gen.MlpDownIdeal.Points
public import proofs.«01_k».proof.Proof.Gen.MlpDownIdeal.Frame
public import proofs.«01_k».proof.Proof.Gen.MlpDownRefIdeal
public import proofs.«01_k».proof.Proof.Gen.MlpDownRefIdeal.Run
public import proofs.«01_k».proof.Proof.Gen.MlpDownFin
public import proofs.«01_k».proof.Proof.Gen.MlpDownFin.Skeleton
public import proofs.«01_k».proof.Proof.Gen.MlpDownFin.Launch
public import proofs.«01_k».proof.Proof.Gen.MlpDownFin.Points
public import proofs.«01_k».proof.Proof.Gen.MlpDownFin.Frame
public import proofs.«01_k».proof.Proof.Gen.MlpDownFinIdeal
public import proofs.«01_k».proof.Proof.Gen.MlpDownFinIdeal.Skeleton
public import proofs.«01_k».proof.Proof.Gen.MlpDownFinIdeal.Launch
public import proofs.«01_k».proof.Proof.Gen.MlpDownFinIdeal.Points
public import proofs.«01_k».proof.Proof.Gen.MlpDownFinIdeal.Frame
public import proofs.«01_k».proof.Proof.Gen.MlpDownFinRefIdeal
public import proofs.«01_k».proof.Proof.Gen.MlpDownFinRefIdeal.Run
public import proofs.«01_k».proof.Proof.Gen.MlpDownFinS
public import proofs.«01_k».proof.Proof.Gen.MlpDownFinS.Skeleton
public import proofs.«01_k».proof.Proof.Gen.MlpDownFinS.Launch
public import proofs.«01_k».proof.Proof.Gen.MlpDownFinS.Points
public import proofs.«01_k».proof.Proof.Gen.MlpDownFinS.Frame
public import proofs.«01_k».proof.Proof.Gen.MlpDownFinSIdeal
public import proofs.«01_k».proof.Proof.Gen.MlpDownFinSIdeal.Skeleton
public import proofs.«01_k».proof.Proof.Gen.MlpDownFinSIdeal.Launch
public import proofs.«01_k».proof.Proof.Gen.MlpDownFinSIdeal.Points
public import proofs.«01_k».proof.Proof.Gen.MlpDownFinSIdeal.Frame
public import proofs.«01_k».proof.Proof.Gen.MlpDownFinSRefIdeal
public import proofs.«01_k».proof.Proof.Gen.MlpDownFinSRefIdeal.Run
public import proofs.«01_k».proof.Proof.Gen.SsmIn
public import proofs.«01_k».proof.Proof.Gen.SsmIn.Skeleton
public import proofs.«01_k».proof.Proof.Gen.SsmIn.Launch
public import proofs.«01_k».proof.Proof.Gen.SsmIn.Points
public import proofs.«01_k».proof.Proof.Gen.SsmIn.Frame
public import proofs.«01_k».proof.Proof.Gen.SsmInIdeal
public import proofs.«01_k».proof.Proof.Gen.SsmInIdeal.Skeleton
public import proofs.«01_k».proof.Proof.Gen.SsmInIdeal.Launch
public import proofs.«01_k».proof.Proof.Gen.SsmInIdeal.Points
public import proofs.«01_k».proof.Proof.Gen.SsmInIdeal.Frame
public import proofs.«01_k».proof.Proof.Gen.SsmInRefIdeal
public import proofs.«01_k».proof.Proof.Gen.SsmInRefIdeal.Run
public import proofs.«01_k».proof.Proof.Gen.SsmInS
public import proofs.«01_k».proof.Proof.Gen.SsmInS.Skeleton
public import proofs.«01_k».proof.Proof.Gen.SsmInS.Launch
public import proofs.«01_k».proof.Proof.Gen.SsmInS.Points
public import proofs.«01_k».proof.Proof.Gen.SsmInS.Frame
public import proofs.«01_k».proof.Proof.Gen.SsmInSIdeal
public import proofs.«01_k».proof.Proof.Gen.SsmInSIdeal.Skeleton
public import proofs.«01_k».proof.Proof.Gen.SsmInSIdeal.Launch
public import proofs.«01_k».proof.Proof.Gen.SsmInSIdeal.Points
public import proofs.«01_k».proof.Proof.Gen.SsmInSIdeal.Frame
public import proofs.«01_k».proof.Proof.Gen.SsmInSRefIdeal
public import proofs.«01_k».proof.Proof.Gen.SsmInSRefIdeal.Run
public import proofs.«01_k».proof.Proof.Gen.SsmOut
public import proofs.«01_k».proof.Proof.Gen.SsmOut.Skeleton
public import proofs.«01_k».proof.Proof.Gen.SsmOut.Launch
public import proofs.«01_k».proof.Proof.Gen.SsmOut.Points
public import proofs.«01_k».proof.Proof.Gen.SsmOut.Frame
public import proofs.«01_k».proof.Proof.Gen.SsmOutIdeal
public import proofs.«01_k».proof.Proof.Gen.SsmOutIdeal.Skeleton
public import proofs.«01_k».proof.Proof.Gen.SsmOutIdeal.Launch
public import proofs.«01_k».proof.Proof.Gen.SsmOutIdeal.Points
public import proofs.«01_k».proof.Proof.Gen.SsmOutIdeal.Frame
public import proofs.«01_k».proof.Proof.Gen.SsmOutRefIdeal
public import proofs.«01_k».proof.Proof.Gen.SsmOutRefIdeal.Run
public import proofs.«01_k».proof.Proof.Gen.AttIn
public import proofs.«01_k».proof.Proof.Gen.AttIn.Skeleton
public import proofs.«01_k».proof.Proof.Gen.AttIn.Launch
public import proofs.«01_k».proof.Proof.Gen.AttIn.Points
public import proofs.«01_k».proof.Proof.Gen.AttIn.Frame
public import proofs.«01_k».proof.Proof.Gen.AttInIdeal
public import proofs.«01_k».proof.Proof.Gen.AttInIdeal.Skeleton
public import proofs.«01_k».proof.Proof.Gen.AttInIdeal.Launch
public import proofs.«01_k».proof.Proof.Gen.AttInIdeal.Points
public import proofs.«01_k».proof.Proof.Gen.AttInIdeal.Frame
public import proofs.«01_k».proof.Proof.Gen.AttInRefIdeal
public import proofs.«01_k».proof.Proof.Gen.AttInRefIdeal.Run
public import proofs.«01_k».proof.Proof.Gen.AttInS
public import proofs.«01_k».proof.Proof.Gen.AttInS.Skeleton
public import proofs.«01_k».proof.Proof.Gen.AttInS.Launch
public import proofs.«01_k».proof.Proof.Gen.AttInS.Points
public import proofs.«01_k».proof.Proof.Gen.AttInS.Frame
public import proofs.«01_k».proof.Proof.Gen.AttInSIdeal
public import proofs.«01_k».proof.Proof.Gen.AttInSIdeal.Skeleton
public import proofs.«01_k».proof.Proof.Gen.AttInSIdeal.Launch
public import proofs.«01_k».proof.Proof.Gen.AttInSIdeal.Points
public import proofs.«01_k».proof.Proof.Gen.AttInSIdeal.Frame
public import proofs.«01_k».proof.Proof.Gen.AttInSRefIdeal
public import proofs.«01_k».proof.Proof.Gen.AttInSRefIdeal.Run
public import proofs.«01_k».proof.Proof.Gen.AttOut
public import proofs.«01_k».proof.Proof.Gen.AttOut.Skeleton
public import proofs.«01_k».proof.Proof.Gen.AttOut.Launch
public import proofs.«01_k».proof.Proof.Gen.AttOut.Points
public import proofs.«01_k».proof.Proof.Gen.AttOut.Frame
public import proofs.«01_k».proof.Proof.Gen.AttOutIdeal
public import proofs.«01_k».proof.Proof.Gen.AttOutIdeal.Skeleton
public import proofs.«01_k».proof.Proof.Gen.AttOutIdeal.Launch
public import proofs.«01_k».proof.Proof.Gen.AttOutIdeal.Points
public import proofs.«01_k».proof.Proof.Gen.AttOutIdeal.Frame
public import proofs.«01_k».proof.Proof.Gen.AttOutRefIdeal
public import proofs.«01_k».proof.Proof.Gen.AttOutRefIdeal.Run
public import proofs.«01_k».proof.Proof.Gen.KvS
public import proofs.«01_k».proof.Proof.Gen.KvS.Skeleton
public import proofs.«01_k».proof.Proof.Gen.KvS.Launch
public import proofs.«01_k».proof.Proof.Gen.KvS.Points
public import proofs.«01_k».proof.Proof.Gen.KvS.Frame
public import proofs.«01_k».proof.Proof.Gen.KvSIdeal
public import proofs.«01_k».proof.Proof.Gen.KvSIdeal.Skeleton
public import proofs.«01_k».proof.Proof.Gen.KvSIdeal.Launch
public import proofs.«01_k».proof.Proof.Gen.KvSIdeal.Points
public import proofs.«01_k».proof.Proof.Gen.KvSIdeal.Frame
public import proofs.«01_k».proof.Proof.Gen.KvSRefIdeal
public import proofs.«01_k».proof.Proof.Gen.KvSRefIdeal.Run
public import proofs.«01_k».proof.Proof.Gen.CmpFinish
public import proofs.«01_k».proof.Proof.Gen.CmpFinish.Skeleton
public import proofs.«01_k».proof.Proof.Gen.CmpFinish.Launch
public import proofs.«01_k».proof.Proof.Gen.CmpFinish.Points
public import proofs.«01_k».proof.Proof.Gen.CmpFinish.Frame
public import proofs.«01_k».proof.Proof.Gen.CmpFinishIdeal
public import proofs.«01_k».proof.Proof.Gen.CmpFinishIdeal.Skeleton
public import proofs.«01_k».proof.Proof.Gen.CmpFinishIdeal.Launch
public import proofs.«01_k».proof.Proof.Gen.CmpFinishIdeal.Points
public import proofs.«01_k».proof.Proof.Gen.CmpFinishIdeal.Frame
public import proofs.«01_k».proof.Proof.Gen.CmpFinishRefIdeal
public import proofs.«01_k».proof.Proof.Gen.CmpFinishRefIdeal.Run
public import proofs.«01_k».proof.Proof.Gen.SsdState
public import proofs.«01_k».proof.Proof.Gen.SsdState.Skeleton
public import proofs.«01_k».proof.Proof.Gen.SsdState.Launch
public import proofs.«01_k».proof.Proof.Gen.SsdState.Points
public import proofs.«01_k».proof.Proof.Gen.SsdState.Frame
public import proofs.«01_k».proof.Proof.Gen.SsdStateIdeal
public import proofs.«01_k».proof.Proof.Gen.SsdStateIdeal.Skeleton
public import proofs.«01_k».proof.Proof.Gen.SsdStateIdeal.Launch
public import proofs.«01_k».proof.Proof.Gen.SsdStateIdeal.Points
public import proofs.«01_k».proof.Proof.Gen.SsdStateIdeal.Frame
public import proofs.«01_k».proof.Proof.Gen.SsdStateRefIdeal
public import proofs.«01_k».proof.Proof.Gen.SsdStateRefIdeal.Run
public import proofs.«01_k».proof.Proof.Gen.Pre_pages_in_range
public import proofs.«01_k».proof.Proof.Gen.Pre_steps_finite
public import proofs.«01_k».proof.Proof.CmpProject
public import proofs.«01_k».proof.Proof.MlpUp
public import proofs.«01_k».proof.Proof.MlpDown
public import proofs.«01_k».proof.Proof.MlpDownFin
public import proofs.«01_k».proof.Proof.MlpDownFinS
public import proofs.«01_k».proof.Proof.SsmIn
public import proofs.«01_k».proof.Proof.SsmInS
public import proofs.«01_k».proof.Proof.SsmOut
public import proofs.«01_k».proof.Proof.AttIn
public import proofs.«01_k».proof.Proof.AttInS
public import proofs.«01_k».proof.Proof.AttOut
public import proofs.«01_k».proof.Proof.KvS
public import proofs.«01_k».proof.Proof.CmpFinish
public import proofs.«01_k».proof.Proof.SsdState
public import Idealize.ShloMosaic.Lib.Claim
public import Idealize.ShloMosaic.Adequacy
public import Idealize.ShloMosaic.Init

@[expose] public section

noncomputable section

namespace Cert.Proof

open Idealize.ShloMosaic Idealize.SL.Sem

/-- The reference of CmpProject runs, leaves its arguments as they were, and declares no semaphore. -/
theorem frame_CmpProjectRef : Cert.quiescent_CmpProjectRefIdeal (hCmpProjectRefIdeal := Cert.CmpProjectRefIdeal.Gen.facts) (hPre_pages_in_range := Cert.Pre_pages_in_range.Gen.facts) := fun m g _ =>
  (θ_run Cert.CmpProjectRefIdeal.defs _ _).mono (fun r h => ⟨fun c => (h c).2.2, sem_eq_zero_of_no_sems (by decide) r.2⟩)
    (Cert.CmpProjectRefIdeal.Value.run (F := Ideal) m g)

/-- The reference of MlpUp runs, leaves its arguments as they were, and declares no semaphore. -/
theorem frame_MlpUpRef : Cert.quiescent_MlpUpRefIdeal (hMlpUpRefIdeal := Cert.MlpUpRefIdeal.Gen.facts) := fun m g _ =>
  (θ_run Cert.MlpUpRefIdeal.defs _ _).mono (fun r h => ⟨fun c => (h c).2, sem_eq_zero_of_no_sems (by decide) r.2⟩)
    (Cert.MlpUpRefIdeal.Value.run (F := Ideal) m g)

/-- The reference of MlpDown runs, leaves its arguments as they were, and declares no semaphore. -/
theorem frame_MlpDownRef : Cert.quiescent_MlpDownRefIdeal (hMlpDownRefIdeal := Cert.MlpDownRefIdeal.Gen.facts) := fun m g _ =>
  (θ_run Cert.MlpDownRefIdeal.defs _ _).mono (fun r h => ⟨fun c => (h c).2, sem_eq_zero_of_no_sems (by decide) r.2⟩)
    (Cert.MlpDownRefIdeal.Value.run (F := Ideal) m g)

/-- The reference of MlpDownFin runs, leaves its arguments as they were, and declares no semaphore. -/
theorem frame_MlpDownFinRef : Cert.quiescent_MlpDownFinRefIdeal (hMlpDownFinRefIdeal := Cert.MlpDownFinRefIdeal.Gen.facts) := fun m g _ =>
  (θ_run Cert.MlpDownFinRefIdeal.defs _ _).mono (fun r h => ⟨fun c => (h c).2, sem_eq_zero_of_no_sems (by decide) r.2⟩)
    (Cert.MlpDownFinRefIdeal.Value.run (F := Ideal) m g)

/-- The reference of MlpDownFinS runs, leaves its arguments as they were, and declares no semaphore. -/
theorem frame_MlpDownFinSRef : Cert.quiescent_MlpDownFinSRefIdeal (hMlpDownFinSRefIdeal := Cert.MlpDownFinSRefIdeal.Gen.facts) := fun m g _ =>
  (θ_run Cert.MlpDownFinSRefIdeal.defs _ _).mono (fun r h => ⟨fun c => (h c).2, sem_eq_zero_of_no_sems (by decide) r.2⟩)
    (Cert.MlpDownFinSRefIdeal.Value.run (F := Ideal) m g)

/-- The reference of SsmIn runs, leaves its arguments as they were, and declares no semaphore. -/
theorem frame_SsmInRef : Cert.quiescent_SsmInRefIdeal (hSsmInRefIdeal := Cert.SsmInRefIdeal.Gen.facts) := fun m g _ =>
  (θ_run Cert.SsmInRefIdeal.defs _ _).mono (fun r h => ⟨fun c => (h c).2, sem_eq_zero_of_no_sems (by decide) r.2⟩)
    (Cert.SsmInRefIdeal.Value.run (F := Ideal) m g)

/-- The reference of SsmInS runs, leaves its arguments as they were, and declares no semaphore. -/
theorem frame_SsmInSRef : Cert.quiescent_SsmInSRefIdeal (hSsmInSRefIdeal := Cert.SsmInSRefIdeal.Gen.facts) := fun m g _ =>
  (θ_run Cert.SsmInSRefIdeal.defs _ _).mono (fun r h => ⟨fun c => (h c).2, sem_eq_zero_of_no_sems (by decide) r.2⟩)
    (Cert.SsmInSRefIdeal.Value.run (F := Ideal) m g)

/-- The reference of SsmOut runs, leaves its arguments as they were, and declares no semaphore. -/
theorem frame_SsmOutRef : Cert.quiescent_SsmOutRefIdeal (hSsmOutRefIdeal := Cert.SsmOutRefIdeal.Gen.facts) := fun m g _ =>
  (θ_run Cert.SsmOutRefIdeal.defs _ _).mono (fun r h => ⟨fun c => (h c).2, sem_eq_zero_of_no_sems (by decide) r.2⟩)
    (Cert.SsmOutRefIdeal.Value.run (F := Ideal) m g)

/-- The reference of AttIn runs, leaves its arguments as they were, and declares no semaphore. -/
theorem frame_AttInRef : Cert.quiescent_AttInRefIdeal (hAttInRefIdeal := Cert.AttInRefIdeal.Gen.facts) := fun m g _ =>
  (θ_run Cert.AttInRefIdeal.defs _ _).mono (fun r h => ⟨fun c => (h c).2, sem_eq_zero_of_no_sems (by decide) r.2⟩)
    (Cert.AttInRefIdeal.Value.run (F := Ideal) m g)

/-- The reference of AttInS runs, leaves its arguments as they were, and declares no semaphore. -/
theorem frame_AttInSRef : Cert.quiescent_AttInSRefIdeal (hAttInSRefIdeal := Cert.AttInSRefIdeal.Gen.facts) := fun m g _ =>
  (θ_run Cert.AttInSRefIdeal.defs _ _).mono (fun r h => ⟨fun c => (h c).2, sem_eq_zero_of_no_sems (by decide) r.2⟩)
    (Cert.AttInSRefIdeal.Value.run (F := Ideal) m g)

/-- The reference of AttOut runs, leaves its arguments as they were, and declares no semaphore. -/
theorem frame_AttOutRef : Cert.quiescent_AttOutRefIdeal (hAttOutRefIdeal := Cert.AttOutRefIdeal.Gen.facts) := fun m g _ =>
  (θ_run Cert.AttOutRefIdeal.defs _ _).mono (fun r h => ⟨fun c => (h c).2, sem_eq_zero_of_no_sems (by decide) r.2⟩)
    (Cert.AttOutRefIdeal.Value.run (F := Ideal) m g)

/-- The reference of KvS runs, leaves its arguments as they were, and declares no semaphore. -/
theorem frame_KvSRef : Cert.quiescent_KvSRefIdeal (hKvSRefIdeal := Cert.KvSRefIdeal.Gen.facts) := fun m g _ =>
  (θ_run Cert.KvSRefIdeal.defs _ _).mono (fun r h => ⟨fun c => (h c).2.2.2, sem_eq_zero_of_no_sems (by decide) r.2⟩)
    (Cert.KvSRefIdeal.Value.run (F := Ideal) m g)

/-- The reference of CmpFinish runs, leaves its arguments as they were, and declares no semaphore. -/
theorem frame_CmpFinishRef : Cert.quiescent_CmpFinishRefIdeal (hCmpFinishRefIdeal := Cert.CmpFinishRefIdeal.Gen.facts) := fun m g _ =>
  (θ_run Cert.CmpFinishRefIdeal.defs _ _).mono (fun r h => ⟨fun c => (h c).2, sem_eq_zero_of_no_sems (by decide) r.2⟩)
    (Cert.CmpFinishRefIdeal.Value.run (F := Ideal) m g)

/-- The reference of SsdState runs, leaves its arguments as they were, and declares no semaphore. -/
theorem frame_SsdStateRef : Cert.quiescent_SsdStateRefIdeal (hSsdStateRefIdeal := Cert.SsdStateRefIdeal.Gen.facts) (hPre_steps_finite := Cert.Pre_steps_finite.Gen.facts) := fun m g _ =>
  (θ_run Cert.SsdStateRefIdeal.defs _ _).mono (fun r h => ⟨fun c => (h c).2, sem_eq_zero_of_no_sems (by decide) r.2⟩)
    (Cert.SsdStateRefIdeal.Value.run (F := Ideal) m g)

/-- Every claim of the fourteen programs. -/
theorem claim : Cert.Claim :=
  ⟨Cert.CmpProject.Gen.facts, Cert.CmpProjectIdeal.Gen.facts, Cert.CmpProjectRefIdeal.Gen.facts,
   Cert.MlpUp.Gen.facts, Cert.MlpUpIdeal.Gen.facts, Cert.MlpUpRefIdeal.Gen.facts,
   Cert.MlpDown.Gen.facts, Cert.MlpDownIdeal.Gen.facts, Cert.MlpDownRefIdeal.Gen.facts,
   Cert.MlpDownFin.Gen.facts, Cert.MlpDownFinIdeal.Gen.facts, Cert.MlpDownFinRefIdeal.Gen.facts,
   Cert.MlpDownFinS.Gen.facts, Cert.MlpDownFinSIdeal.Gen.facts, Cert.MlpDownFinSRefIdeal.Gen.facts,
   Cert.SsmIn.Gen.facts, Cert.SsmInIdeal.Gen.facts, Cert.SsmInRefIdeal.Gen.facts,
   Cert.SsmInS.Gen.facts, Cert.SsmInSIdeal.Gen.facts, Cert.SsmInSRefIdeal.Gen.facts,
   Cert.SsmOut.Gen.facts, Cert.SsmOutIdeal.Gen.facts, Cert.SsmOutRefIdeal.Gen.facts,
   Cert.AttIn.Gen.facts, Cert.AttInIdeal.Gen.facts, Cert.AttInRefIdeal.Gen.facts,
   Cert.AttInS.Gen.facts, Cert.AttInSIdeal.Gen.facts, Cert.AttInSRefIdeal.Gen.facts,
   Cert.AttOut.Gen.facts, Cert.AttOutIdeal.Gen.facts, Cert.AttOutRefIdeal.Gen.facts,
   Cert.KvS.Gen.facts, Cert.KvSIdeal.Gen.facts, Cert.KvSRefIdeal.Gen.facts,
   Cert.CmpFinish.Gen.facts, Cert.CmpFinishIdeal.Gen.facts, Cert.CmpFinishRefIdeal.Gen.facts,
   Cert.SsdState.Gen.facts, Cert.SsdStateIdeal.Gen.facts, Cert.SsdStateRefIdeal.Gen.facts,
   Cert.Pre_pages_in_range.Gen.facts, Cert.Pre_steps_finite.Gen.facts,
   Cert.Claims.cmpProject_frame, Cert.Claims.cmpProjectIdeal_frame, frame_CmpProjectRef,
   fun m g _ => Cert.MlpUp.Gen.frame m g, fun m g _ => Cert.MlpUpIdeal.Gen.frame m g, frame_MlpUpRef,
   fun m g _ => Cert.MlpDown.Gen.frame m g, fun m g _ => Cert.MlpDownIdeal.Gen.frame m g, frame_MlpDownRef,
   fun m g _ => Cert.MlpDownFin.Gen.frame m g, fun m g _ => Cert.MlpDownFinIdeal.Gen.frame m g, frame_MlpDownFinRef,
   fun m g _ => Cert.MlpDownFinS.Gen.frame m g, fun m g _ => Cert.MlpDownFinSIdeal.Gen.frame m g, frame_MlpDownFinSRef,
   fun m g _ => Cert.SsmIn.Gen.frame m g, fun m g _ => Cert.SsmInIdeal.Gen.frame m g, frame_SsmInRef,
   fun m g _ => Cert.SsmInS.Gen.frame m g, fun m g _ => Cert.SsmInSIdeal.Gen.frame m g, frame_SsmInSRef,
   fun m g _ => Cert.SsmOut.Gen.frame m g, fun m g _ => Cert.SsmOutIdeal.Gen.frame m g, frame_SsmOutRef,
   fun m g _ => Cert.AttIn.Gen.frame m g, fun m g _ => Cert.AttInIdeal.Gen.frame m g, frame_AttInRef,
   fun m g _ => Cert.AttInS.Gen.frame m g, fun m g _ => Cert.AttInSIdeal.Gen.frame m g, frame_AttInSRef,
   fun m g _ => Cert.AttOut.Gen.frame m g, fun m g _ => Cert.AttOutIdeal.Gen.frame m g, frame_AttOutRef,
   fun m g _ => Cert.KvS.Gen.frame m g, fun m g _ => Cert.KvSIdeal.Gen.frame m g, frame_KvSRef,
   fun m g _ => Cert.CmpFinish.Gen.frame m g, fun m g _ => Cert.CmpFinishIdeal.Gen.frame m g, frame_CmpFinishRef,
   fun m g _ => Cert.SsdState.Gen.frame m g, fun m g _ => Cert.SsdStateIdeal.Gen.frame m g, frame_SsdStateRef,
   trivial, Cert.Claims.cmpProject,
   trivial, Cert.Claims.mlpUp,
   trivial, Cert.Claims.mlpDown,
   trivial, Cert.Claims.mlpDownFin,
   trivial, Cert.Claims.mlpDownFinS,
   trivial, Cert.Claims.ssmIn,
   trivial, Cert.Claims.ssmInS,
   trivial, Cert.Claims.ssmOut,
   trivial, Cert.Claims.attIn,
   trivial, Cert.Claims.attInS,
   trivial, Cert.Claims.attOut,
   trivial, Cert.Claims.kvS,
   trivial, Cert.Claims.cmpFinish,
   trivial, Cert.Claims.ssdState⟩

end Cert.Proof

end
